-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ConvQ (m : (ℓ : Loc Cert.ConvQ.nD Cert.ConvQ.τ Cert.ConvQ.sig) → Buf (Elt Bits) ℓ) : Prop :=
  True

def Pre_ConvQIdeal (m : (ℓ : Loc Cert.ConvQIdeal.nD Cert.ConvQIdeal.τ Cert.ConvQIdeal.sig) → Buf (Elt Ideal) ℓ) : Prop :=
  True

def Pre_ConvQRefIdeal (m : (ℓ : Loc Cert.ConvQRefIdeal.nD Cert.ConvQRefIdeal.τ Cert.ConvQRefIdeal.sig) → Buf (Elt Ideal) ℓ) : Prop :=
  True

def Pre_ConvK (m : (ℓ : Loc Cert.ConvK.nD Cert.ConvK.τ Cert.ConvK.sig) → Buf (Elt Bits) ℓ) : Prop :=
  True

def Pre_ConvKIdeal (m : (ℓ : Loc Cert.ConvKIdeal.nD Cert.ConvKIdeal.τ Cert.ConvKIdeal.sig) → Buf (Elt Ideal) ℓ) : Prop :=
  True

def Pre_ConvKRefIdeal (m : (ℓ : Loc Cert.ConvKRefIdeal.nD Cert.ConvKRefIdeal.τ Cert.ConvKRefIdeal.sig) → Buf (Elt Ideal) ℓ) : Prop :=
  True

def Pre_ConvV (m : (ℓ : Loc Cert.ConvV.nD Cert.ConvV.τ Cert.ConvV.sig) → Buf (Elt Bits) ℓ) : Prop :=
  True

def Pre_ConvVIdeal (m : (ℓ : Loc Cert.ConvVIdeal.nD Cert.ConvVIdeal.τ Cert.ConvVIdeal.sig) → Buf (Elt Ideal) ℓ) : Prop :=
  True

def Pre_ConvVRefIdeal (m : (ℓ : Loc Cert.ConvVRefIdeal.nD Cert.ConvVRefIdeal.τ Cert.ConvVRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_ConvFwdQ (m : (ℓ : Loc Cert.ConvFwdQ.nD Cert.ConvFwdQ.τ Cert.ConvFwdQ.sig) → Buf (Elt Bits) ℓ) : Prop :=
  True

def Pre_ConvFwdQIdeal (m : (ℓ : Loc Cert.ConvFwdQIdeal.nD Cert.ConvFwdQIdeal.τ Cert.ConvFwdQIdeal.sig) → Buf (Elt Ideal) ℓ) : Prop :=
  True

def Pre_ConvFwdQRefIdeal (m : (ℓ : Loc Cert.ConvFwdQRefIdeal.nD Cert.ConvFwdQRefIdeal.τ Cert.ConvFwdQRefIdeal.sig) → Buf (Elt Ideal) ℓ) : Prop :=
  True

def Pre_ConvFwdK (m : (ℓ : Loc Cert.ConvFwdK.nD Cert.ConvFwdK.τ Cert.ConvFwdK.sig) → Buf (Elt Bits) ℓ) : Prop :=
  True

def Pre_ConvFwdKIdeal (m : (ℓ : Loc Cert.ConvFwdKIdeal.nD Cert.ConvFwdKIdeal.τ Cert.ConvFwdKIdeal.sig) → Buf (Elt Ideal) ℓ) : Prop :=
  True

def Pre_ConvFwdKRefIdeal (m : (ℓ : Loc Cert.ConvFwdKRefIdeal.nD Cert.ConvFwdKRefIdeal.τ Cert.ConvFwdKRefIdeal.sig) → Buf (Elt Ideal) ℓ) : Prop :=
  True

def Pre_ConvFwdV (m : (ℓ : Loc Cert.ConvFwdV.nD Cert.ConvFwdV.τ Cert.ConvFwdV.sig) → Buf (Elt Bits) ℓ) : Prop :=
  True

def Pre_ConvFwdVIdeal (m : (ℓ : Loc Cert.ConvFwdVIdeal.nD Cert.ConvFwdVIdeal.τ Cert.ConvFwdVIdeal.sig) → Buf (Elt Ideal) ℓ) : Prop :=
  True

def Pre_ConvFwdVRefIdeal (m : (ℓ : Loc Cert.ConvFwdVRefIdeal.nD Cert.ConvFwdVRefIdeal.τ Cert.ConvFwdVRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_AddNorm (m : (ℓ : Loc Cert.AddNorm.nD Cert.AddNorm.τ Cert.AddNorm.sig) → Buf (Elt Bits) ℓ) : Prop :=
  True

def Pre_AddNormIdeal (m : (ℓ : Loc Cert.AddNormIdeal.nD Cert.AddNormIdeal.τ Cert.AddNormIdeal.sig) → Buf (Elt Ideal) ℓ) : Prop :=
  True

def Pre_AddNormRefIdeal (m : (ℓ : Loc Cert.AddNormRefIdeal.nD Cert.AddNormRefIdeal.τ Cert.AddNormRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def Pre_FinalSum (m : (ℓ : Loc Cert.FinalSum.nD Cert.FinalSum.τ Cert.FinalSum.sig) → Buf (Elt Bits) ℓ) : Prop :=
  True

def Pre_FinalSumIdeal (m : (ℓ : Loc Cert.FinalSumIdeal.nD Cert.FinalSumIdeal.τ Cert.FinalSumIdeal.sig) → Buf (Elt Ideal) ℓ) : Prop :=
  True

def Pre_FinalSumRefIdeal (m : (ℓ : Loc Cert.FinalSumRefIdeal.nD Cert.FinalSumRefIdeal.τ Cert.FinalSumRefIdeal.sig) → Buf (Elt Ideal) ℓ) : Prop :=
  True

def Pre_MlpDownDw (m : (ℓ : Loc Cert.MlpDownDw.nD Cert.MlpDownDw.τ Cert.MlpDownDw.sig) → Buf (Elt Bits) ℓ) : Prop :=
  True

def Pre_MlpDownDwIdeal (m : (ℓ : Loc Cert.MlpDownDwIdeal.nD Cert.MlpDownDwIdeal.τ Cert.MlpDownDwIdeal.sig) → Buf (Elt Ideal) ℓ) : Prop :=
  True

def Pre_MlpDownDwRefIdeal (m : (ℓ : Loc Cert.MlpDownDwRefIdeal.nD Cert.MlpDownDwRefIdeal.τ Cert.MlpDownDwRefIdeal.sig) → Buf (Elt Ideal) ℓ) : Prop :=
  True

def Pre_ProjOutDw (m : (ℓ : Loc Cert.ProjOutDw.nD Cert.ProjOutDw.τ Cert.ProjOutDw.sig) → Buf (Elt Bits) ℓ) : Prop :=
  True

def Pre_ProjOutDwIdeal (m : (ℓ : Loc Cert.ProjOutDwIdeal.nD Cert.ProjOutDwIdeal.τ Cert.ProjOutDwIdeal.sig) → Buf (Elt Ideal) ℓ) : Prop :=
  True

def Pre_ProjOutDwRefIdeal (m : (ℓ : Loc Cert.ProjOutDwRefIdeal.nD Cert.ProjOutDwRefIdeal.τ Cert.ProjOutDwRefIdeal.sig) → Buf (Elt Ideal) ℓ) : Prop :=
  True

def Pre_MlpUpDw (m : (ℓ : Loc Cert.MlpUpDw.nD Cert.MlpUpDw.τ Cert.MlpUpDw.sig) → Buf (Elt Bits) ℓ) : Prop :=
  True

def Pre_MlpUpDwIdeal (m : (ℓ : Loc Cert.MlpUpDwIdeal.nD Cert.MlpUpDwIdeal.τ Cert.MlpUpDwIdeal.sig) → Buf (Elt Ideal) ℓ) : Prop :=
  True

def Pre_MlpUpDwRefIdeal (m : (ℓ : Loc Cert.MlpUpDwRefIdeal.nD Cert.MlpUpDwRefIdeal.τ Cert.MlpUpDwRefIdeal.sig) → Buf (Elt Ideal) ℓ) : Prop :=
  True

def Pre_PleProjDw (m : (ℓ : Loc Cert.PleProjDw.nD Cert.PleProjDw.τ Cert.PleProjDw.sig) → Buf (Elt Bits) ℓ) : Prop :=
  True

def Pre_PleProjDwIdeal (m : (ℓ : Loc Cert.PleProjDwIdeal.nD Cert.PleProjDwIdeal.τ Cert.PleProjDwIdeal.sig) → Buf (Elt Ideal) ℓ) : Prop :=
  True

def Pre_PleProjDwRefIdeal (m : (ℓ : Loc Cert.PleProjDwRefIdeal.nD Cert.PleProjDwRefIdeal.τ Cert.PleProjDwRefIdeal.sig) → Buf (Elt Ideal) ℓ) : Prop :=
  True

def Pre_ProjInDwA (m : (ℓ : Loc Cert.ProjInDwA.nD Cert.ProjInDwA.τ Cert.ProjInDwA.sig) → Buf (Elt Bits) ℓ) : Prop :=
  True

def Pre_ProjInDwAIdeal (m : (ℓ : Loc Cert.ProjInDwAIdeal.nD Cert.ProjInDwAIdeal.τ Cert.ProjInDwAIdeal.sig) → Buf (Elt Ideal) ℓ) : Prop :=
  True

def Pre_ProjInDwARefIdeal (m : (ℓ : Loc Cert.ProjInDwARefIdeal.nD Cert.ProjInDwARefIdeal.τ Cert.ProjInDwARefIdeal.sig) → Buf (Elt Ideal) ℓ) : Prop :=
  True

def Pre_ProjInDwB (m : (ℓ : Loc Cert.ProjInDwB.nD Cert.ProjInDwB.τ Cert.ProjInDwB.sig) → Buf (Elt Bits) ℓ) : Prop :=
  True

def Pre_ProjInDwBIdeal (m : (ℓ : Loc Cert.ProjInDwBIdeal.nD Cert.ProjInDwBIdeal.τ Cert.ProjInDwBIdeal.sig) → Buf (Elt Ideal) ℓ) : Prop :=
  True

def Pre_ProjInDwBRefIdeal (m : (ℓ : Loc Cert.ProjInDwBRefIdeal.nD Cert.ProjInDwBRefIdeal.τ Cert.ProjInDwBRefIdeal.sig) → Buf (Elt Ideal) ℓ) : Prop :=
  True

def Pre_ProjInNarrowDw (m : (ℓ : Loc Cert.ProjInNarrowDw.nD Cert.ProjInNarrowDw.τ Cert.ProjInNarrowDw.sig) → Buf (Elt Bits) ℓ) : Prop :=
  True

def Pre_ProjInNarrowDwIdeal (m : (ℓ : Loc Cert.ProjInNarrowDwIdeal.nD Cert.ProjInNarrowDwIdeal.τ Cert.ProjInNarrowDwIdeal.sig) → Buf (Elt Ideal) ℓ) : Prop :=
  True

def Pre_ProjInNarrowDwRefIdeal (m : (ℓ : Loc Cert.ProjInNarrowDwRefIdeal.nD Cert.ProjInNarrowDwRefIdeal.τ Cert.ProjInNarrowDwRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamWProj (m : (ℓ : Loc Cert.AdamWProj.nD Cert.AdamWProj.τ Cert.AdamWProj.sig) → Buf (Elt Bits) ℓ) : Prop :=
  True

def Pre_AdamWProjIdeal (m : (ℓ : Loc Cert.AdamWProjIdeal.nD Cert.AdamWProjIdeal.τ Cert.AdamWProjIdeal.sig) → Buf (Elt Ideal) ℓ) : Prop :=
  True

def Pre_AdamWProjRefIdeal (m : (ℓ : Loc Cert.AdamWProjRefIdeal.nD Cert.AdamWProjRefIdeal.τ Cert.AdamWProjRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_ConvQ [hConvQ : Cert.ConvQ.Facts] : Prop :=
  ∀ (m : (ℓ : Loc Cert.ConvQ.nD Cert.ConvQ.τ Cert.ConvQ.sig) → Buf (Elt Bits) ℓ) (g : Dev Cert.ConvQ.nD → PrngReg), Pre_ConvQ m →
    θ_run (Cert.ConvQ.defs (F := Bits)) (onTc (τ := Cert.ConvQ.τ) (Cert.ConvQ.main (F := Bits))) ⟨m, fun _ => 0, g⟩ (fun r => (∀ c : Dev Cert.ConvQ.nD,
      r.2.mem ((c.tc : Thread Cert.ConvQ.nD Cert.ConvQ.τ).loc Cert.ConvQ.main_arg0) = m ((c.tc : Thread Cert.ConvQ.nD Cert.ConvQ.τ).loc Cert.ConvQ.main_arg0)
      ∧ r.2.mem ((c.tc : Thread Cert.ConvQ.nD Cert.ConvQ.τ).loc Cert.ConvQ.main_arg1) = m ((c.tc : Thread Cert.ConvQ.nD Cert.ConvQ.τ).loc Cert.ConvQ.main_arg1)
      ∧ r.2.mem ((c.tc : Thread Cert.ConvQ.nD Cert.ConvQ.τ).loc Cert.ConvQ.main_arg2) = m ((c.tc : Thread Cert.ConvQ.nD Cert.ConvQ.τ).loc Cert.ConvQ.main_arg2))
      ∧ r.2.sem = fun _ => 0)

def quiescent_ConvQIdeal [hConvQIdeal : Cert.ConvQIdeal.Facts] : Prop :=
  ∀ (m : (ℓ : Loc Cert.ConvQIdeal.nD Cert.ConvQIdeal.τ Cert.ConvQIdeal.sig) → Buf (Elt Ideal) ℓ) (g : Dev Cert.ConvQIdeal.nD → PrngReg), Pre_ConvQIdeal m →
    θ_run (Cert.ConvQIdeal.defs (F := Ideal)) (onTc (τ := Cert.ConvQIdeal.τ) (Cert.ConvQIdeal.main (F := Ideal))) ⟨m, fun _ => 0, g⟩ (fun r => (∀ c : Dev Cert.ConvQIdeal.nD,
      r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
      ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1)
      ∧ r.2.mem ((c.tc : Thread Cert.ConvQIdeal.nD Cert.ConvQIdeal.τ).loc Cert.ConvQIdeal.main_arg2) = m ((c.tc : Thread Cert.ConvQIdeal.nD Cert.ConvQIdeal.τ).loc Cert.ConvQIdeal.main_arg2))
      ∧ r.2.sem = fun _ => 0)

def quiescent_ConvQRefIdeal [hConvQRefIdeal : Cert.ConvQRefIdeal.Facts] : Prop :=
  ∀ (m : (ℓ : Loc Cert.ConvQRefIdeal.nD Cert.ConvQRefIdeal.τ Cert.ConvQRefIdeal.sig) → Buf (Elt Ideal) ℓ) (g : Dev Cert.ConvQRefIdeal.nD → PrngReg), Pre_ConvQRefIdeal m →
    θ_run (Cert.ConvQRefIdeal.defs (F := Ideal)) (onTc (τ := Cert.ConvQRefIdeal.τ) (Cert.ConvQRefIdeal.main (F := Ideal))) ⟨m, fun _ => 0, g⟩ (fun r => (∀ c : Dev Cert.ConvQRefIdeal.nD,
      r.2.mem ((c.tc : Thread Cert.ConvQRefIdeal.nD Cert.ConvQRefIdeal.τ).loc Cert.ConvQRefIdeal.main_arg0) = m ((c.tc : Thread Cert.ConvQRefIdeal.nD Cert.ConvQRefIdeal.τ).loc Cert.ConvQRefIdeal.main_arg0)
      ∧ r.2.mem ((c.tc : Thread Cert.ConvQRefIdeal.nD Cert.ConvQRefIdeal.τ).loc Cert.ConvQRefIdeal.main_arg1) = m ((c.tc : Thread Cert.ConvQRefIdeal.nD Cert.ConvQRefIdeal.τ).loc Cert.ConvQRefIdeal.main_arg1)
      ∧ r.2.mem ((c.tc : Thread Cert.ConvQRefIdeal.nD Cert.ConvQRefIdeal.τ).loc Cert.ConvQRefIdeal.main_arg2) = m ((c.tc : Thread Cert.ConvQRefIdeal.nD Cert.ConvQRefIdeal.τ).loc Cert.ConvQRefIdeal.main_arg2))
      ∧ r.2.sem = fun _ => 0)

def quiescent_ConvK [hConvK : Cert.ConvK.Facts] : Prop :=
  ∀ (m : (ℓ : Loc Cert.ConvK.nD Cert.ConvK.τ Cert.ConvK.sig) → Buf (Elt Bits) ℓ) (g : Dev Cert.ConvK.nD → PrngReg), Pre_ConvK m →
    θ_run (Cert.ConvK.defs (F := Bits)) (onTc (τ := Cert.ConvK.τ) (Cert.ConvK.main (F := Bits))) ⟨m, fun _ => 0, g⟩ (fun r => (∀ c : Dev Cert.ConvK.nD,
      r.2.mem ((c.tc : Thread Cert.ConvK.nD Cert.ConvK.τ).loc Cert.ConvK.main_arg0) = m ((c.tc : Thread Cert.ConvK.nD Cert.ConvK.τ).loc Cert.ConvK.main_arg0)
      ∧ r.2.mem ((c.tc : Thread Cert.ConvK.nD Cert.ConvK.τ).loc Cert.ConvK.main_arg1) = m ((c.tc : Thread Cert.ConvK.nD Cert.ConvK.τ).loc Cert.ConvK.main_arg1)
      ∧ r.2.mem ((c.tc : Thread Cert.ConvK.nD Cert.ConvK.τ).loc Cert.ConvK.main_arg2) = m ((c.tc : Thread Cert.ConvK.nD Cert.ConvK.τ).loc Cert.ConvK.main_arg2))
      ∧ r.2.sem = fun _ => 0)

def quiescent_ConvKIdeal [hConvKIdeal : Cert.ConvKIdeal.Facts] : Prop :=
  ∀ (m : (ℓ : Loc Cert.ConvKIdeal.nD Cert.ConvKIdeal.τ Cert.ConvKIdeal.sig) → Buf (Elt Ideal) ℓ) (g : Dev Cert.ConvKIdeal.nD → PrngReg), Pre_ConvKIdeal m →
    θ_run (Cert.ConvKIdeal.defs (F := Ideal)) (onTc (τ := Cert.ConvKIdeal.τ) (Cert.ConvKIdeal.main (F := Ideal))) ⟨m, fun _ => 0, g⟩ (fun r => (∀ c : Dev Cert.ConvKIdeal.nD,
      r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
      ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
      ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2))
      ∧ r.2.sem = fun _ => 0)

def quiescent_ConvKRefIdeal [hConvKRefIdeal : Cert.ConvKRefIdeal.Facts] : Prop :=
  ∀ (m : (ℓ : Loc Cert.ConvKRefIdeal.nD Cert.ConvKRefIdeal.τ Cert.ConvKRefIdeal.sig) → Buf (Elt Ideal) ℓ) (g : Dev Cert.ConvKRefIdeal.nD → PrngReg), Pre_ConvKRefIdeal m →
    θ_run (Cert.ConvKRefIdeal.defs (F := Ideal)) (onTc (τ := Cert.ConvKRefIdeal.τ) (Cert.ConvKRefIdeal.main (F := Ideal))) ⟨m, fun _ => 0, g⟩ (fun r => (∀ c : Dev Cert.ConvKRefIdeal.nD,
      r.2.mem ((c.tc : Thread Cert.ConvKRefIdeal.nD Cert.ConvKRefIdeal.τ).loc Cert.ConvKRefIdeal.main_arg0) = m ((c.tc : Thread Cert.ConvKRefIdeal.nD Cert.ConvKRefIdeal.τ).loc Cert.ConvKRefIdeal.main_arg0)
      ∧ r.2.mem ((c.tc : Thread Cert.ConvKRefIdeal.nD Cert.ConvKRefIdeal.τ).loc Cert.ConvKRefIdeal.main_arg1) = m ((c.tc : Thread Cert.ConvKRefIdeal.nD Cert.ConvKRefIdeal.τ).loc Cert.ConvKRefIdeal.main_arg1)
      ∧ r.2.mem ((c.tc : Thread Cert.ConvKRefIdeal.nD Cert.ConvKRefIdeal.τ).loc Cert.ConvKRefIdeal.main_arg2) = m ((c.tc : Thread Cert.ConvKRefIdeal.nD Cert.ConvKRefIdeal.τ).loc Cert.ConvKRefIdeal.main_arg2))
      ∧ r.2.sem = fun _ => 0)

def quiescent_ConvV [hConvV : Cert.ConvV.Facts] : Prop :=
  ∀ (m : (ℓ : Loc Cert.ConvV.nD Cert.ConvV.τ Cert.ConvV.sig) → Buf (Elt Bits) ℓ) (g : Dev Cert.ConvV.nD → PrngReg), Pre_ConvV m →
    θ_run (Cert.ConvV.defs (F := Bits)) (onTc (τ := Cert.ConvV.τ) (Cert.ConvV.main (F := Bits))) ⟨m, fun _ => 0, g⟩ (fun r => (∀ c : Dev Cert.ConvV.nD,
      r.2.mem ((c.tc : Thread Cert.ConvV.nD Cert.ConvV.τ).loc Cert.ConvV.main_arg0) = m ((c.tc : Thread Cert.ConvV.nD Cert.ConvV.τ).loc Cert.ConvV.main_arg0)
      ∧ r.2.mem ((c.tc : Thread Cert.ConvV.nD Cert.ConvV.τ).loc Cert.ConvV.main_arg1) = m ((c.tc : Thread Cert.ConvV.nD Cert.ConvV.τ).loc Cert.ConvV.main_arg1)
      ∧ r.2.mem ((c.tc : Thread Cert.ConvV.nD Cert.ConvV.τ).loc Cert.ConvV.main_arg2) = m ((c.tc : Thread Cert.ConvV.nD Cert.ConvV.τ).loc Cert.ConvV.main_arg2))
      ∧ r.2.sem = fun _ => 0)

def quiescent_ConvVIdeal [hConvVIdeal : Cert.ConvVIdeal.Facts] : Prop :=
  ∀ (m : (ℓ : Loc Cert.ConvVIdeal.nD Cert.ConvVIdeal.τ Cert.ConvVIdeal.sig) → Buf (Elt Ideal) ℓ) (g : Dev Cert.ConvVIdeal.nD → PrngReg), Pre_ConvVIdeal m →
    θ_run (Cert.ConvVIdeal.defs (F := Ideal)) (onTc (τ := Cert.ConvVIdeal.τ) (Cert.ConvVIdeal.main (F := Ideal))) ⟨m, fun _ => 0, g⟩ (fun r => (∀ c : Dev Cert.ConvVIdeal.nD,
      r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
      ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
      ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2))
      ∧ r.2.sem = fun _ => 0)

def quiescent_ConvVRefIdeal [hConvVRefIdeal : Cert.ConvVRefIdeal.Facts] : Prop :=
  ∀ (m : (ℓ : Loc Cert.ConvVRefIdeal.nD Cert.ConvVRefIdeal.τ Cert.ConvVRefIdeal.sig) → Buf (Elt Ideal) ℓ) (g : Dev Cert.ConvVRefIdeal.nD → PrngReg), Pre_ConvVRefIdeal m →
    θ_run (Cert.ConvVRefIdeal.defs (F := Ideal)) (onTc (τ := Cert.ConvVRefIdeal.τ) (Cert.ConvVRefIdeal.main (F := Ideal))) ⟨m, fun _ => 0, g⟩ (fun r => (∀ c : Dev Cert.ConvVRefIdeal.nD,
      r.2.mem ((c.tc : Thread Cert.ConvVRefIdeal.nD Cert.ConvVRefIdeal.τ).loc Cert.ConvVRefIdeal.main_arg0) = m ((c.tc : Thread Cert.ConvVRefIdeal.nD Cert.ConvVRefIdeal.τ).loc Cert.ConvVRefIdeal.main_arg0)
      ∧ r.2.mem ((c.tc : Thread Cert.ConvVRefIdeal.nD Cert.ConvVRefIdeal.τ).loc Cert.ConvVRefIdeal.main_arg1) = m ((c.tc : Thread Cert.ConvVRefIdeal.nD Cert.ConvVRefIdeal.τ).loc Cert.ConvVRefIdeal.main_arg1)
      ∧ r.2.mem ((c.tc : Thread Cert.ConvVRefIdeal.nD Cert.ConvVRefIdeal.τ).loc Cert.ConvVRefIdeal.main_arg2) = m ((c.tc : Thread Cert.ConvVRefIdeal.nD Cert.ConvVRefIdeal.τ).loc Cert.ConvVRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_ConvFwdQ [hConvFwdQ : Cert.ConvFwdQ.Facts] : Prop :=
  ∀ (m : (ℓ : Loc Cert.ConvFwdQ.nD Cert.ConvFwdQ.τ Cert.ConvFwdQ.sig) → Buf (Elt Bits) ℓ) (g : Dev Cert.ConvFwdQ.nD → PrngReg), Pre_ConvFwdQ m →
    θ_run (Cert.ConvFwdQ.defs (F := Bits)) (onTc (τ := Cert.ConvFwdQ.τ) (Cert.ConvFwdQ.main (F := Bits))) ⟨m, fun _ => 0, g⟩ (fun r => (∀ c : Dev Cert.ConvFwdQ.nD,
      r.2.mem ((c.tc : Thread Cert.ConvFwdQ.nD Cert.ConvFwdQ.τ).loc Cert.ConvFwdQ.main_arg0) = m ((c.tc : Thread Cert.ConvFwdQ.nD Cert.ConvFwdQ.τ).loc Cert.ConvFwdQ.main_arg0)
      ∧ r.2.mem ((c.tc : Thread Cert.ConvFwdQ.nD Cert.ConvFwdQ.τ).loc Cert.ConvFwdQ.main_arg1) = m ((c.tc : Thread Cert.ConvFwdQ.nD Cert.ConvFwdQ.τ).loc Cert.ConvFwdQ.main_arg1))
      ∧ r.2.sem = fun _ => 0)

def quiescent_ConvFwdQIdeal [hConvFwdQIdeal : Cert.ConvFwdQIdeal.Facts] : Prop :=
  ∀ (m : (ℓ : Loc Cert.ConvFwdQIdeal.nD Cert.ConvFwdQIdeal.τ Cert.ConvFwdQIdeal.sig) → Buf (Elt Ideal) ℓ) (g : Dev Cert.ConvFwdQIdeal.nD → PrngReg), Pre_ConvFwdQIdeal m →
    θ_run (Cert.ConvFwdQIdeal.defs (F := Ideal)) (onTc (τ := Cert.ConvFwdQIdeal.τ) (Cert.ConvFwdQIdeal.main (F := Ideal))) ⟨m, fun _ => 0, g⟩ (fun r => (∀ c : Dev Cert.ConvFwdQIdeal.nD,
      r.2.mem ((c.tc : Thread Cert.ConvFwdQIdeal.nD Cert.ConvFwdQIdeal.τ).loc Cert.ConvFwdQIdeal.main_arg0) = m ((c.tc : Thread Cert.ConvFwdQIdeal.nD Cert.ConvFwdQIdeal.τ).loc Cert.ConvFwdQIdeal.main_arg0)
      ∧ r.2.mem ((c.tc : Thread Cert.ConvFwdQIdeal.nD Cert.ConvFwdQIdeal.τ).loc Cert.ConvFwdQIdeal.main_arg1) = m ((c.tc : Thread Cert.ConvFwdQIdeal.nD Cert.ConvFwdQIdeal.τ).loc Cert.ConvFwdQIdeal.main_arg1))
      ∧ r.2.sem = fun _ => 0)

def quiescent_ConvFwdQRefIdeal [hConvFwdQRefIdeal : Cert.ConvFwdQRefIdeal.Facts] : Prop :=
  ∀ (m : (ℓ : Loc Cert.ConvFwdQRefIdeal.nD Cert.ConvFwdQRefIdeal.τ Cert.ConvFwdQRefIdeal.sig) → Buf (Elt Ideal) ℓ) (g : Dev Cert.ConvFwdQRefIdeal.nD → PrngReg), Pre_ConvFwdQRefIdeal m →
    θ_run (Cert.ConvFwdQRefIdeal.defs (F := Ideal)) (onTc (τ := Cert.ConvFwdQRefIdeal.τ) (Cert.ConvFwdQRefIdeal.main (F := Ideal))) ⟨m, fun _ => 0, g⟩ (fun r => (∀ c : Dev Cert.ConvFwdQRefIdeal.nD,
      r.2.mem ((c.tc : Thread Cert.ConvFwdQRefIdeal.nD Cert.ConvFwdQRefIdeal.τ).loc Cert.ConvFwdQRefIdeal.main_arg0) = m ((c.tc : Thread Cert.ConvFwdQRefIdeal.nD Cert.ConvFwdQRefIdeal.τ).loc Cert.ConvFwdQRefIdeal.main_arg0)
      ∧ r.2.mem ((c.tc : Thread Cert.ConvFwdQRefIdeal.nD Cert.ConvFwdQRefIdeal.τ).loc Cert.ConvFwdQRefIdeal.main_arg1) = m ((c.tc : Thread Cert.ConvFwdQRefIdeal.nD Cert.ConvFwdQRefIdeal.τ).loc Cert.ConvFwdQRefIdeal.main_arg1))
      ∧ r.2.sem = fun _ => 0)

def quiescent_ConvFwdK [hConvFwdK : Cert.ConvFwdK.Facts] : Prop :=
  ∀ (m : (ℓ : Loc Cert.ConvFwdK.nD Cert.ConvFwdK.τ Cert.ConvFwdK.sig) → Buf (Elt Bits) ℓ) (g : Dev Cert.ConvFwdK.nD → PrngReg), Pre_ConvFwdK m →
    θ_run (Cert.ConvFwdK.defs (F := Bits)) (onTc (τ := Cert.ConvFwdK.τ) (Cert.ConvFwdK.main (F := Bits))) ⟨m, fun _ => 0, g⟩ (fun r => (∀ c : Dev Cert.ConvFwdK.nD,
      r.2.mem ((c.tc : Thread Cert.ConvFwdK.nD Cert.ConvFwdK.τ).loc Cert.ConvFwdK.main_arg0) = m ((c.tc : Thread Cert.ConvFwdK.nD Cert.ConvFwdK.τ).loc Cert.ConvFwdK.main_arg0)
      ∧ r.2.mem ((c.tc : Thread Cert.ConvFwdK.nD Cert.ConvFwdK.τ).loc Cert.ConvFwdK.main_arg1) = m ((c.tc : Thread Cert.ConvFwdK.nD Cert.ConvFwdK.τ).loc Cert.ConvFwdK.main_arg1))
      ∧ r.2.sem = fun _ => 0)

def quiescent_ConvFwdKIdeal [hConvFwdKIdeal : Cert.ConvFwdKIdeal.Facts] : Prop :=
  ∀ (m : (ℓ : Loc Cert.ConvFwdKIdeal.nD Cert.ConvFwdKIdeal.τ Cert.ConvFwdKIdeal.sig) → Buf (Elt Ideal) ℓ) (g : Dev Cert.ConvFwdKIdeal.nD → PrngReg), Pre_ConvFwdKIdeal m →
    θ_run (Cert.ConvFwdKIdeal.defs (F := Ideal)) (onTc (τ := Cert.ConvFwdKIdeal.τ) (Cert.ConvFwdKIdeal.main (F := Ideal))) ⟨m, fun _ => 0, g⟩ (fun r => (∀ c : Dev Cert.ConvFwdKIdeal.nD,
      r.2.mem ((c.tc : Thread Cert.ConvFwdKIdeal.nD Cert.ConvFwdKIdeal.τ).loc Cert.ConvFwdKIdeal.main_arg0) = m ((c.tc : Thread Cert.ConvFwdKIdeal.nD Cert.ConvFwdKIdeal.τ).loc Cert.ConvFwdKIdeal.main_arg0)
      ∧ r.2.mem ((c.tc : Thread Cert.ConvFwdKIdeal.nD Cert.ConvFwdKIdeal.τ).loc Cert.ConvFwdKIdeal.main_arg1) = m ((c.tc : Thread Cert.ConvFwdKIdeal.nD Cert.ConvFwdKIdeal.τ).loc Cert.ConvFwdKIdeal.main_arg1))
      ∧ r.2.sem = fun _ => 0)

def quiescent_ConvFwdKRefIdeal [hConvFwdKRefIdeal : Cert.ConvFwdKRefIdeal.Facts] : Prop :=
  ∀ (m : (ℓ : Loc Cert.ConvFwdKRefIdeal.nD Cert.ConvFwdKRefIdeal.τ Cert.ConvFwdKRefIdeal.sig) → Buf (Elt Ideal) ℓ) (g : Dev Cert.ConvFwdKRefIdeal.nD → PrngReg), Pre_ConvFwdKRefIdeal m →
    θ_run (Cert.ConvFwdKRefIdeal.defs (F := Ideal)) (onTc (τ := Cert.ConvFwdKRefIdeal.τ) (Cert.ConvFwdKRefIdeal.main (F := Ideal))) ⟨m, fun _ => 0, g⟩ (fun r => (∀ c : Dev Cert.ConvFwdKRefIdeal.nD,
      r.2.mem ((c.tc : Thread Cert.ConvFwdKRefIdeal.nD Cert.ConvFwdKRefIdeal.τ).loc Cert.ConvFwdKRefIdeal.main_arg0) = m ((c.tc : Thread Cert.ConvFwdKRefIdeal.nD Cert.ConvFwdKRefIdeal.τ).loc Cert.ConvFwdKRefIdeal.main_arg0)
      ∧ r.2.mem ((c.tc : Thread Cert.ConvFwdKRefIdeal.nD Cert.ConvFwdKRefIdeal.τ).loc Cert.ConvFwdKRefIdeal.main_arg1) = m ((c.tc : Thread Cert.ConvFwdKRefIdeal.nD Cert.ConvFwdKRefIdeal.τ).loc Cert.ConvFwdKRefIdeal.main_arg1))
      ∧ r.2.sem = fun _ => 0)

def quiescent_ConvFwdV [hConvFwdV : Cert.ConvFwdV.Facts] : Prop :=
  ∀ (m : (ℓ : Loc Cert.ConvFwdV.nD Cert.ConvFwdV.τ Cert.ConvFwdV.sig) → Buf (Elt Bits) ℓ) (g : Dev Cert.ConvFwdV.nD → PrngReg), Pre_ConvFwdV m →
    θ_run (Cert.ConvFwdV.defs (F := Bits)) (onTc (τ := Cert.ConvFwdV.τ) (Cert.ConvFwdV.main (F := Bits))) ⟨m, fun _ => 0, g⟩ (fun r => (∀ c : Dev Cert.ConvFwdV.nD,
      r.2.mem ((c.tc : Thread Cert.ConvFwdV.nD Cert.ConvFwdV.τ).loc Cert.ConvFwdV.main_arg0) = m ((c.tc : Thread Cert.ConvFwdV.nD Cert.ConvFwdV.τ).loc Cert.ConvFwdV.main_arg0)
      ∧ r.2.mem ((c.tc : Thread Cert.ConvFwdV.nD Cert.ConvFwdV.τ).loc Cert.ConvFwdV.main_arg1) = m ((c.tc : Thread Cert.ConvFwdV.nD Cert.ConvFwdV.τ).loc Cert.ConvFwdV.main_arg1))
      ∧ r.2.sem = fun _ => 0)

def quiescent_ConvFwdVIdeal [hConvFwdVIdeal : Cert.ConvFwdVIdeal.Facts] : Prop :=
  ∀ (m : (ℓ : Loc Cert.ConvFwdVIdeal.nD Cert.ConvFwdVIdeal.τ Cert.ConvFwdVIdeal.sig) → Buf (Elt Ideal) ℓ) (g : Dev Cert.ConvFwdVIdeal.nD → PrngReg), Pre_ConvFwdVIdeal m →
    θ_run (Cert.ConvFwdVIdeal.defs (F := Ideal)) (onTc (τ := Cert.ConvFwdVIdeal.τ) (Cert.ConvFwdVIdeal.main (F := Ideal))) ⟨m, fun _ => 0, g⟩ (fun r => (∀ c : Dev Cert.ConvFwdVIdeal.nD,
      r.2.mem ((c.tc : Thread Cert.ConvFwdVIdeal.nD Cert.ConvFwdVIdeal.τ).loc Cert.ConvFwdVIdeal.main_arg0) = m ((c.tc : Thread Cert.ConvFwdVIdeal.nD Cert.ConvFwdVIdeal.τ).loc Cert.ConvFwdVIdeal.main_arg0)
      ∧ r.2.mem ((c.tc : Thread Cert.ConvFwdVIdeal.nD Cert.ConvFwdVIdeal.τ).loc Cert.ConvFwdVIdeal.main_arg1) = m ((c.tc : Thread Cert.ConvFwdVIdeal.nD Cert.ConvFwdVIdeal.τ).loc Cert.ConvFwdVIdeal.main_arg1))
      ∧ r.2.sem = fun _ => 0)

def quiescent_ConvFwdVRefIdeal [hConvFwdVRefIdeal : Cert.ConvFwdVRefIdeal.Facts] : Prop :=
  ∀ (m : (ℓ : Loc Cert.ConvFwdVRefIdeal.nD Cert.ConvFwdVRefIdeal.τ Cert.ConvFwdVRefIdeal.sig) → Buf (Elt Ideal) ℓ) (g : Dev Cert.ConvFwdVRefIdeal.nD → PrngReg), Pre_ConvFwdVRefIdeal m →
    θ_run (Cert.ConvFwdVRefIdeal.defs (F := Ideal)) (onTc (τ := Cert.ConvFwdVRefIdeal.τ) (Cert.ConvFwdVRefIdeal.main (F := Ideal))) ⟨m, fun _ => 0, g⟩ (fun r => (∀ c : Dev Cert.ConvFwdVRefIdeal.nD,
      r.2.mem ((c.tc : Thread Cert.ConvFwdVRefIdeal.nD Cert.ConvFwdVRefIdeal.τ).loc Cert.ConvFwdVRefIdeal.main_arg0) = m ((c.tc : Thread Cert.ConvFwdVRefIdeal.nD Cert.ConvFwdVRefIdeal.τ).loc Cert.ConvFwdVRefIdeal.main_arg0)
      ∧ r.2.mem ((c.tc : Thread Cert.ConvFwdVRefIdeal.nD Cert.ConvFwdVRefIdeal.τ).loc Cert.ConvFwdVRefIdeal.main_arg1) = m ((c.tc : Thread Cert.ConvFwdVRefIdeal.nD Cert.ConvFwdVRefIdeal.τ).loc Cert.ConvFwdVRefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_AddNorm [hAddNorm : Cert.AddNorm.Facts] : Prop :=
  ∀ (m : (ℓ : Loc Cert.AddNorm.nD Cert.AddNorm.τ Cert.AddNorm.sig) → Buf (Elt Bits) ℓ) (g : Dev Cert.AddNorm.nD → PrngReg), Pre_AddNorm m →
    θ_run (Cert.AddNorm.defs (F := Bits)) (onTc (τ := Cert.AddNorm.τ) (Cert.AddNorm.main (F := Bits))) ⟨m, fun _ => 0, g⟩ (fun r => (∀ c : Dev Cert.AddNorm.nD,
      r.2.mem ((c.tc : Thread Cert.AddNorm.nD Cert.AddNorm.τ).loc Cert.AddNorm.main_arg0) = m ((c.tc : Thread Cert.AddNorm.nD Cert.AddNorm.τ).loc Cert.AddNorm.main_arg0)
      ∧ r.2.mem ((c.tc : Thread Cert.AddNorm.nD Cert.AddNorm.τ).loc Cert.AddNorm.main_arg1) = m ((c.tc : Thread Cert.AddNorm.nD Cert.AddNorm.τ).loc Cert.AddNorm.main_arg1)
      ∧ r.2.mem ((c.tc : Thread Cert.AddNorm.nD Cert.AddNorm.τ).loc Cert.AddNorm.main_arg2) = m ((c.tc : Thread Cert.AddNorm.nD Cert.AddNorm.τ).loc Cert.AddNorm.main_arg2)
      ∧ r.2.mem ((c.tc : Thread Cert.AddNorm.nD Cert.AddNorm.τ).loc Cert.AddNorm.main_arg3) = m ((c.tc : Thread Cert.AddNorm.nD Cert.AddNorm.τ).loc Cert.AddNorm.main_arg3))
      ∧ r.2.sem = fun _ => 0)

def quiescent_AddNormIdeal [hAddNormIdeal : Cert.AddNormIdeal.Facts] : Prop :=
  ∀ (m : (ℓ : Loc Cert.AddNormIdeal.nD Cert.AddNormIdeal.τ Cert.AddNormIdeal.sig) → Buf (Elt Ideal) ℓ) (g : Dev Cert.AddNormIdeal.nD → PrngReg), Pre_AddNormIdeal m →
    θ_run (Cert.AddNormIdeal.defs (F := Ideal)) (onTc (τ := Cert.AddNormIdeal.τ) (Cert.AddNormIdeal.main (F := Ideal))) ⟨m, fun _ => 0, g⟩ (fun r => (∀ c : Dev Cert.AddNormIdeal.nD,
      r.2.mem ((c.tc : Thread Cert.AddNormIdeal.nD Cert.AddNormIdeal.τ).loc Cert.AddNormIdeal.main_arg0) = m ((c.tc : Thread Cert.AddNormIdeal.nD Cert.AddNormIdeal.τ).loc Cert.AddNormIdeal.main_arg0)
      ∧ r.2.mem ((c.tc : Thread Cert.AddNormIdeal.nD Cert.AddNormIdeal.τ).loc Cert.AddNormIdeal.main_arg1) = m ((c.tc : Thread Cert.AddNormIdeal.nD Cert.AddNormIdeal.τ).loc Cert.AddNormIdeal.main_arg1)
      ∧ r.2.mem ((c.tc : Thread Cert.AddNormIdeal.nD Cert.AddNormIdeal.τ).loc Cert.AddNormIdeal.main_arg2) = m ((c.tc : Thread Cert.AddNormIdeal.nD Cert.AddNormIdeal.τ).loc Cert.AddNormIdeal.main_arg2)
      ∧ r.2.mem ((c.tc : Thread Cert.AddNormIdeal.nD Cert.AddNormIdeal.τ).loc Cert.AddNormIdeal.main_arg3) = m ((c.tc : Thread Cert.AddNormIdeal.nD Cert.AddNormIdeal.τ).loc Cert.AddNormIdeal.main_arg3))
      ∧ r.2.sem = fun _ => 0)

def quiescent_AddNormRefIdeal [hAddNormRefIdeal : Cert.AddNormRefIdeal.Facts] : Prop :=
  ∀ (m : (ℓ : Loc Cert.AddNormRefIdeal.nD Cert.AddNormRefIdeal.τ Cert.AddNormRefIdeal.sig) → Buf (Elt Ideal) ℓ) (g : Dev Cert.AddNormRefIdeal.nD → PrngReg), Pre_AddNormRefIdeal m →
    θ_run (Cert.AddNormRefIdeal.defs (F := Ideal)) (onTc (τ := Cert.AddNormRefIdeal.τ) (Cert.AddNormRefIdeal.main (F := Ideal))) ⟨m, fun _ => 0, g⟩ (fun r => (∀ c : Dev Cert.AddNormRefIdeal.nD,
      r.2.mem ((c.tc : Thread Cert.AddNormRefIdeal.nD Cert.AddNormRefIdeal.τ).loc Cert.AddNormRefIdeal.main_arg0) = m ((c.tc : Thread Cert.AddNormRefIdeal.nD Cert.AddNormRefIdeal.τ).loc Cert.AddNormRefIdeal.main_arg0)
      ∧ r.2.mem ((c.tc : Thread Cert.AddNormRefIdeal.nD Cert.AddNormRefIdeal.τ).loc Cert.AddNormRefIdeal.main_arg1) = m ((c.tc : Thread Cert.AddNormRefIdeal.nD Cert.AddNormRefIdeal.τ).loc Cert.AddNormRefIdeal.main_arg1)
      ∧ r.2.mem ((c.tc : Thread Cert.AddNormRefIdeal.nD Cert.AddNormRefIdeal.τ).loc Cert.AddNormRefIdeal.main_arg2) = m ((c.tc : Thread Cert.AddNormRefIdeal.nD Cert.AddNormRefIdeal.τ).loc Cert.AddNormRefIdeal.main_arg2)
      ∧ r.2.mem ((c.tc : Thread Cert.AddNormRefIdeal.nD Cert.AddNormRefIdeal.τ).loc Cert.AddNormRefIdeal.main_arg3) = m ((c.tc : Thread Cert.AddNormRefIdeal.nD Cert.AddNormRefIdeal.τ).loc Cert.AddNormRefIdeal.main_arg3))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2)
      ∧ r.2.mem ((c.tc : Thread Cert.MlpDownRefIdeal.nD Cert.MlpDownRefIdeal.τ).loc Cert.MlpDownRefIdeal.main_arg3) = m ((c.tc : Thread Cert.MlpDownRefIdeal.nD Cert.MlpDownRefIdeal.τ).loc Cert.MlpDownRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def quiescent_FinalSum [hFinalSum : Cert.FinalSum.Facts] : Prop :=
  ∀ (m : (ℓ : Loc Cert.FinalSum.nD Cert.FinalSum.τ Cert.FinalSum.sig) → Buf (Elt Bits) ℓ) (g : Dev Cert.FinalSum.nD → PrngReg), Pre_FinalSum m →
    θ_run (Cert.FinalSum.defs (F := Bits)) (onTc (τ := Cert.FinalSum.τ) (Cert.FinalSum.main (F := Bits))) ⟨m, fun _ => 0, g⟩ (fun r => (∀ c : Dev Cert.FinalSum.nD,
      r.2.mem ((c.tc : Thread Cert.FinalSum.nD Cert.FinalSum.τ).loc Cert.FinalSum.main_arg0) = m ((c.tc : Thread Cert.FinalSum.nD Cert.FinalSum.τ).loc Cert.FinalSum.main_arg0)
      ∧ r.2.mem ((c.tc : Thread Cert.FinalSum.nD Cert.FinalSum.τ).loc Cert.FinalSum.main_arg1) = m ((c.tc : Thread Cert.FinalSum.nD Cert.FinalSum.τ).loc Cert.FinalSum.main_arg1))
      ∧ r.2.sem = fun _ => 0)

def quiescent_FinalSumIdeal [hFinalSumIdeal : Cert.FinalSumIdeal.Facts] : Prop :=
  ∀ (m : (ℓ : Loc Cert.FinalSumIdeal.nD Cert.FinalSumIdeal.τ Cert.FinalSumIdeal.sig) → Buf (Elt Ideal) ℓ) (g : Dev Cert.FinalSumIdeal.nD → PrngReg), Pre_FinalSumIdeal m →
    θ_run (Cert.FinalSumIdeal.defs (F := Ideal)) (onTc (τ := Cert.FinalSumIdeal.τ) (Cert.FinalSumIdeal.main (F := Ideal))) ⟨m, fun _ => 0, g⟩ (fun r => (∀ c : Dev Cert.FinalSumIdeal.nD,
      r.2.mem ((c.tc : Thread Cert.FinalSumIdeal.nD Cert.FinalSumIdeal.τ).loc Cert.FinalSumIdeal.main_arg0) = m ((c.tc : Thread Cert.FinalSumIdeal.nD Cert.FinalSumIdeal.τ).loc Cert.FinalSumIdeal.main_arg0)
      ∧ r.2.mem ((c.tc : Thread Cert.FinalSumIdeal.nD Cert.FinalSumIdeal.τ).loc Cert.FinalSumIdeal.main_arg1) = m ((c.tc : Thread Cert.FinalSumIdeal.nD Cert.FinalSumIdeal.τ).loc Cert.FinalSumIdeal.main_arg1))
      ∧ r.2.sem = fun _ => 0)

def quiescent_FinalSumRefIdeal [hFinalSumRefIdeal : Cert.FinalSumRefIdeal.Facts] : Prop :=
  ∀ (m : (ℓ : Loc Cert.FinalSumRefIdeal.nD Cert.FinalSumRefIdeal.τ Cert.FinalSumRefIdeal.sig) → Buf (Elt Ideal) ℓ) (g : Dev Cert.FinalSumRefIdeal.nD → PrngReg), Pre_FinalSumRefIdeal m →
    θ_run (Cert.FinalSumRefIdeal.defs (F := Ideal)) (onTc (τ := Cert.FinalSumRefIdeal.τ) (Cert.FinalSumRefIdeal.main (F := Ideal))) ⟨m, fun _ => 0, g⟩ (fun r => (∀ c : Dev Cert.FinalSumRefIdeal.nD,
      r.2.mem ((c.tc : Thread Cert.FinalSumRefIdeal.nD Cert.FinalSumRefIdeal.τ).loc Cert.FinalSumRefIdeal.main_arg0) = m ((c.tc : Thread Cert.FinalSumRefIdeal.nD Cert.FinalSumRefIdeal.τ).loc Cert.FinalSumRefIdeal.main_arg0)
      ∧ r.2.mem ((c.tc : Thread Cert.FinalSumRefIdeal.nD Cert.FinalSumRefIdeal.τ).loc Cert.FinalSumRefIdeal.main_arg1) = m ((c.tc : Thread Cert.FinalSumRefIdeal.nD Cert.FinalSumRefIdeal.τ).loc Cert.FinalSumRefIdeal.main_arg1))
      ∧ r.2.sem = fun _ => 0)

def quiescent_MlpDownDw [hMlpDownDw : Cert.MlpDownDw.Facts] : Prop :=
  ∀ (m : (ℓ : Loc Cert.MlpDownDw.nD Cert.MlpDownDw.τ Cert.MlpDownDw.sig) → Buf (Elt Bits) ℓ) (g : Dev Cert.MlpDownDw.nD → PrngReg), Pre_MlpDownDw m →
    θ_run (Cert.MlpDownDw.defs (F := Bits)) (onTc (τ := Cert.MlpDownDw.τ) (Cert.MlpDownDw.main (F := Bits))) ⟨m, fun _ => 0, g⟩ (fun r => (∀ c : Dev Cert.MlpDownDw.nD,
      r.2.mem ((c.tc : Thread Cert.MlpDownDw.nD Cert.MlpDownDw.τ).loc Cert.MlpDownDw.main_arg0) = m ((c.tc : Thread Cert.MlpDownDw.nD Cert.MlpDownDw.τ).loc Cert.MlpDownDw.main_arg0)
      ∧ r.2.mem ((c.tc : Thread Cert.MlpDownDw.nD Cert.MlpDownDw.τ).loc Cert.MlpDownDw.main_arg1) = m ((c.tc : Thread Cert.MlpDownDw.nD Cert.MlpDownDw.τ).loc Cert.MlpDownDw.main_arg1))
      ∧ r.2.sem = fun _ => 0)

def quiescent_MlpDownDwIdeal [hMlpDownDwIdeal : Cert.MlpDownDwIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg), Pre_MlpDownDwIdeal m →
    θ_run (Cert.MlpDownDwIdeal.defs (F := Ideal)) (onTc (τ := Cert.MlpDownDwIdeal.τ) (Cert.MlpDownDwIdeal.main (F := Ideal))) ⟨m, fun _ => 0, g⟩ (fun r => (∀ c : Dev Cert.MlpDownDwIdeal.nD,
      r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
      ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ r.2.sem = fun _ => 0)

def quiescent_MlpDownDwRefIdeal [hMlpDownDwRefIdeal : Cert.MlpDownDwRefIdeal.Facts] : Prop :=
  ∀ (m : (ℓ : Loc Cert.MlpDownDwRefIdeal.nD Cert.MlpDownDwRefIdeal.τ Cert.MlpDownDwRefIdeal.sig) → Buf (Elt Ideal) ℓ) (g : Dev Cert.MlpDownDwRefIdeal.nD → PrngReg), Pre_MlpDownDwRefIdeal m →
    θ_run (Cert.MlpDownDwRefIdeal.defs (F := Ideal)) (onTc (τ := Cert.MlpDownDwRefIdeal.τ) (Cert.MlpDownDwRefIdeal.main (F := Ideal))) ⟨m, fun _ => 0, g⟩ (fun r => (∀ c : Dev Cert.MlpDownDwRefIdeal.nD,
      r.2.mem ((c.tc : Thread Cert.MlpDownDwRefIdeal.nD Cert.MlpDownDwRefIdeal.τ).loc Cert.MlpDownDwRefIdeal.main_arg0) = m ((c.tc : Thread Cert.MlpDownDwRefIdeal.nD Cert.MlpDownDwRefIdeal.τ).loc Cert.MlpDownDwRefIdeal.main_arg0)
      ∧ r.2.mem ((c.tc : Thread Cert.MlpDownDwRefIdeal.nD Cert.MlpDownDwRefIdeal.τ).loc Cert.MlpDownDwRefIdeal.main_arg1) = m ((c.tc : Thread Cert.MlpDownDwRefIdeal.nD Cert.MlpDownDwRefIdeal.τ).loc Cert.MlpDownDwRefIdeal.main_arg1))
      ∧ r.2.sem = fun _ => 0)

def quiescent_ProjOutDw [hProjOutDw : Cert.ProjOutDw.Facts] : Prop :=
  ∀ (m : (ℓ : Loc Cert.ProjOutDw.nD Cert.ProjOutDw.τ Cert.ProjOutDw.sig) → Buf (Elt Bits) ℓ) (g : Dev Cert.ProjOutDw.nD → PrngReg), Pre_ProjOutDw m →
    θ_run (Cert.ProjOutDw.defs (F := Bits)) (onTc (τ := Cert.ProjOutDw.τ) (Cert.ProjOutDw.main (F := Bits))) ⟨m, fun _ => 0, g⟩ (fun r => (∀ c : Dev Cert.ProjOutDw.nD,
      r.2.mem ((c.tc : Thread Cert.ProjOutDw.nD Cert.ProjOutDw.τ).loc Cert.ProjOutDw.main_arg0) = m ((c.tc : Thread Cert.ProjOutDw.nD Cert.ProjOutDw.τ).loc Cert.ProjOutDw.main_arg0)
      ∧ r.2.mem ((c.tc : Thread Cert.ProjOutDw.nD Cert.ProjOutDw.τ).loc Cert.ProjOutDw.main_arg1) = m ((c.tc : Thread Cert.ProjOutDw.nD Cert.ProjOutDw.τ).loc Cert.ProjOutDw.main_arg1))
      ∧ r.2.sem = fun _ => 0)

def quiescent_ProjOutDwIdeal [hProjOutDwIdeal : Cert.ProjOutDwIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg), Pre_ProjOutDwIdeal m →
    θ_run (Cert.ProjOutDwIdeal.defs (F := Ideal)) (onTc (τ := Cert.ProjOutDwIdeal.τ) (Cert.ProjOutDwIdeal.main (F := Ideal))) ⟨m, fun _ => 0, g⟩ (fun r => (∀ c : Dev Cert.ProjOutDwIdeal.nD,
      r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
      ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1))
      ∧ r.2.sem = fun _ => 0)

def quiescent_ProjOutDwRefIdeal [hProjOutDwRefIdeal : Cert.ProjOutDwRefIdeal.Facts] : Prop :=
  ∀ (m : (ℓ : Loc Cert.ProjOutDwRefIdeal.nD Cert.ProjOutDwRefIdeal.τ Cert.ProjOutDwRefIdeal.sig) → Buf (Elt Ideal) ℓ) (g : Dev Cert.ProjOutDwRefIdeal.nD → PrngReg), Pre_ProjOutDwRefIdeal m →
    θ_run (Cert.ProjOutDwRefIdeal.defs (F := Ideal)) (onTc (τ := Cert.ProjOutDwRefIdeal.τ) (Cert.ProjOutDwRefIdeal.main (F := Ideal))) ⟨m, fun _ => 0, g⟩ (fun r => (∀ c : Dev Cert.ProjOutDwRefIdeal.nD,
      r.2.mem ((c.tc : Thread Cert.ProjOutDwRefIdeal.nD Cert.ProjOutDwRefIdeal.τ).loc Cert.ProjOutDwRefIdeal.main_arg0) = m ((c.tc : Thread Cert.ProjOutDwRefIdeal.nD Cert.ProjOutDwRefIdeal.τ).loc Cert.ProjOutDwRefIdeal.main_arg0)
      ∧ r.2.mem ((c.tc : Thread Cert.ProjOutDwRefIdeal.nD Cert.ProjOutDwRefIdeal.τ).loc Cert.ProjOutDwRefIdeal.main_arg1) = m ((c.tc : Thread Cert.ProjOutDwRefIdeal.nD Cert.ProjOutDwRefIdeal.τ).loc Cert.ProjOutDwRefIdeal.main_arg1))
      ∧ r.2.sem = fun _ => 0)

def quiescent_MlpUpDw [hMlpUpDw : Cert.MlpUpDw.Facts] : Prop :=
  ∀ (m : (ℓ : Loc Cert.MlpUpDw.nD Cert.MlpUpDw.τ Cert.MlpUpDw.sig) → Buf (Elt Bits) ℓ) (g : Dev Cert.MlpUpDw.nD → PrngReg), Pre_MlpUpDw m →
    θ_run (Cert.MlpUpDw.defs (F := Bits)) (onTc (τ := Cert.MlpUpDw.τ) (Cert.MlpUpDw.main (F := Bits))) ⟨m, fun _ => 0, g⟩ (fun r => (∀ c : Dev Cert.MlpUpDw.nD,
      r.2.mem ((c.tc : Thread Cert.MlpUpDw.nD Cert.MlpUpDw.τ).loc Cert.MlpUpDw.main_arg0) = m ((c.tc : Thread Cert.MlpUpDw.nD Cert.MlpUpDw.τ).loc Cert.MlpUpDw.main_arg0)
      ∧ r.2.mem ((c.tc : Thread Cert.MlpUpDw.nD Cert.MlpUpDw.τ).loc Cert.MlpUpDw.main_arg1) = m ((c.tc : Thread Cert.MlpUpDw.nD Cert.MlpUpDw.τ).loc Cert.MlpUpDw.main_arg1))
      ∧ r.2.sem = fun _ => 0)

def quiescent_MlpUpDwIdeal [hMlpUpDwIdeal : Cert.MlpUpDwIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg), Pre_MlpUpDwIdeal m →
    θ_run (Cert.MlpUpDwIdeal.defs (F := Ideal)) (onTc (τ := Cert.MlpUpDwIdeal.τ) (Cert.MlpUpDwIdeal.main (F := Ideal))) ⟨m, fun _ => 0, g⟩ (fun r => (∀ c : Dev Cert.MlpUpDwIdeal.nD,
      r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
      ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ r.2.sem = fun _ => 0)

def quiescent_MlpUpDwRefIdeal [hMlpUpDwRefIdeal : Cert.MlpUpDwRefIdeal.Facts] : Prop :=
  ∀ (m : (ℓ : Loc Cert.MlpUpDwRefIdeal.nD Cert.MlpUpDwRefIdeal.τ Cert.MlpUpDwRefIdeal.sig) → Buf (Elt Ideal) ℓ) (g : Dev Cert.MlpUpDwRefIdeal.nD → PrngReg), Pre_MlpUpDwRefIdeal m →
    θ_run (Cert.MlpUpDwRefIdeal.defs (F := Ideal)) (onTc (τ := Cert.MlpUpDwRefIdeal.τ) (Cert.MlpUpDwRefIdeal.main (F := Ideal))) ⟨m, fun _ => 0, g⟩ (fun r => (∀ c : Dev Cert.MlpUpDwRefIdeal.nD,
      r.2.mem ((c.tc : Thread Cert.MlpUpDwRefIdeal.nD Cert.MlpUpDwRefIdeal.τ).loc Cert.MlpUpDwRefIdeal.main_arg0) = m ((c.tc : Thread Cert.MlpUpDwRefIdeal.nD Cert.MlpUpDwRefIdeal.τ).loc Cert.MlpUpDwRefIdeal.main_arg0)
      ∧ r.2.mem ((c.tc : Thread Cert.MlpUpDwRefIdeal.nD Cert.MlpUpDwRefIdeal.τ).loc Cert.MlpUpDwRefIdeal.main_arg1) = m ((c.tc : Thread Cert.MlpUpDwRefIdeal.nD Cert.MlpUpDwRefIdeal.τ).loc Cert.MlpUpDwRefIdeal.main_arg1))
      ∧ r.2.sem = fun _ => 0)

def quiescent_PleProjDw [hPleProjDw : Cert.PleProjDw.Facts] : Prop :=
  ∀ (m : (ℓ : Loc Cert.PleProjDw.nD Cert.PleProjDw.τ Cert.PleProjDw.sig) → Buf (Elt Bits) ℓ) (g : Dev Cert.PleProjDw.nD → PrngReg), Pre_PleProjDw m →
    θ_run (Cert.PleProjDw.defs (F := Bits)) (onTc (τ := Cert.PleProjDw.τ) (Cert.PleProjDw.main (F := Bits))) ⟨m, fun _ => 0, g⟩ (fun r => (∀ c : Dev Cert.PleProjDw.nD,
      r.2.mem ((c.tc : Thread Cert.PleProjDw.nD Cert.PleProjDw.τ).loc Cert.PleProjDw.main_arg0) = m ((c.tc : Thread Cert.PleProjDw.nD Cert.PleProjDw.τ).loc Cert.PleProjDw.main_arg0)
      ∧ r.2.mem ((c.tc : Thread Cert.PleProjDw.nD Cert.PleProjDw.τ).loc Cert.PleProjDw.main_arg1) = m ((c.tc : Thread Cert.PleProjDw.nD Cert.PleProjDw.τ).loc Cert.PleProjDw.main_arg1))
      ∧ r.2.sem = fun _ => 0)

def quiescent_PleProjDwIdeal [hPleProjDwIdeal : Cert.PleProjDwIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg), Pre_PleProjDwIdeal m →
    θ_run (Cert.PleProjDwIdeal.defs (F := Ideal)) (onTc (τ := Cert.PleProjDwIdeal.τ) (Cert.PleProjDwIdeal.main (F := Ideal))) ⟨m, fun _ => 0, g⟩ (fun r => (∀ c : Dev Cert.PleProjDwIdeal.nD,
      r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
      ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1))
      ∧ r.2.sem = fun _ => 0)

def quiescent_PleProjDwRefIdeal [hPleProjDwRefIdeal : Cert.PleProjDwRefIdeal.Facts] : Prop :=
  ∀ (m : (ℓ : Loc Cert.PleProjDwRefIdeal.nD Cert.PleProjDwRefIdeal.τ Cert.PleProjDwRefIdeal.sig) → Buf (Elt Ideal) ℓ) (g : Dev Cert.PleProjDwRefIdeal.nD → PrngReg), Pre_PleProjDwRefIdeal m →
    θ_run (Cert.PleProjDwRefIdeal.defs (F := Ideal)) (onTc (τ := Cert.PleProjDwRefIdeal.τ) (Cert.PleProjDwRefIdeal.main (F := Ideal))) ⟨m, fun _ => 0, g⟩ (fun r => (∀ c : Dev Cert.PleProjDwRefIdeal.nD,
      r.2.mem ((c.tc : Thread Cert.PleProjDwRefIdeal.nD Cert.PleProjDwRefIdeal.τ).loc Cert.PleProjDwRefIdeal.main_arg0) = m ((c.tc : Thread Cert.PleProjDwRefIdeal.nD Cert.PleProjDwRefIdeal.τ).loc Cert.PleProjDwRefIdeal.main_arg0)
      ∧ r.2.mem ((c.tc : Thread Cert.PleProjDwRefIdeal.nD Cert.PleProjDwRefIdeal.τ).loc Cert.PleProjDwRefIdeal.main_arg1) = m ((c.tc : Thread Cert.PleProjDwRefIdeal.nD Cert.PleProjDwRefIdeal.τ).loc Cert.PleProjDwRefIdeal.main_arg1))
      ∧ r.2.sem = fun _ => 0)

def quiescent_ProjInDwA [hProjInDwA : Cert.ProjInDwA.Facts] : Prop :=
  ∀ (m : (ℓ : Loc Cert.ProjInDwA.nD Cert.ProjInDwA.τ Cert.ProjInDwA.sig) → Buf (Elt Bits) ℓ) (g : Dev Cert.ProjInDwA.nD → PrngReg), Pre_ProjInDwA m →
    θ_run (Cert.ProjInDwA.defs (F := Bits)) (onTc (τ := Cert.ProjInDwA.τ) (Cert.ProjInDwA.main (F := Bits))) ⟨m, fun _ => 0, g⟩ (fun r => (∀ c : Dev Cert.ProjInDwA.nD,
      r.2.mem ((c.tc : Thread Cert.ProjInDwA.nD Cert.ProjInDwA.τ).loc Cert.ProjInDwA.main_arg0) = m ((c.tc : Thread Cert.ProjInDwA.nD Cert.ProjInDwA.τ).loc Cert.ProjInDwA.main_arg0)
      ∧ r.2.mem ((c.tc : Thread Cert.ProjInDwA.nD Cert.ProjInDwA.τ).loc Cert.ProjInDwA.main_arg1) = m ((c.tc : Thread Cert.ProjInDwA.nD Cert.ProjInDwA.τ).loc Cert.ProjInDwA.main_arg1))
      ∧ r.2.sem = fun _ => 0)

def quiescent_ProjInDwAIdeal [hProjInDwAIdeal : Cert.ProjInDwAIdeal.Facts] : Prop :=
  ∀ (m : (ℓ : Loc Cert.ProjInDwAIdeal.nD Cert.ProjInDwAIdeal.τ Cert.ProjInDwAIdeal.sig) → Buf (Elt Ideal) ℓ) (g : Dev Cert.ProjInDwAIdeal.nD → PrngReg), Pre_ProjInDwAIdeal m →
    θ_run (Cert.ProjInDwAIdeal.defs (F := Ideal)) (onTc (τ := Cert.ProjInDwAIdeal.τ) (Cert.ProjInDwAIdeal.main (F := Ideal))) ⟨m, fun _ => 0, g⟩ (fun r => (∀ c : Dev Cert.ProjInDwAIdeal.nD,
      r.2.mem ((c.tc : Thread Cert.ProjInDwAIdeal.nD Cert.ProjInDwAIdeal.τ).loc Cert.ProjInDwAIdeal.main_arg0) = m ((c.tc : Thread Cert.ProjInDwAIdeal.nD Cert.ProjInDwAIdeal.τ).loc Cert.ProjInDwAIdeal.main_arg0)
      ∧ r.2.mem ((c.tc : Thread Cert.ProjInDwAIdeal.nD Cert.ProjInDwAIdeal.τ).loc Cert.ProjInDwAIdeal.main_arg1) = m ((c.tc : Thread Cert.ProjInDwAIdeal.nD Cert.ProjInDwAIdeal.τ).loc Cert.ProjInDwAIdeal.main_arg1))
      ∧ r.2.sem = fun _ => 0)

def quiescent_ProjInDwARefIdeal [hProjInDwARefIdeal : Cert.ProjInDwARefIdeal.Facts] : Prop :=
  ∀ (m : (ℓ : Loc Cert.ProjInDwARefIdeal.nD Cert.ProjInDwARefIdeal.τ Cert.ProjInDwARefIdeal.sig) → Buf (Elt Ideal) ℓ) (g : Dev Cert.ProjInDwARefIdeal.nD → PrngReg), Pre_ProjInDwARefIdeal m →
    θ_run (Cert.ProjInDwARefIdeal.defs (F := Ideal)) (onTc (τ := Cert.ProjInDwARefIdeal.τ) (Cert.ProjInDwARefIdeal.main (F := Ideal))) ⟨m, fun _ => 0, g⟩ (fun r => (∀ c : Dev Cert.ProjInDwARefIdeal.nD,
      r.2.mem ((c.tc : Thread Cert.ProjInDwARefIdeal.nD Cert.ProjInDwARefIdeal.τ).loc Cert.ProjInDwARefIdeal.main_arg0) = m ((c.tc : Thread Cert.ProjInDwARefIdeal.nD Cert.ProjInDwARefIdeal.τ).loc Cert.ProjInDwARefIdeal.main_arg0)
      ∧ r.2.mem ((c.tc : Thread Cert.ProjInDwARefIdeal.nD Cert.ProjInDwARefIdeal.τ).loc Cert.ProjInDwARefIdeal.main_arg1) = m ((c.tc : Thread Cert.ProjInDwARefIdeal.nD Cert.ProjInDwARefIdeal.τ).loc Cert.ProjInDwARefIdeal.main_arg1))
      ∧ r.2.sem = fun _ => 0)

def quiescent_ProjInDwB [hProjInDwB : Cert.ProjInDwB.Facts] : Prop :=
  ∀ (m : (ℓ : Loc Cert.ProjInDwB.nD Cert.ProjInDwB.τ Cert.ProjInDwB.sig) → Buf (Elt Bits) ℓ) (g : Dev Cert.ProjInDwB.nD → PrngReg), Pre_ProjInDwB m →
    θ_run (Cert.ProjInDwB.defs (F := Bits)) (onTc (τ := Cert.ProjInDwB.τ) (Cert.ProjInDwB.main (F := Bits))) ⟨m, fun _ => 0, g⟩ (fun r => (∀ c : Dev Cert.ProjInDwB.nD,
      r.2.mem ((c.tc : Thread Cert.ProjInDwB.nD Cert.ProjInDwB.τ).loc Cert.ProjInDwB.main_arg0) = m ((c.tc : Thread Cert.ProjInDwB.nD Cert.ProjInDwB.τ).loc Cert.ProjInDwB.main_arg0)
      ∧ r.2.mem ((c.tc : Thread Cert.ProjInDwB.nD Cert.ProjInDwB.τ).loc Cert.ProjInDwB.main_arg1) = m ((c.tc : Thread Cert.ProjInDwB.nD Cert.ProjInDwB.τ).loc Cert.ProjInDwB.main_arg1))
      ∧ r.2.sem = fun _ => 0)

def quiescent_ProjInDwBIdeal [hProjInDwBIdeal : Cert.ProjInDwBIdeal.Facts] : Prop :=
  ∀ (m : (ℓ : Loc Cert.ProjInDwBIdeal.nD Cert.ProjInDwBIdeal.τ Cert.ProjInDwBIdeal.sig) → Buf (Elt Ideal) ℓ) (g : Dev Cert.ProjInDwBIdeal.nD → PrngReg), Pre_ProjInDwBIdeal m →
    θ_run (Cert.ProjInDwBIdeal.defs (F := Ideal)) (onTc (τ := Cert.ProjInDwBIdeal.τ) (Cert.ProjInDwBIdeal.main (F := Ideal))) ⟨m, fun _ => 0, g⟩ (fun r => (∀ c : Dev Cert.ProjInDwBIdeal.nD,
      r.2.mem ((c.tc : Thread Cert.ProjInDwBIdeal.nD Cert.ProjInDwBIdeal.τ).loc Cert.ProjInDwBIdeal.main_arg0) = m ((c.tc : Thread Cert.ProjInDwBIdeal.nD Cert.ProjInDwBIdeal.τ).loc Cert.ProjInDwBIdeal.main_arg0)
      ∧ r.2.mem ((c.tc : Thread Cert.ProjInDwBIdeal.nD Cert.ProjInDwBIdeal.τ).loc Cert.ProjInDwBIdeal.main_arg1) = m ((c.tc : Thread Cert.ProjInDwBIdeal.nD Cert.ProjInDwBIdeal.τ).loc Cert.ProjInDwBIdeal.main_arg1))
      ∧ r.2.sem = fun _ => 0)

def quiescent_ProjInDwBRefIdeal [hProjInDwBRefIdeal : Cert.ProjInDwBRefIdeal.Facts] : Prop :=
  ∀ (m : (ℓ : Loc Cert.ProjInDwBRefIdeal.nD Cert.ProjInDwBRefIdeal.τ Cert.ProjInDwBRefIdeal.sig) → Buf (Elt Ideal) ℓ) (g : Dev Cert.ProjInDwBRefIdeal.nD → PrngReg), Pre_ProjInDwBRefIdeal m →
    θ_run (Cert.ProjInDwBRefIdeal.defs (F := Ideal)) (onTc (τ := Cert.ProjInDwBRefIdeal.τ) (Cert.ProjInDwBRefIdeal.main (F := Ideal))) ⟨m, fun _ => 0, g⟩ (fun r => (∀ c : Dev Cert.ProjInDwBRefIdeal.nD,
      r.2.mem ((c.tc : Thread Cert.ProjInDwBRefIdeal.nD Cert.ProjInDwBRefIdeal.τ).loc Cert.ProjInDwBRefIdeal.main_arg0) = m ((c.tc : Thread Cert.ProjInDwBRefIdeal.nD Cert.ProjInDwBRefIdeal.τ).loc Cert.ProjInDwBRefIdeal.main_arg0)
      ∧ r.2.mem ((c.tc : Thread Cert.ProjInDwBRefIdeal.nD Cert.ProjInDwBRefIdeal.τ).loc Cert.ProjInDwBRefIdeal.main_arg1) = m ((c.tc : Thread Cert.ProjInDwBRefIdeal.nD Cert.ProjInDwBRefIdeal.τ).loc Cert.ProjInDwBRefIdeal.main_arg1))
      ∧ r.2.sem = fun _ => 0)

def quiescent_ProjInNarrowDw [hProjInNarrowDw : Cert.ProjInNarrowDw.Facts] : Prop :=
  ∀ (m : (ℓ : Loc Cert.ProjInNarrowDw.nD Cert.ProjInNarrowDw.τ Cert.ProjInNarrowDw.sig) → Buf (Elt Bits) ℓ) (g : Dev Cert.ProjInNarrowDw.nD → PrngReg), Pre_ProjInNarrowDw m →
    θ_run (Cert.ProjInNarrowDw.defs (F := Bits)) (onTc (τ := Cert.ProjInNarrowDw.τ) (Cert.ProjInNarrowDw.main (F := Bits))) ⟨m, fun _ => 0, g⟩ (fun r => (∀ c : Dev Cert.ProjInNarrowDw.nD,
      r.2.mem ((c.tc : Thread Cert.ProjInNarrowDw.nD Cert.ProjInNarrowDw.τ).loc Cert.ProjInNarrowDw.main_arg0) = m ((c.tc : Thread Cert.ProjInNarrowDw.nD Cert.ProjInNarrowDw.τ).loc Cert.ProjInNarrowDw.main_arg0)
      ∧ r.2.mem ((c.tc : Thread Cert.ProjInNarrowDw.nD Cert.ProjInNarrowDw.τ).loc Cert.ProjInNarrowDw.main_arg1) = m ((c.tc : Thread Cert.ProjInNarrowDw.nD Cert.ProjInNarrowDw.τ).loc Cert.ProjInNarrowDw.main_arg1))
      ∧ r.2.sem = fun _ => 0)

def quiescent_ProjInNarrowDwIdeal [hProjInNarrowDwIdeal : Cert.ProjInNarrowDwIdeal.Facts] : Prop :=
  ∀ (m : (ℓ : Loc Cert.ProjInNarrowDwIdeal.nD Cert.ProjInNarrowDwIdeal.τ Cert.ProjInNarrowDwIdeal.sig) → Buf (Elt Ideal) ℓ) (g : Dev Cert.ProjInNarrowDwIdeal.nD → PrngReg), Pre_ProjInNarrowDwIdeal m →
    θ_run (Cert.ProjInNarrowDwIdeal.defs (F := Ideal)) (onTc (τ := Cert.ProjInNarrowDwIdeal.τ) (Cert.ProjInNarrowDwIdeal.main (F := Ideal))) ⟨m, fun _ => 0, g⟩ (fun r => (∀ c : Dev Cert.ProjInNarrowDwIdeal.nD,
      r.2.mem ((c.tc : Thread Cert.ProjInNarrowDwIdeal.nD Cert.ProjInNarrowDwIdeal.τ).loc Cert.ProjInNarrowDwIdeal.main_arg0) = m ((c.tc : Thread Cert.ProjInNarrowDwIdeal.nD Cert.ProjInNarrowDwIdeal.τ).loc Cert.ProjInNarrowDwIdeal.main_arg0)
      ∧ r.2.mem ((c.tc : Thread Cert.ProjInNarrowDwIdeal.nD Cert.ProjInNarrowDwIdeal.τ).loc Cert.ProjInNarrowDwIdeal.main_arg1) = m ((c.tc : Thread Cert.ProjInNarrowDwIdeal.nD Cert.ProjInNarrowDwIdeal.τ).loc Cert.ProjInNarrowDwIdeal.main_arg1))
      ∧ r.2.sem = fun _ => 0)

def quiescent_ProjInNarrowDwRefIdeal [hProjInNarrowDwRefIdeal : Cert.ProjInNarrowDwRefIdeal.Facts] : Prop :=
  ∀ (m : (ℓ : Loc Cert.ProjInNarrowDwRefIdeal.nD Cert.ProjInNarrowDwRefIdeal.τ Cert.ProjInNarrowDwRefIdeal.sig) → Buf (Elt Ideal) ℓ) (g : Dev Cert.ProjInNarrowDwRefIdeal.nD → PrngReg), Pre_ProjInNarrowDwRefIdeal m →
    θ_run (Cert.ProjInNarrowDwRefIdeal.defs (F := Ideal)) (onTc (τ := Cert.ProjInNarrowDwRefIdeal.τ) (Cert.ProjInNarrowDwRefIdeal.main (F := Ideal))) ⟨m, fun _ => 0, g⟩ (fun r => (∀ c : Dev Cert.ProjInNarrowDwRefIdeal.nD,
      r.2.mem ((c.tc : Thread Cert.ProjInNarrowDwRefIdeal.nD Cert.ProjInNarrowDwRefIdeal.τ).loc Cert.ProjInNarrowDwRefIdeal.main_arg0) = m ((c.tc : Thread Cert.ProjInNarrowDwRefIdeal.nD Cert.ProjInNarrowDwRefIdeal.τ).loc Cert.ProjInNarrowDwRefIdeal.main_arg0)
      ∧ r.2.mem ((c.tc : Thread Cert.ProjInNarrowDwRefIdeal.nD Cert.ProjInNarrowDwRefIdeal.τ).loc Cert.ProjInNarrowDwRefIdeal.main_arg1) = m ((c.tc : Thread Cert.ProjInNarrowDwRefIdeal.nD Cert.ProjInNarrowDwRefIdeal.τ).loc Cert.ProjInNarrowDwRefIdeal.main_arg1))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamWProj [hAdamWProj : Cert.AdamWProj.Facts] : Prop :=
  ∀ (m : (ℓ : Loc Cert.AdamWProj.nD Cert.AdamWProj.τ Cert.AdamWProj.sig) → Buf (Elt Bits) ℓ) (g : Dev Cert.AdamWProj.nD → PrngReg), Pre_AdamWProj m →
    θ_run (Cert.AdamWProj.defs (F := Bits)) (onTc (τ := Cert.AdamWProj.τ) (Cert.AdamWProj.main (F := Bits))) ⟨m, fun _ => 0, g⟩ (fun r => (∀ c : Dev Cert.AdamWProj.nD,
      r.2.mem ((c.tc : Thread Cert.AdamWProj.nD Cert.AdamWProj.τ).loc Cert.AdamWProj.main_arg0) = m ((c.tc : Thread Cert.AdamWProj.nD Cert.AdamWProj.τ).loc Cert.AdamWProj.main_arg0)
      ∧ r.2.mem ((c.tc : Thread Cert.AdamWProj.nD Cert.AdamWProj.τ).loc Cert.AdamWProj.main_arg1) = m ((c.tc : Thread Cert.AdamWProj.nD Cert.AdamWProj.τ).loc Cert.AdamWProj.main_arg1)
      ∧ r.2.mem ((c.tc : Thread Cert.AdamWProj.nD Cert.AdamWProj.τ).loc Cert.AdamWProj.main_arg2) = m ((c.tc : Thread Cert.AdamWProj.nD Cert.AdamWProj.τ).loc Cert.AdamWProj.main_arg2)
      ∧ r.2.mem ((c.tc : Thread Cert.AdamWProj.nD Cert.AdamWProj.τ).loc Cert.AdamWProj.main_arg3) = m ((c.tc : Thread Cert.AdamWProj.nD Cert.AdamWProj.τ).loc Cert.AdamWProj.main_arg3))
      ∧ r.2.sem = fun _ => 0)

def quiescent_AdamWProjIdeal [hAdamWProjIdeal : Cert.AdamWProjIdeal.Facts] : Prop :=
  ∀ (m : (ℓ : Loc Cert.AdamWProjIdeal.nD Cert.AdamWProjIdeal.τ Cert.AdamWProjIdeal.sig) → Buf (Elt Ideal) ℓ) (g : Dev Cert.AdamWProjIdeal.nD → PrngReg), Pre_AdamWProjIdeal m →
    θ_run (Cert.AdamWProjIdeal.defs (F := Ideal)) (onTc (τ := Cert.AdamWProjIdeal.τ) (Cert.AdamWProjIdeal.main (F := Ideal))) ⟨m, fun _ => 0, g⟩ (fun r => (∀ c : Dev Cert.AdamWProjIdeal.nD,
      r.2.mem ((c.tc : Thread Cert.AdamWProjIdeal.nD Cert.AdamWProjIdeal.τ).loc Cert.AdamWProjIdeal.main_arg0) = m ((c.tc : Thread Cert.AdamWProjIdeal.nD Cert.AdamWProjIdeal.τ).loc Cert.AdamWProjIdeal.main_arg0)
      ∧ r.2.mem ((c.tc : Thread Cert.AdamWProjIdeal.nD Cert.AdamWProjIdeal.τ).loc Cert.AdamWProjIdeal.main_arg1) = m ((c.tc : Thread Cert.AdamWProjIdeal.nD Cert.AdamWProjIdeal.τ).loc Cert.AdamWProjIdeal.main_arg1)
      ∧ r.2.mem ((c.tc : Thread Cert.AdamWProjIdeal.nD Cert.AdamWProjIdeal.τ).loc Cert.AdamWProjIdeal.main_arg2) = m ((c.tc : Thread Cert.AdamWProjIdeal.nD Cert.AdamWProjIdeal.τ).loc Cert.AdamWProjIdeal.main_arg2)
      ∧ r.2.mem ((c.tc : Thread Cert.AdamWProjIdeal.nD Cert.AdamWProjIdeal.τ).loc Cert.AdamWProjIdeal.main_arg3) = m ((c.tc : Thread Cert.AdamWProjIdeal.nD Cert.AdamWProjIdeal.τ).loc Cert.AdamWProjIdeal.main_arg3))
      ∧ r.2.sem = fun _ => 0)

def quiescent_AdamWProjRefIdeal [hAdamWProjRefIdeal : Cert.AdamWProjRefIdeal.Facts] : Prop :=
  ∀ (m : (ℓ : Loc Cert.AdamWProjRefIdeal.nD Cert.AdamWProjRefIdeal.τ Cert.AdamWProjRefIdeal.sig) → Buf (Elt Ideal) ℓ) (g : Dev Cert.AdamWProjRefIdeal.nD → PrngReg), Pre_AdamWProjRefIdeal m →
    θ_run (Cert.AdamWProjRefIdeal.defs (F := Ideal)) (onTc (τ := Cert.AdamWProjRefIdeal.τ) (Cert.AdamWProjRefIdeal.main (F := Ideal))) ⟨m, fun _ => 0, g⟩ (fun r => (∀ c : Dev Cert.AdamWProjRefIdeal.nD,
      r.2.mem ((c.tc : Thread Cert.AdamWProjRefIdeal.nD Cert.AdamWProjRefIdeal.τ).loc Cert.AdamWProjRefIdeal.main_arg0) = m ((c.tc : Thread Cert.AdamWProjRefIdeal.nD Cert.AdamWProjRefIdeal.τ).loc Cert.AdamWProjRefIdeal.main_arg0)
      ∧ r.2.mem ((c.tc : Thread Cert.AdamWProjRefIdeal.nD Cert.AdamWProjRefIdeal.τ).loc Cert.AdamWProjRefIdeal.main_arg1) = m ((c.tc : Thread Cert.AdamWProjRefIdeal.nD Cert.AdamWProjRefIdeal.τ).loc Cert.AdamWProjRefIdeal.main_arg1)
      ∧ r.2.mem ((c.tc : Thread Cert.AdamWProjRefIdeal.nD Cert.AdamWProjRefIdeal.τ).loc Cert.AdamWProjRefIdeal.main_arg2) = m ((c.tc : Thread Cert.AdamWProjRefIdeal.nD Cert.AdamWProjRefIdeal.τ).loc Cert.AdamWProjRefIdeal.main_arg2)
      ∧ r.2.mem ((c.tc : Thread Cert.AdamWProjRefIdeal.nD Cert.AdamWProjRefIdeal.τ).loc Cert.AdamWProjRefIdeal.main_arg3) = m ((c.tc : Thread Cert.AdamWProjRefIdeal.nD Cert.AdamWProjRefIdeal.τ).loc Cert.AdamWProjRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v13) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v3_0)) (v1 : (c : Dev Cert.RmsIdeal.nD) → Buf (Elt Ideal) ((c.tc : Thread Cert.RmsIdeal.nD Cert.RmsIdeal.τ).loc Cert.RmsIdeal.main_v3_1)) (v2 : (c : Dev Cert.RmsIdeal.nD) → Buf (Elt Ideal) ((c.tc : Thread Cert.RmsIdeal.nD Cert.RmsIdeal.τ).loc Cert.RmsIdeal.main_v3_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v3_0) = v0 c
          ∧ r.2.mem ((c.tc : Thread Cert.RmsIdeal.nD Cert.RmsIdeal.τ).loc Cert.RmsIdeal.main_v3_1) = v1 c
          ∧ r.2.mem ((c.tc : Thread Cert.RmsIdeal.nD Cert.RmsIdeal.τ).loc Cert.RmsIdeal.main_v3_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v39) = v0 c
          ∧ r.2.mem ((c.tc : Thread Cert.RmsRefIdeal.nD Cert.RmsRefIdeal.τ).loc Cert.RmsRefIdeal.main_v41) = v1 c
          ∧ r.2.mem ((c.tc : Thread Cert.RmsRefIdeal.nD Cert.RmsRefIdeal.τ).loc Cert.RmsRefIdeal.main_v38) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v13_0)) (v1 : (c : Dev Cert.LossIdeal.nD) → Buf (Elt Ideal) ((c.tc : Thread Cert.LossIdeal.nD Cert.LossIdeal.τ).loc Cert.LossIdeal.main_v13_1)) (v2 : (c : Dev Cert.LossIdeal.nD) → Buf (Elt Ideal) ((c.tc : Thread Cert.LossIdeal.nD Cert.LossIdeal.τ).loc Cert.LossIdeal.main_v13_2)) (v3 : (c : Dev Cert.LossIdeal.nD) → Buf (Elt Ideal) ((c.tc : Thread Cert.LossIdeal.nD Cert.LossIdeal.τ).loc Cert.LossIdeal.main_v13_3)) (v4 : (c : Dev Cert.LossIdeal.nD) → Buf (Elt Ideal) ((c.tc : Thread Cert.LossIdeal.nD Cert.LossIdeal.τ).loc Cert.LossIdeal.main_v13_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v13_0) = v0 c
          ∧ r.2.mem ((c.tc : Thread Cert.LossIdeal.nD Cert.LossIdeal.τ).loc Cert.LossIdeal.main_v13_1) = v1 c
          ∧ r.2.mem ((c.tc : Thread Cert.LossIdeal.nD Cert.LossIdeal.τ).loc Cert.LossIdeal.main_v13_2) = v2 c
          ∧ r.2.mem ((c.tc : Thread Cert.LossIdeal.nD Cert.LossIdeal.τ).loc Cert.LossIdeal.main_v13_3) = v3 c
          ∧ r.2.mem ((c.tc : Thread Cert.LossIdeal.nD Cert.LossIdeal.τ).loc Cert.LossIdeal.main_v13_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v65) = v0 c
          ∧ r.2.mem ((c.tc : Thread Cert.LossRefIdeal.nD Cert.LossRefIdeal.τ).loc Cert.LossRefIdeal.main_v67) = v1 c
          ∧ r.2.mem ((c.tc : Thread Cert.LossRefIdeal.nD Cert.LossRefIdeal.τ).loc Cert.LossRefIdeal.main_v69) = v2 c
          ∧ r.2.mem ((c.tc : Thread Cert.LossRefIdeal.nD Cert.LossRefIdeal.τ).loc Cert.LossRefIdeal.main_v70) = v3 c
          ∧ r.2.mem ((c.tc : Thread Cert.LossRefIdeal.nD Cert.LossRefIdeal.τ).loc Cert.LossRefIdeal.main_v71) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v13_0)) (v1 : (c : Dev Cert.MergeIdeal.nD) → Buf (Elt Ideal) ((c.tc : Thread Cert.MergeIdeal.nD Cert.MergeIdeal.τ).loc Cert.MergeIdeal.main_v13_1)) (v2 : (c : Dev Cert.MergeIdeal.nD) → Buf (Elt Ideal) ((c.tc : Thread Cert.MergeIdeal.nD Cert.MergeIdeal.τ).loc Cert.MergeIdeal.main_v13_2)) (v3 : (c : Dev Cert.MergeIdeal.nD) → Buf (Elt Ideal) ((c.tc : Thread Cert.MergeIdeal.nD Cert.MergeIdeal.τ).loc Cert.MergeIdeal.main_v13_3)) (v4 : (c : Dev Cert.MergeIdeal.nD) → Buf (Elt Ideal) ((c.tc : Thread Cert.MergeIdeal.nD Cert.MergeIdeal.τ).loc Cert.MergeIdeal.main_v13_4)) (v5 : (c : Dev Cert.MergeIdeal.nD) → Buf (Elt Ideal) ((c.tc : Thread Cert.MergeIdeal.nD Cert.MergeIdeal.τ).loc Cert.MergeIdeal.main_v13_5)) (v6 : (c : Dev Cert.MergeIdeal.nD) → Buf (Elt Ideal) ((c.tc : Thread Cert.MergeIdeal.nD Cert.MergeIdeal.τ).loc Cert.MergeIdeal.main_v13_6)) (v7 : (c : Dev Cert.MergeIdeal.nD) → Buf (Elt Ideal) ((c.tc : Thread Cert.MergeIdeal.nD Cert.MergeIdeal.τ).loc Cert.MergeIdeal.main_v13_7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v13_0) = v0 c
          ∧ r.2.mem ((c.tc : Thread Cert.MergeIdeal.nD Cert.MergeIdeal.τ).loc Cert.MergeIdeal.main_v13_1) = v1 c
          ∧ r.2.mem ((c.tc : Thread Cert.MergeIdeal.nD Cert.MergeIdeal.τ).loc Cert.MergeIdeal.main_v13_2) = v2 c
          ∧ r.2.mem ((c.tc : Thread Cert.MergeIdeal.nD Cert.MergeIdeal.τ).loc Cert.MergeIdeal.main_v13_3) = v3 c
          ∧ r.2.mem ((c.tc : Thread Cert.MergeIdeal.nD Cert.MergeIdeal.τ).loc Cert.MergeIdeal.main_v13_4) = v4 c
          ∧ r.2.mem ((c.tc : Thread Cert.MergeIdeal.nD Cert.MergeIdeal.τ).loc Cert.MergeIdeal.main_v13_5) = v5 c
          ∧ r.2.mem ((c.tc : Thread Cert.MergeIdeal.nD Cert.MergeIdeal.τ).loc Cert.MergeIdeal.main_v13_6) = v6 c
          ∧ r.2.mem ((c.tc : Thread Cert.MergeIdeal.nD Cert.MergeIdeal.τ).loc Cert.MergeIdeal.main_v13_7) = v7 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v134) = v0 c
          ∧ r.2.mem ((c.tc : Thread Cert.MergeRefIdeal.nD Cert.MergeRefIdeal.τ).loc Cert.MergeRefIdeal.main_v136) = v1 c
          ∧ r.2.mem ((c.tc : Thread Cert.MergeRefIdeal.nD Cert.MergeRefIdeal.τ).loc Cert.MergeRefIdeal.main_v137) = v2 c
          ∧ r.2.mem ((c.tc : Thread Cert.MergeRefIdeal.nD Cert.MergeRefIdeal.τ).loc Cert.MergeRefIdeal.main_v139) = v3 c
          ∧ r.2.mem ((c.tc : Thread Cert.MergeRefIdeal.nD Cert.MergeRefIdeal.τ).loc Cert.MergeRefIdeal.main_v141) = v4 c
          ∧ r.2.mem ((c.tc : Thread Cert.MergeRefIdeal.nD Cert.MergeRefIdeal.τ).loc Cert.MergeRefIdeal.main_v143) = v5 c
          ∧ r.2.mem ((c.tc : Thread Cert.MergeRefIdeal.nD Cert.MergeRefIdeal.τ).loc Cert.MergeRefIdeal.main_v132) = v6 c
          ∧ r.2.mem ((c.tc : Thread Cert.MergeRefIdeal.nD Cert.MergeRefIdeal.τ).loc Cert.MergeRefIdeal.main_v106) = v7 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_ConvQ_ConvQIdeal : Prop :=
  True

def algebraic_ConvQIdeal_ConvQRefIdeal [hConvQIdeal : Cert.ConvQIdeal.Facts] [hConvQRefIdeal : Cert.ConvQRefIdeal.Facts] : Prop :=
  ∀ (m : (ℓ : Loc Cert.ConvQIdeal.nD Cert.ConvQIdeal.τ Cert.ConvQIdeal.sig) → Buf (Elt Ideal) ℓ) (g : Dev Cert.ConvQIdeal.nD → PrngReg)
    (m' : (ℓ : Loc Cert.ConvQRefIdeal.nD Cert.ConvQRefIdeal.τ Cert.ConvQRefIdeal.sig) → Buf (Elt Ideal) ℓ) (g' : Dev Cert.ConvQRefIdeal.nD → PrngReg), Pre_ConvQIdeal m →
    (∀ c : Dev Cert.ConvQIdeal.nD,
      m' ((c.tc : Thread Cert.ConvQRefIdeal.nD Cert.ConvQRefIdeal.τ).loc Cert.ConvQRefIdeal.main_arg0) = m ((c.tc : Thread Cert.ConvQIdeal.nD Cert.ConvQIdeal.τ).loc Cert.ConvQIdeal.main_arg0)
      ∧ m' ((c.tc : Thread Cert.ConvQRefIdeal.nD Cert.ConvQRefIdeal.τ).loc Cert.ConvQRefIdeal.main_arg1) = m ((c.tc : Thread Cert.ConvQIdeal.nD Cert.ConvQIdeal.τ).loc Cert.ConvQIdeal.main_arg1)
      ∧ m' ((c.tc : Thread Cert.ConvQRefIdeal.nD Cert.ConvQRefIdeal.τ).loc Cert.ConvQRefIdeal.main_arg2) = m ((c.tc : Thread Cert.ConvQIdeal.nD Cert.ConvQIdeal.τ).loc Cert.ConvQIdeal.main_arg2)) →
    ∃ (v0 : (c : Dev Cert.ConvQIdeal.nD) → Buf (Elt Ideal) ((c.tc : Thread Cert.ConvQIdeal.nD Cert.ConvQIdeal.τ).loc Cert.ConvQIdeal.main_v11_0)) (v1 : (c : Dev Cert.ConvQIdeal.nD) → Buf (Elt Ideal) ((c.tc : Thread Cert.ConvQIdeal.nD Cert.ConvQIdeal.τ).loc Cert.ConvQIdeal.main_v11_1)),
      θ_run (Cert.ConvQIdeal.defs (F := Ideal)) (onTc (τ := Cert.ConvQIdeal.τ) (Cert.ConvQIdeal.main (F := Ideal))) ⟨m, fun _ => 0, g⟩ (fun r => ∀ c : Dev Cert.ConvQIdeal.nD,
          r.2.mem ((c.tc : Thread Cert.ConvQIdeal.nD Cert.ConvQIdeal.τ).loc Cert.ConvQIdeal.main_v11_0) = v0 c
          ∧ r.2.mem ((c.tc : Thread Cert.ConvQIdeal.nD Cert.ConvQIdeal.τ).loc Cert.ConvQIdeal.main_v11_1) = v1 c
          ∧ r.2.mem ((c.tc : Thread Cert.ConvQIdeal.nD Cert.ConvQIdeal.τ).loc Cert.ConvQIdeal.main_arg0) = m ((c.tc : Thread Cert.ConvQIdeal.nD Cert.ConvQIdeal.τ).loc Cert.ConvQIdeal.main_arg0)
          ∧ r.2.mem ((c.tc : Thread Cert.ConvQIdeal.nD Cert.ConvQIdeal.τ).loc Cert.ConvQIdeal.main_arg1) = m ((c.tc : Thread Cert.ConvQIdeal.nD Cert.ConvQIdeal.τ).loc Cert.ConvQIdeal.main_arg1)
          ∧ r.2.mem ((c.tc : Thread Cert.ConvQIdeal.nD Cert.ConvQIdeal.τ).loc Cert.ConvQIdeal.main_arg2) = m ((c.tc : Thread Cert.ConvQIdeal.nD Cert.ConvQIdeal.τ).loc Cert.ConvQIdeal.main_arg2))
      ∧ θ_run (Cert.ConvQRefIdeal.defs (F := Ideal)) (onTc (τ := Cert.ConvQRefIdeal.τ) (Cert.ConvQRefIdeal.main (F := Ideal))) ⟨m', fun _ => 0, g'⟩ (fun r => ∀ c : Dev Cert.ConvQRefIdeal.nD,
          r.2.mem ((c.tc : Thread Cert.ConvQRefIdeal.nD Cert.ConvQRefIdeal.τ).loc Cert.ConvQRefIdeal.main_v123) = v0 c
          ∧ r.2.mem ((c.tc : Thread Cert.ConvQRefIdeal.nD Cert.ConvQRefIdeal.τ).loc Cert.ConvQRefIdeal.main_v117) = v1 c
          ∧ r.2.mem ((c.tc : Thread Cert.ConvQRefIdeal.nD Cert.ConvQRefIdeal.τ).loc Cert.ConvQRefIdeal.main_arg0) = m' ((c.tc : Thread Cert.ConvQRefIdeal.nD Cert.ConvQRefIdeal.τ).loc Cert.ConvQRefIdeal.main_arg0)
          ∧ r.2.mem ((c.tc : Thread Cert.ConvQRefIdeal.nD Cert.ConvQRefIdeal.τ).loc Cert.ConvQRefIdeal.main_arg1) = m' ((c.tc : Thread Cert.ConvQRefIdeal.nD Cert.ConvQRefIdeal.τ).loc Cert.ConvQRefIdeal.main_arg1)
          ∧ r.2.mem ((c.tc : Thread Cert.ConvQRefIdeal.nD Cert.ConvQRefIdeal.τ).loc Cert.ConvQRefIdeal.main_arg2) = m' ((c.tc : Thread Cert.ConvQRefIdeal.nD Cert.ConvQRefIdeal.τ).loc Cert.ConvQRefIdeal.main_arg2))

def preserves_ConvK_ConvKIdeal : Prop :=
  True

def algebraic_ConvKIdeal_ConvKRefIdeal [hConvKIdeal : Cert.ConvKIdeal.Facts] [hConvKRefIdeal : Cert.ConvKRefIdeal.Facts] : Prop :=
  ∀ (m : (ℓ : Loc Cert.ConvKIdeal.nD Cert.ConvKIdeal.τ Cert.ConvKIdeal.sig) → Buf (Elt Ideal) ℓ) (g : Dev Cert.ConvKIdeal.nD → PrngReg)
    (m' : (ℓ : Loc Cert.ConvKRefIdeal.nD Cert.ConvKRefIdeal.τ Cert.ConvKRefIdeal.sig) → Buf (Elt Ideal) ℓ) (g' : Dev Cert.ConvKRefIdeal.nD → PrngReg), Pre_ConvKIdeal m →
    (∀ c : Dev Cert.ConvKIdeal.nD,
      m' ((c.tc : Thread Cert.ConvKRefIdeal.nD Cert.ConvKRefIdeal.τ).loc Cert.ConvKRefIdeal.main_arg0) = m ((c.tc : Thread Cert.ConvKIdeal.nD Cert.ConvKIdeal.τ).loc Cert.ConvKIdeal.main_arg0)
      ∧ m' ((c.tc : Thread Cert.ConvKRefIdeal.nD Cert.ConvKRefIdeal.τ).loc Cert.ConvKRefIdeal.main_arg1) = m ((c.tc : Thread Cert.ConvKIdeal.nD Cert.ConvKIdeal.τ).loc Cert.ConvKIdeal.main_arg1)
      ∧ m' ((c.tc : Thread Cert.ConvKRefIdeal.nD Cert.ConvKRefIdeal.τ).loc Cert.ConvKRefIdeal.main_arg2) = m ((c.tc : Thread Cert.ConvKIdeal.nD Cert.ConvKIdeal.τ).loc Cert.ConvKIdeal.main_arg2)) →
    ∃ (v0 : (c : Dev Cert.ConvKIdeal.nD) → Buf (Elt Ideal) ((c.tc : Thread Cert.ConvKIdeal.nD Cert.ConvKIdeal.τ).loc Cert.ConvKIdeal.main_v11_0)) (v1 : (c : Dev Cert.ConvKIdeal.nD) → Buf (Elt Ideal) ((c.tc : Thread Cert.ConvKIdeal.nD Cert.ConvKIdeal.τ).loc Cert.ConvKIdeal.main_v11_1)),
      θ_run (Cert.ConvKIdeal.defs (F := Ideal)) (onTc (τ := Cert.ConvKIdeal.τ) (Cert.ConvKIdeal.main (F := Ideal))) ⟨m, fun _ => 0, g⟩ (fun r => ∀ c : Dev Cert.ConvKIdeal.nD,
          r.2.mem ((c.tc : Thread Cert.ConvKIdeal.nD Cert.ConvKIdeal.τ).loc Cert.ConvKIdeal.main_v11_0) = v0 c
          ∧ r.2.mem ((c.tc : Thread Cert.ConvKIdeal.nD Cert.ConvKIdeal.τ).loc Cert.ConvKIdeal.main_v11_1) = v1 c
          ∧ r.2.mem ((c.tc : Thread Cert.ConvKIdeal.nD Cert.ConvKIdeal.τ).loc Cert.ConvKIdeal.main_arg0) = m ((c.tc : Thread Cert.ConvKIdeal.nD Cert.ConvKIdeal.τ).loc Cert.ConvKIdeal.main_arg0)
          ∧ r.2.mem ((c.tc : Thread Cert.ConvKIdeal.nD Cert.ConvKIdeal.τ).loc Cert.ConvKIdeal.main_arg1) = m ((c.tc : Thread Cert.ConvKIdeal.nD Cert.ConvKIdeal.τ).loc Cert.ConvKIdeal.main_arg1)
          ∧ r.2.mem ((c.tc : Thread Cert.ConvKIdeal.nD Cert.ConvKIdeal.τ).loc Cert.ConvKIdeal.main_arg2) = m ((c.tc : Thread Cert.ConvKIdeal.nD Cert.ConvKIdeal.τ).loc Cert.ConvKIdeal.main_arg2))
      ∧ θ_run (Cert.ConvKRefIdeal.defs (F := Ideal)) (onTc (τ := Cert.ConvKRefIdeal.τ) (Cert.ConvKRefIdeal.main (F := Ideal))) ⟨m', fun _ => 0, g'⟩ (fun r => ∀ c : Dev Cert.ConvKRefIdeal.nD,
          r.2.mem ((c.tc : Thread Cert.ConvKRefIdeal.nD Cert.ConvKRefIdeal.τ).loc Cert.ConvKRefIdeal.main_v119) = v0 c
          ∧ r.2.mem ((c.tc : Thread Cert.ConvKRefIdeal.nD Cert.ConvKRefIdeal.τ).loc Cert.ConvKRefIdeal.main_v113) = v1 c
          ∧ r.2.mem ((c.tc : Thread Cert.ConvKRefIdeal.nD Cert.ConvKRefIdeal.τ).loc Cert.ConvKRefIdeal.main_arg0) = m' ((c.tc : Thread Cert.ConvKRefIdeal.nD Cert.ConvKRefIdeal.τ).loc Cert.ConvKRefIdeal.main_arg0)
          ∧ r.2.mem ((c.tc : Thread Cert.ConvKRefIdeal.nD Cert.ConvKRefIdeal.τ).loc Cert.ConvKRefIdeal.main_arg1) = m' ((c.tc : Thread Cert.ConvKRefIdeal.nD Cert.ConvKRefIdeal.τ).loc Cert.ConvKRefIdeal.main_arg1)
          ∧ r.2.mem ((c.tc : Thread Cert.ConvKRefIdeal.nD Cert.ConvKRefIdeal.τ).loc Cert.ConvKRefIdeal.main_arg2) = m' ((c.tc : Thread Cert.ConvKRefIdeal.nD Cert.ConvKRefIdeal.τ).loc Cert.ConvKRefIdeal.main_arg2))

def preserves_ConvV_ConvVIdeal : Prop :=
  True

def algebraic_ConvVIdeal_ConvVRefIdeal [hConvVIdeal : Cert.ConvVIdeal.Facts] [hConvVRefIdeal : Cert.ConvVRefIdeal.Facts] : Prop :=
  ∀ (m : (ℓ : Loc Cert.ConvVIdeal.nD Cert.ConvVIdeal.τ Cert.ConvVIdeal.sig) → Buf (Elt Ideal) ℓ) (g : Dev Cert.ConvVIdeal.nD → PrngReg)
    (m' : (ℓ : Loc Cert.ConvVRefIdeal.nD Cert.ConvVRefIdeal.τ Cert.ConvVRefIdeal.sig) → Buf (Elt Ideal) ℓ) (g' : Dev Cert.ConvVRefIdeal.nD → PrngReg), Pre_ConvVIdeal m →
    (∀ c : Dev Cert.ConvVIdeal.nD,
      m' ((c.tc : Thread Cert.ConvVRefIdeal.nD Cert.ConvVRefIdeal.τ).loc Cert.ConvVRefIdeal.main_arg0) = m ((c.tc : Thread Cert.ConvVIdeal.nD Cert.ConvVIdeal.τ).loc Cert.ConvVIdeal.main_arg0)
      ∧ m' ((c.tc : Thread Cert.ConvVRefIdeal.nD Cert.ConvVRefIdeal.τ).loc Cert.ConvVRefIdeal.main_arg1) = m ((c.tc : Thread Cert.ConvVIdeal.nD Cert.ConvVIdeal.τ).loc Cert.ConvVIdeal.main_arg1)
      ∧ m' ((c.tc : Thread Cert.ConvVRefIdeal.nD Cert.ConvVRefIdeal.τ).loc Cert.ConvVRefIdeal.main_arg2) = m ((c.tc : Thread Cert.ConvVIdeal.nD Cert.ConvVIdeal.τ).loc Cert.ConvVIdeal.main_arg2)) →
    ∃ (v0 : (c : Dev Cert.ConvVIdeal.nD) → Buf (Elt Ideal) ((c.tc : Thread Cert.ConvVIdeal.nD Cert.ConvVIdeal.τ).loc Cert.ConvVIdeal.main_v11_0)) (v1 : (c : Dev Cert.ConvVIdeal.nD) → Buf (Elt Ideal) ((c.tc : Thread Cert.ConvVIdeal.nD Cert.ConvVIdeal.τ).loc Cert.ConvVIdeal.main_v11_1)),
      θ_run (Cert.ConvVIdeal.defs (F := Ideal)) (onTc (τ := Cert.ConvVIdeal.τ) (Cert.ConvVIdeal.main (F := Ideal))) ⟨m, fun _ => 0, g⟩ (fun r => ∀ c : Dev Cert.ConvVIdeal.nD,
          r.2.mem ((c.tc : Thread Cert.ConvVIdeal.nD Cert.ConvVIdeal.τ).loc Cert.ConvVIdeal.main_v11_0) = v0 c
          ∧ r.2.mem ((c.tc : Thread Cert.ConvVIdeal.nD Cert.ConvVIdeal.τ).loc Cert.ConvVIdeal.main_v11_1) = v1 c
          ∧ r.2.mem ((c.tc : Thread Cert.ConvVIdeal.nD Cert.ConvVIdeal.τ).loc Cert.ConvVIdeal.main_arg0) = m ((c.tc : Thread Cert.ConvVIdeal.nD Cert.ConvVIdeal.τ).loc Cert.ConvVIdeal.main_arg0)
          ∧ r.2.mem ((c.tc : Thread Cert.ConvVIdeal.nD Cert.ConvVIdeal.τ).loc Cert.ConvVIdeal.main_arg1) = m ((c.tc : Thread Cert.ConvVIdeal.nD Cert.ConvVIdeal.τ).loc Cert.ConvVIdeal.main_arg1)
          ∧ r.2.mem ((c.tc : Thread Cert.ConvVIdeal.nD Cert.ConvVIdeal.τ).loc Cert.ConvVIdeal.main_arg2) = m ((c.tc : Thread Cert.ConvVIdeal.nD Cert.ConvVIdeal.τ).loc Cert.ConvVIdeal.main_arg2))
      ∧ θ_run (Cert.ConvVRefIdeal.defs (F := Ideal)) (onTc (τ := Cert.ConvVRefIdeal.τ) (Cert.ConvVRefIdeal.main (F := Ideal))) ⟨m', fun _ => 0, g'⟩ (fun r => ∀ c : Dev Cert.ConvVRefIdeal.nD,
          r.2.mem ((c.tc : Thread Cert.ConvVRefIdeal.nD Cert.ConvVRefIdeal.τ).loc Cert.ConvVRefIdeal.main_v81) = v0 c
          ∧ r.2.mem ((c.tc : Thread Cert.ConvVRefIdeal.nD Cert.ConvVRefIdeal.τ).loc Cert.ConvVRefIdeal.main_v75) = v1 c
          ∧ r.2.mem ((c.tc : Thread Cert.ConvVRefIdeal.nD Cert.ConvVRefIdeal.τ).loc Cert.ConvVRefIdeal.main_arg0) = m' ((c.tc : Thread Cert.ConvVRefIdeal.nD Cert.ConvVRefIdeal.τ).loc Cert.ConvVRefIdeal.main_arg0)
          ∧ r.2.mem ((c.tc : Thread Cert.ConvVRefIdeal.nD Cert.ConvVRefIdeal.τ).loc Cert.ConvVRefIdeal.main_arg1) = m' ((c.tc : Thread Cert.ConvVRefIdeal.nD Cert.ConvVRefIdeal.τ).loc Cert.ConvVRefIdeal.main_arg1)
          ∧ r.2.mem ((c.tc : Thread Cert.ConvVRefIdeal.nD Cert.ConvVRefIdeal.τ).loc Cert.ConvVRefIdeal.main_arg2) = m' ((c.tc : Thread Cert.ConvVRefIdeal.nD Cert.ConvVRefIdeal.τ).loc Cert.ConvVRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v15) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v12)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v12) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v63) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_ConvFwdQ_ConvFwdQIdeal : Prop :=
  True

def algebraic_ConvFwdQIdeal_ConvFwdQRefIdeal [hConvFwdQIdeal : Cert.ConvFwdQIdeal.Facts] [hConvFwdQRefIdeal : Cert.ConvFwdQRefIdeal.Facts] : Prop :=
  ∀ (m : (ℓ : Loc Cert.ConvFwdQIdeal.nD Cert.ConvFwdQIdeal.τ Cert.ConvFwdQIdeal.sig) → Buf (Elt Ideal) ℓ) (g : Dev Cert.ConvFwdQIdeal.nD → PrngReg)
    (m' : (ℓ : Loc Cert.ConvFwdQRefIdeal.nD Cert.ConvFwdQRefIdeal.τ Cert.ConvFwdQRefIdeal.sig) → Buf (Elt Ideal) ℓ) (g' : Dev Cert.ConvFwdQRefIdeal.nD → PrngReg), Pre_ConvFwdQIdeal m →
    (∀ c : Dev Cert.ConvFwdQIdeal.nD,
      m' ((c.tc : Thread Cert.ConvFwdQRefIdeal.nD Cert.ConvFwdQRefIdeal.τ).loc Cert.ConvFwdQRefIdeal.main_arg0) = m ((c.tc : Thread Cert.ConvFwdQIdeal.nD Cert.ConvFwdQIdeal.τ).loc Cert.ConvFwdQIdeal.main_arg0)
      ∧ m' ((c.tc : Thread Cert.ConvFwdQRefIdeal.nD Cert.ConvFwdQRefIdeal.τ).loc Cert.ConvFwdQRefIdeal.main_arg1) = m ((c.tc : Thread Cert.ConvFwdQIdeal.nD Cert.ConvFwdQIdeal.τ).loc Cert.ConvFwdQIdeal.main_arg1)) →
    ∃ (v0 : (c : Dev Cert.ConvFwdQIdeal.nD) → Buf (Elt Ideal) ((c.tc : Thread Cert.ConvFwdQIdeal.nD Cert.ConvFwdQIdeal.τ).loc Cert.ConvFwdQIdeal.main_v10)),
      θ_run (Cert.ConvFwdQIdeal.defs (F := Ideal)) (onTc (τ := Cert.ConvFwdQIdeal.τ) (Cert.ConvFwdQIdeal.main (F := Ideal))) ⟨m, fun _ => 0, g⟩ (fun r => ∀ c : Dev Cert.ConvFwdQIdeal.nD,
          r.2.mem ((c.tc : Thread Cert.ConvFwdQIdeal.nD Cert.ConvFwdQIdeal.τ).loc Cert.ConvFwdQIdeal.main_v10) = v0 c
          ∧ r.2.mem ((c.tc : Thread Cert.ConvFwdQIdeal.nD Cert.ConvFwdQIdeal.τ).loc Cert.ConvFwdQIdeal.main_arg0) = m ((c.tc : Thread Cert.ConvFwdQIdeal.nD Cert.ConvFwdQIdeal.τ).loc Cert.ConvFwdQIdeal.main_arg0)
          ∧ r.2.mem ((c.tc : Thread Cert.ConvFwdQIdeal.nD Cert.ConvFwdQIdeal.τ).loc Cert.ConvFwdQIdeal.main_arg1) = m ((c.tc : Thread Cert.ConvFwdQIdeal.nD Cert.ConvFwdQIdeal.τ).loc Cert.ConvFwdQIdeal.main_arg1))
      ∧ θ_run (Cert.ConvFwdQRefIdeal.defs (F := Ideal)) (onTc (τ := Cert.ConvFwdQRefIdeal.τ) (Cert.ConvFwdQRefIdeal.main (F := Ideal))) ⟨m', fun _ => 0, g'⟩ (fun r => ∀ c : Dev Cert.ConvFwdQRefIdeal.nD,
          r.2.mem ((c.tc : Thread Cert.ConvFwdQRefIdeal.nD Cert.ConvFwdQRefIdeal.τ).loc Cert.ConvFwdQRefIdeal.main_v57) = v0 c
          ∧ r.2.mem ((c.tc : Thread Cert.ConvFwdQRefIdeal.nD Cert.ConvFwdQRefIdeal.τ).loc Cert.ConvFwdQRefIdeal.main_arg0) = m' ((c.tc : Thread Cert.ConvFwdQRefIdeal.nD Cert.ConvFwdQRefIdeal.τ).loc Cert.ConvFwdQRefIdeal.main_arg0)
          ∧ r.2.mem ((c.tc : Thread Cert.ConvFwdQRefIdeal.nD Cert.ConvFwdQRefIdeal.τ).loc Cert.ConvFwdQRefIdeal.main_arg1) = m' ((c.tc : Thread Cert.ConvFwdQRefIdeal.nD Cert.ConvFwdQRefIdeal.τ).loc Cert.ConvFwdQRefIdeal.main_arg1))

def preserves_ConvFwdK_ConvFwdKIdeal : Prop :=
  True

def algebraic_ConvFwdKIdeal_ConvFwdKRefIdeal [hConvFwdKIdeal : Cert.ConvFwdKIdeal.Facts] [hConvFwdKRefIdeal : Cert.ConvFwdKRefIdeal.Facts] : Prop :=
  ∀ (m : (ℓ : Loc Cert.ConvFwdKIdeal.nD Cert.ConvFwdKIdeal.τ Cert.ConvFwdKIdeal.sig) → Buf (Elt Ideal) ℓ) (g : Dev Cert.ConvFwdKIdeal.nD → PrngReg)
    (m' : (ℓ : Loc Cert.ConvFwdKRefIdeal.nD Cert.ConvFwdKRefIdeal.τ Cert.ConvFwdKRefIdeal.sig) → Buf (Elt Ideal) ℓ) (g' : Dev Cert.ConvFwdKRefIdeal.nD → PrngReg), Pre_ConvFwdKIdeal m →
    (∀ c : Dev Cert.ConvFwdKIdeal.nD,
      m' ((c.tc : Thread Cert.ConvFwdKRefIdeal.nD Cert.ConvFwdKRefIdeal.τ).loc Cert.ConvFwdKRefIdeal.main_arg0) = m ((c.tc : Thread Cert.ConvFwdKIdeal.nD Cert.ConvFwdKIdeal.τ).loc Cert.ConvFwdKIdeal.main_arg0)
      ∧ m' ((c.tc : Thread Cert.ConvFwdKRefIdeal.nD Cert.ConvFwdKRefIdeal.τ).loc Cert.ConvFwdKRefIdeal.main_arg1) = m ((c.tc : Thread Cert.ConvFwdKIdeal.nD Cert.ConvFwdKIdeal.τ).loc Cert.ConvFwdKIdeal.main_arg1)) →
    ∃ (v0 : (c : Dev Cert.ConvFwdKIdeal.nD) → Buf (Elt Ideal) ((c.tc : Thread Cert.ConvFwdKIdeal.nD Cert.ConvFwdKIdeal.τ).loc Cert.ConvFwdKIdeal.main_v10)),
      θ_run (Cert.ConvFwdKIdeal.defs (F := Ideal)) (onTc (τ := Cert.ConvFwdKIdeal.τ) (Cert.ConvFwdKIdeal.main (F := Ideal))) ⟨m, fun _ => 0, g⟩ (fun r => ∀ c : Dev Cert.ConvFwdKIdeal.nD,
          r.2.mem ((c.tc : Thread Cert.ConvFwdKIdeal.nD Cert.ConvFwdKIdeal.τ).loc Cert.ConvFwdKIdeal.main_v10) = v0 c
          ∧ r.2.mem ((c.tc : Thread Cert.ConvFwdKIdeal.nD Cert.ConvFwdKIdeal.τ).loc Cert.ConvFwdKIdeal.main_arg0) = m ((c.tc : Thread Cert.ConvFwdKIdeal.nD Cert.ConvFwdKIdeal.τ).loc Cert.ConvFwdKIdeal.main_arg0)
          ∧ r.2.mem ((c.tc : Thread Cert.ConvFwdKIdeal.nD Cert.ConvFwdKIdeal.τ).loc Cert.ConvFwdKIdeal.main_arg1) = m ((c.tc : Thread Cert.ConvFwdKIdeal.nD Cert.ConvFwdKIdeal.τ).loc Cert.ConvFwdKIdeal.main_arg1))
      ∧ θ_run (Cert.ConvFwdKRefIdeal.defs (F := Ideal)) (onTc (τ := Cert.ConvFwdKRefIdeal.τ) (Cert.ConvFwdKRefIdeal.main (F := Ideal))) ⟨m', fun _ => 0, g'⟩ (fun r => ∀ c : Dev Cert.ConvFwdKRefIdeal.nD,
          r.2.mem ((c.tc : Thread Cert.ConvFwdKRefIdeal.nD Cert.ConvFwdKRefIdeal.τ).loc Cert.ConvFwdKRefIdeal.main_v55) = v0 c
          ∧ r.2.mem ((c.tc : Thread Cert.ConvFwdKRefIdeal.nD Cert.ConvFwdKRefIdeal.τ).loc Cert.ConvFwdKRefIdeal.main_arg0) = m' ((c.tc : Thread Cert.ConvFwdKRefIdeal.nD Cert.ConvFwdKRefIdeal.τ).loc Cert.ConvFwdKRefIdeal.main_arg0)
          ∧ r.2.mem ((c.tc : Thread Cert.ConvFwdKRefIdeal.nD Cert.ConvFwdKRefIdeal.τ).loc Cert.ConvFwdKRefIdeal.main_arg1) = m' ((c.tc : Thread Cert.ConvFwdKRefIdeal.nD Cert.ConvFwdKRefIdeal.τ).loc Cert.ConvFwdKRefIdeal.main_arg1))

def preserves_ConvFwdV_ConvFwdVIdeal : Prop :=
  True

def algebraic_ConvFwdVIdeal_ConvFwdVRefIdeal [hConvFwdVIdeal : Cert.ConvFwdVIdeal.Facts] [hConvFwdVRefIdeal : Cert.ConvFwdVRefIdeal.Facts] : Prop :=
  ∀ (m : (ℓ : Loc Cert.ConvFwdVIdeal.nD Cert.ConvFwdVIdeal.τ Cert.ConvFwdVIdeal.sig) → Buf (Elt Ideal) ℓ) (g : Dev Cert.ConvFwdVIdeal.nD → PrngReg)
    (m' : (ℓ : Loc Cert.ConvFwdVRefIdeal.nD Cert.ConvFwdVRefIdeal.τ Cert.ConvFwdVRefIdeal.sig) → Buf (Elt Ideal) ℓ) (g' : Dev Cert.ConvFwdVRefIdeal.nD → PrngReg), Pre_ConvFwdVIdeal m →
    (∀ c : Dev Cert.ConvFwdVIdeal.nD,
      m' ((c.tc : Thread Cert.ConvFwdVRefIdeal.nD Cert.ConvFwdVRefIdeal.τ).loc Cert.ConvFwdVRefIdeal.main_arg0) = m ((c.tc : Thread Cert.ConvFwdVIdeal.nD Cert.ConvFwdVIdeal.τ).loc Cert.ConvFwdVIdeal.main_arg0)
      ∧ m' ((c.tc : Thread Cert.ConvFwdVRefIdeal.nD Cert.ConvFwdVRefIdeal.τ).loc Cert.ConvFwdVRefIdeal.main_arg1) = m ((c.tc : Thread Cert.ConvFwdVIdeal.nD Cert.ConvFwdVIdeal.τ).loc Cert.ConvFwdVIdeal.main_arg1)) →
    ∃ (v0 : (c : Dev Cert.ConvFwdVIdeal.nD) → Buf (Elt Ideal) ((c.tc : Thread Cert.ConvFwdVIdeal.nD Cert.ConvFwdVIdeal.τ).loc Cert.ConvFwdVIdeal.main_v10)),
      θ_run (Cert.ConvFwdVIdeal.defs (F := Ideal)) (onTc (τ := Cert.ConvFwdVIdeal.τ) (Cert.ConvFwdVIdeal.main (F := Ideal))) ⟨m, fun _ => 0, g⟩ (fun r => ∀ c : Dev Cert.ConvFwdVIdeal.nD,
          r.2.mem ((c.tc : Thread Cert.ConvFwdVIdeal.nD Cert.ConvFwdVIdeal.τ).loc Cert.ConvFwdVIdeal.main_v10) = v0 c
          ∧ r.2.mem ((c.tc : Thread Cert.ConvFwdVIdeal.nD Cert.ConvFwdVIdeal.τ).loc Cert.ConvFwdVIdeal.main_arg0) = m ((c.tc : Thread Cert.ConvFwdVIdeal.nD Cert.ConvFwdVIdeal.τ).loc Cert.ConvFwdVIdeal.main_arg0)
          ∧ r.2.mem ((c.tc : Thread Cert.ConvFwdVIdeal.nD Cert.ConvFwdVIdeal.τ).loc Cert.ConvFwdVIdeal.main_arg1) = m ((c.tc : Thread Cert.ConvFwdVIdeal.nD Cert.ConvFwdVIdeal.τ).loc Cert.ConvFwdVIdeal.main_arg1))
      ∧ θ_run (Cert.ConvFwdVRefIdeal.defs (F := Ideal)) (onTc (τ := Cert.ConvFwdVRefIdeal.τ) (Cert.ConvFwdVRefIdeal.main (F := Ideal))) ⟨m', fun _ => 0, g'⟩ (fun r => ∀ c : Dev Cert.ConvFwdVRefIdeal.nD,
          r.2.mem ((c.tc : Thread Cert.ConvFwdVRefIdeal.nD Cert.ConvFwdVRefIdeal.τ).loc Cert.ConvFwdVRefIdeal.main_v45) = v0 c
          ∧ r.2.mem ((c.tc : Thread Cert.ConvFwdVRefIdeal.nD Cert.ConvFwdVRefIdeal.τ).loc Cert.ConvFwdVRefIdeal.main_arg0) = m' ((c.tc : Thread Cert.ConvFwdVRefIdeal.nD Cert.ConvFwdVRefIdeal.τ).loc Cert.ConvFwdVRefIdeal.main_arg0)
          ∧ r.2.mem ((c.tc : Thread Cert.ConvFwdVRefIdeal.nD Cert.ConvFwdVRefIdeal.τ).loc Cert.ConvFwdVRefIdeal.main_arg1) = m' ((c.tc : Thread Cert.ConvFwdVRefIdeal.nD Cert.ConvFwdVRefIdeal.τ).loc Cert.ConvFwdVRefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v5_0)) (v1 : (c : Dev Cert.MlpUpIdeal.nD) → Buf (Elt Ideal) ((c.tc : Thread Cert.MlpUpIdeal.nD Cert.MlpUpIdeal.τ).loc Cert.MlpUpIdeal.main_v5_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v5_0) = v0 c
          ∧ r.2.mem ((c.tc : Thread Cert.MlpUpIdeal.nD Cert.MlpUpIdeal.τ).loc Cert.MlpUpIdeal.main_v5_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v1) = v0 c
          ∧ r.2.mem ((c.tc : Thread Cert.MlpUpRefIdeal.nD Cert.MlpUpRefIdeal.τ).loc Cert.MlpUpRefIdeal.main_v5) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_AddNorm_AddNormIdeal : Prop :=
  True

def algebraic_AddNormIdeal_AddNormRefIdeal [hAddNormIdeal : Cert.AddNormIdeal.Facts] [hAddNormRefIdeal : Cert.AddNormRefIdeal.Facts] : Prop :=
  ∀ (m : (ℓ : Loc Cert.AddNormIdeal.nD Cert.AddNormIdeal.τ Cert.AddNormIdeal.sig) → Buf (Elt Ideal) ℓ) (g : Dev Cert.AddNormIdeal.nD → PrngReg)
    (m' : (ℓ : Loc Cert.AddNormRefIdeal.nD Cert.AddNormRefIdeal.τ Cert.AddNormRefIdeal.sig) → Buf (Elt Ideal) ℓ) (g' : Dev Cert.AddNormRefIdeal.nD → PrngReg), Pre_AddNormIdeal m →
    (∀ c : Dev Cert.AddNormIdeal.nD,
      m' ((c.tc : Thread Cert.AddNormRefIdeal.nD Cert.AddNormRefIdeal.τ).loc Cert.AddNormRefIdeal.main_arg0) = m ((c.tc : Thread Cert.AddNormIdeal.nD Cert.AddNormIdeal.τ).loc Cert.AddNormIdeal.main_arg0)
      ∧ m' ((c.tc : Thread Cert.AddNormRefIdeal.nD Cert.AddNormRefIdeal.τ).loc Cert.AddNormRefIdeal.main_arg1) = m ((c.tc : Thread Cert.AddNormIdeal.nD Cert.AddNormIdeal.τ).loc Cert.AddNormIdeal.main_arg1)
      ∧ m' ((c.tc : Thread Cert.AddNormRefIdeal.nD Cert.AddNormRefIdeal.τ).loc Cert.AddNormRefIdeal.main_arg2) = m ((c.tc : Thread Cert.AddNormIdeal.nD Cert.AddNormIdeal.τ).loc Cert.AddNormIdeal.main_arg2)
      ∧ m' ((c.tc : Thread Cert.AddNormRefIdeal.nD Cert.AddNormRefIdeal.τ).loc Cert.AddNormRefIdeal.main_arg3) = m ((c.tc : Thread Cert.AddNormIdeal.nD Cert.AddNormIdeal.τ).loc Cert.AddNormIdeal.main_arg3)) →
    ∃ (v0 : (c : Dev Cert.AddNormIdeal.nD) → Buf (Elt Ideal) ((c.tc : Thread Cert.AddNormIdeal.nD Cert.AddNormIdeal.τ).loc Cert.AddNormIdeal.main_v4_0)) (v1 : (c : Dev Cert.AddNormIdeal.nD) → Buf (Elt Ideal) ((c.tc : Thread Cert.AddNormIdeal.nD Cert.AddNormIdeal.τ).loc Cert.AddNormIdeal.main_v4_1)),
      θ_run (Cert.AddNormIdeal.defs (F := Ideal)) (onTc (τ := Cert.AddNormIdeal.τ) (Cert.AddNormIdeal.main (F := Ideal))) ⟨m, fun _ => 0, g⟩ (fun r => ∀ c : Dev Cert.AddNormIdeal.nD,
          r.2.mem ((c.tc : Thread Cert.AddNormIdeal.nD Cert.AddNormIdeal.τ).loc Cert.AddNormIdeal.main_v4_0) = v0 c
          ∧ r.2.mem ((c.tc : Thread Cert.AddNormIdeal.nD Cert.AddNormIdeal.τ).loc Cert.AddNormIdeal.main_v4_1) = v1 c
          ∧ r.2.mem ((c.tc : Thread Cert.AddNormIdeal.nD Cert.AddNormIdeal.τ).loc Cert.AddNormIdeal.main_arg0) = m ((c.tc : Thread Cert.AddNormIdeal.nD Cert.AddNormIdeal.τ).loc Cert.AddNormIdeal.main_arg0)
          ∧ r.2.mem ((c.tc : Thread Cert.AddNormIdeal.nD Cert.AddNormIdeal.τ).loc Cert.AddNormIdeal.main_arg1) = m ((c.tc : Thread Cert.AddNormIdeal.nD Cert.AddNormIdeal.τ).loc Cert.AddNormIdeal.main_arg1)
          ∧ r.2.mem ((c.tc : Thread Cert.AddNormIdeal.nD Cert.AddNormIdeal.τ).loc Cert.AddNormIdeal.main_arg2) = m ((c.tc : Thread Cert.AddNormIdeal.nD Cert.AddNormIdeal.τ).loc Cert.AddNormIdeal.main_arg2)
          ∧ r.2.mem ((c.tc : Thread Cert.AddNormIdeal.nD Cert.AddNormIdeal.τ).loc Cert.AddNormIdeal.main_arg3) = m ((c.tc : Thread Cert.AddNormIdeal.nD Cert.AddNormIdeal.τ).loc Cert.AddNormIdeal.main_arg3))
      ∧ θ_run (Cert.AddNormRefIdeal.defs (F := Ideal)) (onTc (τ := Cert.AddNormRefIdeal.τ) (Cert.AddNormRefIdeal.main (F := Ideal))) ⟨m', fun _ => 0, g'⟩ (fun r => ∀ c : Dev Cert.AddNormRefIdeal.nD,
          r.2.mem ((c.tc : Thread Cert.AddNormRefIdeal.nD Cert.AddNormRefIdeal.τ).loc Cert.AddNormRefIdeal.main_v2) = v0 c
          ∧ r.2.mem ((c.tc : Thread Cert.AddNormRefIdeal.nD Cert.AddNormRefIdeal.τ).loc Cert.AddNormRefIdeal.main_v18) = v1 c
          ∧ r.2.mem ((c.tc : Thread Cert.AddNormRefIdeal.nD Cert.AddNormRefIdeal.τ).loc Cert.AddNormRefIdeal.main_arg0) = m' ((c.tc : Thread Cert.AddNormRefIdeal.nD Cert.AddNormRefIdeal.τ).loc Cert.AddNormRefIdeal.main_arg0)
          ∧ r.2.mem ((c.tc : Thread Cert.AddNormRefIdeal.nD Cert.AddNormRefIdeal.τ).loc Cert.AddNormRefIdeal.main_arg1) = m' ((c.tc : Thread Cert.AddNormRefIdeal.nD Cert.AddNormRefIdeal.τ).loc Cert.AddNormRefIdeal.main_arg1)
          ∧ r.2.mem ((c.tc : Thread Cert.AddNormRefIdeal.nD Cert.AddNormRefIdeal.τ).loc Cert.AddNormRefIdeal.main_arg2) = m' ((c.tc : Thread Cert.AddNormRefIdeal.nD Cert.AddNormRefIdeal.τ).loc Cert.AddNormRefIdeal.main_arg2)
          ∧ r.2.mem ((c.tc : Thread Cert.AddNormRefIdeal.nD Cert.AddNormRefIdeal.τ).loc Cert.AddNormRefIdeal.main_arg3) = m' ((c.tc : Thread Cert.AddNormRefIdeal.nD Cert.AddNormRefIdeal.τ).loc Cert.AddNormRefIdeal.main_arg3))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)
      ∧ m' ((c.tc : Thread Cert.MlpDownRefIdeal.nD Cert.MlpDownRefIdeal.τ).loc Cert.MlpDownRefIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v4_0)) (v1 : (c : Dev Cert.MlpDownIdeal.nD) → Buf (Elt Ideal) ((c.tc : Thread Cert.MlpDownIdeal.nD Cert.MlpDownIdeal.τ).loc Cert.MlpDownIdeal.main_v4_1)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v4_0) = v0 c
          ∧ r.2.mem ((c.tc : Thread Cert.MlpDownIdeal.nD Cert.MlpDownIdeal.τ).loc Cert.MlpDownIdeal.main_v4_1) = v1 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_v18) = v1 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2)
          ∧ r.2.mem ((c.tc : Thread Cert.MlpDownRefIdeal.nD Cert.MlpDownRefIdeal.τ).loc Cert.MlpDownRefIdeal.main_arg3) = m' ((c.tc : Thread Cert.MlpDownRefIdeal.nD Cert.MlpDownRefIdeal.τ).loc Cert.MlpDownRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v5_0)) (v1 : (c : Dev Cert.GateIdeal.nD) → Buf (Elt Ideal) ((c.tc : Thread Cert.GateIdeal.nD Cert.GateIdeal.τ).loc Cert.GateIdeal.main_v5_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v5_0) = v0 c
          ∧ r.2.mem ((c.tc : Thread Cert.GateIdeal.nD Cert.GateIdeal.τ).loc Cert.GateIdeal.main_v5_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v1) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v13)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v13) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v5) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v1_0)) (v1 : (c : Dev Cert.PairSumIdeal.nD) → Buf (Elt Ideal) ((c.tc : Thread Cert.PairSumIdeal.nD Cert.PairSumIdeal.τ).loc Cert.PairSumIdeal.main_v1_1)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v1_0) = v0 c
          ∧ r.2.mem ((c.tc : Thread Cert.PairSumIdeal.nD Cert.PairSumIdeal.τ).loc Cert.PairSumIdeal.main_v1_1) = v1 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v1) = v0 c
          ∧ r.2.mem ((c.tc : Thread Cert.PairSumRefIdeal.nD Cert.PairSumRefIdeal.τ).loc Cert.PairSumRefIdeal.main_v2) = v1 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def preserves_FinalSum_FinalSumIdeal : Prop :=
  True

def algebraic_FinalSumIdeal_FinalSumRefIdeal [hFinalSumIdeal : Cert.FinalSumIdeal.Facts] [hFinalSumRefIdeal : Cert.FinalSumRefIdeal.Facts] : Prop :=
  ∀ (m : (ℓ : Loc Cert.FinalSumIdeal.nD Cert.FinalSumIdeal.τ Cert.FinalSumIdeal.sig) → Buf (Elt Ideal) ℓ) (g : Dev Cert.FinalSumIdeal.nD → PrngReg)
    (m' : (ℓ : Loc Cert.FinalSumRefIdeal.nD Cert.FinalSumRefIdeal.τ Cert.FinalSumRefIdeal.sig) → Buf (Elt Ideal) ℓ) (g' : Dev Cert.FinalSumRefIdeal.nD → PrngReg), Pre_FinalSumIdeal m →
    (∀ c : Dev Cert.FinalSumIdeal.nD,
      m' ((c.tc : Thread Cert.FinalSumRefIdeal.nD Cert.FinalSumRefIdeal.τ).loc Cert.FinalSumRefIdeal.main_arg0) = m ((c.tc : Thread Cert.FinalSumIdeal.nD Cert.FinalSumIdeal.τ).loc Cert.FinalSumIdeal.main_arg0)
      ∧ m' ((c.tc : Thread Cert.FinalSumRefIdeal.nD Cert.FinalSumRefIdeal.τ).loc Cert.FinalSumRefIdeal.main_arg1) = m ((c.tc : Thread Cert.FinalSumIdeal.nD Cert.FinalSumIdeal.τ).loc Cert.FinalSumIdeal.main_arg1)) →
    ∃ (v0 : (c : Dev Cert.FinalSumIdeal.nD) → Buf (Elt Ideal) ((c.tc : Thread Cert.FinalSumIdeal.nD Cert.FinalSumIdeal.τ).loc Cert.FinalSumIdeal.main_v1)),
      θ_run (Cert.FinalSumIdeal.defs (F := Ideal)) (onTc (τ := Cert.FinalSumIdeal.τ) (Cert.FinalSumIdeal.main (F := Ideal))) ⟨m, fun _ => 0, g⟩ (fun r => ∀ c : Dev Cert.FinalSumIdeal.nD,
          r.2.mem ((c.tc : Thread Cert.FinalSumIdeal.nD Cert.FinalSumIdeal.τ).loc Cert.FinalSumIdeal.main_v1) = v0 c
          ∧ r.2.mem ((c.tc : Thread Cert.FinalSumIdeal.nD Cert.FinalSumIdeal.τ).loc Cert.FinalSumIdeal.main_arg0) = m ((c.tc : Thread Cert.FinalSumIdeal.nD Cert.FinalSumIdeal.τ).loc Cert.FinalSumIdeal.main_arg0)
          ∧ r.2.mem ((c.tc : Thread Cert.FinalSumIdeal.nD Cert.FinalSumIdeal.τ).loc Cert.FinalSumIdeal.main_arg1) = m ((c.tc : Thread Cert.FinalSumIdeal.nD Cert.FinalSumIdeal.τ).loc Cert.FinalSumIdeal.main_arg1))
      ∧ θ_run (Cert.FinalSumRefIdeal.defs (F := Ideal)) (onTc (τ := Cert.FinalSumRefIdeal.τ) (Cert.FinalSumRefIdeal.main (F := Ideal))) ⟨m', fun _ => 0, g'⟩ (fun r => ∀ c : Dev Cert.FinalSumRefIdeal.nD,
          r.2.mem ((c.tc : Thread Cert.FinalSumRefIdeal.nD Cert.FinalSumRefIdeal.τ).loc Cert.FinalSumRefIdeal.main_v4) = v0 c
          ∧ r.2.mem ((c.tc : Thread Cert.FinalSumRefIdeal.nD Cert.FinalSumRefIdeal.τ).loc Cert.FinalSumRefIdeal.main_arg0) = m' ((c.tc : Thread Cert.FinalSumRefIdeal.nD Cert.FinalSumRefIdeal.τ).loc Cert.FinalSumRefIdeal.main_arg0)
          ∧ r.2.mem ((c.tc : Thread Cert.FinalSumRefIdeal.nD Cert.FinalSumRefIdeal.τ).loc Cert.FinalSumRefIdeal.main_arg1) = m' ((c.tc : Thread Cert.FinalSumRefIdeal.nD Cert.FinalSumRefIdeal.τ).loc Cert.FinalSumRefIdeal.main_arg1))

def preserves_MlpDownDw_MlpDownDwIdeal : Prop :=
  True

def algebraic_MlpDownDwIdeal_MlpDownDwRefIdeal [hMlpDownDwIdeal : Cert.MlpDownDwIdeal.Facts] [hMlpDownDwRefIdeal : Cert.MlpDownDwRefIdeal.Facts] : Prop :=
  ∀ (m : (ℓ : Loc Cert.MlpDownDwIdeal.nD Cert.MlpDownDwIdeal.τ Cert.MlpDownDwIdeal.sig) → Buf (Elt Ideal) ℓ) (g : Dev Cert.MlpDownDwIdeal.nD → PrngReg)
    (m' : (ℓ : Loc Cert.MlpDownDwRefIdeal.nD Cert.MlpDownDwRefIdeal.τ Cert.MlpDownDwRefIdeal.sig) → Buf (Elt Ideal) ℓ) (g' : Dev Cert.MlpDownDwRefIdeal.nD → PrngReg), Pre_MlpDownDwIdeal m →
    (∀ c : Dev Cert.MlpDownDwIdeal.nD,
      m' ((c.tc : Thread Cert.MlpDownDwRefIdeal.nD Cert.MlpDownDwRefIdeal.τ).loc Cert.MlpDownDwRefIdeal.main_arg0) = m ((c.tc : Thread Cert.MlpDownDwIdeal.nD Cert.MlpDownDwIdeal.τ).loc Cert.MlpDownDwIdeal.main_arg0)
      ∧ m' ((c.tc : Thread Cert.MlpDownDwRefIdeal.nD Cert.MlpDownDwRefIdeal.τ).loc Cert.MlpDownDwRefIdeal.main_arg1) = m ((c.tc : Thread Cert.MlpDownDwIdeal.nD Cert.MlpDownDwIdeal.τ).loc Cert.MlpDownDwIdeal.main_arg1)) →
    ∃ (v0 : (c : Dev Cert.MlpDownDwIdeal.nD) → Buf (Elt Ideal) ((c.tc : Thread Cert.MlpDownDwIdeal.nD Cert.MlpDownDwIdeal.τ).loc Cert.MlpDownDwIdeal.main_v4)),
      θ_run (Cert.MlpDownDwIdeal.defs (F := Ideal)) (onTc (τ := Cert.MlpDownDwIdeal.τ) (Cert.MlpDownDwIdeal.main (F := Ideal))) ⟨m, fun _ => 0, g⟩ (fun r => ∀ c : Dev Cert.MlpDownDwIdeal.nD,
          r.2.mem ((c.tc : Thread Cert.MlpDownDwIdeal.nD Cert.MlpDownDwIdeal.τ).loc Cert.MlpDownDwIdeal.main_v4) = v0 c
          ∧ r.2.mem ((c.tc : Thread Cert.MlpDownDwIdeal.nD Cert.MlpDownDwIdeal.τ).loc Cert.MlpDownDwIdeal.main_arg0) = m ((c.tc : Thread Cert.MlpDownDwIdeal.nD Cert.MlpDownDwIdeal.τ).loc Cert.MlpDownDwIdeal.main_arg0)
          ∧ r.2.mem ((c.tc : Thread Cert.MlpDownDwIdeal.nD Cert.MlpDownDwIdeal.τ).loc Cert.MlpDownDwIdeal.main_arg1) = m ((c.tc : Thread Cert.MlpDownDwIdeal.nD Cert.MlpDownDwIdeal.τ).loc Cert.MlpDownDwIdeal.main_arg1))
      ∧ θ_run (Cert.MlpDownDwRefIdeal.defs (F := Ideal)) (onTc (τ := Cert.MlpDownDwRefIdeal.τ) (Cert.MlpDownDwRefIdeal.main (F := Ideal))) ⟨m', fun _ => 0, g'⟩ (fun r => ∀ c : Dev Cert.MlpDownDwRefIdeal.nD,
          r.2.mem ((c.tc : Thread Cert.MlpDownDwRefIdeal.nD Cert.MlpDownDwRefIdeal.τ).loc Cert.MlpDownDwRefIdeal.main_v3) = v0 c
          ∧ r.2.mem ((c.tc : Thread Cert.MlpDownDwRefIdeal.nD Cert.MlpDownDwRefIdeal.τ).loc Cert.MlpDownDwRefIdeal.main_arg0) = m' ((c.tc : Thread Cert.MlpDownDwRefIdeal.nD Cert.MlpDownDwRefIdeal.τ).loc Cert.MlpDownDwRefIdeal.main_arg0)
          ∧ r.2.mem ((c.tc : Thread Cert.MlpDownDwRefIdeal.nD Cert.MlpDownDwRefIdeal.τ).loc Cert.MlpDownDwRefIdeal.main_arg1) = m' ((c.tc : Thread Cert.MlpDownDwRefIdeal.nD Cert.MlpDownDwRefIdeal.τ).loc Cert.MlpDownDwRefIdeal.main_arg1))

def preserves_ProjOutDw_ProjOutDwIdeal : Prop :=
  True

def algebraic_ProjOutDwIdeal_ProjOutDwRefIdeal [hProjOutDwIdeal : Cert.ProjOutDwIdeal.Facts] [hProjOutDwRefIdeal : Cert.ProjOutDwRefIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg)
    (m' : (ℓ : Loc Cert.ProjOutDwRefIdeal.nD Cert.ProjOutDwRefIdeal.τ Cert.ProjOutDwRefIdeal.sig) → Buf (Elt Ideal) ℓ) (g' : Dev Cert.ProjOutDwRefIdeal.nD → PrngReg), Pre_ProjOutDwIdeal m →
    (∀ c : Dev Cert.ProjOutDwIdeal.nD,
      m' ((c.tc : Thread Cert.ProjOutDwRefIdeal.nD Cert.ProjOutDwRefIdeal.τ).loc Cert.ProjOutDwRefIdeal.main_arg0) = m ((c.tc : Thread Cert.ProjOutDwIdeal.nD Cert.ProjOutDwIdeal.τ).loc Cert.ProjOutDwIdeal.main_arg0)
      ∧ m' ((c.tc : Thread Cert.ProjOutDwRefIdeal.nD Cert.ProjOutDwRefIdeal.τ).loc Cert.ProjOutDwRefIdeal.main_arg1) = m ((c.tc : Thread Cert.ProjOutDwIdeal.nD Cert.ProjOutDwIdeal.τ).loc Cert.ProjOutDwIdeal.main_arg1)) →
    ∃ (v0 : (c : Dev Cert.ProjOutDwIdeal.nD) → Buf (Elt Ideal) ((c.tc : Thread Cert.ProjOutDwIdeal.nD Cert.ProjOutDwIdeal.τ).loc Cert.ProjOutDwIdeal.main_v4)),
      θ_run (Cert.ProjOutDwIdeal.defs (F := Ideal)) (onTc (τ := Cert.ProjOutDwIdeal.τ) (Cert.ProjOutDwIdeal.main (F := Ideal))) ⟨m, fun _ => 0, g⟩ (fun r => ∀ c : Dev Cert.ProjOutDwIdeal.nD,
          r.2.mem ((c.tc : Thread Cert.ProjOutDwIdeal.nD Cert.ProjOutDwIdeal.τ).loc Cert.ProjOutDwIdeal.main_v4) = v0 c
          ∧ r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
          ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1))
      ∧ θ_run (Cert.ProjOutDwRefIdeal.defs (F := Ideal)) (onTc (τ := Cert.ProjOutDwRefIdeal.τ) (Cert.ProjOutDwRefIdeal.main (F := Ideal))) ⟨m', fun _ => 0, g'⟩ (fun r => ∀ c : Dev Cert.ProjOutDwRefIdeal.nD,
          r.2.mem ((c.tc : Thread Cert.ProjOutDwRefIdeal.nD Cert.ProjOutDwRefIdeal.τ).loc Cert.ProjOutDwRefIdeal.main_v3) = v0 c
          ∧ r.2.mem ((c.tc : Thread Cert.ProjOutDwRefIdeal.nD Cert.ProjOutDwRefIdeal.τ).loc Cert.ProjOutDwRefIdeal.main_arg0) = m' ((c.tc : Thread Cert.ProjOutDwRefIdeal.nD Cert.ProjOutDwRefIdeal.τ).loc Cert.ProjOutDwRefIdeal.main_arg0)
          ∧ r.2.mem ((c.tc : Thread Cert.ProjOutDwRefIdeal.nD Cert.ProjOutDwRefIdeal.τ).loc Cert.ProjOutDwRefIdeal.main_arg1) = m' ((c.tc : Thread Cert.ProjOutDwRefIdeal.nD Cert.ProjOutDwRefIdeal.τ).loc Cert.ProjOutDwRefIdeal.main_arg1))

def preserves_MlpUpDw_MlpUpDwIdeal : Prop :=
  True

def algebraic_MlpUpDwIdeal_MlpUpDwRefIdeal [hMlpUpDwIdeal : Cert.MlpUpDwIdeal.Facts] [hMlpUpDwRefIdeal : Cert.MlpUpDwRefIdeal.Facts] : Prop :=
  ∀ (m : (ℓ : Loc Cert.MlpUpDwIdeal.nD Cert.MlpUpDwIdeal.τ Cert.MlpUpDwIdeal.sig) → Buf (Elt Ideal) ℓ) (g : Dev Cert.MlpUpDwIdeal.nD → PrngReg)
    (m' : (ℓ : Loc Cert.MlpUpDwRefIdeal.nD Cert.MlpUpDwRefIdeal.τ Cert.MlpUpDwRefIdeal.sig) → Buf (Elt Ideal) ℓ) (g' : Dev Cert.MlpUpDwRefIdeal.nD → PrngReg), Pre_MlpUpDwIdeal m →
    (∀ c : Dev Cert.MlpUpDwIdeal.nD,
      m' ((c.tc : Thread Cert.MlpUpDwRefIdeal.nD Cert.MlpUpDwRefIdeal.τ).loc Cert.MlpUpDwRefIdeal.main_arg0) = m ((c.tc : Thread Cert.MlpUpDwIdeal.nD Cert.MlpUpDwIdeal.τ).loc Cert.MlpUpDwIdeal.main_arg0)
      ∧ m' ((c.tc : Thread Cert.MlpUpDwRefIdeal.nD Cert.MlpUpDwRefIdeal.τ).loc Cert.MlpUpDwRefIdeal.main_arg1) = m ((c.tc : Thread Cert.MlpUpDwIdeal.nD Cert.MlpUpDwIdeal.τ).loc Cert.MlpUpDwIdeal.main_arg1)) →
    ∃ (v0 : (c : Dev Cert.MlpUpDwIdeal.nD) → Buf (Elt Ideal) ((c.tc : Thread Cert.MlpUpDwIdeal.nD Cert.MlpUpDwIdeal.τ).loc Cert.MlpUpDwIdeal.main_v4)),
      θ_run (Cert.MlpUpDwIdeal.defs (F := Ideal)) (onTc (τ := Cert.MlpUpDwIdeal.τ) (Cert.MlpUpDwIdeal.main (F := Ideal))) ⟨m, fun _ => 0, g⟩ (fun r => ∀ c : Dev Cert.MlpUpDwIdeal.nD,
          r.2.mem ((c.tc : Thread Cert.MlpUpDwIdeal.nD Cert.MlpUpDwIdeal.τ).loc Cert.MlpUpDwIdeal.main_v4) = v0 c
          ∧ r.2.mem ((c.tc : Thread Cert.MlpUpDwIdeal.nD Cert.MlpUpDwIdeal.τ).loc Cert.MlpUpDwIdeal.main_arg0) = m ((c.tc : Thread Cert.MlpUpDwIdeal.nD Cert.MlpUpDwIdeal.τ).loc Cert.MlpUpDwIdeal.main_arg0)
          ∧ r.2.mem ((c.tc : Thread Cert.MlpUpDwIdeal.nD Cert.MlpUpDwIdeal.τ).loc Cert.MlpUpDwIdeal.main_arg1) = m ((c.tc : Thread Cert.MlpUpDwIdeal.nD Cert.MlpUpDwIdeal.τ).loc Cert.MlpUpDwIdeal.main_arg1))
      ∧ θ_run (Cert.MlpUpDwRefIdeal.defs (F := Ideal)) (onTc (τ := Cert.MlpUpDwRefIdeal.τ) (Cert.MlpUpDwRefIdeal.main (F := Ideal))) ⟨m', fun _ => 0, g'⟩ (fun r => ∀ c : Dev Cert.MlpUpDwRefIdeal.nD,
          r.2.mem ((c.tc : Thread Cert.MlpUpDwRefIdeal.nD Cert.MlpUpDwRefIdeal.τ).loc Cert.MlpUpDwRefIdeal.main_v5) = v0 c
          ∧ r.2.mem ((c.tc : Thread Cert.MlpUpDwRefIdeal.nD Cert.MlpUpDwRefIdeal.τ).loc Cert.MlpUpDwRefIdeal.main_arg0) = m' ((c.tc : Thread Cert.MlpUpDwRefIdeal.nD Cert.MlpUpDwRefIdeal.τ).loc Cert.MlpUpDwRefIdeal.main_arg0)
          ∧ r.2.mem ((c.tc : Thread Cert.MlpUpDwRefIdeal.nD Cert.MlpUpDwRefIdeal.τ).loc Cert.MlpUpDwRefIdeal.main_arg1) = m' ((c.tc : Thread Cert.MlpUpDwRefIdeal.nD Cert.MlpUpDwRefIdeal.τ).loc Cert.MlpUpDwRefIdeal.main_arg1))

def preserves_PleProjDw_PleProjDwIdeal : Prop :=
  True

def algebraic_PleProjDwIdeal_PleProjDwRefIdeal [hPleProjDwIdeal : Cert.PleProjDwIdeal.Facts] [hPleProjDwRefIdeal : Cert.PleProjDwRefIdeal.Facts] : Prop :=
  ∀ (m : (ℓ : Loc Cert.PleProjDwIdeal.nD Cert.PleProjDwIdeal.τ Cert.PleProjDwIdeal.sig) → Buf (Elt Ideal) ℓ) (g : Dev Cert.PleProjDwIdeal.nD → PrngReg)
    (m' : (ℓ : Loc Cert.PleProjDwRefIdeal.nD Cert.PleProjDwRefIdeal.τ Cert.PleProjDwRefIdeal.sig) → Buf (Elt Ideal) ℓ) (g' : Dev Cert.PleProjDwRefIdeal.nD → PrngReg), Pre_PleProjDwIdeal m →
    (∀ c : Dev Cert.PleProjDwIdeal.nD,
      m' ((c.tc : Thread Cert.PleProjDwRefIdeal.nD Cert.PleProjDwRefIdeal.τ).loc Cert.PleProjDwRefIdeal.main_arg0) = m ((c.tc : Thread Cert.PleProjDwIdeal.nD Cert.PleProjDwIdeal.τ).loc Cert.PleProjDwIdeal.main_arg0)
      ∧ m' ((c.tc : Thread Cert.PleProjDwRefIdeal.nD Cert.PleProjDwRefIdeal.τ).loc Cert.PleProjDwRefIdeal.main_arg1) = m ((c.tc : Thread Cert.PleProjDwIdeal.nD Cert.PleProjDwIdeal.τ).loc Cert.PleProjDwIdeal.main_arg1)) →
    ∃ (v0 : (c : Dev Cert.PleProjDwIdeal.nD) → Buf (Elt Ideal) ((c.tc : Thread Cert.PleProjDwIdeal.nD Cert.PleProjDwIdeal.τ).loc Cert.PleProjDwIdeal.main_v3)),
      θ_run (Cert.PleProjDwIdeal.defs (F := Ideal)) (onTc (τ := Cert.PleProjDwIdeal.τ) (Cert.PleProjDwIdeal.main (F := Ideal))) ⟨m, fun _ => 0, g⟩ (fun r => ∀ c : Dev Cert.PleProjDwIdeal.nD,
          r.2.mem ((c.tc : Thread Cert.PleProjDwIdeal.nD Cert.PleProjDwIdeal.τ).loc Cert.PleProjDwIdeal.main_v3) = v0 c
          ∧ r.2.mem ((c.tc : Thread Cert.PleProjDwIdeal.nD Cert.PleProjDwIdeal.τ).loc Cert.PleProjDwIdeal.main_arg0) = m ((c.tc : Thread Cert.PleProjDwIdeal.nD Cert.PleProjDwIdeal.τ).loc Cert.PleProjDwIdeal.main_arg0)
          ∧ r.2.mem ((c.tc : Thread Cert.PleProjDwIdeal.nD Cert.PleProjDwIdeal.τ).loc Cert.PleProjDwIdeal.main_arg1) = m ((c.tc : Thread Cert.PleProjDwIdeal.nD Cert.PleProjDwIdeal.τ).loc Cert.PleProjDwIdeal.main_arg1))
      ∧ θ_run (Cert.PleProjDwRefIdeal.defs (F := Ideal)) (onTc (τ := Cert.PleProjDwRefIdeal.τ) (Cert.PleProjDwRefIdeal.main (F := Ideal))) ⟨m', fun _ => 0, g'⟩ (fun r => ∀ c : Dev Cert.PleProjDwRefIdeal.nD,
          r.2.mem ((c.tc : Thread Cert.PleProjDwRefIdeal.nD Cert.PleProjDwRefIdeal.τ).loc Cert.PleProjDwRefIdeal.main_v5) = v0 c
          ∧ r.2.mem ((c.tc : Thread Cert.PleProjDwRefIdeal.nD Cert.PleProjDwRefIdeal.τ).loc Cert.PleProjDwRefIdeal.main_arg0) = m' ((c.tc : Thread Cert.PleProjDwRefIdeal.nD Cert.PleProjDwRefIdeal.τ).loc Cert.PleProjDwRefIdeal.main_arg0)
          ∧ r.2.mem ((c.tc : Thread Cert.PleProjDwRefIdeal.nD Cert.PleProjDwRefIdeal.τ).loc Cert.PleProjDwRefIdeal.main_arg1) = m' ((c.tc : Thread Cert.PleProjDwRefIdeal.nD Cert.PleProjDwRefIdeal.τ).loc Cert.PleProjDwRefIdeal.main_arg1))

def preserves_ProjInDwA_ProjInDwAIdeal : Prop :=
  True

def algebraic_ProjInDwAIdeal_ProjInDwARefIdeal [hProjInDwAIdeal : Cert.ProjInDwAIdeal.Facts] [hProjInDwARefIdeal : Cert.ProjInDwARefIdeal.Facts] : Prop :=
  ∀ (m : (ℓ : Loc Cert.ProjInDwAIdeal.nD Cert.ProjInDwAIdeal.τ Cert.ProjInDwAIdeal.sig) → Buf (Elt Ideal) ℓ) (g : Dev Cert.ProjInDwAIdeal.nD → PrngReg)
    (m' : (ℓ : Loc Cert.ProjInDwARefIdeal.nD Cert.ProjInDwARefIdeal.τ Cert.ProjInDwARefIdeal.sig) → Buf (Elt Ideal) ℓ) (g' : Dev Cert.ProjInDwARefIdeal.nD → PrngReg), Pre_ProjInDwAIdeal m →
    (∀ c : Dev Cert.ProjInDwAIdeal.nD,
      m' ((c.tc : Thread Cert.ProjInDwARefIdeal.nD Cert.ProjInDwARefIdeal.τ).loc Cert.ProjInDwARefIdeal.main_arg0) = m ((c.tc : Thread Cert.ProjInDwAIdeal.nD Cert.ProjInDwAIdeal.τ).loc Cert.ProjInDwAIdeal.main_arg0)
      ∧ m' ((c.tc : Thread Cert.ProjInDwARefIdeal.nD Cert.ProjInDwARefIdeal.τ).loc Cert.ProjInDwARefIdeal.main_arg1) = m ((c.tc : Thread Cert.ProjInDwAIdeal.nD Cert.ProjInDwAIdeal.τ).loc Cert.ProjInDwAIdeal.main_arg1)) →
    ∃ (v0 : (c : Dev Cert.ProjInDwAIdeal.nD) → Buf (Elt Ideal) ((c.tc : Thread Cert.ProjInDwAIdeal.nD Cert.ProjInDwAIdeal.τ).loc Cert.ProjInDwAIdeal.main_v4)),
      θ_run (Cert.ProjInDwAIdeal.defs (F := Ideal)) (onTc (τ := Cert.ProjInDwAIdeal.τ) (Cert.ProjInDwAIdeal.main (F := Ideal))) ⟨m, fun _ => 0, g⟩ (fun r => ∀ c : Dev Cert.ProjInDwAIdeal.nD,
          r.2.mem ((c.tc : Thread Cert.ProjInDwAIdeal.nD Cert.ProjInDwAIdeal.τ).loc Cert.ProjInDwAIdeal.main_v4) = v0 c
          ∧ r.2.mem ((c.tc : Thread Cert.ProjInDwAIdeal.nD Cert.ProjInDwAIdeal.τ).loc Cert.ProjInDwAIdeal.main_arg0) = m ((c.tc : Thread Cert.ProjInDwAIdeal.nD Cert.ProjInDwAIdeal.τ).loc Cert.ProjInDwAIdeal.main_arg0)
          ∧ r.2.mem ((c.tc : Thread Cert.ProjInDwAIdeal.nD Cert.ProjInDwAIdeal.τ).loc Cert.ProjInDwAIdeal.main_arg1) = m ((c.tc : Thread Cert.ProjInDwAIdeal.nD Cert.ProjInDwAIdeal.τ).loc Cert.ProjInDwAIdeal.main_arg1))
      ∧ θ_run (Cert.ProjInDwARefIdeal.defs (F := Ideal)) (onTc (τ := Cert.ProjInDwARefIdeal.τ) (Cert.ProjInDwARefIdeal.main (F := Ideal))) ⟨m', fun _ => 0, g'⟩ (fun r => ∀ c : Dev Cert.ProjInDwARefIdeal.nD,
          r.2.mem ((c.tc : Thread Cert.ProjInDwARefIdeal.nD Cert.ProjInDwARefIdeal.τ).loc Cert.ProjInDwARefIdeal.main_v5) = v0 c
          ∧ r.2.mem ((c.tc : Thread Cert.ProjInDwARefIdeal.nD Cert.ProjInDwARefIdeal.τ).loc Cert.ProjInDwARefIdeal.main_arg0) = m' ((c.tc : Thread Cert.ProjInDwARefIdeal.nD Cert.ProjInDwARefIdeal.τ).loc Cert.ProjInDwARefIdeal.main_arg0)
          ∧ r.2.mem ((c.tc : Thread Cert.ProjInDwARefIdeal.nD Cert.ProjInDwARefIdeal.τ).loc Cert.ProjInDwARefIdeal.main_arg1) = m' ((c.tc : Thread Cert.ProjInDwARefIdeal.nD Cert.ProjInDwARefIdeal.τ).loc Cert.ProjInDwARefIdeal.main_arg1))

def preserves_ProjInDwB_ProjInDwBIdeal : Prop :=
  True

def algebraic_ProjInDwBIdeal_ProjInDwBRefIdeal [hProjInDwBIdeal : Cert.ProjInDwBIdeal.Facts] [hProjInDwBRefIdeal : Cert.ProjInDwBRefIdeal.Facts] : Prop :=
  ∀ (m : (ℓ : Loc Cert.ProjInDwBIdeal.nD Cert.ProjInDwBIdeal.τ Cert.ProjInDwBIdeal.sig) → Buf (Elt Ideal) ℓ) (g : Dev Cert.ProjInDwBIdeal.nD → PrngReg)
    (m' : (ℓ : Loc Cert.ProjInDwBRefIdeal.nD Cert.ProjInDwBRefIdeal.τ Cert.ProjInDwBRefIdeal.sig) → Buf (Elt Ideal) ℓ) (g' : Dev Cert.ProjInDwBRefIdeal.nD → PrngReg), Pre_ProjInDwBIdeal m →
    (∀ c : Dev Cert.ProjInDwBIdeal.nD,
      m' ((c.tc : Thread Cert.ProjInDwBRefIdeal.nD Cert.ProjInDwBRefIdeal.τ).loc Cert.ProjInDwBRefIdeal.main_arg0) = m ((c.tc : Thread Cert.ProjInDwBIdeal.nD Cert.ProjInDwBIdeal.τ).loc Cert.ProjInDwBIdeal.main_arg0)
      ∧ m' ((c.tc : Thread Cert.ProjInDwBRefIdeal.nD Cert.ProjInDwBRefIdeal.τ).loc Cert.ProjInDwBRefIdeal.main_arg1) = m ((c.tc : Thread Cert.ProjInDwBIdeal.nD Cert.ProjInDwBIdeal.τ).loc Cert.ProjInDwBIdeal.main_arg1)) →
    ∃ (v0 : (c : Dev Cert.ProjInDwBIdeal.nD) → Buf (Elt Ideal) ((c.tc : Thread Cert.ProjInDwBIdeal.nD Cert.ProjInDwBIdeal.τ).loc Cert.ProjInDwBIdeal.main_v4)),
      θ_run (Cert.ProjInDwBIdeal.defs (F := Ideal)) (onTc (τ := Cert.ProjInDwBIdeal.τ) (Cert.ProjInDwBIdeal.main (F := Ideal))) ⟨m, fun _ => 0, g⟩ (fun r => ∀ c : Dev Cert.ProjInDwBIdeal.nD,
          r.2.mem ((c.tc : Thread Cert.ProjInDwBIdeal.nD Cert.ProjInDwBIdeal.τ).loc Cert.ProjInDwBIdeal.main_v4) = v0 c
          ∧ r.2.mem ((c.tc : Thread Cert.ProjInDwBIdeal.nD Cert.ProjInDwBIdeal.τ).loc Cert.ProjInDwBIdeal.main_arg0) = m ((c.tc : Thread Cert.ProjInDwBIdeal.nD Cert.ProjInDwBIdeal.τ).loc Cert.ProjInDwBIdeal.main_arg0)
          ∧ r.2.mem ((c.tc : Thread Cert.ProjInDwBIdeal.nD Cert.ProjInDwBIdeal.τ).loc Cert.ProjInDwBIdeal.main_arg1) = m ((c.tc : Thread Cert.ProjInDwBIdeal.nD Cert.ProjInDwBIdeal.τ).loc Cert.ProjInDwBIdeal.main_arg1))
      ∧ θ_run (Cert.ProjInDwBRefIdeal.defs (F := Ideal)) (onTc (τ := Cert.ProjInDwBRefIdeal.τ) (Cert.ProjInDwBRefIdeal.main (F := Ideal))) ⟨m', fun _ => 0, g'⟩ (fun r => ∀ c : Dev Cert.ProjInDwBRefIdeal.nD,
          r.2.mem ((c.tc : Thread Cert.ProjInDwBRefIdeal.nD Cert.ProjInDwBRefIdeal.τ).loc Cert.ProjInDwBRefIdeal.main_v5) = v0 c
          ∧ r.2.mem ((c.tc : Thread Cert.ProjInDwBRefIdeal.nD Cert.ProjInDwBRefIdeal.τ).loc Cert.ProjInDwBRefIdeal.main_arg0) = m' ((c.tc : Thread Cert.ProjInDwBRefIdeal.nD Cert.ProjInDwBRefIdeal.τ).loc Cert.ProjInDwBRefIdeal.main_arg0)
          ∧ r.2.mem ((c.tc : Thread Cert.ProjInDwBRefIdeal.nD Cert.ProjInDwBRefIdeal.τ).loc Cert.ProjInDwBRefIdeal.main_arg1) = m' ((c.tc : Thread Cert.ProjInDwBRefIdeal.nD Cert.ProjInDwBRefIdeal.τ).loc Cert.ProjInDwBRefIdeal.main_arg1))

def preserves_ProjInNarrowDw_ProjInNarrowDwIdeal : Prop :=
  True

def algebraic_ProjInNarrowDwIdeal_ProjInNarrowDwRefIdeal [hProjInNarrowDwIdeal : Cert.ProjInNarrowDwIdeal.Facts] [hProjInNarrowDwRefIdeal : Cert.ProjInNarrowDwRefIdeal.Facts] : Prop :=
  ∀ (m : (ℓ : Loc Cert.ProjInNarrowDwIdeal.nD Cert.ProjInNarrowDwIdeal.τ Cert.ProjInNarrowDwIdeal.sig) → Buf (Elt Ideal) ℓ) (g : Dev Cert.ProjInNarrowDwIdeal.nD → PrngReg)
    (m' : (ℓ : Loc Cert.ProjInNarrowDwRefIdeal.nD Cert.ProjInNarrowDwRefIdeal.τ Cert.ProjInNarrowDwRefIdeal.sig) → Buf (Elt Ideal) ℓ) (g' : Dev Cert.ProjInNarrowDwRefIdeal.nD → PrngReg), Pre_ProjInNarrowDwIdeal m →
    (∀ c : Dev Cert.ProjInNarrowDwIdeal.nD,
      m' ((c.tc : Thread Cert.ProjInNarrowDwRefIdeal.nD Cert.ProjInNarrowDwRefIdeal.τ).loc Cert.ProjInNarrowDwRefIdeal.main_arg0) = m ((c.tc : Thread Cert.ProjInNarrowDwIdeal.nD Cert.ProjInNarrowDwIdeal.τ).loc Cert.ProjInNarrowDwIdeal.main_arg0)
      ∧ m' ((c.tc : Thread Cert.ProjInNarrowDwRefIdeal.nD Cert.ProjInNarrowDwRefIdeal.τ).loc Cert.ProjInNarrowDwRefIdeal.main_arg1) = m ((c.tc : Thread Cert.ProjInNarrowDwIdeal.nD Cert.ProjInNarrowDwIdeal.τ).loc Cert.ProjInNarrowDwIdeal.main_arg1)) →
    ∃ (v0 : (c : Dev Cert.ProjInNarrowDwIdeal.nD) → Buf (Elt Ideal) ((c.tc : Thread Cert.ProjInNarrowDwIdeal.nD Cert.ProjInNarrowDwIdeal.τ).loc Cert.ProjInNarrowDwIdeal.main_v3)),
      θ_run (Cert.ProjInNarrowDwIdeal.defs (F := Ideal)) (onTc (τ := Cert.ProjInNarrowDwIdeal.τ) (Cert.ProjInNarrowDwIdeal.main (F := Ideal))) ⟨m, fun _ => 0, g⟩ (fun r => ∀ c : Dev Cert.ProjInNarrowDwIdeal.nD,
          r.2.mem ((c.tc : Thread Cert.ProjInNarrowDwIdeal.nD Cert.ProjInNarrowDwIdeal.τ).loc Cert.ProjInNarrowDwIdeal.main_v3) = v0 c
          ∧ r.2.mem ((c.tc : Thread Cert.ProjInNarrowDwIdeal.nD Cert.ProjInNarrowDwIdeal.τ).loc Cert.ProjInNarrowDwIdeal.main_arg0) = m ((c.tc : Thread Cert.ProjInNarrowDwIdeal.nD Cert.ProjInNarrowDwIdeal.τ).loc Cert.ProjInNarrowDwIdeal.main_arg0)
          ∧ r.2.mem ((c.tc : Thread Cert.ProjInNarrowDwIdeal.nD Cert.ProjInNarrowDwIdeal.τ).loc Cert.ProjInNarrowDwIdeal.main_arg1) = m ((c.tc : Thread Cert.ProjInNarrowDwIdeal.nD Cert.ProjInNarrowDwIdeal.τ).loc Cert.ProjInNarrowDwIdeal.main_arg1))
      ∧ θ_run (Cert.ProjInNarrowDwRefIdeal.defs (F := Ideal)) (onTc (τ := Cert.ProjInNarrowDwRefIdeal.τ) (Cert.ProjInNarrowDwRefIdeal.main (F := Ideal))) ⟨m', fun _ => 0, g'⟩ (fun r => ∀ c : Dev Cert.ProjInNarrowDwRefIdeal.nD,
          r.2.mem ((c.tc : Thread Cert.ProjInNarrowDwRefIdeal.nD Cert.ProjInNarrowDwRefIdeal.τ).loc Cert.ProjInNarrowDwRefIdeal.main_v4) = v0 c
          ∧ r.2.mem ((c.tc : Thread Cert.ProjInNarrowDwRefIdeal.nD Cert.ProjInNarrowDwRefIdeal.τ).loc Cert.ProjInNarrowDwRefIdeal.main_arg0) = m' ((c.tc : Thread Cert.ProjInNarrowDwRefIdeal.nD Cert.ProjInNarrowDwRefIdeal.τ).loc Cert.ProjInNarrowDwRefIdeal.main_arg0)
          ∧ r.2.mem ((c.tc : Thread Cert.ProjInNarrowDwRefIdeal.nD Cert.ProjInNarrowDwRefIdeal.τ).loc Cert.ProjInNarrowDwRefIdeal.main_arg1) = m' ((c.tc : Thread Cert.ProjInNarrowDwRefIdeal.nD Cert.ProjInNarrowDwRefIdeal.τ).loc Cert.ProjInNarrowDwRefIdeal.main_arg1))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v23) = v0 c
          ∧ r.2.mem ((c.tc : Thread Cert.AdamWOutRefIdeal.nD Cert.AdamWOutRefIdeal.τ).loc Cert.AdamWOutRefIdeal.main_v4) = v1 c
          ∧ r.2.mem ((c.tc : Thread Cert.AdamWOutRefIdeal.nD Cert.AdamWOutRefIdeal.τ).loc Cert.AdamWOutRefIdeal.main_v10) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamWProj_AdamWProjIdeal : Prop :=
  True

def algebraic_AdamWProjIdeal_AdamWProjRefIdeal [hAdamWProjIdeal : Cert.AdamWProjIdeal.Facts] [hAdamWProjRefIdeal : Cert.AdamWProjRefIdeal.Facts] : Prop :=
  ∀ (m : (ℓ : Loc Cert.AdamWProjIdeal.nD Cert.AdamWProjIdeal.τ Cert.AdamWProjIdeal.sig) → Buf (Elt Ideal) ℓ) (g : Dev Cert.AdamWProjIdeal.nD → PrngReg)
    (m' : (ℓ : Loc Cert.AdamWProjRefIdeal.nD Cert.AdamWProjRefIdeal.τ Cert.AdamWProjRefIdeal.sig) → Buf (Elt Ideal) ℓ) (g' : Dev Cert.AdamWProjRefIdeal.nD → PrngReg), Pre_AdamWProjIdeal m →
    (∀ c : Dev Cert.AdamWProjIdeal.nD,
      m' ((c.tc : Thread Cert.AdamWProjRefIdeal.nD Cert.AdamWProjRefIdeal.τ).loc Cert.AdamWProjRefIdeal.main_arg0) = m ((c.tc : Thread Cert.AdamWProjIdeal.nD Cert.AdamWProjIdeal.τ).loc Cert.AdamWProjIdeal.main_arg0)
      ∧ m' ((c.tc : Thread Cert.AdamWProjRefIdeal.nD Cert.AdamWProjRefIdeal.τ).loc Cert.AdamWProjRefIdeal.main_arg1) = m ((c.tc : Thread Cert.AdamWProjIdeal.nD Cert.AdamWProjIdeal.τ).loc Cert.AdamWProjIdeal.main_arg1)
      ∧ m' ((c.tc : Thread Cert.AdamWProjRefIdeal.nD Cert.AdamWProjRefIdeal.τ).loc Cert.AdamWProjRefIdeal.main_arg2) = m ((c.tc : Thread Cert.AdamWProjIdeal.nD Cert.AdamWProjIdeal.τ).loc Cert.AdamWProjIdeal.main_arg2)
      ∧ m' ((c.tc : Thread Cert.AdamWProjRefIdeal.nD Cert.AdamWProjRefIdeal.τ).loc Cert.AdamWProjRefIdeal.main_arg3) = m ((c.tc : Thread Cert.AdamWProjIdeal.nD Cert.AdamWProjIdeal.τ).loc Cert.AdamWProjIdeal.main_arg3)) →
    ∃ (v0 : (c : Dev Cert.AdamWProjIdeal.nD) → Buf (Elt Ideal) ((c.tc : Thread Cert.AdamWProjIdeal.nD Cert.AdamWProjIdeal.τ).loc Cert.AdamWProjIdeal.main_v0_0)) (v1 : (c : Dev Cert.AdamWProjIdeal.nD) → Buf (Elt Ideal) ((c.tc : Thread Cert.AdamWProjIdeal.nD Cert.AdamWProjIdeal.τ).loc Cert.AdamWProjIdeal.main_v0_1)) (v2 : (c : Dev Cert.AdamWProjIdeal.nD) → Buf (Elt Ideal) ((c.tc : Thread Cert.AdamWProjIdeal.nD Cert.AdamWProjIdeal.τ).loc Cert.AdamWProjIdeal.main_v0_2)),
      θ_run (Cert.AdamWProjIdeal.defs (F := Ideal)) (onTc (τ := Cert.AdamWProjIdeal.τ) (Cert.AdamWProjIdeal.main (F := Ideal))) ⟨m, fun _ => 0, g⟩ (fun r => ∀ c : Dev Cert.AdamWProjIdeal.nD,
          r.2.mem ((c.tc : Thread Cert.AdamWProjIdeal.nD Cert.AdamWProjIdeal.τ).loc Cert.AdamWProjIdeal.main_v0_0) = v0 c
          ∧ r.2.mem ((c.tc : Thread Cert.AdamWProjIdeal.nD Cert.AdamWProjIdeal.τ).loc Cert.AdamWProjIdeal.main_v0_1) = v1 c
          ∧ r.2.mem ((c.tc : Thread Cert.AdamWProjIdeal.nD Cert.AdamWProjIdeal.τ).loc Cert.AdamWProjIdeal.main_v0_2) = v2 c
          ∧ r.2.mem ((c.tc : Thread Cert.AdamWProjIdeal.nD Cert.AdamWProjIdeal.τ).loc Cert.AdamWProjIdeal.main_arg0) = m ((c.tc : Thread Cert.AdamWProjIdeal.nD Cert.AdamWProjIdeal.τ).loc Cert.AdamWProjIdeal.main_arg0)
          ∧ r.2.mem ((c.tc : Thread Cert.AdamWProjIdeal.nD Cert.AdamWProjIdeal.τ).loc Cert.AdamWProjIdeal.main_arg1) = m ((c.tc : Thread Cert.AdamWProjIdeal.nD Cert.AdamWProjIdeal.τ).loc Cert.AdamWProjIdeal.main_arg1)
          ∧ r.2.mem ((c.tc : Thread Cert.AdamWProjIdeal.nD Cert.AdamWProjIdeal.τ).loc Cert.AdamWProjIdeal.main_arg2) = m ((c.tc : Thread Cert.AdamWProjIdeal.nD Cert.AdamWProjIdeal.τ).loc Cert.AdamWProjIdeal.main_arg2)
          ∧ r.2.mem ((c.tc : Thread Cert.AdamWProjIdeal.nD Cert.AdamWProjIdeal.τ).loc Cert.AdamWProjIdeal.main_arg3) = m ((c.tc : Thread Cert.AdamWProjIdeal.nD Cert.AdamWProjIdeal.τ).loc Cert.AdamWProjIdeal.main_arg3))
      ∧ θ_run (Cert.AdamWProjRefIdeal.defs (F := Ideal)) (onTc (τ := Cert.AdamWProjRefIdeal.τ) (Cert.AdamWProjRefIdeal.main (F := Ideal))) ⟨m', fun _ => 0, g'⟩ (fun r => ∀ c : Dev Cert.AdamWProjRefIdeal.nD,
          r.2.mem ((c.tc : Thread Cert.AdamWProjRefIdeal.nD Cert.AdamWProjRefIdeal.τ).loc Cert.AdamWProjRefIdeal.main_v23) = v0 c
          ∧ r.2.mem ((c.tc : Thread Cert.AdamWProjRefIdeal.nD Cert.AdamWProjRefIdeal.τ).loc Cert.AdamWProjRefIdeal.main_v4) = v1 c
          ∧ r.2.mem ((c.tc : Thread Cert.AdamWProjRefIdeal.nD Cert.AdamWProjRefIdeal.τ).loc Cert.AdamWProjRefIdeal.main_v10) = v2 c
          ∧ r.2.mem ((c.tc : Thread Cert.AdamWProjRefIdeal.nD Cert.AdamWProjRefIdeal.τ).loc Cert.AdamWProjRefIdeal.main_arg0) = m' ((c.tc : Thread Cert.AdamWProjRefIdeal.nD Cert.AdamWProjRefIdeal.τ).loc Cert.AdamWProjRefIdeal.main_arg0)
          ∧ r.2.mem ((c.tc : Thread Cert.AdamWProjRefIdeal.nD Cert.AdamWProjRefIdeal.τ).loc Cert.AdamWProjRefIdeal.main_arg1) = m' ((c.tc : Thread Cert.AdamWProjRefIdeal.nD Cert.AdamWProjRefIdeal.τ).loc Cert.AdamWProjRefIdeal.main_arg1)
          ∧ r.2.mem ((c.tc : Thread Cert.AdamWProjRefIdeal.nD Cert.AdamWProjRefIdeal.τ).loc Cert.AdamWProjRefIdeal.main_arg2) = m' ((c.tc : Thread Cert.AdamWProjRefIdeal.nD Cert.AdamWProjRefIdeal.τ).loc Cert.AdamWProjRefIdeal.main_arg2)
          ∧ r.2.mem ((c.tc : Thread Cert.AdamWProjRefIdeal.nD Cert.AdamWProjRefIdeal.τ).loc Cert.AdamWProjRefIdeal.main_arg3) = m' ((c.tc : Thread Cert.AdamWProjRefIdeal.nD Cert.AdamWProjRefIdeal.τ).loc Cert.AdamWProjRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v23) = v0 c
          ∧ r.2.mem ((c.tc : Thread Cert.AdamWInRefIdeal.nD Cert.AdamWInRefIdeal.τ).loc Cert.AdamWInRefIdeal.main_v4) = v1 c
          ∧ r.2.mem ((c.tc : Thread Cert.AdamWInRefIdeal.nD Cert.AdamWInRefIdeal.τ).loc Cert.AdamWInRefIdeal.main_v10) = v2 c
          ∧ r.2.mem ((c.tc : Thread Cert.AdamWInRefIdeal.nD Cert.AdamWInRefIdeal.τ).loc Cert.AdamWInRefIdeal.main_arg1) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def Claim : Prop :=
  ∃ (hMlp : Cert.Mlp.Facts) (hMlpIdeal : Cert.MlpIdeal.Facts) (hMlpRefIdeal : Cert.MlpRefIdeal.Facts) (hRms : Cert.Rms.Facts) (hRmsIdeal : Cert.RmsIdeal.Facts) (hRmsRefIdeal : Cert.RmsRefIdeal.Facts) (hLoss : Cert.Loss.Facts) (hLossIdeal : Cert.LossIdeal.Facts) (hLossRefIdeal : Cert.LossRefIdeal.Facts) (hMerge : Cert.Merge.Facts) (hMergeIdeal : Cert.MergeIdeal.Facts) (hMergeRefIdeal : Cert.MergeRefIdeal.Facts) (hConvQ : Cert.ConvQ.Facts) (hConvQIdeal : Cert.ConvQIdeal.Facts) (hConvQRefIdeal : Cert.ConvQRefIdeal.Facts) (hConvK : Cert.ConvK.Facts) (hConvKIdeal : Cert.ConvKIdeal.Facts) (hConvKRefIdeal : Cert.ConvKRefIdeal.Facts) (hConvV : Cert.ConvV.Facts) (hConvVIdeal : Cert.ConvVIdeal.Facts) (hConvVRefIdeal : Cert.ConvVRefIdeal.Facts) (hRmsFwd : Cert.RmsFwd.Facts) (hRmsFwdIdeal : Cert.RmsFwdIdeal.Facts) (hRmsFwdRefIdeal : Cert.RmsFwdRefIdeal.Facts) (hMergeFwd : Cert.MergeFwd.Facts) (hMergeFwdIdeal : Cert.MergeFwdIdeal.Facts) (hMergeFwdRefIdeal : Cert.MergeFwdRefIdeal.Facts) (hConvFwdQ : Cert.ConvFwdQ.Facts) (hConvFwdQIdeal : Cert.ConvFwdQIdeal.Facts) (hConvFwdQRefIdeal : Cert.ConvFwdQRefIdeal.Facts) (hConvFwdK : Cert.ConvFwdK.Facts) (hConvFwdKIdeal : Cert.ConvFwdKIdeal.Facts) (hConvFwdKRefIdeal : Cert.ConvFwdKRefIdeal.Facts) (hConvFwdV : Cert.ConvFwdV.Facts) (hConvFwdVIdeal : Cert.ConvFwdVIdeal.Facts) (hConvFwdVRefIdeal : Cert.ConvFwdVRefIdeal.Facts) (hMlpUp : Cert.MlpUp.Facts) (hMlpUpIdeal : Cert.MlpUpIdeal.Facts) (hMlpUpRefIdeal : Cert.MlpUpRefIdeal.Facts) (hAddNorm : Cert.AddNorm.Facts) (hAddNormIdeal : Cert.AddNormIdeal.Facts) (hAddNormRefIdeal : Cert.AddNormRefIdeal.Facts) (hMlpDown : Cert.MlpDown.Facts) (hMlpDownIdeal : Cert.MlpDownIdeal.Facts) (hMlpDownRefIdeal : Cert.MlpDownRefIdeal.Facts) (hGate : Cert.Gate.Facts) (hGateIdeal : Cert.GateIdeal.Facts) (hGateRefIdeal : Cert.GateRefIdeal.Facts) (hProjIn : Cert.ProjIn.Facts) (hProjInIdeal : Cert.ProjInIdeal.Facts) (hProjInRefIdeal : Cert.ProjInRefIdeal.Facts) (hAdamW : Cert.AdamW.Facts) (hAdamWIdeal : Cert.AdamWIdeal.Facts) (hAdamWRefIdeal : Cert.AdamWRefIdeal.Facts) (hPairSum : Cert.PairSum.Facts) (hPairSumIdeal : Cert.PairSumIdeal.Facts) (hPairSumRefIdeal : Cert.PairSumRefIdeal.Facts) (hFinalSum : Cert.FinalSum.Facts) (hFinalSumIdeal : Cert.FinalSumIdeal.Facts) (hFinalSumRefIdeal : Cert.FinalSumRefIdeal.Facts) (hMlpDownDw : Cert.MlpDownDw.Facts) (hMlpDownDwIdeal : Cert.MlpDownDwIdeal.Facts) (hMlpDownDwRefIdeal : Cert.MlpDownDwRefIdeal.Facts) (hProjOutDw : Cert.ProjOutDw.Facts) (hProjOutDwIdeal : Cert.ProjOutDwIdeal.Facts) (hProjOutDwRefIdeal : Cert.ProjOutDwRefIdeal.Facts) (hMlpUpDw : Cert.MlpUpDw.Facts) (hMlpUpDwIdeal : Cert.MlpUpDwIdeal.Facts) (hMlpUpDwRefIdeal : Cert.MlpUpDwRefIdeal.Facts) (hPleProjDw : Cert.PleProjDw.Facts) (hPleProjDwIdeal : Cert.PleProjDwIdeal.Facts) (hPleProjDwRefIdeal : Cert.PleProjDwRefIdeal.Facts) (hProjInDwA : Cert.ProjInDwA.Facts) (hProjInDwAIdeal : Cert.ProjInDwAIdeal.Facts) (hProjInDwARefIdeal : Cert.ProjInDwARefIdeal.Facts) (hProjInDwB : Cert.ProjInDwB.Facts) (hProjInDwBIdeal : Cert.ProjInDwBIdeal.Facts) (hProjInDwBRefIdeal : Cert.ProjInDwBRefIdeal.Facts) (hProjInNarrowDw : Cert.ProjInNarrowDw.Facts) (hProjInNarrowDwIdeal : Cert.ProjInNarrowDwIdeal.Facts) (hProjInNarrowDwRefIdeal : Cert.ProjInNarrowDwRefIdeal.Facts) (hAdamWOut : Cert.AdamWOut.Facts) (hAdamWOutIdeal : Cert.AdamWOutIdeal.Facts) (hAdamWOutRefIdeal : Cert.AdamWOutRefIdeal.Facts) (hAdamWProj : Cert.AdamWProj.Facts) (hAdamWProjIdeal : Cert.AdamWProjIdeal.Facts) (hAdamWProjRefIdeal : Cert.AdamWProjRefIdeal.Facts) (hAdamWIn : Cert.AdamWIn.Facts) (hAdamWInIdeal : Cert.AdamWInIdeal.Facts) (hAdamWInRefIdeal : Cert.AdamWInRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Rms (hRms := hRms)
    ∧ quiescent_RmsIdeal (hRmsIdeal := hRmsIdeal)
    ∧ quiescent_RmsRefIdeal (hRmsRefIdeal := hRmsRefIdeal)
    ∧ quiescent_Loss (hLoss := hLoss)
    ∧ quiescent_LossIdeal (hLossIdeal := hLossIdeal)
    ∧ quiescent_LossRefIdeal (hLossRefIdeal := hLossRefIdeal)
    ∧ quiescent_Merge (hMerge := hMerge)
    ∧ quiescent_MergeIdeal (hMergeIdeal := hMergeIdeal)
    ∧ quiescent_MergeRefIdeal (hMergeRefIdeal := hMergeRefIdeal)
    ∧ quiescent_ConvQ (hConvQ := hConvQ)
    ∧ quiescent_ConvQIdeal (hConvQIdeal := hConvQIdeal)
    ∧ quiescent_ConvQRefIdeal (hConvQRefIdeal := hConvQRefIdeal)
    ∧ quiescent_ConvK (hConvK := hConvK)
    ∧ quiescent_ConvKIdeal (hConvKIdeal := hConvKIdeal)
    ∧ quiescent_ConvKRefIdeal (hConvKRefIdeal := hConvKRefIdeal)
    ∧ quiescent_ConvV (hConvV := hConvV)
    ∧ quiescent_ConvVIdeal (hConvVIdeal := hConvVIdeal)
    ∧ quiescent_ConvVRefIdeal (hConvVRefIdeal := hConvVRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_ConvFwdQ (hConvFwdQ := hConvFwdQ)
    ∧ quiescent_ConvFwdQIdeal (hConvFwdQIdeal := hConvFwdQIdeal)
    ∧ quiescent_ConvFwdQRefIdeal (hConvFwdQRefIdeal := hConvFwdQRefIdeal)
    ∧ quiescent_ConvFwdK (hConvFwdK := hConvFwdK)
    ∧ quiescent_ConvFwdKIdeal (hConvFwdKIdeal := hConvFwdKIdeal)
    ∧ quiescent_ConvFwdKRefIdeal (hConvFwdKRefIdeal := hConvFwdKRefIdeal)
    ∧ quiescent_ConvFwdV (hConvFwdV := hConvFwdV)
    ∧ quiescent_ConvFwdVIdeal (hConvFwdVIdeal := hConvFwdVIdeal)
    ∧ quiescent_ConvFwdVRefIdeal (hConvFwdVRefIdeal := hConvFwdVRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_AddNorm (hAddNorm := hAddNorm)
    ∧ quiescent_AddNormIdeal (hAddNormIdeal := hAddNormIdeal)
    ∧ quiescent_AddNormRefIdeal (hAddNormRefIdeal := hAddNormRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_Gate (hGate := hGate)
    ∧ quiescent_GateIdeal (hGateIdeal := hGateIdeal)
    ∧ quiescent_GateRefIdeal (hGateRefIdeal := hGateRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ quiescent_FinalSum (hFinalSum := hFinalSum)
    ∧ quiescent_FinalSumIdeal (hFinalSumIdeal := hFinalSumIdeal)
    ∧ quiescent_FinalSumRefIdeal (hFinalSumRefIdeal := hFinalSumRefIdeal)
    ∧ quiescent_MlpDownDw (hMlpDownDw := hMlpDownDw)
    ∧ quiescent_MlpDownDwIdeal (hMlpDownDwIdeal := hMlpDownDwIdeal)
    ∧ quiescent_MlpDownDwRefIdeal (hMlpDownDwRefIdeal := hMlpDownDwRefIdeal)
    ∧ quiescent_ProjOutDw (hProjOutDw := hProjOutDw)
    ∧ quiescent_ProjOutDwIdeal (hProjOutDwIdeal := hProjOutDwIdeal)
    ∧ quiescent_ProjOutDwRefIdeal (hProjOutDwRefIdeal := hProjOutDwRefIdeal)
    ∧ quiescent_MlpUpDw (hMlpUpDw := hMlpUpDw)
    ∧ quiescent_MlpUpDwIdeal (hMlpUpDwIdeal := hMlpUpDwIdeal)
    ∧ quiescent_MlpUpDwRefIdeal (hMlpUpDwRefIdeal := hMlpUpDwRefIdeal)
    ∧ quiescent_PleProjDw (hPleProjDw := hPleProjDw)
    ∧ quiescent_PleProjDwIdeal (hPleProjDwIdeal := hPleProjDwIdeal)
    ∧ quiescent_PleProjDwRefIdeal (hPleProjDwRefIdeal := hPleProjDwRefIdeal)
    ∧ quiescent_ProjInDwA (hProjInDwA := hProjInDwA)
    ∧ quiescent_ProjInDwAIdeal (hProjInDwAIdeal := hProjInDwAIdeal)
    ∧ quiescent_ProjInDwARefIdeal (hProjInDwARefIdeal := hProjInDwARefIdeal)
    ∧ quiescent_ProjInDwB (hProjInDwB := hProjInDwB)
    ∧ quiescent_ProjInDwBIdeal (hProjInDwBIdeal := hProjInDwBIdeal)
    ∧ quiescent_ProjInDwBRefIdeal (hProjInDwBRefIdeal := hProjInDwBRefIdeal)
    ∧ quiescent_ProjInNarrowDw (hProjInNarrowDw := hProjInNarrowDw)
    ∧ quiescent_ProjInNarrowDwIdeal (hProjInNarrowDwIdeal := hProjInNarrowDwIdeal)
    ∧ quiescent_ProjInNarrowDwRefIdeal (hProjInNarrowDwRefIdeal := hProjInNarrowDwRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamWProj (hAdamWProj := hAdamWProj)
    ∧ quiescent_AdamWProjIdeal (hAdamWProjIdeal := hAdamWProjIdeal)
    ∧ quiescent_AdamWProjRefIdeal (hAdamWProjRefIdeal := hAdamWProjRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ preserves_Mlp_MlpIdeal
    ∧ algebraic_MlpIdeal_MlpRefIdeal (hMlpIdeal := hMlpIdeal) (hMlpRefIdeal := hMlpRefIdeal)
    ∧ preserves_Rms_RmsIdeal
    ∧ algebraic_RmsIdeal_RmsRefIdeal (hRmsIdeal := hRmsIdeal) (hRmsRefIdeal := hRmsRefIdeal)
    ∧ preserves_Loss_LossIdeal
    ∧ algebraic_LossIdeal_LossRefIdeal (hLossIdeal := hLossIdeal) (hLossRefIdeal := hLossRefIdeal)
    ∧ preserves_Merge_MergeIdeal
    ∧ algebraic_MergeIdeal_MergeRefIdeal (hMergeIdeal := hMergeIdeal) (hMergeRefIdeal := hMergeRefIdeal)
    ∧ preserves_ConvQ_ConvQIdeal
    ∧ algebraic_ConvQIdeal_ConvQRefIdeal (hConvQIdeal := hConvQIdeal) (hConvQRefIdeal := hConvQRefIdeal)
    ∧ preserves_ConvK_ConvKIdeal
    ∧ algebraic_ConvKIdeal_ConvKRefIdeal (hConvKIdeal := hConvKIdeal) (hConvKRefIdeal := hConvKRefIdeal)
    ∧ preserves_ConvV_ConvVIdeal
    ∧ algebraic_ConvVIdeal_ConvVRefIdeal (hConvVIdeal := hConvVIdeal) (hConvVRefIdeal := hConvVRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_ConvFwdQ_ConvFwdQIdeal
    ∧ algebraic_ConvFwdQIdeal_ConvFwdQRefIdeal (hConvFwdQIdeal := hConvFwdQIdeal) (hConvFwdQRefIdeal := hConvFwdQRefIdeal)
    ∧ preserves_ConvFwdK_ConvFwdKIdeal
    ∧ algebraic_ConvFwdKIdeal_ConvFwdKRefIdeal (hConvFwdKIdeal := hConvFwdKIdeal) (hConvFwdKRefIdeal := hConvFwdKRefIdeal)
    ∧ preserves_ConvFwdV_ConvFwdVIdeal
    ∧ algebraic_ConvFwdVIdeal_ConvFwdVRefIdeal (hConvFwdVIdeal := hConvFwdVIdeal) (hConvFwdVRefIdeal := hConvFwdVRefIdeal)
    ∧ preserves_MlpUp_MlpUpIdeal
    ∧ algebraic_MlpUpIdeal_MlpUpRefIdeal (hMlpUpIdeal := hMlpUpIdeal) (hMlpUpRefIdeal := hMlpUpRefIdeal)
    ∧ preserves_AddNorm_AddNormIdeal
    ∧ algebraic_AddNormIdeal_AddNormRefIdeal (hAddNormIdeal := hAddNormIdeal) (hAddNormRefIdeal := hAddNormRefIdeal)
    ∧ preserves_MlpDown_MlpDownIdeal
    ∧ algebraic_MlpDownIdeal_MlpDownRefIdeal (hMlpDownIdeal := hMlpDownIdeal) (hMlpDownRefIdeal := hMlpDownRefIdeal)
    ∧ preserves_Gate_GateIdeal
    ∧ algebraic_GateIdeal_GateRefIdeal (hGateIdeal := hGateIdeal) (hGateRefIdeal := hGateRefIdeal)
    ∧ preserves_ProjIn_ProjInIdeal
    ∧ algebraic_ProjInIdeal_ProjInRefIdeal (hProjInIdeal := hProjInIdeal) (hProjInRefIdeal := hProjInRefIdeal)
    ∧ preserves_AdamW_AdamWIdeal
    ∧ algebraic_AdamWIdeal_AdamWRefIdeal (hAdamWIdeal := hAdamWIdeal) (hAdamWRefIdeal := hAdamWRefIdeal)
    ∧ preserves_PairSum_PairSumIdeal
    ∧ algebraic_PairSumIdeal_PairSumRefIdeal (hPairSumIdeal := hPairSumIdeal) (hPairSumRefIdeal := hPairSumRefIdeal)
    ∧ preserves_FinalSum_FinalSumIdeal
    ∧ algebraic_FinalSumIdeal_FinalSumRefIdeal (hFinalSumIdeal := hFinalSumIdeal) (hFinalSumRefIdeal := hFinalSumRefIdeal)
    ∧ preserves_MlpDownDw_MlpDownDwIdeal
    ∧ algebraic_MlpDownDwIdeal_MlpDownDwRefIdeal (hMlpDownDwIdeal := hMlpDownDwIdeal) (hMlpDownDwRefIdeal := hMlpDownDwRefIdeal)
    ∧ preserves_ProjOutDw_ProjOutDwIdeal
    ∧ algebraic_ProjOutDwIdeal_ProjOutDwRefIdeal (hProjOutDwIdeal := hProjOutDwIdeal) (hProjOutDwRefIdeal := hProjOutDwRefIdeal)
    ∧ preserves_MlpUpDw_MlpUpDwIdeal
    ∧ algebraic_MlpUpDwIdeal_MlpUpDwRefIdeal (hMlpUpDwIdeal := hMlpUpDwIdeal) (hMlpUpDwRefIdeal := hMlpUpDwRefIdeal)
    ∧ preserves_PleProjDw_PleProjDwIdeal
    ∧ algebraic_PleProjDwIdeal_PleProjDwRefIdeal (hPleProjDwIdeal := hPleProjDwIdeal) (hPleProjDwRefIdeal := hPleProjDwRefIdeal)
    ∧ preserves_ProjInDwA_ProjInDwAIdeal
    ∧ algebraic_ProjInDwAIdeal_ProjInDwARefIdeal (hProjInDwAIdeal := hProjInDwAIdeal) (hProjInDwARefIdeal := hProjInDwARefIdeal)
    ∧ preserves_ProjInDwB_ProjInDwBIdeal
    ∧ algebraic_ProjInDwBIdeal_ProjInDwBRefIdeal (hProjInDwBIdeal := hProjInDwBIdeal) (hProjInDwBRefIdeal := hProjInDwBRefIdeal)
    ∧ preserves_ProjInNarrowDw_ProjInNarrowDwIdeal
    ∧ algebraic_ProjInNarrowDwIdeal_ProjInNarrowDwRefIdeal (hProjInNarrowDwIdeal := hProjInNarrowDwIdeal) (hProjInNarrowDwRefIdeal := hProjInNarrowDwRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamWProj_AdamWProjIdeal
    ∧ algebraic_AdamWProjIdeal_AdamWProjRefIdeal (hAdamWProjIdeal := hAdamWProjIdeal) (hAdamWProjRefIdeal := hAdamWProjRefIdeal)
    ∧ preserves_AdamWIn_AdamWInIdeal
    ∧ algebraic_AdamWInIdeal_AdamWInRefIdeal (hAdamWInIdeal := hAdamWInIdeal) (hAdamWInRefIdeal := hAdamWInRefIdeal)
-- ==== Mlp.lean ====
abbrev S2x2048x8192 : Shape := ⟨3, ![2, 2048, 8192]⟩
abbrev S8192x2048 : Shape := ⟨2, ![8192, 2048]⟩
abbrev S2x2048x2048 : Shape := ⟨3, ![2, 2048, 2048]⟩
abbrev S4096x2048 : Shape := ⟨2, ![4096, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x2048x8192, .f32⟩
  | .hbm, ⟨1, _⟩ => ⟨S8192x2048, .f32⟩
  | .hbm, ⟨2, _⟩ => ⟨S2x2048x2048, .f32⟩
  | .hbm, ⟨3, _⟩ => ⟨S4096x2048, .f32⟩
  | .hbm, ⟨4, _⟩ => ⟨S4096x2048, .bf16⟩
  | .hbm, ⟨5, _⟩ => ⟨S8192x2048, .bf16⟩
  | .hbm, ⟨6, _⟩ => ⟨S4096x8192, .f32⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpRefIdeal.lean ====
abbrev S2x2048x8192 : Shape := ⟨3, ![2, 2048, 8192]⟩
abbrev S8192x2048 : Shape := ⟨2, ![8192, 2048]⟩
abbrev S2x2048x2048 : Shape := ⟨3, ![2, 2048, 2048]⟩
abbrev S_ : Shape := ⟨0, ![]⟩
abbrev S4096x8192 : Shape := ⟨2, ![4096, 8192]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x8192, .f32⟩
  | .hbm, ⟨1, _⟩ => ⟨S8192x2048, .f32⟩
  | .hbm, ⟨2, _⟩ => ⟨S2x2048x2048, .f32⟩
  | .hbm, ⟨3, _⟩ => ⟨S_, .f32⟩
  | .hbm, ⟨4, _⟩ => ⟨S2x2048x8192, .f32⟩
  | .hbm, ⟨5, _⟩ => ⟨S2x2048x8192, .f32⟩
  | .hbm, ⟨6, _⟩ => ⟨S_, .f32⟩
  | .hbm, ⟨7, _⟩ => ⟨S2x2048x8192, .f32⟩
  | .hbm, ⟨8, _⟩ => ⟨S2x2048x8192, .i1⟩
  | .hbm, ⟨9, _⟩ => ⟨S_, .f32⟩
  | .hbm, ⟨10, _⟩ => ⟨S2x2048x8192, .f32⟩
  | .hbm, ⟨11, _⟩ => ⟨S2x2048x8192, .f32⟩
  | .hbm, ⟨12, _⟩ => ⟨S_, .f32⟩
  | .hbm, ⟨13, _⟩ => ⟨S2x2048x8192, .f32⟩
  | .hbm, ⟨14, _⟩ => ⟨S2x2048x8192, .f32⟩
  | .hbm, ⟨15, _⟩ => ⟨S2x2048x2048, .f32⟩
  | .hbm, ⟨16, _⟩ => ⟨S2x2048x8192, .f32⟩
  | .hbm, ⟨17, _⟩ => ⟨S2x2048x8192, .f32⟩
  | .hbm, ⟨18, _⟩ => ⟨S_, .f32⟩
  | .hbm, ⟨19, _⟩ => ⟨S2x2048x8192, .f32⟩
  | .hbm, ⟨20, _⟩ => ⟨S2x2048x8192, .f32⟩
  | .hbm, ⟨21, _⟩ => ⟨S4096x8192, .f32⟩
  | .hbm, ⟨22, _⟩ => ⟨S4096x8192, .bf16⟩
  | _, _ => ⟨S2x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Rms.lean ====
abbrev S2x2048x2048 : Shape := ⟨3, ![2, 2048, 2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x2048x2048, .f32⟩
  | .hbm, ⟨3, _⟩ => ⟨S2x2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S4096x2048 : Shape := ⟨2, ![4096, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2x2048x2048, .f32⟩
  | .hbm, ⟨3, _⟩ => ⟨S2x2048x2048, .f32⟩
  | .hbm, ⟨4, _⟩ => ⟨S2048, .f32⟩
  | .hbm, ⟨5, _⟩ => ⟨S2x2048x2048, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x2048, .f32⟩
  | .hbm, ⟨21, _⟩ => ⟨S2x2048x2048, .f32⟩
  | .hbm, ⟨22, _⟩ => ⟨S1x1x2048, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2048, .f32⟩
  | .hbm, ⟨28, _⟩ => ⟨S1x1x2048, .f32⟩
  | .hbm, ⟨29, _⟩ => ⟨S2x2048x2048, .f32⟩
  | .hbm, ⟨30, _⟩ => ⟨S2x2048x2048, .f32⟩
  | .hbm, ⟨31, _⟩ => ⟨S_, .f32⟩
  | .hbm, ⟨32, _⟩ => ⟨S2048, .f32⟩
  | .hbm, ⟨33, _⟩ => ⟨S2x2048x2048, .f32⟩
  | .hbm, ⟨34, _⟩ => ⟨S_, .f32⟩
  | .hbm, ⟨35, _⟩ => ⟨S2x2048, .f32⟩
  | .hbm, ⟨36, _⟩ => ⟨S2x2048x1, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048, .f32⟩
  | .hbm, ⟨46, _⟩ => ⟨S2x2048x2048, .f32⟩
  | .hbm, ⟨47, _⟩ => ⟨S2x2048x2048, .f32⟩
  | .hbm, ⟨48, _⟩ => ⟨S2x2048x2048, .f32⟩
  | .hbm, ⟨49, _⟩ => ⟨S2x2048x2048, .f32⟩
  | .hbm, ⟨50, _⟩ => ⟨S2x2048x2048, .f32⟩
  | .hbm, ⟨51, _⟩ => ⟨S1x2048, .f32⟩
  | .hbm, ⟨52, _⟩ => ⟨S4096x2048, .f32⟩
  | .hbm, ⟨53, _⟩ => ⟨S4096x2048, .f32⟩
  | .hbm, ⟨54, _⟩ => ⟨S4096x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Loss.lean ====
abbrev S2x2048x2048 : Shape := ⟨3, ![2, 2048, 2048]⟩
abbrev S2048 : Shape := ⟨1, ![2048]⟩
abbrev S_ : Shape := ⟨0, ![]⟩
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 25
  | .vmem => 17
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S_, .f32⟩
  | .hbm, ⟨8, _⟩ => ⟨S2x2048x2048, .f32⟩
  | .hbm, ⟨9, _⟩ => ⟨S2x2048x2048, .f32⟩
  | .hbm, ⟨10, _⟩ => ⟨S_, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x2048, .bf16⟩
  | .hbm, ⟨23, _⟩ => ⟨S8x128, .f32⟩
  | .hbm, ⟨24, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S8x128, .f32⟩
  | .local _ .vmem, ⟨16, _⟩ => ⟨S1x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S2x2048x2048 : Shape := ⟨3, ![2, 2048, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S4096x2048 : Shape := ⟨2, ![4096, 2048]⟩
abbrev S8x128 : Shape := ⟨2, ![8, 128]⟩
abbrev S1x2048 : Shape := ⟨2, ![1, 2048]⟩

abbrev nBuf : Space → Nat
  | .hbm => 97
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S_, .f32⟩
  | .hbm, ⟨8, _⟩ => ⟨S2x2048x2048, .f32⟩
  | .hbm, ⟨9, _⟩ => ⟨S2x2048x2048, .f32⟩
  | .hbm, ⟨10, _⟩ => ⟨S_, .f32⟩
  | .hbm, ⟨11, _⟩ => ⟨S2x2048x2048, .f32⟩
  | .hbm, ⟨12, _⟩ => ⟨S2x2048x2048, .f32⟩
  | .hbm, ⟨13, _⟩ => ⟨S_, .f32⟩
  | .hbm, ⟨14, _⟩ => ⟨S2x2048x2048, .f32⟩
  | .hbm, ⟨15, _⟩ => ⟨S2x2048x2048, .f32⟩
  | .hbm, ⟨16, _⟩ => ⟨S2x2048x2048, .f32⟩
  | .hbm, ⟨17, _⟩ => ⟨S2x2048x2048, .f32⟩
  | .hbm, ⟨18, _⟩ => ⟨S2x2048x2048, .f32⟩
  | .hbm, ⟨19, _⟩ => ⟨S2x2048x2048, .f32⟩
  | .hbm, ⟨20, _⟩ => ⟨S_, .f32⟩
  | .hbm, ⟨21, _⟩ => ⟨S2x2048, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S_, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S_, .f32⟩
  | .hbm, ⟨32, _⟩ => ⟨S2x2048x1, .f32⟩
  | .hbm, ⟨33, _⟩ => ⟨S2x2048x1, .f32⟩
  | .hbm, ⟨34, _⟩ => ⟨S2x2048x2048, .f32⟩
  | .hbm, ⟨35, _⟩ => ⟨S2x2048x2048, .f32⟩
  | .hbm, ⟨36, _⟩ => ⟨S1x1x2048, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S_, .f32⟩
  | .hbm, ⟨42, _⟩ => ⟨S2x2048x2048, .f32⟩
  | .hbm, ⟨43, _⟩ => ⟨S2x2048x2048, .f32⟩
  | .hbm, ⟨44, _⟩ => ⟨S_, .f32⟩
  | .hbm, ⟨45, _⟩ => ⟨S2x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S2x2048, .f32⟩
  | .hbm, ⟨57, _⟩ => ⟨S_, .f32⟩
  | .hbm, ⟨58, _⟩ => ⟨S2x2048, .f32⟩
  | .hbm, ⟨59, _⟩ => ⟨S2x2048, .f32⟩
  | .hbm, ⟨60, _⟩ => ⟨S2x2048x2048, .f32⟩
  | .hbm, ⟨61, _⟩ => ⟨S2x2048x2048, .f32⟩
  | .hbm, ⟨62, _⟩ => ⟨S2x2048x2048, .f32⟩
  | .hbm, ⟨63, _⟩ => ⟨S_, .f32⟩
  | .hbm, ⟨64, _⟩ => ⟨S2048, .f32⟩
  | .hbm, ⟨65, _⟩ => ⟨S1x1x2048, .f32⟩
  | .hbm, ⟨66, _⟩ => ⟨S2x2048x2048, .f32⟩
  | .hbm, ⟨67, _⟩ => ⟨S2x2048x2048, .f32⟩
  | .hbm, ⟨68, _⟩ => ⟨S_, .f32⟩
  | .hbm, ⟨69, _⟩ => ⟨S2048, .f32⟩
  | .hbm, ⟨70, _⟩ => ⟨S2x2048x2048, .f32⟩
  | .hbm, ⟨71, _⟩ => ⟨S_, .f32⟩
  | .hbm, ⟨72, _⟩ => ⟨S2x2048, .f32⟩
  | .hbm, ⟨73, _⟩ => ⟨S2x2048x1, .f32⟩
  | .hbm, ⟨74, _⟩ => ⟨S2x2048x2048, .f32⟩
  | .hbm, ⟨75, _⟩ => ⟨S2x2048x2048, .f32⟩
  | .hbm, ⟨76, _⟩ => ⟨S2x2048x1, .f32⟩
  | .hbm, ⟨77, _⟩ => ⟨S_, .f32⟩
  | .hbm, ⟨78, _⟩ => ⟨S2x2048x1, .f32⟩
  | .hbm, ⟨79, _⟩ => ⟨S2x2048x1, .f32⟩
  | .hbm, ⟨80, _⟩ => ⟨S_, .f32⟩
  | .hbm, ⟨81, _⟩ => ⟨S2x2048, .f32⟩
  | .hbm, ⟨82, _⟩ => ⟨S2x2048x2048, .f32⟩
  | .hbm, ⟨83, _⟩ => ⟨S2x2048x2048, .f32⟩
  | .hbm, ⟨84, _⟩ => ⟨S2x2048x2048, .f32⟩
  | .hbm, ⟨85, _⟩ => ⟨S2x2048x2048, .f32⟩
  | .hbm, ⟨86, _⟩ => ⟨S2x2048x2048, .f32⟩
  | .hbm, ⟨87, _⟩ => ⟨S2x2048x2048, .f32⟩
  | .hbm, ⟨88, _⟩ => ⟨S2x2048x2048, .f32⟩
  | .hbm, ⟨89, _⟩ => ⟨S2x2048x2048, .f32⟩
  | .hbm, ⟨90, _⟩ => ⟨S4096x2048, .f32⟩
  | .hbm, ⟨91, _⟩ => ⟨S4096x2048, .f32⟩
  | .hbm, ⟨92, _⟩ => ⟨S4096x2048, .bf16⟩
  | .hbm, ⟨93, _⟩ => ⟨S4096x2048, .f32⟩
  | .hbm, ⟨94, _⟩ => ⟨S4096x2048, .bf16⟩
  | .hbm, ⟨95, _⟩ => ⟨S8x128, .f32⟩
  | .hbm, ⟨96, _⟩ => ⟨S1x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_cst_11 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_cst_13 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Merge.lean ====
abbrev S2x2048x2048 : Shape := ⟨3, ![2, 2048, 2048]⟩
abbrev S2x2048x18480 : Shape := ⟨3, ![2, 2048, 18480]⟩
abbrev S1x512 : Shape := ⟨2, ![1, 512]⟩
abbrev S1x128 : Shape := ⟨2, ![1, 128]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 28
  | .vmem => 30
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x18480, .f32⟩
  | .hbm, ⟨3, _⟩ => ⟨S1x512, .f32⟩
  | .hbm, ⟨4, _⟩ => ⟨S1x128, .f32⟩
  | .hbm, ⟨5, _⟩ => ⟨S2x2048x2048, .f32⟩
  | .hbm, ⟨6, _⟩ => ⟨S4096x18480, .f32⟩
  | .hbm, ⟨7, _⟩ => ⟨S4096x6144, .f32⟩
  | .hbm, ⟨8, _⟩ => ⟨S4096x6144, .f32⟩
  | .hbm, ⟨9, _⟩ => ⟨S4096x2048, .f32⟩
  | .hbm, ⟨10, _⟩ => ⟨S4096x4096, .f32⟩
  | .hbm, ⟨11, _⟩ => ⟨S4096x18432, .f32⟩
  | .hbm, ⟨12, _⟩ => ⟨S_, .f32⟩
  | .hbm, ⟨13, _⟩ => ⟨S4096x80, .f32⟩
  | .hbm, ⟨14, _⟩ => ⟨S4096x16, .f32⟩
  | .hbm, ⟨15, _⟩ => ⟨S4096x32, .f32⟩
  | .hbm, ⟨16, _⟩ => ⟨S4096x128, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | .hbm, ⟨22, _⟩ => ⟨S4096x2048, .f32⟩
  | .hbm, ⟨23, _⟩ => ⟨S4096x2048, .bf16⟩
  | .hbm, ⟨24, _⟩ => ⟨S4096x2048, .bf16⟩
  | .hbm, ⟨25, _⟩ => ⟨S4096x2048, .bf16⟩
  | .hbm, ⟨26, _⟩ => ⟨S1x512, .f32⟩
  | .hbm, ⟨27, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S1x128, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S1x512, .f32⟩
  | .local _ .vmem, ⟨29, _⟩ => ⟨S1x128, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v13_5 : Ref sig .tc := ⟨.hbm, 25, rfl⟩
abbrev main_v13_6 : Ref sig .tc := ⟨.hbm, 26, rfl⟩
abbrev main_v13_7 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== MergeRefIdeal.lean ====
abbrev S2x2048x2048 : Shape := ⟨3, ![2, 2048, 2048]⟩
abbrev S2x2048x18480 : Shape := ⟨3, ![2, 2048, 18480]⟩
abbrev S1x512 : Shape := ⟨2, ![1, 512]⟩
abbrev S1x128 : Shape := ⟨2, ![1, 128]⟩
abbrev S2x2048x1024 : Shape := ⟨3, ![2, 2048, 1024]⟩
abbrev S2x2048x16 : Shape := ⟨3, ![2, 2048, 16]⟩
abbrev S2x2048x6144 : Shape := ⟨3, ![2, 2048, 6144]⟩
abbrev S2x2048x4x512 : Shape := ⟨4, ![2, 2048, 4, 512]⟩
abbrev S512 : Shape := ⟨1, ![512]⟩
abbrev S_ : Shape := ⟨0, ![]⟩
abbrev S2x2048x4 : Shape := ⟨3, ![2, 2048, 4]⟩
abbrev S2x2048x4x1 : Shape := ⟨4, ![2, 2048, 4, 1]⟩
abbrev S1x1x1x512 : Shape := ⟨4, ![1, 1, 1, 512]⟩
abbrev S2x2048x16x128 : Shape := ⟨4, ![2, 2048, 16, 128]⟩
abbrev S128 : Shape := ⟨1, ![128]⟩
abbrev S2x2048x16x1 : Shape := ⟨4, ![2, 2048, 16, 1]⟩
abbrev S1x1x1x128 : Shape := ⟨4, ![1, 1, 1, 128]⟩
abbrev S4096x2048 : Shape := ⟨2, ![4096, 2048]⟩

abbrev nBuf : Space → Nat
  | .hbm => 204
  | .vmem => 0
  | .smem => 0
  | _ => 0

abbrev hbmTy0_0 (i : Nat) : BufTy := match i % 128 with
  | 0 => ⟨S2x2048x2048, .f32⟩
  | 1 => ⟨S2x2048x2048, .f32⟩
  | 2 => ⟨S2x2048x18480, .f32⟩
  | 3 => ⟨S1x512, .f32⟩
  | 4 => ⟨S1x128, .f32⟩
  | 5 => ⟨S2x2048x2048, .f32⟩
  | 6 => ⟨S2x2048x1024, .f32⟩
  | 7 => ⟨S2x2048x1024, .f32⟩
  | 8 => ⟨S2x2048x2048, .f32⟩
  | 9 => ⟨S2x2048x2048, .f32⟩
  | 10 => ⟨S2x2048x16, .f32⟩
  | 11 => ⟨S2x2048x6144, .f32⟩
  | 12 => ⟨S2x2048x2048, .f32⟩
  | 13 => ⟨S2x2048x16, .f32⟩
  | 14 => ⟨S2x2048x16, .f32⟩
  | 15 => ⟨S2x2048x2048, .f32⟩
  | 16 => ⟨S2x2048x2048, .f32⟩
  | 17 => ⟨S2x2048x4x512, .f32⟩
  | 18 => ⟨S512, .f32⟩
  | 19 => ⟨S2x2048x4x512, .f32⟩
  | 20 => ⟨S_, .f32⟩
  | 21 => ⟨S2x2048x4, .f32⟩
  | 22 => ⟨S2x2048x4x1, .f32⟩
  | 23 => ⟨S_, .f32⟩
  | 24 => ⟨S2x2048x4x1, .f32⟩
  | 25 => ⟨S2x2048x4x1, .f32⟩
  | 26 => ⟨S_, .f32⟩
  | 27 => ⟨S2x2048x4x1, .f32⟩
  | 28 => ⟨S2x2048x4x1, .f32⟩
  | 29 => ⟨S2x2048x4x1, .f32⟩
  | 30 => ⟨S2x2048x4x1, .f32⟩
  | 31 => ⟨S_, .f32⟩
  | 32 => ⟨S2x2048x4x1, .f32⟩
  | 33 => ⟨S2x2048x4x1, .f32⟩
  | 34 => ⟨S2x2048x4x512, .f32⟩
  | 35 => ⟨S2x2048x4x512, .f32⟩
  | 36 => ⟨S1x1x1x512, .f32⟩
  | 37 => ⟨S2x2048x4x512, .f32⟩
  | 38 => ⟨S2x2048x4x512, .f32⟩
  | 39 => ⟨S2x2048x2048, .f32⟩
  | 40 => ⟨S2x2048x2048, .f32⟩
  | 41 => ⟨S2x2048x2048, .f32⟩
  | 42 => ⟨S_, .f32⟩
  | 43 => ⟨S2x2048x2048, .f32⟩
  | 44 => ⟨S2x2048x2048, .f32⟩
  | 45 => ⟨S_, .f32⟩
  | 46 => ⟨S2x2048x2048, .f32⟩
  | 47 => ⟨S2x2048x2048, .f32⟩
  | 48 => ⟨S_, .f32⟩
  | 49 => ⟨S2x2048x2048, .f32⟩
  | 50 => ⟨S2x2048x2048, .f32⟩
  | 51 => ⟨S2x2048x2048, .f32⟩
  | 52 => ⟨S2x2048x2048, .f32⟩
  | 53 => ⟨S2x2048x2048, .f32⟩
  | 54 => ⟨S2x2048x16x128, .f32⟩
  | 55 => ⟨S128, .f32⟩
  | 56 => ⟨S2x2048x16x128, .f32⟩
  | 57 => ⟨S_, .f32⟩
  | 58 => ⟨S2x2048x16, .f32⟩
  | 59 => ⟨S2x2048x16x1, .f32⟩
  | 60 => ⟨S_, .f32⟩
  | 61 => ⟨S2x2048x16x1, .f32⟩
  | 62 => ⟨S2x2048x16x1, .f32⟩
  | 63 => ⟨S_, .f32⟩
  | 64 => ⟨S2x2048x16x1, .f32⟩
  | 65 => ⟨S2x2048x16x1, .f32⟩
  | 66 => ⟨S2x2048x16x1, .f32⟩
  | 67 => ⟨S2x2048x16x1, .f32⟩
  | 68 => ⟨S_, .f32⟩
  | 69 => ⟨S2x2048x16x1, .f32⟩
  | 70 => ⟨S2x2048x16x1, .f32⟩
  | 71 => ⟨S2x2048x16x128, .f32⟩
  | 72 => ⟨S2x2048x16x128, .f32⟩
  | 73 => ⟨S1x1x1x128, .f32⟩
  | 74 => ⟨S2x2048x16x128, .f32⟩
  | 75 => ⟨S2x2048x16x128, .f32⟩
  | 76 => ⟨S2x2048x2048, .f32⟩
  | 77 => ⟨S2x2048x2048, .f32⟩
  | 78 => ⟨S2x2048x2048, .f32⟩
  | 79 => ⟨S_, .f32⟩
  | 80 => ⟨S2x2048x2048, .f32⟩
  | 81 => ⟨S2x2048x2048, .f32⟩
  | 82 => ⟨S_, .f32⟩
  | 83 => ⟨S2x2048x2048, .f32⟩
  | 84 => ⟨S2x2048x2048, .f32⟩
  | 85 => ⟨S_, .f32⟩
  | 86 => ⟨S2x2048x2048, .f32⟩
  | 87 => ⟨S2x2048x2048, .f32⟩
  | 88 => ⟨S2x2048x2048, .f32⟩
  | 89 => ⟨S2x2048x2048, .f32⟩
  | 90 => ⟨S2x2048x2048, .f32⟩
  | 91 => ⟨S2x2048x2048, .f32⟩
  | 92 => ⟨S2x2048x2048, .f32⟩
  | 93 => ⟨S_, .f32⟩
  | 94 => ⟨S2x2048x2048, .f32⟩
  | 95 => ⟨S2x2048x2048, .f32⟩
  | 96 => ⟨S_, .f32⟩
  | 97 => ⟨S2x2048x2048, .f32⟩
  | 98 => ⟨S2x2048x2048, .f32⟩
  | 99 => ⟨S_, .f32⟩
  | 100 => ⟨S2x2048x2048, .f32⟩
  | 101 => ⟨S2x2048x2048, .f32⟩
  | 102 => ⟨S2x2048x2048, .f32⟩
  | 103 => ⟨S2x2048x2048, .f32⟩
  | 104 => ⟨S2x2048x2048, .f32⟩
  | 105 => ⟨S2x2048x2048, .f32⟩
  | 106 => ⟨S_, .f32⟩
  | 107 => ⟨S2x2048x2048, .f32⟩
  | 108 => ⟨S2x2048x2048, .f32⟩
  | 109 => ⟨S_, .f32⟩
  | 110 => ⟨S2x2048x2048, .f32⟩
  | 111 => ⟨S2x2048x2048, .f32⟩
  | 112 => ⟨S_, .f32⟩
  | 113 => ⟨S2x2048x2048, .f32⟩
  | 114 => ⟨S2x2048x2048, .f32⟩
  | 115 => ⟨S2x2048x2048, .f32⟩
  | 116 => ⟨S2x2048x2048, .f32⟩
  | 117 => ⟨S2x2048x2048, .f32⟩
  | 118 => ⟨S2x2048x2048, .f32⟩
  | 119 => ⟨S2x2048x2048, .f32⟩
  | 120 => ⟨S2x2048x2048, .f32⟩
  | 121 => ⟨S2x2048x2048, .f32⟩
  | 122 => ⟨S2x2048x2048, .f32⟩
  | 123 => ⟨S2x2048x2048, .f32⟩
  | 124 => ⟨S2x2048x2048, .f32⟩
  | 125 => ⟨S2x2048x2048, .f32⟩
  | 126 => ⟨S2x2048x2048, .f32⟩
  | 127 => ⟨S2x2048x2048, .f32⟩
  | _ => ⟨S2x2048x2048, .f32⟩

abbrev hbmTy0_1 (i : Nat) : BufTy := match i % 128 with
  | 0 => ⟨S2x2048x2048, .f32⟩
  | 1 => ⟨S2x2048x2048, .f32⟩
  | 2 => ⟨S2x2048x2048, .f32⟩
  | 3 => ⟨S2x2048x2048, .f32⟩
  | 4 => ⟨S2x2048x16x128, .f32⟩
  | 5 => ⟨S2x2048x16x128, .f32⟩
  | 6 => ⟨S_, .f32⟩
  | 7 => ⟨S128, .f32⟩
  | 8 => ⟨S1x1x1x128, .f32⟩
  | 9 => ⟨S2x2048x16x128, .f32⟩
  | 10 => ⟨S2x2048x16x128, .f32⟩
  | 11 => ⟨S_, .f32⟩
  | 12 => ⟨S128, .f32⟩
  | 13 => ⟨S2x2048x16x128, .f32⟩
  | 14 => ⟨S_, .f32⟩
  | 15 => ⟨S2x2048x16, .f32⟩
  | 16 => ⟨S2x2048x16x1, .f32⟩
  | 17 => ⟨S2x2048x16x128, .f32⟩
  | 18 => ⟨S2x2048x16x128, .f32⟩
  | 19 => ⟨S2x2048x16x1, .f32⟩
  | 20 => ⟨S_, .f32⟩
  | 21 => ⟨S2x2048x16x1, .f32⟩
  | 22 => ⟨S2x2048x16x1, .f32⟩
  | 23 => ⟨S_, .f32⟩
  | 24 => ⟨S2x2048x16, .f32⟩
  | 25 => ⟨S2x2048x16x128, .f32⟩
  | 26 => ⟨S2x2048x16x128, .f32⟩
  | 27 => ⟨S2x2048x16x128, .f32⟩
  | 28 => ⟨S2x2048x16x128, .f32⟩
  | 29 => ⟨S2x2048x16x128, .f32⟩
  | 30 => ⟨S1x128, .f32⟩
  | 31 => ⟨S2x2048x2048, .f32⟩
  | 32 => ⟨S2x2048x2048, .f32⟩
  | 33 => ⟨S2x2048x2048, .f32⟩
  | 34 => ⟨S2x2048x2048, .f32⟩
  | 35 => ⟨S2x2048x2048, .f32⟩
  | 36 => ⟨S2x2048x2048, .f32⟩
  | 37 => ⟨S2x2048x2048, .f32⟩
  | 38 => ⟨S2x2048x4x512, .f32⟩
  | 39 => ⟨S2x2048x4x512, .f32⟩
  | 40 => ⟨S_, .f32⟩
  | 41 => ⟨S512, .f32⟩
  | 42 => ⟨S1x1x1x512, .f32⟩
  | 43 => ⟨S2x2048x4x512, .f32⟩
  | 44 => ⟨S2x2048x4x512, .f32⟩
  | 45 => ⟨S_, .f32⟩
  | 46 => ⟨S512, .f32⟩
  | 47 => ⟨S2x2048x4x512, .f32⟩
  | 48 => ⟨S_, .f32⟩
  | 49 => ⟨S2x2048x4, .f32⟩
  | 50 => ⟨S2x2048x4x1, .f32⟩
  | 51 => ⟨S2x2048x4x512, .f32⟩
  | 52 => ⟨S2x2048x4x512, .f32⟩
  | 53 => ⟨S2x2048x4x1, .f32⟩
  | 54 => ⟨S_, .f32⟩
  | 55 => ⟨S2x2048x4x1, .f32⟩
  | 56 => ⟨S2x2048x4x1, .f32⟩
  | 57 => ⟨S_, .f32⟩
  | 58 => ⟨S2x2048x4, .f32⟩
  | 59 => ⟨S2x2048x4x512, .f32⟩
  | 60 => ⟨S2x2048x4x512, .f32⟩
  | 61 => ⟨S2x2048x4x512, .f32⟩
  | 62 => ⟨S2x2048x4x512, .f32⟩
  | 63 => ⟨S2x2048x4x512, .f32⟩
  | 64 => ⟨S1x512, .f32⟩
  | 65 => ⟨S2x2048x2048, .f32⟩
  | 66 => ⟨S4096x2048, .f32⟩
  | 67 => ⟨S4096x2048, .f32⟩
  | 68 => ⟨S4096x2048, .bf16⟩
  | 69 => ⟨S4096x2048, .f32⟩
  | 70 => ⟨S4096x2048, .f32⟩
  | 71 => ⟨S4096x2048, .bf16⟩
  | 72 => ⟨S4096x2048, .f32⟩
  | 73 => ⟨S4096x2048, .bf16⟩
  | 74 => ⟨S4096x2048, .f32⟩
  | 75 => ⟨S4096x2048, .bf16⟩
  | _ => ⟨S2x2048x2048, .f32⟩

abbrev hbmTy (i : Nat) : BufTy := match i / 128 with
  | 0 => hbmTy0_0 i
  | 1 => hbmTy0_1 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v30_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v30_1 : Ref sig .tc := ⟨.hbm, 51, rfl⟩
abbrev main_v30_0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_3 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_v51_2 : Ref sig .tc := ⟨.hbm, 84, rfl⟩
abbrev main_call1_cst_1 : Ref sig .tc := ⟨.hbm, 85, rfl⟩
abbrev main_call1_v6 : Ref sig .tc := ⟨.hbm, 86, rfl⟩
abbrev main_call1_v7 : Ref sig .tc := ⟨.hbm, 87, rfl⟩
abbrev main_v51_1 : Ref sig .tc := ⟨.hbm, 88, rfl⟩
abbrev main_v51_0 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_7 : Ref sig .tc := ⟨.hbm, 93, rfl⟩
abbrev main_v55 : Ref sig .tc := ⟨.hbm, 94, rfl⟩
abbrev main_v56 : Ref sig .tc := ⟨.hbm, 95, rfl⟩
abbrev main_cst_8 : Ref sig .tc := ⟨.hbm, 96, rfl⟩
abbrev main_v57 : Ref sig .tc := ⟨.hbm, 97, rfl⟩
abbrev main_v58 : Ref sig .tc := ⟨.hbm, 98, rfl⟩
abbrev main_cst_9 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_10 : Ref sig .tc := ⟨.hbm, 106, rfl⟩
abbrev main_v65 : Ref sig .tc := ⟨.hbm, 107, rfl⟩
abbrev main_v66 : Ref sig .tc := ⟨.hbm, 108, rfl⟩
abbrev main_cst_11 : Ref sig .tc := ⟨.hbm, 109, rfl⟩
abbrev main_v67 : Ref sig .tc := ⟨.hbm, 110, rfl⟩
abbrev main_v68 : Ref sig .tc := ⟨.hbm, 111, rfl⟩
abbrev main_cst_12 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_cst_13 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_14 : Ref sig .tc := ⟨.hbm, 139, rfl⟩
abbrev main_v91 : Ref sig .tc := ⟨.hbm, 140, rfl⟩
abbrev main_v92 : Ref sig .tc := ⟨.hbm, 141, rfl⟩
abbrev main_cst_15 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_cst_16 : Ref sig .tc := ⟨.hbm, 148, rfl⟩
abbrev main_v98 : Ref sig .tc := ⟨.hbm, 149, rfl⟩
abbrev main_v99 : Ref sig .tc := ⟨.hbm, 150, rfl⟩
abbrev main_cst_17 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_call3_v0 : Ref sig .tc := ⟨.hbm, 162, rfl⟩
abbrev main_call3_v1 : Ref sig .tc := ⟨.hbm, 163, rfl⟩
abbrev main_call3_v2 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_18 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_19 : Ref sig .tc := ⟨.hbm, 173, rfl⟩
abbrev main_v117 : Ref sig .tc := ⟨.hbm, 174, rfl⟩
abbrev main_v118 : Ref sig .tc := ⟨.hbm, 175, rfl⟩
abbrev main_cst_20 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_21 : Ref sig .tc := ⟨.hbm, 182, rfl⟩
abbrev main_v124 : Ref sig .tc := ⟨.hbm, 183, rfl⟩
abbrev main_v125 : Ref sig .tc := ⟨.hbm, 184, rfl⟩
abbrev main_cst_22 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩

abbrev nD : Nat := 1
abbrev τ : Topo := Topo.v7x

variable {F : FTy → Type} [FloatOps F]
-- ==== ConvQ.lean ====
abbrev S2x2048x18480 : Shape := ⟨3, ![2, 2048, 18480]⟩
abbrev S4x6144 : Shape := ⟨2, ![4, 6144]⟩
abbrev S2x2048x2048 : Shape := ⟨3, ![2, 2048, 2048]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S4x2048 : Shape := ⟨2, ![4, 2048]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x2048, .f32⟩
  | .hbm, ⟨3, _⟩ => ⟨S4096x18480, .f32⟩
  | .hbm, ⟨4, _⟩ => ⟨S4096x6144, .f32⟩
  | .hbm, ⟨5, _⟩ => ⟨S4096x6144, .f32⟩
  | .hbm, ⟨6, _⟩ => ⟨S4096x2048, .f32⟩
  | .hbm, ⟨7, _⟩ => ⟨S4096x4096, .f32⟩
  | .hbm, ⟨8, _⟩ => ⟨S4096x18432, .f32⟩
  | .hbm, ⟨9, _⟩ => ⟨S_, .f32⟩
  | .hbm, ⟨10, _⟩ => ⟨S4096x80, .f32⟩
  | .hbm, ⟨11, _⟩ => ⟨S4096x16, .f32⟩
  | .hbm, ⟨12, _⟩ => ⟨S4096x32, .f32⟩
  | .hbm, ⟨13, _⟩ => ⟨S4096x128, .f32⟩
  | .hbm, ⟨14, _⟩ => ⟨S4096x2048, .f32⟩
  | .hbm, ⟨15, _⟩ => ⟨S4096x2048, .bf16⟩
  | .hbm, ⟨16, _⟩ => ⟨S4x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvQIdeal.lean ====
abbrev S2x2048x18480 : Shape := ⟨3, ![2, 2048, 18480]⟩
abbrev S4x6144 : Shape := ⟨2, ![4, 6144]⟩
abbrev S2x2048x2048 : Shape := ⟨3, ![2, 2048, 2048]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S4x2048 : Shape := ⟨2, ![4, 2048]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x2048, .f32⟩
  | .hbm, ⟨3, _⟩ => ⟨S4096x18480, .f32⟩
  | .hbm, ⟨4, _⟩ => ⟨S4096x6144, .f32⟩
  | .hbm, ⟨5, _⟩ => ⟨S4096x6144, .f32⟩
  | .hbm, ⟨6, _⟩ => ⟨S4096x2048, .f32⟩
  | .hbm, ⟨7, _⟩ => ⟨S4096x4096, .f32⟩
  | .hbm, ⟨8, _⟩ => ⟨S4096x18432, .f32⟩
  | .hbm, ⟨9, _⟩ => ⟨S_, .f32⟩
  | .hbm, ⟨10, _⟩ => ⟨S4096x80, .f32⟩
  | .hbm, ⟨11, _⟩ => ⟨S4096x16, .f32⟩
  | .hbm, ⟨12, _⟩ => ⟨S4096x32, .f32⟩
  | .hbm, ⟨13, _⟩ => ⟨S4096x128, .f32⟩
  | .hbm, ⟨14, _⟩ => ⟨S4096x2048, .f32⟩
  | .hbm, ⟨15, _⟩ => ⟨S4096x2048, .bf16⟩
  | .hbm, ⟨16, _⟩ => ⟨S4x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvQRefIdeal.lean ====
abbrev S2x2048x18480 : Shape := ⟨3, ![2, 2048, 18480]⟩
abbrev S4x6144 : Shape := ⟨2, ![4, 6144]⟩
abbrev S2x2048x2048 : Shape := ⟨3, ![2, 2048, 2048]⟩
abbrev S2x2048x1024 : Shape := ⟨3, ![2, 2048, 1024]⟩
abbrev S2x2048x16 : Shape := ⟨3, ![2, 2048, 16]⟩
abbrev S2x2048x6144 : Shape := ⟨3, ![2, 2048, 6144]⟩
abbrev S4x2048 : Shape := ⟨2, ![4, 2048]⟩
abbrev S_ : Shape := ⟨0, ![]⟩
abbrev S2x3x2048 : Shape := ⟨3, ![2, 3, 2048]⟩
abbrev S2x2051x2048 : Shape := ⟨3, ![2, 2051, 2048]⟩
abbrev S1x2048 : Shape := ⟨2, ![1, 2048]⟩
abbrev S2048 : Shape := ⟨1, ![2048]⟩
abbrev S1x1x2048 : Shape := ⟨3, ![1, 1, 2048]⟩
abbrev S2x2048x16x128 : Shape := ⟨4, ![2, 2048, 16, 128]⟩
abbrev S2x2048x16x1 : Shape := ⟨4, ![2, 2048, 16, 1]⟩
abbrev S4096x2048 : Shape := ⟨2, ![4096, 2048]⟩

abbrev nBuf : Space → Nat
  | .hbm => 168
  | .vmem => 0
  | .smem => 0
  | _ => 0

abbrev hbmTy0_0 (i : Nat) : BufTy := match i % 128 with
  | 0 => ⟨S2x2048x18480, .f32⟩
  | 1 => ⟨S4x6144, .f32⟩
  | 2 => ⟨S2x2048x2048, .f32⟩
  | 3 => ⟨S2x2048x1024, .f32⟩
  | 4 => ⟨S2x2048x1024, .f32⟩
  | 5 => ⟨S2x2048x2048, .f32⟩
  | 6 => ⟨S2x2048x2048, .f32⟩
  | 7 => ⟨S2x2048x16, .f32⟩
  | 8 => ⟨S2x2048x6144, .f32⟩
  | 9 => ⟨S2x2048x2048, .f32⟩
  | 10 => ⟨S2x2048x16, .f32⟩
  | 11 => ⟨S2x2048x16, .f32⟩
  | 12 => ⟨S2x2048x2048, .f32⟩
  | 13 => ⟨S2x2048x2048, .f32⟩
  | 14 => ⟨S2x2048x2048, .f32⟩
  | 15 => ⟨S4x2048, .f32⟩
  | 16 => ⟨S_, .f32⟩
  | 17 => ⟨S2x3x2048, .f32⟩
  | 18 => ⟨S2x2051x2048, .f32⟩
  | 19 => ⟨S_, .f32⟩
  | 20 => ⟨S2x3x2048, .f32⟩
  | 21 => ⟨S2x2048x2048, .f32⟩
  | 22 => ⟨S1x2048, .f32⟩
  | 23 => ⟨S2048, .f32⟩
  | 24 => ⟨S1x1x2048, .f32⟩
  | 25 => ⟨S2x2048x2048, .f32⟩
  | 26 => ⟨S2x2048x2048, .f32⟩
  | 27 => ⟨S_, .f32⟩
  | 28 => ⟨S2x2048x2048, .f32⟩
  | 29 => ⟨S2x2048x2048, .f32⟩
  | 30 => ⟨S2x2048x2048, .f32⟩
  | 31 => ⟨S1x2048, .f32⟩
  | 32 => ⟨S2048, .f32⟩
  | 33 => ⟨S1x1x2048, .f32⟩
  | 34 => ⟨S2x2048x2048, .f32⟩
  | 35 => ⟨S2x2048x2048, .f32⟩
  | 36 => ⟨S2x2048x2048, .f32⟩
  | 37 => ⟨S2x2048x2048, .f32⟩
  | 38 => ⟨S1x2048, .f32⟩
  | 39 => ⟨S2048, .f32⟩
  | 40 => ⟨S1x1x2048, .f32⟩
  | 41 => ⟨S2x2048x2048, .f32⟩
  | 42 => ⟨S2x2048x2048, .f32⟩
  | 43 => ⟨S2x2048x2048, .f32⟩
  | 44 => ⟨S2x2048x2048, .f32⟩
  | 45 => ⟨S1x2048, .f32⟩
  | 46 => ⟨S2048, .f32⟩
  | 47 => ⟨S1x1x2048, .f32⟩
  | 48 => ⟨S2x2048x2048, .f32⟩
  | 49 => ⟨S2x2048x2048, .f32⟩
  | 50 => ⟨S2x2048x2048, .f32⟩
  | 51 => ⟨S2x2048x2048, .f32⟩
  | 52 => ⟨S2x2048x2048, .f32⟩
  | 53 => ⟨S_, .f32⟩
  | 54 => ⟨S2x2048x2048, .f32⟩
  | 55 => ⟨S2x2048x2048, .f32⟩
  | 56 => ⟨S_, .f32⟩
  | 57 => ⟨S2x2048x2048, .f32⟩
  | 58 => ⟨S2x2048x2048, .f32⟩
  | 59 => ⟨S_, .f32⟩
  | 60 => ⟨S2x2048x2048, .f32⟩
  | 61 => ⟨S2x2048x2048, .f32⟩
  | 62 => ⟨S2x2048x2048, .f32⟩
  | 63 => ⟨S2x2048x2048, .f32⟩
  | 64 => ⟨S2x2048x16x128, .f32⟩
  | 65 => ⟨S2x2048x16x128, .f32⟩
  | 66 => ⟨S_, .f32⟩
  | 67 => ⟨S2x2048x16, .f32⟩
  | 68 => ⟨S2x2048x16x1, .f32⟩
  | 69 => ⟨S_, .f32⟩
  | 70 => ⟨S2x2048x16x1, .f32⟩
  | 71 => ⟨S2x2048x16x1, .f32⟩
  | 72 => ⟨S2x2048x16x1, .f32⟩
  | 73 => ⟨S2x2048x16x1, .f32⟩
  | 74 => ⟨S_, .f32⟩
  | 75 => ⟨S2x2048x16x1, .f32⟩
  | 76 => ⟨S2x2048x16x1, .f32⟩
  | 77 => ⟨S2x2048x16x128, .f32⟩
  | 78 => ⟨S2x2048x16x128, .f32⟩
  | 79 => ⟨S_, .f32⟩
  | 80 => ⟨S2x2048x16x128, .f32⟩
  | 81 => ⟨S2x2048x16x128, .f32⟩
  | 82 => ⟨S2x2048x2048, .f32⟩
  | 83 => ⟨S2x2048x16x128, .f32⟩
  | 84 => ⟨S_, .f32⟩
  | 85 => ⟨S2x2048x16x128, .f32⟩
  | 86 => ⟨S2x2048x16x128, .f32⟩
  | 87 => ⟨S2x2048x16x128, .f32⟩
  | 88 => ⟨S_, .f32⟩
  | 89 => ⟨S2x2048x16, .f32⟩
  | 90 => ⟨S2x2048x16x1, .f32⟩
  | 91 => ⟨S2x2048x16x128, .f32⟩
  | 92 => ⟨S2x2048x16x128, .f32⟩
  | 93 => ⟨S2x2048x16x1, .f32⟩
  | 94 => ⟨S_, .f32⟩
  | 95 => ⟨S2x2048x16, .f32⟩
  | 96 => ⟨S2x2048x16x128, .f32⟩
  | 97 => ⟨S2x2048x16x128, .f32⟩
  | 98 => ⟨S2x2048x16x128, .f32⟩
  | 99 => ⟨S2x2048x16x128, .f32⟩
  | 100 => ⟨S2x2048x16x128, .f32⟩
  | 101 => ⟨S2x2048x2048, .f32⟩
  | 102 => ⟨S2x2048x2048, .f32⟩
  | 103 => ⟨S2x2048x2048, .f32⟩
  | 104 => ⟨S2x2048x2048, .f32⟩
  | 105 => ⟨S2x2048x2048, .f32⟩
  | 106 => ⟨S2x2048x2048, .f32⟩
  | 107 => ⟨S_, .f32⟩
  | 108 => ⟨S2048, .f32⟩
  | 109 => ⟨S1x1x2048, .f32⟩
  | 110 => ⟨S2x2048x2048, .f32⟩
  | 111 => ⟨S2x2048x2048, .f32⟩
  | 112 => ⟨S_, .f32⟩
  | 113 => ⟨S2048, .f32⟩
  | 114 => ⟨S1x2048, .f32⟩
  | 115 => ⟨S_, .f32⟩
  | 116 => ⟨S4x2048, .f32⟩
  | 117 => ⟨S_, .f32⟩
  | 118 => ⟨S2x2051x2048, .f32⟩
  | 119 => ⟨S2x2048x2048, .f32⟩
  | 120 => ⟨S_, .f32⟩
  | 121 => ⟨S2048, .f32⟩
  | 122 => ⟨S1x1x2048, .f32⟩
  | 123 => ⟨S2x2048x2048, .f32⟩
  | 124 => ⟨S2x2048x2048, .f32⟩
  | 125 => ⟨S_, .f32⟩
  | 126 => ⟨S2048, .f32⟩
  | 127 => ⟨S1x2048, .f32⟩
  | _ => ⟨S2x2048x18480, .f32⟩

abbrev hbmTy0_1 (i : Nat) : BufTy := match i % 128 with
  | 0 => ⟨S_, .f32⟩
  | 1 => ⟨S4x2048, .f32⟩
  | 2 => ⟨S4x2048, .f32⟩
  | 3 => ⟨S_, .f32⟩
  | 4 => ⟨S2x2051x2048, .f32⟩
  | 5 => ⟨S2x2051x2048, .f32⟩
  | 6 => ⟨S2x2048x2048, .f32⟩
  | 7 => ⟨S_, .f32⟩
  | 8 => ⟨S2048, .f32⟩
  | 9 => ⟨S1x1x2048, .f32⟩
  | 10 => ⟨S2x2048x2048, .f32⟩
  | 11 => ⟨S2x2048x2048, .f32⟩
  | 12 => ⟨S_, .f32⟩
  | 13 => ⟨S2048, .f32⟩
  | 14 => ⟨S1x2048, .f32⟩
  | 15 => ⟨S_, .f32⟩
  | 16 => ⟨S4x2048, .f32⟩
  | 17 => ⟨S4x2048, .f32⟩
  | 18 => ⟨S_, .f32⟩
  | 19 => ⟨S2x2051x2048, .f32⟩
  | 20 => ⟨S2x2051x2048, .f32⟩
  | 21 => ⟨S2x2048x2048, .f32⟩
  | 22 => ⟨S_, .f32⟩
  | 23 => ⟨S2048, .f32⟩
  | 24 => ⟨S1x1x2048, .f32⟩
  | 25 => ⟨S2x2048x2048, .f32⟩
  | 26 => ⟨S2x2048x2048, .f32⟩
  | 27 => ⟨S_, .f32⟩
  | 28 => ⟨S2048, .f32⟩
  | 29 => ⟨S1x2048, .f32⟩
  | 30 => ⟨S_, .f32⟩
  | 31 => ⟨S4x2048, .f32⟩
  | 32 => ⟨S4x2048, .f32⟩
  | 33 => ⟨S_, .f32⟩
  | 34 => ⟨S2x2051x2048, .f32⟩
  | 35 => ⟨S2x2051x2048, .f32⟩
  | 36 => ⟨S2x3x2048, .f32⟩
  | 37 => ⟨S2x2048x2048, .f32⟩
  | 38 => ⟨S4096x2048, .f32⟩
  | 39 => ⟨S4096x2048, .bf16⟩
  | _ => ⟨S2x2048x18480, .f32⟩

abbrev hbmTy (i : Nat) : BufTy := match i / 128 with
  | 0 => hbmTy0_0 i
  | 1 => hbmTy0_1 i
  | _ => ⟨S2x2048x18480, .f32⟩

abbrev bufTy : (tb : Table) → Fin (tcTables nBuf tb) → BufTy
  | .hbm, ⟨i, _⟩ => hbmTy i
  | _, _ => ⟨S2x2048x18480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v45_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v45_1 : Ref sig .tc := ⟨.hbm, 62, rfl⟩
abbrev main_v45_0 : Ref sig .tc := ⟨.hbm, 63, rfl⟩
abbrev main_v46 : Ref sig .tc := ⟨.hbm, 64, rfl⟩
abbrev main_v47 : Ref sig .tc := ⟨.hbm, 65, rfl⟩
abbrev main_cst_2 : Ref sig .tc := ⟨.hbm, 66, rfl⟩
abbrev main_v48 : Ref sig .tc := ⟨.hbm, 67, rfl⟩
abbrev main_v49 : Ref sig .tc := ⟨.hbm, 68, rfl⟩
abbrev main_cst_3 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_5 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_6 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call1_v0 : Ref sig .tc := ⟨.hbm, 102, rfl⟩
abbrev main_call1_v1 : Ref sig .tc := ⟨.hbm, 103, rfl⟩
abbrev main_call1_v2 : Ref sig .tc := ⟨.hbm, 104, rfl⟩
abbrev main_v77 : Ref sig .tc := ⟨.hbm, 105, rfl⟩
abbrev main_v78 : Ref sig .tc := ⟨.hbm, 106, rfl⟩
abbrev main_cst_9 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_10 : Ref sig .tc := ⟨.hbm, 112, rfl⟩
abbrev main_v83 : Ref sig .tc := ⟨.hbm, 113, rfl⟩
abbrev main_v84 : Ref sig .tc := ⟨.hbm, 114, rfl⟩
abbrev main_cst_11 : Ref sig .tc := ⟨.hbm, 115, rfl⟩
abbrev main_v85 : Ref sig .tc := ⟨.hbm, 116, rfl⟩
abbrev main_cst_12 : Ref sig .tc := ⟨.hbm, 117, rfl⟩
abbrev main_v86 : Ref sig .tc := ⟨.hbm, 118, rfl⟩
abbrev main_v87 : Ref sig .tc := ⟨.hbm, 119, rfl⟩
abbrev main_cst_13 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_14 : Ref sig .tc := ⟨.hbm, 125, rfl⟩
abbrev main_v92 : Ref sig .tc := ⟨.hbm, 126, rfl⟩
abbrev main_v93 : Ref sig .tc := ⟨.hbm, 127, rfl⟩
abbrev main_cst_15 : Ref sig .tc := ⟨.hbm, 128, rfl⟩
abbrev main_v94 : Ref sig .tc := ⟨.hbm, 129, rfl⟩
abbrev main_v95 : Ref sig .tc := ⟨.hbm, 130, rfl⟩
abbrev main_cst_16 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_17 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_18 : Ref sig .tc := ⟨.hbm, 140, rfl⟩
abbrev main_v103 : Ref sig .tc := ⟨.hbm, 141, rfl⟩
abbrev main_v104 : Ref sig .tc := ⟨.hbm, 142, rfl⟩
abbrev main_cst_19 : Ref sig .tc := ⟨.hbm, 143, rfl⟩
abbrev main_v105 : Ref sig .tc := ⟨.hbm, 144, rfl⟩
abbrev main_v106 : Ref sig .tc := ⟨.hbm, 145, rfl⟩
abbrev main_cst_20 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_21 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_22 : Ref sig .tc := ⟨.hbm, 155, rfl⟩
abbrev main_v114 : Ref sig .tc := ⟨.hbm, 156, rfl⟩
abbrev main_v115 : Ref sig .tc := ⟨.hbm, 157, rfl⟩
abbrev main_cst_23 : Ref sig .tc := ⟨.hbm, 158, rfl⟩
abbrev main_v116 : Ref sig .tc := ⟨.hbm, 159, rfl⟩
abbrev main_v117 : Ref sig .tc := ⟨.hbm, 160, rfl⟩
abbrev main_cst_24 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩

abbrev nD : Nat := 1
abbrev τ : Topo := Topo.v7x

variable {F : FTy → Type} [FloatOps F]
-- ==== ConvK.lean ====
abbrev S2x2048x18480 : Shape := ⟨3, ![2, 2048, 18480]⟩
abbrev S4x6144 : Shape := ⟨2, ![4, 6144]⟩
abbrev S2x2048x2048 : Shape := ⟨3, ![2, 2048, 2048]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S4x2048 : Shape := ⟨2, ![4, 2048]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x2048, .f32⟩
  | .hbm, ⟨3, _⟩ => ⟨S4096x18480, .f32⟩
  | .hbm, ⟨4, _⟩ => ⟨S4096x6144, .f32⟩
  | .hbm, ⟨5, _⟩ => ⟨S4096x6144, .f32⟩
  | .hbm, ⟨6, _⟩ => ⟨S4096x2048, .f32⟩
  | .hbm, ⟨7, _⟩ => ⟨S4096x4096, .f32⟩
  | .hbm, ⟨8, _⟩ => ⟨S4096x18432, .f32⟩
  | .hbm, ⟨9, _⟩ => ⟨S_, .f32⟩
  | .hbm, ⟨10, _⟩ => ⟨S4096x80, .f32⟩
  | .hbm, ⟨11, _⟩ => ⟨S4096x16, .f32⟩
  | .hbm, ⟨12, _⟩ => ⟨S4096x32, .f32⟩
  | .hbm, ⟨13, _⟩ => ⟨S4096x128, .f32⟩
  | .hbm, ⟨14, _⟩ => ⟨S4096x2048, .f32⟩
  | .hbm, ⟨15, _⟩ => ⟨S4096x2048, .bf16⟩
  | .hbm, ⟨16, _⟩ => ⟨S4x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvKIdeal.lean ====
abbrev S2x2048x18480 : Shape := ⟨3, ![2, 2048, 18480]⟩
abbrev S4x6144 : Shape := ⟨2, ![4, 6144]⟩
abbrev S2x2048x2048 : Shape := ⟨3, ![2, 2048, 2048]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S4x2048 : Shape := ⟨2, ![4, 2048]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x2048, .f32⟩
  | .hbm, ⟨3, _⟩ => ⟨S4096x18480, .f32⟩
  | .hbm, ⟨4, _⟩ => ⟨S4096x6144, .f32⟩
  | .hbm, ⟨5, _⟩ => ⟨S4096x6144, .f32⟩
  | .hbm, ⟨6, _⟩ => ⟨S4096x2048, .f32⟩
  | .hbm, ⟨7, _⟩ => ⟨S4096x4096, .f32⟩
  | .hbm, ⟨8, _⟩ => ⟨S4096x18432, .f32⟩
  | .hbm, ⟨9, _⟩ => ⟨S_, .f32⟩
  | .hbm, ⟨10, _⟩ => ⟨S4096x80, .f32⟩
  | .hbm, ⟨11, _⟩ => ⟨S4096x16, .f32⟩
  | .hbm, ⟨12, _⟩ => ⟨S4096x32, .f32⟩
  | .hbm, ⟨13, _⟩ => ⟨S4096x128, .f32⟩
  | .hbm, ⟨14, _⟩ => ⟨S4096x2048, .f32⟩
  | .hbm, ⟨15, _⟩ => ⟨S4096x2048, .bf16⟩
  | .hbm, ⟨16, _⟩ => ⟨S4x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvKRefIdeal.lean ====
abbrev S2x2048x18480 : Shape := ⟨3, ![2, 2048, 18480]⟩
abbrev S4x6144 : Shape := ⟨2, ![4, 6144]⟩
abbrev S2x2048x2048 : Shape := ⟨3, ![2, 2048, 2048]⟩
abbrev S2x2048x1024 : Shape := ⟨3, ![2, 2048, 1024]⟩
abbrev S2x2048x16 : Shape := ⟨3, ![2, 2048, 16]⟩
abbrev S2x2048x6144 : Shape := ⟨3, ![2, 2048, 6144]⟩
abbrev S4x2048 : Shape := ⟨2, ![4, 2048]⟩
abbrev S_ : Shape := ⟨0, ![]⟩
abbrev S2x3x2048 : Shape := ⟨3, ![2, 3, 2048]⟩
abbrev S2x2051x2048 : Shape := ⟨3, ![2, 2051, 2048]⟩
abbrev S1x2048 : Shape := ⟨2, ![1, 2048]⟩
abbrev S2048 : Shape := ⟨1, ![2048]⟩
abbrev S1x1x2048 : Shape := ⟨3, ![1, 1, 2048]⟩
abbrev S2x2048x16x128 : Shape := ⟨4, ![2, 2048, 16, 128]⟩
abbrev S2x2048x16x1 : Shape := ⟨4, ![2, 2048, 16, 1]⟩
abbrev S4096x2048 : Shape := ⟨2, ![4096, 2048]⟩

abbrev nBuf : Space → Nat
  | .hbm => 162
  | .vmem => 0
  | .smem => 0
  | _ => 0

abbrev hbmTy0_0 (i : Nat) : BufTy := match i % 128 with
  | 0 => ⟨S2x2048x18480, .f32⟩
  | 1 => ⟨S4x6144, .f32⟩
  | 2 => ⟨S2x2048x2048, .f32⟩
  | 3 => ⟨S2x2048x1024, .f32⟩
  | 4 => ⟨S2x2048x1024, .f32⟩
  | 5 => ⟨S2x2048x2048, .f32⟩
  | 6 => ⟨S2x2048x2048, .f32⟩
  | 7 => ⟨S2x2048x16, .f32⟩
  | 8 => ⟨S2x2048x6144, .f32⟩
  | 9 => ⟨S2x2048x2048, .f32⟩
  | 10 => ⟨S2x2048x16, .f32⟩
  | 11 => ⟨S2x2048x16, .f32⟩
  | 12 => ⟨S2x2048x2048, .f32⟩
  | 13 => ⟨S2x2048x2048, .f32⟩
  | 14 => ⟨S2x2048x2048, .f32⟩
  | 15 => ⟨S4x2048, .f32⟩
  | 16 => ⟨S_, .f32⟩
  | 17 => ⟨S2x3x2048, .f32⟩
  | 18 => ⟨S2x2051x2048, .f32⟩
  | 19 => ⟨S_, .f32⟩
  | 20 => ⟨S2x3x2048, .f32⟩
  | 21 => ⟨S2x2048x2048, .f32⟩
  | 22 => ⟨S1x2048, .f32⟩
  | 23 => ⟨S2048, .f32⟩
  | 24 => ⟨S1x1x2048, .f32⟩
  | 25 => ⟨S2x2048x2048, .f32⟩
  | 26 => ⟨S2x2048x2048, .f32⟩
  | 27 => ⟨S_, .f32⟩
  | 28 => ⟨S2x2048x2048, .f32⟩
  | 29 => ⟨S2x2048x2048, .f32⟩
  | 30 => ⟨S2x2048x2048, .f32⟩
  | 31 => ⟨S1x2048, .f32⟩
  | 32 => ⟨S2048, .f32⟩
  | 33 => ⟨S1x1x2048, .f32⟩
  | 34 => ⟨S2x2048x2048, .f32⟩
  | 35 => ⟨S2x2048x2048, .f32⟩
  | 36 => ⟨S2x2048x2048, .f32⟩
  | 37 => ⟨S2x2048x2048, .f32⟩
  | 38 => ⟨S1x2048, .f32⟩
  | 39 => ⟨S2048, .f32⟩
  | 40 => ⟨S1x1x2048, .f32⟩
  | 41 => ⟨S2x2048x2048, .f32⟩
  | 42 => ⟨S2x2048x2048, .f32⟩
  | 43 => ⟨S2x2048x2048, .f32⟩
  | 44 => ⟨S2x2048x2048, .f32⟩
  | 45 => ⟨S1x2048, .f32⟩
  | 46 => ⟨S2048, .f32⟩
  | 47 => ⟨S1x1x2048, .f32⟩
  | 48 => ⟨S2x2048x2048, .f32⟩
  | 49 => ⟨S2x2048x2048, .f32⟩
  | 50 => ⟨S2x2048x2048, .f32⟩
  | 51 => ⟨S2x2048x2048, .f32⟩
  | 52 => ⟨S2x2048x2048, .f32⟩
  | 53 => ⟨S_, .f32⟩
  | 54 => ⟨S2x2048x2048, .f32⟩
  | 55 => ⟨S2x2048x2048, .f32⟩
  | 56 => ⟨S_, .f32⟩
  | 57 => ⟨S2x2048x2048, .f32⟩
  | 58 => ⟨S2x2048x2048, .f32⟩
  | 59 => ⟨S_, .f32⟩
  | 60 => ⟨S2x2048x2048, .f32⟩
  | 61 => ⟨S2x2048x2048, .f32⟩
  | 62 => ⟨S2x2048x2048, .f32⟩
  | 63 => ⟨S2x2048x2048, .f32⟩
  | 64 => ⟨S2x2048x16x128, .f32⟩
  | 65 => ⟨S2x2048x16x128, .f32⟩
  | 66 => ⟨S_, .f32⟩
  | 67 => ⟨S2x2048x16, .f32⟩
  | 68 => ⟨S2x2048x16x1, .f32⟩
  | 69 => ⟨S_, .f32⟩
  | 70 => ⟨S2x2048x16x1, .f32⟩
  | 71 => ⟨S2x2048x16x1, .f32⟩
  | 72 => ⟨S2x2048x16x1, .f32⟩
  | 73 => ⟨S2x2048x16x1, .f32⟩
  | 74 => ⟨S_, .f32⟩
  | 75 => ⟨S2x2048x16x1, .f32⟩
  | 76 => ⟨S2x2048x16x1, .f32⟩
  | 77 => ⟨S2x2048x16x128, .f32⟩
  | 78 => ⟨S2x2048x16x128, .f32⟩
  | 79 => ⟨S2x2048x2048, .f32⟩
  | 80 => ⟨S2x2048x16x128, .f32⟩
  | 81 => ⟨S2x2048x16x128, .f32⟩
  | 82 => ⟨S_, .f32⟩
  | 83 => ⟨S2x2048x16, .f32⟩
  | 84 => ⟨S2x2048x16x1, .f32⟩
  | 85 => ⟨S2x2048x16x128, .f32⟩
  | 86 => ⟨S2x2048x16x128, .f32⟩
  | 87 => ⟨S2x2048x16x1, .f32⟩
  | 88 => ⟨S_, .f32⟩
  | 89 => ⟨S2x2048x16, .f32⟩
  | 90 => ⟨S2x2048x16x128, .f32⟩
  | 91 => ⟨S2x2048x16x128, .f32⟩
  | 92 => ⟨S2x2048x16x128, .f32⟩
  | 93 => ⟨S2x2048x16x128, .f32⟩
  | 94 => ⟨S2x2048x16x128, .f32⟩
  | 95 => ⟨S2x2048x2048, .f32⟩
  | 96 => ⟨S2x2048x2048, .f32⟩
  | 97 => ⟨S2x2048x2048, .f32⟩
  | 98 => ⟨S2x2048x2048, .f32⟩
  | 99 => ⟨S2x2048x2048, .f32⟩
  | 100 => ⟨S2x2048x2048, .f32⟩
  | 101 => ⟨S_, .f32⟩
  | 102 => ⟨S2048, .f32⟩
  | 103 => ⟨S1x1x2048, .f32⟩
  | 104 => ⟨S2x2048x2048, .f32⟩
  | 105 => ⟨S2x2048x2048, .f32⟩
  | 106 => ⟨S_, .f32⟩
  | 107 => ⟨S2048, .f32⟩
  | 108 => ⟨S1x2048, .f32⟩
  | 109 => ⟨S_, .f32⟩
  | 110 => ⟨S4x2048, .f32⟩
  | 111 => ⟨S_, .f32⟩
  | 112 => ⟨S2x2051x2048, .f32⟩
  | 113 => ⟨S2x2048x2048, .f32⟩
  | 114 => ⟨S_, .f32⟩
  | 115 => ⟨S2048, .f32⟩
  | 116 => ⟨S1x1x2048, .f32⟩
  | 117 => ⟨S2x2048x2048, .f32⟩
  | 118 => ⟨S2x2048x2048, .f32⟩
  | 119 => ⟨S_, .f32⟩
  | 120 => ⟨S2048, .f32⟩
  | 121 => ⟨S1x2048, .f32⟩
  | 122 => ⟨S_, .f32⟩
  | 123 => ⟨S4x2048, .f32⟩
  | 124 => ⟨S4x2048, .f32⟩
  | 125 => ⟨S_, .f32⟩
  | 126 => ⟨S2x2051x2048, .f32⟩
  | 127 => ⟨S2x2051x2048, .f32⟩
  | _ => ⟨S2x2048x18480, .f32⟩

abbrev hbmTy0_1 (i : Nat) : BufTy := match i % 128 with
  | 0 => ⟨S2x2048x2048, .f32⟩
  | 1 => ⟨S_, .f32⟩
  | 2 => ⟨S2048, .f32⟩
  | 3 => ⟨S1x1x2048, .f32⟩
  | 4 => ⟨S2x2048x2048, .f32⟩
  | 5 => ⟨S2x2048x2048, .f32⟩
  | 6 => ⟨S_, .f32⟩
  | 7 => ⟨S2048, .f32⟩
  | 8 => ⟨S1x2048, .f32⟩
  | 9 => ⟨S_, .f32⟩
  | 10 => ⟨S4x2048, .f32⟩
  | 11 => ⟨S4x2048, .f32⟩
  | 12 => ⟨S_, .f32⟩
  | 13 => ⟨S2x2051x2048, .f32⟩
  | 14 => ⟨S2x2051x2048, .f32⟩
  | 15 => ⟨S2x2048x2048, .f32⟩
  | 16 => ⟨S_, .f32⟩
  | 17 => ⟨S2048, .f32⟩
  | 18 => ⟨S1x1x2048, .f32⟩
  | 19 => ⟨S2x2048x2048, .f32⟩
  | 20 => ⟨S2x2048x2048, .f32⟩
  | 21 => ⟨S_, .f32⟩
  | 22 => ⟨S2048, .f32⟩
  | 23 => ⟨S1x2048, .f32⟩
  | 24 => ⟨S_, .f32⟩
  | 25 => ⟨S4x2048, .f32⟩
  | 26 => ⟨S4x2048, .f32⟩
  | 27 => ⟨S_, .f32⟩
  | 28 => ⟨S2x2051x2048, .f32⟩
  | 29 => ⟨S2x2051x2048, .f32⟩
  | 30 => ⟨S2x3x2048, .f32⟩
  | 31 => ⟨S2x2048x2048, .f32⟩
  | 32 => ⟨S4096x2048, .f32⟩
  | 33 => ⟨S4096x2048, .bf16⟩
  | _ => ⟨S2x2048x18480, .f32⟩

abbrev hbmTy (i : Nat) : BufTy := match i / 128 with
  | 0 => hbmTy0_0 i
  | 1 => hbmTy0_1 i
  | _ => ⟨S2x2048x18480, .f32⟩

abbrev bufTy : (tb : Table) → Fin (tcTables nBuf tb) → BufTy
  | .hbm, ⟨i, _⟩ => hbmTy i
  | _, _ => ⟨S2x2048x18480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v45_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v45_1 : Ref sig .tc := ⟨.hbm, 62, rfl⟩
abbrev main_v45_0 : Ref sig .tc := ⟨.hbm, 63, rfl⟩
abbrev main_v46 : Ref sig .tc := ⟨.hbm, 64, rfl⟩
abbrev main_v47 : Ref sig .tc := ⟨.hbm, 65, rfl⟩
abbrev main_cst_2 : Ref sig .tc := ⟨.hbm, 66, rfl⟩
abbrev main_v48 : Ref sig .tc := ⟨.hbm, 67, rfl⟩
abbrev main_v49 : Ref sig .tc := ⟨.hbm, 68, rfl⟩
abbrev main_cst_3 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v73 : Ref sig .tc := ⟨.hbm, 99, rfl⟩
abbrev main_v74 : Ref sig .tc := ⟨.hbm, 100, rfl⟩
abbrev main_cst_7 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_8 : Ref sig .tc := ⟨.hbm, 106, rfl⟩
abbrev main_v79 : Ref sig .tc := ⟨.hbm, 107, rfl⟩
abbrev main_v80 : Ref sig .tc := ⟨.hbm, 108, rfl⟩
abbrev main_cst_9 : Ref sig .tc := ⟨.hbm, 109, rfl⟩
abbrev main_v81 : Ref sig .tc := ⟨.hbm, 110, rfl⟩
abbrev main_cst_10 : Ref sig .tc := ⟨.hbm, 111, rfl⟩
abbrev main_v82 : Ref sig .tc := ⟨.hbm, 112, rfl⟩
abbrev main_v83 : Ref sig .tc := ⟨.hbm, 113, rfl⟩
abbrev main_cst_11 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_12 : Ref sig .tc := ⟨.hbm, 119, rfl⟩
abbrev main_v88 : Ref sig .tc := ⟨.hbm, 120, rfl⟩
abbrev main_v89 : Ref sig .tc := ⟨.hbm, 121, rfl⟩
abbrev main_cst_13 : Ref sig .tc := ⟨.hbm, 122, rfl⟩
abbrev main_v90 : Ref sig .tc := ⟨.hbm, 123, rfl⟩
abbrev main_v91 : Ref sig .tc := ⟨.hbm, 124, rfl⟩
abbrev main_cst_14 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_15 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_16 : Ref sig .tc := ⟨.hbm, 134, rfl⟩
abbrev main_v99 : Ref sig .tc := ⟨.hbm, 135, rfl⟩
abbrev main_v100 : Ref sig .tc := ⟨.hbm, 136, rfl⟩
abbrev main_cst_17 : Ref sig .tc := ⟨.hbm, 137, rfl⟩
abbrev main_v101 : Ref sig .tc := ⟨.hbm, 138, rfl⟩
abbrev main_v102 : Ref sig .tc := ⟨.hbm, 139, rfl⟩
abbrev main_cst_18 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_19 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_20 : Ref sig .tc := ⟨.hbm, 149, rfl⟩
abbrev main_v110 : Ref sig .tc := ⟨.hbm, 150, rfl⟩
abbrev main_v111 : Ref sig .tc := ⟨.hbm, 151, rfl⟩
abbrev main_cst_21 : Ref sig .tc := ⟨.hbm, 152, rfl⟩
abbrev main_v112 : Ref sig .tc := ⟨.hbm, 153, rfl⟩
abbrev main_v113 : Ref sig .tc := ⟨.hbm, 154, rfl⟩
abbrev main_cst_22 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩

abbrev nD : Nat := 1
abbrev τ : Topo := Topo.v7x

variable {F : FTy → Type} [FloatOps F]
-- ==== ConvV.lean ====
abbrev S2x2048x18480 : Shape := ⟨3, ![2, 2048, 18480]⟩
abbrev S4x6144 : Shape := ⟨2, ![4, 6144]⟩
abbrev S2x2048x2048 : Shape := ⟨3, ![2, 2048, 2048]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S4x2048 : Shape := ⟨2, ![4, 2048]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x2048, .f32⟩
  | .hbm, ⟨3, _⟩ => ⟨S4096x18480, .f32⟩
  | .hbm, ⟨4, _⟩ => ⟨S4096x6144, .f32⟩
  | .hbm, ⟨5, _⟩ => ⟨S4096x6144, .f32⟩
  | .hbm, ⟨6, _⟩ => ⟨S4096x2048, .f32⟩
  | .hbm, ⟨7, _⟩ => ⟨S4096x4096, .f32⟩
  | .hbm, ⟨8, _⟩ => ⟨S4096x18432, .f32⟩
  | .hbm, ⟨9, _⟩ => ⟨S_, .f32⟩
  | .hbm, ⟨10, _⟩ => ⟨S4096x80, .f32⟩
  | .hbm, ⟨11, _⟩ => ⟨S4096x16, .f32⟩
  | .hbm, ⟨12, _⟩ => ⟨S4096x32, .f32⟩
  | .hbm, ⟨13, _⟩ => ⟨S4096x128, .f32⟩
  | .hbm, ⟨14, _⟩ => ⟨S4096x2048, .f32⟩
  | .hbm, ⟨15, _⟩ => ⟨S4096x2048, .bf16⟩
  | .hbm, ⟨16, _⟩ => ⟨S4x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvVIdeal.lean ====
abbrev S2x2048x18480 : Shape := ⟨3, ![2, 2048, 18480]⟩
abbrev S4x6144 : Shape := ⟨2, ![4, 6144]⟩
abbrev S2x2048x2048 : Shape := ⟨3, ![2, 2048, 2048]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S4x2048 : Shape := ⟨2, ![4, 2048]⟩
abbrev S2048x128 : Shape := ⟨2, ![2048, 128]⟩
abbrev S4x128 : Shape := ⟨2, ![4, 128]⟩
abbrev S1x128 : Shape := ⟨2, ![1, 128]⟩
abbrev S128 : Shape := ⟨1, ![128]⟩

abbrev nBuf : Space → Nat
  | .hbm => 17
  | .vmem => 10
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x2048, .f32⟩
  | .hbm, ⟨3, _⟩ => ⟨S4096x18480, .f32⟩
  | .hbm, ⟨4, _⟩ => ⟨S4096x6144, .f32⟩
  | .hbm, ⟨5, _⟩ => ⟨S4096x6144, .f32⟩
  | .hbm, ⟨6, _⟩ => ⟨S4096x2048, .f32⟩
  | .hbm, ⟨7, _⟩ => ⟨S4096x4096, .f32⟩
  | .hbm, ⟨8, _⟩ => ⟨S4096x18432, .f32⟩
  | .hbm, ⟨9, _⟩ => ⟨S_, .f32⟩
  | .hbm, ⟨10, _⟩ => ⟨S4096x80, .f32⟩
  | .hbm, ⟨11, _⟩ => ⟨S4096x16, .f32⟩
  | .hbm, ⟨12, _⟩ => ⟨S4096x32, .f32⟩
  | .hbm, ⟨13, _⟩ => ⟨S4096x128, .f32⟩
  | .hbm, ⟨14, _⟩ => ⟨S4096x2048, .f32⟩
  | .hbm, ⟨15, _⟩ => ⟨S4096x2048, .bf16⟩
  | .hbm, ⟨16, _⟩ => ⟨S4x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ConvVRefIdeal.lean ====
abbrev S2x2048x18480 : Shape := ⟨3, ![2, 2048, 18480]⟩
abbrev S4x6144 : Shape := ⟨2, ![4, 6144]⟩
abbrev S2x2048x2048 : Shape := ⟨3, ![2, 2048, 2048]⟩
abbrev S4x2048 : Shape := ⟨2, ![4, 2048]⟩
abbrev S_ : Shape := ⟨0, ![]⟩
abbrev S2x3x2048 : Shape := ⟨3, ![2, 3, 2048]⟩
abbrev S2x2051x2048 : Shape := ⟨3, ![2, 2051, 2048]⟩
abbrev S1x2048 : Shape := ⟨2, ![1, 2048]⟩
abbrev S2048 : Shape := ⟨1, ![2048]⟩
abbrev S1x1x2048 : Shape := ⟨3, ![1, 1, 2048]⟩
abbrev S4096x2048 : Shape := ⟨2, ![4096, 2048]⟩

abbrev nBuf : Space → Nat
  | .hbm => 119
  | .vmem => 0
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x2048, .f32⟩
  | .hbm, ⟨3, _⟩ => ⟨S2x2048x2048, .f32⟩
  | .hbm, ⟨4, _⟩ => ⟨S4x2048, .f32⟩
  | .hbm, ⟨5, _⟩ => ⟨S_, .f32⟩
  | .hbm, ⟨6, _⟩ => ⟨S2x3x2048, .f32⟩
  | .hbm, ⟨7, _⟩ => ⟨S2x2051x2048, .f32⟩
  | .hbm, ⟨8, _⟩ => ⟨S_, .f32⟩
  | .hbm, ⟨9, _⟩ => ⟨S2x3x2048, .f32⟩
  | .hbm, ⟨10, _⟩ => ⟨S2x2048x2048, .f32⟩
  | .hbm, ⟨11, _⟩ => ⟨S1x2048, .f32⟩
  | .hbm, ⟨12, _⟩ => ⟨S2048, .f32⟩
  | .hbm, ⟨13, _⟩ => ⟨S1x1x2048, .f32⟩
  | .hbm, ⟨14, _⟩ => ⟨S2x2048x2048, .f32⟩
  | .hbm, ⟨15, _⟩ => ⟨S2x2048x2048, .f32⟩
  | .hbm, ⟨16, _⟩ => ⟨S_, .f32⟩
  | .hbm, ⟨17, _⟩ => ⟨S2x2048x2048, .f32⟩
  | .hbm, ⟨18, _⟩ => ⟨S2x2048x2048, .f32⟩
  | .hbm, ⟨19, _⟩ => ⟨S2x2048x2048, .f32⟩
  | .hbm, ⟨20, _⟩ => ⟨S1x2048, .f32⟩
  | .hbm, ⟨21, _⟩ => ⟨S2048, .f32⟩
  | .hbm, ⟨22, _⟩ => ⟨S1x1x2048, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S1x2048, .f32⟩
  | .hbm, ⟨28, _⟩ => ⟨S2048, .f32⟩
  | .hbm, ⟨29, _⟩ => ⟨S1x1x2048, .f32⟩
  | .hbm, ⟨30, _⟩ => ⟨S2x2048x2048, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S1x2048, .f32⟩
  | .hbm, ⟨35, _⟩ => ⟨S2048, .f32⟩
  | .hbm, ⟨36, _⟩ => ⟨S1x1x2048, .f32⟩
  | .hbm, ⟨37, _⟩ => ⟨S2x2048x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S_, .f32⟩
  | .hbm, ⟨43, _⟩ => ⟨S2x2048x2048, .f32⟩
  | .hbm, ⟨44, _⟩ => ⟨S2x2048x2048, .f32⟩
  | .hbm, ⟨45, _⟩ => ⟨S_, .f32⟩
  | .hbm, ⟨46, _⟩ => ⟨S2x2048x2048, .f32⟩
  | .hbm, ⟨47, _⟩ => ⟨S2x2048x2048, .f32⟩
  | .hbm, ⟨48, _⟩ => ⟨S_, .f32⟩
  | .hbm, ⟨49, _⟩ => ⟨S2x2048x2048, .f32⟩
  | .hbm, ⟨50, _⟩ => ⟨S2x2048x2048, .f32⟩
  | .hbm, ⟨51, _⟩ => ⟨S2x2048x2048, .f32⟩
  | .hbm, ⟨52, _⟩ => ⟨S2x2048x2048, .f32⟩
  | .hbm, ⟨53, _⟩ => ⟨S2x2048x2048, .f32⟩
  | .hbm, ⟨54, _⟩ => ⟨S2x2048x2048, .f32⟩
  | .hbm, ⟨55, _⟩ => ⟨S2x2048x2048, .f32⟩
  | .hbm, ⟨56, _⟩ => ⟨S2x2048x2048, .f32⟩
  | .hbm, ⟨57, _⟩ => ⟨S2x2048x2048, .f32⟩
  | .hbm, ⟨58, _⟩ => ⟨S_, .f32⟩
  | .hbm, ⟨59, _⟩ => ⟨S2048, .f32⟩
  | .hbm, ⟨60, _⟩ => ⟨S1x1x2048, .f32⟩
  | .hbm, ⟨61, _⟩ => ⟨S2x2048x2048, .f32⟩
  | .hbm, ⟨62, _⟩ => ⟨S2x2048x2048, .f32⟩
  | .hbm, ⟨63, _⟩ => ⟨S_, .f32⟩
  | .hbm, ⟨64, _⟩ => ⟨S2048, .f32⟩
  | .hbm, ⟨65, _⟩ => ⟨S1x2048, .f32⟩
  | .hbm, ⟨66, _⟩ => ⟨S_, .f32⟩
  | .hbm, ⟨67, _⟩ => ⟨S4x2048, .f32⟩
  | .hbm, ⟨68, _⟩ => ⟨S_, .f32⟩
  | .hbm, ⟨69, _⟩ => ⟨S2x2051x2048, .f32⟩
  | .hbm, ⟨70, _⟩ => ⟨S2x2048x2048, .f32⟩
  | .hbm, ⟨71, _⟩ => ⟨S_, .f32⟩
  | .hbm, ⟨72, _⟩ => ⟨S2048, .f32⟩
  | .hbm, ⟨73, _⟩ => ⟨S1x1x2048, .f32⟩
  | .hbm, ⟨74, _⟩ => ⟨S2x2048x2048, .f32⟩
  | .hbm, ⟨75, _⟩ => ⟨S2x2048x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S_, .f32⟩
  | .hbm, ⟨80, _⟩ => ⟨S4x2048, .f32⟩
  | .hbm, ⟨81, _⟩ => ⟨S4x2048, .f32⟩
  | .hbm, ⟨82, _⟩ => ⟨S_, .f32⟩
  | .hbm, ⟨83, _⟩ => ⟨S2x2051x2048, .f32⟩
  | .hbm, ⟨84, _⟩ => ⟨S2x2051x2048, .f32⟩
  | .hbm, ⟨85, _⟩ => ⟨S2x2048x2048, .f32⟩
  | .hbm, ⟨86, _⟩ => ⟨S_, .f32⟩
  | .hbm, ⟨87, _⟩ => ⟨S2048, .f32⟩
  | .hbm, ⟨88, _⟩ => ⟨S1x1x2048, .f32⟩
  | .hbm, ⟨89, _⟩ => ⟨S2x2048x2048, .f32⟩
  | .hbm, ⟨90, _⟩ => ⟨S2x2048x2048, .f32⟩
  | .hbm, ⟨91, _⟩ => ⟨S_, .f32⟩
  | .hbm, ⟨92, _⟩ => ⟨S2048, .f32⟩
  | .hbm, ⟨93, _⟩ => ⟨S1x2048, .f32⟩
  | .hbm, ⟨94, _⟩ => ⟨S_, .f32⟩
  | .hbm, ⟨95, _⟩ => ⟨S4x2048, .f32⟩
  | .hbm, ⟨96, _⟩ => ⟨S4x2048, .f32⟩
  | .hbm, ⟨97, _⟩ => ⟨S_, .f32⟩
  | .hbm, ⟨98, _⟩ => ⟨S2x2051x2048, .f32⟩
  | .hbm, ⟨99, _⟩ => ⟨S2x2051x2048, .f32⟩
  | .hbm, ⟨100, _⟩ => ⟨S2x2048x2048, .f32⟩
  | .hbm, ⟨101, _⟩ => ⟨S_, .f32⟩
  | .hbm, ⟨102, _⟩ => ⟨S2048, .f32⟩
  | .hbm, ⟨103, _⟩ => ⟨S1x1x2048, .f32⟩
  | .hbm, ⟨104, _⟩ => ⟨S2x2048x2048, .f32⟩
  | .hbm, ⟨105, _⟩ => ⟨S2x2048x2048, .f32⟩
  | .hbm, ⟨106, _⟩ => ⟨S_, .f32⟩
  | .hbm, ⟨107, _⟩ => ⟨S2048, .f32⟩
  | .hbm, ⟨108, _⟩ => ⟨S1x2048, .f32⟩
  | .hbm, ⟨109, _⟩ => ⟨S_, .f32⟩
  | .hbm, ⟨110, _⟩ => ⟨S4x2048, .f32⟩
  | .hbm, ⟨111, _⟩ => ⟨S4x2048, .f32⟩
  | .hbm, ⟨112, _⟩ => ⟨S_, .f32⟩
  | .hbm, ⟨113, _⟩ => ⟨S2x2051x2048, .f32⟩
  | .hbm, ⟨114, _⟩ => ⟨S2x2051x2048, .f32⟩
  | .hbm, ⟨115, _⟩ => ⟨S2x3x2048, .f32⟩
  | .hbm, ⟨116, _⟩ => ⟨S2x2048x2048, .f32⟩
  | .hbm, ⟨117, _⟩ => ⟨S4096x2048, .f32⟩
  | .hbm, ⟨118, _⟩ => ⟨S4096x2048, .bf16⟩
  | _, _ => ⟨S2x2048x18480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_3 : Ref sig .tc := ⟨.hbm, 63, rfl⟩
abbrev main_v41 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_cst_9 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_cst_16 : Ref sig .tc := ⟨.hbm, 109, rfl⟩
abbrev main_v74 : Ref sig .tc := ⟨.hbm, 110, rfl⟩
abbrev main_v75 : Ref sig .tc := ⟨.hbm, 111, rfl⟩
abbrev main_cst_17 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩

abbrev nD : Nat := 1
abbrev τ : Topo := Topo.v7x

variable {F : FTy → Type} [FloatOps F]
-- ==== RmsFwd.lean ====
abbrev S2x2048x2048 : Shape := ⟨3, ![2, 2048, 2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S4096x2048 : Shape := ⟨2, ![4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S2048, .f32⟩
  | .hbm, ⟨3, _⟩ => ⟨S2x2048x2048, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x2048, .f32⟩
  | .hbm, ⟨15, _⟩ => ⟨S2x2048x2048, .f32⟩
  | .hbm, ⟨16, _⟩ => ⟨S1x1x2048, .f32⟩
  | .hbm, ⟨17, _⟩ => ⟨S2x2048x2048, .f32⟩
  | .hbm, ⟨18, _⟩ => ⟨S2x2048x2048, .f32⟩
  | .hbm, ⟨19, _⟩ => ⟨S4096x2048, .f32⟩
  | .hbm, ⟨20, _⟩ => ⟨S4096x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== MergeFwd.lean ====
abbrev S2x2048x2048 : Shape := ⟨3, ![2, 2048, 2048]⟩
abbrev S2x2048x18480 : Shape := ⟨3, ![2, 2048, 18480]⟩
abbrev S1x512 : Shape := ⟨2, ![1, 512]⟩
abbrev S1x128 : Shape := ⟨2, ![1, 128]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 19
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x18480, .f32⟩
  | .hbm, ⟨3, _⟩ => ⟨S1x512, .f32⟩
  | .hbm, ⟨4, _⟩ => ⟨S1x128, .f32⟩
  | .hbm, ⟨5, _⟩ => ⟨S4096x18480, .f32⟩
  | .hbm, ⟨6, _⟩ => ⟨S4096x6144, .f32⟩
  | .hbm, ⟨7, _⟩ => ⟨S4096x6144, .f32⟩
  | .hbm, ⟨8, _⟩ => ⟨S4096x2048, .f32⟩
  | .hbm, ⟨9, _⟩ => ⟨S4096x4096, .f32⟩
  | .hbm, ⟨10, _⟩ => ⟨S4096x18432, .f32⟩
  | .hbm, ⟨11, _⟩ => ⟨S_, .f32⟩
  | .hbm, ⟨12, _⟩ => ⟨S4096x80, .f32⟩
  | .hbm, ⟨13, _⟩ => ⟨S4096x16, .f32⟩
  | .hbm, ⟨14, _⟩ => ⟨S4096x32, .f32⟩
  | .hbm, ⟨15, _⟩ => ⟨S4096x128, .f32⟩
  | .hbm, ⟨16, _⟩ => ⟨S4096x2048, .f32⟩
  | .hbm, ⟨17, _⟩ => ⟨S4096x2048, .f32⟩
  | .hbm, ⟨18, _⟩ => ⟨S4096x2048, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x512, .f32⟩
  | .local _ .vmem, ⟨13, _⟩ => ⟨S1x128, .f32⟩
  | .local _ .vmem, ⟨14, _⟩ => ⟨S256x512, .bf16⟩
  | .local _ .vmem, ⟨15, _⟩ => ⟨S256x512, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeFwdRefIdeal.lean ====
abbrev S2x2048x2048 : Shape := ⟨3, ![2, 2048, 2048]⟩
abbrev S2x2048x18480 : Shape := ⟨3, ![2, 2048, 18480]⟩
abbrev S1x512 : Shape := ⟨2, ![1, 512]⟩
abbrev S1x128 : Shape := ⟨2, ![1, 128]⟩
abbrev S2x2048x1024 : Shape := ⟨3, ![2, 2048, 1024]⟩
abbrev S2x2048x16 : Shape := ⟨3, ![2, 2048, 16]⟩
abbrev S2x2048x6144 : Shape := ⟨3, ![2, 2048, 6144]⟩
abbrev S2x2048x4x512 : Shape := ⟨4, ![2, 2048, 4, 512]⟩
abbrev S512 : Shape := ⟨1, ![512]⟩
abbrev S_ : Shape := ⟨0, ![]⟩
abbrev S2x2048x4 : Shape := ⟨3, ![2, 2048, 4]⟩
abbrev S2x2048x4x1 : Shape := ⟨4, ![2, 2048, 4, 1]⟩
abbrev S1x1x1x512 : Shape := ⟨4, ![1, 1, 1, 512]⟩
abbrev S2x2048x16x128 : Shape := ⟨4, ![2, 2048, 16, 128]⟩
abbrev S128 : Shape := ⟨1, ![128]⟩
abbrev S2x2048x16x1 : Shape := ⟨4, ![2, 2048, 16, 1]⟩
abbrev S1x1x1x128 : Shape := ⟨4, ![1, 1, 1, 128]⟩
abbrev S4096x2048 : Shape := ⟨2, ![4096, 2048]⟩

abbrev nBuf : Space → Nat
  | .hbm => 95
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x18480, .f32⟩
  | .hbm, ⟨3, _⟩ => ⟨S1x512, .f32⟩
  | .hbm, ⟨4, _⟩ => ⟨S1x128, .f32⟩
  | .hbm, ⟨5, _⟩ => ⟨S2x2048x1024, .f32⟩
  | .hbm, ⟨6, _⟩ => ⟨S2x2048x1024, .f32⟩
  | .hbm, ⟨7, _⟩ => ⟨S2x2048x2048, .f32⟩
  | .hbm, ⟨8, _⟩ => ⟨S2x2048x2048, .f32⟩
  | .hbm, ⟨9, _⟩ => ⟨S2x2048x16, .f32⟩
  | .hbm, ⟨10, _⟩ => ⟨S2x2048x6144, .f32⟩
  | .hbm, ⟨11, _⟩ => ⟨S2x2048x2048, .f32⟩
  | .hbm, ⟨12, _⟩ => ⟨S2x2048x16, .f32⟩
  | .hbm, ⟨13, _⟩ => ⟨S2x2048x16, .f32⟩
  | .hbm, ⟨14, _⟩ => ⟨S2x2048x2048, .f32⟩
  | .hbm, ⟨15, _⟩ => ⟨S2x2048x2048, .f32⟩
  | .hbm, ⟨16, _⟩ => ⟨S2x2048x4x512, .f32⟩
  | .hbm, ⟨17, _⟩ => ⟨S512, .f32⟩
  | .hbm, ⟨18, _⟩ => ⟨S2x2048x4x512, .f32⟩
  | .hbm, ⟨19, _⟩ => ⟨S_, .f32⟩
  | .hbm, ⟨20, _⟩ => ⟨S2x2048x4, .f32⟩
  | .hbm, ⟨21, _⟩ => ⟨S2x2048x4x1, .f32⟩
  | .hbm, ⟨22, _⟩ => ⟨S_, .f32⟩
  | .hbm, ⟨23, _⟩ => ⟨S2x2048x4x1, .f32⟩
  | .hbm, ⟨24, _⟩ => ⟨S2x2048x4x1, .f32⟩
  | .hbm, ⟨25, _⟩ => ⟨S_, .f32⟩
  | .hbm, ⟨26, _⟩ => ⟨S2x2048x4x1, .f32⟩
  | .hbm, ⟨27, _⟩ => ⟨S2x2048x4x1, .f32⟩
  | .hbm, ⟨28, _⟩ => ⟨S2x2048x4x1, .f32⟩
  | .hbm, ⟨29, _⟩ => ⟨S2x2048x4x512, .f32⟩
  | .hbm, ⟨30, _⟩ => ⟨S2x2048x4x512, .f32⟩
  | .hbm, ⟨31, _⟩ => ⟨S1x1x1x512, .f32⟩
  | .hbm, ⟨32, _⟩ => ⟨S2x2048x4x512, .f32⟩
  | .hbm, ⟨33, _⟩ => ⟨S2x2048x4x512, .f32⟩
  | .hbm, ⟨34, _⟩ => ⟨S2x2048x2048, .f32⟩
  | .hbm, ⟨35, _⟩ => ⟨S2x2048x2048, .f32⟩
  | .hbm, ⟨36, _⟩ => ⟨S2x2048x2048, .f32⟩
  | .hbm, ⟨37, _⟩ => ⟨S_, .f32⟩
  | .hbm, ⟨38, _⟩ => ⟨S2x2048x2048, .f32⟩
  | .hbm, ⟨39, _⟩ => ⟨S2x2048x2048, .f32⟩
  | .hbm, ⟨40, _⟩ => ⟨S_, .f32⟩
  | .hbm, ⟨41, _⟩ => ⟨S2x2048x2048, .f32⟩
  | .hbm, ⟨42, _⟩ => ⟨S2x2048x2048, .f32⟩
  | .hbm, ⟨43, _⟩ => ⟨S2x2048x2048, .f32⟩
  | .hbm, ⟨44, _⟩ => ⟨S2x2048x2048, .f32⟩
  | .hbm, ⟨45, _⟩ => ⟨S2x2048x16x128, .f32⟩
  | .hbm, ⟨46, _⟩ => ⟨S128, .f32⟩
  | .hbm, ⟨47, _⟩ => ⟨S2x2048x16x128, .f32⟩
  | .hbm, ⟨48, _⟩ => ⟨S_, .f32⟩
  | .hbm, ⟨49, _⟩ => ⟨S2x2048x16, .f32⟩
  | .hbm, ⟨50, _⟩ => ⟨S2x2048x16x1, .f32⟩
  | .hbm, ⟨51, _⟩ => ⟨S_, .f32⟩
  | .hbm, ⟨52, _⟩ => ⟨S2x2048x16x1, .f32⟩
  | .hbm, ⟨53, _⟩ => ⟨S2x2048x16x1, .f32⟩
  | .hbm, ⟨54, _⟩ => ⟨S_, .f32⟩
  | .hbm, ⟨55, _⟩ => ⟨S2x2048x16x1, .f32⟩
  | .hbm, ⟨56, _⟩ => ⟨S2x2048x16x1, .f32⟩
  | .hbm, ⟨57, _⟩ => ⟨S2x2048x16x1, .f32⟩
  | .hbm, ⟨58, _⟩ => ⟨S2x2048x16x128, .f32⟩
  | .hbm, ⟨59, _⟩ => ⟨S2x2048x16x128, .f32⟩
  | .hbm, ⟨60, _⟩ => ⟨S1x1x1x128, .f32⟩
  | .hbm, ⟨61, _⟩ => ⟨S2x2048x16x128, .f32⟩
  | .hbm, ⟨62, _⟩ => ⟨S2x2048x16x128, .f32⟩
  | .hbm, ⟨63, _⟩ => ⟨S2x2048x2048, .f32⟩
  | .hbm, ⟨64, _⟩ => ⟨S2x2048x2048, .f32⟩
  | .hbm, ⟨65, _⟩ => ⟨S2x2048x2048, .f32⟩
  | .hbm, ⟨66, _⟩ => ⟨S_, .f32⟩
  | .hbm, ⟨67, _⟩ => ⟨S2x2048x2048, .f32⟩
  | .hbm, ⟨68, _⟩ => ⟨S2x2048x2048, .f32⟩
  | .hbm, ⟨69, _⟩ => ⟨S_, .f32⟩
  | .hbm, ⟨70, _⟩ => ⟨S2x2048x2048, .f32⟩
  | .hbm, ⟨71, _⟩ => ⟨S2x2048x2048, .f32⟩
  | .hbm, ⟨72, _⟩ => ⟨S2x2048x2048, .f32⟩
  | .hbm, ⟨73, _⟩ => ⟨S2x2048x2048, .f32⟩
  | .hbm, ⟨74, _⟩ => ⟨S2x2048x2048, .f32⟩
  | .hbm, ⟨75, _⟩ => ⟨S2x2048x2048, .f32⟩
  | .hbm, ⟨76, _⟩ => ⟨S_, .f32⟩
  | .hbm, ⟨77, _⟩ => ⟨S2x2048x2048, .f32⟩
  | .hbm, ⟨78, _⟩ => ⟨S2x2048x2048, .f32⟩
  | .hbm, ⟨79, _⟩ => ⟨S_, .f32⟩
  | .hbm, ⟨80, _⟩ => ⟨S2x2048x2048, .f32⟩
  | .hbm, ⟨81, _⟩ => ⟨S2x2048x2048, .f32⟩
  | .hbm, ⟨82, _⟩ => ⟨S2x2048x2048, .f32⟩
  | .hbm, ⟨83, _⟩ => ⟨S2x2048x2048, .f32⟩
  | .hbm, ⟨84, _⟩ => ⟨S2x2048x2048, .f32⟩
  | .hbm, ⟨85, _⟩ => ⟨S_, .f32⟩
  | .hbm, ⟨86, _⟩ => ⟨S2x2048x2048, .f32⟩
  | .hbm, ⟨87, _⟩ => ⟨S2x2048x2048, .f32⟩
  | .hbm, ⟨88, _⟩ => ⟨S_, .f32⟩
  | .hbm, ⟨89, _⟩ => ⟨S2x2048x2048, .f32⟩
  | .hbm, ⟨90, _⟩ => ⟨S2x2048x2048, .f32⟩
  | .hbm, ⟨91, _⟩ => ⟨S2x2048x2048, .f32⟩
  | .hbm, ⟨92, _⟩ => ⟨S2x2048x2048, .f32⟩
  | .hbm, ⟨93, _⟩ => ⟨S4096x2048, .f32⟩
  | .hbm, ⟨94, _⟩ => ⟨S4096x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_7 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== ConvFwdQ.lean ====
abbrev S2x2048x18480 : Shape := ⟨3, ![2, 2048, 18480]⟩
abbrev S4x6144 : Shape := ⟨2, ![4, 6144]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S4096x18480, .f32⟩
  | .hbm, ⟨3, _⟩ => ⟨S4096x6144, .f32⟩
  | .hbm, ⟨4, _⟩ => ⟨S4096x6144, .f32⟩
  | .hbm, ⟨5, _⟩ => ⟨S4096x2048, .f32⟩
  | .hbm, ⟨6, _⟩ => ⟨S4096x4096, .f32⟩
  | .hbm, ⟨7, _⟩ => ⟨S4096x18432, .f32⟩
  | .hbm, ⟨8, _⟩ => ⟨S_, .f32⟩
  | .hbm, ⟨9, _⟩ => ⟨S4096x80, .f32⟩
  | .hbm, ⟨10, _⟩ => ⟨S4096x16, .f32⟩
  | .hbm, ⟨11, _⟩ => ⟨S4096x32, .f32⟩
  | .hbm, ⟨12, _⟩ => ⟨S4096x128, .f32⟩
  | .hbm, ⟨13, _⟩ => ⟨S4096x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFwdQIdeal.lean ====
abbrev S2x2048x18480 : Shape := ⟨3, ![2, 2048, 18480]⟩
abbrev S4x6144 : Shape := ⟨2, ![4, 6144]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S4096x18480, .f32⟩
  | .hbm, ⟨3, _⟩ => ⟨S4096x6144, .f32⟩
  | .hbm, ⟨4, _⟩ => ⟨S4096x6144, .f32⟩
  | .hbm, ⟨5, _⟩ => ⟨S4096x2048, .f32⟩
  | .hbm, ⟨6, _⟩ => ⟨S4096x4096, .f32⟩
  | .hbm, ⟨7, _⟩ => ⟨S4096x18432, .f32⟩
  | .hbm, ⟨8, _⟩ => ⟨S_, .f32⟩
  | .hbm, ⟨9, _⟩ => ⟨S4096x80, .f32⟩
  | .hbm, ⟨10, _⟩ => ⟨S4096x16, .f32⟩
  | .hbm, ⟨11, _⟩ => ⟨S4096x32, .f32⟩
  | .hbm, ⟨12, _⟩ => ⟨S4096x128, .f32⟩
  | .hbm, ⟨13, _⟩ => ⟨S4096x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFwdQRefIdeal.lean ====
abbrev S2x2048x18480 : Shape := ⟨3, ![2, 2048, 18480]⟩
abbrev S4x6144 : Shape := ⟨2, ![4, 6144]⟩
abbrev S2x2048x1024 : Shape := ⟨3, ![2, 2048, 1024]⟩
abbrev S2x2048x2048 : Shape := ⟨3, ![2, 2048, 2048]⟩
abbrev S2x2048x16 : Shape := ⟨3, ![2, 2048, 16]⟩
abbrev S2x2048x6144 : Shape := ⟨3, ![2, 2048, 6144]⟩
abbrev S4x2048 : Shape := ⟨2, ![4, 2048]⟩
abbrev S_ : Shape := ⟨0, ![]⟩
abbrev S2x3x2048 : Shape := ⟨3, ![2, 3, 2048]⟩
abbrev S2x2051x2048 : Shape := ⟨3, ![2, 2051, 2048]⟩
abbrev S1x2048 : Shape := ⟨2, ![1, 2048]⟩
abbrev S2048 : Shape := ⟨1, ![2048]⟩
abbrev S1x1x2048 : Shape := ⟨3, ![1, 1, 2048]⟩
abbrev S2x2048x16x128 : Shape := ⟨4, ![2, 2048, 16, 128]⟩
abbrev S2x2048x16x1 : Shape := ⟨4, ![2, 2048, 16, 1]⟩
abbrev S4096x2048 : Shape := ⟨2, ![4096, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x1024, .f32⟩
  | .hbm, ⟨3, _⟩ => ⟨S2x2048x1024, .f32⟩
  | .hbm, ⟨4, _⟩ => ⟨S2x2048x2048, .f32⟩
  | .hbm, ⟨5, _⟩ => ⟨S2x2048x2048, .f32⟩
  | .hbm, ⟨6, _⟩ => ⟨S2x2048x16, .f32⟩
  | .hbm, ⟨7, _⟩ => ⟨S2x2048x6144, .f32⟩
  | .hbm, ⟨8, _⟩ => ⟨S2x2048x2048, .f32⟩
  | .hbm, ⟨9, _⟩ => ⟨S2x2048x16, .f32⟩
  | .hbm, ⟨10, _⟩ => ⟨S2x2048x16, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S4x2048, .f32⟩
  | .hbm, ⟨15, _⟩ => ⟨S_, .f32⟩
  | .hbm, ⟨16, _⟩ => ⟨S2x3x2048, .f32⟩
  | .hbm, ⟨17, _⟩ => ⟨S2x2051x2048, .f32⟩
  | .hbm, ⟨18, _⟩ => ⟨S2x2048x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S2x2048x2048, .f32⟩
  | .hbm, ⟨23, _⟩ => ⟨S2x2048x2048, .f32⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S1x2048, .f32⟩
  | .hbm, ⟨43, _⟩ => ⟨S2048, .f32⟩
  | .hbm, ⟨44, _⟩ => ⟨S1x1x2048, .f32⟩
  | .hbm, ⟨45, _⟩ => ⟨S2x2048x2048, .f32⟩
  | .hbm, ⟨46, _⟩ => ⟨S2x2048x2048, .f32⟩
  | .hbm, ⟨47, _⟩ => ⟨S2x2048x2048, .f32⟩
  | .hbm, ⟨48, _⟩ => ⟨S2x2048x2048, .f32⟩
  | .hbm, ⟨49, _⟩ => ⟨S2x2048x2048, .f32⟩
  | .hbm, ⟨50, _⟩ => ⟨S_, .f32⟩
  | .hbm, ⟨51, _⟩ => ⟨S2x2048x2048, .f32⟩
  | .hbm, ⟨52, _⟩ => ⟨S2x2048x2048, .f32⟩
  | .hbm, ⟨53, _⟩ => ⟨S_, .f32⟩
  | .hbm, ⟨54, _⟩ => ⟨S2x2048x2048, .f32⟩
  | .hbm, ⟨55, _⟩ => ⟨S2x2048x2048, .f32⟩
  | .hbm, ⟨56, _⟩ => ⟨S2x2048x2048, .f32⟩
  | .hbm, ⟨57, _⟩ => ⟨S2x2048x16x128, .f32⟩
  | .hbm, ⟨58, _⟩ => ⟨S2x2048x16x128, .f32⟩
  | .hbm, ⟨59, _⟩ => ⟨S_, .f32⟩
  | .hbm, ⟨60, _⟩ => ⟨S2x2048x16, .f32⟩
  | .hbm, ⟨61, _⟩ => ⟨S2x2048x16x1, .f32⟩
  | .hbm, ⟨62, _⟩ => ⟨S_, .f32⟩
  | .hbm, ⟨63, _⟩ => ⟨S2x2048x16x1, .f32⟩
  | .hbm, ⟨64, _⟩ => ⟨S2x2048x16x1, .f32⟩
  | .hbm, ⟨65, _⟩ => ⟨S2x2048x16x1, .f32⟩
  | .hbm, ⟨66, _⟩ => ⟨S2x2048x16x128, .f32⟩
  | .hbm, ⟨67, _⟩ => ⟨S2x2048x16x128, .f32⟩
  | .hbm, ⟨68, _⟩ => ⟨S_, .f32⟩
  | .hbm, ⟨69, _⟩ => ⟨S2x2048x16x128, .f32⟩
  | .hbm, ⟨70, _⟩ => ⟨S2x2048x16x128, .f32⟩
  | .hbm, ⟨71, _⟩ => ⟨S2x2048x2048, .f32⟩
  | .hbm, ⟨72, _⟩ => ⟨S4096x2048, .f32⟩
  | _, _ => ⟨S2x2048x18480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_v47 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== ConvFwdK.lean ====
abbrev S2x2048x18480 : Shape := ⟨3, ![2, 2048, 18480]⟩
abbrev S4x6144 : Shape := ⟨2, ![4, 6144]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S4096x18480, .f32⟩
  | .hbm, ⟨3, _⟩ => ⟨S4096x6144, .f32⟩
  | .hbm, ⟨4, _⟩ => ⟨S4096x6144, .f32⟩
  | .hbm, ⟨5, _⟩ => ⟨S4096x2048, .f32⟩
  | .hbm, ⟨6, _⟩ => ⟨S4096x4096, .f32⟩
  | .hbm, ⟨7, _⟩ => ⟨S4096x18432, .f32⟩
  | .hbm, ⟨8, _⟩ => ⟨S_, .f32⟩
  | .hbm, ⟨9, _⟩ => ⟨S4096x80, .f32⟩
  | .hbm, ⟨10, _⟩ => ⟨S4096x16, .f32⟩
  | .hbm, ⟨11, _⟩ => ⟨S4096x32, .f32⟩
  | .hbm, ⟨12, _⟩ => ⟨S4096x128, .f32⟩
  | .hbm, ⟨13, _⟩ => ⟨S4096x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFwdKIdeal.lean ====
abbrev S2x2048x18480 : Shape := ⟨3, ![2, 2048, 18480]⟩
abbrev S4x6144 : Shape := ⟨2, ![4, 6144]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 14
  | .vmem => 6
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S4096x18480, .f32⟩
  | .hbm, ⟨3, _⟩ => ⟨S4096x6144, .f32⟩
  | .hbm, ⟨4, _⟩ => ⟨S4096x6144, .f32⟩
  | .hbm, ⟨5, _⟩ => ⟨S4096x2048, .f32⟩
  | .hbm, ⟨6, _⟩ => ⟨S4096x4096, .f32⟩
  | .hbm, ⟨7, _⟩ => ⟨S4096x18432, .f32⟩
  | .hbm, ⟨8, _⟩ => ⟨S_, .f32⟩
  | .hbm, ⟨9, _⟩ => ⟨S4096x80, .f32⟩
  | .hbm, ⟨10, _⟩ => ⟨S4096x16, .f32⟩
  | .hbm, ⟨11, _⟩ => ⟨S4096x32, .f32⟩
  | .hbm, ⟨12, _⟩ => ⟨S4096x128, .f32⟩
  | .hbm, ⟨13, _⟩ => ⟨S4096x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFwdKRefIdeal.lean ====
abbrev S2x2048x18480 : Shape := ⟨3, ![2, 2048, 18480]⟩
abbrev S4x6144 : Shape := ⟨2, ![4, 6144]⟩
abbrev S2x2048x1024 : Shape := ⟨3, ![2, 2048, 1024]⟩
abbrev S2x2048x2048 : Shape := ⟨3, ![2, 2048, 2048]⟩
abbrev S2x2048x16 : Shape := ⟨3, ![2, 2048, 16]⟩
abbrev S2x2048x6144 : Shape := ⟨3, ![2, 2048, 6144]⟩
abbrev S4x2048 : Shape := ⟨2, ![4, 2048]⟩
abbrev S_ : Shape := ⟨0, ![]⟩
abbrev S2x3x2048 : Shape := ⟨3, ![2, 3, 2048]⟩
abbrev S2x2051x2048 : Shape := ⟨3, ![2, 2051, 2048]⟩
abbrev S1x2048 : Shape := ⟨2, ![1, 2048]⟩
abbrev S2048 : Shape := ⟨1, ![2048]⟩
abbrev S1x1x2048 : Shape := ⟨3, ![1, 1, 2048]⟩
abbrev S2x2048x16x128 : Shape := ⟨4, ![2, 2048, 16, 128]⟩
abbrev S2x2048x16x1 : Shape := ⟨4, ![2, 2048, 16, 1]⟩
abbrev S4096x2048 : Shape := ⟨2, ![4096, 2048]⟩

abbrev nBuf : Space → Nat
  | .hbm => 70
  | .vmem => 0
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x1024, .f32⟩
  | .hbm, ⟨3, _⟩ => ⟨S2x2048x1024, .f32⟩
  | .hbm, ⟨4, _⟩ => ⟨S2x2048x2048, .f32⟩
  | .hbm, ⟨5, _⟩ => ⟨S2x2048x2048, .f32⟩
  | .hbm, ⟨6, _⟩ => ⟨S2x2048x16, .f32⟩
  | .hbm, ⟨7, _⟩ => ⟨S2x2048x6144, .f32⟩
  | .hbm, ⟨8, _⟩ => ⟨S2x2048x2048, .f32⟩
  | .hbm, ⟨9, _⟩ => ⟨S2x2048x16, .f32⟩
  | .hbm, ⟨10, _⟩ => ⟨S2x2048x16, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S4x2048, .f32⟩
  | .hbm, ⟨15, _⟩ => ⟨S_, .f32⟩
  | .hbm, ⟨16, _⟩ => ⟨S2x3x2048, .f32⟩
  | .hbm, ⟨17, _⟩ => ⟨S2x2051x2048, .f32⟩
  | .hbm, ⟨18, _⟩ => ⟨S2x2048x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S2x2048x2048, .f32⟩
  | .hbm, ⟨23, _⟩ => ⟨S2x2048x2048, .f32⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S1x2048, .f32⟩
  | .hbm, ⟨43, _⟩ => ⟨S2048, .f32⟩
  | .hbm, ⟨44, _⟩ => ⟨S1x1x2048, .f32⟩
  | .hbm, ⟨45, _⟩ => ⟨S2x2048x2048, .f32⟩
  | .hbm, ⟨46, _⟩ => ⟨S2x2048x2048, .f32⟩
  | .hbm, ⟨47, _⟩ => ⟨S2x2048x2048, .f32⟩
  | .hbm, ⟨48, _⟩ => ⟨S2x2048x2048, .f32⟩
  | .hbm, ⟨49, _⟩ => ⟨S2x2048x2048, .f32⟩
  | .hbm, ⟨50, _⟩ => ⟨S_, .f32⟩
  | .hbm, ⟨51, _⟩ => ⟨S2x2048x2048, .f32⟩
  | .hbm, ⟨52, _⟩ => ⟨S2x2048x2048, .f32⟩
  | .hbm, ⟨53, _⟩ => ⟨S_, .f32⟩
  | .hbm, ⟨54, _⟩ => ⟨S2x2048x2048, .f32⟩
  | .hbm, ⟨55, _⟩ => ⟨S2x2048x2048, .f32⟩
  | .hbm, ⟨56, _⟩ => ⟨S2x2048x2048, .f32⟩
  | .hbm, ⟨57, _⟩ => ⟨S2x2048x16x128, .f32⟩
  | .hbm, ⟨58, _⟩ => ⟨S2x2048x16x128, .f32⟩
  | .hbm, ⟨59, _⟩ => ⟨S_, .f32⟩
  | .hbm, ⟨60, _⟩ => ⟨S2x2048x16, .f32⟩
  | .hbm, ⟨61, _⟩ => ⟨S2x2048x16x1, .f32⟩
  | .hbm, ⟨62, _⟩ => ⟨S_, .f32⟩
  | .hbm, ⟨63, _⟩ => ⟨S2x2048x16x1, .f32⟩
  | .hbm, ⟨64, _⟩ => ⟨S2x2048x16x1, .f32⟩
  | .hbm, ⟨65, _⟩ => ⟨S2x2048x16x1, .f32⟩
  | .hbm, ⟨66, _⟩ => ⟨S2x2048x16x128, .f32⟩
  | .hbm, ⟨67, _⟩ => ⟨S2x2048x16x128, .f32⟩
  | .hbm, ⟨68, _⟩ => ⟨S2x2048x2048, .f32⟩
  | .hbm, ⟨69, _⟩ => ⟨S4096x2048, .f32⟩
  | _, _ => ⟨S2x2048x18480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_1 : Ref sig .tc := ⟨.hbm, 59, rfl⟩
abbrev main_v47 : Ref sig .tc := ⟨.hbm, 60, rfl⟩
abbrev main_v48 : Ref sig .tc := ⟨.hbm, 61, rfl⟩
abbrev main_cst_2 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== ConvFwdV.lean ====
abbrev S2x2048x18480 : Shape := ⟨3, ![2, 2048, 18480]⟩
abbrev S4x6144 : Shape := ⟨2, ![4, 6144]⟩
abbrev S4096x18480 : Shape := ⟨2, ![4096, 18480]⟩
abbrev S4096x6144 : Shape := ⟨2, ![4096, 6144]⟩
abbrev S4096x2048 : Shape := ⟨2, ![4096, 2048]⟩
abbrev S4096x4096 : Shape := ⟨2, ![4096, 4096]⟩
abbrev S4096x18432 : Shape := ⟨2, ![4096, 18432]⟩
abbrev S_ : Shape := ⟨0, ![]⟩
abbrev S4096x80 : Shape := ⟨2, ![4096, 80]⟩
abbrev S4096x16 : Shape := ⟨2, ![4096, 16]⟩
abbrev S4096x32 : Shape := ⟨2, ![4096, 32]⟩
abbrev S4096x128 : Shape := ⟨2, ![4096, 128]⟩
abbrev S2048x128 : Shape := ⟨2, ![2048, 128]⟩
abbrev S4x128 : Shape := ⟨2, ![4, 128]⟩
abbrev S1x128 : Shape := ⟨2, ![1, 128]⟩

abbrev nBuf : Space → Nat
  | .hbm => 14
  | .vmem => 6
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S4096x18480, .f32⟩
  | .hbm, ⟨3, _⟩ => ⟨S4096x6144, .f32⟩
  | .hbm, ⟨4, _⟩ => ⟨S4096x6144, .f32⟩
  | .hbm, ⟨5, _⟩ => ⟨S4096x2048, .f32⟩
  | .hbm, ⟨6, _⟩ => ⟨S4096x4096, .f32⟩
  | .hbm, ⟨7, _⟩ => ⟨S4096x18432, .f32⟩
  | .hbm, ⟨8, _⟩ => ⟨S_, .f32⟩
  | .hbm, ⟨9, _⟩ => ⟨S4096x80, .f32⟩
  | .hbm, ⟨10, _⟩ => ⟨S4096x16, .f32⟩
  | .hbm, ⟨11, _⟩ => ⟨S4096x32, .f32⟩
  | .hbm, ⟨12, _⟩ => ⟨S4096x128, .f32⟩
  | .hbm, ⟨13, _⟩ => ⟨S4096x2048, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2x2048x18480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvFwdVRefIdeal.lean ====
abbrev S2x2048x18480 : Shape := ⟨3, ![2, 2048, 18480]⟩
abbrev S4x6144 : Shape := ⟨2, ![4, 6144]⟩
abbrev S2x2048x1024 : Shape := ⟨3, ![2, 2048, 1024]⟩
abbrev S2x2048x2048 : Shape := ⟨3, ![2, 2048, 2048]⟩
abbrev S2x2048x16 : Shape := ⟨3, ![2, 2048, 16]⟩
abbrev S2x2048x6144 : Shape := ⟨3, ![2, 2048, 6144]⟩
abbrev S4x2048 : Shape := ⟨2, ![4, 2048]⟩
abbrev S_ : Shape := ⟨0, ![]⟩
abbrev S2x3x2048 : Shape := ⟨3, ![2, 3, 2048]⟩
abbrev S2x2051x2048 : Shape := ⟨3, ![2, 2051, 2048]⟩
abbrev S1x2048 : Shape := ⟨2, ![1, 2048]⟩
abbrev S2048 : Shape := ⟨1, ![2048]⟩
abbrev S1x1x2048 : Shape := ⟨3, ![1, 1, 2048]⟩
abbrev S4096x2048 : Shape := ⟨2, ![4096, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x18480, .f32⟩
  | .hbm, ⟨1, _⟩ => ⟨S4x6144, .f32⟩
  | .hbm, ⟨2, _⟩ => ⟨S2x2048x1024, .f32⟩
  | .hbm, ⟨3, _⟩ => ⟨S2x2048x1024, .f32⟩
  | .hbm, ⟨4, _⟩ => ⟨S2x2048x2048, .f32⟩
  | .hbm, ⟨5, _⟩ => ⟨S2x2048x2048, .f32⟩
  | .hbm, ⟨6, _⟩ => ⟨S2x2048x16, .f32⟩
  | .hbm, ⟨7, _⟩ => ⟨S2x2048x6144, .f32⟩
  | .hbm, ⟨8, _⟩ => ⟨S2x2048x2048, .f32⟩
  | .hbm, ⟨9, _⟩ => ⟨S2x2048x16, .f32⟩
  | .hbm, ⟨10, _⟩ => ⟨S2x2048x16, .f32⟩
  | .hbm, ⟨11, _⟩ => ⟨S2x2048x2048, .f32⟩
  | .hbm, ⟨12, _⟩ => ⟨S2x2048x2048, .f32⟩
  | .hbm, ⟨13, _⟩ => ⟨S2x2048x2048, .f32⟩
  | .hbm, ⟨14, _⟩ => ⟨S4x2048, .f32⟩
  | .hbm, ⟨15, _⟩ => ⟨S_, .f32⟩
  | .hbm, ⟨16, _⟩ => ⟨S2x3x2048, .f32⟩
  | .hbm, ⟨17, _⟩ => ⟨S2x2051x2048, .f32⟩
  | .hbm, ⟨18, _⟩ => ⟨S2x2048x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S2x2048x2048, .f32⟩
  | .hbm, ⟨23, _⟩ => ⟨S2x2048x2048, .f32⟩
  | .hbm, ⟨24, _⟩ => ⟨S_, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S2x2048x2048, .f32⟩
  | .hbm, ⟨32, _⟩ => ⟨S2x2048x2048, .f32⟩
  | .hbm, ⟨33, _⟩ => ⟨S2x2048x2048, .f32⟩
  | .hbm, ⟨34, _⟩ => ⟨S2x2048x2048, .f32⟩
  | .hbm, ⟨35, _⟩ => ⟨S1x2048, .f32⟩
  | .hbm, ⟨36, _⟩ => ⟨S2048, .f32⟩
  | .hbm, ⟨37, _⟩ => ⟨S1x1x2048, .f32⟩
  | .hbm, ⟨38, _⟩ => ⟨S2x2048x2048, .f32⟩
  | .hbm, ⟨39, _⟩ => ⟨S2x2048x2048, .f32⟩
  | .hbm, ⟨40, _⟩ => ⟨S2x2048x2048, .f32⟩
  | .hbm, ⟨41, _⟩ => ⟨S2x2048x2048, .f32⟩
  | .hbm, ⟨42, _⟩ => ⟨S1x2048, .f32⟩
  | .hbm, ⟨43, _⟩ => ⟨S2048, .f32⟩
  | .hbm, ⟨44, _⟩ => ⟨S1x1x2048, .f32⟩
  | .hbm, ⟨45, _⟩ => ⟨S2x2048x2048, .f32⟩
  | .hbm, ⟨46, _⟩ => ⟨S2x2048x2048, .f32⟩
  | .hbm, ⟨47, _⟩ => ⟨S2x2048x2048, .f32⟩
  | .hbm, ⟨48, _⟩ => ⟨S2x2048x2048, .f32⟩
  | .hbm, ⟨49, _⟩ => ⟨S2x2048x2048, .f32⟩
  | .hbm, ⟨50, _⟩ => ⟨S_, .f32⟩
  | .hbm, ⟨51, _⟩ => ⟨S2x2048x2048, .f32⟩
  | .hbm, ⟨52, _⟩ => ⟨S2x2048x2048, .f32⟩
  | .hbm, ⟨53, _⟩ => ⟨S_, .f32⟩
  | .hbm, ⟨54, _⟩ => ⟨S2x2048x2048, .f32⟩
  | .hbm, ⟨55, _⟩ => ⟨S2x2048x2048, .f32⟩
  | .hbm, ⟨56, _⟩ => ⟨S2x2048x2048, .f32⟩
  | .hbm, ⟨57, _⟩ => ⟨S4096x2048, .f32⟩
  | _, _ => ⟨S2x2048x18480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== MlpUp.lean ====
abbrev S2x2048x2048 : Shape := ⟨3, ![2, 2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x2048x2048, .f32⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4096x2048, .f32⟩
  | .hbm, ⟨6, _⟩ => ⟨S4096x2048, .bf16⟩
  | .hbm, ⟨7, _⟩ => ⟨S4096x8192, .f32⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S2x2048x2048 : Shape := ⟨3, ![2, 2048, 2048]⟩
abbrev S2048x8192 : Shape := ⟨2, ![2048, 8192]⟩
abbrev S2x2048x8192 : Shape := ⟨3, ![2, 2048, 8192]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x8192, .f32⟩
  | .hbm, ⟨2, _⟩ => ⟨S2x2048x8192, .f32⟩
  | .hbm, ⟨3, _⟩ => ⟨S4096x8192, .f32⟩
  | .hbm, ⟨4, _⟩ => ⟨S_, .f32⟩
  | .hbm, ⟨5, _⟩ => ⟨S2x2048x8192, .f32⟩
  | .hbm, ⟨6, _⟩ => ⟨S2x2048x8192, .f32⟩
  | .hbm, ⟨7, _⟩ => ⟨S2x2048x8192, .f32⟩
  | .hbm, ⟨8, _⟩ => ⟨S4096x8192, .f32⟩
  | .hbm, ⟨9, _⟩ => ⟨S4096x8192, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AddNorm.lean ====
abbrev S2x2048x2048 : Shape := ⟨3, ![2, 2048, 2048]⟩
abbrev S2048x2048 : Shape := ⟨2, ![2048, 2048]⟩
abbrev S1x2048 : Shape := ⟨2, ![1, 2048]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x2048, .f32⟩
  | .hbm, ⟨9, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AddNormRefIdeal.lean ====
abbrev S2x2048x2048 : Shape := ⟨3, ![2, 2048, 2048]⟩
abbrev S2048x2048 : Shape := ⟨2, ![2048, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S1x2048, .f32⟩
  | .hbm, ⟨4, _⟩ => ⟨S2x2048x2048, .f32⟩
  | .hbm, ⟨5, _⟩ => ⟨S2x2048x2048, .f32⟩
  | .hbm, ⟨6, _⟩ => ⟨S4096x2048, .f32⟩
  | .hbm, ⟨7, _⟩ => ⟨S2048, .f32⟩
  | .hbm, ⟨8, _⟩ => ⟨S2x2048x2048, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x2048, .f32⟩
  | .hbm, ⟨20, _⟩ => ⟨S2x2048x2048, .f32⟩
  | .hbm, ⟨21, _⟩ => ⟨S1x1x2048, .f32⟩
  | .hbm, ⟨22, _⟩ => ⟨S2x2048x2048, .f32⟩
  | .hbm, ⟨23, _⟩ => ⟨S2x2048x2048, .f32⟩
  | .hbm, ⟨24, _⟩ => ⟨S4096x2048, .f32⟩
  | .hbm, ⟨25, _⟩ => ⟨S4096x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== MlpDown.lean ====
abbrev S2x2048x8192 : Shape := ⟨3, ![2, 2048, 8192]⟩
abbrev S8192x2048 : Shape := ⟨2, ![8192, 2048]⟩
abbrev S2x2048x2048 : Shape := ⟨3, ![2, 2048, 2048]⟩
abbrev S1x2048 : Shape := ⟨2, ![1, 2048]⟩
abbrev S4096x8192 : Shape := ⟨2, ![4096, 8192]⟩
abbrev S4096x2048 : Shape := ⟨2, ![4096, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x2048x8192, .f32⟩
  | .hbm, ⟨1, _⟩ => ⟨S8192x2048, .f32⟩
  | .hbm, ⟨2, _⟩ => ⟨S2x2048x2048, .f32⟩
  | .hbm, ⟨3, _⟩ => ⟨S1x2048, .f32⟩
  | .hbm, ⟨4, _⟩ => ⟨S4096x8192, .f32⟩
  | .hbm, ⟨5, _⟩ => ⟨S4096x8192, .bf16⟩
  | .hbm, ⟨6, _⟩ => ⟨S8192x2048, .bf16⟩
  | .hbm, ⟨7, _⟩ => ⟨S4096x2048, .f32⟩
  | .hbm, ⟨8, _⟩ => ⟨S4096x2048, .f32⟩
  | .hbm, ⟨9, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlpDownRefIdeal.lean ====
abbrev S2x2048x8192 : Shape := ⟨3, ![2, 2048, 8192]⟩
abbrev S8192x2048 : Shape := ⟨2, ![8192, 2048]⟩
abbrev S2x2048x2048 : Shape := ⟨3, ![2, 2048, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x8192, .f32⟩
  | .hbm, ⟨1, _⟩ => ⟨S8192x2048, .f32⟩
  | .hbm, ⟨2, _⟩ => ⟨S2x2048x2048, .f32⟩
  | .hbm, ⟨3, _⟩ => ⟨S1x2048, .f32⟩
  | .hbm, ⟨4, _⟩ => ⟨S2x2048x2048, .f32⟩
  | .hbm, ⟨5, _⟩ => ⟨S2x2048x2048, .f32⟩
  | .hbm, ⟨6, _⟩ => ⟨S4096x2048, .f32⟩
  | .hbm, ⟨7, _⟩ => ⟨S2048, .f32⟩
  | .hbm, ⟨8, _⟩ => ⟨S2x2048x2048, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x2048, .f32⟩
  | .hbm, ⟨20, _⟩ => ⟨S2x2048x2048, .f32⟩
  | .hbm, ⟨21, _⟩ => ⟨S1x1x2048, .f32⟩
  | .hbm, ⟨22, _⟩ => ⟨S2x2048x2048, .f32⟩
  | .hbm, ⟨23, _⟩ => ⟨S2x2048x2048, .f32⟩
  | .hbm, ⟨24, _⟩ => ⟨S4096x2048, .f32⟩
  | .hbm, ⟨25, _⟩ => ⟨S4096x2048, .bf16⟩
  | _, _ => ⟨S2x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Gate.lean ====
abbrev S2x2048x2048 : Shape := ⟨3, ![2, 2048, 2048]⟩
abbrev S2048x2048 : Shape := ⟨2, ![2048, 2048]⟩
abbrev S4096x2048 : Shape := ⟨2, ![4096, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 11
  | .vmem => 12
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S2x2048x2048, .f32⟩
  | .hbm, ⟨4, _⟩ => ⟨S4096x2048, .f32⟩
  | .hbm, ⟨5, _⟩ => ⟨S4096x2048, .bf16⟩
  | .hbm, ⟨6, _⟩ => ⟨S2048x2048, .bf16⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S2x2048x2048 : Shape := ⟨3, ![2, 2048, 2048]⟩
abbrev S2048x2048 : Shape := ⟨2, ![2048, 2048]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2x2048x2048, .f32⟩
  | .hbm, ⟨3, _⟩ => ⟨S2x2048x2048, .f32⟩
  | .hbm, ⟨4, _⟩ => ⟨S2x2048x2048, .f32⟩
  | .hbm, ⟨5, _⟩ => ⟨S4096x2048, .f32⟩
  | .hbm, ⟨6, _⟩ => ⟨S2x2048x2048, .f32⟩
  | .hbm, ⟨7, _⟩ => ⟨S2x2048x2048, .f32⟩
  | .hbm, ⟨8, _⟩ => ⟨S_, .f32⟩
  | .hbm, ⟨9, _⟩ => ⟨S2x2048x2048, .f32⟩
  | .hbm, ⟨10, _⟩ => ⟨S2x2048x2048, .f32⟩
  | .hbm, ⟨11, _⟩ => ⟨S_, .f32⟩
  | .hbm, ⟨12, _⟩ => ⟨S2x2048x2048, .f32⟩
  | .hbm, ⟨13, _⟩ => ⟨S2x2048x2048, .f32⟩
  | .hbm, ⟨14, _⟩ => ⟨S2x2048x2048, .f32⟩
  | .hbm, ⟨15, _⟩ => ⟨S2x2048x2048, .f32⟩
  | .hbm, ⟨16, _⟩ => ⟨S4096x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== ProjIn.lean ====
abbrev S2x2048x2048 : Shape := ⟨3, ![2, 2048, 2048]⟩
abbrev S2048x18480 : Shape := ⟨2, ![2048, 18480]⟩
abbrev S18480x2048 : Shape := ⟨2, ![18480, 2048]⟩
abbrev S_ : Shape := ⟨0, ![]⟩
abbrev S80x2048 : Shape := ⟨2, ![80, 2048]⟩
abbrev S6144x2048 : Shape := ⟨2, ![6144, 2048]⟩
abbrev S2048x2048 : Shape := ⟨2, ![2048, 2048]⟩
abbrev S4096x2048 : Shape := ⟨2, ![4096, 2048]⟩
abbrev S18432x2048 : Shape := ⟨2, ![18432, 2048]⟩
abbrev S16x2048 : Shape := ⟨2, ![16, 2048]⟩
abbrev S32x2048 : Shape := ⟨2, ![32, 2048]⟩
abbrev S128x2048 : Shape := ⟨2, ![128, 2048]⟩
abbrev S4096x18432 : Shape := ⟨2, ![4096, 18432]⟩
abbrev S1024x2048 : Shape := ⟨2, ![1024, 2048]⟩
abbrev S1024x1024 : Shape := ⟨2, ![1024, 1024]⟩

abbrev nBuf : Space → Nat
  | .hbm => 17
  | .vmem => 6
  | .smem => 0
  | _ => 0

abbrev bufTy : (tb : Table) → Fin (tcTables nBuf tb) → BufTy
  | .hbm, ⟨0, _⟩ => ⟨S2x2048x2048, .f32⟩
  | .hbm, ⟨1, _⟩ => ⟨S2048x18480, .f32⟩
  | .hbm, ⟨2, _⟩ => ⟨S18480x2048, .f32⟩
  | .hbm, ⟨3, _⟩ => ⟨S18480x2048, .bf16⟩
  | .hbm, ⟨4, _⟩ => ⟨S_, .bf16⟩
  | .hbm, ⟨5, _⟩ => ⟨S80x2048, .bf16⟩
  | .hbm, ⟨6, _⟩ => ⟨S6144x2048, .bf16⟩
  | .hbm, ⟨7, _⟩ => ⟨S6144x2048, .bf16⟩
  | .hbm, ⟨8, _⟩ => ⟨S2048x2048, .bf16⟩
  | .hbm, ⟨9, _⟩ => ⟨S4096x2048, .bf16⟩
  | .hbm, ⟨10, _⟩ => ⟨S18432x2048, .bf16⟩
  | .hbm, ⟨11, _⟩ => ⟨S16x2048, .bf16⟩
  | .hbm, ⟨12, _⟩ => ⟨S32x2048, .bf16⟩
  | .hbm, ⟨13, _⟩ => ⟨S128x2048, .bf16⟩
  | .hbm, ⟨14, _⟩ => ⟨S4096x2048, .f32⟩
  | .hbm, ⟨15, _⟩ => ⟨S4096x2048, .bf16⟩
  | .hbm, ⟨16, _⟩ => ⟨S4096x18432, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S2x2048x2048 : Shape := ⟨3, ![2, 2048, 2048]⟩
abbrev S2048x18480 : Shape := ⟨2, ![2048, 18480]⟩
abbrev S2x2048x18480 : Shape := ⟨3, ![2, 2048, 18480]⟩
abbrev S2x2048x6144 : Shape := ⟨3, ![2, 2048, 6144]⟩
abbrev S2x2048x8192 : Shape := ⟨3, ![2, 2048, 8192]⟩
abbrev S2x2048x4096 : Shape := ⟨3, ![2, 2048, 4096]⟩
abbrev S2x2048x18432 : Shape := ⟨3, ![2, 2048, 18432]⟩
abbrev S4096x18432 : Shape := ⟨2, ![4096, 18432]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x18480, .f32⟩
  | .hbm, ⟨2, _⟩ => ⟨S2x2048x18480, .f32⟩
  | .hbm, ⟨3, _⟩ => ⟨S2x2048x6144, .f32⟩
  | .hbm, ⟨4, _⟩ => ⟨S2x2048x8192, .f32⟩
  | .hbm, ⟨5, _⟩ => ⟨S2x2048x4096, .f32⟩
  | .hbm, ⟨6, _⟩ => ⟨S2x2048x18432, .f32⟩
  | .hbm, ⟨7, _⟩ => ⟨S4096x18432, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AdamW.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== PairSum.lean ====
abbrev S4x2048x2048 : Shape := ⟨3, ![4, 2048, 2048]⟩
abbrev S4x1024x2048 : Shape := ⟨3, ![4, 1024, 2048]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 5
  | .vmem => 8
  | .smem => 1
  | _ => 0

abbrev bufTy : (tb : Table) → Fin (tcTables nBuf tb) → BufTy
  | .hbm, ⟨0, _⟩ => ⟨S4x2048x2048, .f32⟩
  | .hbm, ⟨1, _⟩ => ⟨S4x1024x2048, .f32⟩
  | .hbm, ⟨2, _⟩ => ⟨S_, .i32⟩
  | .hbm, ⟨3, _⟩ => ⟨S4x1024x2048, .f32⟩
  | .hbm, ⟨4, _⟩ => ⟨S4x1024x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .bf16⟩
  | .local _ .vmem, ⟨7, _⟩ => ⟨S1x256x2048, .bf16⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1_0 : Ref sig .tc := ⟨.hbm, 3, rfl⟩
abbrev main_v1_1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PairSumRefIdeal.lean ====
abbrev S4x2048x2048 : Shape := ⟨3, ![4, 2048, 2048]⟩
abbrev S4x1024x2048 : Shape := ⟨3, ![4, 1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x1024x2048, .f32⟩
  | .hbm, ⟨2, _⟩ => ⟨S4x1024x2048, .f32⟩
  | .hbm, ⟨3, _⟩ => ⟨S4x1024x2048, .f32⟩
  | .hbm, ⟨4, _⟩ => ⟨S4x1024x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FinalSum.lean ====
abbrev S4x1024x2048 : Shape := ⟨3, ![4, 1024, 2048]⟩
abbrev S3x1024x2048 : Shape := ⟨3, ![3, 1024, 2048]⟩
abbrev S_ : Shape := ⟨0, ![]⟩
abbrev S1 : Shape := ⟨1, ![1]⟩
abbrev S1024x2048 : Shape := ⟨2, ![1024, 2048]⟩
abbrev S1x256x2048 : Shape := ⟨3, ![1, 256, 2048]⟩
abbrev S3x256x2048 : Shape := ⟨3, ![3, 256, 2048]⟩
abbrev S256x2048 : Shape := ⟨2, ![256, 2048]⟩

abbrev nBuf : Space → Nat
  | .hbm => 4
  | .vmem => 6
  | .smem => 1
  | _ => 0

abbrev bufTy : (tb : Table) → Fin (tcTables nBuf tb) → BufTy
  | .hbm, ⟨0, _⟩ => ⟨S4x1024x2048, .f32⟩
  | .hbm, ⟨1, _⟩ => ⟨S3x1024x2048, .bf16⟩
  | .hbm, ⟨2, _⟩ => ⟨S_, .i32⟩
  | .hbm, ⟨3, _⟩ => ⟨S1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S3x256x2048, .bf16⟩
  | .local _ .vmem, ⟨3, _⟩ => ⟨S3x256x2048, .bf16⟩
  | .local _ .vmem, ⟨4, _⟩ => ⟨S256x2048, .f32⟩
  | .local _ .vmem, ⟨5, _⟩ => ⟨S256x2048, .f32⟩
  | .local _ .smem, ⟨0, _⟩ => ⟨S1, .i32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalSumRefIdeal.lean ====
abbrev S4x1024x2048 : Shape := ⟨3, ![4, 1024, 2048]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S3x1024x2048, .bf16⟩
  | .hbm, ⟨2, _⟩ => ⟨S1x1024x2048, .f32⟩
  | .hbm, ⟨3, _⟩ => ⟨S1024x2048, .f32⟩
  | .hbm, ⟨4, _⟩ => ⟨S3x1024x2048, .f32⟩
  | .hbm, ⟨5, _⟩ => ⟨S_, .f32⟩
  | .hbm, ⟨6, _⟩ => ⟨S1024x2048, .f32⟩
  | .hbm, ⟨7, _⟩ => ⟨S1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpDownDw.lean ====
abbrev S2x2048x8192 : Shape := ⟨3, ![2, 2048, 8192]⟩
abbrev S2x2048x2048 : Shape := ⟨3, ![2, 2048, 2048]⟩
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x8192, .f32⟩
  | .hbm, ⟨1, _⟩ => ⟨S2x2048x2048, .f32⟩
  | .hbm, ⟨2, _⟩ => ⟨S4096x8192, .f32⟩
  | .hbm, ⟨3, _⟩ => ⟨S4096x8192, .bf16⟩
  | .hbm, ⟨4, _⟩ => ⟨S4096x2048, .f32⟩
  | .hbm, ⟨5, _⟩ => ⟨S4096x2048, .bf16⟩
  | .hbm, ⟨6, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpDownDwRefIdeal.lean ====
abbrev S2x2048x8192 : Shape := ⟨3, ![2, 2048, 8192]⟩
abbrev S2x2048x2048 : Shape := ⟨3, ![2, 2048, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x8192, .f32⟩
  | .hbm, ⟨1, _⟩ => ⟨S2x2048x2048, .f32⟩
  | .hbm, ⟨2, _⟩ => ⟨S_, .f32⟩
  | .hbm, ⟨3, _⟩ => ⟨S8192x2048, .f32⟩
  | .hbm, ⟨4, _⟩ => ⟨S2x2048x2048, .f32⟩
  | .hbm, ⟨5, _⟩ => ⟨S2048x8192, .f32⟩
  | .hbm, ⟨6, _⟩ => ⟨S8192x2048, .f32⟩
  | _, _ => ⟨S2x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjOutDw.lean ====
abbrev S2x2048x2048 : Shape := ⟨3, ![2, 2048, 2048]⟩
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S4096x2048, .bf16⟩
  | .hbm, ⟨6, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutDwRefIdeal.lean ====
abbrev S2x2048x2048 : Shape := ⟨3, ![2, 2048, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S_, .f32⟩
  | .hbm, ⟨3, _⟩ => ⟨S2048x2048, .f32⟩
  | .hbm, ⟨4, _⟩ => ⟨S2x2048x2048, .f32⟩
  | .hbm, ⟨5, _⟩ => ⟨S2048x2048, .f32⟩
  | .hbm, ⟨6, _⟩ => ⟨S2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlpUpDw.lean ====
abbrev S2x2048x2048 : Shape := ⟨3, ![2, 2048, 2048]⟩
abbrev S2x2048x8192 : Shape := ⟨3, ![2, 2048, 8192]⟩
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x2048, .f32⟩
  | .hbm, ⟨1, _⟩ => ⟨S2x2048x8192, .f32⟩
  | .hbm, ⟨2, _⟩ => ⟨S4096x2048, .f32⟩
  | .hbm, ⟨3, _⟩ => ⟨S4096x2048, .bf16⟩
  | .hbm, ⟨4, _⟩ => ⟨S4096x8192, .f32⟩
  | .hbm, ⟨5, _⟩ => ⟨S4096x8192, .bf16⟩
  | .hbm, ⟨6, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpDwRefIdeal.lean ====
abbrev S2x2048x2048 : Shape := ⟨3, ![2, 2048, 2048]⟩
abbrev S2x2048x8192 : Shape := ⟨3, ![2, 2048, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x8192, .f32⟩
  | .hbm, ⟨2, _⟩ => ⟨S_, .f32⟩
  | .hbm, ⟨3, _⟩ => ⟨S2048x8192, .f32⟩
  | .hbm, ⟨4, _⟩ => ⟨S2x2048x8192, .f32⟩
  | .hbm, ⟨5, _⟩ => ⟨S8192x2048, .f32⟩
  | .hbm, ⟨6, _⟩ => ⟨S2048x8192, .f32⟩
  | .hbm, ⟨7, _⟩ => ⟨S2048x4x2048, .f32⟩
  | .hbm, ⟨8, _⟩ => ⟨S4x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== PleProjDw.lean ====
abbrev S2x2048x256 : Shape := ⟨3, ![2, 2048, 256]⟩
abbrev S2x2048x2048 : Shape := ⟨3, ![2, 2048, 2048]⟩
abbrev S4096x256 : Shape := ⟨2, ![4096, 256]⟩
abbrev S4096x2048 : Shape := ⟨2, ![4096, 2048]⟩
abbrev S4x256x512 : Shape := ⟨3, ![4, 256, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x256, .f32⟩
  | .hbm, ⟨1, _⟩ => ⟨S2x2048x2048, .f32⟩
  | .hbm, ⟨2, _⟩ => ⟨S4096x256, .f32⟩
  | .hbm, ⟨3, _⟩ => ⟨S4096x2048, .f32⟩
  | .hbm, ⟨4, _⟩ => ⟨S4096x2048, .bf16⟩
  | .hbm, ⟨5, _⟩ => ⟨S4x256x512, .f32⟩
  | .local _ .vmem, ⟨0, _⟩ => ⟨S2048x256, .f32⟩
  | .local _ .vmem, ⟨1, _⟩ => ⟨S2048x256, .f32⟩
  | .local _ .vmem, ⟨2, _⟩ => ⟨S2048x512, .bf16⟩
  | .local _ .vmem, ⟨3, _⟩ => ⟨S2048x512, .bf16⟩
  | .local _ .vmem, ⟨4, _⟩ => ⟨S1x256x512, .f32⟩
  | .local _ .vmem, ⟨5, _⟩ => ⟨S1x256x512, .f32⟩
  | .local _ .vmem, ⟨6, _⟩ => ⟨S256x512, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v14 : BitVec 1 := Scalar.cmpi .eq arg2 c1_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PleProjDwRefIdeal.lean ====
abbrev S2x2048x256 : Shape := ⟨3, ![2, 2048, 256]⟩
abbrev S2x2048x2048 : Shape := ⟨3, ![2, 2048, 2048]⟩
abbrev S_ : Shape := ⟨0, ![]⟩
abbrev S256x2048 : Shape := ⟨2, ![256, 2048]⟩
abbrev S2048x256 : Shape := ⟨2, ![2048, 256]⟩
abbrev S256x4x512 : Shape := ⟨3, ![256, 4, 512]⟩
abbrev S4x256x512 : Shape := ⟨3, ![4, 256, 512]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x256, .f32⟩
  | .hbm, ⟨1, _⟩ => ⟨S2x2048x2048, .f32⟩
  | .hbm, ⟨2, _⟩ => ⟨S_, .f32⟩
  | .hbm, ⟨3, _⟩ => ⟨S256x2048, .f32⟩
  | .hbm, ⟨4, _⟩ => ⟨S2x2048x2048, .f32⟩
  | .hbm, ⟨5, _⟩ => ⟨S2048x256, .f32⟩
  | .hbm, ⟨6, _⟩ => ⟨S256x2048, .f32⟩
  | .hbm, ⟨7, _⟩ => ⟨S256x4x512, .f32⟩
  | .hbm, ⟨8, _⟩ => ⟨S4x256x512, .f32⟩
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjInDwA.lean ====
abbrev S2x2048x18432 : Shape := ⟨3, ![2, 2048, 18432]⟩
abbrev S2x2048x2048 : Shape := ⟨3, ![2, 2048, 2048]⟩
abbrev S4096x18432 : Shape := ⟨2, ![4096, 18432]⟩
abbrev S4096x2048 : Shape := ⟨2, ![4096, 2048]⟩
abbrev S12288x2048 : Shape := ⟨2, ![12288, 2048]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x18432, .f32⟩
  | .hbm, ⟨1, _⟩ => ⟨S2x2048x2048, .f32⟩
  | .hbm, ⟨2, _⟩ => ⟨S4096x18432, .f32⟩
  | .hbm, ⟨3, _⟩ => ⟨S4096x18432, .bf16⟩
  | .hbm, ⟨4, _⟩ => ⟨S4096x2048, .f32⟩
  | .hbm, ⟨5, _⟩ => ⟨S4096x2048, .bf16⟩
  | .hbm, ⟨6, _⟩ => ⟨S12288x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDwARefIdeal.lean ====
abbrev S2x2048x18432 : Shape := ⟨3, ![2, 2048, 18432]⟩
abbrev S2x2048x2048 : Shape := ⟨3, ![2, 2048, 2048]⟩
abbrev S_ : Shape := ⟨0, ![]⟩
abbrev S2048x18432 : Shape := ⟨2, ![2048, 18432]⟩
abbrev S18432x2048 : Shape := ⟨2, ![18432, 2048]⟩
abbrev S12288x2048 : Shape := ⟨2, ![12288, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x18432, .f32⟩
  | .hbm, ⟨1, _⟩ => ⟨S2x2048x2048, .f32⟩
  | .hbm, ⟨2, _⟩ => ⟨S_, .f32⟩
  | .hbm, ⟨3, _⟩ => ⟨S2048x18432, .f32⟩
  | .hbm, ⟨4, _⟩ => ⟨S2x2048x18432, .f32⟩
  | .hbm, ⟨5, _⟩ => ⟨S18432x2048, .f32⟩
  | .hbm, ⟨6, _⟩ => ⟨S2048x18432, .f32⟩
  | .hbm, ⟨7, _⟩ => ⟨S18432x2048, .f32⟩
  | .hbm, ⟨8, _⟩ => ⟨S12288x2048, .f32⟩
  | _, _ => ⟨S2x2048x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjInDwB.lean ====
abbrev S2x2048x18432 : Shape := ⟨3, ![2, 2048, 18432]⟩
abbrev S2x2048x2048 : Shape := ⟨3, ![2, 2048, 2048]⟩
abbrev S4096x18432 : Shape := ⟨2, ![4096, 18432]⟩
abbrev S4096x2048 : Shape := ⟨2, ![4096, 2048]⟩
abbrev S6144x2048 : Shape := ⟨2, ![6144, 2048]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x18432, .f32⟩
  | .hbm, ⟨1, _⟩ => ⟨S2x2048x2048, .f32⟩
  | .hbm, ⟨2, _⟩ => ⟨S4096x18432, .f32⟩
  | .hbm, ⟨3, _⟩ => ⟨S4096x18432, .bf16⟩
  | .hbm, ⟨4, _⟩ => ⟨S4096x2048, .f32⟩
  | .hbm, ⟨5, _⟩ => ⟨S4096x2048, .bf16⟩
  | .hbm, ⟨6, _⟩ => ⟨S6144x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDwBRefIdeal.lean ====
abbrev S2x2048x18432 : Shape := ⟨3, ![2, 2048, 18432]⟩
abbrev S2x2048x2048 : Shape := ⟨3, ![2, 2048, 2048]⟩
abbrev S_ : Shape := ⟨0, ![]⟩
abbrev S2048x18432 : Shape := ⟨2, ![2048, 18432]⟩
abbrev S18432x2048 : Shape := ⟨2, ![18432, 2048]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x18432, .f32⟩
  | .hbm, ⟨1, _⟩ => ⟨S2x2048x2048, .f32⟩
  | .hbm, ⟨2, _⟩ => ⟨S_, .f32⟩
  | .hbm, ⟨3, _⟩ => ⟨S2048x18432, .f32⟩
  | .hbm, ⟨4, _⟩ => ⟨S2x2048x18432, .f32⟩
  | .hbm, ⟨5, _⟩ => ⟨S18432x2048, .f32⟩
  | .hbm, ⟨6, _⟩ => ⟨S2048x18432, .f32⟩
  | .hbm, ⟨7, _⟩ => ⟨S18432x2048, .f32⟩
  | .hbm, ⟨8, _⟩ => ⟨S6144x2048, .f32⟩
  | _, _ => ⟨S2x2048x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjInNarrowDw.lean ====
abbrev S2x2048x128 : Shape := ⟨3, ![2, 2048, 128]⟩
abbrev S2x2048x2048 : Shape := ⟨3, ![2, 2048, 2048]⟩
abbrev S4096x128 : Shape := ⟨2, ![4096, 128]⟩
abbrev S4096x2048 : Shape := ⟨2, ![4096, 2048]⟩
abbrev S128x2048 : Shape := ⟨2, ![128, 2048]⟩
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x128, .f32⟩
  | .hbm, ⟨1, _⟩ => ⟨S2x2048x2048, .f32⟩
  | .hbm, ⟨2, _⟩ => ⟨S4096x128, .f32⟩
  | .hbm, ⟨3, _⟩ => ⟨S4096x2048, .f32⟩
  | .hbm, ⟨4, _⟩ => ⟨S4096x2048, .bf16⟩
  | .hbm, ⟨5, _⟩ => ⟨S128x2048, .f32⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v14 : BitVec 1 := Scalar.cmpi .eq arg2 c1_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInNarrowDwRefIdeal.lean ====
abbrev S2x2048x128 : Shape := ⟨3, ![2, 2048, 128]⟩
abbrev S2x2048x2048 : Shape := ⟨3, ![2, 2048, 2048]⟩
abbrev S_ : Shape := ⟨0, ![]⟩
abbrev S2048x128 : Shape := ⟨2, ![2048, 128]⟩
abbrev S128x2048 : Shape := ⟨2, ![128, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x128, .f32⟩
  | .hbm, ⟨1, _⟩ => ⟨S2x2048x2048, .f32⟩
  | .hbm, ⟨2, _⟩ => ⟨S_, .f32⟩
  | .hbm, ⟨3, _⟩ => ⟨S2048x128, .f32⟩
  | .hbm, ⟨4, _⟩ => ⟨S2x2048x128, .f32⟩
  | .hbm, ⟨5, _⟩ => ⟨S128x2048, .f32⟩
  | .hbm, ⟨6, _⟩ => ⟨S2048x128, .f32⟩
  | .hbm, ⟨7, _⟩ => ⟨S128x2048, .f32⟩
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamWOut.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWProj.lean ====
abbrev S256x512 : Shape := ⟨2, ![256, 512]⟩

abbrev nBuf : Space → Nat
  | .hbm => 7
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWProjRefIdeal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWIn.lean ====
abbrev S4620x1x2048 : Shape := ⟨3, ![4620, 1, 2048]⟩
abbrev S110x1x2048 : Shape := ⟨3, ![110, 1, 2048]⟩

abbrev nBuf : Space → Nat
  | .hbm => 8
  | .vmem => 16
  | .smem => 0
  | _ => 0

abbrev bufTy : (tb : Table) → Fin (tcTables nBuf tb) → BufTy
  | .hbm, ⟨0, _⟩ => ⟨S4620x1x2048, .f32⟩
  | .hbm, ⟨1, _⟩ => ⟨S4620x1x2048, .f32⟩
  | .hbm, ⟨2, _⟩ => ⟨S4620x1x2048, .f32⟩
  | .hbm, ⟨3, _⟩ => ⟨S4620x1x2048, .f32⟩
  | .hbm, ⟨4, _⟩ => ⟨S4620x1x2048, .f32⟩
  | .hbm, ⟨5, _⟩ => ⟨S4620x1x2048, .f32⟩
  | .hbm, ⟨6, _⟩ => ⟨S4620x1x2048, .f32⟩
  | .hbm, ⟨7, _⟩ => ⟨S4620x1x2048, .f32⟩
  | .local _ .vmem, ⟨0, _⟩ => ⟨S110x1x2048, .f32⟩
  | .local _ .vmem, ⟨1, _⟩ => ⟨S110x1x2048, .f32⟩
  | .local _ .vmem, ⟨2, _⟩ => ⟨S110x1x2048, .f32⟩
  | .local _ .vmem, ⟨3, _⟩ => ⟨S110x1x2048, .f32⟩
  | .local _ .vmem, ⟨4, _⟩ => ⟨S110x1x2048, .f32⟩
  | .local _ .vmem, ⟨5, _⟩ => ⟨S110x1x2048, .f32⟩
  | .local _ .vmem, ⟨6, _⟩ => ⟨S110x1x2048, .f32⟩
  | .local _ .vmem, ⟨7, _⟩ => ⟨S110x1x2048, .f32⟩
  | .local _ .vmem, ⟨8, _⟩ => ⟨S110x1x2048, .f32⟩
  | .local _ .vmem, ⟨9, _⟩ => ⟨S110x1x2048, .f32⟩
  | .local _ .vmem, ⟨10, _⟩ => ⟨S110x1x2048, .f32⟩
  | .local _ .vmem, ⟨11, _⟩ => ⟨S110x1x2048, .f32⟩
  | .local _ .vmem, ⟨12, _⟩ => ⟨S110x1x2048, .f32⟩
  | .local _ .vmem, ⟨13, _⟩ => ⟨S110x1x2048, .f32⟩
  | .local _ .vmem, ⟨14, _⟩ => ⟨S110x1x2048, .f32⟩
  | .local _ .vmem, ⟨15, _⟩ => ⟨S110x1x2048, .f32⟩
  | _, _ => ⟨S4620x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![42], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S110x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S110x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S110x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S110x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S110x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S110x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S110x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S110x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInRefIdeal.lean ====
abbrev S4620x1x2048 : Shape := ⟨3, ![4620, 1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4620x1x2048, .f32⟩
  | .hbm, ⟨1, _⟩ => ⟨S4620x1x2048, .f32⟩
  | .hbm, ⟨2, _⟩ => ⟨S4620x1x2048, .f32⟩
  | .hbm, ⟨3, _⟩ => ⟨S4620x1x2048, .f32⟩
  | .hbm, ⟨4, _⟩ => ⟨S_, .f32⟩
  | .hbm, ⟨5, _⟩ => ⟨S4620x1x2048, .f32⟩
  | .hbm, ⟨6, _⟩ => ⟨S4620x1x2048, .f32⟩
  | .hbm, ⟨7, _⟩ => ⟨S_, .f32⟩
  | .hbm, ⟨8, _⟩ => ⟨S4620x1x2048, .f32⟩
  | .hbm, ⟨9, _⟩ => ⟨S4620x1x2048, .f32⟩
  | .hbm, ⟨10, _⟩ => ⟨S4620x1x2048, .f32⟩
  | .hbm, ⟨11, _⟩ => ⟨S_, .f32⟩
  | .hbm, ⟨12, _⟩ => ⟨S4620x1x2048, .f32⟩
  | .hbm, ⟨13, _⟩ => ⟨S4620x1x2048, .f32⟩
  | .hbm, ⟨14, _⟩ => ⟨S4620x1x2048, .f32⟩
  | .hbm, ⟨15, _⟩ => ⟨S_, .f32⟩
  | .hbm, ⟨16, _⟩ => ⟨S4620x1x2048, .f32⟩
  | .hbm, ⟨17, _⟩ => ⟨S4620x1x2048, .f32⟩
  | .hbm, ⟨18, _⟩ => ⟨S4620x1x2048, .f32⟩
  | .hbm, ⟨19, _⟩ => ⟨S_, .f32⟩
  | .hbm, ⟨20, _⟩ => ⟨S4620x1x2048, .f32⟩
  | .hbm, ⟨21, _⟩ => ⟨S4620x1x2048, .f32⟩
  | .hbm, ⟨22, _⟩ => ⟨S_, .f32⟩
  | .hbm, ⟨23, _⟩ => ⟨S4620x1x2048, .f32⟩
  | .hbm, ⟨24, _⟩ => ⟨S4620x1x2048, .f32⟩
  | .hbm, ⟨25, _⟩ => ⟨S4620x1x2048, .f32⟩
  | .hbm, ⟨26, _⟩ => ⟨S_, .f32⟩
  | .hbm, ⟨27, _⟩ => ⟨S4620x1x2048, .f32⟩
  | .hbm, ⟨28, _⟩ => ⟨S4620x1x2048, .f32⟩
  | .hbm, ⟨29, _⟩ => ⟨S4620x1x2048, .f32⟩
  | .hbm, ⟨30, _⟩ => ⟨S_, .f32⟩
  | .hbm, ⟨31, _⟩ => ⟨S4620x1x2048, .f32⟩
  | .hbm, ⟨32, _⟩ => ⟨S4620x1x2048, .f32⟩
  | .hbm, ⟨33, _⟩ => ⟨S4620x1x2048, .f32⟩
  | .hbm, ⟨34, _⟩ => ⟨S_, .f32⟩
  | .hbm, ⟨35, _⟩ => ⟨S4620x1x2048, .f32⟩
  | .hbm, ⟨36, _⟩ => ⟨S4620x1x2048, .f32⟩
  | _, _ => ⟨S4620x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MlpValue.lean ====
/- The gradient of the squared rectifier fused with the product that carries it back through `w_down`: the kernel's
   result array after the run is the reference's array. -/
module

public import proofs.«01_k».proof.Defs
public import proofs.«01_k».proof.Proof.Gen.MlpIdeal.Value
public import proofs.«01_k».proof.Proof.Gen.MlpRefIdeal.Run
public import proofs.«01_k».proof.Proof.Gen.MlpRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.RefValue

open Cert.MlpIdeal Cert.MlpIdeal.Gen Cert.MlpRefIdeal.Read

variable (m : (ℓ : Loc nD τ sig) → Buf (Elt Ideal) ℓ)

/-- The windows' block indices at every grid point. -/
theorem idx : ∀ t : Fin cfg0.N, win0_0.index t = ![t.val / 8, 0] ∧ win0_1.index t = ![t.val % 8, 0]
    ∧ win0_2.index t = ![t.val / 8, t.val % 8] ∧ win0_3.index t = ![t.val / 8, t.val % 8] ∧ t.val / 8 < 4 :=
  (by decide +kernel : ∀ t : Fin grid0.N, _)

/-- The host's operands of the call: the cotangent as rows of tokens, in the kernel's format, -/
theorem V_dx (c : Dev nD) : V m c main_v1
    = fun i : S4096x2048.Idx => (m ((c : Thread nD τ).loc main_arg2) : FVec Ideal S2x2048x2048 .f32)
        (ix3 ⟨(i 0).val / 2048, by have h : (i 0).val < 4096 := (i 0).isLt; omega⟩ ⟨(i 0).val % 2048, by omega⟩ (i 1)) := by
  entry_read
  funext i
  show truncf (F := Ideal) (s := S4096x2048) FTy.bf16 (shapeCast S4096x2048 _ _) _ i = _
  pointwise

/-- the weight in the kernel's format, -/
theorem V_w (c : Dev nD) : V m c main_v2 = (m ((c : Thread nD τ).loc main_arg1) : FVec Ideal S8192x2048 .f32) := by
  entry_read
  rfl

/-- and the rectifier's argument as rows of tokens. -/
theorem V_u (c : Dev nD) : V m c main_v3
    = fun i : S4096x8192.Idx => (m ((c : Thread nD τ).loc main_arg0) : FVec Ideal S2x2048x8192 .f32)
        (ix3 ⟨(i 0).val / 2048, by have h : (i 0).val < 4096 := (i 0).isLt; omega⟩ ⟨(i 0).val % 2048, by omega⟩ (i 1)) := by
  entry_read
  funext i
  show shapeCast (α := EReal) S4096x8192 _ _ i = _
  pointwise

/-- The derivative of the squared rectifier as the reference selects it, `2 · max u 0` above zero and nothing else, is
    `2 · max u 0` everywhere. -/
theorem relu_sq_grad (s a u : EReal) :
    s * a * max u 0 = if 0 < u then s * (a * max u 0) else 0 := by
  split_ifs with h
  · rw [mul_assoc]
  · rw [max_eq_right (not_lt.mp h), mul_zero]

/-- What a point stores at a block index is the reference's array at the index that the block index stands for. -/
theorem point (c : Dev nD) (t : Fin cfg0.N) (y) :
    k0_pay1 (iblk m c 0 t) (iblk m c 1 t) (iblk m c 2 t) y
      = val_main_v13 (F := Ideal) (m ((c : Thread nD τ).loc main_arg0)) (m ((c : Thread nD τ).loc main_arg1))
          (m ((c : Thread nD τ).loc main_arg2)) (((cfg0.win 3).blk t).view.emb y) := by
  pointwise [k0_pay1, val_main_v13, val_main_v12, val_main_v11, val_main_v10, val_main_v9, val_main_v8, val_main_v6,
    val_main_v5, val_main_cst_1, val_main_v2, val_main_v1, val_main_v0, val_main_cst_2, val_main_cst_0]
  simp only [val_main_call0_v0_apply, val_main_call0_cst_apply, val_main_cst_apply, Ideal.ofBits_def, Ideal.ofBits_zero_f32]
  refine Eq.trans ?_ (relu_sq_grad _ _ _)
  reads_congr
  · blk_simp [iblk, idx t]
    rw [V_dx]
    blk_ext [idx t]
  · blk_simp [iblk, idx t]
    rw [V_w]
    blk_ext [idx t]
  · blk_simp [iblk, idx t]
    rw [V_u]
    blk_ext [idx t]

/-- The result array after the run is the reference's array. -/
theorem final (c : Dev nD) : (dats m 0 c).arrAt 3 (cfgs 0).N
    = val_main_v13 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  frame_out
  exact point m c t y

end Cert.MlpIdeal.RefValue

end
-- ==== Proof.MlpClaim.lean ====
/- The claims about the gradient of the squared rectifier fused with its product: the reference runs and leaves its arguments as
   they are, and the kernel's results are the reference's. -/
module

public import proofs.«01_k».proof.Proof.MlpValue

@[expose] public section

set_option maxRecDepth 16384

noncomputable section

open Idealize.ShloMosaic Idealize.ShloMosaic.TcCoe Idealize.SL.Sem

namespace Cert.MlpIdeal.RefValue

open Cert.MlpRefIdeal.Read

instance factsK : Cert.MlpIdeal.Facts := Cert.MlpIdeal.Gen.facts
instance factsR : Cert.MlpRefIdeal.Facts := Cert.MlpRefIdeal.Gen.facts

/-- The reference runs, leaves its arguments as they are and declares no semaphore. -/
theorem frame_ref : Cert.quiescent_MlpRefIdeal := fun m g _ =>
  (θ_run _ _ _).mono (fun r h => ⟨fun c => (h c).2, sem_eq_zero_of_no_sems rfl _⟩)
    (Cert.MlpRefIdeal.Value.run m g)

/-- The kernel's results are the reference's. -/
theorem algebraic : Cert.algebraic_MlpIdeal_MlpRefIdeal := by
  pair_intro
  · run_from Cert.MlpIdeal.Gen.run_main m g
  refine (θ_run _ _ _).mono (fun r h c => ?_) (Cert.MlpRefIdeal.Value.run m' g')
  obtain ⟨a0, a1, a2⟩ := hagree c
  refine ⟨((h c).1.trans (val_main_v13_eq _ _ _)).trans ?_, (h c).2⟩
  · simp only [a0, a1, a2]
    exact (final m c).symm

end Cert.MlpIdeal.RefValue

end
-- ==== Proof.Sums.lean ====
/- Sums: the host's sum over the two leading axes of a rank-three array, and a sum over blocks of rows read as the sum
   over batch and position. -/
module

public import Idealize.ShloMosaic.Lib.Pipeline.ValueKit

@[expose] public section

set_option maxRecDepth 16384

noncomputable section

open Idealize.ShloMosaic

namespace Cert.Sums

/-- The host's sum of an array over its two leading axes, at an index of the last. -/
theorem hostReduceAdd_lead {a b n : Nat} (h : (⟨3, ![a, b, n]⟩ : Shape).ReducesTo [0, 1] ⟨1, ![n]⟩)
    (v : (⟨3, ![a, b, n]⟩ : Shape).Idx → EReal) (z : EReal) (j : (⟨1, ![n]⟩ : Shape).Idx) :
    Ideal.hostReduceAdd h v z j = z + ∑ p : Fin a, ∑ q : Fin b, v (ix3 p q (j 0)) := by
  have hfib : ∀ i : (⟨3, ![a, b, n]⟩ : Shape).Idx, h.drop i = j ↔ ∃ k : Fin a × Fin b, ix3 k.1 k.2 (j 0) = i := by
    intro i
    have h2 : h.drop i = j ↔ i 2 = j 0 := by
      refine ⟨fun e => Fin.ext (congrArg Fin.val (congrFun e 0)), fun e => funext fun d => ?_⟩
      match d with
      | ⟨0, _⟩ => exact Fin.ext (congrArg Fin.val e)
    rw [h2]
    refine ⟨fun e => ⟨(i 0, i 1), funext fun d => ?_⟩, fun ⟨k, hk⟩ => by rw [← hk]; rfl⟩
    match d with
    | ⟨0, _⟩ => rfl
    | ⟨1, _⟩ => rfl
    | ⟨2, _⟩ => exact e.symm
  refine congrArg (z + ·) ?_
  refine (@Finset.sum_filter_eq_sum_of_fiber _ _ _ _ _ _ _ _ (_) (fun k : Fin a × Fin b => ix3 k.1 k.2 (j 0))
    (fun _ _ e => Prod.ext (congrFun e 0) (congrFun e 1)) hfib v).trans
    (Fintype.sum_prod_type _)

/-- A sum over the three leading axes, likewise. -/
theorem hostReduceAdd_lead3 {a b d n : Nat} (h : (⟨4, ![a, b, d, n]⟩ : Shape).ReducesTo [0, 1, 2] ⟨1, ![n]⟩)
    (v : (⟨4, ![a, b, d, n]⟩ : Shape).Idx → EReal) (z : EReal) (j : (⟨1, ![n]⟩ : Shape).Idx) :
    Ideal.hostReduceAdd h v z j = z + ∑ p : Fin a, ∑ q : Fin b, ∑ r : Fin d, v (ix4 p q r (j 0)) := by
  have hfib : ∀ i : (⟨4, ![a, b, d, n]⟩ : Shape).Idx, h.drop i = j ↔ ∃ k : Fin a × Fin b × Fin d, ix4 k.1 k.2.1 k.2.2 (j 0) = i := by
    intro i
    have h2 : h.drop i = j ↔ i 3 = j 0 := by
      refine ⟨fun e => Fin.ext (congrArg Fin.val (congrFun e 0)), fun e => funext fun d => ?_⟩
      match d with
      | ⟨0, _⟩ => exact Fin.ext (congrArg Fin.val e)
    rw [h2]
    refine ⟨fun e => ⟨(i 0, i 1, i 2), funext fun d => ?_⟩, fun ⟨k, hk⟩ => by rw [← hk]; rfl⟩
    match d with
    | ⟨0, _⟩ => rfl
    | ⟨1, _⟩ => rfl
    | ⟨2, _⟩ => rfl
    | ⟨3, _⟩ => exact e.symm
  refine congrArg (z + ·) ?_
  refine (@Finset.sum_filter_eq_sum_of_fiber _ _ _ _ _ _ _ _ (_) (fun k : Fin a × Fin b × Fin d => ix4 k.1 k.2.1 k.2.2 (j 0))
    (fun _ _ e => Prod.ext (congrFun e 0) (Prod.ext (congrFun e 1) (congrFun e 2))) hfib v).trans ?_
  rw [Fintype.sum_prod_type]
  exact Finset.sum_congr rfl fun p _ => Fintype.sum_prod_type _

end Cert.Sums

end
-- ==== Proof.Rows.lean ====
/- Rows of tokens: where a row of tokens stands in batch and position, and the derivative of the root-mean-square norm
   of one row, as every call that differentiates the norm computes it. -/
module

public import Idealize.ShloMosaic.Lib.Pipeline.ValueKit

@[expose] public section

set_option maxRecDepth 16384

noncomputable section

open Idealize.ShloMosaic

namespace Cert.Rows

/-- A row number splits into batch and position in one way. -/
theorem batch_eq {n a b : Nat} (h : n = a * 2048 + b) (hb : b < 2048) : n / 2048 = a := by omega

theorem pos_eq {n a b : Nat} (h : n = a * 2048 + b) (hb : b < 2048) : n % 2048 = b := by omega

theorem batch_lt (n : Fin 4096) : n.val / 2048 < 2 := by omega

/-- Rows of tokens at an index: the batch and the position that the row stands for. -/
theorem tok_apply {α : Type} (x : (⟨3, ![2, 2048, 2048]⟩ : Shape).Idx → α)
    (hs : (⟨3, ![2, 2048, 2048]⟩ : Shape).ShapeCasts ⟨2, ![4096, 2048]⟩)
    (i : (⟨2, ![4096, 2048]⟩ : Shape).Idx) (a : Fin 2) (b : Fin 2048)
    (h : (i 0).val = a.val * 2048 + b.val) :
    shapeCast (⟨2, ![4096, 2048]⟩ : Shape) x hs i = x (ix3 a b (i 1)) := by
  pointwise
  congr 2 <;> (apply Fin.ext; simp only [h]; omega)

/-- A token's row of a rank-three array. -/
abbrev row (x : (⟨3, ![2, 2048, 2048]⟩ : Shape).Idx → EReal) (a : Fin 2) (b : Fin 2048) : Fin 2048 → EReal :=
  fun k => x (ix3 a b k)

/-- The reciprocal root of a row's mean square. -/
def inv (x : Fin 2048 → EReal) : EReal :=
  Ideal.rsqrt (Ideal.div (∑ k, x k * x k) (Ideal.ofBits .f32 0x45000000#32) + Ideal.ofBits .f32 0x358637BD#32)

/-- What the derivative carries back through a row's mean square, to be multiplied by the row's entry; `e` is the
    cotangent times the gain. -/
def back (x e : Fin 2048 → EReal) : EReal :=
  Ideal.div ((∑ k, x k * e k) * (Ideal.ofBits .f32 0xBF000000#32
    * Ideal.div (inv x) (Ideal.div (∑ k, x k * x k) (Ideal.ofBits .f32 0x45000000#32) + Ideal.ofBits .f32 0x358637BD#32)))
    (Ideal.ofBits .f32 0x45000000#32)

/-- An entry of the gradient of a row: through the scaling, and twice through the square. -/
def normGrad (x e : Fin 2048 → EReal) (k : Fin 2048) : EReal :=
  e k * inv x + x k * back x e + back x e * x k

/-- An addend put first or last. -/
theorem add_rotate4 (a b c d : EReal) : a + b + c + d = d + a + b + c := by
  rw [add_comm _ d, add_assoc d, add_assoc d]

/-- Twice an extended real is the sum with itself. -/
theorem two_mul' (e : EReal) : 2 * e = e + e := by
  rw [show (2 : EReal) = 1 + 1 by norm_num, EReal.right_distrib_of_nonneg zero_le_one zero_le_one, one_mul]

/-- Doubling commutes with every factor on the extended reals. -/
theorem mul_two_mul (c e : EReal) : c * (2 * e) = e * c + c * e := by
  rw [mul_left_comm, two_mul', mul_comm e c]

/-- The constants one half and two. -/
theorem ofBits_half : Ideal.ofBits .f32 0x3F000000#32 = ((1 / 2 : ℝ) : EReal) := by
  simp [Ideal.ofBits, Ideal.ieee, -EReal.coe_mul]
  norm_num

theorem half_nonneg : 0 ≤ Ideal.ofBits .f32 0x3F000000#32 := by
  rw [ofBits_half]
  exact EReal.coe_nonneg.mpr (by norm_num)

theorem half_ne_top : Ideal.ofBits .f32 0x3F000000#32 ≠ ⊤ := by
  rw [ofBits_half]
  exact EReal.coe_ne_top _

theorem ofBits_two : Ideal.ofBits .f32 0x40000000#32 = 2 := by
  rw [show (2 : EReal) = ((2 : ℝ) : EReal) by norm_cast]
  simp [Ideal.ofBits, Ideal.ieee, -EReal.coe_mul]
  norm_num

/-- A finite nonnegative factor goes into a sum. -/
theorem mul_sum {ι : Type} (s : Finset ι) (c : EReal) (h : 0 ≤ c) (h' : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h h', ih]

end Cert.Rows

end
-- ==== Proof.RmsValue.lean ====
/- The gradient of the root-mean-square norm with the residual branch's cotangent added: the kernel's three result
   arrays after the run are the reference's. -/
module

public import proofs.«01_k».proof.Defs
public import proofs.«01_k».proof.Proof.Gen.RmsIdeal.Value
public import proofs.«01_k».proof.Proof.Gen.RmsRefIdeal.Run
public import proofs.«01_k».proof.Proof.Gen.RmsRefIdeal.Read
public import proofs.«01_k».proof.Proof.Sums
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RmsIdeal.RefValue

open Cert Cert.RmsIdeal Cert.RmsIdeal.Gen Cert.RmsRefIdeal.Read

variable (m : (ℓ : Loc nD τ sig) → Buf (Elt Ideal) ℓ)

abbrev X (c : Dev nD) : FVec Ideal S2x2048x2048 .f32 := m ((c : Thread nD τ).loc main_arg0)
abbrev G (c : Dev nD) : FVec Ideal S1x2048 .f32 := m ((c : Thread nD τ).loc main_arg1)
abbrev DH (c : Dev nD) : FVec Ideal S2x2048x2048 .f32 := m ((c : Thread nD τ).loc main_arg2)
abbrev DRES (c : Dev nD) : FVec Ideal S2x2048x2048 .f32 := m ((c : Thread nD τ).loc main_arg3)

/-- The windows' block indices at every grid point. -/
theorem idx : ∀ t : Fin cfg0.N, win0_0.index t = ![t.val, 0] ∧ win0_1.index t = ![t.val, 0]
    ∧ win0_2.index t = ![t.val, 0] ∧ win0_3.index t = ![0, 0] ∧ win0_4.index t = ![t.val, 0] ∧ win0_5.index t = ![t.val, 0]
    ∧ win0_6.index t = ![0, 0] ∧ t.val < 16 :=
  (by decide +kernel : ∀ t : Fin grid0.N, _)

/-- The block of `x` that a point reads, at its rows' batch and position; -/
theorem blk_x (c : Dev nD) (t : Fin cfg0.N) (r : Fin 256) (k : Fin 2048) (ha : t.val / 8 < 2)
    (hb : t.val % 8 * 256 + r.val < 2048) :
    iblk m c 0 t (ix2 r k) = X m c (ix3 ⟨t.val / 8, ha⟩ ⟨t.val % 8 * 256 + r.val, hb⟩ k) := by
  have e : V m c main_v0 = shapeCast S4096x2048 (X m c) shapeCasts_S2x2048x2048_S4096x2048 := by
    entry_read
    rfl
  blk_simp [iblk, idx t]
  rw [e, Rows.tok_apply _ _ _ ⟨t.val / 8, ha⟩ ⟨t.val % 8 * 256 + r.val, hb⟩
    (by blk_simp [idx t]; show _ = t.val / 8 * 2048 + (t.val % 8 * 256 + r.val); omega)]
  blk_ext [idx t]

/-- the block of the norm's cotangent, -/
theorem blk_dh (c : Dev nD) (t : Fin cfg0.N) (r : Fin 256) (k : Fin 2048) (ha : t.val / 8 < 2)
    (hb : t.val % 8 * 256 + r.val < 2048) :
    iblk m c 1 t (ix2 r k) = DH m c (ix3 ⟨t.val / 8, ha⟩ ⟨t.val % 8 * 256 + r.val, hb⟩ k) := by
  have e : V m c main_v1 = shapeCast S4096x2048 (DH m c) shapeCasts_S2x2048x2048_S4096x2048 := by
    entry_read
    rfl
  blk_simp [iblk, idx t]
  rw [e, Rows.tok_apply _ _ _ ⟨t.val / 8, ha⟩ ⟨t.val % 8 * 256 + r.val, hb⟩
    (by blk_simp [idx t]; show _ = t.val / 8 * 2048 + (t.val % 8 * 256 + r.val); omega)]
  blk_ext [idx t]

/-- and the block of the residual's. -/
theorem blk_dres (c : Dev nD) (t : Fin cfg0.N) (r : Fin 256) (k : Fin 2048) (ha : t.val / 8 < 2)
    (hb : t.val % 8 * 256 + r.val < 2048) :
    iblk m c 2 t (ix2 r k) = DRES m c (ix3 ⟨t.val / 8, ha⟩ ⟨t.val % 8 * 256 + r.val, hb⟩ k) := by
  have e : V m c main_v2 = shapeCast S4096x2048 (DRES m c) shapeCasts_S2x2048x2048_S4096x2048 := by
    entry_read
    rfl
  blk_simp [iblk, idx t]
  rw [e, Rows.tok_apply _ _ _ ⟨t.val / 8, ha⟩ ⟨t.val % 8 * 256 + r.val, hb⟩
    (by blk_simp [idx t]; show _ = t.val / 8 * 2048 + (t.val % 8 * 256 + r.val); omega)]
  blk_ext [idx t]

/-- The gain is read whole at every point. -/
theorem blk_g (c : Dev nD) (t : Fin cfg0.N) (i) : iblk m c 3 t i = G m c i := by
  blk_ext [iblk, V, idx t]

/-- Where a result block's row stands in the array of tokens. -/
theorem emb_row (t : Fin cfg0.N) (y : S256x2048.Idx) : ((((cfg0.win 4).blk t).view.emb y) 0).val = t.val * 256 + (y 0).val := by
  blk_simp [idx t]

theorem emb_col (t : Fin cfg0.N) (y : S256x2048.Idx) : (((cfg0.win 4).blk t).view.emb y) 1 = y 1 := by
  apply Fin.ext
  blk_simp [idx t]

/-- An entry of the gradient of a row, with what the residual branch adds. -/
def dxRow (x d g : Fin 2048 → EReal) (s : EReal) (k : Fin 2048) : EReal :=
  Rows.normGrad x (fun k => d k * g k) k + s

/-- What a point stores, row by row. -/
theorem pay_row (x d s : FVec Ideal S256x2048 .f32) (g : FVec Ideal S1x2048 .f32) (r : Fin 256) (k : Fin 2048) :
    k0_pay9 (F := Ideal) x d s g (ix2 r k) = dxRow (fun k => x (ix2 r k)) (fun k => d (ix2 r k)) (fun k => g (ix2 0 k)) (s (ix2 r k)) k := by
  pointwise [k0_pay9, k0_pay8, k0_pay7, k0_pay6, k0_pay5, k0_pay4]
  simp only [Finset.univ_unique, Finset.sum_singleton]
  rfl

/-- The reference's array, row by row. -/
theorem ref_row (x : FVec Ideal S2x2048x2048 .f32) (g : FVec Ideal S1x2048 .f32) (d s : FVec Ideal S2x2048x2048 .f32)
    (i : S4096x2048.Idx) (a : Fin 2) (b : Fin 2048) (h : (i 0).val = a.val * 2048 + b.val) (k : Fin 2048) (hk : i 1 = k) :
    val_main_v39 (F := Ideal) x g d s i
      = dxRow (fun k => x (ix3 a b k)) (fun k => d (ix3 a b k)) (fun k => g (ix2 0 k)) (s (ix3 a b k)) k := by
  have ea : (⟨(i 0).val / 2048, Rows.batch_lt (i 0)⟩ : Fin 2) = a := Fin.ext (Rows.batch_eq h b.isLt)
  have eb : (⟨(i 0).val % 2048, Nat.mod_lt _ (by decide)⟩ : Fin 2048) = b := Fin.ext (Rows.pos_eq h b.isLt)
  subst hk
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40]
  simp only [Finset.univ_unique, Finset.sum_singleton, ea, eb]
  exact (Rows.add_rotate4 _ _ _ _).symm

/-- What a point stores at a block index is the reference's array at the index that the block index stands for. -/
theorem point (c : Dev nD) (t : Fin cfg0.N) (y) :
    k0_pay9 (iblk m c 0 t) (iblk m c 1 t) (iblk m c 2 t) (iblk m c 3 t) y
      = val_main_v39 (F := Ideal) (X m c) (G m c) (DH m c) (DRES m c) (((cfg0.win 4).blk t).view.emb y) := by
  obtain ⟨r, k, rfl⟩ : ∃ r k, y = ix2 r k := ⟨y 0, y 1, by idx_vars y⟩
  have hT := (idx t).2.2.2.2.2.2.2
  have ha : t.val / 8 < 2 := by omega
  have hb : t.val % 8 * 256 + r.val < 2048 := by have := r.isLt; omega
  rw [pay_row, ref_row _ _ _ _ _ ⟨_, ha⟩ ⟨_, hb⟩ ((emb_row t _).trans (by show t.val * 256 + r.val = t.val / 8 * 2048 + (t.val % 8 * 256 + r.val); omega)) k (emb_col t _)]
  simp only [blk_x m c t _ _ ha hb, blk_dh m c t _ _ ha hb, blk_dres m c t _ _ ha hb, blk_g]

/-- The result array after the run is the reference's array. -/
theorem final4 (c : Dev nD) : (dats m 0 c).arrAt 4 (cfgs 0).N
    = val_main_v39 (F := Ideal) (X m c) (G m c) (DH m c) (DRES m c) := by
  refine (dats m 0 c).arrAt_eq_of_covers 4 _ (by decide +kernel) fun t _ y => ?_
  blk_simp
  rw [after0_4]
  by_cases h : t.val % 16 = 0
  · rw [outsAt0_A m c t h]
    frame_out
    exact point m c t y
  · rw [outsAt0_B m c t h]
    frame_out
    exact point m c t y

theorem final5 (c : Dev nD) : (dats m 0 c).arrAt 5 (cfgs 0).N
    = val_main_v41 (F := Ideal) (X m c) (G m c) (DH m c) (DRES m c) := by
  refine (dats m 0 c).arrAt_eq_of_covers 5 _ (by decide +kernel) fun t _ y => ?_
  blk_simp
  rw [after0_5]
  by_cases h : t.val % 16 = 0
  · rw [outsAt0_A m c t h]
    frame_out
    exact point m c t y
  · rw [outsAt0_B m c t h]
    frame_out
    exact point m c t y

theorem hzero (j) : k0_pay2 (F := Ideal) j = 0 := by pointwise [k0_pay2]

/-- What a block of rows adds to the gain's gradient: the normalised rows against their cotangents. -/
theorem hpay (acc : FVec Ideal S1x2048 .f32) (x d : FVec Ideal S256x2048 .f32) (j : S1x2048.Idx) :
    k0_pay3 (k0_pay8 x d) acc j = acc j + ∑ r : Fin 256, x (ix2 r (j 1))
        * Ideal.rsqrt (Ideal.div (∑ k : Fin 2048, x (ix2 r k) * x (ix2 r k)) (Ideal.ofBits .f32 0x45000000#32)
            + Ideal.ofBits .f32 0x358637BD#32) * d (ix2 r (j 1)) := by
  pointwise [k0_pay8, k0_pay7, k0_pay6, k0_pay5, k0_pay4, k0_pay3]

/-- The reference's gradient of the gain as that sum over batch and position. -/
theorem href (x d : FVec Ideal S2x2048x2048 .f32) (j : S1x2048.Idx) :
   val_main_v38 (F := Ideal) x d j = ∑ a : Fin 2, ∑ b : Fin 2048, x (ix3 a b (j 1))
        * Ideal.rsqrt (Ideal.div (∑ k : Fin 2048, x (ix3 a b k) * x (ix3 a b k)) (Ideal.ofBits .f32 0x45000000#32)
            + Ideal.ofBits .f32 0x358637BD#32) * d (ix3 a b (j 1)) := by
  pointwise [Cert.Sums.hostReduceAdd_lead, val_main_v38, val_main_v22, val_main_v19, val_main_cst_4]
  simp only [Finset.univ_unique, Finset.sum_singleton]
  pointwise [Cert.Sums.hostReduceAdd_lead, val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_cst_4, val_main_cst_5, val_main_cst_6, val_main_cst_7]

theorem final6 (c : Dev nD) : (dats m 0 c).arrAt 6 (cfgs 0).N = val_main_v38 (F := Ideal) (X m c) (DH m c) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => by rw [outsAt0_A m c t h]; frame_out; rw [hpay, hzero])
    (fun t h j => by rw [outsAt0_B m c t h]; frame_out; rw [hpay])
    (le_of_eq N_0) t0_15 rfl j, zero_add, href]
  refine Fin.sum_points_lanes_congr 8 fun t k ha hl => ?_
  simp only [blk_x m c t _ _ ha hl]
  exact congrArg₂ _ (congrArg₂ _ (blk_x m c t k (j 1) ha hl) rfl) (blk_dh m c t k (j 1) ha hl)

end Cert.RmsIdeal.RefValue

end
-- ==== Proof.RmsClaim.lean ====
/- The claims about the gradient of the root-mean-square norm: the reference runs and leaves its arguments as
   they are, and the kernel's results are the reference's. -/
module

public import proofs.«01_k».proof.Proof.RmsValue

@[expose] public section

set_option maxRecDepth 16384

noncomputable section

open Idealize.ShloMosaic Idealize.ShloMosaic.TcCoe Idealize.SL.Sem

namespace Cert.RmsIdeal.RefValue

open Cert.RmsRefIdeal.Read

instance factsK : Cert.RmsIdeal.Facts := Cert.RmsIdeal.Gen.facts
instance factsR : Cert.RmsRefIdeal.Facts := Cert.RmsRefIdeal.Gen.facts

/-- The reference runs, leaves its arguments as they are and declares no semaphore. -/
theorem frame_ref : Cert.quiescent_RmsRefIdeal := fun m g _ =>
  (θ_run _ _ _).mono (fun r h => ⟨fun c => (h c).2.2.2, sem_eq_zero_of_no_sems rfl _⟩)
    (Cert.RmsRefIdeal.Value.run m g)

/-- The kernel's results are the reference's. -/
theorem algebraic : Cert.algebraic_RmsIdeal_RmsRefIdeal := by
  pair_intro
  · run_from Cert.RmsIdeal.Gen.run_main m g
  refine (θ_run _ _ _).mono (fun r h c => ?_) (Cert.RmsRefIdeal.Value.run m' g')
  obtain ⟨a0, a1, a2, a3⟩ := hagree c
  refine ⟨((h c).1.trans (val_main_v39_eq m' c)).trans ?_,
    ((h c).2.1.trans (val_main_v41_eq m' c)).trans ?_,
    ((h c).2.2.1.trans (val_main_v38_eq _ _)).trans ?_, (h c).2.2.2⟩
  · simp only [a0, a1, a2, a3]
    exact (final4 m c).symm
  · simp only [a0, a1, a2, a3]
    exact (final5 m c).symm
  · simp only [a0, a1, a2, a3]
    exact (final6 m c).symm

end Cert.RmsIdeal.RefValue

end
-- ==== Proof.LossValue.lean ====
/- The loss's backward call: the gradient of the stream through the final norm and the squared error, the gradients of
   the layer embedding's gate, the loss itself and the gain's gradient are the reference's. -/
module

public import proofs.«01_k».proof.Defs
public import proofs.«01_k».proof.Proof.Gen.LossIdeal.Value
public import proofs.«01_k».proof.Proof.Gen.LossRefIdeal.Run
public import proofs.«01_k».proof.Proof.Gen.LossRefIdeal.Read
public import proofs.«01_k».proof.Proof.Sums
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LossIdeal.RefValue

open Cert Cert.LossIdeal Cert.LossIdeal.Gen Cert.LossRefIdeal.Read

variable (m : (ℓ : Loc nD τ sig) → Buf (Elt Ideal) ℓ)

abbrev X2 (c : Dev nD) : FVec Ideal S2x2048x2048 .f32 := m ((c : Thread nD τ).loc main_arg0)
abbrev GP (c : Dev nD) : FVec Ideal S2x2048x2048 .f32 := m ((c : Thread nD τ).loc main_arg1)
abbrev PP (c : Dev nD) : FVec Ideal S2x2048x2048 .f32 := m ((c : Thread nD τ).loc main_arg2)
abbrev G (c : Dev nD) : FVec Ideal S2048 .f32 := m ((c : Thread nD τ).loc main_arg3)
abbrev T (c : Dev nD) : FVec Ideal S2x2048x2048 .f32 := m ((c : Thread nD τ).loc main_arg4)

/-- The stream that the final norm reads: `x2 + sigmoid(gp) · pp`. -/
abbrev X3 (c : Dev nD) : FVec Ideal S2x2048x2048 .f32 := val_main_v10 (F := Ideal) (X2 m c) (GP m c) (PP m c)

/-- The windows' block indices at every grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![t.val, 0]
    ∧ win0_6.index t = ![t.val, 0] ∧ win0_7.index t = ![t.val, 0] ∧ win0_8.index t = ![0, 0] ∧ win0_9.index t = ![0, 0]
    ∧ t.val < 16 :=
  (by decide +kernel : ∀ t : Fin grid0.N, _)

/-- The block of the stream that a point reads, at its rows' batch and position; -/
theorem blk_x (c : Dev nD) (t : Fin cfg0.N) (r : Fin 256) (k : Fin 2048) (ha : t.val / 8 < 2)
    (hb : t.val % 8 * 256 + r.val < 2048) :
    iblk m c 0 t (ix2 r k) = X3 m c (ix3 ⟨t.val / 8, ha⟩ ⟨t.val % 8 * 256 + r.val, hb⟩ k) := by
  have e : V m c main_v8 = shapeCast S4096x2048 (X3 m c) shapeCasts_S2x2048x2048_S4096x2048 := by
    entry_read
    rfl
  blk_simp [iblk, idx t]
  rw [e, Rows.tok_apply _ _ _ ⟨t.val / 8, ha⟩ ⟨t.val % 8 * 256 + r.val, hb⟩
    (by blk_simp [idx t]; show _ = t.val / 8 * 2048 + (t.val % 8 * 256 + r.val); omega)]
  blk_ext [idx t]

/-- the block of the target, -/
theorem blk_t (c : Dev nD) (t : Fin cfg0.N) (r : Fin 256) (k : Fin 2048) (ha : t.val / 8 < 2)
    (hb : t.val % 8 * 256 + r.val < 2048) :
    iblk m c 1 t (ix2 r k) = T m c (ix3 ⟨t.val / 8, ha⟩ ⟨t.val % 8 * 256 + r.val, hb⟩ k) := by
  have e : V m c main_v10 = shapeCast S4096x2048 (T m c) shapeCasts_S2x2048x2048_S4096x2048 := by
    entry_read
    rfl
  blk_simp [iblk, idx t]
  rw [e, Rows.tok_apply _ _ _ ⟨t.val / 8, ha⟩ ⟨t.val % 8 * 256 + r.val, hb⟩
    (by blk_simp [idx t]; show _ = t.val / 8 * 2048 + (t.val % 8 * 256 + r.val); omega)]
  blk_ext [idx t]

/-- of the gate's logits -/
theorem blk_gp (c : Dev nD) (t : Fin cfg0.N) (r : Fin 256) (k : Fin 2048) (ha : t.val / 8 < 2)
    (hb : t.val % 8 * 256 + r.val < 2048) :
    iblk m c 2 t (ix2 r k) = GP m c (ix3 ⟨t.val / 8, ha⟩ ⟨t.val % 8 * 256 + r.val, hb⟩ k) := by
  have e : V m c main_v11 = shapeCast S4096x2048 (GP m c) shapeCasts_S2x2048x2048_S4096x2048 := by
    entry_read
    rfl
  blk_simp [iblk, idx t]
  rw [e, Rows.tok_apply _ _ _ ⟨t.val / 8, ha⟩ ⟨t.val % 8 * 256 + r.val, hb⟩
    (by blk_simp [idx t]; show _ = t.val / 8 * 2048 + (t.val % 8 * 256 + r.val); omega)]
  blk_ext [idx t]

/-- and of the gated embedding. -/
theorem blk_pp (c : Dev nD) (t : Fin cfg0.N) (r : Fin 256) (k : Fin 2048) (ha : t.val / 8 < 2)
    (hb : t.val % 8 * 256 + r.val < 2048) :
    iblk m c 3 t (ix2 r k) = PP m c (ix3 ⟨t.val / 8, ha⟩ ⟨t.val % 8 * 256 + r.val, hb⟩ k) := by
  have e : V m c main_v12 = shapeCast S4096x2048 (PP m c) shapeCasts_S2x2048x2048_S4096x2048 := by
    entry_read
    rfl
  blk_simp [iblk, idx t]
  rw [e, Rows.tok_apply _ _ _ ⟨t.val / 8, ha⟩ ⟨t.val % 8 * 256 + r.val, hb⟩
    (by blk_simp [idx t]; show _ = t.val / 8 * 2048 + (t.val % 8 * 256 + r.val); omega)]
  blk_ext [idx t]

/-- The gain is read whole at every point. -/
theorem blk_g (c : Dev nD) (t : Fin cfg0.N) (k : Fin 2048) : iblk m c 4 t (ix2 0 k) = G m c (ix1 k) := by
  have e : V m c main_v9 = shapeCast S1x2048 (G m c) shapeCasts_S2048_S1x2048 := by
    entry_read
    rfl
  have e2 : ∀ i : S1x2048.Idx, shapeCast S1x2048 (G m c) shapeCasts_S2048_S1x2048 i = G m c (ix1 (i 1)) := by
    intro i
    pointwise
  blk_simp [iblk, idx t]
  rw [e, e2]
  blk_ext [idx t]

/-- Where a result block's row stands in the array of tokens. -/
theorem emb_row (t : Fin cfg0.N) (y : S256x2048.Idx) : ((((cfg0.win 5).blk t).view.emb y) 0).val = t.val * 256 + (y 0).val := by
  blk_simp [idx t]

theorem emb_col (t : Fin cfg0.N) (y : S256x2048.Idx) : (((cfg0.win 5).blk t).view.emb y) 1 = y 1 := by
  apply Fin.ext
  blk_simp [idx t]

/-- The error of a row's normalised entry. -/
def err (x g t : Fin 2048 → EReal) (k : Fin 2048) : EReal := x k * Rows.inv x * g k - t k

/-- The weight of a row's error in the loss: one half over the row's length. -/
def wt : EReal := Ideal.div (Ideal.ofBits .f32 0x3F000000#32) (Ideal.ofBits .f32 0x45000000#32)

/-- The cotangent of a row's normalised entry. -/
def dy (x g t : Fin 2048 → EReal) (k : Fin 2048) : EReal := err x g t k * wt + wt * err x g t k

/-- The gradient of a row's entry. -/
def dx (x g t : Fin 2048 → EReal) (k : Fin 2048) : EReal := Rows.normGrad x (fun k => dy x g t k * g k) k

/-- A row's part of the loss. -/
def lrow (x g t : Fin 2048 → EReal) : EReal :=
  Ideal.ofBits .f32 0x3F000000#32 * Ideal.div (∑ k, err x g t k * err x g t k) (Ideal.ofBits .f32 0x45000000#32)

section Pay

variable (x t gp pp : FVec Ideal S256x2048 .f32) (g : FVec Ideal S1x2048 .f32) (r : Fin 256) (k : Fin 2048)

theorem pay_dy : k0_pay16 (F := Ideal) (k0_pay13 x t g) k0_pay15 (ix2 r k)
    = dy (fun k => x (ix2 r k)) (fun k => g (ix2 0 k)) (fun k => t (ix2 r k)) k := by
  pointwise [k0_pay16, k0_pay15, k0_pay13, k0_pay12, k0_pay10, k0_pay9, k0_pay8, k0_pay5]
  simp only [Finset.univ_unique, Finset.sum_singleton, mul_one]
  rfl

theorem pay_dx : k0_pay18 (F := Ideal) (k0_pay5 x) (k0_pay8 g) (k0_pay10 x) (k0_pay11 x) (k0_pay13 x t g) k0_pay15 (ix2 r k)
    = dx (fun k => x (ix2 r k)) (fun k => g (ix2 0 k)) (fun k => t (ix2 r k)) k := by
  pointwise [k0_pay18, k0_pay11, k0_pay10, k0_pay9, k0_pay8, k0_pay5]
  simp only [Finset.univ_unique, Finset.sum_singleton, pay_dy]
  rfl

theorem pay_lrow (z : Fin 1) : k0_pay14 (F := Ideal) x t g (ix2 r z)
    = lrow (fun k => x (ix2 r k)) (fun k => g (ix2 0 k)) (fun k => t (ix2 r k)) := by
  pointwise [k0_pay14, k0_pay13, k0_pay12, k0_pay10, k0_pay9, k0_pay8, k0_pay5]
  rfl

theorem pay_gp : k0_pay21 (F := Ideal) (k0_pay5 x) (k0_pay6 gp) (k0_pay7 pp) (k0_pay8 g) (k0_pay10 x) (k0_pay11 x) (k0_pay13 x t g) k0_pay15 (ix2 r k)
    = dx (fun k => x (ix2 r k)) (fun k => g (ix2 0 k)) (fun k => t (ix2 r k)) k * pp (ix2 r k) * Ideal.logistic (gp (ix2 r k))
      * (1 - Ideal.logistic (gp (ix2 r k))) := by
  rw [← pay_dx]
  pointwise [k0_pay21, k0_pay20, k0_pay7, k0_pay6]

theorem pay_pp : k0_pay22 (F := Ideal) (k0_pay5 x) (k0_pay6 gp) (k0_pay8 g) (k0_pay10 x) (k0_pay11 x) (k0_pay13 x t g) k0_pay15 (ix2 r k)
    = dx (fun k => x (ix2 r k)) (fun k => g (ix2 0 k)) (fun k => t (ix2 r k)) k * Ideal.logistic (gp (ix2 r k)) := by
  rw [← pay_dx]
  pointwise [k0_pay22, k0_pay20, k0_pay6]

end Pay

section Ref

variable (x0 x1 x2 x4 : FVec Ideal S2x2048x2048 .f32) (x3 : FVec Ideal S2048 .f32) (a : Fin 2) (b k : Fin 2048)

theorem ref_dy : val_main_v41 (F := Ideal) x0 x1 x2 x3 x4 (ix3 a b k) = dy (Rows.row (val_main_v10 (F := Ideal) x0 x1 x2) a b) (fun k => x3 (ix1 k)) (Rows.row x4 a b) k := by
  pointwise [val_main_v11, val_main_cst_2, val_main_v12, val_main_v13, val_main_cst_3, val_main_v14, val_main_v15, val_main_cst_4, val_main_v16, val_main_v17, val_main_v18, val_main_v22, val_main_v23, val_main_v24, val_main_v25, val_main_v26, val_main_v27, val_main_cst_6, val_main_v29, val_main_v30, val_main_cst_11, val_main_cst_12, val_main_v36, val_main_v37, val_main_cst_13, val_main_v38, val_main_v39, val_main_v40, val_main_v41]
  simp only [Rows.ofBits_two, mul_one]
  exact Rows.mul_two_mul _ _

theorem ref_dx : val_main_v61 (F := Ideal) x0 x1 x2 x3 x4 (ix3 a b k) = dx (Rows.row (val_main_v10 (F := Ideal) x0 x1 x2) a b) (fun k => x3 (ix1 k)) (Rows.row x4 a b) k := by
  pointwise [val_main_v11, val_main_cst_2, val_main_v12, val_main_v13, val_main_cst_3, val_main_v14, val_main_v15, val_main_cst_4, val_main_v16, val_main_v17, val_main_v18, val_main_v19, val_main_cst_5, val_main_v20, val_main_v21, val_main_v22, val_main_v23, val_main_v24, val_main_v45, val_main_v46, val_main_v48, val_main_cst_16, val_main_v49, val_main_v50, val_main_v51, val_main_v52, val_main_v53, val_main_cst_17, val_main_v54, val_main_v55, val_main_cst_18, val_main_v56, val_main_v57, val_main_v58, val_main_v59, val_main_v60, val_main_v61]
  simp only [Finset.univ_unique, Finset.sum_singleton, ref_dy]
  rfl

theorem ref_lrow : Ideal.ofBits .f32 0x3F000000#32 * val_main_v33 (F := Ideal) x0 x1 x2 x3 x4 (ix2 a b) = lrow (Rows.row (val_main_v10 (F := Ideal) x0 x1 x2) a b) (fun k => x3 (ix1 k)) (Rows.row x4 a b) := by
  pointwise [val_main_v11, val_main_cst_2, val_main_v12, val_main_v13, val_main_cst_3, val_main_v14, val_main_v15, val_main_cst_4, val_main_v16, val_main_v17, val_main_v18, val_main_v22, val_main_v23, val_main_v24, val_main_v25, val_main_v26, val_main_v27, val_main_v28, val_main_cst_6, val_main_v29, val_main_v30, val_main_cst_7, val_main_v31, val_main_cst_8, val_main_v32, val_main_v33]
  rfl

theorem ref_v23 : val_main_v23 (F := Ideal) x0 x1 x2 (ix3 a b k)
    = val_main_v10 (F := Ideal) x0 x1 x2 (ix3 a b k) * Rows.inv (Rows.row (val_main_v10 (F := Ideal) x0 x1 x2) a b) := by
  pointwise [val_main_v11, val_main_cst_2, val_main_v12, val_main_v13, val_main_cst_3, val_main_v14, val_main_v15, val_main_cst_4, val_main_v16, val_main_v17, val_main_v18, val_main_v22, val_main_v23]
  rfl

variable (i : S4096x2048.Idx) (h : (i 0).val = a.val * 2048 + b.val) (hk : i 1 = k)
include h hk

theorem ref5 : val_main_v65 (F := Ideal) x0 x1 x2 x3 x4 i = dx (Rows.row (val_main_v10 (F := Ideal) x0 x1 x2) a b) (fun k => x3 (ix1 k)) (Rows.row x4 a b) k := by
  refine (Rows.tok_apply _ _ i a b h).trans ?_
  rw [hk]
  exact ref_dx x0 x1 x2 x4 x3 a b k

theorem ref6 : val_main_v67 (F := Ideal) x0 x1 x2 x3 x4 i = dx (Rows.row (val_main_v10 (F := Ideal) x0 x1 x2) a b) (fun k => x3 (ix1 k)) (Rows.row x4 a b) k * x2 (ix3 a b k) * Ideal.logistic (x1 (ix3 a b k))
    * (1 - Ideal.logistic (x1 (ix3 a b k))) := by
  show shapeCast S4096x2048 (val_main_v64 (F := Ideal) x0 x1 x2 x3 x4) shapeCasts_S2x2048x2048_S4096x2048 i = _
  refine (Rows.tok_apply _ _ i a b h).trans ?_
  rw [hk, ← ref_dx x0 x1 x2 x4 x3 a b k]
  pointwise [val_main_v64, val_main_v63, val_main_v8, val_main_v7, val_main_v6, val_main_cst_1, val_main_v5, val_main_v4, val_main_cst_0, val_main_v3, val_main_v2, val_main_cst, val_main_v1, val_main_v0]
  exact (mul_assoc _ _ _).symm

theorem ref7 : val_main_v69 (F := Ideal) x0 x1 x2 x3 x4 i = dx (Rows.row (val_main_v10 (F := Ideal) x0 x1 x2) a b) (fun k => x3 (ix1 k)) (Rows.row x4 a b) k * Ideal.logistic (x1 (ix3 a b k)) := by
  show shapeCast S4096x2048 (val_main_v62 (F := Ideal) x0 x1 x2 x3 x4) shapeCasts_S2x2048x2048_S4096x2048 i = _
  refine (Rows.tok_apply _ _ i a b h).trans ?_
  rw [hk, ← ref_dx x0 x1 x2 x4 x3 a b k]
  pointwise [val_main_v62, val_main_v5, val_main_v4, val_main_cst_0, val_main_v3, val_main_v2, val_main_cst, val_main_v1, val_main_v0]
  exact mul_comm _ _

end Ref

theorem ref8 (x0 x1 x2 x4 : FVec Ideal S2x2048x2048 .f32) (x3 : FVec Ideal S2048 .f32) (j : S8x128.Idx) :
    val_main_v70 (F := Ideal) x0 x1 x2 x3 x4 j = ∑ a : Fin 2, ∑ b : Fin 2048, lrow (Rows.row (val_main_v10 (F := Ideal) x0 x1 x2) a b) (fun k => x3 (ix1 k)) (Rows.row x4 a b) := by
  pointwise [val_main_v70, val_main_v35, val_main_cst_10, val_main_v34, val_main_cst_9]
  simp only [← ref_lrow]
  rw [Rows.mul_sum _ _ Rows.half_nonneg Rows.half_ne_top]
  refine Finset.sum_congr rfl fun a _ => ?_
  rw [Rows.mul_sum _ _ Rows.half_nonneg Rows.half_ne_top]

theorem ref9 (x0 x1 x2 x4 : FVec Ideal S2x2048x2048 .f32) (x3 : FVec Ideal S2048 .f32) (j : S1x2048.Idx) :
    val_main_v71 (F := Ideal) x0 x1 x2 x3 x4 j = ∑ a : Fin 2, ∑ b : Fin 2048, val_main_v10 (F := Ideal) x0 x1 x2 (ix3 a b (j 1))
      * Rows.inv (Rows.row (val_main_v10 (F := Ideal) x0 x1 x2) a b) * dy (Rows.row (val_main_v10 (F := Ideal) x0 x1 x2) a b) (fun k => x3 (ix1 k)) (Rows.row x4 a b) (j 1) := by
  pointwise [Cert.Sums.hostReduceAdd_lead, val_main_v71, val_main_v47, val_main_v44, val_main_cst_15, val_main_cst_14]
  simp only [Finset.univ_unique, Finset.sum_singleton]
  pointwise [Cert.Sums.hostReduceAdd_lead, val_main_v43, val_main_v42, val_main_cst_14]
  exact Finset.sum_congr rfl fun a _ => Finset.sum_congr rfl fun b _ =>
    congrArg₂ _ (ref_v23 x0 x1 x2 a b (j 1)) (ref_dy x0 x1 x2 x4 x3 a b (j 1))

/-- What a block of rows adds to the loss, -/
theorem hpay8 (acc : FVec Ideal S8x128 .f32) (x t : FVec Ideal S256x2048 .f32) (g : FVec Ideal S1x2048 .f32) (j : S8x128.Idx) :
    k0_pay3 (k0_pay19 (k0_pay14 x t g)) acc j = acc j + ∑ r : Fin 256, lrow (fun k => x (ix2 r k)) (fun k => g (ix2 0 k)) (fun k => t (ix2 r k)) := by
  pointwise [k0_pay3, k0_pay19]
  simp only [pay_lrow]

/-- and to the gain's gradient. -/
theorem hpay9 (acc : FVec Ideal S1x2048 .f32) (x t : FVec Ideal S256x2048 .f32) (g : FVec Ideal S1x2048 .f32) (j : S1x2048.Idx) :
    k0_pay4 (k0_pay17 (k0_pay12 x) (k0_pay13 x t g) k0_pay15) acc j = acc j + ∑ r : Fin 256, x (ix2 r (j 1)) * Rows.inv (fun k => x (ix2 r k))
      * dy (fun k => x (ix2 r k)) (fun k => g (ix2 0 k)) (fun k => t (ix2 r k)) (j 1) := by
  pointwise [k0_pay4, k0_pay17, k0_pay12, k0_pay10, k0_pay9, k0_pay5]
  exact congrArg _ (Finset.sum_congr rfl fun r _ => congrArg _ (pay_dy x t g r (j 1)))

theorem hzero8 (j) : k0_pay1 (F := Ideal) j = 0 := by pointwise [k0_pay1]

theorem hzero9 (j) : k0_pay2 (F := Ideal) j = 0 := by pointwise [k0_pay2]

/-- A block's row among the tokens. -/
theorem row_of (t : Fin cfg0.N) (r : Fin 256) : ∃ (ha : t.val / 8 < 2) (hb : t.val % 8 * 256 + r.val < 2048),
    t.val * 256 + r.val = t.val / 8 * 2048 + (t.val % 8 * 256 + r.val) := by
  have hT := (idx t).2.2.2.2.2.2.2.2.2.2
  have := r.isLt
  exact ⟨by omega, by omega, by omega⟩

/-- What a point stores at a block index is the reference's array at the index that the block index stands for. -/
theorem point5 (c : Dev nD) (t : Fin cfg0.N) (y) : k0_pay18 (F := Ideal) (k0_pay5 (iblk m c 0 t)) (k0_pay8 (iblk m c 4 t)) (k0_pay10 (iblk m c 0 t)) (k0_pay11 (iblk m c 0 t)) (k0_pay13 (iblk m c 0 t) (iblk m c 1 t) (iblk m c 4 t)) k0_pay15 y
    = val_main_v65 (F := Ideal) (X2 m c) (GP m c) (PP m c) (G m c) (T m c) (((cfg0.win 5).blk t).view.emb y) := by
  obtain ⟨r, k, rfl⟩ : ∃ r k, y = ix2 r k := ⟨y 0, y 1, by idx_vars y⟩
  obtain ⟨ha, hb, he⟩ := row_of t r
  rw [pay_dx, ref5 _ _ _ _ _ ⟨_, ha⟩ ⟨_, hb⟩ k _ ((emb_row t _).trans he) (emb_col t _)]
  simp only [blk_x m c t _ _ ha hb, blk_t m c t _ _ ha hb, blk_gp m c t _ _ ha hb, blk_pp m c t _ _ ha hb, blk_g]

theorem final5 (c : Dev nD) : (dats m 0 c).arrAt 5 (cfgs 0).N
    = val_main_v65 (F := Ideal) (X2 m c) (GP m c) (PP m c) (G m c) (T m c) := by
  refine (dats m 0 c).arrAt_eq_of_covers 5 _ (by decide +kernel) fun t _ y => ?_
  blk_simp
  rw [after0_5]
  by_cases h : t.val % 16 = 0
  · rw [outsAt0_A m c t h]
    frame_out
    exact point5 m c t y
  · rw [outsAt0_B m c t h]
    frame_out
    exact point5 m c t y

/-- What a point stores at a block index is the reference's array at the index that the block index stands for. -/
theorem point6 (c : Dev nD) (t : Fin cfg0.N) (y) : k0_pay21 (F := Ideal) (k0_pay5 (iblk m c 0 t)) (k0_pay6 (iblk m c 2 t)) (k0_pay7 (iblk m c 3 t)) (k0_pay8 (iblk m c 4 t)) (k0_pay10 (iblk m c 0 t)) (k0_pay11 (iblk m c 0 t)) (k0_pay13 (iblk m c 0 t) (iblk m c 1 t) (iblk m c 4 t)) k0_pay15 y
    = val_main_v67 (F := Ideal) (X2 m c) (GP m c) (PP m c) (G m c) (T m c) (((cfg0.win 5).blk t).view.emb y) := by
  obtain ⟨r, k, rfl⟩ : ∃ r k, y = ix2 r k := ⟨y 0, y 1, by idx_vars y⟩
  obtain ⟨ha, hb, he⟩ := row_of t r
  rw [pay_gp, ref6 _ _ _ _ _ ⟨_, ha⟩ ⟨_, hb⟩ k _ ((emb_row t _).trans he) (emb_col t _)]
  simp only [blk_x m c t _ _ ha hb, blk_t m c t _ _ ha hb, blk_gp m c t _ _ ha hb, blk_pp m c t _ _ ha hb, blk_g]

theorem final6 (c : Dev nD) : (dats m 0 c).arrAt 6 (cfgs 0).N
    = val_main_v67 (F := Ideal) (X2 m c) (GP m c) (PP m c) (G m c) (T m c) := by
  refine (dats m 0 c).arrAt_eq_of_covers 6 _ (by decide +kernel) fun t _ y => ?_
  blk_simp
  rw [after0_6]
  by_cases h : t.val % 16 = 0
  · rw [outsAt0_A m c t h]
    frame_out
    exact point6 m c t y
  · rw [outsAt0_B m c t h]
    frame_out
    exact point6 m c t y

/-- What a point stores at a block index is the reference's array at the index that the block index stands for. -/
theorem point7 (c : Dev nD) (t : Fin cfg0.N) (y) : k0_pay22 (F := Ideal) (k0_pay5 (iblk m c 0 t)) (k0_pay6 (iblk m c 2 t)) (k0_pay8 (iblk m c 4 t)) (k0_pay10 (iblk m c 0 t)) (k0_pay11 (iblk m c 0 t)) (k0_pay13 (iblk m c 0 t) (iblk m c 1 t) (iblk m c 4 t)) k0_pay15 y
    = val_main_v69 (F := Ideal) (X2 m c) (GP m c) (PP m c) (G m c) (T m c) (((cfg0.win 5).blk t).view.emb y) := by
  obtain ⟨r, k, rfl⟩ : ∃ r k, y = ix2 r k := ⟨y 0, y 1, by idx_vars y⟩
  obtain ⟨ha, hb, he⟩ := row_of t r
  rw [pay_pp, ref7 _ _ _ _ _ ⟨_, ha⟩ ⟨_, hb⟩ k _ ((emb_row t _).trans he) (emb_col t _)]
  simp only [blk_x m c t _ _ ha hb, blk_t m c t _ _ ha hb, blk_gp m c t _ _ ha hb, blk_pp m c t _ _ ha hb, blk_g]

theorem final7 (c : Dev nD) : (dats m 0 c).arrAt 7 (cfgs 0).N
    = val_main_v69 (F := Ideal) (X2 m c) (GP m c) (PP m c) (G m c) (T m c) := by
  refine (dats m 0 c).arrAt_eq_of_covers 7 _ (by decide +kernel) fun t _ y => ?_
  blk_simp
  rw [after0_7]
  by_cases h : t.val % 16 = 0
  · rw [outsAt0_A m c t h]
    frame_out
    exact point7 m c t y
  · rw [outsAt0_B m c t h]
    frame_out
    exact point7 m c t y

theorem final8 (c : Dev nD) : (dats m 0 c).arrAt 8 (cfgs 0).N
    = val_main_v70 (F := Ideal) (X2 m c) (GP m c) (PP m c) (G m c) (T m c) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0) _
    (fun t h j => by rw [outsAt0_A m c t h]; frame_out; rw [hpay8, hzero8])
    (fun t h j => by rw [outsAt0_B m c t h]; frame_out; rw [hpay8])
    (le_of_eq N_0) t0_15 rfl j, zero_add, ref8]
  refine Fin.sum_points_lanes_congr 8 fun t r ha hb => ?_
  simp only [blk_x m c t _ _ ha hb, blk_t m c t _ _ ha hb, blk_g]

theorem final9 (c : Dev nD) : (dats m 0 c).arrAt 9 (cfgs 0).N
    = val_main_v71 (F := Ideal) (X2 m c) (GP m c) (PP m c) (G m c) (T m c) := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => 0) _
    (fun t h j => by rw [outsAt0_A m c t h]; frame_out; rw [hpay9, hzero9])
    (fun t h j => by rw [outsAt0_B m c t h]; frame_out; rw [hpay9])
    (le_of_eq N_0) t0_15 rfl j, zero_add, ref9]
  refine Fin.sum_points_lanes_congr 8 fun t r ha hb => ?_
  simp only [blk_x m c t _ _ ha hb, blk_t m c t _ _ ha hb, blk_g]
  exact congrArg₂ _ (congrArg₂ _ (blk_x m c t r (j 1) ha hb) rfl) rfl

end Cert.LossIdeal.RefValue

end
-- ==== Proof.LossClaim.lean ====
/- The claims about the loss and its gradients: the reference runs and leaves its arguments as
   they are, and the kernel's results are the reference's. -/
module

public import proofs.«01_k».proof.Proof.LossValue

@[expose] public section

set_option maxRecDepth 16384

noncomputable section

open Idealize.ShloMosaic Idealize.ShloMosaic.TcCoe Idealize.SL.Sem

namespace Cert.LossIdeal.RefValue

open Cert.LossRefIdeal.Read

instance factsK : Cert.LossIdeal.Facts := Cert.LossIdeal.Gen.facts
instance factsR : Cert.LossRefIdeal.Facts := Cert.LossRefIdeal.Gen.facts

/-- The reference runs, leaves its arguments as they are and declares no semaphore. -/
theorem frame_ref : Cert.quiescent_LossRefIdeal := fun m g _ =>
  (θ_run _ _ _).mono (fun r h => ⟨fun c => (h c).2.2.2.2.2, sem_eq_zero_of_no_sems rfl _⟩)
    (Cert.LossRefIdeal.Value.run m g)

set_option maxHeartbeats 1000000 in
/-- The kernel's results are the reference's. -/
theorem algebraic : Cert.algebraic_LossIdeal_LossRefIdeal := by
  pair_intro
  · run_from Cert.LossIdeal.Gen.run_main m g
  refine (θ_run _ _ _).mono (fun r h c => ?_) (Cert.LossRefIdeal.Value.run m' g')
  obtain ⟨a0, a1, a2, a3, a4⟩ := hagree c
  refine ⟨((h c).1.trans (val_main_v65_eq m' c)).trans ?_,
    ((h c).2.1.trans (val_main_v67_eq m' c)).trans ?_,
    ((h c).2.2.1.trans (val_main_v69_eq m' c)).trans ?_,
    ((h c).2.2.2.1.trans (val_main_v70_eq _ _ _ _ _)).trans ?_,
    ((h c).2.2.2.2.1.trans (val_main_v71_eq _ _ _ _ _)).trans ?_, (h c).2.2.2.2.2⟩
  · simp only [a0, a1, a2, a3, a4]
    exact (final5 m c).symm
  · simp only [a0, a1, a2, a3, a4]
    exact (final6 m c).symm
  · simp only [a0, a1, a2, a3, a4]
    exact (final7 m c).symm
  · simp only [a0, a1, a2, a3, a4]
    exact (final8 m c).symm
  · simp only [a0, a1, a2, a3, a4]
    exact (final9 m c).symm

end Cert.LossIdeal.RefValue

end
-- ==== Proof.BigCols.lean ====
/- The columns of the input projection as the calls read them: the wide columns side by side, with the narrow ones
   left out. -/
module

public import proofs.«01_k».proof.Proof.Rows
public import Idealize.ShloMosaic.Lib.Pipeline.ValueKit

@[expose] public section

set_option maxRecDepth 16384

noncomputable section

open Idealize.ShloMosaic

namespace Cert.BigCols

/-- Rows of tokens of the whole projection at an index: the batch and the position that the row stands for. -/
theorem tok_apply {α : Type} (x : (⟨3, ![2, 2048, 18480]⟩ : Shape).Idx → α)
    (hs : (⟨3, ![2, 2048, 18480]⟩ : Shape).ShapeCasts ⟨2, ![4096, 18480]⟩)
    (i : (⟨2, ![4096, 18480]⟩ : Shape).Idx) (a : Fin 2) (b : Fin 2048) (q : Fin 18480)
    (h : (i 0).val = a.val * 2048 + b.val) (hq : (i 1).val = q.val) :
    shapeCast (⟨2, ![4096, 18480]⟩ : Shape) x hs i = x (ix3 a b q) := by
  pointwise
  congr 2
  · apply Fin.ext; simp only [h]; omega
  · apply Fin.ext; simp only [h]; omega
  · exact Fin.ext hq

/-- The wide columns of the rows of tokens: four runs of columns side by side. -/
theorem apply {α : Type} (x : (⟨3, ![2, 2048, 18480]⟩ : Shape).Idx → α)
    (hs : (⟨3, ![2, 2048, 18480]⟩ : Shape).ShapeCasts ⟨2, ![4096, 18480]⟩)
    (h0 : (⟨2, ![4096, 18480]⟩ : Shape).Slices ![0, 0] ⟨2, ![4096, 6144]⟩)
    (h1 : (⟨2, ![4096, 18480]⟩ : Shape).Slices ![0, 6160] ⟨2, ![4096, 6144]⟩)
    (h2 : (⟨2, ![4096, 18480]⟩ : Shape).Slices ![0, 12304] ⟨2, ![4096, 2048]⟩)
    (h3 : (⟨2, ![4096, 18480]⟩ : Shape).Slices ![0, 14384] ⟨2, ![4096, 4096]⟩)
    (hc : Shape.Concatenates [⟨2, ![4096, 6144]⟩, ⟨2, ![4096, 6144]⟩, ⟨2, ![4096, 2048]⟩, ⟨2, ![4096, 4096]⟩]
      (⟨2, ![4096, 18432]⟩ : Shape) 1)
    (i : (⟨2, ![4096, 18432]⟩ : Shape).Idx) (a : Fin 2) (b : Fin 2048) (q : Fin 18480)
    (h : (i 0).val = a.val * 2048 + b.val)
    (hq : ((i 1).val < 6144 ∧ q.val = (i 1).val) ∨ (6144 ≤ (i 1).val ∧ (i 1).val < 14336 ∧ q.val = (i 1).val + 16)
      ∨ (14336 ≤ (i 1).val ∧ q.val = (i 1).val + 48)) :
    concatenate (⟨2, ![4096, 18432]⟩ : Shape) 1
      [⟨⟨2, ![4096, 6144]⟩, extractStridedSlice (⟨2, ![4096, 6144]⟩ : Shape) ![0, 0] (shapeCast (⟨2, ![4096, 18480]⟩ : Shape) x hs) h0⟩,
       ⟨⟨2, ![4096, 6144]⟩, extractStridedSlice (⟨2, ![4096, 6144]⟩ : Shape) ![0, 6160] (shapeCast (⟨2, ![4096, 18480]⟩ : Shape) x hs) h1⟩,
       ⟨⟨2, ![4096, 2048]⟩, extractStridedSlice (⟨2, ![4096, 2048]⟩ : Shape) ![0, 12304] (shapeCast (⟨2, ![4096, 18480]⟩ : Shape) x hs) h2⟩,
       ⟨⟨2, ![4096, 4096]⟩, extractStridedSlice (⟨2, ![4096, 4096]⟩ : Shape) ![0, 14384] (shapeCast (⟨2, ![4096, 18480]⟩ : Shape) x hs) h3⟩]
      hc i = x (ix3 a b q) := by
  generalize hy : shapeCast (⟨2, ![4096, 18480]⟩ : Shape) x hs = y
  have e : ∀ j : (⟨2, ![4096, 18480]⟩ : Shape).Idx, (j 0).val = (i 0).val → (j 1).val = q.val → y j = x (ix3 a b q) := fun j e0 e1 => by
    rw [← hy]
    exact tok_apply x hs j a b q (e0.trans h) e1
  obtain ⟨r, w, rfl⟩ : ∃ r w, i = ix2 r w := ⟨i 0, i 1, by idx_vars i⟩
  have hq : (w.val < 6144 ∧ q.val = w.val) ∨ (6144 ≤ w.val ∧ w.val < 14336 ∧ q.val = w.val + 16)
      ∨ (14336 ≤ w.val ∧ q.val = w.val + 48) := hq
  pointwise
  by_cases c0 : w.val < 6144
  · rw [dif_pos c0]
    exact e _ rfl (by show w.val = q.val; omega)
  rw [dif_neg c0]
  by_cases c1 : w.val - 6144 < 6144
  · rw [dif_pos c1]
    exact e _ rfl (by show 6160 + (w.val - 6144) = q.val; omega)
  rw [dif_neg c1]
  by_cases c2 : w.val - 6144 - 6144 < 2048
  · rw [dif_pos c2]
    exact e _ rfl (by show 12304 + (w.val - 6144 - 6144) = q.val; omega)
  rw [dif_neg c2]
  exact e _ rfl (by show 14384 + (w.val - 6144 - 6144 - 2048) = q.val; omega)

end Cert.BigCols

end
-- ==== Proof.MergeMath.lean ====
/- The gated merge of the two mixers, one branch at a time: a head of a branch is normed by its root mean square,
   scaled by a gain, multiplied by a gate passed through SiLU, and enters the sum under a sigmoid. These are the
   entries of the gradients with respect to what the branch reads, as functions of one token's head. -/
module

public import proofs.«01_k».proof.Proof.Rows
public import Idealize.ShloMosaic.Lib.Pipeline.ValueKit

@[expose] public section

set_option maxRecDepth 16384

noncomputable section

open Idealize.ShloMosaic

namespace Cert.Merge

/-- The derivative of the sigmoid. -/
def dsg (x : EReal) : EReal := Ideal.logistic x * (1 - Ideal.logistic x)

/-- SiLU, -/
def sil (x : EReal) : EReal := x * Ideal.logistic x

/-- and what its derivative carries back of a cotangent `t`. -/
def dsil (x t : EReal) : EReal := t * Ideal.logistic x + x * t * dsg x

section head

variable {w : Nat} (c : EReal) (x g z d n : Fin w → EReal)

/-- The mean of a head's squares, kept away from zero; `c` is the head's width. -/
def sq : EReal := Ideal.div (∑ k, x k * x k) c + Ideal.ofBits .f32 0x358637BD#32

/-- An entry of the normed head. -/
def nrm (k : Fin w) : EReal := x k * Ideal.rsqrt (sq c x)

/-- The cotangent of the branch, of the gate's sigmoid and the merge's cotangent. -/
def ct (k : Fin w) : EReal := Ideal.logistic (g k) * d k

/-- The cotangent of the normed head. -/
def cn (k : Fin w) : EReal := ct g d k * sil (z k) * n k

/-- What comes back through the mean of the squares, of the sum of the head's entries by their cotangents. -/
def backOf (s : EReal) : EReal :=
  Ideal.div (s * (Ideal.ofBits .f32 0xBF000000#32 * Ideal.div (Ideal.rsqrt (sq c x)) (sq c x))) c

def back : EReal := backOf c x (∑ k, x k * cn g z d n k)

/-- The gradient of the branch's head, -/
def dx (k : Fin w) : EReal := cn g z d n k * Ideal.rsqrt (sq c x) + x k * back c x g z d n + back c x g z d n * x k

/-- of its SiLU gate, -/
def dz (k : Fin w) : EReal := dsil (z k) (nrm c x k * n k * ct g d k)

/-- of its sigmoid gate, -/
def dg (k : Fin w) : EReal := d k * (nrm c x k * n k * sil (z k)) * dsg (g k)

/-- and a token's part of the gradient of its gain. -/
def dn (k : Fin w) : EReal := nrm c x k * (ct g d k * sil (z k))

end head

/-- A sum over 512 lanes is the sum over four runs of 128. -/
theorem sum_four (f : Fin 512 → EReal) : (∑ k, f k)
    = (∑ k : Fin 128, f ⟨k.val, by omega⟩) + (∑ k : Fin 128, f ⟨128 + k.val, by omega⟩)
      + (∑ k : Fin 128, f ⟨256 + k.val, by omega⟩) + ∑ k : Fin 128, f ⟨384 + k.val, by omega⟩ := by
  exact (Fin.sum_univ_add (a := 384) (b := 128) f).trans (congrArg (· + _)
    ((Fin.sum_univ_add (a := 256) (b := 128) fun k => f (Fin.castAdd 128 k)).trans (congrArg (· + _)
      (Fin.sum_univ_add (a := 128) (b := 128) fun k => f (Fin.castAdd 128 (Fin.castAdd 128 k))))))

/-- The same runs, summed from the last. -/
theorem sum_rev (f : Fin 512 → EReal) : (∑ k, f k)
    = (∑ k : Fin 128, f ⟨384 + k.val, by omega⟩) + (∑ k : Fin 128, f ⟨256 + k.val, by omega⟩)
      + (∑ k : Fin 128, f ⟨128 + k.val, by omega⟩) + ∑ k : Fin 128, f ⟨k.val, by omega⟩ := by
  rw [sum_four, add_comm _ (∑ k : Fin 128, f ⟨384 + k.val, _⟩), add_comm _ (∑ k : Fin 128, f ⟨256 + k.val, _⟩),
    add_comm (∑ k : Fin 128, f ⟨k.val, _⟩), ← add_assoc, ← add_assoc]

theorem ofBits_512 : Ideal.ofBits .f32 0x44000000#32 = ((512 : ℝ) : EReal) := by
  simp [Ideal.ofBits, Ideal.ieee, -EReal.coe_mul]
  norm_num

theorem ofBits_inv512 : Ideal.ofBits .f32 0x3B000000#32 = ((1 / 512 : ℝ) : EReal) := by
  simp [Ideal.ofBits, Ideal.ieee, -EReal.coe_mul]
  norm_num

/-- Dividing by 512 is multiplying by its reciprocal. -/
theorem div_512 (s : EReal) : Ideal.div s (Ideal.ofBits .f32 0x44000000#32) = s * Ideal.ofBits .f32 0x3B000000#32 := by
  rw [ofBits_512, ofBits_inv512]
  unfold Ideal.div
  rw [if_neg (by norm_num), ← EReal.coe_inv]
  norm_num

end Cert.Merge

end
-- ==== Proof.MergeStore.lean ====
/- What a grid point of the merge's gradient stores, lane by lane, as the gradient of one token's heads. -/
module

public import proofs.«01_k».proof.Defs
public import proofs.«01_k».proof.Proof.Gen.MergeIdeal.Value
public import Idealize.ShloMosaic.Lib.Pipeline.ReadBack
public import proofs.«01_k».proof.Proof.MergeMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.RefValue

open Cert Cert.MergeIdeal Cert.MergeIdeal.Gen

variable (m : (ℓ : Loc nD τ sig) → Buf (Elt Ideal) ℓ)

/-- A token's row of a block. -/
abbrev brow (x : FVec Ideal S256x512 .f32) (r : Fin 256) : Fin 512 → EReal := fun l => x (ix2 r l)

theorem lane0 (b : Fin 128) : b.val < 512 := by omega

theorem lane (o : Nat) (b : Fin 128) (ho : o ≤ 384) : o + b.val < 512 := by omega

/-- A head of 128 lanes of a block, of a token. -/
abbrev hrow (x : FVec Ideal S256x512 .f32) (r : Fin 256) (j : Fin 4) : Fin 128 → EReal :=
  fun l => x (ix2 r ⟨j.val * 128 + l.val, by omega⟩)

theorem head_of {j : Fin 4} {k b : Fin 128} (o : Fin 4) (h : j.val * 128 + k.val = o.val * 128 + b.val) : j = o ∧ k = b :=
  ⟨Fin.ext (by omega), Fin.ext (by omega)⟩

/-- The gain of the wide heads. -/
abbrev wide (x : FVec Ideal S1x512 .f32) : Fin 512 → EReal := fun l => x (ix2 0 l)

/-- The gain of the narrow heads. -/
abbrev narrow (x : FVec Ideal S1x128 .f32) : Fin 128 → EReal := fun l => x (ix2 0 l)

/-- The gradient of the wide heads, -/
theorem stored9 (c : Dev nD) (t : Fin cfg0.N) (r : Fin 256) (q : Fin 512) :
    (outsAt0 m c t.val t.isLt).1 (ix2 r q) = Merge.dx (Ideal.ofBits .f32 0x44000000#32) (brow (iblk m c 0 t) r) (brow (iblk m c 4 t) r) (brow (iblk m c 1 t) r) (brow (iblk m c 8 t) r) (wide (iblk m c 6 t)) q := by
  by_cases hz : t.val % 64 = 0
  on_goal 1 => simp only [outsAt0_A m c t hz]
  on_goal 2 => simp only [outsAt0_B m c t hz]

  all_goals generalize iblk m c 0 t = x0
  all_goals generalize iblk m c 1 t = x1
  all_goals generalize iblk m c 2 t = x2
  all_goals generalize iblk m c 3 t = x3
  all_goals generalize iblk m c 4 t = x4
  all_goals generalize iblk m c 5 t = x5
  all_goals generalize iblk m c 6 t = x6
  all_goals generalize iblk m c 7 t = x7
  all_goals generalize iblk m c 8 t = x8
  all_goals frame_out
  all_goals canon_tiles x h
  all_goals obtain ⟨a, b, rfl⟩ : ∃ a b, x = ix2 a b := ⟨x 0, x 1, by idx_vars x⟩
  all_goals obtain rfl : r = a := Fin.ext h0
  all_goals first
    | (have e : q = ⟨b.val, lane0 b⟩ := Fin.ext h1; subst e)
    | (have e : q = ⟨128 + b.val, lane 128 b (by decide)⟩ := Fin.ext h1; subst e)
    | (have e : q = ⟨256 + b.val, lane 256 b (by decide)⟩ := Fin.ext h1; subst e)
    | (have e : q = ⟨384 + b.val, lane 384 b (by decide)⟩ := Fin.ext h1; subst e)
  all_goals
    simp only [Merge.dx, Merge.back, Merge.sum_rev]
    simp only [Merge.backOf, Merge.nrm, Merge.sq, Merge.cn, Merge.ct, Merge.sil, Merge.sum_four, Merge.div_512, brow, wide]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
    try simp only [Finset.univ_unique, Finset.sum_singleton]
    try rfl

/-- of their SiLU gate, -/
theorem stored10 (c : Dev nD) (t : Fin cfg0.N) (r : Fin 256) (q : Fin 512) :
    (outsAt0 m c t.val t.isLt).2.1 (ix2 r q) = Merge.dz (Ideal.ofBits .f32 0x44000000#32) (brow (iblk m c 0 t) r) (brow (iblk m c 4 t) r) (brow (iblk m c 1 t) r) (brow (iblk m c 8 t) r) (wide (iblk m c 6 t)) q := by
  by_cases hz : t.val % 64 = 0
  on_goal 1 => simp only [outsAt0_A m c t hz]
  on_goal 2 => simp only [outsAt0_B m c t hz]

  all_goals generalize iblk m c 0 t = x0
  all_goals generalize iblk m c 1 t = x1
  all_goals generalize iblk m c 2 t = x2
  all_goals generalize iblk m c 3 t = x3
  all_goals generalize iblk m c 4 t = x4
  all_goals generalize iblk m c 5 t = x5
  all_goals generalize iblk m c 6 t = x6
  all_goals generalize iblk m c 7 t = x7
  all_goals generalize iblk m c 8 t = x8
  all_goals frame_out
  all_goals canon_tiles x h
  all_goals obtain ⟨a, b, rfl⟩ : ∃ a b, x = ix2 a b := ⟨x 0, x 1, by idx_vars x⟩
  all_goals obtain rfl : r = a := Fin.ext h0
  all_goals first
    | (have e : q = ⟨b.val, lane0 b⟩ := Fin.ext h1; subst e)
    | (have e : q = ⟨128 + b.val, lane 128 b (by decide)⟩ := Fin.ext h1; subst e)
    | (have e : q = ⟨256 + b.val, lane 256 b (by decide)⟩ := Fin.ext h1; subst e)
    | (have e : q = ⟨384 + b.val, lane 384 b (by decide)⟩ := Fin.ext h1; subst e)
  all_goals
    simp only [Merge.dz, Merge.dsil, Merge.dsg]
    simp only [Merge.backOf, Merge.nrm, Merge.sq, Merge.cn, Merge.ct, Merge.sil, Merge.sum_four, Merge.div_512, brow, wide]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
    try simp only [Finset.univ_unique, Finset.sum_singleton]
    try rfl

/-- of their sigmoid gate, -/
theorem stored13 (c : Dev nD) (t : Fin cfg0.N) (r : Fin 256) (q : Fin 512) :
    (outsAt0 m c t.val t.isLt).2.2.2.2.1 (ix2 r q) = Merge.dg (Ideal.ofBits .f32 0x44000000#32) (brow (iblk m c 0 t) r) (brow (iblk m c 4 t) r) (brow (iblk m c 1 t) r) (brow (iblk m c 8 t) r) (wide (iblk m c 6 t)) q := by
  by_cases hz : t.val % 64 = 0
  on_goal 1 => simp only [outsAt0_A m c t hz]
  on_goal 2 => simp only [outsAt0_B m c t hz]

  all_goals generalize iblk m c 0 t = x0
  all_goals generalize iblk m c 1 t = x1
  all_goals generalize iblk m c 2 t = x2
  all_goals generalize iblk m c 3 t = x3
  all_goals generalize iblk m c 4 t = x4
  all_goals generalize iblk m c 5 t = x5
  all_goals generalize iblk m c 6 t = x6
  all_goals generalize iblk m c 7 t = x7
  all_goals generalize iblk m c 8 t = x8
  all_goals frame_out
  all_goals canon_tiles x h
  all_goals obtain ⟨a, b, rfl⟩ : ∃ a b, x = ix2 a b := ⟨x 0, x 1, by idx_vars x⟩
  all_goals obtain rfl : r = a := Fin.ext h0
  all_goals first
    | (have e : q = ⟨b.val, lane0 b⟩ := Fin.ext h1; subst e)
    | (have e : q = ⟨128 + b.val, lane 128 b (by decide)⟩ := Fin.ext h1; subst e)
    | (have e : q = ⟨256 + b.val, lane 256 b (by decide)⟩ := Fin.ext h1; subst e)
    | (have e : q = ⟨384 + b.val, lane 384 b (by decide)⟩ := Fin.ext h1; subst e)
  all_goals
    simp only [Merge.dg, Merge.dsg]
    simp only [Merge.backOf, Merge.nrm, Merge.sq, Merge.cn, Merge.ct, Merge.sil, Merge.sum_four, Merge.div_512, brow, wide]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
    try simp only [Finset.univ_unique, Finset.sum_singleton]
    try rfl

/-- of the narrow heads, -/
theorem stored11 (c : Dev nD) (t : Fin cfg0.N) (r : Fin 256) (j : Fin 4) (k : Fin 128) :
    (outsAt0 m c t.val t.isLt).2.2.1 (ix2 r ⟨j.val * 128 + k.val, by omega⟩) = Merge.dx (Ideal.ofBits .f32 0x43000000#32) (hrow (iblk m c 2 t) r j) (hrow (iblk m c 5 t) r j) (hrow (iblk m c 3 t) r j) (hrow (iblk m c 8 t) r j) (narrow (iblk m c 7 t)) k := by
  by_cases hz : t.val % 64 = 0
  on_goal 1 => simp only [outsAt0_A m c t hz]
  on_goal 2 => simp only [outsAt0_B m c t hz]

  all_goals generalize iblk m c 0 t = x0
  all_goals generalize iblk m c 1 t = x1
  all_goals generalize iblk m c 2 t = x2
  all_goals generalize iblk m c 3 t = x3
  all_goals generalize iblk m c 4 t = x4
  all_goals generalize iblk m c 5 t = x5
  all_goals generalize iblk m c 6 t = x6
  all_goals generalize iblk m c 7 t = x7
  all_goals generalize iblk m c 8 t = x8
  all_goals frame_out
  all_goals canon_tiles x h
  all_goals obtain ⟨a, b, rfl⟩ : ∃ a b, x = ix2 a b := ⟨x 0, x 1, by idx_vars x⟩
  all_goals obtain rfl : r = a := Fin.ext h0
  all_goals first
    | (have e := head_of 0 (h1.trans (Nat.zero_add b.val).symm); obtain ⟨rfl, rfl⟩ := e)
    | (have e := head_of 1 h1; obtain ⟨rfl, rfl⟩ := e)
    | (have e := head_of 2 h1; obtain ⟨rfl, rfl⟩ := e)
    | (have e := head_of 3 h1; obtain ⟨rfl, rfl⟩ := e)
  all_goals
    simp only [Merge.dx, Merge.back, Merge.backOf, Merge.nrm, Merge.sq, Merge.cn, Merge.ct, Merge.sil, hrow, narrow]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
    try simp only [Finset.univ_unique, Finset.sum_singleton]
    try rfl

/-- of their SiLU gate, -/
theorem stored12 (c : Dev nD) (t : Fin cfg0.N) (r : Fin 256) (j : Fin 4) (k : Fin 128) :
    (outsAt0 m c t.val t.isLt).2.2.2.1 (ix2 r ⟨j.val * 128 + k.val, by omega⟩) = Merge.dz (Ideal.ofBits .f32 0x43000000#32) (hrow (iblk m c 2 t) r j) (hrow (iblk m c 5 t) r j) (hrow (iblk m c 3 t) r j) (hrow (iblk m c 8 t) r j) (narrow (iblk m c 7 t)) k := by
  by_cases hz : t.val % 64 = 0
  on_goal 1 => simp only [outsAt0_A m c t hz]
  on_goal 2 => simp only [outsAt0_B m c t hz]

  all_goals generalize iblk m c 0 t = x0
  all_goals generalize iblk m c 1 t = x1
  all_goals generalize iblk m c 2 t = x2
  all_goals generalize iblk m c 3 t = x3
  all_goals generalize iblk m c 4 t = x4
  all_goals generalize iblk m c 5 t = x5
  all_goals generalize iblk m c 6 t = x6
  all_goals generalize iblk m c 7 t = x7
  all_goals generalize iblk m c 8 t = x8
  all_goals frame_out
  all_goals canon_tiles x h
  all_goals obtain ⟨a, b, rfl⟩ : ∃ a b, x = ix2 a b := ⟨x 0, x 1, by idx_vars x⟩
  all_goals obtain rfl : r = a := Fin.ext h0
  all_goals first
    | (have e := head_of 0 (h1.trans (Nat.zero_add b.val).symm); obtain ⟨rfl, rfl⟩ := e)
    | (have e := head_of 1 h1; obtain ⟨rfl, rfl⟩ := e)
    | (have e := head_of 2 h1; obtain ⟨rfl, rfl⟩ := e)
    | (have e := head_of 3 h1; obtain ⟨rfl, rfl⟩ := e)
  all_goals
    simp only [Merge.dz, Merge.dsil, Merge.dsg, Merge.backOf, Merge.nrm, Merge.sq, Merge.cn, Merge.ct, Merge.sil, hrow, narrow]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
    try simp only [Finset.univ_unique, Finset.sum_singleton]
    try rfl

/-- and of their sigmoid gate. -/
theorem stored14 (c : Dev nD) (t : Fin cfg0.N) (r : Fin 256) (j : Fin 4) (k : Fin 128) :
    (outsAt0 m c t.val t.isLt).2.2.2.2.2.1 (ix2 r ⟨j.val * 128 + k.val, by omega⟩) = Merge.dg (Ideal.ofBits .f32 0x43000000#32) (hrow (iblk m c 2 t) r j) (hrow (iblk m c 5 t) r j) (hrow (iblk m c 3 t) r j) (hrow (iblk m c 8 t) r j) (narrow (iblk m c 7 t)) k := by
  by_cases hz : t.val % 64 = 0
  on_goal 1 => simp only [outsAt0_A m c t hz]
  on_goal 2 => simp only [outsAt0_B m c t hz]

  all_goals generalize iblk m c 0 t = x0
  all_goals generalize iblk m c 1 t = x1
  all_goals generalize iblk m c 2 t = x2
  all_goals generalize iblk m c 3 t = x3
  all_goals generalize iblk m c 4 t = x4
  all_goals generalize iblk m c 5 t = x5
  all_goals generalize iblk m c 6 t = x6
  all_goals generalize iblk m c 7 t = x7
  all_goals generalize iblk m c 8 t = x8
  all_goals frame_out
  all_goals canon_tiles x h
  all_goals obtain ⟨a, b, rfl⟩ : ∃ a b, x = ix2 a b := ⟨x 0, x 1, by idx_vars x⟩
  all_goals obtain rfl : r = a := Fin.ext h0
  all_goals first
    | (have e := head_of 0 (h1.trans (Nat.zero_add b.val).symm); obtain ⟨rfl, rfl⟩ := e)
    | (have e := head_of 1 h1; obtain ⟨rfl, rfl⟩ := e)
    | (have e := head_of 2 h1; obtain ⟨rfl, rfl⟩ := e)
    | (have e := head_of 3 h1; obtain ⟨rfl, rfl⟩ := e)
  all_goals
    simp only [Merge.dg, Merge.dsg, Merge.backOf, Merge.nrm, Merge.sq, Merge.cn, Merge.ct, Merge.sil, hrow, narrow]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197]
    try simp only [Finset.univ_unique, Finset.sum_singleton]
    try rfl

end Cert.MergeIdeal.RefValue

end
-- ==== Proof.MergeGain.lean ====
/- What a grid point of the merge's gradient adds to the gradients of the two gains. -/
module

public import proofs.«01_k».proof.Defs
public import proofs.«01_k».proof.Proof.Gen.MergeIdeal.Value
public import Idealize.ShloMosaic.Lib.Pipeline.ReadBack
public import proofs.«01_k».proof.Proof.MergeMath
public import proofs.«01_k».proof.Proof.MergeStore
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.RefValue

open Cert Cert.MergeIdeal Cert.MergeIdeal.Gen

variable (m : (ℓ : Loc nD τ sig) → Buf (Elt Ideal) ℓ)

/-- What a block of tokens adds to the gradient of the wide heads' gain, -/
def wideInc (c : Dev nD) (t : Fin cfg0.N) (q : Fin 512) : EReal :=
  ∑ r : Fin 256, Merge.dn (Ideal.ofBits .f32 0x44000000#32) (brow (iblk m c 0 t) r) (brow (iblk m c 4 t) r) (brow (iblk m c 1 t) r) (brow (iblk m c 8 t) r) q

/-- one narrow head of the block to the gradient of their gain, -/
def headInc (c : Dev nD) (t : Fin cfg0.N) (k : Fin 128) (j : Fin 4) : EReal :=
  ∑ r : Fin 256, Merge.dn (Ideal.ofBits .f32 0x43000000#32) (hrow (iblk m c 2 t) r j) (hrow (iblk m c 5 t) r j) (hrow (iblk m c 3 t) r j) (hrow (iblk m c 8 t) r j) k

/-- and all four. -/
def narrowInc (c : Dev nD) (t : Fin cfg0.N) (k : Fin 128) : EReal :=
  headInc m c t k 3 + headInc m c t k 2 + headInc m c t k 1 + headInc m c t k 0

/-- Stores made before those that cover a buffer leave nothing in it. -/
theorem canon_first [∀ e, Nonempty (Elt Idealize.ShloMosaic.Ideal e)] {s : Shape} {e : EltTy} (L' : List (View.Piece (Elt Idealize.ShloMosaic.Ideal) s e)) (y : s.Idx) :
    ∀ L : List (View.Piece (Elt Idealize.ShloMosaic.Ideal) s e), (∃ p ∈ L, y ∈ p.1.set) → View.canon (L ++ L') y = View.canon L y
  | [], hc => by obtain ⟨_, hp, _⟩ := hc; exact absurd hp List.not_mem_nil
  | p :: L, hc => by
    by_cases hm : y ∈ p.1.set
    · obtain ⟨x, rfl⟩ := p.1.exists_idx_of_mem hm
      exact (View.canon_cons_emb p.1 p.2 _ x).trans (View.canon_cons_emb p.1 p.2 _ x).symm
    · obtain ⟨q, hq, hy⟩ := hc
      rw [List.cons_append, View.canon_cons_of_not_mem _ _ hm, View.canon_cons_of_not_mem _ _ hm]
      exact canon_first L' y L ((List.mem_cons.mp hq).elim (fun e => absurd (e ▸ hy) hm) fun hq => ⟨q, hq, hy⟩)

/-- The first point begins the sum of the wide heads' gain, -/
theorem wide_A (c : Dev nD) (t : Fin cfg0.N) (hz : t.val % 64 = 0) (y : S1x512.Idx) :
    (outsAt0 m c t.val t.isLt).2.2.2.2.2.2.1 y = 0 + wideInc m c t (y 1) := by
  obtain ⟨z, q, rfl⟩ : ∃ z q, y = ix2 z q := ⟨y 0, y 1, by idx_vars y⟩
  obtain rfl : z = 0 := Subsingleton.elim _ _
  show _ = _ + wideInc m c t q
  simp only [outsAt0_A m c t hz, wideInc]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_open; simp (disch := decide) only [↓ View.readCov_skip, ↓ View.readCov_cons_toLoadRect, ↓ View.readCov_fill]; frame_out
  refine (canon_first _ _ [_, _, _, _] (View.cover_of_tiled_head _ _ _ rfl _)).trans ?_
  canon_tiles x h
  all_goals obtain ⟨a, b, rfl⟩ : ∃ a b, x = ix2 a b := ⟨x 0, x 1, by idx_vars x⟩
  all_goals obtain rfl : a = 0 := Subsingleton.elim _ _
  all_goals first
    | (have e : q = ⟨b.val, lane0 b⟩ := Fin.ext h1; subst e)
    | (have e : q = ⟨128 + b.val, lane 128 b (by decide)⟩ := Fin.ext h1; subst e)
    | (have e : q = ⟨256 + b.val, lane 256 b (by decide)⟩ := Fin.ext h1; subst e)
    | (have e : q = ⟨384 + b.val, lane 384 b (by decide)⟩ := Fin.ext h1; subst e)
  all_goals
    simp only [Merge.dn, Merge.nrm, Merge.sq, Merge.ct, Merge.sil, Merge.sum_four, Merge.div_512, brow]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay1, k0_pay2]
    try rfl

/-- The first point begins the sum of the narrow heads' gain, -/
theorem narrow_A (c : Dev nD) (t : Fin cfg0.N) (hz : t.val % 64 = 0) (y : S1x128.Idx) :
    (outsAt0 m c t.val t.isLt).2.2.2.2.2.2.2 y = 0 + narrowInc m c t (y 1) := by
  obtain ⟨z, q, rfl⟩ : ∃ z q, y = ix2 z q := ⟨y 0, y 1, by idx_vars y⟩
  obtain rfl : z = 0 := Subsingleton.elim _ _
  show _ = _ + narrowInc m c t q
  simp only [outsAt0_A m c t hz, narrowInc, headInc]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_open; simp (disch := decide) only [↓ View.readCov_skip, ↓ View.readCov_cons_toLoadRect, ↓ View.readCov_fill]; frame_out
  simp only [Merge.dn, Merge.nrm, Merge.sq, Merge.ct, Merge.sil, hrow]
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay1, k0_pay2]
  try rfl

/-- every later point adds to it, -/
theorem wide_B (c : Dev nD) (t : Fin cfg0.N) (hz : ¬ t.val % 64 = 0) (y : S1x512.Idx) :
    (outsAt0 m c t.val t.isLt).2.2.2.2.2.2.1 y = (outsAt0 m c (t.val - 1) (Nat.lt_of_le_of_lt (Nat.sub_le _ _) t.isLt)).2.2.2.2.2.2.1 y + wideInc m c t (y 1) := by
  obtain ⟨z, q, rfl⟩ : ∃ z q, y = ix2 z q := ⟨y 0, y 1, by idx_vars y⟩
  obtain rfl : z = 0 := Subsingleton.elim _ _
  show _ = _ + wideInc m c t q
  simp only [outsAt0_B m c t hz, wideInc]
  generalize (outsAt0 m c (t.val - 1) _).2.2.2.2.2.2.1 = p
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_out
  canon_tiles x h
  all_goals obtain ⟨a, b, rfl⟩ : ∃ a b, x = ix2 a b := ⟨x 0, x 1, by idx_vars x⟩
  all_goals obtain rfl : a = 0 := Subsingleton.elim _ _
  all_goals first
    | (have e : q = ⟨b.val, lane0 b⟩ := Fin.ext h1; subst e)
    | (have e : q = ⟨128 + b.val, lane 128 b (by decide)⟩ := Fin.ext h1; subst e)
    | (have e : q = ⟨256 + b.val, lane 256 b (by decide)⟩ := Fin.ext h1; subst e)
    | (have e : q = ⟨384 + b.val, lane 384 b (by decide)⟩ := Fin.ext h1; subst e)
  all_goals
    simp only [Merge.dn, Merge.nrm, Merge.sq, Merge.ct, Merge.sil, Merge.sum_four, Merge.div_512, brow]
    pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay1, k0_pay2]
    try rfl

/-- every later point adds to it. -/
theorem narrow_B (c : Dev nD) (t : Fin cfg0.N) (hz : ¬ t.val % 64 = 0) (y : S1x128.Idx) :
    (outsAt0 m c t.val t.isLt).2.2.2.2.2.2.2 y = (outsAt0 m c (t.val - 1) (Nat.lt_of_le_of_lt (Nat.sub_le _ _) t.isLt)).2.2.2.2.2.2.2 y + narrowInc m c t (y 1) := by
  obtain ⟨z, q, rfl⟩ : ∃ z q, y = ix2 z q := ⟨y 0, y 1, by idx_vars y⟩
  obtain rfl : z = 0 := Subsingleton.elim _ _
  show _ = _ + narrowInc m c t q
  simp only [outsAt0_B m c t hz, narrowInc, headInc]
  generalize (outsAt0 m c (t.val - 1) _).2.2.2.2.2.2.2 = p
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_out
  simp only [Merge.dn, Merge.nrm, Merge.sq, Merge.ct, Merge.sil, hrow]
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay1, k0_pay2]
  try rfl

end Cert.MergeIdeal.RefValue

end
-- ==== Proof.ConvMath.lean ====
/- The causal convolution of four taps along one lane, and its gradients: what the three calls of the convolution's
   backward pass share. A lane is a function of the position, a head's row a function of its 128 lanes. -/
module

public import Idealize.ShloMosaic.Lib.Pipeline.ValueKit

@[expose] public section

set_option maxRecDepth 16384

noncomputable section

open Idealize.ShloMosaic

namespace Cert.Conv

/-- A lane delayed by `s` positions, with zeros before the start. -/
def delay (x : Fin 2048 → EReal) (s : Nat) (n : Fin 2048) : EReal :=
  if s ≤ n.val then x ⟨n.val - s, by omega⟩ else 0

/-- A lane advanced by `s` positions, with zeros after the end. -/
def ahead (f : Fin 2048 → EReal) (s : Nat) (n : Fin 2048) : EReal :=
  if h : n.val + s < 2048 then f ⟨n.val + s, h⟩ else 0

/-- The convolution's output at a position: tap 3 on the position itself, tap `3 - s` on the lane delayed by `s`. -/
def pre (x : Fin 2048 → EReal) (w : Fin 4 → EReal) (n : Fin 2048) : EReal :=
  w 0 * delay x 3 n + w 1 * delay x 2 n + w 2 * delay x 1 n + w 3 * x n

/-- The derivative of `p · logistic p`, times a cotangent. -/
def dact (p g : EReal) : EReal :=
  g * Ideal.logistic p + p * g * (Ideal.logistic p * (1 - Ideal.logistic p))

/-- The sum of a head's squares with the norm's small constant, -/
def sq (y : Fin 128 → EReal) : EReal := ∑ k, y k * y k + Ideal.ofBits .f32 0x358637BD#32

/-- what the derivative of the norm carries back through that sum, to be multiplied by the row's entry, -/
def back (y e : Fin 128 → EReal) : EReal :=
  (∑ k, y k * e k) * (Ideal.ofBits .f32 0xBF000000#32 * Ideal.div (Ideal.rsqrt (sq y)) (sq y))

/-- and an entry of the gradient of a head divided by its Euclidean norm: through the scaling, and twice through the
    square. -/
def normGrad (y e : Fin 128 → EReal) (k : Fin 128) : EReal :=
  e k * Ideal.rsqrt (sq y) + y k * back y e + back y e * y k

/-- The gradient of the convolution's input: each tap's share comes from the later position it was used at. -/
def dx (w : Fin 4 → EReal) (d : Fin 2048 → EReal) (n : Fin 2048) : EReal :=
  w 3 * d n + ahead (fun i => w 2 * d i) 1 n + ahead (fun i => w 1 * d i) 2 n + ahead (fun i => w 0 * d i) 3 n

/-- The gradient of tap `3 - s` over one sequence. -/
def dw (x d : Fin 2048 → EReal) (s : Nat) : EReal := ∑ n, d n * delay x s n

/-- The convolution's output on a head: 2048 positions of 128 lanes, -/
def preL (x : Fin 2048 → Fin 128 → EReal) (w : Fin 4 → Fin 128 → EReal) (n : Fin 2048) (k : Fin 128) : EReal :=
  pre (fun i => x i k) (fun j => w j k) n

/-- and the head's activations. -/
def act (x : Fin 2048 → Fin 128 → EReal) (w : Fin 4 → Fin 128 → EReal) (n : Fin 2048) (k : Fin 128) : EReal :=
  preL x w n k * Ideal.logistic (preL x w n k)

/-- Four rows of taps as one table. -/
def taps (w0 w1 w2 w3 : (⟨2, ![1, 128]⟩ : Shape).Idx → EReal) (j : Fin 4) (k : Fin 128) : EReal :=
  ![w0 (ix2 0 k), w1 (ix2 0 k), w2 (ix2 0 k), w3 (ix2 0 k)] j

/-- A lane of an array of heads: head `j`'s lane `k`. -/
abbrev col (j : Fin 16) (k : Fin 128) : Fin 2048 := ⟨j.val * 128 + k.val, by omega⟩

/-- No delay is the lane itself. -/
theorem delay_zero (x : Fin 2048 → EReal) (n : Fin 2048) : delay x 0 n = x n := by
  simp [delay]

/-- A position as a signed word of 32 bits. -/
theorem toInt_pos (n : Nat) (h : n ≤ 2048) : (BitVec.ofNat 32 n).toInt = n := by
  rw [BitVec.toInt_eq_toNat_of_lt (by rw [BitVec.toNat_ofNat]; omega), BitVec.toNat_ofNat]
  omega

/-- A lane rotated forward by `s` with the rows before `s` masked out is the lane delayed. -/
theorem select_delay (x : Fin 2048 → EReal) (s : Nat) (hs : s ≤ 2048) (n : Fin 2048) (h : (n.val + 2048 - s) % 2048 < 2048) :
    Scalar.select (IntOp.cmpi .sge (BitVec.ofNat 32 n.val) (BitVec.ofNat 32 s)) (x ⟨(n.val + 2048 - s) % 2048, h⟩) 0
      = delay x s n := by
  have hc : (BitVec.ofNat 32 s).sle (BitVec.ofNat 32 n.val) = decide (s ≤ n.val) := by
    rw [BitVec.sle_eq_decide, toInt_pos s hs, toInt_pos n.val n.isLt.le]
    simp
  show Scalar.select (BitVec.ofBool ((BitVec.ofNat 32 s).sle (BitVec.ofNat 32 n.val))) _ _ = _
  rw [hc]
  unfold delay
  by_cases hle : s ≤ n.val
  · rw [if_pos hle, decide_eq_true hle]
    show x _ = x _
    congr 1
    apply Fin.ext
    show (n.val + 2048 - s) % 2048 = n.val - s
    have := n.isLt
    omega
  · rw [if_neg hle, decide_eq_false hle]
    rfl

/-- A lane rotated by `2048 - s` with the last `s` rows masked out is the lane advanced. -/
theorem select_ahead (f : Fin 2048 → EReal) (s : Nat) (hs : 0 < s ∧ s ≤ 2048) (n : Fin 2048)
    (h : (n.val + 2048 - (2048 - s)) % 2048 < 2048) :
    Scalar.select (IntOp.cmpi .slt (BitVec.ofNat 32 n.val) (BitVec.ofNat 32 (2048 - s)))
        (f ⟨(n.val + 2048 - (2048 - s)) % 2048, h⟩) 0
      = ahead f s n := by
  have hc : (BitVec.ofNat 32 n.val).slt (BitVec.ofNat 32 (2048 - s)) = decide (n.val + s < 2048) := by
    rw [BitVec.slt_eq_decide, toInt_pos _ (Nat.sub_le _ _), toInt_pos n.val n.isLt.le]
    congr 1
    apply propext
    omega
  show Scalar.select (BitVec.ofBool ((BitVec.ofNat 32 n.val).slt (BitVec.ofNat 32 (2048 - s)))) _ _ = _
  rw [hc]
  unfold ahead
  by_cases hlt : n.val + s < 2048
  · rw [dif_pos hlt, decide_eq_true hlt]
    show f _ = f _
    congr 1
    apply Fin.ext
    show (n.val + 2048 - (2048 - s)) % 2048 = n.val + s
    omega
  · rw [dif_neg hlt, decide_eq_false hlt]
    rfl

/-- The stores at the head of a list that cover an index decide it: the older stores do not matter. -/
theorem canon_drop {Val : EltTy → Type} {S : Shape} {e : EltTy} [∀ e, Nonempty (Val e)] (a b c d : View.Piece Val S e)
    (L : List (View.Piece Val S e)) (y : S.Idx)
    (h : y ∈ a.1.set ∨ y ∈ b.1.set ∨ y ∈ c.1.set ∨ y ∈ d.1.set) :
    View.canon (a :: b :: c :: d :: L) y = View.canon [a, b, c, d] y := by
  by_cases ha : y ∈ a.1.set
  · obtain ⟨x, rfl⟩ := a.1.exists_idx_of_mem ha
    exact (View.canon_cons_emb a.1 a.2 _ x).trans (View.canon_cons_emb a.1 a.2 _ x).symm
  rw [View.canon_cons_of_not_mem _ _ ha, View.canon_cons_of_not_mem _ _ ha]
  by_cases hb : y ∈ b.1.set
  · obtain ⟨x, rfl⟩ := b.1.exists_idx_of_mem hb
    exact (View.canon_cons_emb b.1 b.2 _ x).trans (View.canon_cons_emb b.1 b.2 _ x).symm
  rw [View.canon_cons_of_not_mem _ _ hb, View.canon_cons_of_not_mem _ _ hb]
  by_cases hc : y ∈ c.1.set
  · obtain ⟨x, rfl⟩ := c.1.exists_idx_of_mem hc
    exact (View.canon_cons_emb c.1 c.2 _ x).trans (View.canon_cons_emb c.1 c.2 _ x).symm
  rw [View.canon_cons_of_not_mem _ _ hc, View.canon_cons_of_not_mem _ _ hc]
  have hd : y ∈ d.1.set := by tauto
  obtain ⟨x, rfl⟩ := d.1.exists_idx_of_mem hd
  exact (View.canon_cons_emb d.1 d.2 _ x).trans (View.canon_cons_emb d.1 d.2 _ x).symm

/-- The four rows of a block of taps cover it. -/
theorem rows_cover (y : (⟨2, ![4, 128]⟩ : Shape).Idx) (i0 : ∀ a, ![0, 0] a + ![1, 128] a ≤ ![4, 128] a)
    (i1 : ∀ a, ![1, 0] a + ![1, 128] a ≤ ![4, 128] a) (i2 : ∀ a, ![2, 0] a + ![1, 128] a ≤ ![4, 128] a)
    (i3 : ∀ a, ![3, 0] a + ![1, 128] a ≤ ![4, 128] a) :
    y ∈ (Rect.unit (s := (⟨2, ![4, 128]⟩ : Shape)) ![3, 0] ![1, 128] i3).set
      ∨ y ∈ (Rect.unit (s := (⟨2, ![4, 128]⟩ : Shape)) ![2, 0] ![1, 128] i2).set
      ∨ y ∈ (Rect.unit (s := (⟨2, ![4, 128]⟩ : Shape)) ![1, 0] ![1, 128] i1).set
      ∨ y ∈ (Rect.unit (s := (⟨2, ![4, 128]⟩ : Shape)) ![0, 0] ![1, 128] i0).set := by
  obtain ⟨r, k, rfl⟩ : ∃ r k, y = ix2 r k := ⟨y 0, y 1, by idx_vars y⟩
  simp only [Rect.mem_set_unit]
  fin_cases r
  · right; right; right
    intro a; fin_cases a <;> simp [ix2]
  · right; right; left
    intro a; fin_cases a <;> simp [ix2]
  · right; left
    intro a; fin_cases a <;> simp [ix2]
  · left
    intro a; fin_cases a <;> simp [ix2]

/-- One row of a block of taps, loaded. -/
theorem row_ld (w : (⟨2, ![4, 128]⟩ : Shape).Idx → EReal) (r : Fin 4)
    (i : ∀ a, ![r.val, 0] a + ![1, 128] a ≤ (⟨2, ![4, 128]⟩ : Shape).size a) (l : Fin 128) :
    View.ld (Val := Elt Ideal) (S := (⟨2, ![4, 128]⟩ : Shape)) (e' := .f32) w
      (Rect.unit (s := (⟨2, ![4, 128]⟩ : Shape)) ![r.val, 0] ![1, 128] i) (ix2 0 l) = w (ix2 r l) := by
  show w _ = w _
  congr 1
  funext d
  apply Fin.ext
  match d with
  | ⟨0, _⟩ => show r.val + 1 * 0 = r.val; rfl
  | ⟨1, _⟩ => show 0 + 1 * l.val = l.val; omega

/-- The four rows of a block of taps, loaded one by one. -/
theorem taps_ld (w : (⟨2, ![4, 128]⟩ : Shape).Idx → EReal)
    (i0 : ∀ a, ![0, 0] a + ![1, 128] a ≤ (⟨2, ![4, 128]⟩ : Shape).size a)
    (i1 : ∀ a, ![1, 0] a + ![1, 128] a ≤ (⟨2, ![4, 128]⟩ : Shape).size a)
    (i2 : ∀ a, ![2, 0] a + ![1, 128] a ≤ (⟨2, ![4, 128]⟩ : Shape).size a)
    (i3 : ∀ a, ![3, 0] a + ![1, 128] a ≤ (⟨2, ![4, 128]⟩ : Shape).size a) :
    taps (View.ld (Val := Elt Ideal) (S := (⟨2, ![4, 128]⟩ : Shape)) (e' := .f32) w (Rect.unit (s := (⟨2, ![4, 128]⟩ : Shape)) ![0, 0] ![1, 128] i0))
      (View.ld (Val := Elt Ideal) (S := (⟨2, ![4, 128]⟩ : Shape)) (e' := .f32) w (Rect.unit (s := (⟨2, ![4, 128]⟩ : Shape)) ![1, 0] ![1, 128] i1))
      (View.ld (Val := Elt Ideal) (S := (⟨2, ![4, 128]⟩ : Shape)) (e' := .f32) w (Rect.unit (s := (⟨2, ![4, 128]⟩ : Shape)) ![2, 0] ![1, 128] i2))
      (View.ld (Val := Elt Ideal) (S := (⟨2, ![4, 128]⟩ : Shape)) (e' := .f32) w (Rect.unit (s := (⟨2, ![4, 128]⟩ : Shape)) ![3, 0] ![1, 128] i3))
      = fun r l => w (ix2 r l) := by
  funext r l
  fin_cases r
  · exact row_ld w 0 i0 l
  · exact row_ld w 1 i1 l
  · exact row_ld w 2 i2 l
  · exact row_ld w 3 i3 l

/-- The indices of a stored row and of the block it is stored into. -/
theorem row_idx (y : (⟨2, ![4, 128]⟩ : Shape).Idx) (x : (⟨2, ![1, 128]⟩ : Shape).Idx) (r : Fin 4)
    (h0 : (y 0).val = r.val + (x 0).val) (h1 : (y 1).val = (x 1).val) : ∃ k, x = ix2 0 k ∧ y = ix2 r k := by
  have hx : (x 0).val < 1 := (x 0).isLt
  refine ⟨y 1, ?_, ?_⟩
  · funext d
    apply Fin.ext
    match d with
    | ⟨0, _⟩ => show (x 0).val = 0; omega
    | ⟨1, _⟩ => exact h1.symm
  · funext d
    apply Fin.ext
    match d with
    | ⟨0, _⟩ => show (y 0).val = r.val; omega
    | ⟨1, _⟩ => rfl

/-- The three rows of zeros and then the lane, read at a tap's row, is the lane delayed. -/
theorem padded (X : Fin 2048 → EReal) (s : Nat) (hs : s ≤ 3) (i : Nat) (n : Fin 2048) (hi : i + s = n.val + 3)
    (h : ¬ i < 3 → i - 3 < 2048) :
    (if hh : i < 3 then (0 : EReal) else X ⟨i - 3, h hh⟩) = delay X s n := by
  unfold delay
  by_cases hc : s ≤ n.val
  · rw [if_pos hc, dif_neg (by omega)]
    exact congrArg X (Fin.ext (show i - 3 = n.val - s by omega))
  · rw [if_neg hc, dif_pos (by omega)]

/-- The gradient of the padded lane, summed tap by tap and read past the padding, is the gradient of the lane. -/
theorem dx_padded (w : Fin 4 → EReal) (d : Fin 2048 → EReal) (n : Fin 2048) (h2 : 2 ≤ 3 + n.val ∧ 3 + n.val - 2 < 2048 → 3 + n.val - 2 < 2048)
    (h1 : 1 ≤ 3 + n.val ∧ 3 + n.val - 1 < 2048 → 3 + n.val - 1 < 2048) (h0 : 3 + n.val < 2048 → 3 + n.val < 2048) :
    (((d n * w 3 + if h : 2 ≤ 3 + n.val ∧ 3 + n.val - 2 < 2048 then d ⟨3 + n.val - 2, h2 h⟩ * w 2 else 0)
        + if h : 1 ≤ 3 + n.val ∧ 3 + n.val - 1 < 2048 then d ⟨3 + n.val - 1, h1 h⟩ * w 1 else 0)
      + if h : 3 + n.val < 2048 then d ⟨3 + n.val, h0 h⟩ * w 0 else 0) = dx w d n := by
  have adv : ∀ (a : Fin 4) (s i : Nat) (hi : i = n.val + s) (p : Prop) [Decidable p] (hp : p ↔ n.val + s < 2048) (hb : p → i < 2048),
      (if h : p then d ⟨i, hb h⟩ * w a else 0) = ahead (fun i => w a * d i) s n := by
    intro a s i hi p _ hp hb
    subst hi
    unfold ahead
    by_cases h : n.val + s < 2048
    · rw [dif_pos h, dif_pos (hp.mpr h), mul_comm]
    · rw [dif_neg h, dif_neg (fun h' => h (hp.mp h'))]
  unfold dx
  rw [mul_comm (d n), adv 2 1 _ (by omega) _ (by omega), adv 1 2 _ (by omega) _ (by omega), adv 0 3 _ (by omega) _ (by omega)]

/-- Four rows, each padded to a table of four, added up: the table of the rows. -/
theorem rows_padded (f : Nat → EReal) (r : Fin 4) (h3 h2 h1 h0 : Prop) [Decidable h3] [Decidable h2] [Decidable h1] [Decidable h0]
    (e3 : h3 ↔ r.val = 3) (e2 : h2 ↔ r.val = 2) (e1 : h1 ↔ r.val = 1) (e0 : h0 ↔ r.val = 0) :
    ((dite h3 (fun _ => f 0) (fun _ => 0) + dite h2 (fun _ => f 1) (fun _ => 0)) + dite h1 (fun _ => f 2) (fun _ => 0))
      + dite h0 (fun _ => f 3) (fun _ => 0) = f (3 - r.val) := by
  simp only [e3, e2, e1, e0]
  fin_cases r <;> simp

/-- The gradient of a tap over both sequences, the factors in the other order. -/
theorem dw_sum (s : Nat) (x d e : Fin 2 → Fin 2048 → EReal) (he : ∀ b n, e b n = delay (x b) s n) :
    ∑ b, ∑ n, e b n * d b n = ∑ b, dw (x b) (d b) s := by
  refine Finset.sum_congr rfl fun b _ => Finset.sum_congr rfl fun n _ => ?_
  rw [he, mul_comm]

/-- A lane as a head and its lane. -/
theorem col_div (q : Fin 2048) : ∃ j k, q = col j k :=
  ⟨⟨q.val / 128, by omega⟩, ⟨q.val % 128, by omega⟩, Fin.ext (by show q.val = q.val / 128 * 128 + q.val % 128; omega)⟩

end Cert.Conv

end
-- ==== Proof.MergeRef.lean ====
/- The gradient of the gated merge as the reference computes it, lane by lane: the entries of one token's heads. -/
module

public import proofs.«01_k».proof.Defs
public import proofs.«01_k».proof.Proof.Gen.MergeRefIdeal.Run
public import proofs.«01_k».proof.Proof.Gen.MergeRefIdeal.Read
public import proofs.«01_k».proof.Proof.MergeMath
public import proofs.«01_k».proof.Proof.ConvMath
public import proofs.«01_k».proof.Proof.Sums
public import Idealize.ShloMosaic.Lib.Pipeline.ValueKit

@[expose] public section

set_option maxRecDepth 16384

noncomputable section

open Idealize.ShloMosaic Idealize.ShloMosaic.TcCoe Idealize.SL.Sem

namespace Cert.MergeRef

open Cert Cert.MergeRefIdeal Cert.MergeRefIdeal.Gen Cert.MergeRefIdeal.Read

/-- The lane of a wide head's entry. -/
abbrev wcol (j : Fin 4) (k : Fin 512) : Fin 2048 := ⟨j.val * 512 + k.val, by omega⟩

/-- Indices are equal when their coordinates are: of two axes, -/
theorem idx2 {a b : Nat} (i : (⟨2, ![a, b]⟩ : Shape).Idx) (x : Fin a) (y : Fin b) (hx : (i 0).val = x.val) (hy : (i 1).val = y.val) :
    i = ix2 x y := by
  funext d; match d with | ⟨0, _⟩ => exact Fin.ext hx | ⟨1, _⟩ => exact Fin.ext hy

/-- of three, -/
theorem idx3 {a b c : Nat} (i : (⟨3, ![a, b, c]⟩ : Shape).Idx) (x : Fin a) (y : Fin b) (z : Fin c) (hx : (i 0).val = x.val)
    (hy : (i 1).val = y.val) (hz : (i 2).val = z.val) : i = ix3 x y z := by
  funext d; match d with | ⟨0, _⟩ => exact Fin.ext hx | ⟨1, _⟩ => exact Fin.ext hy | ⟨2, _⟩ => exact Fin.ext hz

/-- of four. -/
theorem idx4 {a b c e : Nat} (i : (⟨4, ![a, b, c, e]⟩ : Shape).Idx) (x : Fin a) (y : Fin b) (z : Fin c) (w : Fin e)
    (hx : (i 0).val = x.val) (hy : (i 1).val = y.val) (hz : (i 2).val = z.val) (hw : (i 3).val = w.val) : i = ix4 x y z w := by
  funext d; match d with | ⟨0, _⟩ => exact Fin.ext hx | ⟨1, _⟩ => exact Fin.ext hy | ⟨2, _⟩ => exact Fin.ext hz | ⟨3, _⟩ => exact Fin.ext hw

/-- The coordinates of an index, by name. -/
theorem at0 {a b c : Nat} (x : Fin a) (y : Fin b) (z : Fin c) : ((ix3 x y z) 0).val = x.val := rfl
theorem at1 {a b c : Nat} (x : Fin a) (y : Fin b) (z : Fin c) : ((ix3 x y z) 1).val = y.val := rfl
theorem at2 {a b c : Nat} (x : Fin a) (y : Fin b) (z : Fin c) : ((ix3 x y z) 2).val = z.val := rfl
theorem at4_0 {a b c d : Nat} (x : Fin a) (y : Fin b) (z : Fin c) (w : Fin d) : ((ix4 x y z w) 0).val = x.val := rfl
theorem at4_1 {a b c d : Nat} (x : Fin a) (y : Fin b) (z : Fin c) (w : Fin d) : ((ix4 x y z w) 1).val = y.val := rfl
theorem at4_2 {a b c d : Nat} (x : Fin a) (y : Fin b) (z : Fin c) (w : Fin d) : ((ix4 x y z w) 2).val = z.val := rfl
theorem at4_3 {a b c d : Nat} (x : Fin a) (y : Fin b) (z : Fin c) (w : Fin d) : ((ix4 x y z w) 3).val = w.val := rfl

/-- A product of two arrays of heads, entry by entry. -/
theorem mul4 {p q r w : Nat} (y z : FVec Ideal (⟨4, ![p, q, r, w]⟩ : Shape) .f32) (b : Fin p) (n : Fin q) (j : Fin r) (k : Fin w) :
    mulf y z (ix4 b n j k) = (fun u v : EReal => u * v) (y (ix4 b n j k)) (z (ix4 b n j k)) := rfl

/-- A sum begun from the constant zero. -/
theorem zero_add' (s : EReal) : FloatOps.addf (F := Ideal) (φ := .f32) (FloatOps.ofBits .f32 0x00000000#32) s = s :=
  (congrArg (· + s) Ideal.ofBits_zero_f32).trans (zero_add s)

variable (x0 x1 : FVec Ideal S2x2048x2048 .f32) (x2 : FVec Ideal S2x2048x18480 .f32) (x3 : FVec Ideal S1x512 .f32)
  (x4 : FVec Ideal S1x128 .f32) (x5 : FVec Ideal S2x2048x2048 .f32)

/-- The columns of the projection that the merge reads: the wide branch's SiLU gate, -/
theorem cols_z0 (b : Fin 2) (n q : Fin 2048) (p : Fin 18480) (hp : p.val = 4096 + q.val) :
    val_main_v3 (F := Ideal) x2 (ix3 b n q) = x2 (ix3 b n p) := by
  pointwise [val_main_v3]
  exact congrArg x2 (congrArg (ix3 b n) (Fin.ext hp.symm))

/-- the narrow branch's, -/
theorem cols_z1 (b : Fin 2) (n q : Fin 2048) (p : Fin 18480) (hp : p.val = 12304 + q.val) :
    val_main_v6 (F := Ideal) x2 (ix3 b n q) = x2 (ix3 b n p) := by
  pointwise [val_main_v6]
  exact congrArg x2 (congrArg (ix3 b n) (Fin.ext hp.symm))

/-- the wide branch's sigmoid gate, -/
theorem cols_g0 (b : Fin 2) (n q : Fin 2048) (p : Fin 18480) (hp : p.val = 14384 + q.val) :
    val_main_v9 (F := Ideal) x2 (ix3 b n q) = x2 (ix3 b n p) := by
  pointwise [val_main_v9]
  exact congrArg x2 (congrArg (ix3 b n) (Fin.ext hp.symm))

/-- and the narrow branch's. -/
theorem cols_g1 (b : Fin 2) (n q : Fin 2048) (p : Fin 18480) (hp : p.val = 16432 + q.val) :
    val_main_v10 (F := Ideal) x2 (ix3 b n q) = x2 (ix3 b n p) := by
  pointwise [val_main_v10]
  exact congrArg x2 (congrArg (ix3 b n) (Fin.ext hp.symm))

/-! The wide heads. -/

/-- The branch, by heads; -/
theorem w_heads (b : Fin 2) (n : Fin 2048) (j : Fin 4) (k : Fin 512) :
    val_main_v11 (F := Ideal) x0 (ix4 b n j k) = x0 (ix3 b n (wcol j k)) := by
  rw [val_main_v11_apply]
  exact congrArg x0 (idx3 _ _ _ _ (by simp only [at0, at1, at2, at4_0, at4_1, at4_2, at4_3]; omega) (by simp only [at0, at1, at2, at4_0, at4_1, at4_2, at4_3]; omega) (by simp only [at0, at1, at2, at4_0, at4_1, at4_2, at4_3]; omega))

/-- a head's mean square, -/
theorem w_sq (b : Fin 2) (n : Fin 2048) (j : Fin 4) (i : MergeRefIdeal.S2x2048x4x1.Idx) (hi : idx_main_v15 i = ix3 b n j) :
    val_main_v19 (F := Ideal) x0 i = Merge.sq (Ideal.ofBits .f32 0x44000000#32) (fun l => val_main_v11 (F := Ideal) x0 (ix4 b n j l)) := by
  have e : ∀ k, idx_main_v14 (ix3 b n j) k = ix4 b n j k := fun k => by
    funext a; match a with | ⟨0, _⟩ => rfl | ⟨1, _⟩ => rfl | ⟨2, _⟩ => rfl | ⟨3, _⟩ => rfl
  rw [val_main_v19_apply, val_main_v17_apply, val_main_v15_apply, hi, val_main_v16_apply, val_main_v14_apply, val_main_v18_apply,
    val_main_cst_apply, val_main_cst_0_apply, val_main_cst_1_apply]
  have s : (∑ k : Fin 512, val_main_v13 (F := Ideal) x0 (idx_main_v14 (ix3 b n j) k))
      = ∑ k : Fin 512, val_main_v11 (F := Ideal) x0 (ix4 b n j k) * val_main_v11 (F := Ideal) x0 (ix4 b n j k) :=
    Finset.sum_congr rfl fun k _ => by
      rw [e k]
      exact mul4 (val_main_v11 (F := Ideal) x0) (val_main_v11 (F := Ideal) x0) b n j k
  rw [s]
  exact congrArg (fun u => Ideal.div u (Ideal.ofBits .f32 0x44000000#32) + Ideal.ofBits .f32 0x358637BD#32) (zero_add' _)

/-- the head normed, -/
theorem w_nrm (b : Fin 2) (n : Fin 2048) (j : Fin 4) (k : Fin 512) :
    val_main_v25 (F := Ideal) x0 (ix4 b n j k) = Merge.nrm (Ideal.ofBits .f32 0x44000000#32) (fun l => val_main_v11 (F := Ideal) x0 (ix4 b n j l)) k := by
  have s := w_sq x0 b n j (idx_main_v24 (ix4 b n j k)) (by funext a; match a with | ⟨0, _⟩ => rfl | ⟨1, _⟩ => rfl | ⟨2, _⟩ => rfl)
  rw [val_main_v25_apply, val_main_v24_apply, val_main_v20_apply, s]
  rfl

/-- its gain, -/
theorem w_gain (b : Fin 2) (n : Fin 2048) (j : Fin 4) (k : Fin 512) : val_main_v115 (F := Ideal) x3 (ix4 b n j k) = x3 (ix2 0 k) := by
  rw [val_main_v115_apply, val_main_v26_apply, val_main_v12_apply]
  exact congrArg x3 (idx2 _ _ _ rfl (Nat.mod_eq_of_lt k.isLt))

theorem w_gain' (b : Fin 2) (n : Fin 2048) (j : Fin 4) (k : Fin 512) : val_main_v27 (F := Ideal) x3 (ix4 b n j k) = x3 (ix2 0 k) := by
  rw [val_main_v27_apply, val_main_v26_apply, val_main_v12_apply]
  exact congrArg x3 (idx2 _ _ _ rfl (Nat.mod_eq_of_lt k.isLt))

/-- the normed head scaled, in its lanes, -/
theorem w_scaled (b : Fin 2) (n : Fin 2048) (j : Fin 4) (k : Fin 512) :
    val_main_v29 (F := Ideal) x0 x3 (ix3 b n (wcol j k)) = Merge.nrm (Ideal.ofBits .f32 0x44000000#32) (fun l => val_main_v11 (F := Ideal) x0 (ix4 b n j l)) k * x3 (ix2 0 k) := by
  have e : idx_main_v29 (ix3 b n (wcol j k)) = ix4 b n j k :=
    idx4 _ _ _ _ _ (by simp only [at0, at1, at2, at4_0, at4_1, at4_2, at4_3]; omega) (by simp only [at0, at1, at2, at4_0, at4_1, at4_2, at4_3]; omega) (by simp only [at0, at1, at2, at4_0, at4_1, at4_2, at4_3]; omega) (by simp only [at0, at1, at2, at4_0, at4_1, at4_2, at4_3]; omega)
  rw [val_main_v29_apply, e, val_main_v28_apply, w_nrm, w_gain']
  rfl

/-- the cotangent under the sigmoid, -/
theorem w_ct (b : Fin 2) (n q : Fin 2048) :
    val_main_v79 (F := Ideal) x2 x5 (ix3 b n q) = Ideal.logistic (val_main_v9 (F := Ideal) x2 (ix3 b n q)) * x5 (ix3 b n q) := by
  pointwise [val_main_v79, val_main_v74, val_main_v58, val_main_v57, val_main_cst_8, val_main_v56, val_main_v55, val_main_cst_7, val_main_v54, val_main_v53]
  rfl

/-- the gate's SiLU, -/
theorem w_sil (b : Fin 2) (n q : Fin 2048) :
    val_main_v30_0 (F := Ideal) x2 (ix3 b n q) = Merge.sil (val_main_v3 (F := Ideal) x2 (ix3 b n q)) := by
  pointwise [val_main_v30_0, val_main_v30_2, val_main_call0_v4, val_main_call0_cst_0, val_main_call0_v3, val_main_call0_v2, val_main_call0_cst, val_main_call0_v1, val_main_call0_v0]
  rfl

/-- what comes back to the scaled head, by lanes -/
theorem w_through (b : Fin 2) (n q : Fin 2048) :
    val_main_v109 (F := Ideal) x2 x5 (ix3 b n q) = Ideal.logistic (val_main_v9 (F := Ideal) x2 (ix3 b n q)) * x5 (ix3 b n q) * Merge.sil (val_main_v3 (F := Ideal) x2 (ix3 b n q)) := by
  rw [val_main_v109_apply, w_ct, w_sil]
  rfl

/-- and by heads, -/
theorem w_through_heads (b : Fin 2) (n : Fin 2048) (j : Fin 4) (k : Fin 512) :
    val_main_v111 (F := Ideal) x2 x5 (ix4 b n j k) = val_main_v109 (F := Ideal) x2 x5 (ix3 b n (wcol j k)) := by
  rw [val_main_v111_apply]
  exact congrArg (val_main_v109 (F := Ideal) x2 x5) (idx3 _ _ _ _ (by simp only [at0, at1, at2, at4_0, at4_1, at4_2, at4_3]; omega) (by simp only [at0, at1, at2, at4_0, at4_1, at4_2, at4_3]; omega) (by simp only [at0, at1, at2, at4_0, at4_1, at4_2, at4_3]; omega))

/-- the cotangent of the normed head, -/
theorem w_cn (b : Fin 2) (n : Fin 2048) (j : Fin 4) (k : Fin 512) :
    val_main_v116 (F := Ideal) x2 x3 x5 (ix4 b n j k) = Merge.cn (fun l => val_main_v9 (F := Ideal) x2 (ix3 b n (wcol j l))) (fun l => val_main_v3 (F := Ideal) x2 (ix3 b n (wcol j l)))
      (fun l => x5 (ix3 b n (wcol j l))) (fun l => x3 (ix2 0 l)) k := by
  rw [val_main_v116_apply, w_through_heads, w_through, w_gain]
  rfl

/-- what comes back through the mean of the squares, -/
theorem w_back (b : Fin 2) (n : Fin 2048) (j : Fin 4) :
    val_main_v126 (F := Ideal) x0 x2 x3 x5 (ix3 b n j) = Merge.back (Ideal.ofBits .f32 0x44000000#32) (fun l => val_main_v11 (F := Ideal) x0 (ix4 b n j l))
      (fun l => val_main_v9 (F := Ideal) x2 (ix3 b n (wcol j l))) (fun l => val_main_v3 (F := Ideal) x2 (ix3 b n (wcol j l)))
      (fun l => x5 (ix3 b n (wcol j l))) (fun l => x3 (ix2 0 l)) := by
  have e : ∀ k, idx_main_v119 (ix3 b n j) k = ix4 b n j k := fun k => by
    funext a; match a with | ⟨0, _⟩ => rfl | ⟨1, _⟩ => rfl | ⟨2, _⟩ => rfl | ⟨3, _⟩ => rfl
  have e' : idx_main_v120 (idx_main_v126 (ix3 b n j) 0) = ix3 b n j :=
    idx3 _ _ _ _ (by simp only [at0, at1, at2, at4_0, at4_1, at4_2, at4_3]; omega) (by simp only [at0, at1, at2, at4_0, at4_1, at4_2, at4_3]; omega) (by simp only [at0, at1, at2, at4_0, at4_1, at4_2, at4_3]; omega)
  have s := w_sq x0 b n j (idx_main_v126 (ix3 b n j) 0) (by funext a; match a with | ⟨0, _⟩ => rfl | ⟨1, _⟩ => rfl | ⟨2, _⟩ => rfl)
  rw [val_main_v126_apply, Fin.sum_univ_one, val_main_v125_apply, val_main_v123_apply, val_main_v120_apply, e', val_main_v119_apply,
    val_main_v23_apply, val_main_v22_apply, val_main_v21_apply, val_main_v20_apply, s, val_main_cst_2_apply, val_main_v124_apply,
    val_main_cst_21_apply, val_main_cst_20_apply, val_main_cst_22_apply]
  have s' : (∑ k : Fin 512, val_main_v118 (F := Ideal) x0 x2 x3 x5 (idx_main_v119 (ix3 b n j) k))
      = ∑ k : Fin 512, val_main_v11 (F := Ideal) x0 (ix4 b n j k) * val_main_v116 (F := Ideal) x2 x3 x5 (ix4 b n j k) :=
    Finset.sum_congr rfl fun k _ => by
      rw [e k]
      exact mul4 (val_main_v11 (F := Ideal) x0) (val_main_v116 (F := Ideal) x2 x3 x5) b n j k
  rw [s']
  simp only [w_cn]
  exact (zero_add' _).trans (congrArg (Merge.backOf (Ideal.ofBits .f32 0x44000000#32) fun l => val_main_v11 (F := Ideal) x0 (ix4 b n j l)) (zero_add' _))

/-- the gradient of the branch, by heads -/
theorem w_dx (b : Fin 2) (n : Fin 2048) (j : Fin 4) (k : Fin 512) :
    val_main_v131 (F := Ideal) x0 x2 x3 x5 (ix4 b n j k) = Merge.dx (Ideal.ofBits .f32 0x44000000#32) (fun l => val_main_v11 (F := Ideal) x0 (ix4 b n j l))
      (fun l => val_main_v9 (F := Ideal) x2 (ix3 b n (wcol j l))) (fun l => val_main_v3 (F := Ideal) x2 (ix3 b n (wcol j l)))
      (fun l => x5 (ix3 b n (wcol j l))) (fun l => x3 (ix2 0 l)) k := by
  have e : idx_main_v127 (ix4 b n j k) = ix3 b n j := by
    funext a; match a with | ⟨0, _⟩ => rfl | ⟨1, _⟩ => rfl | ⟨2, _⟩ => rfl
  have s := w_sq x0 b n j (idx_main_v121 (ix4 b n j k)) (by funext a; match a with | ⟨0, _⟩ => rfl | ⟨1, _⟩ => rfl | ⟨2, _⟩ => rfl)
  rw [val_main_v131_apply, val_main_v130_apply, val_main_v129_apply, val_main_v128_apply, val_main_v127_apply, e, w_back,
    val_main_v122_apply, val_main_v121_apply, val_main_v20_apply, s, w_cn]
  rfl

/-- and by tokens; -/
theorem w_dx_tok (i : S4096x2048.Idx) (b : Fin 2) (n : Fin 2048) (j : Fin 4) (k : Fin 512)
    (h : (i 0).val = b.val * 2048 + n.val) (hq : i 1 = wcol j k) :
    val_main_v134 (F := Ideal) x0 x2 x3 x5 i = Merge.dx (Ideal.ofBits .f32 0x44000000#32) (fun l => x0 (ix3 b n (wcol j l)))
      (fun l => val_main_v9 (F := Ideal) x2 (ix3 b n (wcol j l))) (fun l => val_main_v3 (F := Ideal) x2 (ix3 b n (wcol j l)))
      (fun l => x5 (ix3 b n (wcol j l))) (fun l => x3 (ix2 0 l)) k := by
  have e : idx_main_v133 (ix3 b n (wcol j k)) = ix4 b n j k :=
    idx4 _ _ _ _ _ (by simp only [at0, at1, at2, at4_0, at4_1, at4_2, at4_3]; omega) (by simp only [at0, at1, at2, at4_0, at4_1, at4_2, at4_3]; omega) (by simp only [at0, at1, at2, at4_0, at4_1, at4_2, at4_3]; omega) (by simp only [at0, at1, at2, at4_0, at4_1, at4_2, at4_3]; omega)
  refine (Rows.tok_apply (val_main_v133 (F := Ideal) x0 x2 x3 x5) _ i b n h).trans ?_
  rw [hq, val_main_v133_apply, e, w_dx]
  simp only [w_heads]

/-- the gradient of the SiLU gate, -/
theorem w_dz_tok (i : S4096x2048.Idx) (b : Fin 2) (n : Fin 2048) (j : Fin 4) (k : Fin 512)
    (h : (i 0).val = b.val * 2048 + n.val) (hq : i 1 = wcol j k) :
    val_main_v136 (F := Ideal) x0 x2 x3 x5 i = Merge.dz (Ideal.ofBits .f32 0x44000000#32) (fun l => x0 (ix3 b n (wcol j l)))
      (fun l => val_main_v9 (F := Ideal) x2 (ix3 b n (wcol j l))) (fun l => val_main_v3 (F := Ideal) x2 (ix3 b n (wcol j l)))
      (fun l => x5 (ix3 b n (wcol j l))) (fun l => x3 (ix2 0 l)) k := by
  refine (Rows.tok_apply (val_main_v110 (F := Ideal) x0 x2 x3 x5) _ i b n h).trans ?_
  have s : val_main_v108 (F := Ideal) x0 x2 x3 x5 (ix3 b n (wcol j k)) = Merge.nrm (Ideal.ofBits .f32 0x44000000#32) (fun l => x0 (ix3 b n (wcol j l))) k
      * x3 (ix2 0 k) * (Ideal.logistic (val_main_v9 (F := Ideal) x2 (ix3 b n (wcol j k))) * x5 (ix3 b n (wcol j k))) := by
    rw [val_main_v108_apply, w_scaled, w_ct]
    simp only [w_heads]
    rfl
  rw [hq]
  pointwise [val_main_v110, val_main_call3_v2, val_main_call3_v1, val_main_call3_v0, val_main_v30_1, val_main_v30_2, val_main_call0_v7,
    val_main_call0_v6, val_main_call0_cst_1, val_main_call0_v4, val_main_call0_cst_0, val_main_call0_v3, val_main_call0_v2, val_main_call0_cst, val_main_call0_v1, val_main_call0_v0]
  rw [s]
  rfl

/-- of the sigmoid gate, -/
theorem w_dg_tok (i : S4096x2048.Idx) (b : Fin 2) (n : Fin 2048) (j : Fin 4) (k : Fin 512)
    (h : (i 0).val = b.val * 2048 + n.val) (hq : i 1 = wcol j k) :
    val_main_v141 (F := Ideal) x0 x2 x3 x5 i = Merge.dg (Ideal.ofBits .f32 0x44000000#32) (fun l => x0 (ix3 b n (wcol j l)))
      (fun l => val_main_v9 (F := Ideal) x2 (ix3 b n (wcol j l))) (fun l => val_main_v3 (F := Ideal) x2 (ix3 b n (wcol j l)))
      (fun l => x5 (ix3 b n (wcol j l))) (fun l => x3 (ix2 0 l)) k := by
  refine (Rows.tok_apply (val_main_v81 (F := Ideal) x0 x2 x3 x5) _ i b n h).trans ?_
  have s : val_main_v31 (F := Ideal) x0 x2 x3 (ix3 b n (wcol j k)) = Merge.nrm (Ideal.ofBits .f32 0x44000000#32) (fun l => x0 (ix3 b n (wcol j l))) k
      * x3 (ix2 0 k) * Merge.sil (val_main_v3 (F := Ideal) x2 (ix3 b n (wcol j k))) := by
    rw [val_main_v31_apply, w_scaled, w_sil]
    simp only [w_heads]
    rfl
  rw [hq]
  pointwise [val_main_v81, val_main_v80, val_main_v74, val_main_v61, val_main_v60, val_main_v59, val_main_cst_9, val_main_v58, val_main_v57, val_main_cst_8, val_main_v56, val_main_v55, val_main_cst_7, val_main_v54, val_main_v53]
  rw [s]
  rfl

/-- and of the gain. -/
theorem w_dn (q : Fin 512) :
    val_main_v132 (F := Ideal) x0 x2 x5 (ix2 0 q) = ∑ b : Fin 2, ∑ n : Fin 2048, ∑ j : Fin 4, Merge.dn (Ideal.ofBits .f32 0x44000000#32)
      (fun l => x0 (ix3 b n (wcol j l))) (fun l => val_main_v9 (F := Ideal) x2 (ix3 b n (wcol j l))) (fun l => val_main_v3 (F := Ideal) x2 (ix3 b n (wcol j l)))
      (fun l => x5 (ix3 b n (wcol j l))) q := by
  have e : idx_main_v132 (ix2 0 q) = ix1 q := by funext a; match a with | ⟨0, _⟩ => rfl
  have r : idx_main_v114 (ix4 0 0 0 q) = ix1 q :=
    funext fun a => match a with | ⟨0, _⟩ => Fin.ext (by show ((0 * 1 + 0) * 1 + 0) * 512 + q.val = q.val; omega)
  rw [val_main_v132_apply, e]
  refine (Sums.hostReduceAdd_lead3 _ _ _ _).trans ((zero_add' _).trans ?_)
  rw [Fin.sum_univ_one, Fin.sum_univ_one, Fin.sum_univ_one]
  refine (val_main_v114_apply (F := Ideal) x0 x2 x5 _).trans ((congrArg _ r).trans ?_)
  refine (Sums.hostReduceAdd_lead3 _ _ _ _).trans ((zero_add' _).trans ?_)
  refine Finset.sum_congr rfl fun b _ => Finset.sum_congr rfl fun n _ => Finset.sum_congr rfl fun j _ => ?_
  refine (val_main_v112_apply (F := Ideal) x0 x2 x5 _).trans ?_
  show (fun u v : EReal => u * v) (val_main_v25 (F := Ideal) x0 (ix4 b n j q)) (val_main_v111 (F := Ideal) x2 x5 (ix4 b n j q)) = _
  rw [w_nrm, w_through_heads, w_through]
  simp only [w_heads]
  rfl

/-! The narrow heads. -/

/-- The branch, by heads; -/
theorem n_heads (b : Fin 2) (n : Fin 2048) (j : Fin 16) (k : Fin 128) :
    val_main_v32 (F := Ideal) x1 (ix4 b n j k) = x1 (ix3 b n (Conv.col j k)) := by
  rw [val_main_v32_apply]
  exact congrArg x1 (idx3 _ _ _ _ (by simp only [at0, at1, at2, at4_0, at4_1, at4_2, at4_3]; omega) (by simp only [at0, at1, at2, at4_0, at4_1, at4_2, at4_3]; omega) (by simp only [at0, at1, at2, at4_0, at4_1, at4_2, at4_3]; omega))

/-- a head's mean square, -/
theorem n_sq (b : Fin 2) (n : Fin 2048) (j : Fin 16) (i : MergeRefIdeal.S2x2048x16x1.Idx) (hi : idx_main_v36 i = ix3 b n j) :
    val_main_v40 (F := Ideal) x1 i = Merge.sq (Ideal.ofBits .f32 0x43000000#32) (fun l => val_main_v32 (F := Ideal) x1 (ix4 b n j l)) := by
  have e : ∀ k, idx_main_v35 (ix3 b n j) k = ix4 b n j k := fun k => by
    funext a; match a with | ⟨0, _⟩ => rfl | ⟨1, _⟩ => rfl | ⟨2, _⟩ => rfl | ⟨3, _⟩ => rfl
  rw [val_main_v40_apply, val_main_v38_apply, val_main_v36_apply, hi, val_main_v37_apply, val_main_v35_apply, val_main_v39_apply,
    val_main_cst_3_apply, val_main_cst_4_apply, val_main_cst_5_apply]
  have s : (∑ k : Fin 128, val_main_v34 (F := Ideal) x1 (idx_main_v35 (ix3 b n j) k))
      = ∑ k : Fin 128, val_main_v32 (F := Ideal) x1 (ix4 b n j k) * val_main_v32 (F := Ideal) x1 (ix4 b n j k) :=
    Finset.sum_congr rfl fun k _ => by
      rw [e k]
      exact mul4 (val_main_v32 (F := Ideal) x1) (val_main_v32 (F := Ideal) x1) b n j k
  rw [s]
  exact congrArg (fun u => Ideal.div u (Ideal.ofBits .f32 0x43000000#32) + Ideal.ofBits .f32 0x358637BD#32) (zero_add' _)

/-- the head normed, -/
theorem n_nrm (b : Fin 2) (n : Fin 2048) (j : Fin 16) (k : Fin 128) :
    val_main_v46 (F := Ideal) x1 (ix4 b n j k) = Merge.nrm (Ideal.ofBits .f32 0x43000000#32) (fun l => val_main_v32 (F := Ideal) x1 (ix4 b n j l)) k := by
  have s := n_sq x1 b n j (idx_main_v45 (ix4 b n j k)) (by funext a; match a with | ⟨0, _⟩ => rfl | ⟨1, _⟩ => rfl | ⟨2, _⟩ => rfl)
  rw [val_main_v46_apply, val_main_v45_apply, val_main_v41_apply, s]
  rfl

/-- its gain, -/
theorem n_gain (b : Fin 2) (n : Fin 2048) (j : Fin 16) (k : Fin 128) : val_main_v89 (F := Ideal) x4 (ix4 b n j k) = x4 (ix2 0 k) := by
  rw [val_main_v89_apply, val_main_v47_apply, val_main_v33_apply]
  exact congrArg x4 (idx2 _ _ _ rfl (Nat.mod_eq_of_lt k.isLt))

theorem n_gain' (b : Fin 2) (n : Fin 2048) (j : Fin 16) (k : Fin 128) : val_main_v48 (F := Ideal) x4 (ix4 b n j k) = x4 (ix2 0 k) := by
  rw [val_main_v48_apply, val_main_v47_apply, val_main_v33_apply]
  exact congrArg x4 (idx2 _ _ _ rfl (Nat.mod_eq_of_lt k.isLt))

/-- the normed head scaled, in its lanes, -/
theorem n_scaled (b : Fin 2) (n : Fin 2048) (j : Fin 16) (k : Fin 128) :
    val_main_v50 (F := Ideal) x1 x4 (ix3 b n (Conv.col j k)) = Merge.nrm (Ideal.ofBits .f32 0x43000000#32) (fun l => val_main_v32 (F := Ideal) x1 (ix4 b n j l)) k * x4 (ix2 0 k) := by
  have e : idx_main_v50 (ix3 b n (Conv.col j k)) = ix4 b n j k :=
    idx4 _ _ _ _ _ (by simp only [at0, at1, at2, at4_0, at4_1, at4_2, at4_3]; omega) (by simp only [at0, at1, at2, at4_0, at4_1, at4_2, at4_3]; omega) (by simp only [at0, at1, at2, at4_0, at4_1, at4_2, at4_3]; omega) (by simp only [at0, at1, at2, at4_0, at4_1, at4_2, at4_3]; omega)
  rw [val_main_v50_apply, e, val_main_v49_apply, n_nrm, n_gain']
  rfl

/-- the cotangent under the sigmoid, -/
theorem n_ct (b : Fin 2) (n q : Fin 2048) :
    val_main_v76 (F := Ideal) x2 x5 (ix3 b n q) = Ideal.logistic (val_main_v10 (F := Ideal) x2 (ix3 b n q)) * x5 (ix3 b n q) := by
  pointwise [val_main_v76, val_main_v75, val_main_v68, val_main_v67, val_main_cst_11, val_main_v66, val_main_v65, val_main_cst_10, val_main_v64, val_main_v63]
  rfl

/-- the gate's SiLU, -/
theorem n_sil (b : Fin 2) (n q : Fin 2048) :
    val_main_v51_0 (F := Ideal) x2 (ix3 b n q) = Merge.sil (val_main_v6 (F := Ideal) x2 (ix3 b n q)) := by
  pointwise [val_main_v51_0, val_main_v51_2, val_main_call1_v4, val_main_call1_cst_0, val_main_call1_v3, val_main_call1_v2, val_main_call1_cst, val_main_call1_v1, val_main_call1_v0]
  rfl

/-- what comes back to the scaled head, by lanes -/
theorem n_through (b : Fin 2) (n q : Fin 2048) :
    val_main_v83 (F := Ideal) x2 x5 (ix3 b n q) = Ideal.logistic (val_main_v10 (F := Ideal) x2 (ix3 b n q)) * x5 (ix3 b n q) * Merge.sil (val_main_v6 (F := Ideal) x2 (ix3 b n q)) := by
  rw [val_main_v83_apply, n_ct, n_sil]
  rfl

/-- and by heads, -/
theorem n_through_heads (b : Fin 2) (n : Fin 2048) (j : Fin 16) (k : Fin 128) :
    val_main_v85 (F := Ideal) x2 x5 (ix4 b n j k) = val_main_v83 (F := Ideal) x2 x5 (ix3 b n (Conv.col j k)) := by
  rw [val_main_v85_apply]
  exact congrArg (val_main_v83 (F := Ideal) x2 x5) (idx3 _ _ _ _ (by simp only [at0, at1, at2, at4_0, at4_1, at4_2, at4_3]; omega) (by simp only [at0, at1, at2, at4_0, at4_1, at4_2, at4_3]; omega) (by simp only [at0, at1, at2, at4_0, at4_1, at4_2, at4_3]; omega))

/-- the cotangent of the normed head, -/
theorem n_cn (b : Fin 2) (n : Fin 2048) (j : Fin 16) (k : Fin 128) :
    val_main_v90 (F := Ideal) x2 x4 x5 (ix4 b n j k) = Merge.cn (fun l => val_main_v10 (F := Ideal) x2 (ix3 b n (Conv.col j l))) (fun l => val_main_v6 (F := Ideal) x2 (ix3 b n (Conv.col j l)))
      (fun l => x5 (ix3 b n (Conv.col j l))) (fun l => x4 (ix2 0 l)) k := by
  rw [val_main_v90_apply, n_through_heads, n_through, n_gain]
  rfl

/-- what comes back through the mean of the squares, -/
theorem n_back (b : Fin 2) (n : Fin 2048) (j : Fin 16) :
    val_main_v100 (F := Ideal) x1 x2 x4 x5 (ix3 b n j) = Merge.back (Ideal.ofBits .f32 0x43000000#32) (fun l => val_main_v32 (F := Ideal) x1 (ix4 b n j l))
      (fun l => val_main_v10 (F := Ideal) x2 (ix3 b n (Conv.col j l))) (fun l => val_main_v6 (F := Ideal) x2 (ix3 b n (Conv.col j l)))
      (fun l => x5 (ix3 b n (Conv.col j l))) (fun l => x4 (ix2 0 l)) := by
  have e : ∀ k, idx_main_v93 (ix3 b n j) k = ix4 b n j k := fun k => by
    funext a; match a with | ⟨0, _⟩ => rfl | ⟨1, _⟩ => rfl | ⟨2, _⟩ => rfl | ⟨3, _⟩ => rfl
  have e' : idx_main_v94 (idx_main_v100 (ix3 b n j) 0) = ix3 b n j :=
    idx3 _ _ _ _ (by simp only [at0, at1, at2, at4_0, at4_1, at4_2, at4_3]; omega) (by simp only [at0, at1, at2, at4_0, at4_1, at4_2, at4_3]; omega) (by simp only [at0, at1, at2, at4_0, at4_1, at4_2, at4_3]; omega)
  have s := n_sq x1 b n j (idx_main_v100 (ix3 b n j) 0) (by funext a; match a with | ⟨0, _⟩ => rfl | ⟨1, _⟩ => rfl | ⟨2, _⟩ => rfl)
  rw [val_main_v100_apply, Fin.sum_univ_one, val_main_v99_apply, val_main_v97_apply, val_main_v94_apply, e', val_main_v93_apply,
    val_main_v44_apply, val_main_v43_apply, val_main_v42_apply, val_main_v41_apply, s, val_main_cst_6_apply, val_main_v98_apply,
    val_main_cst_16_apply, val_main_cst_15_apply, val_main_cst_17_apply]
  have s' : (∑ k : Fin 128, val_main_v92 (F := Ideal) x1 x2 x4 x5 (idx_main_v93 (ix3 b n j) k))
      = ∑ k : Fin 128, val_main_v32 (F := Ideal) x1 (ix4 b n j k) * val_main_v90 (F := Ideal) x2 x4 x5 (ix4 b n j k) :=
    Finset.sum_congr rfl fun k _ => by
      rw [e k]
      exact mul4 (val_main_v32 (F := Ideal) x1) (val_main_v90 (F := Ideal) x2 x4 x5) b n j k
  rw [s']
  simp only [n_cn]
  exact (zero_add' _).trans (congrArg (Merge.backOf (Ideal.ofBits .f32 0x43000000#32) fun l => val_main_v32 (F := Ideal) x1 (ix4 b n j l)) (zero_add' _))

/-- the gradient of the branch, by heads -/
theorem n_dx (b : Fin 2) (n : Fin 2048) (j : Fin 16) (k : Fin 128) :
    val_main_v105 (F := Ideal) x1 x2 x4 x5 (ix4 b n j k) = Merge.dx (Ideal.ofBits .f32 0x43000000#32) (fun l => val_main_v32 (F := Ideal) x1 (ix4 b n j l))
      (fun l => val_main_v10 (F := Ideal) x2 (ix3 b n (Conv.col j l))) (fun l => val_main_v6 (F := Ideal) x2 (ix3 b n (Conv.col j l)))
      (fun l => x5 (ix3 b n (Conv.col j l))) (fun l => x4 (ix2 0 l)) k := by
  have e : idx_main_v101 (ix4 b n j k) = ix3 b n j := by
    funext a; match a with | ⟨0, _⟩ => rfl | ⟨1, _⟩ => rfl | ⟨2, _⟩ => rfl
  have s := n_sq x1 b n j (idx_main_v95 (ix4 b n j k)) (by funext a; match a with | ⟨0, _⟩ => rfl | ⟨1, _⟩ => rfl | ⟨2, _⟩ => rfl)
  rw [val_main_v105_apply, val_main_v104_apply, val_main_v103_apply, val_main_v102_apply, val_main_v101_apply, e, n_back,
    val_main_v96_apply, val_main_v95_apply, val_main_v41_apply, s, n_cn]
  rfl

/-- and by tokens; -/
theorem n_dx_tok (i : S4096x2048.Idx) (b : Fin 2) (n : Fin 2048) (j : Fin 16) (k : Fin 128)
    (h : (i 0).val = b.val * 2048 + n.val) (hq : i 1 = Conv.col j k) :
    val_main_v137 (F := Ideal) x1 x2 x4 x5 i = Merge.dx (Ideal.ofBits .f32 0x43000000#32) (fun l => x1 (ix3 b n (Conv.col j l)))
      (fun l => val_main_v10 (F := Ideal) x2 (ix3 b n (Conv.col j l))) (fun l => val_main_v6 (F := Ideal) x2 (ix3 b n (Conv.col j l)))
      (fun l => x5 (ix3 b n (Conv.col j l))) (fun l => x4 (ix2 0 l)) k := by
  have e : idx_main_v107 (ix3 b n (Conv.col j k)) = ix4 b n j k :=
    idx4 _ _ _ _ _ (by simp only [at0, at1, at2, at4_0, at4_1, at4_2, at4_3]; omega) (by simp only [at0, at1, at2, at4_0, at4_1, at4_2, at4_3]; omega) (by simp only [at0, at1, at2, at4_0, at4_1, at4_2, at4_3]; omega) (by simp only [at0, at1, at2, at4_0, at4_1, at4_2, at4_3]; omega)
  refine (Rows.tok_apply (val_main_v107 (F := Ideal) x1 x2 x4 x5) _ i b n h).trans ?_
  rw [hq, val_main_v107_apply, e, n_dx]
  simp only [n_heads]

/-- the gradient of the SiLU gate, -/
theorem n_dz_tok (i : S4096x2048.Idx) (b : Fin 2) (n : Fin 2048) (j : Fin 16) (k : Fin 128)
    (h : (i 0).val = b.val * 2048 + n.val) (hq : i 1 = Conv.col j k) :
    val_main_v139 (F := Ideal) x1 x2 x4 x5 i = Merge.dz (Ideal.ofBits .f32 0x43000000#32) (fun l => x1 (ix3 b n (Conv.col j l)))
      (fun l => val_main_v10 (F := Ideal) x2 (ix3 b n (Conv.col j l))) (fun l => val_main_v6 (F := Ideal) x2 (ix3 b n (Conv.col j l)))
      (fun l => x5 (ix3 b n (Conv.col j l))) (fun l => x4 (ix2 0 l)) k := by
  refine (Rows.tok_apply (val_main_v84 (F := Ideal) x1 x2 x4 x5) _ i b n h).trans ?_
  have s : val_main_v82 (F := Ideal) x1 x2 x4 x5 (ix3 b n (Conv.col j k)) = Merge.nrm (Ideal.ofBits .f32 0x43000000#32) (fun l => x1 (ix3 b n (Conv.col j l))) k
      * x4 (ix2 0 k) * (Ideal.logistic (val_main_v10 (F := Ideal) x2 (ix3 b n (Conv.col j k))) * x5 (ix3 b n (Conv.col j k))) := by
    rw [val_main_v82_apply, n_scaled, n_ct]
    simp only [n_heads]
    rfl
  rw [hq]
  pointwise [val_main_v84, val_main_call2_v2, val_main_call2_v1, val_main_call2_v0, val_main_v51_1, val_main_v51_2, val_main_call1_v7,
    val_main_call1_v6, val_main_call1_cst_1, val_main_call1_v4, val_main_call1_cst_0, val_main_call1_v3, val_main_call1_v2, val_main_call1_cst, val_main_call1_v1, val_main_call1_v0]
  rw [s]
  rfl

/-- of the sigmoid gate, -/
theorem n_dg_tok (i : S4096x2048.Idx) (b : Fin 2) (n : Fin 2048) (j : Fin 16) (k : Fin 128)
    (h : (i 0).val = b.val * 2048 + n.val) (hq : i 1 = Conv.col j k) :
    val_main_v143 (F := Ideal) x1 x2 x4 x5 i = Merge.dg (Ideal.ofBits .f32 0x43000000#32) (fun l => x1 (ix3 b n (Conv.col j l)))
      (fun l => val_main_v10 (F := Ideal) x2 (ix3 b n (Conv.col j l))) (fun l => val_main_v6 (F := Ideal) x2 (ix3 b n (Conv.col j l)))
      (fun l => x5 (ix3 b n (Conv.col j l))) (fun l => x4 (ix2 0 l)) k := by
  refine (Rows.tok_apply (val_main_v78 (F := Ideal) x1 x2 x4 x5) _ i b n h).trans ?_
  have s : val_main_v52 (F := Ideal) x1 x2 x4 (ix3 b n (Conv.col j k)) = Merge.nrm (Ideal.ofBits .f32 0x43000000#32) (fun l => x1 (ix3 b n (Conv.col j l))) k
      * x4 (ix2 0 k) * Merge.sil (val_main_v6 (F := Ideal) x2 (ix3 b n (Conv.col j k))) := by
    rw [val_main_v52_apply, n_scaled, n_sil]
    simp only [n_heads]
    rfl
  rw [hq]
  pointwise [val_main_v78, val_main_v77, val_main_v75, val_main_v71, val_main_v70, val_main_v69, val_main_cst_12, val_main_v68, val_main_v67, val_main_cst_11, val_main_v66, val_main_v65, val_main_cst_10, val_main_v64, val_main_v63]
  rw [s]
  rfl

/-- and of the gain. -/
theorem n_dn (q : Fin 128) :
    val_main_v106 (F := Ideal) x1 x2 x5 (ix2 0 q) = ∑ b : Fin 2, ∑ n : Fin 2048, ∑ j : Fin 16, Merge.dn (Ideal.ofBits .f32 0x43000000#32)
      (fun l => x1 (ix3 b n (Conv.col j l))) (fun l => val_main_v10 (F := Ideal) x2 (ix3 b n (Conv.col j l))) (fun l => val_main_v6 (F := Ideal) x2 (ix3 b n (Conv.col j l)))
      (fun l => x5 (ix3 b n (Conv.col j l))) q := by
  have e : idx_main_v106 (ix2 0 q) = ix1 q := by funext a; match a with | ⟨0, _⟩ => rfl
  have r : idx_main_v88 (ix4 0 0 0 q) = ix1 q :=
    funext fun a => match a with | ⟨0, _⟩ => Fin.ext (by show ((0 * 1 + 0) * 1 + 0) * 128 + q.val = q.val; omega)
  rw [val_main_v106_apply, e]
  refine (Sums.hostReduceAdd_lead3 _ _ _ _).trans ((zero_add' _).trans ?_)
  rw [Fin.sum_univ_one, Fin.sum_univ_one, Fin.sum_univ_one]
  refine (val_main_v88_apply (F := Ideal) x1 x2 x5 _).trans ((congrArg _ r).trans ?_)
  refine (Sums.hostReduceAdd_lead3 _ _ _ _).trans ((zero_add' _).trans ?_)
  refine Finset.sum_congr rfl fun b _ => Finset.sum_congr rfl fun n _ => Finset.sum_congr rfl fun j _ => ?_
  refine (val_main_v86_apply (F := Ideal) x1 x2 x5 _).trans ?_
  show (fun u v : EReal => u * v) (val_main_v46 (F := Ideal) x1 (ix4 b n j q)) (val_main_v85 (F := Ideal) x2 x5 (ix4 b n j q)) = _
  rw [n_nrm, n_through_heads, n_through]
  simp only [n_heads]
  rfl

end Cert.MergeRef

end
-- ==== Proof.MergeValue.lean ====
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import proofs.«01_k».proof.Proof.BigCols
public import proofs.«01_k».proof.Proof.MergeMath
public import proofs.«01_k».proof.Proof.MergeStore
public import proofs.«01_k».proof.Proof.MergeGain
public import proofs.«01_k».proof.Proof.MergeRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.RefValue

open Cert Cert.MergeIdeal Cert.MergeIdeal.Gen Cert.MergeRefIdeal.Read

variable (m : (ℓ : Loc nD τ sig) → Buf (Elt Ideal) ℓ)

abbrev OG (c : Dev nD) : FVec Ideal S2x2048x2048 .f32 := m ((c : Thread nD τ).loc main_arg0)
abbrev OD (c : Dev nD) : FVec Ideal S2x2048x2048 .f32 := m ((c : Thread nD τ).loc main_arg1)
abbrev Z (c : Dev nD) : FVec Ideal S2x2048x18480 .f32 := m ((c : Thread nD τ).loc main_arg2)
abbrev GN (c : Dev nD) : FVec Ideal S1x512 .f32 := m ((c : Thread nD τ).loc main_arg3)
abbrev DN (c : Dev nD) : FVec Ideal S1x128 .f32 := m ((c : Thread nD τ).loc main_arg4)
abbrev DM (c : Dev nD) : FVec Ideal S2x2048x2048 .f32 := m ((c : Thread nD τ).loc main_arg5)

/-- The windows' block indices at every grid point: a block of tokens and a block of lanes. -/
theorem idx : ∀ t : Fin cfg0.N, win0_0.index t = ![t.val / 4, t.val % 4] ∧ win0_1.index t = ![t.val / 4, 8 + t.val % 4] ∧ win0_2.index t = ![t.val / 4, t.val % 4] ∧ win0_3.index t = ![t.val / 4, 24 + t.val % 4] ∧ win0_4.index t = ![t.val / 4, 28 + t.val % 4] ∧ win0_5.index t = ![t.val / 4, 32 + t.val % 4] ∧ win0_6.index t = ![0, 0] ∧ win0_7.index t = ![0, 0] ∧ win0_8.index t = ![t.val / 4, t.val % 4] ∧ win0_9.index t = ![t.val / 4, t.val % 4] ∧ win0_10.index t = ![t.val / 4, t.val % 4] ∧ win0_11.index t = ![t.val / 4, t.val % 4] ∧ win0_12.index t = ![t.val / 4, t.val % 4] ∧ win0_13.index t = ![t.val / 4, t.val % 4] ∧ win0_14.index t = ![t.val / 4, t.val % 4] ∧ win0_15.index t = ![0, 0] ∧ win0_16.index t = ![0, 0] ∧ t.val < 64 :=
  (by decide +kernel : ∀ t : Fin grid0.N, _)

/-- A point's batch, its rows' positions, its wide head and its narrow ones. -/
abbrev bat (t : Fin cfg0.N) : Fin 2 := ⟨t.val / 4 / 8, by have := (idx t).2.2.2.2.2.2.2.2.2.2.2.2.2.2.2.2.2; omega⟩
abbrev pos (t : Fin cfg0.N) (r : Fin 256) : Fin 2048 := ⟨t.val / 4 % 8 * 256 + r.val, by omega⟩
abbrev hd (t : Fin cfg0.N) : Fin 4 := ⟨t.val % 4, by omega⟩
abbrev hn (t : Fin cfg0.N) (j : Fin 4) : Fin 16 := ⟨t.val % 4 * 4 + j.val, by omega⟩

/-- A lane of a wide head is a lane of one of its narrow heads. -/
theorem lane_split (q : Fin 512) : ∃ (j : Fin 4) (k : Fin 128), q = ⟨j.val * 128 + k.val, by omega⟩ :=
  ⟨⟨q.val / 128, by omega⟩, ⟨q.val % 128, Nat.mod_lt _ (by omega)⟩, Fin.ext (by show q.val = q.val / 128 * 128 + q.val % 128; omega)⟩

/-- A narrow head's lane among the wide head's. -/
theorem col_eq (t : Fin cfg0.N) (j : Fin 4) (k : Fin 128) (h : j.val * 128 + k.val < 512) :
    MergeRef.wcol (hd t) ⟨j.val * 128 + k.val, h⟩ = Conv.col (hn t j) k := by
  apply Fin.ext
  show t.val % 4 * 512 + (j.val * 128 + k.val) = (t.val % 4 * 4 + j.val) * 128 + k.val
  omega

/-- The block of the wide branch's output that a point reads. -/
theorem blk_og (c : Dev nD) (t : Fin cfg0.N) (r : Fin 256) (q : Fin 512) :
    iblk m c 0 t (ix2 r q) = OG m c (ix3 (bat t) (pos t r) (MergeRef.wcol (hd t) q)) := by
  have hT := (idx t).2.2.2.2.2.2.2.2.2.2.2.2.2.2.2.2.2
  have e : V m c main_v10 = shapeCast S4096x2048 (OG m c) shapeCasts_S2x2048x2048_S4096x2048 := by
    entry_read
    rfl
  blk_simp [iblk, idx t]
  rw [e, Rows.tok_apply _ _ _ (bat t) (pos t r)
    (by blk_simp [idx t]; show _ = t.val / 4 / 8 * 2048 + (t.val / 4 % 8 * 256 + r.val); omega)]
  blk_ext [idx t]

/-- The block of the narrow branch's output that a point reads. -/
theorem blk_od (c : Dev nD) (t : Fin cfg0.N) (r : Fin 256) (q : Fin 512) :
    iblk m c 2 t (ix2 r q) = OD m c (ix3 (bat t) (pos t r) (MergeRef.wcol (hd t) q)) := by
  have hT := (idx t).2.2.2.2.2.2.2.2.2.2.2.2.2.2.2.2.2
  have e : V m c main_v11 = shapeCast S4096x2048 (OD m c) shapeCasts_S2x2048x2048_S4096x2048 := by
    entry_read
    rfl
  blk_simp [iblk, idx t]
  rw [e, Rows.tok_apply _ _ _ (bat t) (pos t r)
    (by blk_simp [idx t]; show _ = t.val / 4 / 8 * 2048 + (t.val / 4 % 8 * 256 + r.val); omega)]
  blk_ext [idx t]

/-- The block of the merge's cotangent that a point reads. -/
theorem blk_dm (c : Dev nD) (t : Fin cfg0.N) (r : Fin 256) (q : Fin 512) :
    iblk m c 8 t (ix2 r q) = DM m c (ix3 (bat t) (pos t r) (MergeRef.wcol (hd t) q)) := by
  have hT := (idx t).2.2.2.2.2.2.2.2.2.2.2.2.2.2.2.2.2
  have e : V m c main_v12 = shapeCast S4096x2048 (DM m c) shapeCasts_S2x2048x2048_S4096x2048 := by
    entry_read
    rfl
  blk_simp [iblk, idx t]
  rw [e, Rows.tok_apply _ _ _ (bat t) (pos t r)
    (by blk_simp [idx t]; show _ = t.val / 4 / 8 * 2048 + (t.val / 4 % 8 * 256 + r.val); omega)]
  blk_ext [idx t]

/-- The wide columns of the projection, side by side. -/
theorem big (c : Dev nD) : V m c main_v5 = concatenate S4096x18432 1
      [⟨S4096x6144, extractStridedSlice S4096x6144 ![0, 0] (shapeCast S4096x18480 (Z m c) shapeCasts_S2x2048x18480_S4096x18480) slices_S4096x18480_S4096x6144_0_0⟩,
       ⟨S4096x6144, extractStridedSlice S4096x6144 ![0, 6160] (shapeCast S4096x18480 (Z m c) shapeCasts_S2x2048x18480_S4096x18480) slices_S4096x18480_S4096x6144_0_6160⟩,
       ⟨S4096x2048, extractStridedSlice S4096x2048 ![0, 12304] (shapeCast S4096x18480 (Z m c) shapeCasts_S2x2048x18480_S4096x18480) slices_S4096x18480_S4096x2048_0_12304⟩,
       ⟨S4096x4096, extractStridedSlice S4096x4096 ![0, 14384] (shapeCast S4096x18480 (Z m c) shapeCasts_S2x2048x18480_S4096x18480) slices_S4096x18480_S4096x4096_0_14384⟩]
      concatenates_S4096x6144_S4096x6144_S4096x2048_S4096x4096_S4096x18432_d1 := by
  unfold V
  after_results
  try rfl

/-- The block of the wide branch's SiLU gate. -/
theorem blk_zs (c : Dev nD) (t : Fin cfg0.N) (r : Fin 256) (q : Fin 512) :
    iblk m c 1 t (ix2 r q) = MergeRefIdeal.Read.val_main_v3 (F := Ideal) (Z m c) (ix3 (bat t) (pos t r) (MergeRef.wcol (hd t) q)) := by
  have hT := (idx t).2.2.2.2.2.2.2.2.2.2.2.2.2.2.2.2.2
  have hq := q.isLt
  have e0 : ((((cfg0.win 1).blk t).view.emb (ix2 r q)) 0).val = (bat t).val * 2048 + (pos t r).val := by
    blk_simp [idx t]
    show _ = t.val / 4 / 8 * 2048 + (t.val / 4 % 8 * 256 + r.val)
    omega
  have e1 : ((((cfg0.win 1).blk t).view.emb (ix2 r q)) 1).val = 4096 + (t.val % 4 * 512 + q.val) := by
    blk_simp [idx t]
    omega
  rw [MergeRef.cols_z0 (Z m c) _ _ _ ⟨4096 + (t.val % 4 * 512 + q.val), by omega⟩ rfl]
  show V m c main_v5 (((cfg0.win 1).blk t).view.emb (ix2 r q)) = _
  rw [big]
  exact BigCols.apply (Z m c) _ _ _ _ _ _ _ (bat t) (pos t r) _ e0 (by
    rw [e1]
    show (_ ∧ 4096 + (t.val % 4 * 512 + q.val) = _) ∨ (_ ∧ _ ∧ 4096 + (t.val % 4 * 512 + q.val) = _) ∨ (_ ∧ 4096 + (t.val % 4 * 512 + q.val) = _)
    omega)

/-- The block of the narrow branch's SiLU gate. -/
theorem blk_zn (c : Dev nD) (t : Fin cfg0.N) (r : Fin 256) (q : Fin 512) :
    iblk m c 3 t (ix2 r q) = MergeRefIdeal.Read.val_main_v6 (F := Ideal) (Z m c) (ix3 (bat t) (pos t r) (MergeRef.wcol (hd t) q)) := by
  have hT := (idx t).2.2.2.2.2.2.2.2.2.2.2.2.2.2.2.2.2
  have hq := q.isLt
  have e0 : ((((cfg0.win 3).blk t).view.emb (ix2 r q)) 0).val = (bat t).val * 2048 + (pos t r).val := by
    blk_simp [idx t]
    show _ = t.val / 4 / 8 * 2048 + (t.val / 4 % 8 * 256 + r.val)
    omega
  have e1 : ((((cfg0.win 3).blk t).view.emb (ix2 r q)) 1).val = 12288 + (t.val % 4 * 512 + q.val) := by
    blk_simp [idx t]
    omega
  rw [MergeRef.cols_z1 (Z m c) _ _ _ ⟨12304 + (t.val % 4 * 512 + q.val), by omega⟩ rfl]
  show V m c main_v5 (((cfg0.win 3).blk t).view.emb (ix2 r q)) = _
  rw [big]
  exact BigCols.apply (Z m c) _ _ _ _ _ _ _ (bat t) (pos t r) _ e0 (by
    rw [e1]
    show (_ ∧ 12304 + (t.val % 4 * 512 + q.val) = _) ∨ (_ ∧ _ ∧ 12304 + (t.val % 4 * 512 + q.val) = _) ∨ (_ ∧ 12304 + (t.val % 4 * 512 + q.val) = _)
    omega)

/-- The block of the wide branch's sigmoid gate. -/
theorem blk_gw (c : Dev nD) (t : Fin cfg0.N) (r : Fin 256) (q : Fin 512) :
    iblk m c 4 t (ix2 r q) = MergeRefIdeal.Read.val_main_v9 (F := Ideal) (Z m c) (ix3 (bat t) (pos t r) (MergeRef.wcol (hd t) q)) := by
  have hT := (idx t).2.2.2.2.2.2.2.2.2.2.2.2.2.2.2.2.2
  have hq := q.isLt
  have e0 : ((((cfg0.win 4).blk t).view.emb (ix2 r q)) 0).val = (bat t).val * 2048 + (pos t r).val := by
    blk_simp [idx t]
    show _ = t.val / 4 / 8 * 2048 + (t.val / 4 % 8 * 256 + r.val)
    omega
  have e1 : ((((cfg0.win 4).blk t).view.emb (ix2 r q)) 1).val = 14336 + (t.val % 4 * 512 + q.val) := by
    blk_simp [idx t]
    omega
  rw [MergeRef.cols_g0 (Z m c) _ _ _ ⟨14384 + (t.val % 4 * 512 + q.val), by omega⟩ rfl]
  show V m c main_v5 (((cfg0.win 4).blk t).view.emb (ix2 r q)) = _
  rw [big]
  exact BigCols.apply (Z m c) _ _ _ _ _ _ _ (bat t) (pos t r) _ e0 (by
    rw [e1]
    show (_ ∧ 14384 + (t.val % 4 * 512 + q.val) = _) ∨ (_ ∧ _ ∧ 14384 + (t.val % 4 * 512 + q.val) = _) ∨ (_ ∧ 14384 + (t.val % 4 * 512 + q.val) = _)
    omega)

/-- The block of the narrow branch's sigmoid gate. -/
theorem blk_gn (c : Dev nD) (t : Fin cfg0.N) (r : Fin 256) (q : Fin 512) :
    iblk m c 5 t (ix2 r q) = MergeRefIdeal.Read.val_main_v10 (F := Ideal) (Z m c) (ix3 (bat t) (pos t r) (MergeRef.wcol (hd t) q)) := by
  have hT := (idx t).2.2.2.2.2.2.2.2.2.2.2.2.2.2.2.2.2
  have hq := q.isLt
  have e0 : ((((cfg0.win 5).blk t).view.emb (ix2 r q)) 0).val = (bat t).val * 2048 + (pos t r).val := by
    blk_simp [idx t]
    show _ = t.val / 4 / 8 * 2048 + (t.val / 4 % 8 * 256 + r.val)
    omega
  have e1 : ((((cfg0.win 5).blk t).view.emb (ix2 r q)) 1).val = 16384 + (t.val % 4 * 512 + q.val) := by
    blk_simp [idx t]
    omega
  rw [MergeRef.cols_g1 (Z m c) _ _ _ ⟨16432 + (t.val % 4 * 512 + q.val), by omega⟩ rfl]
  show V m c main_v5 (((cfg0.win 5).blk t).view.emb (ix2 r q)) = _
  rw [big]
  exact BigCols.apply (Z m c) _ _ _ _ _ _ _ (bat t) (pos t r) _ e0 (by
    rw [e1]
    show (_ ∧ 16432 + (t.val % 4 * 512 + q.val) = _) ∨ (_ ∧ _ ∧ 16432 + (t.val % 4 * 512 + q.val) = _) ∨ (_ ∧ 16432 + (t.val % 4 * 512 + q.val) = _)
    omega)

/-- The gains are read whole at every point. -/
theorem blk_gainw (c : Dev nD) (t : Fin cfg0.N) (i) : iblk m c 6 t i = GN m c i := by
  blk_ext [iblk, V, idx t]

theorem blk_gainn (c : Dev nD) (t : Fin cfg0.N) (i) : iblk m c 7 t i = DN m c i := by
  blk_ext [iblk, V, idx t]

/-! The rows of the blocks as the token's heads. -/

theorem row_og (c : Dev nD) (t : Fin cfg0.N) (r : Fin 256) :
    brow (iblk m c 0 t) r = fun l => OG m c (ix3 (bat t) (pos t r) (MergeRef.wcol (hd t) l)) := funext fun l => blk_og m c t r l

theorem head_od (c : Dev nD) (t : Fin cfg0.N) (r : Fin 256) (j : Fin 4) :
    hrow (iblk m c 2 t) r j = fun l => OD m c (ix3 (bat t) (pos t r) (Conv.col (hn t j) l)) :=
  funext fun l => (blk_od m c t r _).trans (congrArg (fun q => OD m c (ix3 (bat t) (pos t r) q)) (col_eq t j l _))

theorem row_dm (c : Dev nD) (t : Fin cfg0.N) (r : Fin 256) :
    brow (iblk m c 8 t) r = fun l => DM m c (ix3 (bat t) (pos t r) (MergeRef.wcol (hd t) l)) := funext fun l => blk_dm m c t r l

theorem head_dm (c : Dev nD) (t : Fin cfg0.N) (r : Fin 256) (j : Fin 4) :
    hrow (iblk m c 8 t) r j = fun l => DM m c (ix3 (bat t) (pos t r) (Conv.col (hn t j) l)) :=
  funext fun l => (blk_dm m c t r _).trans (congrArg (fun q => DM m c (ix3 (bat t) (pos t r) q)) (col_eq t j l _))

theorem row_zs (c : Dev nD) (t : Fin cfg0.N) (r : Fin 256) :
    brow (iblk m c 1 t) r = fun l => MergeRefIdeal.Read.val_main_v3 (F := Ideal) (Z m c) (ix3 (bat t) (pos t r) (MergeRef.wcol (hd t) l)) := funext fun l => blk_zs m c t r l

theorem head_zn (c : Dev nD) (t : Fin cfg0.N) (r : Fin 256) (j : Fin 4) :
    hrow (iblk m c 3 t) r j = fun l => MergeRefIdeal.Read.val_main_v6 (F := Ideal) (Z m c) (ix3 (bat t) (pos t r) (Conv.col (hn t j) l)) :=
  funext fun l => (blk_zn m c t r _).trans (congrArg (fun q => MergeRefIdeal.Read.val_main_v6 (F := Ideal) (Z m c) (ix3 (bat t) (pos t r) q)) (col_eq t j l _))

theorem row_gw (c : Dev nD) (t : Fin cfg0.N) (r : Fin 256) :
    brow (iblk m c 4 t) r = fun l => MergeRefIdeal.Read.val_main_v9 (F := Ideal) (Z m c) (ix3 (bat t) (pos t r) (MergeRef.wcol (hd t) l)) := funext fun l => blk_gw m c t r l

theorem head_gn (c : Dev nD) (t : Fin cfg0.N) (r : Fin 256) (j : Fin 4) :
    hrow (iblk m c 5 t) r j = fun l => MergeRefIdeal.Read.val_main_v10 (F := Ideal) (Z m c) (ix3 (bat t) (pos t r) (Conv.col (hn t j) l)) :=
  funext fun l => (blk_gn m c t r _).trans (congrArg (fun q => MergeRefIdeal.Read.val_main_v10 (F := Ideal) (Z m c) (ix3 (bat t) (pos t r) q)) (col_eq t j l _))

theorem row_gain (c : Dev nD) (t : Fin cfg0.N) : wide (iblk m c 6 t) = fun l => GN m c (ix2 0 l) := funext fun l => blk_gainw m c t _

theorem head_gain (c : Dev nD) (t : Fin cfg0.N) : narrow (iblk m c 7 t) = fun l => DN m c (ix2 0 l) := funext fun l => blk_gainn m c t _

/-- The gradient of the wide branch after the run is the reference's. -/
theorem final9 (c : Dev nD) : (dats m 0 c).arrAt 9 (cfgs 0).N = MergeRefIdeal.Read.val_main_v134 (F := Ideal) (OG m c) (Z m c) (GN m c) (DM m c) := by
  refine (dats m 0 c).arrAt_eq_of_covers 9 _ (by decide +kernel) fun t _ y => ?_
  obtain ⟨r, q, rfl⟩ : ∃ r q, y = ix2 r q := ⟨y 0, y 1, by idx_vars y⟩
  have hT := (idx t).2.2.2.2.2.2.2.2.2.2.2.2.2.2.2.2.2
  have e0 : ((((cfg0.win 9).blk t).view.emb (ix2 r q)) 0).val = (bat t).val * 2048 + (pos t r).val := by
    blk_simp [idx t]
    show _ = t.val / 4 / 8 * 2048 + (t.val / 4 % 8 * 256 + r.val)
    omega
  have e1 : (((cfg0.win 9).blk t).view.emb (ix2 r q)) 1 = MergeRef.wcol (hd t) q := by
    apply Fin.ext
    blk_simp [idx t]
  blk_simp
  rw [after0_9, MergeRef.w_dx_tok _ _ _ _ _ (bat t) (pos t r) (hd t) q e0 e1]
  refine (stored9 m c t r q).trans ?_
  rw [row_og, row_gw, row_zs, row_dm, row_gain]

/-- The gradient of the wide branch's SiLU gate after the run is the reference's. -/
theorem final10 (c : Dev nD) : (dats m 0 c).arrAt 10 (cfgs 0).N = MergeRefIdeal.Read.val_main_v136 (F := Ideal) (OG m c) (Z m c) (GN m c) (DM m c) := by
  refine (dats m 0 c).arrAt_eq_of_covers 10 _ (by decide +kernel) fun t _ y => ?_
  obtain ⟨r, q, rfl⟩ : ∃ r q, y = ix2 r q := ⟨y 0, y 1, by idx_vars y⟩
  have hT := (idx t).2.2.2.2.2.2.2.2.2.2.2.2.2.2.2.2.2
  have e0 : ((((cfg0.win 10).blk t).view.emb (ix2 r q)) 0).val = (bat t).val * 2048 + (pos t r).val := by
    blk_simp [idx t]
    show _ = t.val / 4 / 8 * 2048 + (t.val / 4 % 8 * 256 + r.val)
    omega
  have e1 : (((cfg0.win 10).blk t).view.emb (ix2 r q)) 1 = MergeRef.wcol (hd t) q := by
    apply Fin.ext
    blk_simp [idx t]
  blk_simp
  rw [after0_10, MergeRef.w_dz_tok _ _ _ _ _ (bat t) (pos t r) (hd t) q e0 e1]
  refine (stored10 m c t r q).trans ?_
  rw [row_og, row_gw, row_zs, row_dm, row_gain]

/-- The gradient of the wide branch's sigmoid gate after the run is the reference's. -/
theorem final13 (c : Dev nD) : (dats m 0 c).arrAt 13 (cfgs 0).N = MergeRefIdeal.Read.val_main_v141 (F := Ideal) (OG m c) (Z m c) (GN m c) (DM m c) := by
  refine (dats m 0 c).arrAt_eq_of_covers 13 _ (by decide +kernel) fun t _ y => ?_
  obtain ⟨r, q, rfl⟩ : ∃ r q, y = ix2 r q := ⟨y 0, y 1, by idx_vars y⟩
  have hT := (idx t).2.2.2.2.2.2.2.2.2.2.2.2.2.2.2.2.2
  have e0 : ((((cfg0.win 13).blk t).view.emb (ix2 r q)) 0).val = (bat t).val * 2048 + (pos t r).val := by
    blk_simp [idx t]
    show _ = t.val / 4 / 8 * 2048 + (t.val / 4 % 8 * 256 + r.val)
    omega
  have e1 : (((cfg0.win 13).blk t).view.emb (ix2 r q)) 1 = MergeRef.wcol (hd t) q := by
    apply Fin.ext
    blk_simp [idx t]
  blk_simp
  rw [after0_13, MergeRef.w_dg_tok _ _ _ _ _ (bat t) (pos t r) (hd t) q e0 e1]
  refine (stored13 m c t r q).trans ?_
  rw [row_og, row_gw, row_zs, row_dm, row_gain]

/-- The gradient of the narrow branch after the run is the reference's. -/
theorem final11 (c : Dev nD) : (dats m 0 c).arrAt 11 (cfgs 0).N = MergeRefIdeal.Read.val_main_v137 (F := Ideal) (OD m c) (Z m c) (DN m c) (DM m c) := by
  refine (dats m 0 c).arrAt_eq_of_covers 11 _ (by decide +kernel) fun t _ y => ?_
  obtain ⟨r, q, rfl⟩ : ∃ r q, y = ix2 r q := ⟨y 0, y 1, by idx_vars y⟩
  have hT := (idx t).2.2.2.2.2.2.2.2.2.2.2.2.2.2.2.2.2
  have e0 : ((((cfg0.win 11).blk t).view.emb (ix2 r q)) 0).val = (bat t).val * 2048 + (pos t r).val := by
    blk_simp [idx t]
    show _ = t.val / 4 / 8 * 2048 + (t.val / 4 % 8 * 256 + r.val)
    omega
  have e1 : (((cfg0.win 11).blk t).view.emb (ix2 r q)) 1 = MergeRef.wcol (hd t) q := by
    apply Fin.ext
    blk_simp [idx t]
  blk_simp
  obtain ⟨j, k, rfl⟩ := lane_split q
  rw [after0_11, MergeRef.n_dx_tok _ _ _ _ _ (bat t) (pos t r) (hn t j) k e0 (e1.trans (col_eq t j k _))]
  refine (stored11 m c t r j k).trans ?_
  rw [head_od, head_gn, head_zn, head_dm, head_gain]

/-- The gradient of the narrow branch's SiLU gate after the run is the reference's. -/
theorem final12 (c : Dev nD) : (dats m 0 c).arrAt 12 (cfgs 0).N = MergeRefIdeal.Read.val_main_v139 (F := Ideal) (OD m c) (Z m c) (DN m c) (DM m c) := by
  refine (dats m 0 c).arrAt_eq_of_covers 12 _ (by decide +kernel) fun t _ y => ?_
  obtain ⟨r, q, rfl⟩ : ∃ r q, y = ix2 r q := ⟨y 0, y 1, by idx_vars y⟩
  have hT := (idx t).2.2.2.2.2.2.2.2.2.2.2.2.2.2.2.2.2
  have e0 : ((((cfg0.win 12).blk t).view.emb (ix2 r q)) 0).val = (bat t).val * 2048 + (pos t r).val := by
    blk_simp [idx t]
    show _ = t.val / 4 / 8 * 2048 + (t.val / 4 % 8 * 256 + r.val)
    omega
  have e1 : (((cfg0.win 12).blk t).view.emb (ix2 r q)) 1 = MergeRef.wcol (hd t) q := by
    apply Fin.ext
    blk_simp [idx t]
  blk_simp
  obtain ⟨j, k, rfl⟩ := lane_split q
  rw [after0_12, MergeRef.n_dz_tok _ _ _ _ _ (bat t) (pos t r) (hn t j) k e0 (e1.trans (col_eq t j k _))]
  refine (stored12 m c t r j k).trans ?_
  rw [head_od, head_gn, head_zn, head_dm, head_gain]

/-- The gradient of the narrow branch's sigmoid gate after the run is the reference's. -/
theorem final14 (c : Dev nD) : (dats m 0 c).arrAt 14 (cfgs 0).N = MergeRefIdeal.Read.val_main_v143 (F := Ideal) (OD m c) (Z m c) (DN m c) (DM m c) := by
  refine (dats m 0 c).arrAt_eq_of_covers 14 _ (by decide +kernel) fun t _ y => ?_
  obtain ⟨r, q, rfl⟩ : ∃ r q, y = ix2 r q := ⟨y 0, y 1, by idx_vars y⟩
  have hT := (idx t).2.2.2.2.2.2.2.2.2.2.2.2.2.2.2.2.2
  have e0 : ((((cfg0.win 14).blk t).view.emb (ix2 r q)) 0).val = (bat t).val * 2048 + (pos t r).val := by
    blk_simp [idx t]
    show _ = t.val / 4 / 8 * 2048 + (t.val / 4 % 8 * 256 + r.val)
    omega
  have e1 : (((cfg0.win 14).blk t).view.emb (ix2 r q)) 1 = MergeRef.wcol (hd t) q := by
    apply Fin.ext
    blk_simp [idx t]
  blk_simp
  obtain ⟨j, k, rfl⟩ := lane_split q
  rw [after0_14, MergeRef.n_dg_tok _ _ _ _ _ (bat t) (pos t r) (hn t j) k e0 (e1.trans (col_eq t j k _))]
  refine (stored14 m c t r j k).trans ?_
  rw [head_od, head_gn, head_zn, head_dm, head_gain]

/-- The last grid point. -/
def last : Fin grid0.N := ⟨63, by rw [N_0]; decide⟩

/-- A sum over the grid's points and their rows is the sum over the batches, positions and wide heads. -/
theorem sum_grid (g : Fin 2 → Fin 2048 → Fin 4 → EReal) :
    (∑ t : Fin 64, ∑ r : Fin 256, g ⟨t.val / 4 / 8, by omega⟩ ⟨t.val / 4 % 8 * 256 + r.val, by omega⟩ ⟨t.val % 4, by omega⟩)
      = ∑ b : Fin 2, ∑ n : Fin 2048, ∑ j : Fin 4, g b n j := by
  trans ∑ a : Fin 16, ∑ j : Fin 4, ∑ r : Fin 256, g ⟨a.val / 8, by omega⟩ ⟨a.val % 8 * 256 + r.val, by omega⟩ j
  · exact Fin.sum_divmod_congr fun t ha hs => rfl
  trans ∑ a : Fin 16, ∑ r : Fin 256, ∑ j : Fin 4, g ⟨a.val / 8, by omega⟩ ⟨a.val % 8 * 256 + r.val, by omega⟩ j
  · exact Finset.sum_congr rfl fun a _ => Finset.sum_comm
  exact Fin.sum_points_lanes_congr 8 fun t k ha hl => rfl

/-- The gradient of the wide heads' gain after the run is the reference's. -/
theorem final15 (c : Dev nD) : (dats m 0 c).arrAt 15 (cfgs 0).N = MergeRefIdeal.Read.val_main_v132 (F := Ideal) (OG m c) (Z m c) (DM m c) := by
  refine (dats m 0 c).arrAt_eq_of_after_last 15 last (by decide +kernel) _ fun y => ?_
  blk_simp
  rw [after0_15, Pipeline.eq_sum_fin_of_reset_step_apply_last (fun n h => (outsAt0 m c n h).2.2.2.2.2.2.1) 64 (fun _ => 0) (fun t y => wideInc m c t (y 1))
    (fun t h y => wide_A m c t h y) (fun t h y => wide_B m c t h y) (le_of_eq N_0) last rfl y, zero_add]
  obtain ⟨z, q, rfl⟩ : ∃ z q, y = ix2 z q := ⟨y 0, y 1, by idx_vars y⟩
  obtain rfl : z = 0 := Subsingleton.elim _ _
  refine Eq.trans ?_ (MergeRef.w_dn _ _ _ q).symm
  refine Eq.trans ?_ (sum_grid _)
  refine Fin.sum_fin_congr fun t => ?_
  show wideInc m c _ q = _
  unfold wideInc
  simp only [row_og, row_gw, row_zs, row_dm]

/-- Of four narrow heads at a time, all. -/
theorem sum_heads (g : Fin 2 → Fin 2048 → Fin 16 → EReal) :
    (∑ t : Fin 64, ∑ r : Fin 256, ∑ j : Fin 4, g ⟨t.val / 4 / 8, by omega⟩ ⟨t.val / 4 % 8 * 256 + r.val, by omega⟩ ⟨t.val % 4 * 4 + j.val, by omega⟩)
      = ∑ b : Fin 2, ∑ n : Fin 2048, ∑ j : Fin 16, g b n j := by
  refine (sum_grid fun b n h => ∑ j : Fin 4, g b n ⟨h.val * 4 + j.val, by omega⟩).trans ?_
  exact Finset.sum_congr rfl fun b _ => Finset.sum_congr rfl fun n _ => Fin.sum_mul_add_congr fun s k hl => rfl

/-- The gradient of the narrow heads' gain after the run is the reference's. -/
theorem final16 (c : Dev nD) : (dats m 0 c).arrAt 16 (cfgs 0).N = MergeRefIdeal.Read.val_main_v106 (F := Ideal) (OD m c) (Z m c) (DM m c) := by
  refine (dats m 0 c).arrAt_eq_of_after_last 16 last (by decide +kernel) _ fun y => ?_
  blk_simp
  rw [after0_16, Pipeline.eq_sum_fin_of_reset_step_apply_last (fun n h => (outsAt0 m c n h).2.2.2.2.2.2.2) 64 (fun _ => 0) (fun t y => narrowInc m c t (y 1))
    (fun t h y => narrow_A m c t h y) (fun t h y => narrow_B m c t h y) (le_of_eq N_0) last rfl y, zero_add]
  obtain ⟨z, q, rfl⟩ : ∃ z q, y = ix2 z q := ⟨y 0, y 1, by idx_vars y⟩
  obtain rfl : z = 0 := Subsingleton.elim _ _
  refine Eq.trans ?_ (MergeRef.n_dn _ _ _ q).symm
  refine Eq.trans ?_ (sum_heads _)
  refine Fin.sum_fin_congr fun t => ?_
  show narrowInc m c _ q = _
  have e : ∀ t, narrowInc m c t q = ∑ j : Fin 4, headInc m c t q j := fun t => by
    rw [Fin.sum_univ_four]
    unfold narrowInc
    rw [add_comm _ (headInc m c t q 0), add_comm (headInc m c t q 3 + headInc m c t q 2), add_comm (headInc m c t q 3),
      ← add_assoc, ← add_assoc]
  rw [e, Finset.sum_comm]
  refine Fin.sum_fin_congr fun j => ?_
  unfold headInc
  simp only [head_od, head_gn, head_zn, head_dm]

end Cert.MergeIdeal.RefValue

end
-- ==== Proof.MergeClaim.lean ====
/- The claims about the gradient of the mixers' gated merge: the reference runs and leaves its arguments as
   they are, and the kernel's results are the reference's. -/
module

public import proofs.«01_k».proof.Proof.MergeValue

@[expose] public section

set_option maxRecDepth 16384

noncomputable section

open Idealize.ShloMosaic Idealize.ShloMosaic.TcCoe Idealize.SL.Sem

namespace Cert.MergeIdeal.RefValue

open Cert.MergeRefIdeal.Read

instance factsK : Cert.MergeIdeal.Facts := Cert.MergeIdeal.Gen.facts
instance factsR : Cert.MergeRefIdeal.Facts := Cert.MergeRefIdeal.Gen.facts

/-- The reference runs, leaves its arguments as they are and declares no semaphore. -/
theorem frame_ref : Cert.quiescent_MergeRefIdeal := fun m g _ =>
  (θ_run _ _ _).mono (fun r h => ⟨fun c => (h c).2.2.2.2.2.2.2.2, sem_eq_zero_of_no_sems rfl _⟩)
    (Cert.MergeRefIdeal.Value.run m g)

set_option maxHeartbeats 1000000 in
/-- The kernel's results are the reference's. -/
theorem algebraic : Cert.algebraic_MergeIdeal_MergeRefIdeal := by
  pair_intro
  · run_from Cert.MergeIdeal.Gen.run_main m g
    exact hc.1 16
  refine (θ_run _ _ _).mono (fun r h c => ?_) (Cert.MergeRefIdeal.Value.run m' g')
  obtain ⟨a0, a1, a2, a3, a4, a5⟩ := hagree c
  refine ⟨((h c).1.trans (val_main_v134_eq (StableHlo.launchContents m' c))).trans ?_,
    ((h c).2.1.trans (val_main_v136_eq (StableHlo.launchContents m' c))).trans ?_,
    ((h c).2.2.1.trans (val_main_v137_eq (StableHlo.launchContents m' c))).trans ?_,
    ((h c).2.2.2.1.trans (val_main_v139_eq (StableHlo.launchContents m' c))).trans ?_,
    ((h c).2.2.2.2.1.trans (val_main_v141_eq (StableHlo.launchContents m' c))).trans ?_,
    ((h c).2.2.2.2.2.1.trans (val_main_v143_eq (StableHlo.launchContents m' c))).trans ?_,
    ((h c).2.2.2.2.2.2.1.trans (val_main_v132_eq (StableHlo.launchContents m' c))).trans ?_,
    ((h c).2.2.2.2.2.2.2.1.trans (val_main_v106_eq (StableHlo.launchContents m' c))).trans ?_, (h c).2.2.2.2.2.2.2.2⟩
  · simp only [a0, a1, a2, a3, a4, a5]
    exact (final9 m c).symm
  · simp only [a0, a1, a2, a3, a4, a5]
    exact (final10 m c).symm
  · simp only [a0, a1, a2, a3, a4, a5]
    exact (final11 m c).symm
  · simp only [a0, a1, a2, a3, a4, a5]
    exact (final12 m c).symm
  · simp only [a0, a1, a2, a3, a4, a5]
    exact (final13 m c).symm
  · simp only [a0, a1, a2, a3, a4, a5]
    exact (final14 m c).symm
  · simp only [a0, a1, a2, a3, a4, a5]
    exact (final15 m c).symm
  · simp only [a0, a1, a2, a3, a4, a5]
    exact (final16 m c).symm

end Cert.MergeIdeal.RefValue

end
-- ==== Proof.ConvQPoint.lean ====
module

public import proofs.«01_k».proof.Defs
public import proofs.«01_k».proof.Proof.Gen.ConvQIdeal.Value
public import proofs.«01_k».proof.Proof.Sums
public import proofs.«01_k».proof.Proof.Rows
public import proofs.«01_k».proof.Proof.ConvMath
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvQIdeal.RefValue

open Cert Cert.ConvQIdeal Cert.ConvQIdeal.Gen

variable (m : (ℓ : Loc nD τ sig) → Buf (Elt Ideal) ℓ)

/-- The gradient at the convolution's output, before the activation: the head's normalised and scaled queries. -/
def dpre (x g : Fin 2048 → Fin 128 → EReal) (w : Fin 4 → Fin 128 → EReal) (n : Fin 2048) (k : Fin 128) : EReal :=
  Conv.dact (Conv.preL x w n k)
    (Conv.normGrad (Conv.act x w n) (fun l => g n l * Ideal.ofBits .f32 0x3DB504F3#32) k)

theorem pay_delay3 (x : Vec Ideal S2048x128 .f32) (n : Fin 2048) (k : Fin 128) :
    k0_pay5 (F := Ideal) x (ix2 n k) = Conv.delay (fun i => x (ix2 i k)) 3 n := by
  pointwise [k0_pay5, k0_pay4]
  exact Conv.select_delay (fun i => x (ix2 i k)) 3 (by omega) n (Nat.mod_lt _ (by omega))

theorem pay_delay2 (x : Vec Ideal S2048x128 .f32) (n : Fin 2048) (k : Fin 128) :
    k0_pay6 (F := Ideal) x (ix2 n k) = Conv.delay (fun i => x (ix2 i k)) 2 n := by
  pointwise [k0_pay6, k0_pay4]
  exact Conv.select_delay (fun i => x (ix2 i k)) 2 (by omega) n (Nat.mod_lt _ (by omega))

theorem pay_delay1 (x : Vec Ideal S2048x128 .f32) (n : Fin 2048) (k : Fin 128) :
    k0_pay7 (F := Ideal) x (ix2 n k) = Conv.delay (fun i => x (ix2 i k)) 1 n := by
  pointwise [k0_pay7, k0_pay4]
  exact Conv.select_delay (fun i => x (ix2 i k)) 1 (by omega) n (Nat.mod_lt _ (by omega))

theorem pay_lane (x : Vec Ideal S2048x128 .f32) (n : Fin 2048) (k : Fin 128) :
    k0_pay4 (F := Ideal) x (ix2 n k) = x (ix2 n k) := by
  pointwise [k0_pay4]

theorem pay_taps (w0 w1 w2 : Vec Ideal S1x128 .f32) (x : Vec Ideal S2048x128 .f32) (n : Fin 2048) (k : Fin 128) :
    k0_pay8 (F := Ideal) w0 w1 w2 x (ix2 n k)
      = w0 (ix2 0 k) * k0_pay5 (F := Ideal) x (ix2 n k) + w1 (ix2 0 k) * k0_pay6 (F := Ideal) x (ix2 n k)
        + w2 (ix2 0 k) * k0_pay7 (F := Ideal) x (ix2 n k) := by
  pointwise [k0_pay8]

theorem pay_back (x s w g : Vec Ideal S2048x128 .f32) (n : Fin 2048) (k : Fin 128) :
    k0_pay10 (F := Ideal) x s w g (ix2 n k)
      = Conv.dact (s (ix2 n k) + w (ix2 n k) * x (ix2 n k))
        (Conv.normGrad (fun l => (s (ix2 n l) + w (ix2 n l) * x (ix2 n l))
            * Ideal.logistic (s (ix2 n l) + w (ix2 n l) * x (ix2 n l)))
          (fun l => g (ix2 n l) * Ideal.ofBits .f32 0x3DB504F3#32) k) := by
  pointwise [k0_pay10]
  simp only [Finset.univ_unique, Finset.sum_singleton]
  rfl

theorem pay_dpre (x g : Vec Ideal S2048x128 .f32) (w0 w1 w2 w3 : Vec Ideal S1x128 .f32) (n : Fin 2048) (k : Fin 128) :
    k0_pay10 (F := Ideal) (k0_pay4 (F := Ideal) x) (k0_pay8 (F := Ideal) w0 w1 w2 x) (k0_pay9 (F := Ideal) w3) g (ix2 n k)
      = dpre (fun i l => x (ix2 i l)) (fun i l => g (ix2 i l)) (Conv.taps w0 w1 w2 w3) n k := by
  have e : ∀ l : Fin 128, k0_pay8 (F := Ideal) w0 w1 w2 x (ix2 n l)
      + k0_pay9 (F := Ideal) w3 (ix2 n l) * k0_pay4 (F := Ideal) x (ix2 n l)
      = Conv.preL (fun i l => x (ix2 i l)) (Conv.taps w0 w1 w2 w3) n l := fun l => by
    rw [pay_taps, pay_delay3, pay_delay2, pay_delay1, pay_lane]
    pointwise [k0_pay9]
    rfl
  rw [pay_back]
  simp only [e]
  rfl

/-- The first result's block: the lane's share of each tap, later positions advanced. -/
theorem pay_dx (w0 w1 : Vec Ideal S1x128 .f32) (d a b : Vec Ideal S2048x128 .f32) (n : Fin 2048) (k : Fin 128) :
    k0_pay15 (F := Ideal) w0 w1 d a b (iota .tc S2048x128 32 [0] iota_S2048x128_d0_w32) 2047#32 (ix2 n k)
      = a (ix2 n k) + Conv.ahead (fun i => b (ix2 i k)) 1 n
        + Conv.ahead (fun i => w1 (ix2 0 k) * d (ix2 i k)) 2 n + Conv.ahead (fun i => w0 (ix2 0 k) * d (ix2 i k)) 3 n := by
  pointwise [k0_pay15]
  rw [← Conv.select_ahead (fun i => b (ix2 i k)) 1 (by omega) n (Nat.mod_lt _ (by omega)),
    ← Conv.select_ahead (fun i => w1 (ix2 0 k) * d (ix2 i k)) 2 (by omega) n (Nat.mod_lt _ (by omega)),
    ← Conv.select_ahead (fun i => w0 (ix2 0 k) * d (ix2 i k)) 3 (by omega) n (Nat.mod_lt _ (by omega))]

/-- A tap's share times the gradient before the activation. -/
theorem pay_share3 (w3 : Vec Ideal S1x128 .f32) (x s w g : Vec Ideal S2048x128 .f32) (n : Fin 2048) (k : Fin 128) :
    k0_pay11 (F := Ideal) w3 x s w g (ix2 n k) = w3 (ix2 0 k) * k0_pay10 (F := Ideal) x s w g (ix2 n k) := by
  pointwise [k0_pay11]

theorem pay_share2 (w2 : Vec Ideal S1x128 .f32) (x s w g : Vec Ideal S2048x128 .f32) (n : Fin 2048) (k : Fin 128) :
    k0_pay13 (F := Ideal) w2 x s w g (ix2 n k) = w2 (ix2 0 k) * k0_pay10 (F := Ideal) x s w g (ix2 n k) := by
  pointwise [k0_pay13]

/-- A point's part of the gradient of each tap, added to what the buffer held. -/
theorem pay_tap3 (x s w g : Vec Ideal S2048x128 .f32) (o : Vec Ideal S1x128 .f32) (k : Fin 128) :
    k0_pay2 (F := Ideal) (k0_pay12 (F := Ideal) x s w g) o (ix2 0 k)
      = o (ix2 0 k) + ∑ n : Fin 2048, k0_pay10 (F := Ideal) x s w g (ix2 n k) * x (ix2 n k) := by
  pointwise [k0_pay2, k0_pay12]

theorem pay_tap2 (x y s w g : Vec Ideal S2048x128 .f32) (o : Vec Ideal S1x128 .f32) (k : Fin 128) :
    k0_pay1 (F := Ideal) (k0_pay14 (F := Ideal) x y s w g) o (ix2 0 k)
      = o (ix2 0 k) + ∑ n : Fin 2048, k0_pay10 (F := Ideal) x s w g (ix2 n k) * y (ix2 n k) := by
  pointwise [k0_pay1, k0_pay14]

theorem pay_tap1 (y d : Vec Ideal S2048x128 .f32) (o : Vec Ideal S1x128 .f32) (k : Fin 128) :
    k0_pay17 (F := Ideal) y d o (ix2 0 k) = o (ix2 0 k) + ∑ n : Fin 2048, d (ix2 n k) * y (ix2 n k) := by
  pointwise [k0_pay17]

theorem pay_tap0 (y d : Vec Ideal S2048x128 .f32) (o : Vec Ideal S1x128 .f32) (k : Fin 128) :
    k0_pay16 (F := Ideal) y d o (ix2 0 k) = o (ix2 0 k) + ∑ n : Fin 2048, d (ix2 n k) * y (ix2 n k) := by
  pointwise [k0_pay16]

/-- The windows' block indices at every grid point. -/
theorem idx : ∀ t : Fin cfg0.N, win0_0.index t = ![t.val % 2, 48 + t.val / 2] ∧ win0_1.index t = ![0, t.val / 2]
    ∧ win0_2.index t = ![t.val % 2, t.val / 2] ∧ win0_3.index t = ![t.val % 2, t.val / 2]
    ∧ win0_4.index t = ![0, t.val / 2] ∧ t.val < 32 :=
  (by decide +kernel : ∀ t : Fin grid0.N, _)

/-- A grid point's gradient before the activation, from the blocks it reads. -/
abbrev dblk (c : Dev nD) (t : Fin cfg0.N) : Fin 2048 → Fin 128 → EReal :=
  dpre (fun i l => iblk m c 0 t (ix2 i l)) (fun i l => iblk m c 2 t (ix2 i l)) (fun r l => iblk m c 1 t (ix2 r l))

/-- A grid point's part of the taps' gradient. -/
def part (c : Dev nD) (t : Fin cfg0.N) (y : S4x128.Idx) : EReal :=
  Conv.dw (fun i => iblk m c 0 t (ix2 i (y 1))) (fun i => dblk m c t i (y 1)) (3 - (y 0).val)

theorem tap3_at (x g : Vec Ideal S2048x128 .f32) (w : Fin 4 → Fin 128 → EReal) (w0 w1 w2 w3 o : Vec Ideal S1x128 .f32)
    (hw : Conv.taps w0 w1 w2 w3 = w) (k : Fin 128) :
    k0_pay2 (F := Ideal) (k0_pay12 (F := Ideal) (k0_pay4 (F := Ideal) x) (k0_pay8 (F := Ideal) w0 w1 w2 x) (k0_pay9 (F := Ideal) w3) g) o (ix2 0 k)
      = o (ix2 0 k) + Conv.dw (fun i => x (ix2 i k))
          (fun i => dpre (fun i l => x (ix2 i l)) (fun i l => g (ix2 i l)) w i k) 0 := by
  subst hw
  rw [pay_tap3]
  simp only [pay_dpre, pay_lane, Conv.dw, Conv.delay_zero]

theorem tap2_at (x g : Vec Ideal S2048x128 .f32) (w : Fin 4 → Fin 128 → EReal) (w0 w1 w2 w3 o : Vec Ideal S1x128 .f32)
    (hw : Conv.taps w0 w1 w2 w3 = w) (k : Fin 128) :
    k0_pay1 (F := Ideal) (k0_pay14 (F := Ideal) (k0_pay4 (F := Ideal) x) (k0_pay7 (F := Ideal) x) (k0_pay8 (F := Ideal) w0 w1 w2 x) (k0_pay9 (F := Ideal) w3) g) o (ix2 0 k)
      = o (ix2 0 k) + Conv.dw (fun i => x (ix2 i k))
          (fun i => dpre (fun i l => x (ix2 i l)) (fun i l => g (ix2 i l)) w i k) 1 := by
  subst hw
  rw [pay_tap2]
  simp only [pay_dpre, pay_delay1, Conv.dw]

theorem tap1_at (x g : Vec Ideal S2048x128 .f32) (w : Fin 4 → Fin 128 → EReal) (w0 w1 w2 w3 o : Vec Ideal S1x128 .f32)
    (hw : Conv.taps w0 w1 w2 w3 = w) (k : Fin 128) :
    k0_pay17 (F := Ideal) (k0_pay6 (F := Ideal) x) (k0_pay10 (F := Ideal) (k0_pay4 (F := Ideal) x) (k0_pay8 (F := Ideal) w0 w1 w2 x) (k0_pay9 (F := Ideal) w3) g) o (ix2 0 k)
      = o (ix2 0 k) + Conv.dw (fun i => x (ix2 i k))
          (fun i => dpre (fun i l => x (ix2 i l)) (fun i l => g (ix2 i l)) w i k) 2 := by
  subst hw
  rw [pay_tap1]
  simp only [pay_dpre, pay_delay2, Conv.dw]

theorem tap0_at (x g : Vec Ideal S2048x128 .f32) (w : Fin 4 → Fin 128 → EReal) (w0 w1 w2 w3 o : Vec Ideal S1x128 .f32)
    (hw : Conv.taps w0 w1 w2 w3 = w) (k : Fin 128) :
    k0_pay16 (F := Ideal) (k0_pay5 (F := Ideal) x) (k0_pay10 (F := Ideal) (k0_pay4 (F := Ideal) x) (k0_pay8 (F := Ideal) w0 w1 w2 x) (k0_pay9 (F := Ideal) w3) g) o (ix2 0 k)
      = o (ix2 0 k) + Conv.dw (fun i => x (ix2 i k))
          (fun i => dpre (fun i l => x (ix2 i l)) (fun i l => g (ix2 i l)) w i k) 3 := by
  subst hw
  rw [pay_tap0]
  simp only [pay_dpre, pay_delay3, Conv.dw]

theorem dx_at (x g : Vec Ideal S2048x128 .f32) (w : Fin 4 → Fin 128 → EReal) (w0 w1 w2 w3 : Vec Ideal S1x128 .f32)
    (hw : Conv.taps w0 w1 w2 w3 = w) (n : Fin 2048) (k : Fin 128) :
    k0_pay15 (F := Ideal) w0 w1 (k0_pay10 (F := Ideal) (k0_pay4 (F := Ideal) x) (k0_pay8 (F := Ideal) w0 w1 w2 x) (k0_pay9 (F := Ideal) w3) g)
        (k0_pay11 (F := Ideal) w3 (k0_pay4 (F := Ideal) x) (k0_pay8 (F := Ideal) w0 w1 w2 x) (k0_pay9 (F := Ideal) w3) g)
        (k0_pay13 (F := Ideal) w2 (k0_pay4 (F := Ideal) x) (k0_pay8 (F := Ideal) w0 w1 w2 x) (k0_pay9 (F := Ideal) w3) g)
        (iota .tc S2048x128 32 [0] iota_S2048x128_d0_w32) 2047#32 (ix2 n k)
      = Conv.dx (fun r => w r k) (fun i => dpre (fun i l => x (ix2 i l)) (fun i l => g (ix2 i l)) w i k) n := by
  subst hw
  rw [pay_dx]
  simp only [pay_share3, pay_share2, pay_dpre]
  rfl

theorem zero_at (y : S4x128.Idx) : k0_pay3 (F := Ideal) y = 0 := by
  pointwise [k0_pay3]

theorem taps_A (c : Dev nD) (t : Fin cfg0.N) (even : t.val % 2 = 0) (y : S4x128.Idx) :
    (outsAt0 m c t.val t.isLt).2 y = 0 + part m c t y := by
  rw [outsAt0_A m c t even]
  frame_open
  simp (disch := decide) only [↓ View.readCov_skip, ↓ View.readCov_cons_toLoadRect, ↓ View.readCov_fill]
  frame_out
  refine (Conv.canon_drop _ _ _ _ _ y ?_).trans ?_
  · exact Conv.rows_cover y inb_S4x128_S1x128_0_0 inb_S4x128_S1x128_1_0 inb_S4x128_S1x128_2_0 inb_S4x128_S1x128_3_0
  canon_tiles x h
  · obtain ⟨k, rfl, rfl⟩ := Conv.row_idx y x 3 h0 h1
    exact (tap3_at _ _ _ _ _ _ _ _ (Conv.taps_ld (iblk m c 1 t) _ _ _ _) k).trans
      (congrArg (· + _) ((Conv.row_ld _ 3 _ k).trans (zero_at _)))
  · obtain ⟨k, rfl, rfl⟩ := Conv.row_idx y x 2 h0 h1
    exact (tap2_at _ _ _ _ _ _ _ _ (Conv.taps_ld (iblk m c 1 t) _ _ _ _) k).trans
      (congrArg (· + _) ((Conv.row_ld _ 2 _ k).trans (zero_at _)))
  · obtain ⟨k, rfl, rfl⟩ := Conv.row_idx y x 1 h0 h1
    exact (tap1_at _ _ _ _ _ _ _ _ (Conv.taps_ld (iblk m c 1 t) _ _ _ _) k).trans
      (congrArg (· + _) ((Conv.row_ld _ 1 _ k).trans (zero_at _)))
  · obtain ⟨k, rfl, rfl⟩ := Conv.row_idx y x 0 (by rw [h0]; exact (Nat.zero_add _).symm) h1
    exact (tap0_at _ _ _ _ _ _ _ _ (Conv.taps_ld (iblk m c 1 t) _ _ _ _) k).trans
      (congrArg (· + _) ((Conv.row_ld _ 0 _ k).trans (zero_at _)))

theorem taps_B (c : Dev nD) (t : Fin cfg0.N) (odd : ¬ t.val % 2 = 0) (y : S4x128.Idx) :
    (outsAt0 m c t.val t.isLt).2 y = (outsAt0 m c (t.val - 1) (Nat.lt_of_le_of_lt (Nat.sub_le _ _) t.isLt)).2 y + part m c t y := by
  rw [outsAt0_B m c t odd]
  frame_out
  generalize (outsAt0 m c (t.val - 1) _).2 = o
  canon_tiles x h
  · obtain ⟨k, rfl, rfl⟩ := Conv.row_idx y x 3 h0 h1
    exact (tap3_at _ _ _ _ _ _ _ _ (Conv.taps_ld (iblk m c 1 t) _ _ _ _) k).trans (congrArg (· + _) (Conv.row_ld o 3 _ k))
  · obtain ⟨k, rfl, rfl⟩ := Conv.row_idx y x 2 h0 h1
    exact (tap2_at _ _ _ _ _ _ _ _ (Conv.taps_ld (iblk m c 1 t) _ _ _ _) k).trans (congrArg (· + _) (Conv.row_ld o 2 _ k))
  · obtain ⟨k, rfl, rfl⟩ := Conv.row_idx y x 1 h0 h1
    exact (tap1_at _ _ _ _ _ _ _ _ (Conv.taps_ld (iblk m c 1 t) _ _ _ _) k).trans (congrArg (· + _) (Conv.row_ld o 1 _ k))
  · obtain ⟨k, rfl, rfl⟩ := Conv.row_idx y x 0 (by rw [h0]; exact (Nat.zero_add _).symm) h1
    exact (tap0_at _ _ _ _ _ _ _ _ (Conv.taps_ld (iblk m c 1 t) _ _ _ _) k).trans (congrArg (· + _) (Conv.row_ld o 0 _ k))

theorem dx_blk (c : Dev nD) (t : Fin cfg0.N) (n : Fin 2048) (k : Fin 128) :
    (outsAt0 m c t.val t.isLt).1 (ix2 n k) = Conv.dx (fun r => iblk m c 1 t (ix2 r k)) (fun i => dblk m c t i k) n := by
  by_cases h : t.val % 2 = 0
  · rw [outsAt0_A m c t h]
    frame_out
    exact dx_at _ _ _ _ _ _ _ (Conv.taps_ld (iblk m c 1 t) _ _ _ _) n k
  · rw [outsAt0_B m c t h]
    frame_out
    exact dx_at _ _ _ _ _ _ _ (Conv.taps_ld (iblk m c 1 t) _ _ _ _) n k

end Cert.ConvQIdeal.RefValue

end
-- ==== Proof.ConvQValue.lean ====
module

public import proofs.«01_k».proof.Defs
public import proofs.«01_k».proof.Proof.Gen.ConvQIdeal.Value
public import proofs.«01_k».proof.Proof.Gen.ConvQRefIdeal.Run
public import proofs.«01_k».proof.Proof.Gen.ConvQRefIdeal.Read
public import proofs.«01_k».proof.Proof.ConvQPoint
public import proofs.«01_k».proof.Proof.BigCols
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvQIdeal.RefValue

open Cert Cert.ConvQIdeal Cert.ConvQIdeal.Gen Cert.ConvQRefIdeal.Read

variable (m : (ℓ : Loc nD τ sig) → Buf (Elt Ideal) ℓ)

variable (x0 : FVec Ideal S2x2048x18480 .f32) (x1 : FVec Ideal S4x6144 .f32) (x2 : FVec Ideal S2x2048x2048 .f32)

/-! What the reference computes, lane by lane. -/

/-- The queries' columns of the projection, -/
theorem ref_cols (b : Fin 2) (n q : Fin 2048) (p : Fin 18480) (hp : p.val = 6160 + q.val) :
    val_main_v11 (F := Ideal) x0 (ix3 b n q) = x0 (ix3 b n p) := by
  pointwise [val_main_v11, val_main_v5]
  exact congrArg x0 (congrArg (ix3 b n) (Fin.ext hp.symm))

/-- and of the taps. -/
theorem ref_wcols (r : Fin 4) (q : Fin 2048) (p : Fin 6144) (hp : p.val = q.val) :
    val_main_v12 (F := Ideal) x1 (ix2 r q) = x1 (ix2 r p) := by
  pointwise [val_main_v12]
  exact congrArg x1 (congrArg (ix2 r) (Fin.ext hp.symm))

/-- Every tap reads the lane, delayed. -/
theorem ref_pad (b : Fin 2) (i : Fin 2051) (q : Fin 2048) (s : Nat) (n : Fin 2048) (h : i.val + s = n.val + 3) (hs : s ≤ 3) :
    val_main_v14 (F := Ideal) x0 (ix3 b i q) = Conv.delay (fun i => val_main_v11 (F := Ideal) x0 (ix3 b i q)) s n := by
  pointwise [val_main_v14, val_main_v13, val_main_cst]
  exact Conv.padded (fun i => val_main_v11 (F := Ideal) x0 (ix3 b i q)) s hs i.val n h _

theorem ref_delay3 (b : Fin 2) (n q : Fin 2048) :
    val_main_v16 (F := Ideal) x0 (ix3 b n q) = Conv.delay (fun i => val_main_v11 (F := Ideal) x0 (ix3 b i q)) 3 n := by
  pointwise [val_main_v16]
  exact ref_pad x0 b _ q 3 n (by show n.val + 3 = _; omega) (by omega)

theorem ref_delay2 (b : Fin 2) (n q : Fin 2048) :
    val_main_v24 (F := Ideal) x0 (ix3 b n q) = Conv.delay (fun i => val_main_v11 (F := Ideal) x0 (ix3 b i q)) 2 n := by
  pointwise [val_main_v24]
  exact ref_pad x0 b _ q 2 n (by show 1 + n.val + 2 = _; omega) (by omega)

theorem ref_delay1 (b : Fin 2) (n q : Fin 2048) :
    val_main_v31 (F := Ideal) x0 (ix3 b n q) = Conv.delay (fun i => val_main_v11 (F := Ideal) x0 (ix3 b i q)) 1 n := by
  pointwise [val_main_v31]
  exact ref_pad x0 b _ q 1 n (by show 2 + n.val + 1 = _; omega) (by omega)

theorem ref_delay0 (b : Fin 2) (n q : Fin 2048) :
    val_main_v38 (F := Ideal) x0 (ix3 b n q) = Conv.delay (fun i => val_main_v11 (F := Ideal) x0 (ix3 b i q)) 0 n := by
  pointwise [val_main_v38]
  exact ref_pad x0 b _ q 0 n (by show 3 + n.val + 0 = _; omega) (by omega)

/-- The convolution's output, -/
theorem ref_pre (b : Fin 2) (n q : Fin 2048) :
    val_main_v44 (F := Ideal) x0 x1 (ix3 b n q)
      = Conv.pre (fun i => val_main_v11 (F := Ideal) x0 (ix3 b i q)) (fun r => val_main_v12 (F := Ideal) x1 (ix2 r q)) n := by
  pointwise [val_main_v44, val_main_v43, val_main_v42, val_main_v41, val_main_v40, val_main_v39, val_main_v37, val_main_v36,
    val_main_v35, val_main_v34, val_main_v33, val_main_v32, val_main_v30, val_main_v29, val_main_v28, val_main_v27,
    val_main_v26, val_main_v25, val_main_v23, val_main_v22, val_main_v21, val_main_v20, val_main_v19, val_main_v18,
    val_main_v17, val_main_cst_1]
  rw [ref_delay3, ref_delay2, ref_delay1, ref_delay0, Conv.delay_zero]
  unfold Conv.pre
  simp only [mul_comm]

/-- its activations, by heads, -/
theorem ref_heads (b : Fin 2) (n : Fin 2048) (j : Fin 16) (k : Fin 128) :
    val_main_v46 (F := Ideal) x0 x1 (ix4 b n j k)
      = val_main_v44 (F := Ideal) x0 x1 (ix3 b n (Conv.col j k))
        * Ideal.logistic (val_main_v44 (F := Ideal) x0 x1 (ix3 b n (Conv.col j k))) := by
  pointwise [val_main_v46, val_main_v45_0, val_main_v45_2,
    val_main_call0_v4, val_main_call0_cst_0, val_main_call0_v3,
    val_main_call0_v2, val_main_call0_cst, val_main_call0_v1, val_main_call0_v0]
  rfl

/-- the cotangent by heads, scaled, -/
theorem ref_scaled (b : Fin 2) (n : Fin 2048) (j : Fin 16) (k : Fin 128) :
    val_main_v63 (F := Ideal) x2 (ix4 b n j k) = x2 (ix3 b n (Conv.col j k)) * Ideal.ofBits .f32 0x3DB504F3#32 := by
  pointwise [val_main_v63, val_main_v62, val_main_v61, val_main_cst_6]

/-- A product of two arrays of heads, entry by entry. -/
theorem mul4 (y z : FVec Ideal ConvQRefIdeal.S2x2048x16x128 .f32) (b : Fin 2) (n : Fin 2048) (j : Fin 16) (k : Fin 128) :
    mulf y z (ix4 b n j k) = (fun u v : EReal => u * v) (y (ix4 b n j k)) (z (ix4 b n j k)) := rfl

/-- A sum begun from the constant zero. -/
theorem zero_add' (s : EReal) : FloatOps.addf (F := Ideal) (φ := .f32) (FloatOps.ofBits .f32 0x00000000#32) s = s :=
  (congrArg (· + s) Ideal.ofBits_zero_f32).trans (zero_add s)

/-- the sum of a head's squares, -/
theorem ref_sq (b : Fin 2) (n : Fin 2048) (j : Fin 16) (i : ConvQRefIdeal.S2x2048x16x1.Idx) (hi : idx_main_v49 i = ix3 b n j) :
    val_main_v51 (F := Ideal) x0 x1 i = Conv.sq (fun l => val_main_v46 (F := Ideal) x0 x1 (ix4 b n j l)) := by
  have e : ∀ k, idx_main_v48 (ix3 b n j) k = ix4 b n j k := fun k => by
    funext a; match a with | ⟨0, _⟩ => rfl | ⟨1, _⟩ => rfl | ⟨2, _⟩ => rfl | ⟨3, _⟩ => rfl
  rw [val_main_v51_apply, val_main_v49_apply, hi, val_main_v50_apply, val_main_v48_apply, val_main_cst_2_apply, val_main_cst_3_apply]
  have s : (∑ k : Fin 128, val_main_v47 (F := Ideal) x0 x1 (idx_main_v48 (ix3 b n j) k))
      = ∑ k : Fin 128, (fun u v : EReal => u * v) (val_main_v46 (F := Ideal) x0 x1 (ix4 b n j k)) (val_main_v46 (F := Ideal) x0 x1 (ix4 b n j k)) :=
    Finset.sum_congr rfl fun k _ => by
      rw [e k]
      exact mul4 (val_main_v46 (F := Ideal) x0 x1) (val_main_v46 (F := Ideal) x0 x1) b n j k
  rw [s]
  exact congrArg (· + Ideal.ofBits .f32 0x358637BD#32) (zero_add' _)

/-- what comes back through it, -/
theorem ref_through (b : Fin 2) (n : Fin 2048) (j : Fin 16) :
    val_main_v70 (F := Ideal) x0 x1 x2 (ix3 b n j) = Conv.back (fun l => val_main_v46 (F := Ideal) x0 x1 (ix4 b n j l))
      (fun l => val_main_v63 (F := Ideal) x2 (ix4 b n j l)) := by
  have e : ∀ k, idx_main_v65 (ix3 b n j) k = ix4 b n j k := fun k => by
    funext a; match a with | ⟨0, _⟩ => rfl | ⟨1, _⟩ => rfl | ⟨2, _⟩ => rfl | ⟨3, _⟩ => rfl
  have e' : idx_main_v66 (idx_main_v70 (ix3 b n j) 0) = ix3 b n j := by
    have hb := b.isLt
    have hn := n.isLt
    have hj := j.isLt
    funext a
    match a with
    | ⟨0, _⟩ => exact Fin.ext (by show (((b.val * 2048 + n.val) * 16 + j.val) * 1 + 0) / 32768 = b.val; omega)
    | ⟨1, _⟩ => exact Fin.ext (by show (((b.val * 2048 + n.val) * 16 + j.val) * 1 + 0) / 16 % 2048 = n.val; omega)
    | ⟨2, _⟩ => exact Fin.ext (by show (((b.val * 2048 + n.val) * 16 + j.val) * 1 + 0) % 16 = j.val; omega)
  have s := ref_sq x0 x1 b n j (idx_main_v70 (ix3 b n j) 0) (by funext a; match a with | ⟨0, _⟩ => rfl | ⟨1, _⟩ => rfl | ⟨2, _⟩ => rfl)
  rw [val_main_v70_apply, Fin.sum_univ_one, val_main_v69_apply, val_main_v66_apply, e', val_main_v65_apply, val_main_v55_apply,
    val_main_v54_apply, val_main_v53_apply, val_main_v52_apply, s, val_main_cst_4_apply, val_main_cst_7_apply, val_main_cst_8_apply]
  have s' : (∑ k : Fin 128, val_main_v64 (F := Ideal) x0 x1 x2 (idx_main_v65 (ix3 b n j) k))
      = ∑ k : Fin 128, (fun u v : EReal => u * v) (val_main_v46 (F := Ideal) x0 x1 (ix4 b n j k)) (val_main_v63 (F := Ideal) x2 (ix4 b n j k)) :=
    Finset.sum_congr rfl fun k _ => by
      rw [e k]
      exact mul4 (val_main_v46 (F := Ideal) x0 x1) (val_main_v63 (F := Ideal) x2) b n j k
  rw [s']
  exact (zero_add' _).trans (congrArg (· * (Ideal.ofBits .f32 0xBF000000#32 * Ideal.div (Ideal.rsqrt (Conv.sq fun l => val_main_v46 (F := Ideal) x0 x1 (ix4 b n j l))) (Conv.sq fun l => val_main_v46 (F := Ideal) x0 x1 (ix4 b n j l)))) (zero_add' _))

/-- the gradient of the norm of a head, -/
theorem ref_norm (b : Fin 2) (n : Fin 2048) (j : Fin 16) (k : Fin 128) :
    val_main_v75 (F := Ideal) x0 x1 x2 (ix4 b n j k)
      = Conv.normGrad (fun l => val_main_v46 (F := Ideal) x0 x1 (ix4 b n j l))
        (fun l => val_main_v63 (F := Ideal) x2 (ix4 b n j l)) k := by
  have e : idx_main_v71 (ix4 b n j k) = ix3 b n j := by
    funext a; match a with | ⟨0, _⟩ => rfl | ⟨1, _⟩ => rfl | ⟨2, _⟩ => rfl
  have s := ref_sq x0 x1 b n j (idx_main_v67 (ix4 b n j k)) (by funext a; match a with | ⟨0, _⟩ => rfl | ⟨1, _⟩ => rfl | ⟨2, _⟩ => rfl)
  rw [val_main_v75_apply, val_main_v74_apply, val_main_v73_apply, val_main_v72_apply, val_main_v71_apply, e, ref_through,
    val_main_v68_apply, val_main_v67_apply, val_main_v52_apply, s]
  rfl

/-- set back in the array of lanes, -/
theorem ref_unheads (b : Fin 2) (n : Fin 2048) (j : Fin 16) (k : Fin 128) :
    val_main_v76 (F := Ideal) x0 x1 x2 (ix3 b n (Conv.col j k)) = val_main_v75 (F := Ideal) x0 x1 x2 (ix4 b n j k) := by
  pointwise [val_main_v76]
  congr 2 <;> (apply Fin.ext; simp only []; omega)

theorem ref_back (b : Fin 2) (n q : Fin 2048) :
    val_main_v77 (F := Ideal) x0 x1 x2 (ix3 b n q)
      = Conv.dact (val_main_v44 (F := Ideal) x0 x1 (ix3 b n q)) (val_main_v76 (F := Ideal) x0 x1 x2 (ix3 b n q)) := by
  pointwise [val_main_v77, val_main_call1_v2, val_main_call1_v1, val_main_call1_v0, val_main_v45_1, val_main_v45_2,
    val_main_call0_v7, val_main_call0_v6, val_main_call0_cst_1, val_main_call0_v4, val_main_call0_cst_0, val_main_call0_v3,
    val_main_call0_v2, val_main_call0_cst, val_main_call0_v1, val_main_call0_v0]
  rfl

/-- and the gradient at the convolution's output, of a head. -/
theorem ref_dpre (b : Fin 2) (n : Fin 2048) (j : Fin 16) (k : Fin 128) :
    val_main_v77 (F := Ideal) x0 x1 x2 (ix3 b n (Conv.col j k))
      = dpre (fun i l => val_main_v11 (F := Ideal) x0 (ix3 b i (Conv.col j l))) (fun i l => x2 (ix3 b i (Conv.col j l)))
          (fun r l => val_main_v12 (F := Ideal) x1 (ix2 r (Conv.col j l))) n k := by
  rw [ref_back, ref_unheads, ref_norm, ref_pre]
  simp only [ref_heads, ref_scaled, ref_pre]
  rfl

/-- The gradient of the lane. -/
theorem ref_dx (b : Fin 2) (n q : Fin 2048) :
    val_main_v121 (F := Ideal) x0 x1 x2 (ix3 b n q)
      = Conv.dx (fun r => val_main_v12 (F := Ideal) x1 (ix2 r q)) (fun i => val_main_v77 (F := Ideal) x0 x1 x2 (ix3 b i q)) n := by
  pointwise [val_main_v121, val_main_v119, val_main_v118, val_main_v113, val_main_v112, val_main_v108, val_main_v107,
    val_main_v102, val_main_v101, val_main_v97, val_main_v96, val_main_v91, val_main_v90, val_main_v86, val_main_v82,
    val_main_v81, val_main_cst_12, val_main_cst_16, val_main_cst_20, val_main_cst_24,
    val_main_v41, val_main_v40, val_main_v39, val_main_v34, val_main_v33, val_main_v32, val_main_v27,
    val_main_v26, val_main_v25, val_main_v19, val_main_v18, val_main_v17]
  exact Conv.dx_padded (fun r => val_main_v12 (F := Ideal) x1 (ix2 r q)) (fun i => val_main_v77 (F := Ideal) x0 x1 x2 (ix3 b i q)) n _ _ _

theorem ref_tok (i : S4096x2048.Idx) (b : Fin 2) (n : Fin 2048) (h : (i 0).val = b.val * 2048 + n.val) :
    val_main_v123 (F := Ideal) x0 x1 x2 i = val_main_v121 (F := Ideal) x0 x1 x2 (ix3 b n (i 1)) :=
  Rows.tok_apply (val_main_v121 (F := Ideal) x0 x1 x2) _ i b n h

theorem ref_sum3 (q : Fin 2048) :
    val_main_v83 (F := Ideal) x0 x1 x2 (ix1 q) = ∑ b : Fin 2, Conv.dw (fun i => val_main_v11 (F := Ideal) x0 (ix3 b i q)) (fun i => val_main_v77 (F := Ideal) x0 x1 x2 (ix3 b i q)) 0 := by
  pointwise [val_main_v83, val_main_v80, val_main_cst_10, val_main_v79, val_main_cst_9, val_main_v78, Cert.Sums.hostReduceAdd_lead]
  simp only [Finset.univ_unique, Finset.sum_singleton]
  exact Conv.dw_sum 0 _ _ _ fun b n => ref_delay0 x0 b n q

theorem ref_sum2 (q : Fin 2048) :
    val_main_v92 (F := Ideal) x0 x1 x2 (ix1 q) = ∑ b : Fin 2, Conv.dw (fun i => val_main_v11 (F := Ideal) x0 (ix3 b i q)) (fun i => val_main_v77 (F := Ideal) x0 x1 x2 (ix3 b i q)) 1 := by
  pointwise [val_main_v92, val_main_v89, val_main_cst_14, val_main_v88, val_main_cst_13, val_main_v87, Cert.Sums.hostReduceAdd_lead]
  simp only [Finset.univ_unique, Finset.sum_singleton]
  exact Conv.dw_sum 1 _ _ _ fun b n => ref_delay1 x0 b n q

theorem ref_sum1 (q : Fin 2048) :
    val_main_v103 (F := Ideal) x0 x1 x2 (ix1 q) = ∑ b : Fin 2, Conv.dw (fun i => val_main_v11 (F := Ideal) x0 (ix3 b i q)) (fun i => val_main_v77 (F := Ideal) x0 x1 x2 (ix3 b i q)) 2 := by
  pointwise [val_main_v103, val_main_v100, val_main_cst_18, val_main_v99, val_main_cst_17, val_main_v98, Cert.Sums.hostReduceAdd_lead]
  simp only [Finset.univ_unique, Finset.sum_singleton]
  exact Conv.dw_sum 2 _ _ _ fun b n => ref_delay2 x0 b n q

theorem ref_sum0 (q : Fin 2048) :
    val_main_v114 (F := Ideal) x0 x1 x2 (ix1 q) = ∑ b : Fin 2, Conv.dw (fun i => val_main_v11 (F := Ideal) x0 (ix3 b i q)) (fun i => val_main_v77 (F := Ideal) x0 x1 x2 (ix3 b i q)) 3 := by
  pointwise [val_main_v114, val_main_v111, val_main_cst_22, val_main_v110, val_main_cst_21, val_main_v109, Cert.Sums.hostReduceAdd_lead]
  simp only [Finset.univ_unique, Finset.sum_singleton]
  exact Conv.dw_sum 3 _ _ _ fun b n => ref_delay3 x0 b n q

/-- The gradient of the taps. -/
theorem ref_dw (r : Fin 4) (q : Fin 2048) :
    val_main_v117 (F := Ideal) x0 x1 x2 (ix2 r q) = ∑ b : Fin 2, Conv.dw (fun i => val_main_v11 (F := Ideal) x0 (ix3 b i q)) (fun i => val_main_v77 (F := Ideal) x0 x1 x2 (ix3 b i q)) (3 - r.val) := by
  pointwise [val_main_v117, val_main_v116, val_main_v106, val_main_v105, val_main_v95, val_main_v94, val_main_v85,
    val_main_cst_11, val_main_cst_15, val_main_cst_19, val_main_cst_23, val_main_v84, val_main_v93, val_main_v104, val_main_v115]
  simp only [ref_sum3, ref_sum2, ref_sum1, ref_sum0]
  exact Conv.rows_padded (fun s => ∑ b : Fin 2, Conv.dw (fun i => val_main_v11 (F := Ideal) x0 (ix3 b i q)) (fun i => val_main_v77 (F := Ideal) x0 x1 x2 (ix3 b i q)) s)
    r _ _ _ _ (by omega) (by omega) (by omega) (by omega)

/-! What the kernel reads, and its results. -/

abbrev Z (c : Dev nD) : FVec Ideal S2x2048x18480 .f32 := m ((c : Thread nD τ).loc main_arg0)
abbrev W (c : Dev nD) : FVec Ideal S4x6144 .f32 := m ((c : Thread nD τ).loc main_arg1)
abbrev CT (c : Dev nD) : FVec Ideal S2x2048x2048 .f32 := m ((c : Thread nD τ).loc main_arg2)

/-- A point's batch and head. -/
abbrev bat (t : Fin cfg0.N) : Fin 2 := ⟨t.val % 2, Nat.mod_lt _ (by omega)⟩
abbrev hd (t : Fin cfg0.N) : Fin 16 := ⟨t.val / 2, by have := (idx t).2.2.2.2.2; omega⟩

theorem emb0 (t : Fin cfg0.N) (n : Fin 2048) (k : Fin 128) :
    (((((cfg0.win 0).blk t).view.emb (ix2 n k)) 0).val = (bat t).val * 2048 + n.val)
      ∧ ((((cfg0.win 0).blk t).view.emb (ix2 n k)) 1).val = 6144 + (t.val / 2 * 128 + k.val) := by
  constructor
  · blk_simp [idx t]
  · blk_simp [idx t]
    omega

theorem blk_z (c : Dev nD) (t : Fin cfg0.N) (n : Fin 2048) (k : Fin 128) :
    iblk m c 0 t (ix2 n k) = val_main_v11 (F := Ideal) (Z m c) (ix3 (bat t) n (Conv.col (hd t) k)) := by
  have hT := (idx t).2.2.2.2.2
  have hk := k.isLt
  rw [ref_cols (Z m c) _ _ _ ⟨6160 + (t.val / 2 * 128 + k.val), by omega⟩ rfl]
  have e : V m c main_v5 = concatenate S4096x18432 1
      [⟨S4096x6144, extractStridedSlice S4096x6144 ![0, 0] (shapeCast S4096x18480 (Z m c) shapeCasts_S2x2048x18480_S4096x18480) slices_S4096x18480_S4096x6144_0_0⟩,
       ⟨S4096x6144, extractStridedSlice S4096x6144 ![0, 6160] (shapeCast S4096x18480 (Z m c) shapeCasts_S2x2048x18480_S4096x18480) slices_S4096x18480_S4096x6144_0_6160⟩,
       ⟨S4096x2048, extractStridedSlice S4096x2048 ![0, 12304] (shapeCast S4096x18480 (Z m c) shapeCasts_S2x2048x18480_S4096x18480) slices_S4096x18480_S4096x2048_0_12304⟩,
       ⟨S4096x4096, extractStridedSlice S4096x4096 ![0, 14384] (shapeCast S4096x18480 (Z m c) shapeCasts_S2x2048x18480_S4096x18480) slices_S4096x18480_S4096x4096_0_14384⟩]
      concatenates_S4096x6144_S4096x6144_S4096x2048_S4096x4096_S4096x18432_d1 := by
    unfold V
    after_results
    try rfl
  show V m c main_v5 (((cfg0.win 0).blk t).view.emb (ix2 n k)) = _
  rw [e]
  exact BigCols.apply (Z m c) _ _ _ _ _ _ _ (bat t) n _ (emb0 t n k).1 (Or.inr (Or.inl (by
    rw [(emb0 t n k).2]
    show _ ∧ _ ∧ 6160 + (t.val / 2 * 128 + k.val) = _
    omega)))

theorem blk_w (c : Dev nD) (t : Fin cfg0.N) (r : Fin 4) (k : Fin 128) :
    iblk m c 1 t (ix2 r k) = val_main_v12 (F := Ideal) (W m c) (ix2 r (Conv.col (hd t) k)) := by
  have hT := (idx t).2.2.2.2.2
  have hk := k.isLt
  rw [ref_wcols (W m c) _ _ ⟨t.val / 2 * 128 + k.val, by omega⟩ rfl]
  blk_ext [iblk, V, idx t]

theorem blk_ct (c : Dev nD) (t : Fin cfg0.N) (n : Fin 2048) (k : Fin 128) :
    iblk m c 2 t (ix2 n k) = CT m c (ix3 (bat t) n (Conv.col (hd t) k)) := by
  have e : V m c main_v10 = shapeCast S4096x2048 (CT m c) shapeCasts_S2x2048x2048_S4096x2048 := by
    entry_read
    rfl
  blk_simp [iblk, idx t]
  rw [e, Rows.tok_apply _ _ _ (bat t) n (by blk_simp [idx t])]
  blk_ext [idx t]

/-- A point's gradient at the convolution's output is the reference's. -/
theorem dblk_eq (c : Dev nD) (t : Fin cfg0.N) (n : Fin 2048) (k : Fin 128) :
    dblk m c t n k = val_main_v77 (F := Ideal) (Z m c) (W m c) (CT m c) (ix3 (bat t) n (Conv.col (hd t) k)) := by
  rw [ref_dpre]
  unfold dblk
  simp only [blk_z, blk_w, blk_ct]

theorem emb3 (t : Fin cfg0.N) (n : Fin 2048) (k : Fin 128) :
    (((((cfg0.win 3).blk t).view.emb (ix2 n k)) 0).val = (bat t).val * 2048 + n.val)
      ∧ (((cfg0.win 3).blk t).view.emb (ix2 n k)) 1 = Conv.col (hd t) k := by
  constructor
  · blk_simp [idx t]
  · apply Fin.ext
    blk_simp [idx t]

theorem emb4 (t : Fin cfg0.N) (r : Fin 4) (k : Fin 128) :
    ((cfg0.win 4).blk t).view.emb (ix2 r k) = ix2 r (Conv.col (hd t) k) := by
  blk_ext [idx t]

/-- A grid point's part of the taps' gradient, in the reference's arrays. -/
theorem part_eq (c : Dev nD) (t : Fin cfg0.N) (r : Fin 4) (k : Fin 128) :
    part m c t (ix2 r k) = Conv.dw (fun i => val_main_v11 (F := Ideal) (Z m c) (ix3 (bat t) i (Conv.col (hd t) k)))
      (fun i => val_main_v77 (F := Ideal) (Z m c) (W m c) (CT m c) (ix3 (bat t) i (Conv.col (hd t) k))) (3 - r.val) := by
  rw [← funext fun i => blk_z m c t i k, ← funext fun i => dblk_eq m c t i k]
  rfl

/-- The gradient of the queries' columns. -/
theorem final3 (c : Dev nD) : (dats m 0 c).arrAt 3 (cfgs 0).N
    = val_main_v123 (F := Ideal) (Z m c) (W m c) (CT m c) := by
  refine (dats m 0 c).arrAt_eq_of_covers 3 _ (by decide +kernel) fun t _ y => ?_
  obtain ⟨n, k, rfl⟩ : ∃ n k, y = ix2 n k := ⟨y 0, y 1, by idx_vars y⟩
  blk_simp
  rw [after0_3, dx_blk, ref_tok _ _ _ _ (bat t) n (emb3 t n k).1, (emb3 t n k).2, ref_dx]
  simp only [blk_w, dblk_eq]

/-- The gradient of the queries' taps. -/
theorem final4 (c : Dev nD) : (dats m 0 c).arrAt 4 (cfgs 0).N
    = val_main_v117 (F := Ideal) (Z m c) (W m c) (CT m c) := by
  refine (dats m 0 c).arrAt_eq_of_covers 4 _ (by decide +kernel) fun t hf y => ?_
  blk_simp
  rw [after0_4, Pipeline.eq_sum_fin_of_reset_step_apply_of_flush (fun n h => (outsAt0 m c n h).2) 2 (fun _ => 0) _
    (fun t h j => taps_A m c t h j) (fun t h j => taps_B m c t h j) t ((flush0_4 t).mp hf) _, zero_add]
  obtain ⟨r, k, rfl⟩ : ∃ r k, y = ix2 r k := ⟨y 0, y 1, by idx_vars y⟩
  refine Eq.trans ?_ ((congrArg (val_main_v117 (F := Ideal) (Z m c) (W m c) (CT m c)) (emb4 t r k)).trans (ref_dw _ _ _ r _)).symm
  refine Fin.sum_fin_congr fun s => ?_
  have hb : bat ⟨2 * (t.val / 2) + s.val, Pipeline.run_point_lt_of_flush t ((flush0_4 t).mp hf) s⟩ = s :=
    Fin.ext (by show (2 * (t.val / 2) + s.val) % 2 = s.val; omega)
  have hh : hd ⟨2 * (t.val / 2) + s.val, Pipeline.run_point_lt_of_flush t ((flush0_4 t).mp hf) s⟩ = hd t :=
    Fin.ext (by show (2 * (t.val / 2) + s.val) / 2 = t.val / 2; omega)
  exact (part_eq m c _ r k).trans (by rw [hb, hh])

end Cert.ConvQIdeal.RefValue

end
-- ==== Proof.ConvQClaim.lean ====
/- The claims about the gradient of the queries' convolution: the reference runs and leaves its arguments as
   they are, and the kernel's results are the reference's. -/
module

public import proofs.«01_k».proof.Proof.ConvQValue

@[expose] public section

set_option maxRecDepth 16384

noncomputable section

open Idealize.ShloMosaic Idealize.ShloMosaic.TcCoe Idealize.SL.Sem

namespace Cert.ConvQIdeal.RefValue

open Cert.ConvQRefIdeal.Read

instance factsK : Cert.ConvQIdeal.Facts := Cert.ConvQIdeal.Gen.facts
instance factsR : Cert.ConvQRefIdeal.Facts := Cert.ConvQRefIdeal.Gen.facts

/-- The reference runs, leaves its arguments as they are and declares no semaphore. -/
theorem frame_ref : Cert.quiescent_ConvQRefIdeal := fun m g _ =>
  (θ_run _ _ _).mono (fun r h => ⟨fun c => (h c).2.2, sem_eq_zero_of_no_sems rfl _⟩)
    (Cert.ConvQRefIdeal.Value.run m g)

set_option maxHeartbeats 1000000 in
/-- The kernel's results are the reference's. -/
theorem algebraic : Cert.algebraic_ConvQIdeal_ConvQRefIdeal := by
  pair_intro
  · run_from Cert.ConvQIdeal.Gen.run_main m g
  refine (θ_run _ _ _).mono (fun r h c => ?_) (Cert.ConvQRefIdeal.Value.run m' g')
  obtain ⟨a0, a1, a2⟩ := hagree c
  refine ⟨((h c).1.trans (val_main_v123_eq (StableHlo.launchContents m' c))).trans ?_,
    ((h c).2.1.trans (val_main_v117_eq (StableHlo.launchContents m' c))).trans ?_, (h c).2.2⟩
  · simp only [a0, a1, a2]
    exact (final3 m c).symm
  · simp only [a0, a1, a2]
    exact (final4 m c).symm

end Cert.ConvQIdeal.RefValue

end
-- ==== Proof.ConvKPoint.lean ====
module

public import proofs.«01_k».proof.Defs
public import proofs.«01_k».proof.Proof.Gen.ConvKIdeal.Value
public import proofs.«01_k».proof.Proof.Sums
public import proofs.«01_k».proof.Proof.Rows
public import proofs.«01_k».proof.Proof.ConvMath
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvKIdeal.RefValue

open Cert Cert.ConvKIdeal Cert.ConvKIdeal.Gen

variable (m : (ℓ : Loc nD τ sig) → Buf (Elt Ideal) ℓ)

/-- The gradient at the convolution's output, before the activation: the head's normalised keys. -/
def dpre (x g : Fin 2048 → Fin 128 → EReal) (w : Fin 4 → Fin 128 → EReal) (n : Fin 2048) (k : Fin 128) : EReal :=
  Conv.dact (Conv.preL x w n k)
    (Conv.normGrad (Conv.act x w n) (g n) k)

theorem pay_delay3 (x : Vec Ideal S2048x128 .f32) (n : Fin 2048) (k : Fin 128) :
    k0_pay5 (F := Ideal) x (ix2 n k) = Conv.delay (fun i => x (ix2 i k)) 3 n := by
  pointwise [k0_pay5, k0_pay4]
  exact Conv.select_delay (fun i => x (ix2 i k)) 3 (by omega) n (Nat.mod_lt _ (by omega))

theorem pay_delay2 (x : Vec Ideal S2048x128 .f32) (n : Fin 2048) (k : Fin 128) :
    k0_pay6 (F := Ideal) x (ix2 n k) = Conv.delay (fun i => x (ix2 i k)) 2 n := by
  pointwise [k0_pay6, k0_pay4]
  exact Conv.select_delay (fun i => x (ix2 i k)) 2 (by omega) n (Nat.mod_lt _ (by omega))

theorem pay_delay1 (x : Vec Ideal S2048x128 .f32) (n : Fin 2048) (k : Fin 128) :
    k0_pay7 (F := Ideal) x (ix2 n k) = Conv.delay (fun i => x (ix2 i k)) 1 n := by
  pointwise [k0_pay7, k0_pay4]
  exact Conv.select_delay (fun i => x (ix2 i k)) 1 (by omega) n (Nat.mod_lt _ (by omega))

theorem pay_lane (x : Vec Ideal S2048x128 .f32) (n : Fin 2048) (k : Fin 128) :
    k0_pay4 (F := Ideal) x (ix2 n k) = x (ix2 n k) := by
  pointwise [k0_pay4]

theorem pay_taps (w0 w1 w2 : Vec Ideal S1x128 .f32) (x : Vec Ideal S2048x128 .f32) (n : Fin 2048) (k : Fin 128) :
    k0_pay8 (F := Ideal) w0 w1 w2 x (ix2 n k)
      = w0 (ix2 0 k) * k0_pay5 (F := Ideal) x (ix2 n k) + w1 (ix2 0 k) * k0_pay6 (F := Ideal) x (ix2 n k)
        + w2 (ix2 0 k) * k0_pay7 (F := Ideal) x (ix2 n k) := by
  pointwise [k0_pay8]

theorem pay_back (x s w g : Vec Ideal S2048x128 .f32) (n : Fin 2048) (k : Fin 128) :
    k0_pay10 (F := Ideal) x s w g (ix2 n k)
      = Conv.dact (s (ix2 n k) + w (ix2 n k) * x (ix2 n k))
        (Conv.normGrad (fun l => (s (ix2 n l) + w (ix2 n l) * x (ix2 n l))
            * Ideal.logistic (s (ix2 n l) + w (ix2 n l) * x (ix2 n l)))
          (fun l => g (ix2 n l)) k) := by
  pointwise [k0_pay10]
  simp only [Finset.univ_unique, Finset.sum_singleton, mul_one]
  rfl

theorem pay_dpre (x g : Vec Ideal S2048x128 .f32) (w0 w1 w2 w3 : Vec Ideal S1x128 .f32) (n : Fin 2048) (k : Fin 128) :
    k0_pay10 (F := Ideal) (k0_pay4 (F := Ideal) x) (k0_pay8 (F := Ideal) w0 w1 w2 x) (k0_pay9 (F := Ideal) w3) g (ix2 n k)
      = dpre (fun i l => x (ix2 i l)) (fun i l => g (ix2 i l)) (Conv.taps w0 w1 w2 w3) n k := by
  have e : ∀ l : Fin 128, k0_pay8 (F := Ideal) w0 w1 w2 x (ix2 n l)
      + k0_pay9 (F := Ideal) w3 (ix2 n l) * k0_pay4 (F := Ideal) x (ix2 n l)
      = Conv.preL (fun i l => x (ix2 i l)) (Conv.taps w0 w1 w2 w3) n l := fun l => by
    rw [pay_taps, pay_delay3, pay_delay2, pay_delay1, pay_lane]
    pointwise [k0_pay9]
    rfl
  rw [pay_back]
  simp only [e]
  rfl

/-- The first result's block: the lane's share of each tap, later positions advanced. -/
theorem pay_dx (w0 w1 : Vec Ideal S1x128 .f32) (d a b : Vec Ideal S2048x128 .f32) (n : Fin 2048) (k : Fin 128) :
    k0_pay15 (F := Ideal) w0 w1 d a b (iota .tc S2048x128 32 [0] iota_S2048x128_d0_w32) 2047#32 (ix2 n k)
      = a (ix2 n k) + Conv.ahead (fun i => b (ix2 i k)) 1 n
        + Conv.ahead (fun i => w1 (ix2 0 k) * d (ix2 i k)) 2 n + Conv.ahead (fun i => w0 (ix2 0 k) * d (ix2 i k)) 3 n := by
  pointwise [k0_pay15]
  rw [← Conv.select_ahead (fun i => b (ix2 i k)) 1 (by omega) n (Nat.mod_lt _ (by omega)),
    ← Conv.select_ahead (fun i => w1 (ix2 0 k) * d (ix2 i k)) 2 (by omega) n (Nat.mod_lt _ (by omega)),
    ← Conv.select_ahead (fun i => w0 (ix2 0 k) * d (ix2 i k)) 3 (by omega) n (Nat.mod_lt _ (by omega))]

/-- A tap's share times the gradient before the activation. -/
theorem pay_share3 (w3 : Vec Ideal S1x128 .f32) (x s w g : Vec Ideal S2048x128 .f32) (n : Fin 2048) (k : Fin 128) :
    k0_pay11 (F := Ideal) w3 x s w g (ix2 n k) = w3 (ix2 0 k) * k0_pay10 (F := Ideal) x s w g (ix2 n k) := by
  pointwise [k0_pay11]

theorem pay_share2 (w2 : Vec Ideal S1x128 .f32) (x s w g : Vec Ideal S2048x128 .f32) (n : Fin 2048) (k : Fin 128) :
    k0_pay13 (F := Ideal) w2 x s w g (ix2 n k) = w2 (ix2 0 k) * k0_pay10 (F := Ideal) x s w g (ix2 n k) := by
  pointwise [k0_pay13]

/-- A point's part of the gradient of each tap, added to what the buffer held. -/
theorem pay_tap3 (x s w g : Vec Ideal S2048x128 .f32) (o : Vec Ideal S1x128 .f32) (k : Fin 128) :
    k0_pay2 (F := Ideal) (k0_pay12 (F := Ideal) x s w g) o (ix2 0 k)
      = o (ix2 0 k) + ∑ n : Fin 2048, k0_pay10 (F := Ideal) x s w g (ix2 n k) * x (ix2 n k) := by
  pointwise [k0_pay2, k0_pay12]

theorem pay_tap2 (x y s w g : Vec Ideal S2048x128 .f32) (o : Vec Ideal S1x128 .f32) (k : Fin 128) :
    k0_pay1 (F := Ideal) (k0_pay14 (F := Ideal) x y s w g) o (ix2 0 k)
      = o (ix2 0 k) + ∑ n : Fin 2048, k0_pay10 (F := Ideal) x s w g (ix2 n k) * y (ix2 n k) := by
  pointwise [k0_pay1, k0_pay14]

theorem pay_tap1 (y d : Vec Ideal S2048x128 .f32) (o : Vec Ideal S1x128 .f32) (k : Fin 128) :
    k0_pay17 (F := Ideal) y d o (ix2 0 k) = o (ix2 0 k) + ∑ n : Fin 2048, d (ix2 n k) * y (ix2 n k) := by
  pointwise [k0_pay17]

theorem pay_tap0 (y d : Vec Ideal S2048x128 .f32) (o : Vec Ideal S1x128 .f32) (k : Fin 128) :
    k0_pay16 (F := Ideal) y d o (ix2 0 k) = o (ix2 0 k) + ∑ n : Fin 2048, d (ix2 n k) * y (ix2 n k) := by
  pointwise [k0_pay16]

/-- The windows' block indices at every grid point. -/
theorem idx : ∀ t : Fin cfg0.N, win0_0.index t = ![t.val % 2, 64 + t.val / 2] ∧ win0_1.index t = ![0, 16 + t.val / 2]
    ∧ win0_2.index t = ![t.val % 2, t.val / 2] ∧ win0_3.index t = ![t.val % 2, t.val / 2]
    ∧ win0_4.index t = ![0, t.val / 2] ∧ t.val < 32 :=
  (by decide +kernel : ∀ t : Fin grid0.N, _)

/-- A grid point's gradient before the activation, from the blocks it reads. -/
abbrev dblk (c : Dev nD) (t : Fin cfg0.N) : Fin 2048 → Fin 128 → EReal :=
  dpre (fun i l => iblk m c 0 t (ix2 i l)) (fun i l => iblk m c 2 t (ix2 i l)) (fun r l => iblk m c 1 t (ix2 r l))

/-- A grid point's part of the taps' gradient. -/
def part (c : Dev nD) (t : Fin cfg0.N) (y : S4x128.Idx) : EReal :=
  Conv.dw (fun i => iblk m c 0 t (ix2 i (y 1))) (fun i => dblk m c t i (y 1)) (3 - (y 0).val)

theorem tap3_at (x g : Vec Ideal S2048x128 .f32) (w : Fin 4 → Fin 128 → EReal) (w0 w1 w2 w3 o : Vec Ideal S1x128 .f32)
    (hw : Conv.taps w0 w1 w2 w3 = w) (k : Fin 128) :
    k0_pay2 (F := Ideal) (k0_pay12 (F := Ideal) (k0_pay4 (F := Ideal) x) (k0_pay8 (F := Ideal) w0 w1 w2 x) (k0_pay9 (F := Ideal) w3) g) o (ix2 0 k)
      = o (ix2 0 k) + Conv.dw (fun i => x (ix2 i k))
          (fun i => dpre (fun i l => x (ix2 i l)) (fun i l => g (ix2 i l)) w i k) 0 := by
  subst hw
  rw [pay_tap3]
  simp only [pay_dpre, pay_lane, Conv.dw, Conv.delay_zero]

theorem tap2_at (x g : Vec Ideal S2048x128 .f32) (w : Fin 4 → Fin 128 → EReal) (w0 w1 w2 w3 o : Vec Ideal S1x128 .f32)
    (hw : Conv.taps w0 w1 w2 w3 = w) (k : Fin 128) :
    k0_pay1 (F := Ideal) (k0_pay14 (F := Ideal) (k0_pay4 (F := Ideal) x) (k0_pay7 (F := Ideal) x) (k0_pay8 (F := Ideal) w0 w1 w2 x) (k0_pay9 (F := Ideal) w3) g) o (ix2 0 k)
      = o (ix2 0 k) + Conv.dw (fun i => x (ix2 i k))
          (fun i => dpre (fun i l => x (ix2 i l)) (fun i l => g (ix2 i l)) w i k) 1 := by
  subst hw
  rw [pay_tap2]
  simp only [pay_dpre, pay_delay1, Conv.dw]

theorem tap1_at (x g : Vec Ideal S2048x128 .f32) (w : Fin 4 → Fin 128 → EReal) (w0 w1 w2 w3 o : Vec Ideal S1x128 .f32)
    (hw : Conv.taps w0 w1 w2 w3 = w) (k : Fin 128) :
    k0_pay17 (F := Ideal) (k0_pay6 (F := Ideal) x) (k0_pay10 (F := Ideal) (k0_pay4 (F := Ideal) x) (k0_pay8 (F := Ideal) w0 w1 w2 x) (k0_pay9 (F := Ideal) w3) g) o (ix2 0 k)
      = o (ix2 0 k) + Conv.dw (fun i => x (ix2 i k))
          (fun i => dpre (fun i l => x (ix2 i l)) (fun i l => g (ix2 i l)) w i k) 2 := by
  subst hw
  rw [pay_tap1]
  simp only [pay_dpre, pay_delay2, Conv.dw]

theorem tap0_at (x g : Vec Ideal S2048x128 .f32) (w : Fin 4 → Fin 128 → EReal) (w0 w1 w2 w3 o : Vec Ideal S1x128 .f32)
    (hw : Conv.taps w0 w1 w2 w3 = w) (k : Fin 128) :
    k0_pay16 (F := Ideal) (k0_pay5 (F := Ideal) x) (k0_pay10 (F := Ideal) (k0_pay4 (F := Ideal) x) (k0_pay8 (F := Ideal) w0 w1 w2 x) (k0_pay9 (F := Ideal) w3) g) o (ix2 0 k)
      = o (ix2 0 k) + Conv.dw (fun i => x (ix2 i k))
          (fun i => dpre (fun i l => x (ix2 i l)) (fun i l => g (ix2 i l)) w i k) 3 := by
  subst hw
  rw [pay_tap0]
  simp only [pay_dpre, pay_delay3, Conv.dw]

theorem dx_at (x g : Vec Ideal S2048x128 .f32) (w : Fin 4 → Fin 128 → EReal) (w0 w1 w2 w3 : Vec Ideal S1x128 .f32)
    (hw : Conv.taps w0 w1 w2 w3 = w) (n : Fin 2048) (k : Fin 128) :
    k0_pay15 (F := Ideal) w0 w1 (k0_pay10 (F := Ideal) (k0_pay4 (F := Ideal) x) (k0_pay8 (F := Ideal) w0 w1 w2 x) (k0_pay9 (F := Ideal) w3) g)
        (k0_pay11 (F := Ideal) w3 (k0_pay4 (F := Ideal) x) (k0_pay8 (F := Ideal) w0 w1 w2 x) (k0_pay9 (F := Ideal) w3) g)
        (k0_pay13 (F := Ideal) w2 (k0_pay4 (F := Ideal) x) (k0_pay8 (F := Ideal) w0 w1 w2 x) (k0_pay9 (F := Ideal) w3) g)
        (iota .tc S2048x128 32 [0] iota_S2048x128_d0_w32) 2047#32 (ix2 n k)
      = Conv.dx (fun r => w r k) (fun i => dpre (fun i l => x (ix2 i l)) (fun i l => g (ix2 i l)) w i k) n := by
  subst hw
  rw [pay_dx]
  simp only [pay_share3, pay_share2, pay_dpre]
  rfl

theorem zero_at (y : S4x128.Idx) : k0_pay3 (F := Ideal) y = 0 := by
  pointwise [k0_pay3]

theorem taps_A (c : Dev nD) (t : Fin cfg0.N) (even : t.val % 2 = 0) (y : S4x128.Idx) :
    (outsAt0 m c t.val t.isLt).2 y = 0 + part m c t y := by
  rw [outsAt0_A m c t even]
  frame_open
  simp (disch := decide) only [↓ View.readCov_skip, ↓ View.readCov_cons_toLoadRect, ↓ View.readCov_fill]
  frame_out
  refine (Conv.canon_drop _ _ _ _ _ y ?_).trans ?_
  · exact Conv.rows_cover y inb_S4x128_S1x128_0_0 inb_S4x128_S1x128_1_0 inb_S4x128_S1x128_2_0 inb_S4x128_S1x128_3_0
  canon_tiles x h
  · obtain ⟨k, rfl, rfl⟩ := Conv.row_idx y x 3 h0 h1
    exact (tap3_at _ _ _ _ _ _ _ _ (Conv.taps_ld (iblk m c 1 t) _ _ _ _) k).trans
      (congrArg (· + _) ((Conv.row_ld _ 3 _ k).trans (zero_at _)))
  · obtain ⟨k, rfl, rfl⟩ := Conv.row_idx y x 2 h0 h1
    exact (tap2_at _ _ _ _ _ _ _ _ (Conv.taps_ld (iblk m c 1 t) _ _ _ _) k).trans
      (congrArg (· + _) ((Conv.row_ld _ 2 _ k).trans (zero_at _)))
  · obtain ⟨k, rfl, rfl⟩ := Conv.row_idx y x 1 h0 h1
    exact (tap1_at _ _ _ _ _ _ _ _ (Conv.taps_ld (iblk m c 1 t) _ _ _ _) k).trans
      (congrArg (· + _) ((Conv.row_ld _ 1 _ k).trans (zero_at _)))
  · obtain ⟨k, rfl, rfl⟩ := Conv.row_idx y x 0 (by rw [h0]; exact (Nat.zero_add _).symm) h1
    exact (tap0_at _ _ _ _ _ _ _ _ (Conv.taps_ld (iblk m c 1 t) _ _ _ _) k).trans
      (congrArg (· + _) ((Conv.row_ld _ 0 _ k).trans (zero_at _)))

theorem taps_B (c : Dev nD) (t : Fin cfg0.N) (odd : ¬ t.val % 2 = 0) (y : S4x128.Idx) :
    (outsAt0 m c t.val t.isLt).2 y = (outsAt0 m c (t.val - 1) (Nat.lt_of_le_of_lt (Nat.sub_le _ _) t.isLt)).2 y + part m c t y := by
  rw [outsAt0_B m c t odd]
  frame_out
  generalize (outsAt0 m c (t.val - 1) _).2 = o
  canon_tiles x h
  · obtain ⟨k, rfl, rfl⟩ := Conv.row_idx y x 3 h0 h1
    exact (tap3_at _ _ _ _ _ _ _ _ (Conv.taps_ld (iblk m c 1 t) _ _ _ _) k).trans (congrArg (· + _) (Conv.row_ld o 3 _ k))
  · obtain ⟨k, rfl, rfl⟩ := Conv.row_idx y x 2 h0 h1
    exact (tap2_at _ _ _ _ _ _ _ _ (Conv.taps_ld (iblk m c 1 t) _ _ _ _) k).trans (congrArg (· + _) (Conv.row_ld o 2 _ k))
  · obtain ⟨k, rfl, rfl⟩ := Conv.row_idx y x 1 h0 h1
    exact (tap1_at _ _ _ _ _ _ _ _ (Conv.taps_ld (iblk m c 1 t) _ _ _ _) k).trans (congrArg (· + _) (Conv.row_ld o 1 _ k))
  · obtain ⟨k, rfl, rfl⟩ := Conv.row_idx y x 0 (by rw [h0]; exact (Nat.zero_add _).symm) h1
    exact (tap0_at _ _ _ _ _ _ _ _ (Conv.taps_ld (iblk m c 1 t) _ _ _ _) k).trans (congrArg (· + _) (Conv.row_ld o 0 _ k))

theorem dx_blk (c : Dev nD) (t : Fin cfg0.N) (n : Fin 2048) (k : Fin 128) :
    (outsAt0 m c t.val t.isLt).1 (ix2 n k) = Conv.dx (fun r => iblk m c 1 t (ix2 r k)) (fun i => dblk m c t i k) n := by
  by_cases h : t.val % 2 = 0
  · rw [outsAt0_A m c t h]
    frame_out
    exact dx_at _ _ _ _ _ _ _ (Conv.taps_ld (iblk m c 1 t) _ _ _ _) n k
  · rw [outsAt0_B m c t h]
    frame_out
    exact dx_at _ _ _ _ _ _ _ (Conv.taps_ld (iblk m c 1 t) _ _ _ _) n k

end Cert.ConvKIdeal.RefValue

end
-- ==== Proof.ConvKValue.lean ====
module

public import proofs.«01_k».proof.Defs
public import proofs.«01_k».proof.Proof.Gen.ConvKIdeal.Value
public import proofs.«01_k».proof.Proof.Gen.ConvKRefIdeal.Run
public import proofs.«01_k».proof.Proof.Gen.ConvKRefIdeal.Read
public import proofs.«01_k».proof.Proof.ConvKPoint
public import proofs.«01_k».proof.Proof.BigCols
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvKIdeal.RefValue

open Cert Cert.ConvKIdeal Cert.ConvKIdeal.Gen Cert.ConvKRefIdeal.Read

variable (m : (ℓ : Loc nD τ sig) → Buf (Elt Ideal) ℓ)

variable (x0 : FVec Ideal S2x2048x18480 .f32) (x1 : FVec Ideal S4x6144 .f32) (x2 : FVec Ideal S2x2048x2048 .f32)

/-! What the reference computes, lane by lane. -/

/-- The keys' columns of the projection, -/
theorem ref_cols (b : Fin 2) (n q : Fin 2048) (p : Fin 18480) (hp : p.val = 8208 + q.val) :
    val_main_v11 (F := Ideal) x0 (ix3 b n q) = x0 (ix3 b n p) := by
  pointwise [val_main_v11, val_main_v5]
  exact congrArg x0 (congrArg (ix3 b n) (Fin.ext (by show 6160 + (2048 + q.val) = p.val; omega)))

/-- and of the taps. -/
theorem ref_wcols (r : Fin 4) (q : Fin 2048) (p : Fin 6144) (hp : p.val = 2048 + q.val) :
    val_main_v12 (F := Ideal) x1 (ix2 r q) = x1 (ix2 r p) := by
  pointwise [val_main_v12]
  exact congrArg x1 (congrArg (ix2 r) (Fin.ext hp.symm))

/-- Every tap reads the lane, delayed. -/
theorem ref_pad (b : Fin 2) (i : Fin 2051) (q : Fin 2048) (s : Nat) (n : Fin 2048) (h : i.val + s = n.val + 3) (hs : s ≤ 3) :
    val_main_v14 (F := Ideal) x0 (ix3 b i q) = Conv.delay (fun i => val_main_v11 (F := Ideal) x0 (ix3 b i q)) s n := by
  pointwise [val_main_v14, val_main_v13, val_main_cst]
  exact Conv.padded (fun i => val_main_v11 (F := Ideal) x0 (ix3 b i q)) s hs i.val n h _

theorem ref_delay3 (b : Fin 2) (n q : Fin 2048) :
    val_main_v16 (F := Ideal) x0 (ix3 b n q) = Conv.delay (fun i => val_main_v11 (F := Ideal) x0 (ix3 b i q)) 3 n := by
  pointwise [val_main_v16]
  exact ref_pad x0 b _ q 3 n (by show n.val + 3 = _; omega) (by omega)

theorem ref_delay2 (b : Fin 2) (n q : Fin 2048) :
    val_main_v24 (F := Ideal) x0 (ix3 b n q) = Conv.delay (fun i => val_main_v11 (F := Ideal) x0 (ix3 b i q)) 2 n := by
  pointwise [val_main_v24]
  exact ref_pad x0 b _ q 2 n (by show 1 + n.val + 2 = _; omega) (by omega)

theorem ref_delay1 (b : Fin 2) (n q : Fin 2048) :
    val_main_v31 (F := Ideal) x0 (ix3 b n q) = Conv.delay (fun i => val_main_v11 (F := Ideal) x0 (ix3 b i q)) 1 n := by
  pointwise [val_main_v31]
  exact ref_pad x0 b _ q 1 n (by show 2 + n.val + 1 = _; omega) (by omega)

theorem ref_delay0 (b : Fin 2) (n q : Fin 2048) :
    val_main_v38 (F := Ideal) x0 (ix3 b n q) = Conv.delay (fun i => val_main_v11 (F := Ideal) x0 (ix3 b i q)) 0 n := by
  pointwise [val_main_v38]
  exact ref_pad x0 b _ q 0 n (by show 3 + n.val + 0 = _; omega) (by omega)

/-- The convolution's output, -/
theorem ref_pre (b : Fin 2) (n q : Fin 2048) :
    val_main_v44 (F := Ideal) x0 x1 (ix3 b n q)
      = Conv.pre (fun i => val_main_v11 (F := Ideal) x0 (ix3 b i q)) (fun r => val_main_v12 (F := Ideal) x1 (ix2 r q)) n := by
  pointwise [val_main_v44, val_main_v43, val_main_v42, val_main_v41, val_main_v40, val_main_v39, val_main_v37, val_main_v36,
    val_main_v35, val_main_v34, val_main_v33, val_main_v32, val_main_v30, val_main_v29, val_main_v28, val_main_v27,
    val_main_v26, val_main_v25, val_main_v23, val_main_v22, val_main_v21, val_main_v20, val_main_v19, val_main_v18,
    val_main_v17, val_main_cst_1]
  rw [ref_delay3, ref_delay2, ref_delay1, ref_delay0, Conv.delay_zero]
  unfold Conv.pre
  simp only [mul_comm]

/-- its activations, by heads, -/
theorem ref_heads (b : Fin 2) (n : Fin 2048) (j : Fin 16) (k : Fin 128) :
    val_main_v46 (F := Ideal) x0 x1 (ix4 b n j k)
      = val_main_v44 (F := Ideal) x0 x1 (ix3 b n (Conv.col j k))
        * Ideal.logistic (val_main_v44 (F := Ideal) x0 x1 (ix3 b n (Conv.col j k))) := by
  pointwise [val_main_v46, val_main_v45_0, val_main_v45_2,
    val_main_call0_v4, val_main_call0_cst_0, val_main_call0_v3,
    val_main_call0_v2, val_main_call0_cst, val_main_call0_v1, val_main_call0_v0]
  rfl

/-- the cotangent by heads, -/
theorem ref_ct (b : Fin 2) (n : Fin 2048) (j : Fin 16) (k : Fin 128) :
    val_main_v59 (F := Ideal) x2 (ix4 b n j k) = x2 (ix3 b n (Conv.col j k)) := by
  pointwise [val_main_v59]

/-- A product of two arrays of heads, entry by entry. -/
theorem mul4 (y z : FVec Ideal ConvKRefIdeal.S2x2048x16x128 .f32) (b : Fin 2) (n : Fin 2048) (j : Fin 16) (k : Fin 128) :
    mulf y z (ix4 b n j k) = (fun u v : EReal => u * v) (y (ix4 b n j k)) (z (ix4 b n j k)) := rfl

/-- A sum begun from the constant zero. -/
theorem zero_add' (s : EReal) : FloatOps.addf (F := Ideal) (φ := .f32) (FloatOps.ofBits .f32 0x00000000#32) s = s :=
  (congrArg (· + s) Ideal.ofBits_zero_f32).trans (zero_add s)

/-- the sum of a head's squares, -/
theorem ref_sq (b : Fin 2) (n : Fin 2048) (j : Fin 16) (i : ConvKRefIdeal.S2x2048x16x1.Idx) (hi : idx_main_v49 i = ix3 b n j) :
    val_main_v51 (F := Ideal) x0 x1 i = Conv.sq (fun l => val_main_v46 (F := Ideal) x0 x1 (ix4 b n j l)) := by
  have e : ∀ k, idx_main_v48 (ix3 b n j) k = ix4 b n j k := fun k => by
    funext a; match a with | ⟨0, _⟩ => rfl | ⟨1, _⟩ => rfl | ⟨2, _⟩ => rfl | ⟨3, _⟩ => rfl
  rw [val_main_v51_apply, val_main_v49_apply, hi, val_main_v50_apply, val_main_v48_apply, val_main_cst_2_apply, val_main_cst_3_apply]
  have s : (∑ k : Fin 128, val_main_v47 (F := Ideal) x0 x1 (idx_main_v48 (ix3 b n j) k))
      = ∑ k : Fin 128, (fun u v : EReal => u * v) (val_main_v46 (F := Ideal) x0 x1 (ix4 b n j k)) (val_main_v46 (F := Ideal) x0 x1 (ix4 b n j k)) :=
    Finset.sum_congr rfl fun k _ => by
      rw [e k]
      exact mul4 (val_main_v46 (F := Ideal) x0 x1) (val_main_v46 (F := Ideal) x0 x1) b n j k
  rw [s]
  exact congrArg (· + Ideal.ofBits .f32 0x358637BD#32) (zero_add' _)

/-- what comes back through it, -/
theorem ref_through (b : Fin 2) (n : Fin 2048) (j : Fin 16) :
    val_main_v66 (F := Ideal) x0 x1 x2 (ix3 b n j) = Conv.back (fun l => val_main_v46 (F := Ideal) x0 x1 (ix4 b n j l))
      (fun l => val_main_v59 (F := Ideal) x2 (ix4 b n j l)) := by
  have e : ∀ k, idx_main_v61 (ix3 b n j) k = ix4 b n j k := fun k => by
    funext a; match a with | ⟨0, _⟩ => rfl | ⟨1, _⟩ => rfl | ⟨2, _⟩ => rfl | ⟨3, _⟩ => rfl
  have e' : idx_main_v62 (idx_main_v66 (ix3 b n j) 0) = ix3 b n j := by
    have hb := b.isLt
    have hn := n.isLt
    have hj := j.isLt
    funext a
    match a with
    | ⟨0, _⟩ => exact Fin.ext (by show (((b.val * 2048 + n.val) * 16 + j.val) * 1 + 0) / 32768 = b.val; omega)
    | ⟨1, _⟩ => exact Fin.ext (by show (((b.val * 2048 + n.val) * 16 + j.val) * 1 + 0) / 16 % 2048 = n.val; omega)
    | ⟨2, _⟩ => exact Fin.ext (by show (((b.val * 2048 + n.val) * 16 + j.val) * 1 + 0) % 16 = j.val; omega)
  have s := ref_sq x0 x1 b n j (idx_main_v66 (ix3 b n j) 0) (by funext a; match a with | ⟨0, _⟩ => rfl | ⟨1, _⟩ => rfl | ⟨2, _⟩ => rfl)
  rw [val_main_v66_apply, Fin.sum_univ_one, val_main_v65_apply, val_main_v62_apply, e', val_main_v61_apply, val_main_v55_apply,
    val_main_v54_apply, val_main_v53_apply, val_main_v52_apply, s, val_main_cst_4_apply, val_main_cst_5_apply, val_main_cst_6_apply]
  have s' : (∑ k : Fin 128, val_main_v60 (F := Ideal) x0 x1 x2 (idx_main_v61 (ix3 b n j) k))
      = ∑ k : Fin 128, (fun u v : EReal => u * v) (val_main_v46 (F := Ideal) x0 x1 (ix4 b n j k)) (val_main_v59 (F := Ideal) x2 (ix4 b n j k)) :=
    Finset.sum_congr rfl fun k _ => by
      rw [e k]
      exact mul4 (val_main_v46 (F := Ideal) x0 x1) (val_main_v59 (F := Ideal) x2) b n j k
  rw [s']
  exact (zero_add' _).trans (congrArg (· * (Ideal.ofBits .f32 0xBF000000#32 * Ideal.div (Ideal.rsqrt (Conv.sq fun l => val_main_v46 (F := Ideal) x0 x1 (ix4 b n j l))) (Conv.sq fun l => val_main_v46 (F := Ideal) x0 x1 (ix4 b n j l)))) (zero_add' _))

/-- the gradient of the norm of a head, -/
theorem ref_norm (b : Fin 2) (n : Fin 2048) (j : Fin 16) (k : Fin 128) :
    val_main_v71 (F := Ideal) x0 x1 x2 (ix4 b n j k)
      = Conv.normGrad (fun l => val_main_v46 (F := Ideal) x0 x1 (ix4 b n j l))
        (fun l => val_main_v59 (F := Ideal) x2 (ix4 b n j l)) k := by
  have e : idx_main_v67 (ix4 b n j k) = ix3 b n j := by
    funext a; match a with | ⟨0, _⟩ => rfl | ⟨1, _⟩ => rfl | ⟨2, _⟩ => rfl
  have s := ref_sq x0 x1 b n j (idx_main_v63 (ix4 b n j k)) (by funext a; match a with | ⟨0, _⟩ => rfl | ⟨1, _⟩ => rfl | ⟨2, _⟩ => rfl)
  rw [val_main_v71_apply, val_main_v70_apply, val_main_v69_apply, val_main_v68_apply, val_main_v67_apply, e, ref_through,
    val_main_v64_apply, val_main_v63_apply, val_main_v52_apply, s]
  rfl

/-- set back in the array of lanes, -/
theorem ref_unheads (b : Fin 2) (n : Fin 2048) (j : Fin 16) (k : Fin 128) :
    val_main_v72 (F := Ideal) x0 x1 x2 (ix3 b n (Conv.col j k)) = val_main_v71 (F := Ideal) x0 x1 x2 (ix4 b n j k) := by
  pointwise [val_main_v72]
  congr 2 <;> (apply Fin.ext; simp only []; omega)

theorem ref_back (b : Fin 2) (n q : Fin 2048) :
    val_main_v73 (F := Ideal) x0 x1 x2 (ix3 b n q)
      = Conv.dact (val_main_v44 (F := Ideal) x0 x1 (ix3 b n q)) (val_main_v72 (F := Ideal) x0 x1 x2 (ix3 b n q)) := by
  pointwise [val_main_v73, val_main_call1_v2, val_main_call1_v1, val_main_call1_v0, val_main_v45_1, val_main_v45_2,
    val_main_call0_v7, val_main_call0_v6, val_main_call0_cst_1, val_main_call0_v4, val_main_call0_cst_0, val_main_call0_v3,
    val_main_call0_v2, val_main_call0_cst, val_main_call0_v1, val_main_call0_v0]
  rfl

/-- and the gradient at the convolution's output, of a head. -/
theorem ref_dpre (b : Fin 2) (n : Fin 2048) (j : Fin 16) (k : Fin 128) :
    val_main_v73 (F := Ideal) x0 x1 x2 (ix3 b n (Conv.col j k))
      = dpre (fun i l => val_main_v11 (F := Ideal) x0 (ix3 b i (Conv.col j l))) (fun i l => x2 (ix3 b i (Conv.col j l)))
          (fun r l => val_main_v12 (F := Ideal) x1 (ix2 r (Conv.col j l))) n k := by
  rw [ref_back, ref_unheads, ref_norm, ref_pre]
  simp only [ref_heads, ref_ct, ref_pre]
  rfl

/-- The gradient of the lane. -/
theorem ref_dx (b : Fin 2) (n q : Fin 2048) :
    val_main_v117 (F := Ideal) x0 x1 x2 (ix3 b n q)
      = Conv.dx (fun r => val_main_v12 (F := Ideal) x1 (ix2 r q)) (fun i => val_main_v73 (F := Ideal) x0 x1 x2 (ix3 b i q)) n := by
  pointwise [val_main_v117, val_main_v115, val_main_v114, val_main_v109, val_main_v108, val_main_v104, val_main_v103,
    val_main_v98, val_main_v97, val_main_v93, val_main_v92, val_main_v87, val_main_v86, val_main_v82, val_main_v78,
    val_main_v77, val_main_cst_10, val_main_cst_14, val_main_cst_18, val_main_cst_22,
    val_main_v41, val_main_v40, val_main_v39, val_main_v34, val_main_v33, val_main_v32, val_main_v27,
    val_main_v26, val_main_v25, val_main_v19, val_main_v18, val_main_v17]
  exact Conv.dx_padded (fun r => val_main_v12 (F := Ideal) x1 (ix2 r q)) (fun i => val_main_v73 (F := Ideal) x0 x1 x2 (ix3 b i q)) n _ _ _

theorem ref_tok (i : S4096x2048.Idx) (b : Fin 2) (n : Fin 2048) (h : (i 0).val = b.val * 2048 + n.val) :
    val_main_v119 (F := Ideal) x0 x1 x2 i = val_main_v117 (F := Ideal) x0 x1 x2 (ix3 b n (i 1)) :=
  Rows.tok_apply (val_main_v117 (F := Ideal) x0 x1 x2) _ i b n h

theorem ref_sum3 (q : Fin 2048) :
    val_main_v79 (F := Ideal) x0 x1 x2 (ix1 q) = ∑ b : Fin 2, Conv.dw (fun i => val_main_v11 (F := Ideal) x0 (ix3 b i q)) (fun i => val_main_v73 (F := Ideal) x0 x1 x2 (ix3 b i q)) 0 := by
  pointwise [val_main_v79, val_main_v76, val_main_cst_8, val_main_v75, val_main_cst_7, val_main_v74, Cert.Sums.hostReduceAdd_lead]
  simp only [Finset.univ_unique, Finset.sum_singleton]
  exact Conv.dw_sum 0 _ _ _ fun b n => ref_delay0 x0 b n q

theorem ref_sum2 (q : Fin 2048) :
    val_main_v88 (F := Ideal) x0 x1 x2 (ix1 q) = ∑ b : Fin 2, Conv.dw (fun i => val_main_v11 (F := Ideal) x0 (ix3 b i q)) (fun i => val_main_v73 (F := Ideal) x0 x1 x2 (ix3 b i q)) 1 := by
  pointwise [val_main_v88, val_main_v85, val_main_cst_12, val_main_v84, val_main_cst_11, val_main_v83, Cert.Sums.hostReduceAdd_lead]
  simp only [Finset.univ_unique, Finset.sum_singleton]
  exact Conv.dw_sum 1 _ _ _ fun b n => ref_delay1 x0 b n q

theorem ref_sum1 (q : Fin 2048) :
    val_main_v99 (F := Ideal) x0 x1 x2 (ix1 q) = ∑ b : Fin 2, Conv.dw (fun i => val_main_v11 (F := Ideal) x0 (ix3 b i q)) (fun i => val_main_v73 (F := Ideal) x0 x1 x2 (ix3 b i q)) 2 := by
  pointwise [val_main_v99, val_main_v96, val_main_cst_16, val_main_v95, val_main_cst_15, val_main_v94, Cert.Sums.hostReduceAdd_lead]
  simp only [Finset.univ_unique, Finset.sum_singleton]
  exact Conv.dw_sum 2 _ _ _ fun b n => ref_delay2 x0 b n q

theorem ref_sum0 (q : Fin 2048) :
    val_main_v110 (F := Ideal) x0 x1 x2 (ix1 q) = ∑ b : Fin 2, Conv.dw (fun i => val_main_v11 (F := Ideal) x0 (ix3 b i q)) (fun i => val_main_v73 (F := Ideal) x0 x1 x2 (ix3 b i q)) 3 := by
  pointwise [val_main_v110, val_main_v107, val_main_cst_20, val_main_v106, val_main_cst_19, val_main_v105, Cert.Sums.hostReduceAdd_lead]
  simp only [Finset.univ_unique, Finset.sum_singleton]
  exact Conv.dw_sum 3 _ _ _ fun b n => ref_delay3 x0 b n q

/-- The gradient of the taps. -/
theorem ref_dw (r : Fin 4) (q : Fin 2048) :
    val_main_v113 (F := Ideal) x0 x1 x2 (ix2 r q) = ∑ b : Fin 2, Conv.dw (fun i => val_main_v11 (F := Ideal) x0 (ix3 b i q)) (fun i => val_main_v73 (F := Ideal) x0 x1 x2 (ix3 b i q)) (3 - r.val) := by
  pointwise [val_main_v113, val_main_v112, val_main_v102, val_main_v101, val_main_v91, val_main_v90, val_main_v81,
    val_main_cst_9, val_main_cst_13, val_main_cst_17, val_main_cst_21, val_main_v80, val_main_v89, val_main_v100, val_main_v111]
  simp only [ref_sum3, ref_sum2, ref_sum1, ref_sum0]
  exact Conv.rows_padded (fun s => ∑ b : Fin 2, Conv.dw (fun i => val_main_v11 (F := Ideal) x0 (ix3 b i q)) (fun i => val_main_v73 (F := Ideal) x0 x1 x2 (ix3 b i q)) s)
    r _ _ _ _ (by omega) (by omega) (by omega) (by omega)

/-! What the kernel reads, and its results. -/

abbrev Z (c : Dev nD) : FVec Ideal S2x2048x18480 .f32 := m ((c : Thread nD τ).loc main_arg0)
abbrev W (c : Dev nD) : FVec Ideal S4x6144 .f32 := m ((c : Thread nD τ).loc main_arg1)
abbrev CT (c : Dev nD) : FVec Ideal S2x2048x2048 .f32 := m ((c : Thread nD τ).loc main_arg2)

/-- A point's batch and head. -/
abbrev bat (t : Fin cfg0.N) : Fin 2 := ⟨t.val % 2, Nat.mod_lt _ (by omega)⟩
abbrev hd (t : Fin cfg0.N) : Fin 16 := ⟨t.val / 2, by have := (idx t).2.2.2.2.2; omega⟩

theorem emb0 (t : Fin cfg0.N) (n : Fin 2048) (k : Fin 128) :
    (((((cfg0.win 0).blk t).view.emb (ix2 n k)) 0).val = (bat t).val * 2048 + n.val)
      ∧ ((((cfg0.win 0).blk t).view.emb (ix2 n k)) 1).val = 8192 + (t.val / 2 * 128 + k.val) := by
  constructor
  · blk_simp [idx t]
  · blk_simp [idx t]
    omega

theorem blk_z (c : Dev nD) (t : Fin cfg0.N) (n : Fin 2048) (k : Fin 128) :
    iblk m c 0 t (ix2 n k) = val_main_v11 (F := Ideal) (Z m c) (ix3 (bat t) n (Conv.col (hd t) k)) := by
  have hT := (idx t).2.2.2.2.2
  have hk := k.isLt
  rw [ref_cols (Z m c) _ _ _ ⟨8208 + (t.val / 2 * 128 + k.val), by omega⟩ rfl]
  have e : V m c main_v5 = concatenate S4096x18432 1
      [⟨S4096x6144, extractStridedSlice S4096x6144 ![0, 0] (shapeCast S4096x18480 (Z m c) shapeCasts_S2x2048x18480_S4096x18480) slices_S4096x18480_S4096x6144_0_0⟩,
       ⟨S4096x6144, extractStridedSlice S4096x6144 ![0, 6160] (shapeCast S4096x18480 (Z m c) shapeCasts_S2x2048x18480_S4096x18480) slices_S4096x18480_S4096x6144_0_6160⟩,
       ⟨S4096x2048, extractStridedSlice S4096x2048 ![0, 12304] (shapeCast S4096x18480 (Z m c) shapeCasts_S2x2048x18480_S4096x18480) slices_S4096x18480_S4096x2048_0_12304⟩,
       ⟨S4096x4096, extractStridedSlice S4096x4096 ![0, 14384] (shapeCast S4096x18480 (Z m c) shapeCasts_S2x2048x18480_S4096x18480) slices_S4096x18480_S4096x4096_0_14384⟩]
      concatenates_S4096x6144_S4096x6144_S4096x2048_S4096x4096_S4096x18432_d1 := by
    unfold V
    after_results
    try rfl
  show V m c main_v5 (((cfg0.win 0).blk t).view.emb (ix2 n k)) = _
  rw [e]
  exact BigCols.apply (Z m c) _ _ _ _ _ _ _ (bat t) n _ (emb0 t n k).1 (Or.inr (Or.inl (by
    rw [(emb0 t n k).2]
    show _ ∧ _ ∧ 8208 + (t.val / 2 * 128 + k.val) = _
    omega)))

theorem blk_w (c : Dev nD) (t : Fin cfg0.N) (r : Fin 4) (k : Fin 128) :
    iblk m c 1 t (ix2 r k) = val_main_v12 (F := Ideal) (W m c) (ix2 r (Conv.col (hd t) k)) := by
  have hT := (idx t).2.2.2.2.2
  have hk := k.isLt
  rw [ref_wcols (W m c) _ _ ⟨2048 + (t.val / 2 * 128 + k.val), by omega⟩ rfl]
  blk_ext [iblk, V, idx t]

theorem blk_ct (c : Dev nD) (t : Fin cfg0.N) (n : Fin 2048) (k : Fin 128) :
    iblk m c 2 t (ix2 n k) = CT m c (ix3 (bat t) n (Conv.col (hd t) k)) := by
  have e : V m c main_v10 = shapeCast S4096x2048 (CT m c) shapeCasts_S2x2048x2048_S4096x2048 := by
    entry_read
    rfl
  blk_simp [iblk, idx t]
  rw [e, Rows.tok_apply _ _ _ (bat t) n (by blk_simp [idx t])]
  blk_ext [idx t]

/-- A point's gradient at the convolution's output is the reference's. -/
theorem dblk_eq (c : Dev nD) (t : Fin cfg0.N) (n : Fin 2048) (k : Fin 128) :
    dblk m c t n k = val_main_v73 (F := Ideal) (Z m c) (W m c) (CT m c) (ix3 (bat t) n (Conv.col (hd t) k)) := by
  rw [ref_dpre]
  unfold dblk
  simp only [blk_z, blk_w, blk_ct]

theorem emb3 (t : Fin cfg0.N) (n : Fin 2048) (k : Fin 128) :
    (((((cfg0.win 3).blk t).view.emb (ix2 n k)) 0).val = (bat t).val * 2048 + n.val)
      ∧ (((cfg0.win 3).blk t).view.emb (ix2 n k)) 1 = Conv.col (hd t) k := by
  constructor
  · blk_simp [idx t]
  · apply Fin.ext
    blk_simp [idx t]

theorem emb4 (t : Fin cfg0.N) (r : Fin 4) (k : Fin 128) :
    ((cfg0.win 4).blk t).view.emb (ix2 r k) = ix2 r (Conv.col (hd t) k) := by
  blk_ext [idx t]

/-- A grid point's part of the taps' gradient, in the reference's arrays. -/
theorem part_eq (c : Dev nD) (t : Fin cfg0.N) (r : Fin 4) (k : Fin 128) :
    part m c t (ix2 r k) = Conv.dw (fun i => val_main_v11 (F := Ideal) (Z m c) (ix3 (bat t) i (Conv.col (hd t) k)))
      (fun i => val_main_v73 (F := Ideal) (Z m c) (W m c) (CT m c) (ix3 (bat t) i (Conv.col (hd t) k))) (3 - r.val) := by
  rw [← funext fun i => blk_z m c t i k, ← funext fun i => dblk_eq m c t i k]
  rfl

/-- The gradient of the keys' columns. -/
theorem final3 (c : Dev nD) : (dats m 0 c).arrAt 3 (cfgs 0).N
    = val_main_v119 (F := Ideal) (Z m c) (W m c) (CT m c) := by
  refine (dats m 0 c).arrAt_eq_of_covers 3 _ (by decide +kernel) fun t _ y => ?_
  obtain ⟨n, k, rfl⟩ : ∃ n k, y = ix2 n k := ⟨y 0, y 1, by idx_vars y⟩
  blk_simp
  rw [after0_3, dx_blk, ref_tok _ _ _ _ (bat t) n (emb3 t n k).1, (emb3 t n k).2, ref_dx]
  simp only [blk_w, dblk_eq]

/-- The gradient of the keys' taps. -/
theorem final4 (c : Dev nD) : (dats m 0 c).arrAt 4 (cfgs 0).N
    = val_main_v113 (F := Ideal) (Z m c) (W m c) (CT m c) := by
  refine (dats m 0 c).arrAt_eq_of_covers 4 _ (by decide +kernel) fun t hf y => ?_
  blk_simp
  rw [after0_4, Pipeline.eq_sum_fin_of_reset_step_apply_of_flush (fun n h => (outsAt0 m c n h).2) 2 (fun _ => 0) _
    (fun t h j => taps_A m c t h j) (fun t h j => taps_B m c t h j) t ((flush0_4 t).mp hf) _, zero_add]
  obtain ⟨r, k, rfl⟩ : ∃ r k, y = ix2 r k := ⟨y 0, y 1, by idx_vars y⟩
  refine Eq.trans ?_ ((congrArg (val_main_v113 (F := Ideal) (Z m c) (W m c) (CT m c)) (emb4 t r k)).trans (ref_dw _ _ _ r _)).symm
  refine Fin.sum_fin_congr fun s => ?_
  have hb : bat ⟨2 * (t.val / 2) + s.val, Pipeline.run_point_lt_of_flush t ((flush0_4 t).mp hf) s⟩ = s :=
    Fin.ext (by show (2 * (t.val / 2) + s.val) % 2 = s.val; omega)
  have hh : hd ⟨2 * (t.val / 2) + s.val, Pipeline.run_point_lt_of_flush t ((flush0_4 t).mp hf) s⟩ = hd t :=
    Fin.ext (by show (2 * (t.val / 2) + s.val) / 2 = t.val / 2; omega)
  exact (part_eq m c _ r k).trans (by rw [hb, hh])

end Cert.ConvKIdeal.RefValue

end
-- ==== Proof.ConvKClaim.lean ====
/- The claims about the gradient of the keys' convolution: the reference runs and leaves its arguments as
   they are, and the kernel's results are the reference's. -/
module

public import proofs.«01_k».proof.Proof.ConvKValue

@[expose] public section

set_option maxRecDepth 16384

noncomputable section

open Idealize.ShloMosaic Idealize.ShloMosaic.TcCoe Idealize.SL.Sem

namespace Cert.ConvKIdeal.RefValue

open Cert.ConvKRefIdeal.Read

instance factsK : Cert.ConvKIdeal.Facts := Cert.ConvKIdeal.Gen.facts
instance factsR : Cert.ConvKRefIdeal.Facts := Cert.ConvKRefIdeal.Gen.facts

/-- The reference runs, leaves its arguments as they are and declares no semaphore. -/
theorem frame_ref : Cert.quiescent_ConvKRefIdeal := fun m g _ =>
  (θ_run _ _ _).mono (fun r h => ⟨fun c => (h c).2.2, sem_eq_zero_of_no_sems rfl _⟩)
    (Cert.ConvKRefIdeal.Value.run m g)

set_option maxHeartbeats 1000000 in
/-- The kernel's results are the reference's. -/
theorem algebraic : Cert.algebraic_ConvKIdeal_ConvKRefIdeal := by
  pair_intro
  · run_from Cert.ConvKIdeal.Gen.run_main m g
  refine (θ_run _ _ _).mono (fun r h c => ?_) (Cert.ConvKRefIdeal.Value.run m' g')
  obtain ⟨a0, a1, a2⟩ := hagree c
  refine ⟨((h c).1.trans (val_main_v119_eq (StableHlo.launchContents m' c))).trans ?_,
    ((h c).2.1.trans (val_main_v113_eq (StableHlo.launchContents m' c))).trans ?_, (h c).2.2⟩
  · simp only [a0, a1, a2]
    exact (final3 m c).symm
  · simp only [a0, a1, a2]
    exact (final4 m c).symm

end Cert.ConvKIdeal.RefValue

end
-- ==== Proof.ConvVPoint.lean ====
module

public import proofs.«01_k».proof.Defs
public import proofs.«01_k».proof.Proof.Gen.ConvVIdeal.Value
public import proofs.«01_k».proof.Proof.Sums
public import proofs.«01_k».proof.Proof.Rows
public import proofs.«01_k».proof.Proof.ConvMath
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvVIdeal.RefValue

open Cert Cert.ConvVIdeal Cert.ConvVIdeal.Gen

variable (m : (ℓ : Loc nD τ sig) → Buf (Elt Ideal) ℓ)

/-- The gradient at the convolution's output, before the activation. -/
def dpre (x g : Fin 2048 → Fin 128 → EReal) (w : Fin 4 → Fin 128 → EReal) (n : Fin 2048) (k : Fin 128) : EReal :=
  Conv.dact (Conv.preL x w n k) (g n k)

theorem pay_delay3 (x : Vec Ideal S2048x128 .f32) (n : Fin 2048) (k : Fin 128) :
    k0_pay8 (F := Ideal) x (ix2 n k) = Conv.delay (fun i => x (ix2 i k)) 3 n := by
  pointwise [k0_pay8, k0_pay7]
  exact Conv.select_delay (fun i => x (ix2 i k)) 3 (by omega) n (Nat.mod_lt _ (by omega))

theorem pay_delay2 (x : Vec Ideal S2048x128 .f32) (n : Fin 2048) (k : Fin 128) :
    k0_pay9 (F := Ideal) x (ix2 n k) = Conv.delay (fun i => x (ix2 i k)) 2 n := by
  pointwise [k0_pay9, k0_pay7]
  exact Conv.select_delay (fun i => x (ix2 i k)) 2 (by omega) n (Nat.mod_lt _ (by omega))

theorem pay_delay1 (x : Vec Ideal S2048x128 .f32) (n : Fin 2048) (k : Fin 128) :
    k0_pay10 (F := Ideal) x (ix2 n k) = Conv.delay (fun i => x (ix2 i k)) 1 n := by
  pointwise [k0_pay10, k0_pay7]
  exact Conv.select_delay (fun i => x (ix2 i k)) 1 (by omega) n (Nat.mod_lt _ (by omega))

theorem pay_lane (x : Vec Ideal S2048x128 .f32) (n : Fin 2048) (k : Fin 128) :
    k0_pay7 (F := Ideal) x (ix2 n k) = x (ix2 n k) := by
  pointwise [k0_pay7]

theorem pay_taps (w0 w1 w2 : Vec Ideal S1x128 .f32) (x : Vec Ideal S2048x128 .f32) (n : Fin 2048) (k : Fin 128) :
    k0_pay11 (F := Ideal) w0 w1 w2 x (ix2 n k)
      = w0 (ix2 0 k) * k0_pay8 (F := Ideal) x (ix2 n k) + w1 (ix2 0 k) * k0_pay9 (F := Ideal) x (ix2 n k)
        + w2 (ix2 0 k) * k0_pay10 (F := Ideal) x (ix2 n k) := by
  pointwise [k0_pay11]

theorem pay_back (x s w g : Vec Ideal S2048x128 .f32) (n : Fin 2048) (k : Fin 128) :
    k0_pay13 (F := Ideal) x s w g (ix2 n k) = Conv.dact (s (ix2 n k) + w (ix2 n k) * x (ix2 n k)) (g (ix2 n k)) := by
  pointwise [k0_pay13]
  rfl

theorem pay_dpre (x g : Vec Ideal S2048x128 .f32) (w0 w1 w2 w3 : Vec Ideal S1x128 .f32) (n : Fin 2048) (k : Fin 128) :
    k0_pay13 (F := Ideal) (k0_pay7 (F := Ideal) x) (k0_pay11 (F := Ideal) w0 w1 w2 x) (k0_pay12 (F := Ideal) w3) g (ix2 n k)
      = dpre (fun i l => x (ix2 i l)) (fun i l => g (ix2 i l)) (Conv.taps w0 w1 w2 w3) n k := by
  have e : ∀ l : Fin 128, k0_pay11 (F := Ideal) w0 w1 w2 x (ix2 n l)
      + k0_pay12 (F := Ideal) w3 (ix2 n l) * k0_pay7 (F := Ideal) x (ix2 n l)
      = Conv.preL (fun i l => x (ix2 i l)) (Conv.taps w0 w1 w2 w3) n l := fun l => by
    rw [pay_taps, pay_delay3, pay_delay2, pay_delay1, pay_lane]
    pointwise [k0_pay12]
    rfl
  rw [pay_back]
  simp only [e]
  rfl

/-- The first result's block: the lane's share of each tap, later positions advanced. -/
theorem pay_dx (w1 w2 w3 : Vec Ideal S1x128 .f32) (x s w g e : Vec Ideal S2048x128 .f32) (n : Fin 2048) (k : Fin 128) :
    k0_pay1 (F := Ideal) (k0_pay17 (F := Ideal) w1 w2 w3 x s w g) e (iota .tc S2048x128 32 [0] iota_S2048x128_d0_w32) (ix2 n k)
      = w3 (ix2 0 k) * k0_pay13 (F := Ideal) x s w g (ix2 n k)
        + Conv.ahead (fun i => w2 (ix2 0 k) * k0_pay13 (F := Ideal) x s w g (ix2 i k)) 1 n
        + Conv.ahead (fun i => w1 (ix2 0 k) * k0_pay13 (F := Ideal) x s w g (ix2 i k)) 2 n + Conv.ahead (fun i => e (ix2 i k)) 3 n := by
  pointwise [k0_pay1, k0_pay17]
  rw [← Conv.select_ahead (fun i => w2 (ix2 0 k) * k0_pay13 (F := Ideal) x s w g (ix2 i k)) 1 (by omega) n (Nat.mod_lt _ (by omega)),
    ← Conv.select_ahead (fun i => w1 (ix2 0 k) * k0_pay13 (F := Ideal) x s w g (ix2 i k)) 2 (by omega) n (Nat.mod_lt _ (by omega)),
    ← Conv.select_ahead (fun i => e (ix2 i k)) 3 (by omega) n (Nat.mod_lt _ (by omega))]

/-- A tap's share times the gradient before the activation. -/
theorem pay_share0 (w0 : Vec Ideal S1x128 .f32) (x s w g : Vec Ideal S2048x128 .f32) (n : Fin 2048) (k : Fin 128) :
    k0_pay18 (F := Ideal) w0 x s w g (ix2 n k) = w0 (ix2 0 k) * k0_pay13 (F := Ideal) x s w g (ix2 n k) := by
  pointwise [k0_pay18]

/-- A point's part of the gradient of each tap, added to what the buffer held. -/
theorem pay_tap3 (x s w g : Vec Ideal S2048x128 .f32) (o : Vec Ideal S1x128 .f32) (k : Fin 128) :
    k0_pay5 (F := Ideal) (k0_pay14 (F := Ideal) x s w g) o (ix2 0 k)
      = o (ix2 0 k) + ∑ n : Fin 2048, k0_pay13 (F := Ideal) x s w g (ix2 n k) * x (ix2 n k) := by
  pointwise [k0_pay5, k0_pay14]

theorem pay_tap2 (x y s w g : Vec Ideal S2048x128 .f32) (o : Vec Ideal S1x128 .f32) (k : Fin 128) :
    k0_pay4 (F := Ideal) (k0_pay15 (F := Ideal) x y s w g) o (ix2 0 k)
      = o (ix2 0 k) + ∑ n : Fin 2048, k0_pay13 (F := Ideal) x s w g (ix2 n k) * y (ix2 n k) := by
  pointwise [k0_pay4, k0_pay15]

theorem pay_tap1 (x y s w g : Vec Ideal S2048x128 .f32) (o : Vec Ideal S1x128 .f32) (k : Fin 128) :
    k0_pay3 (F := Ideal) (k0_pay16 (F := Ideal) x y s w g) o (ix2 0 k)
      = o (ix2 0 k) + ∑ n : Fin 2048, k0_pay13 (F := Ideal) x s w g (ix2 n k) * y (ix2 n k) := by
  pointwise [k0_pay3, k0_pay16]

theorem pay_tap0 (x y s w g : Vec Ideal S2048x128 .f32) (o : Vec Ideal S1x128 .f32) (k : Fin 128) :
    k0_pay2 (F := Ideal) (k0_pay19 (F := Ideal) x y s w g) o (ix2 0 k)
      = o (ix2 0 k) + ∑ n : Fin 2048, k0_pay13 (F := Ideal) x s w g (ix2 n k) * y (ix2 n k) := by
  pointwise [k0_pay2, k0_pay19]

/-- The windows' block indices at every grid point. -/
theorem idx : ∀ t : Fin cfg0.N, win0_0.index t = ![t.val % 2, 80 + t.val / 2] ∧ win0_1.index t = ![0, 32 + t.val / 2]
    ∧ win0_2.index t = ![t.val % 2, t.val / 2] ∧ win0_3.index t = ![t.val % 2, t.val / 2]
    ∧ win0_4.index t = ![0, t.val / 2] ∧ t.val < 32 :=
  (by decide +kernel : ∀ t : Fin grid0.N, _)

/-- A grid point's gradient before the activation, from the blocks it reads. -/
abbrev dblk (c : Dev nD) (t : Fin cfg0.N) : Fin 2048 → Fin 128 → EReal :=
  dpre (fun i l => iblk m c 0 t (ix2 i l)) (fun i l => iblk m c 2 t (ix2 i l)) (fun r l => iblk m c 1 t (ix2 r l))

/-- A grid point's part of the taps' gradient. -/
def part (c : Dev nD) (t : Fin cfg0.N) (y : S4x128.Idx) : EReal :=
  Conv.dw (fun i => iblk m c 0 t (ix2 i (y 1))) (fun i => dblk m c t i (y 1)) (3 - (y 0).val)

theorem tap3_at (x g : Vec Ideal S2048x128 .f32) (w : Fin 4 → Fin 128 → EReal) (w0 w1 w2 w3 o : Vec Ideal S1x128 .f32)
    (hw : Conv.taps w0 w1 w2 w3 = w) (k : Fin 128) :
    k0_pay5 (F := Ideal) (k0_pay14 (F := Ideal) (k0_pay7 (F := Ideal) x) (k0_pay11 (F := Ideal) w0 w1 w2 x) (k0_pay12 (F := Ideal) w3) g) o (ix2 0 k)
      = o (ix2 0 k) + Conv.dw (fun i => x (ix2 i k))
          (fun i => dpre (fun i l => x (ix2 i l)) (fun i l => g (ix2 i l)) w i k) 0 := by
  subst hw
  rw [pay_tap3]
  simp only [pay_dpre, pay_lane, Conv.dw, Conv.delay_zero]

theorem tap2_at (x g : Vec Ideal S2048x128 .f32) (w : Fin 4 → Fin 128 → EReal) (w0 w1 w2 w3 o : Vec Ideal S1x128 .f32)
    (hw : Conv.taps w0 w1 w2 w3 = w) (k : Fin 128) :
    k0_pay4 (F := Ideal) (k0_pay15 (F := Ideal) (k0_pay7 (F := Ideal) x) (k0_pay10 (F := Ideal) x) (k0_pay11 (F := Ideal) w0 w1 w2 x) (k0_pay12 (F := Ideal) w3) g) o (ix2 0 k)
      = o (ix2 0 k) + Conv.dw (fun i => x (ix2 i k))
          (fun i => dpre (fun i l => x (ix2 i l)) (fun i l => g (ix2 i l)) w i k) 1 := by
  subst hw
  rw [pay_tap2]
  simp only [pay_dpre, pay_delay1, Conv.dw]

theorem tap1_at (x g : Vec Ideal S2048x128 .f32) (w : Fin 4 → Fin 128 → EReal) (w0 w1 w2 w3 o : Vec Ideal S1x128 .f32)
    (hw : Conv.taps w0 w1 w2 w3 = w) (k : Fin 128) :
    k0_pay3 (F := Ideal) (k0_pay16 (F := Ideal) (k0_pay7 (F := Ideal) x) (k0_pay9 (F := Ideal) x) (k0_pay11 (F := Ideal) w0 w1 w2 x) (k0_pay12 (F := Ideal) w3) g) o (ix2 0 k)
      = o (ix2 0 k) + Conv.dw (fun i => x (ix2 i k))
          (fun i => dpre (fun i l => x (ix2 i l)) (fun i l => g (ix2 i l)) w i k) 2 := by
  subst hw
  rw [pay_tap1]
  simp only [pay_dpre, pay_delay2, Conv.dw]

theorem tap0_at (x g : Vec Ideal S2048x128 .f32) (w : Fin 4 → Fin 128 → EReal) (w0 w1 w2 w3 o : Vec Ideal S1x128 .f32)
    (hw : Conv.taps w0 w1 w2 w3 = w) (k : Fin 128) :
    k0_pay2 (F := Ideal) (k0_pay19 (F := Ideal) (k0_pay7 (F := Ideal) x) (k0_pay8 (F := Ideal) x) (k0_pay11 (F := Ideal) w0 w1 w2 x) (k0_pay12 (F := Ideal) w3) g) o (ix2 0 k)
      = o (ix2 0 k) + Conv.dw (fun i => x (ix2 i k))
          (fun i => dpre (fun i l => x (ix2 i l)) (fun i l => g (ix2 i l)) w i k) 3 := by
  subst hw
  rw [pay_tap0]
  simp only [pay_dpre, pay_delay3, Conv.dw]

theorem dx_at (x g : Vec Ideal S2048x128 .f32) (w : Fin 4 → Fin 128 → EReal) (w0 w1 w2 w3 : Vec Ideal S1x128 .f32)
    (hw : Conv.taps w0 w1 w2 w3 = w) (n : Fin 2048) (k : Fin 128) :
    k0_pay1 (F := Ideal) (k0_pay17 (F := Ideal) w1 w2 w3 (k0_pay7 (F := Ideal) x) (k0_pay11 (F := Ideal) w0 w1 w2 x) (k0_pay12 (F := Ideal) w3) g) (k0_pay18 (F := Ideal) w0 (k0_pay7 (F := Ideal) x) (k0_pay11 (F := Ideal) w0 w1 w2 x) (k0_pay12 (F := Ideal) w3) g)
        (iota .tc S2048x128 32 [0] iota_S2048x128_d0_w32) (ix2 n k)
      = Conv.dx (fun r => w r k) (fun i => dpre (fun i l => x (ix2 i l)) (fun i l => g (ix2 i l)) w i k) n := by
  subst hw
  rw [pay_dx]
  simp only [pay_share0, pay_dpre]
  rfl

theorem zero_at (y : S4x128.Idx) : k0_pay6 (F := Ideal) y = 0 := by
  pointwise [k0_pay6]

theorem taps_A (c : Dev nD) (t : Fin cfg0.N) (even : t.val % 2 = 0) (y : S4x128.Idx) :
    (outsAt0 m c t.val t.isLt).2 y = 0 + part m c t y := by
  rw [outsAt0_A m c t even]
  frame_open
  simp (disch := decide) only [↓ View.readCov_skip, ↓ View.readCov_cons_toLoadRect, ↓ View.readCov_fill]
  frame_out
  refine (Conv.canon_drop _ _ _ _ _ y ?_).trans ?_
  · exact Conv.rows_cover y inb_S4x128_S1x128_0_0 inb_S4x128_S1x128_1_0 inb_S4x128_S1x128_2_0 inb_S4x128_S1x128_3_0
  canon_tiles x h
  · obtain ⟨k, rfl, rfl⟩ := Conv.row_idx y x 3 h0 h1
    exact (tap3_at _ _ _ _ _ _ _ _ (Conv.taps_ld (iblk m c 1 t) _ _ _ _) k).trans
      (congrArg (· + _) ((Conv.row_ld _ 3 _ k).trans (zero_at _)))
  · obtain ⟨k, rfl, rfl⟩ := Conv.row_idx y x 2 h0 h1
    exact (tap2_at _ _ _ _ _ _ _ _ (Conv.taps_ld (iblk m c 1 t) _ _ _ _) k).trans
      (congrArg (· + _) ((Conv.row_ld _ 2 _ k).trans (zero_at _)))
  · obtain ⟨k, rfl, rfl⟩ := Conv.row_idx y x 1 h0 h1
    exact (tap1_at _ _ _ _ _ _ _ _ (Conv.taps_ld (iblk m c 1 t) _ _ _ _) k).trans
      (congrArg (· + _) ((Conv.row_ld _ 1 _ k).trans (zero_at _)))
  · obtain ⟨k, rfl, rfl⟩ := Conv.row_idx y x 0 (by rw [h0]; exact (Nat.zero_add _).symm) h1
    exact (tap0_at _ _ _ _ _ _ _ _ (Conv.taps_ld (iblk m c 1 t) _ _ _ _) k).trans
      (congrArg (· + _) ((Conv.row_ld _ 0 _ k).trans (zero_at _)))

theorem taps_B (c : Dev nD) (t : Fin cfg0.N) (odd : ¬ t.val % 2 = 0) (y : S4x128.Idx) :
    (outsAt0 m c t.val t.isLt).2 y = (outsAt0 m c (t.val - 1) (Nat.lt_of_le_of_lt (Nat.sub_le _ _) t.isLt)).2 y + part m c t y := by
  rw [outsAt0_B m c t odd]
  frame_out
  generalize (outsAt0 m c (t.val - 1) _).2 = o
  canon_tiles x h
  · obtain ⟨k, rfl, rfl⟩ := Conv.row_idx y x 3 h0 h1
    exact (tap3_at _ _ _ _ _ _ _ _ (Conv.taps_ld (iblk m c 1 t) _ _ _ _) k).trans (congrArg (· + _) (Conv.row_ld o 3 _ k))
  · obtain ⟨k, rfl, rfl⟩ := Conv.row_idx y x 2 h0 h1
    exact (tap2_at _ _ _ _ _ _ _ _ (Conv.taps_ld (iblk m c 1 t) _ _ _ _) k).trans (congrArg (· + _) (Conv.row_ld o 2 _ k))
  · obtain ⟨k, rfl, rfl⟩ := Conv.row_idx y x 1 h0 h1
    exact (tap1_at _ _ _ _ _ _ _ _ (Conv.taps_ld (iblk m c 1 t) _ _ _ _) k).trans (congrArg (· + _) (Conv.row_ld o 1 _ k))
  · obtain ⟨k, rfl, rfl⟩ := Conv.row_idx y x 0 (by rw [h0]; exact (Nat.zero_add _).symm) h1
    exact (tap0_at _ _ _ _ _ _ _ _ (Conv.taps_ld (iblk m c 1 t) _ _ _ _) k).trans (congrArg (· + _) (Conv.row_ld o 0 _ k))

theorem dx_blk (c : Dev nD) (t : Fin cfg0.N) (n : Fin 2048) (k : Fin 128) :
    (outsAt0 m c t.val t.isLt).1 (ix2 n k) = Conv.dx (fun r => iblk m c 1 t (ix2 r k)) (fun i => dblk m c t i k) n := by
  by_cases h : t.val % 2 = 0
  · rw [outsAt0_A m c t h]
    frame_out
    exact dx_at _ _ _ _ _ _ _ (Conv.taps_ld (iblk m c 1 t) _ _ _ _) n k
  · rw [outsAt0_B m c t h]
    frame_out
    exact dx_at _ _ _ _ _ _ _ (Conv.taps_ld (iblk m c 1 t) _ _ _ _) n k

end Cert.ConvVIdeal.RefValue

end
-- ==== Proof.ConvVValue.lean ====
module

public import proofs.«01_k».proof.Defs
public import proofs.«01_k».proof.Proof.Gen.ConvVIdeal.Value
public import proofs.«01_k».proof.Proof.Gen.ConvVRefIdeal.Run
public import proofs.«01_k».proof.Proof.Gen.ConvVRefIdeal.Read
public import proofs.«01_k».proof.Proof.ConvVPoint
public import proofs.«01_k».proof.Proof.BigCols
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvVIdeal.RefValue

open Cert Cert.ConvVIdeal Cert.ConvVIdeal.Gen Cert.ConvVRefIdeal.Read

variable (m : (ℓ : Loc nD τ sig) → Buf (Elt Ideal) ℓ)

variable (x0 : FVec Ideal S2x2048x18480 .f32) (x1 : FVec Ideal S4x6144 .f32) (x2 : FVec Ideal S2x2048x2048 .f32)

/-! What the reference computes, lane by lane. -/

/-- The values' columns of the projection, -/
theorem ref_cols (b : Fin 2) (n q : Fin 2048) (p : Fin 18480) (hp : p.val = 10256 + q.val) :
    val_main_v0 (F := Ideal) x0 (ix3 b n q) = x0 (ix3 b n p) := by
  pointwise [val_main_v0]
  exact congrArg x0 (congrArg (ix3 b n) (Fin.ext hp.symm))

/-- and of the taps. -/
theorem ref_wcols (r : Fin 4) (q : Fin 2048) (p : Fin 6144) (hp : p.val = 4096 + q.val) :
    val_main_v1 (F := Ideal) x1 (ix2 r q) = x1 (ix2 r p) := by
  pointwise [val_main_v1]
  exact congrArg x1 (congrArg (ix2 r) (Fin.ext hp.symm))

/-- Every tap reads the lane, delayed. -/
theorem ref_pad (b : Fin 2) (i : Fin 2051) (q : Fin 2048) (s : Nat) (n : Fin 2048) (h : i.val + s = n.val + 3) (hs : s ≤ 3) :
    val_main_v3 (F := Ideal) x0 (ix3 b i q) = Conv.delay (fun i => val_main_v0 (F := Ideal) x0 (ix3 b i q)) s n := by
  pointwise [val_main_v3, val_main_v2, val_main_cst]
  exact Conv.padded (fun i => val_main_v0 (F := Ideal) x0 (ix3 b i q)) s hs i.val n h _

theorem ref_delay3 (b : Fin 2) (n q : Fin 2048) :
    val_main_v5 (F := Ideal) x0 (ix3 b n q) = Conv.delay (fun i => val_main_v0 (F := Ideal) x0 (ix3 b i q)) 3 n := by
  pointwise [val_main_v5]
  exact ref_pad x0 b _ q 3 n (by show n.val + 3 = _; omega) (by omega)

theorem ref_delay2 (b : Fin 2) (n q : Fin 2048) :
    val_main_v13 (F := Ideal) x0 (ix3 b n q) = Conv.delay (fun i => val_main_v0 (F := Ideal) x0 (ix3 b i q)) 2 n := by
  pointwise [val_main_v13]
  exact ref_pad x0 b _ q 2 n (by show 1 + n.val + 2 = _; omega) (by omega)

theorem ref_delay1 (b : Fin 2) (n q : Fin 2048) :
    val_main_v20 (F := Ideal) x0 (ix3 b n q) = Conv.delay (fun i => val_main_v0 (F := Ideal) x0 (ix3 b i q)) 1 n := by
  pointwise [val_main_v20]
  exact ref_pad x0 b _ q 1 n (by show 2 + n.val + 1 = _; omega) (by omega)

theorem ref_delay0 (b : Fin 2) (n q : Fin 2048) :
    val_main_v27 (F := Ideal) x0 (ix3 b n q) = Conv.delay (fun i => val_main_v0 (F := Ideal) x0 (ix3 b i q)) 0 n := by
  pointwise [val_main_v27]
  exact ref_pad x0 b _ q 0 n (by show 3 + n.val + 0 = _; omega) (by omega)

/-- The convolution's output, -/
theorem ref_pre (b : Fin 2) (n q : Fin 2048) :
    val_main_v33 (F := Ideal) x0 x1 (ix3 b n q)
      = Conv.pre (fun i => val_main_v0 (F := Ideal) x0 (ix3 b i q)) (fun r => val_main_v1 (F := Ideal) x1 (ix2 r q)) n := by
  pointwise [val_main_v33, val_main_v32, val_main_v31, val_main_v30, val_main_v29, val_main_v28, val_main_v26, val_main_v25,
    val_main_v24, val_main_v23, val_main_v22, val_main_v21, val_main_v19, val_main_v18, val_main_v17, val_main_v16,
    val_main_v15, val_main_v14, val_main_v12, val_main_v11, val_main_v10, val_main_v9, val_main_v8, val_main_v7,
    val_main_v6, val_main_cst_1]
  rw [ref_delay3, ref_delay2, ref_delay1, ref_delay0, Conv.delay_zero]
  unfold Conv.pre
  simp only [mul_comm]

/-- and the gradient at it, through the activation. -/
theorem ref_back (b : Fin 2) (n q : Fin 2048) :
    val_main_v35 (F := Ideal) x0 x1 x2 (ix3 b n q)
      = Conv.dact (val_main_v33 (F := Ideal) x0 x1 (ix3 b n q)) (x2 (ix3 b n q)) := by
  pointwise [val_main_v35, val_main_call1_v2, val_main_call1_v1, val_main_call1_v0, val_main_v34_1, val_main_v34_2,
    val_main_call0_v7, val_main_call0_v6, val_main_call0_cst_1, val_main_call0_v4, val_main_call0_cst_0, val_main_call0_v3,
    val_main_call0_v2, val_main_call0_cst, val_main_call0_v1, val_main_call0_v0]
  rfl

/-- and the gradient at the convolution's output, of a head. -/
theorem ref_dpre (b : Fin 2) (n : Fin 2048) (j : Fin 16) (k : Fin 128) :
    val_main_v35 (F := Ideal) x0 x1 x2 (ix3 b n (Conv.col j k))
      = dpre (fun i l => val_main_v0 (F := Ideal) x0 (ix3 b i (Conv.col j l))) (fun i l => x2 (ix3 b i (Conv.col j l)))
          (fun r l => val_main_v1 (F := Ideal) x1 (ix2 r (Conv.col j l))) n k := by
  rw [ref_back, ref_pre]
  rfl

/-- The gradient of the lane. -/
theorem ref_dx (b : Fin 2) (n q : Fin 2048) :
    val_main_v79 (F := Ideal) x0 x1 x2 (ix3 b n q)
      = Conv.dx (fun r => val_main_v1 (F := Ideal) x1 (ix2 r q)) (fun i => val_main_v35 (F := Ideal) x0 x1 x2 (ix3 b i q)) n := by
  pointwise [val_main_v79, val_main_v77, val_main_v76, val_main_v71, val_main_v70, val_main_v66, val_main_v65,
    val_main_v60, val_main_v59, val_main_v55, val_main_v54, val_main_v49, val_main_v48, val_main_v44, val_main_v40,
    val_main_v39, val_main_cst_5, val_main_cst_9, val_main_cst_13, val_main_cst_17,
    val_main_v30, val_main_v29, val_main_v28, val_main_v23, val_main_v22, val_main_v21, val_main_v16,
    val_main_v15, val_main_v14, val_main_v8, val_main_v7, val_main_v6]
  exact Conv.dx_padded (fun r => val_main_v1 (F := Ideal) x1 (ix2 r q)) (fun i => val_main_v35 (F := Ideal) x0 x1 x2 (ix3 b i q)) n _ _ _

theorem ref_tok (i : S4096x2048.Idx) (b : Fin 2) (n : Fin 2048) (h : (i 0).val = b.val * 2048 + n.val) :
    val_main_v81 (F := Ideal) x0 x1 x2 i = val_main_v79 (F := Ideal) x0 x1 x2 (ix3 b n (i 1)) :=
  Rows.tok_apply (val_main_v79 (F := Ideal) x0 x1 x2) _ i b n h

theorem ref_sum3 (q : Fin 2048) :
    val_main_v41 (F := Ideal) x0 x1 x2 (ix1 q) = ∑ b : Fin 2, Conv.dw (fun i => val_main_v0 (F := Ideal) x0 (ix3 b i q)) (fun i => val_main_v35 (F := Ideal) x0 x1 x2 (ix3 b i q)) 0 := by
  pointwise [val_main_v41, val_main_v38, val_main_cst_3, val_main_v37, val_main_cst_2, val_main_v36, Cert.Sums.hostReduceAdd_lead]
  simp only [Finset.univ_unique, Finset.sum_singleton]
  exact Conv.dw_sum 0 _ _ _ fun b n => ref_delay0 x0 b n q

theorem ref_sum2 (q : Fin 2048) :
    val_main_v50 (F := Ideal) x0 x1 x2 (ix1 q) = ∑ b : Fin 2, Conv.dw (fun i => val_main_v0 (F := Ideal) x0 (ix3 b i q)) (fun i => val_main_v35 (F := Ideal) x0 x1 x2 (ix3 b i q)) 1 := by
  pointwise [val_main_v50, val_main_v47, val_main_cst_7, val_main_v46, val_main_cst_6, val_main_v45, Cert.Sums.hostReduceAdd_lead]
  simp only [Finset.univ_unique, Finset.sum_singleton]
  exact Conv.dw_sum 1 _ _ _ fun b n => ref_delay1 x0 b n q

theorem ref_sum1 (q : Fin 2048) :
    val_main_v61 (F := Ideal) x0 x1 x2 (ix1 q) = ∑ b : Fin 2, Conv.dw (fun i => val_main_v0 (F := Ideal) x0 (ix3 b i q)) (fun i => val_main_v35 (F := Ideal) x0 x1 x2 (ix3 b i q)) 2 := by
  pointwise [val_main_v61, val_main_v58, val_main_cst_11, val_main_v57, val_main_cst_10, val_main_v56, Cert.Sums.hostReduceAdd_lead]
  simp only [Finset.univ_unique, Finset.sum_singleton]
  exact Conv.dw_sum 2 _ _ _ fun b n => ref_delay2 x0 b n q

theorem ref_sum0 (q : Fin 2048) :
    val_main_v72 (F := Ideal) x0 x1 x2 (ix1 q) = ∑ b : Fin 2, Conv.dw (fun i => val_main_v0 (F := Ideal) x0 (ix3 b i q)) (fun i => val_main_v35 (F := Ideal) x0 x1 x2 (ix3 b i q)) 3 := by
  pointwise [val_main_v72, val_main_v69, val_main_cst_15, val_main_v68, val_main_cst_14, val_main_v67, Cert.Sums.hostReduceAdd_lead]
  simp only [Finset.univ_unique, Finset.sum_singleton]
  exact Conv.dw_sum 3 _ _ _ fun b n => ref_delay3 x0 b n q

/-- The gradient of the taps. -/
theorem ref_dw (r : Fin 4) (q : Fin 2048) :
    val_main_v75 (F := Ideal) x0 x1 x2 (ix2 r q) = ∑ b : Fin 2, Conv.dw (fun i => val_main_v0 (F := Ideal) x0 (ix3 b i q)) (fun i => val_main_v35 (F := Ideal) x0 x1 x2 (ix3 b i q)) (3 - r.val) := by
  pointwise [val_main_v75, val_main_v74, val_main_v64, val_main_v63, val_main_v53, val_main_v52, val_main_v43,
    val_main_cst_4, val_main_cst_8, val_main_cst_12, val_main_cst_16, val_main_v42, val_main_v51, val_main_v62, val_main_v73]
  simp only [ref_sum3, ref_sum2, ref_sum1, ref_sum0]
  exact Conv.rows_padded (fun s => ∑ b : Fin 2, Conv.dw (fun i => val_main_v0 (F := Ideal) x0 (ix3 b i q)) (fun i => val_main_v35 (F := Ideal) x0 x1 x2 (ix3 b i q)) s)
    r _ _ _ _ (by omega) (by omega) (by omega) (by omega)

/-! What the kernel reads, and its results. -/

abbrev Z (c : Dev nD) : FVec Ideal S2x2048x18480 .f32 := m ((c : Thread nD τ).loc main_arg0)
abbrev W (c : Dev nD) : FVec Ideal S4x6144 .f32 := m ((c : Thread nD τ).loc main_arg1)
abbrev CT (c : Dev nD) : FVec Ideal S2x2048x2048 .f32 := m ((c : Thread nD τ).loc main_arg2)

/-- A point's batch and head. -/
abbrev bat (t : Fin cfg0.N) : Fin 2 := ⟨t.val % 2, Nat.mod_lt _ (by omega)⟩
abbrev hd (t : Fin cfg0.N) : Fin 16 := ⟨t.val / 2, by have := (idx t).2.2.2.2.2; omega⟩

theorem emb0 (t : Fin cfg0.N) (n : Fin 2048) (k : Fin 128) :
    (((((cfg0.win 0).blk t).view.emb (ix2 n k)) 0).val = (bat t).val * 2048 + n.val)
      ∧ ((((cfg0.win 0).blk t).view.emb (ix2 n k)) 1).val = 10240 + (t.val / 2 * 128 + k.val) := by
  constructor
  · blk_simp [idx t]
  · blk_simp [idx t]
    omega

theorem blk_z (c : Dev nD) (t : Fin cfg0.N) (n : Fin 2048) (k : Fin 128) :
    iblk m c 0 t (ix2 n k) = val_main_v0 (F := Ideal) (Z m c) (ix3 (bat t) n (Conv.col (hd t) k)) := by
  have hT := (idx t).2.2.2.2.2
  have hk := k.isLt
  rw [ref_cols (Z m c) _ _ _ ⟨10256 + (t.val / 2 * 128 + k.val), by omega⟩ rfl]
  have e : V m c main_v5 = concatenate S4096x18432 1
      [⟨S4096x6144, extractStridedSlice S4096x6144 ![0, 0] (shapeCast S4096x18480 (Z m c) shapeCasts_S2x2048x18480_S4096x18480) slices_S4096x18480_S4096x6144_0_0⟩,
       ⟨S4096x6144, extractStridedSlice S4096x6144 ![0, 6160] (shapeCast S4096x18480 (Z m c) shapeCasts_S2x2048x18480_S4096x18480) slices_S4096x18480_S4096x6144_0_6160⟩,
       ⟨S4096x2048, extractStridedSlice S4096x2048 ![0, 12304] (shapeCast S4096x18480 (Z m c) shapeCasts_S2x2048x18480_S4096x18480) slices_S4096x18480_S4096x2048_0_12304⟩,
       ⟨S4096x4096, extractStridedSlice S4096x4096 ![0, 14384] (shapeCast S4096x18480 (Z m c) shapeCasts_S2x2048x18480_S4096x18480) slices_S4096x18480_S4096x4096_0_14384⟩]
      concatenates_S4096x6144_S4096x6144_S4096x2048_S4096x4096_S4096x18432_d1 := by
    unfold V
    after_results
    try rfl
  show V m c main_v5 (((cfg0.win 0).blk t).view.emb (ix2 n k)) = _
  rw [e]
  exact BigCols.apply (Z m c) _ _ _ _ _ _ _ (bat t) n _ (emb0 t n k).1 (Or.inr (Or.inl (by
    rw [(emb0 t n k).2]
    show _ ∧ _ ∧ 10256 + (t.val / 2 * 128 + k.val) = _
    omega)))

theorem blk_w (c : Dev nD) (t : Fin cfg0.N) (r : Fin 4) (k : Fin 128) :
    iblk m c 1 t (ix2 r k) = val_main_v1 (F := Ideal) (W m c) (ix2 r (Conv.col (hd t) k)) := by
  have hT := (idx t).2.2.2.2.2
  have hk := k.isLt
  rw [ref_wcols (W m c) _ _ ⟨4096 + (t.val / 2 * 128 + k.val), by omega⟩ rfl]
  blk_ext [iblk, V, idx t]

theorem blk_ct (c : Dev nD) (t : Fin cfg0.N) (n : Fin 2048) (k : Fin 128) :
    iblk m c 2 t (ix2 n k) = CT m c (ix3 (bat t) n (Conv.col (hd t) k)) := by
  have e : V m c main_v10 = shapeCast S4096x2048 (CT m c) shapeCasts_S2x2048x2048_S4096x2048 := by
    entry_read
    rfl
  blk_simp [iblk, idx t]
  rw [e, Rows.tok_apply _ _ _ (bat t) n (by blk_simp [idx t])]
  blk_ext [idx t]

/-- A point's gradient at the convolution's output is the reference's. -/
theorem dblk_eq (c : Dev nD) (t : Fin cfg0.N) (n : Fin 2048) (k : Fin 128) :
    dblk m c t n k = val_main_v35 (F := Ideal) (Z m c) (W m c) (CT m c) (ix3 (bat t) n (Conv.col (hd t) k)) := by
  rw [ref_dpre]
  unfold dblk
  simp only [blk_z, blk_w, blk_ct]

theorem emb3 (t : Fin cfg0.N) (n : Fin 2048) (k : Fin 128) :
    (((((cfg0.win 3).blk t).view.emb (ix2 n k)) 0).val = (bat t).val * 2048 + n.val)
      ∧ (((cfg0.win 3).blk t).view.emb (ix2 n k)) 1 = Conv.col (hd t) k := by
  constructor
  · blk_simp [idx t]
  · apply Fin.ext
    blk_simp [idx t]

theorem emb4 (t : Fin cfg0.N) (r : Fin 4) (k : Fin 128) :
    ((cfg0.win 4).blk t).view.emb (ix2 r k) = ix2 r (Conv.col (hd t) k) := by
  blk_ext [idx t]

/-- A grid point's part of the taps' gradient, in the reference's arrays. -/
theorem part_eq (c : Dev nD) (t : Fin cfg0.N) (r : Fin 4) (k : Fin 128) :
    part m c t (ix2 r k) = Conv.dw (fun i => val_main_v0 (F := Ideal) (Z m c) (ix3 (bat t) i (Conv.col (hd t) k)))
      (fun i => val_main_v35 (F := Ideal) (Z m c) (W m c) (CT m c) (ix3 (bat t) i (Conv.col (hd t) k))) (3 - r.val) := by
  rw [← funext fun i => blk_z m c t i k, ← funext fun i => dblk_eq m c t i k]
  rfl

/-- The gradient of the values' columns. -/
theorem final3 (c : Dev nD) : (dats m 0 c).arrAt 3 (cfgs 0).N
    = val_main_v81 (F := Ideal) (Z m c) (W m c) (CT m c) := by
  refine (dats m 0 c).arrAt_eq_of_covers 3 _ (by decide +kernel) fun t _ y => ?_
  obtain ⟨n, k, rfl⟩ : ∃ n k, y = ix2 n k := ⟨y 0, y 1, by idx_vars y⟩
  blk_simp
  rw [after0_3, dx_blk, ref_tok _ _ _ _ (bat t) n (emb3 t n k).1, (emb3 t n k).2, ref_dx]
  simp only [blk_w, dblk_eq]

/-- The gradient of the values' taps. -/
theorem final4 (c : Dev nD) : (dats m 0 c).arrAt 4 (cfgs 0).N
    = val_main_v75 (F := Ideal) (Z m c) (W m c) (CT m c) := by
  refine (dats m 0 c).arrAt_eq_of_covers 4 _ (by decide +kernel) fun t hf y => ?_
  blk_simp
  rw [after0_4, Pipeline.eq_sum_fin_of_reset_step_apply_of_flush (fun n h => (outsAt0 m c n h).2) 2 (fun _ => 0) _
    (fun t h j => taps_A m c t h j) (fun t h j => taps_B m c t h j) t ((flush0_4 t).mp hf) _, zero_add]
  obtain ⟨r, k, rfl⟩ : ∃ r k, y = ix2 r k := ⟨y 0, y 1, by idx_vars y⟩
  refine Eq.trans ?_ ((congrArg (val_main_v75 (F := Ideal) (Z m c) (W m c) (CT m c)) (emb4 t r k)).trans (ref_dw _ _ _ r _)).symm
  refine Fin.sum_fin_congr fun s => ?_
  have hb : bat ⟨2 * (t.val / 2) + s.val, Pipeline.run_point_lt_of_flush t ((flush0_4 t).mp hf) s⟩ = s :=
    Fin.ext (by show (2 * (t.val / 2) + s.val) % 2 = s.val; omega)
  have hh : hd ⟨2 * (t.val / 2) + s.val, Pipeline.run_point_lt_of_flush t ((flush0_4 t).mp hf) s⟩ = hd t :=
    Fin.ext (by show (2 * (t.val / 2) + s.val) / 2 = t.val / 2; omega)
  exact (part_eq m c _ r k).trans (by rw [hb, hh])

end Cert.ConvVIdeal.RefValue

end
-- ==== Proof.ConvVClaim.lean ====
/- The claims about the gradient of the values' convolution: the reference runs and leaves its arguments as
   they are, and the kernel's results are the reference's. -/
module

public import proofs.«01_k».proof.Proof.ConvVValue

@[expose] public section

set_option maxRecDepth 16384

noncomputable section

open Idealize.ShloMosaic Idealize.ShloMosaic.TcCoe Idealize.SL.Sem

namespace Cert.ConvVIdeal.RefValue

open Cert.ConvVRefIdeal.Read

instance factsK : Cert.ConvVIdeal.Facts := Cert.ConvVIdeal.Gen.facts
instance factsR : Cert.ConvVRefIdeal.Facts := Cert.ConvVRefIdeal.Gen.facts

/-- The reference runs, leaves its arguments as they are and declares no semaphore. -/
theorem frame_ref : Cert.quiescent_ConvVRefIdeal := fun m g _ =>
  (θ_run _ _ _).mono (fun r h => ⟨fun c => (h c).2.2, sem_eq_zero_of_no_sems rfl _⟩)
    (Cert.ConvVRefIdeal.Value.run m g)

set_option maxHeartbeats 1000000 in
/-- The kernel's results are the reference's. -/
theorem algebraic : Cert.algebraic_ConvVIdeal_ConvVRefIdeal := by
  pair_intro
  · run_from Cert.ConvVIdeal.Gen.run_main m g
  refine (θ_run _ _ _).mono (fun r h c => ?_) (Cert.ConvVRefIdeal.Value.run m' g')
  obtain ⟨a0, a1, a2⟩ := hagree c
  refine ⟨((h c).1.trans (val_main_v81_eq m' c)).trans ?_,
    ((h c).2.1.trans (val_main_v75_eq m' c)).trans ?_, (h c).2.2⟩
  · simp only [a0, a1, a2]
    exact (final3 m c).symm
  · simp only [a0, a1, a2]
    exact (final4 m c).symm

end Cert.ConvVIdeal.RefValue

end
-- ==== Proof.RmsFwdValue.lean ====
/- The root-mean-square norm of every token's row: the kernel's result array after the run is the reference's. -/
module

public import proofs.«01_k».proof.Defs
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RmsFwdIdeal.RefValue

open Cert Cert.RmsFwdIdeal Cert.RmsFwdIdeal.Gen Cert.RmsFwdRefIdeal.Read

variable (m : (ℓ : Loc nD τ sig) → Buf (Elt Ideal) ℓ)

/-- The arguments: the rows of tokens and the gain. -/
abbrev X (c : Dev nD) : FVec Ideal S2x2048x2048 .f32 := m ((c : Thread nD τ).loc main_arg0)
@[inherit_doc X] abbrev G (c : Dev nD) : FVec Ideal S1x2048 .f32 := m ((c : Thread nD τ).loc main_arg1)

/-- The windows' block indices at every grid point. -/
theorem idx : ∀ t : Fin cfg0.N, win0_0.index t = ![t.val, 0] ∧ win0_1.index t = ![0, 0] ∧ win0_2.index t = ![t.val, 0]
    ∧ t.val < 16 :=
  (by decide +kernel : ∀ t : Fin grid0.N, _)

/-- The rows of tokens that the call reads. -/
theorem V_x (c : Dev nD) (i : S4096x2048.Idx) (a : Fin 2) (b : Fin 2048) (h : (i 0).val = a.val * 2048 + b.val) :
    V m c main_v0 i = X m c (ix3 a b (i 1)) := by
  have e : V m c main_v0 = shapeCast S4096x2048 (X m c) shapeCasts_S2x2048x2048_S4096x2048 := by
    entry_read
    rfl
  rw [e]
  exact Rows.tok_apply _ _ i a b h

/-- The block of rows that a point reads, at its rows' batch and position. -/
theorem blk_x (c : Dev nD) (t : Fin cfg0.N) (r : Fin 256) (k : Fin 2048) (ha : t.val / 8 < 2)
    (hb : t.val % 8 * 256 + r.val < 2048) :
    iblk m c 0 t (ix2 r k) = X m c (ix3 ⟨t.val / 8, ha⟩ ⟨t.val % 8 * 256 + r.val, hb⟩ k) := by
  blk_simp [iblk, idx t]
  rw [V_x m c _ ⟨t.val / 8, ha⟩ ⟨t.val % 8 * 256 + r.val, hb⟩
    (by blk_simp [idx t]; show _ = t.val / 8 * 2048 + (t.val % 8 * 256 + r.val); omega)]
  blk_ext [idx t]

/-- The gain is read whole at every point. -/
theorem blk_g (c : Dev nD) (t : Fin cfg0.N) (i) : iblk m c 1 t i = G m c i := by
  blk_ext [iblk, V, idx t]

/-- What a point stores, row by row: the row over its root mean square, times the gain. -/
theorem pay_row (x : FVec Ideal S256x2048 .f32) (g : FVec Ideal S1x2048 .f32) (r : Fin 256) (k : Fin 2048) :
    k0_pay1 (F := Ideal) x g (ix2 r k) = x (ix2 r k) * Rows.inv (fun k => x (ix2 r k)) * g (ix2 0 k) := by
  pointwise [k0_pay1]
  rfl

/-- The reference's array, row by row. -/
theorem ref_row (x : FVec Ideal S2x2048x2048 .f32) (g : FVec Ideal S1x2048 .f32)
    (i : S4096x2048.Idx) (a : Fin 2) (b : Fin 2048) (h : (i 0).val = a.val * 2048 + b.val) (k : Fin 2048) (hk : i 1 = k) :
    val_main_v15 (F := Ideal) x g i = x (ix3 a b k) * Rows.inv (fun k => x (ix3 a b k)) * g (ix2 0 k) := by
  have ea : (⟨(i 0).val / 2048, Rows.batch_lt (i 0)⟩ : Fin 2) = a := Fin.ext (Rows.batch_eq h b.isLt)
  have eb : (⟨(i 0).val % 2048, Nat.mod_lt _ (by decide)⟩ : Fin 2048) = b := Fin.ext (Rows.pos_eq h b.isLt)
  subst hk
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [ea, eb]
  rfl

/-- The result array after the run is the reference's array. -/
theorem final2 (c : Dev nD) : (dats m 0 c).arrAt 2 (cfgs 0).N = val_main_v15 (F := Ideal) (X m c) (G m c) := by
  refine (dats m 0 c).arrAt_eq_of_covers 2 _ (by decide +kernel) fun t _ y => ?_
  blk_simp
  rw [after0_2]
  frame_out
  obtain ⟨r, k, rfl⟩ : ∃ r k, y = ix2 r k := ⟨y 0, y 1, by idx_vars y⟩
  have hT := (idx t).2.2.2
  have ha : t.val / 8 < 2 := by omega
  have hb : t.val % 8 * 256 + r.val < 2048 := by have := r.isLt; omega
  rw [pay_row, ref_row _ _ _ ⟨_, ha⟩ ⟨_, hb⟩
    (by blk_simp [idx t]; show _ = t.val / 8 * 2048 + (t.val % 8 * 256 + r.val); omega) k (by apply Fin.ext; blk_simp [idx t])]
  simp only [blk_x m c t _ _ ha hb, blk_g]

end Cert.RmsFwdIdeal.RefValue

end
-- ==== Proof.RmsFwdClaim.lean ====
/- The claims about the row norm: the reference runs and leaves its arguments as
   they are, and the kernel's results are the reference's. -/
module

public import proofs.«01_k».proof.Proof.RmsFwdValue

@[expose] public section

set_option maxRecDepth 16384

noncomputable section

open Idealize.ShloMosaic Idealize.ShloMosaic.TcCoe Idealize.SL.Sem

namespace Cert.RmsFwdIdeal.RefValue

open Cert.RmsFwdRefIdeal.Read

instance factsK : Cert.RmsFwdIdeal.Facts := Cert.RmsFwdIdeal.Gen.facts
instance factsR : Cert.RmsFwdRefIdeal.Facts := Cert.RmsFwdRefIdeal.Gen.facts

/-- The reference runs, leaves its arguments as they are and declares no semaphore. -/
theorem frame_ref : Cert.quiescent_RmsFwdRefIdeal := fun m g _ =>
  (θ_run _ _ _).mono (fun r h => ⟨fun c => (h c).2, sem_eq_zero_of_no_sems rfl _⟩)
    (Cert.RmsFwdRefIdeal.Value.run m g)

set_option maxHeartbeats 1000000 in
/-- The kernel's results are the reference's. -/
theorem algebraic : Cert.algebraic_RmsFwdIdeal_RmsFwdRefIdeal := by
  pair_intro
  · run_from Cert.RmsFwdIdeal.Gen.run_main m g
  refine (θ_run _ _ _).mono (fun r h c => ?_) (Cert.RmsFwdRefIdeal.Value.run m' g')
  obtain ⟨a0, a1⟩ := hagree c
  refine ⟨((h c).1.trans (val_main_v15_eq _ _)).trans ?_, (h c).2⟩
  · simp only [a0, a1]
    exact (final2 m c).symm

end Cert.RmsFwdIdeal.RefValue

end
-- ==== Proof.MergeFwdValue.lean ====
/- The gated merge of the two mixers: the kernel's result array after the run is the reference's. -/
module

public import proofs.«01_k».proof.Defs
public import proofs.«01_k».proof.Proof.Gen.MergeFwdIdeal.Value
public import proofs.«01_k».proof.Proof.Gen.MergeFwdRefIdeal.Run
public import proofs.«01_k».proof.Proof.Gen.MergeFwdRefIdeal.Read
public import proofs.«01_k».proof.Proof.Rows
public import proofs.«01_k».proof.Proof.BigCols
public import proofs.«01_k».proof.Proof.ConvMath
public import proofs.«01_k».proof.Proof.MergeMath
public import proofs.«01_k».proof.Proof.MergeRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeFwdIdeal.RefValue

open Cert Cert.MergeFwdIdeal Cert.MergeFwdIdeal.Gen Cert.MergeFwdRefIdeal.Read

variable (m : (ℓ : Loc nD τ sig) → Buf (Elt Ideal) ℓ)

/-- The arguments: the two branches, the projection and the two gains. -/
abbrev OG (c : Dev nD) : FVec Ideal S2x2048x2048 .f32 := m ((c : Thread nD τ).loc main_arg0)
@[inherit_doc OG] abbrev OD (c : Dev nD) : FVec Ideal S2x2048x2048 .f32 := m ((c : Thread nD τ).loc main_arg1)
@[inherit_doc OG] abbrev Z (c : Dev nD) : FVec Ideal S2x2048x18480 .f32 := m ((c : Thread nD τ).loc main_arg2)
@[inherit_doc OG] abbrev GN (c : Dev nD) : FVec Ideal S1x512 .f32 := m ((c : Thread nD τ).loc main_arg3)
@[inherit_doc OG] abbrev DN (c : Dev nD) : FVec Ideal S1x128 .f32 := m ((c : Thread nD τ).loc main_arg4)

/-- The windows' block indices at every grid point: a block of tokens and a block of lanes. -/
theorem idx : ∀ t : Fin cfg0.N, win0_0.index t = ![t.val / 4, t.val % 4] ∧ win0_1.index t = ![t.val / 4, 8 + t.val % 4]
    ∧ win0_2.index t = ![t.val / 4, t.val % 4] ∧ win0_3.index t = ![t.val / 4, 24 + t.val % 4]
    ∧ win0_4.index t = ![t.val / 4, 28 + t.val % 4] ∧ win0_5.index t = ![t.val / 4, 32 + t.val % 4]
    ∧ win0_6.index t = ![0, 0] ∧ win0_7.index t = ![0, 0] ∧ win0_8.index t = ![t.val / 4, t.val % 4] ∧ t.val < 64 :=
  (by decide +kernel : ∀ t : Fin grid0.N, _)

/-- A point's batch, its rows' positions, its wide head and its narrow ones. -/
abbrev bat (t : Fin cfg0.N) : Fin 2 := ⟨t.val / 4 / 8, by have := (idx t).2.2.2.2.2.2.2.2.2; omega⟩
@[inherit_doc bat] abbrev pos (t : Fin cfg0.N) (r : Fin 256) : Fin 2048 := ⟨t.val / 4 % 8 * 256 + r.val, by omega⟩
@[inherit_doc bat] abbrev hd (t : Fin cfg0.N) : Fin 4 := ⟨t.val % 4, by omega⟩
@[inherit_doc bat] abbrev hn (t : Fin cfg0.N) (j : Fin 4) : Fin 16 := ⟨t.val % 4 * 4 + j.val, by omega⟩

/-- A column of the projection, a run of columns' start and a lane. -/
abbrev zc (o : Nat) (ho : o ≤ 16432) (q : Fin 2048) : Fin 18480 := ⟨o + q.val, by omega⟩

/-- A lane of a wide head is a lane of one of its narrow heads. -/
theorem lane_split (q : Fin 512) : ∃ (j : Fin 4) (k : Fin 128), q = ⟨j.val * 128 + k.val, by omega⟩ :=
  ⟨⟨q.val / 128, by omega⟩, ⟨q.val % 128, Nat.mod_lt _ (by omega)⟩, Fin.ext (by show q.val = q.val / 128 * 128 + q.val % 128; omega)⟩

/-- A lane's head and its place in it. -/
theorem head_of {j : Fin 4} {k b : Fin 128} (o : Fin 4) (h : j.val * 128 + k.val = o.val * 128 + b.val) : j = o ∧ k = b :=
  ⟨Fin.ext (by omega), Fin.ext (by omega)⟩

/-- A narrow head's lane among the wide head's. -/
theorem col_eq (t : Fin cfg0.N) (j : Fin 4) (k : Fin 128) (h : j.val * 128 + k.val < 512) :
    MergeRef.wcol (hd t) ⟨j.val * 128 + k.val, h⟩ = Conv.col (hn t j) k := by
  apply Fin.ext
  show t.val % 4 * 512 + (j.val * 128 + k.val) = (t.val % 4 * 4 + j.val) * 128 + k.val
  omega

/-- Where a point's row stands among the tokens. -/
theorem row_at (t : Fin cfg0.N) (r : Fin 256) : t.val / 4 * 256 + r.val = (bat t).val * 2048 + (pos t r).val := by
  have hT := (idx t).2.2.2.2.2.2.2.2.2
  show _ = t.val / 4 / 8 * 2048 + (t.val / 4 % 8 * 256 + r.val)
  omega

/-- The block of the wide branch's output that a point reads. -/
theorem blk_og (c : Dev nD) (t : Fin cfg0.N) (r : Fin 256) (q : Fin 512) :
    iblk m c 0 t (ix2 r q) = OG m c (ix3 (bat t) (pos t r) (MergeRef.wcol (hd t) q)) := by
  have e : V m c main_v10 = shapeCast S4096x2048 (OG m c) shapeCasts_S2x2048x2048_S4096x2048 := by
    entry_read
    rfl
  blk_simp [iblk, idx t]
  rw [e, Rows.tok_apply _ _ _ (bat t) (pos t r) (by blk_simp [idx t]; exact row_at t r)]
  blk_ext [idx t]

/-- The block of the narrow branch's output that a point reads. -/
theorem blk_od (c : Dev nD) (t : Fin cfg0.N) (r : Fin 256) (q : Fin 512) :
    iblk m c 2 t (ix2 r q) = OD m c (ix3 (bat t) (pos t r) (MergeRef.wcol (hd t) q)) := by
  have e : V m c main_v11 = shapeCast S4096x2048 (OD m c) shapeCasts_S2x2048x2048_S4096x2048 := by
    entry_read
    rfl
  blk_simp [iblk, idx t]
  rw [e, Rows.tok_apply _ _ _ (bat t) (pos t r) (by blk_simp [idx t]; exact row_at t r)]
  blk_ext [idx t]

/-- The wide columns of the projection, side by side, read at a token and one of a point's runs of lanes. -/
theorem big (c : Dev nD) (t : Fin cfg0.N) (r : Fin 256) (q : Fin 512) (i : S4096x18432.Idx) (p o : Nat) (ho : o ≤ 16432)
    (h0 : (i 0).val = t.val / 4 * 256 + r.val) (h1 : (i 1).val = p + (MergeRef.wcol (hd t) q).val)
    (hp : (p = 4096 ∧ o = 4096) ∨ (p = 12288 ∧ o = 12304) ∨ (p = 14336 ∧ o = 14384) ∨ (p = 16384 ∧ o = 16432)) :
    V m c main_v5 i = Z m c (ix3 (bat t) (pos t r) (zc o ho (MergeRef.wcol (hd t) q))) := by
  have e : V m c main_v5 = concatenate S4096x18432 1
      [⟨S4096x6144, extractStridedSlice S4096x6144 ![0, 0] (shapeCast S4096x18480 (Z m c) shapeCasts_S2x2048x18480_S4096x18480) slices_S4096x18480_S4096x6144_0_0⟩,
       ⟨S4096x6144, extractStridedSlice S4096x6144 ![0, 6160] (shapeCast S4096x18480 (Z m c) shapeCasts_S2x2048x18480_S4096x18480) slices_S4096x18480_S4096x6144_0_6160⟩,
       ⟨S4096x2048, extractStridedSlice S4096x2048 ![0, 12304] (shapeCast S4096x18480 (Z m c) shapeCasts_S2x2048x18480_S4096x18480) slices_S4096x18480_S4096x2048_0_12304⟩,
       ⟨S4096x4096, extractStridedSlice S4096x4096 ![0, 14384] (shapeCast S4096x18480 (Z m c) shapeCasts_S2x2048x18480_S4096x18480) slices_S4096x18480_S4096x4096_0_14384⟩]
      concatenates_S4096x6144_S4096x6144_S4096x2048_S4096x4096_S4096x18432_d1 := by
    unfold V
    after_results
    try rfl
  rw [e]
  exact BigCols.apply (Z m c) _ _ _ _ _ _ _ (bat t) (pos t r) _ (h0.trans (row_at t r)) (by
    rw [h1]
    have := (MergeRef.wcol (hd t) q).isLt
    show (_ ∧ o + (MergeRef.wcol (hd t) q).val = _) ∨ (_ ∧ _ ∧ o + (MergeRef.wcol (hd t) q).val = _)
      ∨ (_ ∧ o + (MergeRef.wcol (hd t) q).val = _)
    omega)

/-- The block of the wide branch's SiLU gate. -/
theorem blk_zw (c : Dev nD) (t : Fin cfg0.N) (r : Fin 256) (q : Fin 512) :
    iblk m c 1 t (ix2 r q) = Z m c (ix3 (bat t) (pos t r) (zc 4096 (by decide) (MergeRef.wcol (hd t) q))) := by
  show V m c main_v5 (((cfg0.win 1).blk t).view.emb (ix2 r q)) = _
  exact big m c t r q _ 4096 4096 (by decide) (by blk_simp [idx t])
    (by blk_simp [idx t]; show _ = 4096 + (t.val % 4 * 512 + q.val); omega) (by omega)

/-- The block of the narrow branch's SiLU gate. -/
theorem blk_zn (c : Dev nD) (t : Fin cfg0.N) (r : Fin 256) (q : Fin 512) :
    iblk m c 3 t (ix2 r q) = Z m c (ix3 (bat t) (pos t r) (zc 12304 (by decide) (MergeRef.wcol (hd t) q))) := by
  show V m c main_v5 (((cfg0.win 3).blk t).view.emb (ix2 r q)) = _
  exact big m c t r q _ 12288 12304 (by decide) (by blk_simp [idx t])
    (by blk_simp [idx t]; show _ = 12288 + (t.val % 4 * 512 + q.val); omega) (by omega)

/-- The block of the wide branch's sigmoid gate. -/
theorem blk_gw (c : Dev nD) (t : Fin cfg0.N) (r : Fin 256) (q : Fin 512) :
    iblk m c 4 t (ix2 r q) = Z m c (ix3 (bat t) (pos t r) (zc 14384 (by decide) (MergeRef.wcol (hd t) q))) := by
  show V m c main_v5 (((cfg0.win 4).blk t).view.emb (ix2 r q)) = _
  exact big m c t r q _ 14336 14384 (by decide) (by blk_simp [idx t])
    (by blk_simp [idx t]; show _ = 14336 + (t.val % 4 * 512 + q.val); omega) (by omega)

/-- The block of the narrow branch's sigmoid gate. -/
theorem blk_gn (c : Dev nD) (t : Fin cfg0.N) (r : Fin 256) (q : Fin 512) :
    iblk m c 5 t (ix2 r q) = Z m c (ix3 (bat t) (pos t r) (zc 16432 (by decide) (MergeRef.wcol (hd t) q))) := by
  show V m c main_v5 (((cfg0.win 5).blk t).view.emb (ix2 r q)) = _
  exact big m c t r q _ 16384 16432 (by decide) (by blk_simp [idx t])
    (by blk_simp [idx t]; show _ = 16384 + (t.val % 4 * 512 + q.val); omega) (by omega)

/-- The gains are read whole at every point. -/
theorem blk_gainw (c : Dev nD) (t : Fin cfg0.N) (i) : iblk m c 6 t i = GN m c i := by
  blk_ext [iblk, V, idx t]

@[inherit_doc blk_gainw] theorem blk_gainn (c : Dev nD) (t : Fin cfg0.N) (i) : iblk m c 7 t i = DN m c i := by
  blk_ext [iblk, V, idx t]

/-- A branch's share of the merge at a lane: the sigmoid gate times the normed head, its gain and the SiLU gate. -/
def share {w : Nat} (c : EReal) (x n : Fin w → EReal) (z g : EReal) (k : Fin w) : EReal :=
  Ideal.logistic g * (Merge.nrm c x k * n k * Merge.sil z)

/-- What a point stores: the two branches' shares. -/
theorem stored (c : Dev nD) (t : Fin cfg0.N) (r : Fin 256) (j : Fin 4) (k : Fin 128) (q : Fin 512) (hq : q.val = j.val * 128 + k.val) :
    (dats m 0 c).after 8 t (ix2 r q)
      = share (Ideal.ofBits .f32 0x44000000#32) (fun l => iblk m c 0 t (ix2 r l)) (fun l => iblk m c 6 t (ix2 0 l))
          (iblk m c 1 t (ix2 r q)) (iblk m c 4 t (ix2 r q)) q
        + share (Ideal.ofBits .f32 0x43000000#32) (fun l : Fin 128 => iblk m c 2 t (ix2 r ⟨j.val * 128 + l.val, by omega⟩))
          (fun l => iblk m c 7 t (ix2 0 l)) (iblk m c 3 t (ix2 r q)) (iblk m c 5 t (ix2 r q)) k := by
  rw [after0_8]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  frame_out
  canon_tiles x h
  all_goals obtain ⟨a, b, rfl⟩ : ∃ a b, x = ix2 a b := ⟨x 0, x 1, by idx_vars x⟩
  all_goals obtain rfl : r = a := Fin.ext h0
  all_goals have hb : b.val < 128 := b.isLt
  all_goals have h1 := h1
  on_goal 1 => obtain ⟨rfl, rfl⟩ : j = 3 ∧ k = b := head_of 3 (hq.symm.trans h1)
  on_goal 2 => obtain ⟨rfl, rfl⟩ : j = 2 ∧ k = b := head_of 2 (hq.symm.trans h1)
  on_goal 3 => obtain ⟨rfl, rfl⟩ : j = 1 ∧ k = b := head_of 1 (hq.symm.trans h1)
  on_goal 4 => obtain ⟨rfl, rfl⟩ : j = 0 ∧ k = b := head_of 0 (hq.symm.trans (h1.trans (Nat.zero_add _).symm))
  on_goal 1 => obtain rfl : q = ⟨384 + k.val, Nat.lt_of_lt_of_le (Nat.add_lt_add_left k.isLt 384) (by decide)⟩ := Fin.ext h1
  on_goal 2 => obtain rfl : q = ⟨256 + k.val, Nat.lt_of_lt_of_le (Nat.add_lt_add_left k.isLt 256) (by decide)⟩ := Fin.ext h1
  on_goal 3 => obtain rfl : q = ⟨128 + k.val, Nat.lt_of_lt_of_le (Nat.add_lt_add_left k.isLt 128) (by decide)⟩ := Fin.ext h1
  on_goal 4 => obtain rfl : q = ⟨k.val, Nat.lt_trans k.isLt (by decide)⟩ := Fin.ext h1
  all_goals
    simp only [share, Merge.nrm, Merge.sq, Merge.sil, Merge.sum_four, Merge.div_512]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    try simp only [Finset.univ_unique, Finset.sum_singleton]
    try rfl

/-! The reference's stages. -/

section ref

variable (x0 x1 : FVec Ideal S2x2048x2048 .f32) (x2 : FVec Ideal S2x2048x18480 .f32) (x3 : FVec Ideal S1x512 .f32)
  (x4 : FVec Ideal S1x128 .f32)

/-- The wide heads normed and scaled, -/
theorem ref_wide (b : Fin 2) (n : Fin 2048) (j : Fin 4) (k : Fin 512) : val_main_v26 (F := Ideal) x0 x3 (ix3 b n (MergeRef.wcol j k))
    = Merge.nrm (Ideal.ofBits .f32 0x44000000#32) (fun l => x0 (ix3 b n (MergeRef.wcol j l))) k * x3 (ix2 0 k) := by
  have h : val_main_v26 (F := Ideal) x0 x3 = MergeRefIdeal.Read.val_main_v29 (F := Ideal) x0 x3 := rfl
  rw [h, MergeRef.w_scaled]
  simp only [MergeRef.w_heads]

/-- the narrow ones, -/
theorem ref_narrow (b : Fin 2) (n : Fin 2048) (j : Fin 16) (k : Fin 128) : val_main_v44 (F := Ideal) x1 x4 (ix3 b n (Conv.col j k))
    = Merge.nrm (Ideal.ofBits .f32 0x43000000#32) (fun l => x1 (ix3 b n (Conv.col j l))) k * x4 (ix2 0 k) := by
  have h : val_main_v44 (F := Ideal) x1 x4 = MergeRefIdeal.Read.val_main_v50 (F := Ideal) x1 x4 := rfl
  rw [h, MergeRef.n_scaled]
  simp only [MergeRef.n_heads]

/-- the four runs of columns, -/
theorem ref_cols (b : Fin 2) (n q : Fin 2048) :
    val_main_v3 (F := Ideal) x2 (ix3 b n q) = x2 (ix3 b n (zc 4096 (by decide) q))
      ∧ val_main_v6 (F := Ideal) x2 (ix3 b n q) = x2 (ix3 b n (zc 12304 (by decide) q))
      ∧ val_main_v9 (F := Ideal) x2 (ix3 b n q) = x2 (ix3 b n (zc 14384 (by decide) q))
      ∧ val_main_v10 (F := Ideal) x2 (ix3 b n q) = x2 (ix3 b n (zc 16432 (by decide) q)) :=
  ⟨MergeRef.cols_z0 x2 b n q _ rfl, MergeRef.cols_z1 x2 b n q _ rfl, MergeRef.cols_g0 x2 b n q _ rfl, MergeRef.cols_g1 x2 b n q _ rfl⟩

/-- and the merge. -/
theorem ref_merge (b : Fin 2) (n q : Fin 2048) : val_main_v61 (F := Ideal) x0 x1 x2 x3 x4 (ix3 b n q)
    = Ideal.logistic (val_main_v9 (F := Ideal) x2 (ix3 b n q))
        * (val_main_v26 (F := Ideal) x0 x3 (ix3 b n q) * Merge.sil (val_main_v3 (F := Ideal) x2 (ix3 b n q)))
      + Ideal.logistic (val_main_v10 (F := Ideal) x2 (ix3 b n q))
        * (val_main_v44 (F := Ideal) x1 x4 (ix3 b n q) * Merge.sil (val_main_v6 (F := Ideal) x2 (ix3 b n q))) := by
  pointwise [val_main_v61, val_main_v53, val_main_v60, val_main_v52, val_main_v51, val_main_cst_6, val_main_v50, val_main_v49,
    val_main_cst_5, val_main_v48, val_main_v47, val_main_v59, val_main_v58, val_main_cst_8, val_main_v57, val_main_v56,
    val_main_cst_7, val_main_v55, val_main_v54, val_main_v28, val_main_v27, val_main_v46, val_main_v45, val_main_call0_v5,
    val_main_call0_v4, val_main_call0_cst_0, val_main_call0_v3, val_main_call0_v2, val_main_call0_cst, val_main_call0_v1,
    val_main_call0_v0, val_main_call1_v5, val_main_call1_v4, val_main_call1_cst_0, val_main_call1_v3, val_main_call1_v2,
    val_main_call1_cst, val_main_call1_v1, val_main_call1_v0]
  rfl

end ref

/-- The result array after the run is the reference's array. -/
theorem final8 (c : Dev nD) : (dats m 0 c).arrAt 8 (cfgs 0).N
    = val_main_v63 (F := Ideal) (OG m c) (OD m c) (Z m c) (GN m c) (DN m c) := by
  refine (dats m 0 c).arrAt_eq_of_covers 8 _ (by decide +kernel) fun t _ y => ?_
  obtain ⟨r, q, rfl⟩ : ∃ r q, y = ix2 r q := ⟨y 0, y 1, by idx_vars y⟩
  have e0 : ((((cfg0.win 8).blk t).view.emb (ix2 r q)) 0).val = (bat t).val * 2048 + (pos t r).val := by
    blk_simp [idx t]
    exact row_at t r
  have e1 : (((cfg0.win 8).blk t).view.emb (ix2 r q)) 1 = MergeRef.wcol (hd t) q := by
    apply Fin.ext
    blk_simp [idx t]
  obtain ⟨j, k, hq⟩ := lane_split q
  blk_simp
  refine (stored m c t r j k q (congrArg Fin.val hq)).trans ?_
  refine Eq.trans ?_ (Rows.tok_apply (val_main_v61 (F := Ideal) (OG m c) (OD m c) (Z m c) (GN m c) (DN m c)) _ _ (bat t) (pos t r) e0).symm
  have hc : MergeRef.wcol (hd t) q = Conv.col (hn t j) k := by
    subst hq
    exact col_eq t j k _
  obtain ⟨z0, z1, g0, g1⟩ := ref_cols (Z m c) (bat t) (pos t r) (MergeRef.wcol (hd t) q)
  have hn := ref_narrow (OD m c) (DN m c) (bat t) (pos t r) (hn t j) k
  rw [← hc] at hn
  rw [e1, ref_merge, ref_wide, hn, z0, z1, g0, g1]
  unfold share
  simp only [blk_og, blk_od, blk_zw, blk_zn, blk_gw, blk_gn, blk_gainw, blk_gainn, col_eq]

end Cert.MergeFwdIdeal.RefValue

end
-- ==== Proof.MergeFwdClaim.lean ====
/- The claims about the mixers' gated merge: the reference runs and leaves its arguments as
   they are, and the kernel's results are the reference's. -/
module

public import proofs.«01_k».proof.Proof.MergeFwdValue

@[expose] public section

set_option maxRecDepth 16384

noncomputable section

open Idealize.ShloMosaic Idealize.ShloMosaic.TcCoe Idealize.SL.Sem

namespace Cert.MergeFwdIdeal.RefValue

open Cert.MergeFwdRefIdeal.Read

instance factsK : Cert.MergeFwdIdeal.Facts := Cert.MergeFwdIdeal.Gen.facts
instance factsR : Cert.MergeFwdRefIdeal.Facts := Cert.MergeFwdRefIdeal.Gen.facts

/-- The reference runs, leaves its arguments as they are and declares no semaphore. -/
theorem frame_ref : Cert.quiescent_MergeFwdRefIdeal := fun m g _ =>
  (θ_run _ _ _).mono (fun r h => ⟨fun c => (h c).2, sem_eq_zero_of_no_sems rfl _⟩)
    (Cert.MergeFwdRefIdeal.Value.run m g)

set_option maxHeartbeats 1000000 in
/-- The kernel's results are the reference's. -/
theorem algebraic : Cert.algebraic_MergeFwdIdeal_MergeFwdRefIdeal := by
  pair_intro
  · run_from Cert.MergeFwdIdeal.Gen.run_main m g
  refine (θ_run _ _ _).mono (fun r h c => ?_) (Cert.MergeFwdRefIdeal.Value.run m' g')
  obtain ⟨a0, a1, a2, a3, a4⟩ := hagree c
  refine ⟨((h c).1.trans (val_main_v63_eq _ _ _ _ _)).trans ?_, (h c).2⟩
  · simp only [a0, a1, a2, a3, a4]
    exact (final8 m c).symm

end Cert.MergeFwdIdeal.RefValue

end
-- ==== Proof.ConvStage.lean ====
/- The forward pass of the causal convolution, its activation and the norm of its heads, on whole arrays: what the three
   forward calls of the convolution share, on the kernel's side and on the reference's. -/
module

public import proofs.«01_k».proof.Defs
public import proofs.«01_k».proof.Proof.Gen.ConvFwdQIdeal.Value
public import proofs.«01_k».proof.Proof.Gen.ConvFwdQRefIdeal.Read
public import proofs.«01_k».proof.Proof.Gen.ConvFwdKIdeal.Value
public import proofs.«01_k».proof.Proof.Gen.ConvFwdKRefIdeal.Read
public import proofs.«01_k».proof.Proof.Gen.ConvFwdVIdeal.Value
public import proofs.«01_k».proof.Proof.Gen.ConvFwdVRefIdeal.Read
public import proofs.«01_k».proof.Proof.Rows
public import proofs.«01_k».proof.Proof.ConvMath
public import Idealize.ShloMosaic.Lib.Pipeline.ValueKit

@[expose] public section

set_option maxRecDepth 16384

noncomputable section

open Idealize.ShloMosaic Idealize.ShloMosaic.TcCoe

namespace Cert.Conv

open Cert Cert.ConvFwdQRefIdeal

/-- A column of group `g`'s head `j` in the projection, -/
abbrev zcol (g : Fin 3) (j : Fin 16) (k : Fin 128) : Fin 18480 := ⟨6160 + (g.val * 2048 + (j.val * 128 + k.val)), by omega⟩

/-- and in the taps. -/
abbrev wcol (g : Fin 3) (j : Fin 16) (k : Fin 128) : Fin 6144 := ⟨g.val * 2048 + (j.val * 128 + k.val), by omega⟩

/-- A head's activations from the projection and the taps, -/
def headAct (z : FVec Ideal S2x2048x18480 .f32) (w : FVec Ideal S4x6144 .f32) (g : Fin 3) (b : Fin 2) (j : Fin 16) :
    Fin 2048 → Fin 128 → EReal :=
  act (fun i l => z (ix3 b i (zcol g j l))) (fun r l => w (ix2 r (wcol g j l)))

/-- over the head's Euclidean norm at a position. -/
def normed (y : Fin 128 → EReal) (k : Fin 128) : EReal := y k * Ideal.rsqrt (sq y)

/-! The reference's stages, from the group's columns. -/

/-- Three rows of zeros before the start, -/
def pad (xs : FVec Ideal S2x2048x2048 .f32) : FVec Ideal S2x2051x2048 .f32 :=
  concatenate S2x2051x2048 1 [⟨S2x3x2048, broadcastInDim S2x3x2048 ![] Gen.bcast_S_S2x3x2048 (constant (F := Ideal) S_ .f32 0x00000000#32)⟩,
    ⟨S2x2048x2048, xs⟩] Gen.concatenates_S2x3x2048_S2x2048x2048_S2x2051x2048_d1

/-- one tap's share, -/
def tap (xs : FVec Ideal S2x2048x2048 .f32) (w : FVec Ideal S4x2048 .f32) (r : Nat)
    (hx : S2x2051x2048.Slices ![0, r, 0] S2x2048x2048) (hw : S4x2048.Slices ![r, 0] S1x2048) : FVec Ideal S2x2048x2048 .f32 :=
  mulf (extractStridedSlice S2x2048x2048 ![0, r, 0] (pad xs) hx)
    (broadcastInDim S2x2048x2048 ![0, 1, 2] Gen.bcast_S1x1x2048_S2x2048x2048_0_1_2
      (broadcastInDim S1x1x2048 ![2] Gen.bcast_S2048_S1x1x2048_2
        (shapeCast S2048 (extractStridedSlice S1x2048 ![r, 0] w hw) Gen.shapeCasts_S1x2048_S2048)))

/-- the convolution, -/
def conv (xs : FVec Ideal S2x2048x2048 .f32) (w : FVec Ideal S4x2048 .f32) : FVec Ideal S2x2048x2048 .f32 :=
  addf (addf (addf (addf (broadcastInDim S2x2048x2048 ![] Gen.bcast_S_S2x2048x2048 (constant (F := Ideal) S_ .f32 0x00000000#32))
    (tap xs w 0 Gen.slices_S2x2051x2048_S2x2048x2048_0_0_0 Gen.slices_S4x2048_S1x2048_0_0))
    (tap xs w 1 Gen.slices_S2x2051x2048_S2x2048x2048_0_1_0 Gen.slices_S4x2048_S1x2048_1_0))
    (tap xs w 2 Gen.slices_S2x2051x2048_S2x2048x2048_0_2_0 Gen.slices_S4x2048_S1x2048_2_0))
    (tap xs w 3 Gen.slices_S2x2051x2048_S2x2048x2048_0_3_0 Gen.slices_S4x2048_S1x2048_3_0)

/-- its activation, -/
def silu (y : FVec Ideal S2x2048x2048 .f32) : FVec Ideal S2x2048x2048 .f32 :=
  mulf y (Host.divf (broadcastInDim S2x2048x2048 ![] Gen.bcast_S_S2x2048x2048 (constant (F := Ideal) S_ .f32 0x3F800000#32))
    (addf (broadcastInDim S2x2048x2048 ![] Gen.bcast_S_S2x2048x2048 (constant (F := Ideal) S_ .f32 0x3F800000#32))
      (Host.exp (Host.negf y))))

/-- and the heads over their norms. -/
def unit (y : FVec Ideal S2x2048x16x128 .f32) : FVec Ideal S2x2048x16x128 .f32 :=
  mulf y (broadcastInDim S2x2048x16x128 ![0, 1, 2, 3] Gen.bcast_S2x2048x16x1_S2x2048x16x128_0_1_2_3
    (Host.rsqrt (addf (broadcastInDim S2x2048x16x1 ![0, 1, 2] Gen.bcast_S2x2048x16_S2x2048x16x1_0_1_2
        (Host.reduceAdd (mulf y y) (constant (F := Ideal) S_ .f32 0x00000000#32) Gen.reducesTo_S2x2048x16x128_S2x2048x16_d3 Gen.h_S_))
      (broadcastInDim S2x2048x16x1 ![] Gen.bcast_S_S2x2048x16x1 (constant (F := Ideal) S_ .f32 0x358637BD#32)))))

/-- A tap reads the lane, delayed. -/
theorem tap_apply (xs : FVec Ideal S2x2048x2048 .f32) (w : FVec Ideal S4x2048 .f32) (r : Fin 4)
    (hx : S2x2051x2048.Slices ![0, r.val, 0] S2x2048x2048) (hw : S4x2048.Slices ![r.val, 0] S1x2048) (b : Fin 2) (n q : Fin 2048) :
    tap xs w r.val hx hw (ix3 b n q) = w (ix2 r q) * delay (fun i => xs (ix3 b i q)) (3 - r.val) n := by
  rw [mul_comm (w (ix2 r q)), ← padded (fun i => xs (ix3 b i q)) (3 - r.val) (by omega) (r.val + n.val) n (by omega) (by omega)]
  pointwise [tap, pad]

/-- The convolution, entry by entry; -/
theorem conv_apply (xs : FVec Ideal S2x2048x2048 .f32) (w : FVec Ideal S4x2048 .f32) (b : Fin 2) (n q : Fin 2048) :
    conv xs w (ix3 b n q) = pre (fun i => xs (ix3 b i q)) (fun r => w (ix2 r q)) n := by
  unfold conv pre
  have t0 : tap xs w 0 Gen.slices_S2x2051x2048_S2x2048x2048_0_0_0 Gen.slices_S4x2048_S1x2048_0_0 (ix3 b n q) = w (ix2 0 q) * delay (fun i => xs (ix3 b i q)) 3 n :=
    tap_apply xs w 0 _ _ b n q
  have t1 : tap xs w 1 Gen.slices_S2x2051x2048_S2x2048x2048_0_1_0 Gen.slices_S4x2048_S1x2048_1_0 (ix3 b n q) = w (ix2 1 q) * delay (fun i => xs (ix3 b i q)) 2 n :=
    tap_apply xs w 1 _ _ b n q
  have t2 : tap xs w 2 Gen.slices_S2x2051x2048_S2x2048x2048_0_2_0 Gen.slices_S4x2048_S1x2048_2_0 (ix3 b n q) = w (ix2 2 q) * delay (fun i => xs (ix3 b i q)) 1 n :=
    tap_apply xs w 2 _ _ b n q
  have t3 : tap xs w 3 Gen.slices_S2x2051x2048_S2x2048x2048_0_3_0 Gen.slices_S4x2048_S1x2048_3_0 (ix3 b n q) = w (ix2 3 q) * delay (fun i => xs (ix3 b i q)) 0 n :=
    tap_apply xs w 3 _ _ b n q
  rw [delay_zero] at t3
  refine Eq.trans ?_ (congrArg₂ (· + ·) (congrArg₂ (· + ·) (congrArg₂ (· + ·) t0 t1) t2) t3)
  generalize tap xs w 0 _ _ = y0
  generalize tap xs w 1 _ _ = y1
  generalize tap xs w 2 _ _ = y2
  generalize tap xs w 3 _ _ = y3
  pointwise

/-- the activation, -/
theorem silu_apply (y : FVec Ideal S2x2048x2048 .f32) (i : S2x2048x2048.Idx) : silu y i = y i * Ideal.logistic (y i) := by
  pointwise [silu]
  rfl

/-- and the norm. -/
theorem unit_apply (y : FVec Ideal S2x2048x16x128 .f32) (b : Fin 2) (n : Fin 2048) (j : Fin 16) (k : Fin 128) :
    unit y (ix4 b n j k) = normed (fun l => y (ix4 b n j l)) k := by
  pointwise [unit]
  rfl

/-- Every entry by the queries' scale. -/
theorem scale_apply (y : FVec Ideal S2x2048x16x128 .f32) (i : S2x2048x16x128.Idx) :
    mulf y (broadcastInDim S2x2048x16x128 ![] Gen.bcast_S_S2x2048x16x128 (constant (F := Ideal) S_ .f32 0x3DB504F3#32)) i
      = y i * Ideal.ofBits .f32 0x3DB504F3#32 := by
  pointwise

/-- The heads set back in the array of lanes, and the other way. -/
theorem lanes_apply (y : FVec Ideal S2x2048x16x128 .f32) (b : Fin 2) (n : Fin 2048) (j : Fin 16) (k : Fin 128) :
    shapeCast S2x2048x2048 y Gen.shapeCasts_S2x2048x16x128_S2x2048x2048 (ix3 b n (col j k)) = y (ix4 b n j k) := by
  pointwise
  congr 2 <;> (apply Fin.ext; simp only []; omega)

@[inherit_doc lanes_apply] theorem heads_apply (y : FVec Ideal S2x2048x2048 .f32) (b : Fin 2) (n : Fin 2048) (j : Fin 16) (k : Fin 128) :
    shapeCast S2x2048x16x128 y Gen.shapeCasts_S2x2048x2048_S2x2048x16x128 (ix4 b n j k) = y (ix3 b n (col j k)) := by
  pointwise

/-- The activation of the convolution of a group's columns is the group's heads' activations. -/
theorem act_apply (z : FVec Ideal S2x2048x18480 .f32) (w : FVec Ideal S4x6144 .f32) (xs : FVec Ideal S2x2048x2048 .f32)
    (ws : FVec Ideal S4x2048 .f32) (g : Fin 3) (b : Fin 2) (n : Fin 2048) (j : Fin 16) (k : Fin 128)
    (hx : ∀ i, xs (ix3 b i (col j k)) = z (ix3 b i (zcol g j k))) (hw : ∀ r, ws (ix2 r (col j k)) = w (ix2 r (wcol g j k))) :
    silu (conv xs ws) (ix3 b n (col j k)) = headAct z w g b j n k := by
  rw [silu_apply, conv_apply]
  simp only [hx, hw]
  rfl

/-- The queries' columns, -/
theorem colsQ (z : FVec Ideal S2x2048x18480 .f32) (b : Fin 2) (n : Fin 2048) (j : Fin 16) (k : Fin 128) :
    ConvFwdQRefIdeal.Read.val_main_v11 (F := Ideal) z (ix3 b n (col j k)) = z (ix3 b n (zcol 0 j k)) := by
  pointwise [ConvFwdQRefIdeal.Read.val_main_v11, ConvFwdQRefIdeal.Read.val_main_v5]
  exact congrArg z (congrArg (ix3 b n) (Fin.ext (by simp; try omega)))

/-- the keys', -/
theorem colsK (z : FVec Ideal S2x2048x18480 .f32) (b : Fin 2) (n : Fin 2048) (j : Fin 16) (k : Fin 128) :
    ConvFwdKRefIdeal.Read.val_main_v11 (F := Ideal) z (ix3 b n (col j k)) = z (ix3 b n (zcol 1 j k)) := by
  pointwise [ConvFwdKRefIdeal.Read.val_main_v11, ConvFwdKRefIdeal.Read.val_main_v5]
  exact congrArg z (congrArg (ix3 b n) (Fin.ext (by simp; try omega)))

/-- the values', -/
theorem colsV (z : FVec Ideal S2x2048x18480 .f32) (b : Fin 2) (n : Fin 2048) (j : Fin 16) (k : Fin 128) :
    ConvFwdVRefIdeal.Read.val_main_v11 (F := Ideal) z (ix3 b n (col j k)) = z (ix3 b n (zcol 2 j k)) := by
  pointwise [ConvFwdVRefIdeal.Read.val_main_v11, ConvFwdVRefIdeal.Read.val_main_v5]
  exact congrArg z (congrArg (ix3 b n) (Fin.ext (by simp; try omega)))

/-- and the same of the taps. -/
theorem tapsQ (w : FVec Ideal S4x6144 .f32) (r : Fin 4) (j : Fin 16) (k : Fin 128) :
    ConvFwdQRefIdeal.Read.val_main_v12 (F := Ideal) w (ix2 r (col j k)) = w (ix2 r (wcol 0 j k)) := by
  pointwise [ConvFwdQRefIdeal.Read.val_main_v12]
  exact congrArg w (congrArg (ix2 r) (Fin.ext (by simp)))

@[inherit_doc tapsQ] theorem tapsK (w : FVec Ideal S4x6144 .f32) (r : Fin 4) (j : Fin 16) (k : Fin 128) :
    ConvFwdKRefIdeal.Read.val_main_v12 (F := Ideal) w (ix2 r (col j k)) = w (ix2 r (wcol 1 j k)) := by
  pointwise [ConvFwdKRefIdeal.Read.val_main_v12]
  exact congrArg w (congrArg (ix2 r) (Fin.ext (by simp)))

@[inherit_doc tapsQ] theorem tapsV (w : FVec Ideal S4x6144 .f32) (r : Fin 4) (j : Fin 16) (k : Fin 128) :
    ConvFwdVRefIdeal.Read.val_main_v12 (F := Ideal) w (ix2 r (col j k)) = w (ix2 r (wcol 2 j k)) := by
  pointwise [ConvFwdVRefIdeal.Read.val_main_v12]
  exact congrArg w (congrArg (ix2 r) (Fin.ext (by simp)))

/-! The kernel's stages, from the blocks a point reads. -/

/-- A multiple of a lane, delayed. -/
theorem delay_mul (a : EReal) (x : Fin 2048 → EReal) (s : Nat) (n : Fin 2048) :
    delay (fun i => a * x i) s n = a * delay x s n := by
  unfold delay
  split
  · rfl
  · exact (mul_zero a).symm

/-- The activations of a head. -/
theorem pay_act (w0 w1 w2 w3 : Vec Ideal ConvFwdQIdeal.S1x128 .f32) (x : Vec Ideal ConvFwdQIdeal.S2048x128 .f32) (n : Fin 2048) (k : Fin 128) :
    ConvFwdQIdeal.Gen.k0_pay2 (F := Ideal) w0 w1 w2 w3 x (ix2 n k) = act (fun i l => x (ix2 i l)) (taps w0 w1 w2 w3) n k := by
  show _ = (w0 (ix2 0 k) * delay (fun i => x (ix2 i k)) 3 n + w1 (ix2 0 k) * delay (fun i => x (ix2 i k)) 2 n
      + w2 (ix2 0 k) * delay (fun i => x (ix2 i k)) 1 n + w3 (ix2 0 k) * x (ix2 n k))
    * Ideal.logistic (w0 (ix2 0 k) * delay (fun i => x (ix2 i k)) 3 n + w1 (ix2 0 k) * delay (fun i => x (ix2 i k)) 2 n
      + w2 (ix2 0 k) * delay (fun i => x (ix2 i k)) 1 n + w3 (ix2 0 k) * x (ix2 n k))
  simp only [← delay_mul]
  pointwise [ConvFwdQIdeal.Gen.k0_pay2]
  rw [← select_delay (fun i => w0 (ix2 0 k) * x (ix2 i k)) 3 (by omega) n (Nat.mod_lt _ (by omega)),
    ← select_delay (fun i => w1 (ix2 0 k) * x (ix2 i k)) 2 (by omega) n (Nat.mod_lt _ (by omega)),
    ← select_delay (fun i => w2 (ix2 0 k) * x (ix2 i k)) 1 (by omega) n (Nat.mod_lt _ (by omega))]

/-- A head over its norm, scaled: the queries' heads, -/
theorem pay_normQ (y q : Vec Ideal ConvFwdQIdeal.S2048x128 .f32) (hq : ∀ n k, q (ix2 n k) = y (ix2 n k) * y (ix2 n k)) (n : Fin 2048) (k : Fin 128) :
    ConvFwdQIdeal.Gen.k0_pay1 (F := Ideal) y q (ix2 n k)
      = normed (fun l => y (ix2 n l)) k * Ideal.ofBits .f32 0x3DB504F3#32 := by
  pointwise [ConvFwdQIdeal.Gen.k0_pay1]
  simp only [hq]
  rfl

/-- and the keys', by one. -/
theorem pay_normK (y q : Vec Ideal ConvFwdQIdeal.S2048x128 .f32) (hq : ∀ n k, q (ix2 n k) = y (ix2 n k) * y (ix2 n k)) (n : Fin 2048) (k : Fin 128) :
    ConvFwdKIdeal.Gen.k0_pay1 (F := Ideal) y q (ix2 n k) = normed (fun l => y (ix2 n l)) k := by
  pointwise [ConvFwdKIdeal.Gen.k0_pay1]
  simp only [hq]
  rfl

/-- The square that the norm sums. -/
theorem pay_sq (w0 w1 w2 w3 : Vec Ideal ConvFwdQIdeal.S1x128 .f32) (x : Vec Ideal ConvFwdQIdeal.S2048x128 .f32) (n : Fin 2048) (k : Fin 128) :
    ConvFwdQIdeal.Gen.k0_pay3 (F := Ideal) w0 w1 w2 w3 x (ix2 n k)
      = ConvFwdQIdeal.Gen.k0_pay2 (F := Ideal) w0 w1 w2 w3 x (ix2 n k) * ConvFwdQIdeal.Gen.k0_pay2 (F := Ideal) w0 w1 w2 w3 x (ix2 n k) := rfl

end Cert.Conv

end
-- ==== Proof.ConvFwdQValue.lean ====
/- The forward pass of the convolution on the queries: the kernel's result array after the run is the reference's. -/
module

public import proofs.«01_k».proof.Defs
public import proofs.«01_k».proof.Proof.Gen.ConvFwdQIdeal.Value
public import proofs.«01_k».proof.Proof.Gen.ConvFwdQRefIdeal.Run
public import proofs.«01_k».proof.Proof.Gen.ConvFwdQRefIdeal.Read
public import proofs.«01_k».proof.Proof.Rows
public import proofs.«01_k».proof.Proof.BigCols
public import proofs.«01_k».proof.Proof.ConvMath
public import proofs.«01_k».proof.Proof.ConvStage
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvFwdQIdeal.RefValue

open Cert Cert.ConvFwdQIdeal Cert.ConvFwdQIdeal.Gen Cert.ConvFwdQRefIdeal.Read

variable (m : (ℓ : Loc nD τ sig) → Buf (Elt Ideal) ℓ)

/-- The arguments: the projection and the taps. -/
abbrev Z (c : Dev nD) : FVec Ideal S2x2048x18480 .f32 := m ((c : Thread nD τ).loc main_arg0)
@[inherit_doc Z] abbrev W (c : Dev nD) : FVec Ideal S4x6144 .f32 := m ((c : Thread nD τ).loc main_arg1)

/-- The windows' block indices at every grid point. -/
theorem idx : ∀ t : Fin cfg0.N, win0_0.index t = ![t.val / 16, 48 + t.val % 16] ∧ win0_1.index t = ![0, 0 + t.val % 16]
    ∧ win0_2.index t = ![t.val / 16, t.val % 16] ∧ t.val < 32 :=
  (by decide +kernel : ∀ t : Fin grid0.N, _)

/-- A point's sequence and head. -/
abbrev bat (t : Fin cfg0.N) : Fin 2 := ⟨t.val / 16, by have := (idx t).2.2.2; omega⟩
@[inherit_doc bat] abbrev hd (t : Fin cfg0.N) : Fin 16 := ⟨t.val % 16, by omega⟩

/-- The block of columns that a point reads: a head's, -/
theorem blk_z (c : Dev nD) (t : Fin cfg0.N) (n : Fin 2048) (k : Fin 128) :
    iblk m c 0 t (ix2 n k) = Z m c (ix3 (bat t) n (Conv.zcol 0 (hd t) k)) := by
  have e : V m c main_v5 = concatenate S4096x18432 1
      [⟨S4096x6144, extractStridedSlice S4096x6144 ![0, 0] (shapeCast S4096x18480 (Z m c) shapeCasts_S2x2048x18480_S4096x18480) slices_S4096x18480_S4096x6144_0_0⟩,
       ⟨S4096x6144, extractStridedSlice S4096x6144 ![0, 6160] (shapeCast S4096x18480 (Z m c) shapeCasts_S2x2048x18480_S4096x18480) slices_S4096x18480_S4096x6144_0_6160⟩,
       ⟨S4096x2048, extractStridedSlice S4096x2048 ![0, 12304] (shapeCast S4096x18480 (Z m c) shapeCasts_S2x2048x18480_S4096x18480) slices_S4096x18480_S4096x2048_0_12304⟩,
       ⟨S4096x4096, extractStridedSlice S4096x4096 ![0, 14384] (shapeCast S4096x18480 (Z m c) shapeCasts_S2x2048x18480_S4096x18480) slices_S4096x18480_S4096x4096_0_14384⟩]
      concatenates_S4096x6144_S4096x6144_S4096x2048_S4096x4096_S4096x18432_d1 := by
    unfold V
    after_results
    try rfl
  have e0 : ((((cfg0.win 0).blk t).view.emb (ix2 n k)) 0).val = (bat t).val * 2048 + n.val := by blk_simp [idx t]
  have e1 : ((((cfg0.win 0).blk t).view.emb (ix2 n k)) 1).val = 6144 + (t.val % 16 * 128 + k.val) := by
    blk_simp [idx t]
    omega
  show V m c main_v5 (((cfg0.win 0).blk t).view.emb (ix2 n k)) = _
  rw [e]
  exact BigCols.apply (Z m c) _ _ _ _ _ _ _ (bat t) n _ e0 (Or.inr (Or.inl (by
    have hk := k.isLt
    rw [e1]
    show _ ∧ _ ∧ 6160 + (0 * 2048 + (t.val % 16 * 128 + k.val)) = _
    omega)))

/-- and the head's taps. -/
theorem blk_w (c : Dev nD) (t : Fin cfg0.N) (r : Fin 4) (k : Fin 128) :
    iblk m c 1 t (ix2 r k) = W m c (ix2 r (Conv.wcol 0 (hd t) k)) := by
  blk_ext [iblk, V, idx t]

/-- A point's activations are the head's. -/
theorem act_blk (c : Dev nD) (t : Fin cfg0.N) (w0 w1 w2 w3 : Vec Ideal S1x128 .f32)
    (hw : Conv.taps w0 w1 w2 w3 = fun r l => iblk m c 1 t (ix2 r l)) (n : Fin 2048) (k : Fin 128) :
    k0_pay2 (F := Ideal) w0 w1 w2 w3 (iblk m c 0 t) (ix2 n k) = Conv.headAct (Z m c) (W m c) 0 (bat t) (hd t) n k := by
  refine (Conv.pay_act w0 w1 w2 w3 (iblk m c 0 t) n k).trans ?_
  rw [hw]
  unfold Conv.headAct
  simp only [blk_z, blk_w]

/-- The reference's activations, -/
theorem ref_act (z : FVec Ideal S2x2048x18480 .f32) (w : FVec Ideal S4x6144 .f32) (b : Fin 2) (n : Fin 2048) (j : Fin 16) (k : Fin 128) :
    val_main_v44 (F := Ideal) z w (ix3 b n (Conv.col j k)) = Conv.headAct z w 0 b j n k :=
  Conv.act_apply z w (val_main_v11 (F := Ideal) z) (val_main_v12 (F := Ideal) w) 0 b n j k
    (fun i => Conv.colsQ z b i j k) (fun r => Conv.tapsQ w r j k)

/-- the heads over their norms, -/
theorem ref_unit (z : FVec Ideal S2x2048x18480 .f32) (w : FVec Ideal S4x6144 .f32) (b : Fin 2) (n : Fin 2048) (j : Fin 16) (k : Fin 128) :
    val_main_v53 (F := Ideal) z w (ix4 b n j k) = Conv.normed (Conv.headAct z w 0 b j n) k := by
  refine (Conv.unit_apply (val_main_v45 (F := Ideal) z w) b n j k).trans (congrArg (Conv.normed · k) (funext fun l => ?_))
  exact (Conv.heads_apply (val_main_v44 (F := Ideal) z w) b n j l).trans (ref_act z w b n j l)

/-- as rows of tokens. -/
theorem ref_tok (z : FVec Ideal S2x2048x18480 .f32) (w : FVec Ideal S4x6144 .f32) (i : S4096x2048.Idx) (b : Fin 2) (n : Fin 2048)
    (j : Fin 16) (k : Fin 128) (hi : (i 0).val = b.val * 2048 + n.val) (hq : i 1 = Conv.col j k) :
    val_main_v57 (F := Ideal) z w i = Conv.normed (Conv.headAct z w 0 b j n) k * Ideal.ofBits .f32 0x3DB504F3#32 := by
  refine (Rows.tok_apply (val_main_v56 (F := Ideal) z w) _ i b n hi).trans ?_
  rw [hq]
  exact (Conv.lanes_apply (val_main_v55 (F := Ideal) z w) b n j k).trans
    ((Conv.scale_apply (val_main_v53 (F := Ideal) z w) _).trans (congrArg (· * _) (ref_unit z w b n j k)))

/-- The result array after the run is the reference's array. -/
theorem final2 (c : Dev nD) : (dats m 0 c).arrAt 2 (cfgs 0).N = val_main_v57 (F := Ideal) (Z m c) (W m c) := by
  refine (dats m 0 c).arrAt_eq_of_covers 2 _ (by decide +kernel) fun t _ y => ?_
  obtain ⟨n, k, rfl⟩ : ∃ n k, y = ix2 n k := ⟨y 0, y 1, by idx_vars y⟩
  have e0 : ((((cfg0.win 2).blk t).view.emb (ix2 n k)) 0).val = (bat t).val * 2048 + n.val := by blk_simp [idx t]
  have e1 : (((cfg0.win 2).blk t).view.emb (ix2 n k)) 1 = Conv.col (hd t) k := by
    apply Fin.ext
    blk_simp [idx t]
  blk_simp
  rw [after0_2, ref_tok _ _ _ (bat t) n (hd t) k e0 e1]
  frame_out
  refine (Conv.pay_normQ _ _ (fun n k => Conv.pay_sq _ _ _ _ _ n k) n k).trans ?_
  refine congrArg (· * _) (congrArg (Conv.normed · k) (funext fun l => act_blk m c t _ _ _ _ (Conv.taps_ld (iblk m c 1 t) _ _ _ _) n l))

end Cert.ConvFwdQIdeal.RefValue

end
-- ==== Proof.ConvFwdQClaim.lean ====
/- The claims about the queries' convolution: the reference runs and leaves its arguments as
   they are, and the kernel's results are the reference's. -/
module

public import proofs.«01_k».proof.Proof.ConvFwdQValue

@[expose] public section

set_option maxRecDepth 16384

noncomputable section

open Idealize.ShloMosaic Idealize.ShloMosaic.TcCoe Idealize.SL.Sem

namespace Cert.ConvFwdQIdeal.RefValue

open Cert.ConvFwdQRefIdeal.Read

instance factsK : Cert.ConvFwdQIdeal.Facts := Cert.ConvFwdQIdeal.Gen.facts
instance factsR : Cert.ConvFwdQRefIdeal.Facts := Cert.ConvFwdQRefIdeal.Gen.facts

/-- The reference runs, leaves its arguments as they are and declares no semaphore. -/
theorem frame_ref : Cert.quiescent_ConvFwdQRefIdeal := fun m g _ =>
  (θ_run _ _ _).mono (fun r h => ⟨fun c => (h c).2, sem_eq_zero_of_no_sems rfl _⟩)
    (Cert.ConvFwdQRefIdeal.Value.run m g)

set_option maxHeartbeats 1000000 in
/-- The kernel's results are the reference's. -/
theorem algebraic : Cert.algebraic_ConvFwdQIdeal_ConvFwdQRefIdeal := by
  pair_intro
  · run_from Cert.ConvFwdQIdeal.Gen.run_main m g
  refine (θ_run _ _ _).mono (fun r h c => ?_) (Cert.ConvFwdQRefIdeal.Value.run m' g')
  obtain ⟨a0, a1⟩ := hagree c
  refine ⟨((h c).1.trans (val_main_v57_eq m' c)).trans ?_, (h c).2⟩
  · simp only [a0, a1]
    exact (final2 m c).symm

end Cert.ConvFwdQIdeal.RefValue

end
-- ==== Proof.ConvFwdKValue.lean ====
/- The forward pass of the convolution on the keys: the kernel's result array after the run is the reference's. -/
module

public import proofs.«01_k».proof.Defs
public import proofs.«01_k».proof.Proof.Gen.ConvFwdKIdeal.Value
public import proofs.«01_k».proof.Proof.Gen.ConvFwdKRefIdeal.Run
public import proofs.«01_k».proof.Proof.Gen.ConvFwdKRefIdeal.Read
public import proofs.«01_k».proof.Proof.Rows
public import proofs.«01_k».proof.Proof.BigCols
public import proofs.«01_k».proof.Proof.ConvMath
public import proofs.«01_k».proof.Proof.ConvStage
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvFwdKIdeal.RefValue

open Cert Cert.ConvFwdKIdeal Cert.ConvFwdKIdeal.Gen Cert.ConvFwdKRefIdeal.Read

variable (m : (ℓ : Loc nD τ sig) → Buf (Elt Ideal) ℓ)

/-- The arguments: the projection and the taps. -/
abbrev Z (c : Dev nD) : FVec Ideal S2x2048x18480 .f32 := m ((c : Thread nD τ).loc main_arg0)
@[inherit_doc Z] abbrev W (c : Dev nD) : FVec Ideal S4x6144 .f32 := m ((c : Thread nD τ).loc main_arg1)

/-- The windows' block indices at every grid point. -/
theorem idx : ∀ t : Fin cfg0.N, win0_0.index t = ![t.val / 16, 64 + t.val % 16] ∧ win0_1.index t = ![0, 16 + t.val % 16]
    ∧ win0_2.index t = ![t.val / 16, t.val % 16] ∧ t.val < 32 :=
  (by decide +kernel : ∀ t : Fin grid0.N, _)

/-- A point's sequence and head. -/
abbrev bat (t : Fin cfg0.N) : Fin 2 := ⟨t.val / 16, by have := (idx t).2.2.2; omega⟩
@[inherit_doc bat] abbrev hd (t : Fin cfg0.N) : Fin 16 := ⟨t.val % 16, by omega⟩

/-- The block of columns that a point reads: a head's, -/
theorem blk_z (c : Dev nD) (t : Fin cfg0.N) (n : Fin 2048) (k : Fin 128) :
    iblk m c 0 t (ix2 n k) = Z m c (ix3 (bat t) n (Conv.zcol 1 (hd t) k)) := by
  have e : V m c main_v5 = concatenate S4096x18432 1
      [⟨S4096x6144, extractStridedSlice S4096x6144 ![0, 0] (shapeCast S4096x18480 (Z m c) shapeCasts_S2x2048x18480_S4096x18480) slices_S4096x18480_S4096x6144_0_0⟩,
       ⟨S4096x6144, extractStridedSlice S4096x6144 ![0, 6160] (shapeCast S4096x18480 (Z m c) shapeCasts_S2x2048x18480_S4096x18480) slices_S4096x18480_S4096x6144_0_6160⟩,
       ⟨S4096x2048, extractStridedSlice S4096x2048 ![0, 12304] (shapeCast S4096x18480 (Z m c) shapeCasts_S2x2048x18480_S4096x18480) slices_S4096x18480_S4096x2048_0_12304⟩,
       ⟨S4096x4096, extractStridedSlice S4096x4096 ![0, 14384] (shapeCast S4096x18480 (Z m c) shapeCasts_S2x2048x18480_S4096x18480) slices_S4096x18480_S4096x4096_0_14384⟩]
      concatenates_S4096x6144_S4096x6144_S4096x2048_S4096x4096_S4096x18432_d1 := by
    unfold V
    after_results
    try rfl
  have e0 : ((((cfg0.win 0).blk t).view.emb (ix2 n k)) 0).val = (bat t).val * 2048 + n.val := by blk_simp [idx t]
  have e1 : ((((cfg0.win 0).blk t).view.emb (ix2 n k)) 1).val = 8192 + (t.val % 16 * 128 + k.val) := by
    blk_simp [idx t]
    omega
  show V m c main_v5 (((cfg0.win 0).blk t).view.emb (ix2 n k)) = _
  rw [e]
  exact BigCols.apply (Z m c) _ _ _ _ _ _ _ (bat t) n _ e0 (Or.inr (Or.inl (by
    have hk := k.isLt
    rw [e1]
    show _ ∧ _ ∧ 6160 + (1 * 2048 + (t.val % 16 * 128 + k.val)) = _
    omega)))

/-- and the head's taps. -/
theorem blk_w (c : Dev nD) (t : Fin cfg0.N) (r : Fin 4) (k : Fin 128) :
    iblk m c 1 t (ix2 r k) = W m c (ix2 r (Conv.wcol 1 (hd t) k)) := by
  blk_ext [iblk, V, idx t]

/-- A point's activations are the head's. -/
theorem act_blk (c : Dev nD) (t : Fin cfg0.N) (w0 w1 w2 w3 : Vec Ideal S1x128 .f32)
    (hw : Conv.taps w0 w1 w2 w3 = fun r l => iblk m c 1 t (ix2 r l)) (n : Fin 2048) (k : Fin 128) :
    k0_pay2 (F := Ideal) w0 w1 w2 w3 (iblk m c 0 t) (ix2 n k) = Conv.headAct (Z m c) (W m c) 1 (bat t) (hd t) n k := by
  refine (Conv.pay_act w0 w1 w2 w3 (iblk m c 0 t) n k).trans ?_
  rw [hw]
  unfold Conv.headAct
  simp only [blk_z, blk_w]

/-- The reference's activations, -/
theorem ref_act (z : FVec Ideal S2x2048x18480 .f32) (w : FVec Ideal S4x6144 .f32) (b : Fin 2) (n : Fin 2048) (j : Fin 16) (k : Fin 128) :
    val_main_v44 (F := Ideal) z w (ix3 b n (Conv.col j k)) = Conv.headAct z w 1 b j n k :=
  Conv.act_apply z w (val_main_v11 (F := Ideal) z) (val_main_v12 (F := Ideal) w) 1 b n j k
    (fun i => Conv.colsK z b i j k) (fun r => Conv.tapsK w r j k)

/-- the heads over their norms, -/
theorem ref_unit (z : FVec Ideal S2x2048x18480 .f32) (w : FVec Ideal S4x6144 .f32) (b : Fin 2) (n : Fin 2048) (j : Fin 16) (k : Fin 128) :
    val_main_v53 (F := Ideal) z w (ix4 b n j k) = Conv.normed (Conv.headAct z w 1 b j n) k := by
  refine (Conv.unit_apply (val_main_v45 (F := Ideal) z w) b n j k).trans (congrArg (Conv.normed · k) (funext fun l => ?_))
  exact (Conv.heads_apply (val_main_v44 (F := Ideal) z w) b n j l).trans (ref_act z w b n j l)

/-- as rows of tokens. -/
theorem ref_tok (z : FVec Ideal S2x2048x18480 .f32) (w : FVec Ideal S4x6144 .f32) (i : S4096x2048.Idx) (b : Fin 2) (n : Fin 2048)
    (j : Fin 16) (k : Fin 128) (hi : (i 0).val = b.val * 2048 + n.val) (hq : i 1 = Conv.col j k) :
    val_main_v55 (F := Ideal) z w i = Conv.normed (Conv.headAct z w 1 b j n) k := by
  refine (Rows.tok_apply (val_main_v54 (F := Ideal) z w) _ i b n hi).trans ?_
  rw [hq]
  exact (Conv.lanes_apply (val_main_v53 (F := Ideal) z w) b n j k).trans (ref_unit z w b n j k)

/-- The result array after the run is the reference's array. -/
theorem final2 (c : Dev nD) : (dats m 0 c).arrAt 2 (cfgs 0).N = val_main_v55 (F := Ideal) (Z m c) (W m c) := by
  refine (dats m 0 c).arrAt_eq_of_covers 2 _ (by decide +kernel) fun t _ y => ?_
  obtain ⟨n, k, rfl⟩ : ∃ n k, y = ix2 n k := ⟨y 0, y 1, by idx_vars y⟩
  have e0 : ((((cfg0.win 2).blk t).view.emb (ix2 n k)) 0).val = (bat t).val * 2048 + n.val := by blk_simp [idx t]
  have e1 : (((cfg0.win 2).blk t).view.emb (ix2 n k)) 1 = Conv.col (hd t) k := by
    apply Fin.ext
    blk_simp [idx t]
  blk_simp
  rw [after0_2, ref_tok _ _ _ (bat t) n (hd t) k e0 e1]
  frame_out
  refine (Conv.pay_normK _ _ (fun n k => Conv.pay_sq _ _ _ _ _ n k) n k).trans ?_
  exact (congrArg (Conv.normed · k) (funext fun l => act_blk m c t _ _ _ _ (Conv.taps_ld (iblk m c 1 t) _ _ _ _) n l))

end Cert.ConvFwdKIdeal.RefValue

end
-- ==== Proof.ConvFwdKClaim.lean ====
/- The claims about the keys' convolution: the reference runs and leaves its arguments as
   they are, and the kernel's results are the reference's. -/
module

public import proofs.«01_k».proof.Proof.ConvFwdKValue

@[expose] public section

set_option maxRecDepth 16384

noncomputable section

open Idealize.ShloMosaic Idealize.ShloMosaic.TcCoe Idealize.SL.Sem

namespace Cert.ConvFwdKIdeal.RefValue

open Cert.ConvFwdKRefIdeal.Read

instance factsK : Cert.ConvFwdKIdeal.Facts := Cert.ConvFwdKIdeal.Gen.facts
instance factsR : Cert.ConvFwdKRefIdeal.Facts := Cert.ConvFwdKRefIdeal.Gen.facts

/-- The reference runs, leaves its arguments as they are and declares no semaphore. -/
theorem frame_ref : Cert.quiescent_ConvFwdKRefIdeal := fun m g _ =>
  (θ_run _ _ _).mono (fun r h => ⟨fun c => (h c).2, sem_eq_zero_of_no_sems rfl _⟩)
    (Cert.ConvFwdKRefIdeal.Value.run m g)

set_option maxHeartbeats 1000000 in
/-- The kernel's results are the reference's. -/
theorem algebraic : Cert.algebraic_ConvFwdKIdeal_ConvFwdKRefIdeal := by
  pair_intro
  · run_from Cert.ConvFwdKIdeal.Gen.run_main m g
  refine (θ_run _ _ _).mono (fun r h c => ?_) (Cert.ConvFwdKRefIdeal.Value.run m' g')
  obtain ⟨a0, a1⟩ := hagree c
  refine ⟨((h c).1.trans (val_main_v55_eq m' c)).trans ?_, (h c).2⟩
  · simp only [a0, a1]
    exact (final2 m c).symm

end Cert.ConvFwdKIdeal.RefValue

end
-- ==== Proof.ConvFwdVValue.lean ====
/- The forward pass of the convolution on the values: the kernel's result array after the run is the reference's. -/
module

public import proofs.«01_k».proof.Defs
public import proofs.«01_k».proof.Proof.Gen.ConvFwdVIdeal.Value
public import proofs.«01_k».proof.Proof.Gen.ConvFwdVRefIdeal.Run
public import proofs.«01_k».proof.Proof.Gen.ConvFwdVRefIdeal.Read
public import proofs.«01_k».proof.Proof.Rows
public import proofs.«01_k».proof.Proof.BigCols
public import proofs.«01_k».proof.Proof.ConvMath
public import proofs.«01_k».proof.Proof.ConvStage
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvFwdVIdeal.RefValue

open Cert Cert.ConvFwdVIdeal Cert.ConvFwdVIdeal.Gen Cert.ConvFwdVRefIdeal.Read

variable (m : (ℓ : Loc nD τ sig) → Buf (Elt Ideal) ℓ)

/-- The arguments: the projection and the taps. -/
abbrev Z (c : Dev nD) : FVec Ideal S2x2048x18480 .f32 := m ((c : Thread nD τ).loc main_arg0)
@[inherit_doc Z] abbrev W (c : Dev nD) : FVec Ideal S4x6144 .f32 := m ((c : Thread nD τ).loc main_arg1)

/-- The windows' block indices at every grid point. -/
theorem idx : ∀ t : Fin cfg0.N, win0_0.index t = ![t.val / 16, 80 + t.val % 16] ∧ win0_1.index t = ![0, 32 + t.val % 16]
    ∧ win0_2.index t = ![t.val / 16, t.val % 16] ∧ t.val < 32 :=
  (by decide +kernel : ∀ t : Fin grid0.N, _)

/-- A point's sequence and head. -/
abbrev bat (t : Fin cfg0.N) : Fin 2 := ⟨t.val / 16, by have := (idx t).2.2.2; omega⟩
@[inherit_doc bat] abbrev hd (t : Fin cfg0.N) : Fin 16 := ⟨t.val % 16, by omega⟩

/-- The block of columns that a point reads: a head's, -/
theorem blk_z (c : Dev nD) (t : Fin cfg0.N) (n : Fin 2048) (k : Fin 128) :
    iblk m c 0 t (ix2 n k) = Z m c (ix3 (bat t) n (Conv.zcol 2 (hd t) k)) := by
  have e : V m c main_v5 = concatenate S4096x18432 1
      [⟨S4096x6144, extractStridedSlice S4096x6144 ![0, 0] (shapeCast S4096x18480 (Z m c) shapeCasts_S2x2048x18480_S4096x18480) slices_S4096x18480_S4096x6144_0_0⟩,
       ⟨S4096x6144, extractStridedSlice S4096x6144 ![0, 6160] (shapeCast S4096x18480 (Z m c) shapeCasts_S2x2048x18480_S4096x18480) slices_S4096x18480_S4096x6144_0_6160⟩,
       ⟨S4096x2048, extractStridedSlice S4096x2048 ![0, 12304] (shapeCast S4096x18480 (Z m c) shapeCasts_S2x2048x18480_S4096x18480) slices_S4096x18480_S4096x2048_0_12304⟩,
       ⟨S4096x4096, extractStridedSlice S4096x4096 ![0, 14384] (shapeCast S4096x18480 (Z m c) shapeCasts_S2x2048x18480_S4096x18480) slices_S4096x18480_S4096x4096_0_14384⟩]
      concatenates_S4096x6144_S4096x6144_S4096x2048_S4096x4096_S4096x18432_d1 := by
    unfold V
    after_results
    try rfl
  have e0 : ((((cfg0.win 0).blk t).view.emb (ix2 n k)) 0).val = (bat t).val * 2048 + n.val := by blk_simp [idx t]
  have e1 : ((((cfg0.win 0).blk t).view.emb (ix2 n k)) 1).val = 10240 + (t.val % 16 * 128 + k.val) := by
    blk_simp [idx t]
    omega
  show V m c main_v5 (((cfg0.win 0).blk t).view.emb (ix2 n k)) = _
  rw [e]
  exact BigCols.apply (Z m c) _ _ _ _ _ _ _ (bat t) n _ e0 (Or.inr (Or.inl (by
    have hk := k.isLt
    rw [e1]
    show _ ∧ _ ∧ 6160 + (2 * 2048 + (t.val % 16 * 128 + k.val)) = _
    omega)))

/-- and the head's taps. -/
theorem blk_w (c : Dev nD) (t : Fin cfg0.N) (r : Fin 4) (k : Fin 128) :
    iblk m c 1 t (ix2 r k) = W m c (ix2 r (Conv.wcol 2 (hd t) k)) := by
  blk_ext [iblk, V, idx t]

/-- A point's activations are the head's. -/
theorem act_blk (c : Dev nD) (t : Fin cfg0.N) (w0 w1 w2 w3 : Vec Ideal S1x128 .f32)
    (hw : Conv.taps w0 w1 w2 w3 = fun r l => iblk m c 1 t (ix2 r l)) (n : Fin 2048) (k : Fin 128) :
    k0_pay1 (F := Ideal) w0 w1 w2 w3 (iblk m c 0 t) (ix2 n k) = Conv.headAct (Z m c) (W m c) 2 (bat t) (hd t) n k := by
  refine (Conv.pay_act w0 w1 w2 w3 (iblk m c 0 t) n k).trans ?_
  rw [hw]
  unfold Conv.headAct
  simp only [blk_z, blk_w]

/-- The reference's activations, -/
theorem ref_act (z : FVec Ideal S2x2048x18480 .f32) (w : FVec Ideal S4x6144 .f32) (b : Fin 2) (n : Fin 2048) (j : Fin 16) (k : Fin 128) :
    val_main_v44 (F := Ideal) z w (ix3 b n (Conv.col j k)) = Conv.headAct z w 2 b j n k :=
  Conv.act_apply z w (val_main_v11 (F := Ideal) z) (val_main_v12 (F := Ideal) w) 2 b n j k
    (fun i => Conv.colsV z b i j k) (fun r => Conv.tapsV w r j k)

/-- as rows of tokens. -/
theorem ref_tok (z : FVec Ideal S2x2048x18480 .f32) (w : FVec Ideal S4x6144 .f32) (i : S4096x2048.Idx) (b : Fin 2) (n : Fin 2048)
    (j : Fin 16) (k : Fin 128) (hi : (i 0).val = b.val * 2048 + n.val) (hq : i 1 = Conv.col j k) :
    val_main_v45 (F := Ideal) z w i = Conv.headAct z w 2 b j n k := by
  refine (Rows.tok_apply (val_main_v44 (F := Ideal) z w) _ i b n hi).trans ?_
  rw [hq]
  exact ref_act z w b n j k

/-- The result array after the run is the reference's array. -/
theorem final2 (c : Dev nD) : (dats m 0 c).arrAt 2 (cfgs 0).N = val_main_v45 (F := Ideal) (Z m c) (W m c) := by
  refine (dats m 0 c).arrAt_eq_of_covers 2 _ (by decide +kernel) fun t _ y => ?_
  obtain ⟨n, k, rfl⟩ : ∃ n k, y = ix2 n k := ⟨y 0, y 1, by idx_vars y⟩
  have e0 : ((((cfg0.win 2).blk t).view.emb (ix2 n k)) 0).val = (bat t).val * 2048 + n.val := by blk_simp [idx t]
  have e1 : (((cfg0.win 2).blk t).view.emb (ix2 n k)) 1 = Conv.col (hd t) k := by
    apply Fin.ext
    blk_simp [idx t]
  blk_simp
  rw [after0_2, ref_tok _ _ _ (bat t) n (hd t) k e0 e1]
  frame_out
  exact act_blk m c t _ _ _ _ (Conv.taps_ld (iblk m c 1 t) _ _ _ _) n k

end Cert.ConvFwdVIdeal.RefValue

end
-- ==== Proof.ConvFwdVClaim.lean ====
/- The claims about the values' convolution: the reference runs and leaves its arguments as
   they are, and the kernel's results are the reference's. -/
module

public import proofs.«01_k».proof.Proof.ConvFwdVValue

@[expose] public section

set_option maxRecDepth 16384

noncomputable section

open Idealize.ShloMosaic Idealize.ShloMosaic.TcCoe Idealize.SL.Sem

namespace Cert.ConvFwdVIdeal.RefValue

open Cert.ConvFwdVRefIdeal.Read

instance factsK : Cert.ConvFwdVIdeal.Facts := Cert.ConvFwdVIdeal.Gen.facts
instance factsR : Cert.ConvFwdVRefIdeal.Facts := Cert.ConvFwdVRefIdeal.Gen.facts

/-- The reference runs, leaves its arguments as they are and declares no semaphore. -/
theorem frame_ref : Cert.quiescent_ConvFwdVRefIdeal := fun m g _ =>
  (θ_run _ _ _).mono (fun r h => ⟨fun c => (h c).2, sem_eq_zero_of_no_sems rfl _⟩)
    (Cert.ConvFwdVRefIdeal.Value.run m g)

set_option maxHeartbeats 1000000 in
/-- The kernel's results are the reference's. -/
theorem algebraic : Cert.algebraic_ConvFwdVIdeal_ConvFwdVRefIdeal := by
  pair_intro
  · run_from Cert.ConvFwdVIdeal.Gen.run_main m g
  refine (θ_run _ _ _).mono (fun r h c => ?_) (Cert.ConvFwdVRefIdeal.Value.run m' g')
  obtain ⟨a0, a1⟩ := hagree c
  refine ⟨((h c).1.trans (val_main_v45_eq m' c)).trans ?_, (h c).2⟩
  · simp only [a0, a1]
    exact (final2 m c).symm

end Cert.ConvFwdVIdeal.RefValue

end
-- ==== Proof.MlpUpValue.lean ====
/- The product with `w_up` and the squared rectifier fused into it: the kernel's two result arrays after the run
   are the reference's. -/
module

public import proofs.«01_k».proof.Defs
public import proofs.«01_k».proof.Proof.Gen.MlpUpIdeal.Value
public import proofs.«01_k».proof.Proof.Gen.MlpUpRefIdeal.Run
public import proofs.«01_k».proof.Proof.Gen.MlpUpRefIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpUpIdeal.RefValue

open Cert Cert.MlpUpIdeal Cert.MlpUpIdeal.Gen Cert.MlpUpRefIdeal.Read

variable (m : (ℓ : Loc nD τ sig) → Buf (Elt Ideal) ℓ)

/-- The arguments: the rows of tokens and the weight. -/
abbrev H (c : Dev nD) : FVec Ideal S2x2048x2048 .f32 := m ((c : Thread nD τ).loc main_arg0)
@[inherit_doc H] abbrev W (c : Dev nD) : FVec Ideal S2048x8192 .f32 := m ((c : Thread nD τ).loc main_arg1)

/-- The windows' block indices at every grid point. -/
theorem idx : ∀ t : Fin cfg0.N, win0_0.index t = ![t.val / 8, 0] ∧ win0_1.index t = ![t.val % 8 / 2, 0, t.val % 2]
    ∧ win0_2.index t = ![t.val / 8, t.val % 8] ∧ win0_3.index t = ![t.val / 8, t.val % 8] ∧ t.val / 8 < 4 :=
  (by decide +kernel : ∀ t : Fin grid0.N, _)

/-- The rows of tokens that the call reads. -/
theorem V_h (c : Dev nD) (i : S4096x2048.Idx) (a : Fin 2) (b : Fin 2048) (h : (i 0).val = a.val * 2048 + b.val) :
    V m c main_v4 i = H m c (ix3 a b (i 1)) := by
  have e : V m c main_v4 = shapeCast S4096x2048 (H m c) shapeCasts_S2x2048x2048_S4096x2048 := by
    entry_read
    rfl
  rw [e]
  exact Rows.tok_apply _ _ i a b h

/-- The weight's columns in the four slots that the devices hold. -/
theorem V_w (c : Dev nD) (s : Fin 4) (k q : Fin 2048) (h : s.val * 2048 + q.val < 8192) :
    V m c main_v2 (ix3 s k q) = W m c (ix2 k ⟨s.val * 2048 + q.val, h⟩) := by
  have e : V m c main_v2 = transpose S4x2048x2048 [1, 0, 2] (shapeCast S2048x4x2048 (W m c) shapeCasts_S2048x8192_S2048x4x2048)
      transposes_S2048x4x2048_S4x2048x2048_1_0_2 := by
    entry_read
    rfl
  rw [e]
  pointwise
  blk_ext

/-- An entry of the product of a row with a column of the weight. -/
def dot (h w : Fin 2048 → EReal) : EReal := ∑ k, h k * w k

/-- The block of rows that a point reads, -/
theorem blk_h (c : Dev nD) (t : Fin cfg0.N) (r : Fin 1024) (k : Fin 2048) (ha : t.val / 8 / 2 < 2)
    (hb : t.val / 8 % 2 * 1024 + r.val < 2048) :
    iblk m c 0 t (ix2 r k) = H m c (ix3 ⟨t.val / 8 / 2, ha⟩ ⟨t.val / 8 % 2 * 1024 + r.val, hb⟩ k) := by
  blk_simp [iblk, idx t]
  rw [V_h m c _ ⟨t.val / 8 / 2, ha⟩ ⟨t.val / 8 % 2 * 1024 + r.val, hb⟩
    (by blk_simp [idx t]; show _ = t.val / 8 / 2 * 2048 + (t.val / 8 % 2 * 1024 + r.val); omega)]
  blk_ext [idx t]

/-- and the block of columns. -/
theorem blk_w (c : Dev nD) (t : Fin cfg0.N) (k : Fin 2048) (q : Fin 1024) (h : t.val % 8 * 1024 + q.val < 8192) :
    iblk m c 1 t (ix3 0 k q) = W m c (ix2 k ⟨t.val % 8 * 1024 + q.val, h⟩) := by
  have e : ((cfg0.win 1).blk t).view.emb (ix3 0 k q)
      = ix3 (⟨t.val % 8 / 2, by omega⟩ : Fin 4) k (⟨t.val % 2 * 1024 + q.val, by have := q.isLt; omega⟩ : Fin 2048) := by
    blk_ext [idx t]
  show V m c main_v2 (((cfg0.win 1).blk t).view.emb (ix3 0 k q)) = _
  rw [e, V_w m c _ _ _ (by show t.val % 8 / 2 * 2048 + (t.val % 2 * 1024 + q.val) < 8192; have := q.isLt; omega)]
  congr 2
  apply Fin.ext
  show t.val % 8 / 2 * 2048 + (t.val % 2 * 1024 + q.val) = t.val % 8 * 1024 + q.val
  omega

/-- What a point stores, entry by entry: the product, -/
theorem pay_u (h : FVec Ideal S1024x2048 .bf16) (w : FVec Ideal S1x2048x1024 .bf16) (r q : Fin 1024) :
    k0_pay1 (F := Ideal) h w (ix2 r q) = dot (fun k => h (ix2 r k)) (fun k => w (ix3 0 k q)) := by
  pointwise [k0_pay1]
  rfl

/-- and the square of its positive part. -/
theorem pay_act (h : FVec Ideal S1024x2048 .bf16) (w : FVec Ideal S1x2048x1024 .bf16) (r q : Fin 1024) :
    k0_pay2 (F := Ideal) h w (ix2 r q) = max (dot (fun k => h (ix2 r k)) (fun k => w (ix3 0 k q))) 0
      * max (dot (fun k => h (ix2 r k)) (fun k => w (ix3 0 k q))) 0 := by
  rw [← pay_u]
  pointwise [k0_pay2]

/-- The reference's product, entry by entry, -/
theorem ref_u (h : FVec Ideal S2x2048x2048 .f32) (w : FVec Ideal S2048x8192 .f32)
    (i : S4096x8192.Idx) (a : Fin 2) (b : Fin 2048) (hi : (i 0).val = a.val * 2048 + b.val) (q : Fin 8192) (hq : i 1 = q) :
    val_main_v1 (F := Ideal) h w i = dot (fun k => h (ix3 a b k)) (fun k => w (ix2 k q)) := by
  have ea : (⟨(i 0).val / 2048, Rows.batch_lt (i 0)⟩ : Fin 2) = a := Fin.ext (Rows.batch_eq hi b.isLt)
  have eb : (⟨(i 0).val % 2048, Nat.mod_lt _ (by decide)⟩ : Fin 2048) = b := Fin.ext (Rows.pos_eq hi b.isLt)
  subst hq
  pointwise [val_main_v1, val_main_v0]
  simp only [ea, eb]
  rfl

/-- and the square of its positive part. -/
theorem ref_act (h : FVec Ideal S2x2048x2048 .f32) (w : FVec Ideal S2048x8192 .f32)
    (i : S4096x8192.Idx) (a : Fin 2) (b : Fin 2048) (hi : (i 0).val = a.val * 2048 + b.val) (q : Fin 8192) (hq : i 1 = q) :
    val_main_v5 (F := Ideal) h w i = max (dot (fun k => h (ix3 a b k)) (fun k => w (ix2 k q))) 0
      * max (dot (fun k => h (ix3 a b k)) (fun k => w (ix2 k q))) 0 := by
  rw [← ref_u h w i a b hi q hq]
  pointwise [val_main_v5, val_main_v4, val_main_v3, val_main_v2, val_main_v1, val_main_call0_v0, val_main_call0_cst]

/-- Where a result block's entry stands. -/
theorem emb (t : Fin cfg0.N) (r q : Fin 1024) (h : t.val % 8 * 1024 + q.val < 8192) (a : Fin 2) (b : Fin 2048)
    (hab : t.val / 8 * 1024 + r.val = a.val * 2048 + b.val) :
    ((((cfg0.win 2).blk t).view.emb (ix2 r q)) 0).val = a.val * 2048 + b.val
      ∧ (((cfg0.win 2).blk t).view.emb (ix2 r q)) 1 = ⟨t.val % 8 * 1024 + q.val, h⟩
      ∧ ((((cfg0.win 3).blk t).view.emb (ix2 r q)) 0).val = a.val * 2048 + b.val
      ∧ (((cfg0.win 3).blk t).view.emb (ix2 r q)) 1 = ⟨t.val % 8 * 1024 + q.val, h⟩ := by
  refine ⟨?_, Fin.ext ?_, ?_, Fin.ext ?_⟩ <;> blk_simp [idx t] <;> first | exact hab | rfl

/-- The result array after the run is the reference's array. -/
theorem final2 (c : Dev nD) : (dats m 0 c).arrAt 2 (cfgs 0).N = val_main_v1 (F := Ideal) (H m c) (W m c) := by
  refine (dats m 0 c).arrAt_eq_of_covers 2 _ (by decide +kernel) fun t _ y => ?_
  blk_simp
  rw [after0_2]
  frame_out
  obtain ⟨r, q, rfl⟩ : ∃ r q, y = ix2 r q := ⟨y 0, y 1, by idx_vars y⟩
  have hT := (idx t).2.2.2.2
  have ha : t.val / 8 / 2 < 2 := by omega
  have hb : t.val / 8 % 2 * 1024 + r.val < 2048 := by have := r.isLt; omega
  have hq : t.val % 8 * 1024 + q.val < 8192 := by have := q.isLt; omega
  have he := emb t r q hq ⟨_, ha⟩ ⟨_, hb⟩ (by show _ = t.val / 8 / 2 * 2048 + (t.val / 8 % 2 * 1024 + r.val); omega)
  rw [pay_u, ref_u _ _ _ _ _ he.1 _ he.2.1]
  simp only [blk_h m c t _ _ ha hb, blk_w m c t _ _ hq]
  rfl

/-- The result array after the run is the reference's array. -/
theorem final3 (c : Dev nD) : (dats m 0 c).arrAt 3 (cfgs 0).N = val_main_v5 (F := Ideal) (H m c) (W m c) := by
  refine (dats m 0 c).arrAt_eq_of_covers 3 _ (by decide +kernel) fun t _ y => ?_
  blk_simp
  rw [after0_3]
  frame_out
  obtain ⟨r, q, rfl⟩ : ∃ r q, y = ix2 r q := ⟨y 0, y 1, by idx_vars y⟩
  have hT := (idx t).2.2.2.2
  have ha : t.val / 8 / 2 < 2 := by omega
  have hb : t.val / 8 % 2 * 1024 + r.val < 2048 := by have := r.isLt; omega
  have hq : t.val % 8 * 1024 + q.val < 8192 := by have := q.isLt; omega
  have he := emb t r q hq ⟨_, ha⟩ ⟨_, hb⟩ (by show _ = t.val / 8 / 2 * 2048 + (t.val / 8 % 2 * 1024 + r.val); omega)
  rw [pay_act, ref_act _ _ _ _ _ he.2.2.1 _ he.2.2.2]
  simp only [blk_h m c t _ _ ha hb, blk_w m c t _ _ hq]
  rfl

end Cert.MlpUpIdeal.RefValue

end
-- ==== Proof.MlpUpClaim.lean ====
/- The claims about the product with the squared rectifier: the reference runs and leaves its arguments as
   they are, and the kernel's results are the reference's. -/
module

public import proofs.«01_k».proof.Proof.MlpUpValue

@[expose] public section

set_option maxRecDepth 16384

noncomputable section

open Idealize.ShloMosaic Idealize.ShloMosaic.TcCoe Idealize.SL.Sem

namespace Cert.MlpUpIdeal.RefValue

open Cert.MlpUpRefIdeal.Read

instance factsK : Cert.MlpUpIdeal.Facts := Cert.MlpUpIdeal.Gen.facts
instance factsR : Cert.MlpUpRefIdeal.Facts := Cert.MlpUpRefIdeal.Gen.facts

/-- The reference runs, leaves its arguments as they are and declares no semaphore. -/
theorem frame_ref : Cert.quiescent_MlpUpRefIdeal := fun m g _ =>
  (θ_run _ _ _).mono (fun r h => ⟨fun c => (h c).2.2, sem_eq_zero_of_no_sems rfl _⟩)
    (Cert.MlpUpRefIdeal.Value.run m g)

set_option maxHeartbeats 1000000 in
/-- The kernel's results are the reference's. -/
theorem algebraic : Cert.algebraic_MlpUpIdeal_MlpUpRefIdeal := by
  pair_intro
  · run_from Cert.MlpUpIdeal.Gen.run_main m g
  refine (θ_run _ _ _).mono (fun r h c => ?_) (Cert.MlpUpRefIdeal.Value.run m' g')
  obtain ⟨a0, a1⟩ := hagree c
  refine ⟨((h c).1.trans (val_main_v1_eq _ _)).trans ?_,
    ((h c).2.1.trans (val_main_v5_eq _ _)).trans ?_, (h c).2.2⟩
  · simp only [a0, a1]
    exact (final2 m c).symm
  · simp only [a0, a1]
    exact (final3 m c).symm

end Cert.MlpUpIdeal.RefValue

end
-- ==== Proof.AddNormValue.lean ====
/- The mixer's output product with the residual added and the row norm of the sum fused into it: the kernel's two
   result arrays after the run are the reference's. -/
module

public import proofs.«01_k».proof.Defs
public import proofs.«01_k».proof.Proof.Gen.AddNormIdeal.Value
public import proofs.«01_k».proof.Proof.Gen.AddNormRefIdeal.Run
public import proofs.«01_k».proof.Proof.Gen.AddNormRefIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AddNormIdeal.RefValue

open Cert Cert.AddNormIdeal Cert.AddNormIdeal.Gen Cert.AddNormRefIdeal.Read

variable (m : (ℓ : Loc nD τ sig) → Buf (Elt Ideal) ℓ)

/-- The arguments: the mixed rows, the weight, the residual and the gain. -/
abbrev M (c : Dev nD) : FVec Ideal S2x2048x2048 .f32 := m ((c : Thread nD τ).loc main_arg0)
@[inherit_doc M] abbrev W (c : Dev nD) : FVec Ideal S2048x2048 .f32 := m ((c : Thread nD τ).loc main_arg1)
@[inherit_doc M] abbrev X (c : Dev nD) : FVec Ideal S2x2048x2048 .f32 := m ((c : Thread nD τ).loc main_arg2)
@[inherit_doc M] abbrev G (c : Dev nD) : FVec Ideal S1x2048 .f32 := m ((c : Thread nD τ).loc main_arg3)

/-- The windows' block indices at every grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ t.val < 8 :=
  (by decide +kernel : ∀ t : Fin grid0.N, _)

/-- The mixed rows of tokens that the call reads, -/
theorem V_m (c : Dev nD) (i : S4096x2048.Idx) (a : Fin 2) (b : Fin 2048) (h : (i 0).val = a.val * 2048 + b.val) :
    V m c main_v1 i = M m c (ix3 a b (i 1)) := by
  have e : V m c main_v1 = shapeCast S4096x2048 (M m c) shapeCasts_S2x2048x2048_S4096x2048 := by
    entry_read
    rfl
  rw [e]
  exact Rows.tok_apply _ _ i a b h

/-- the residual, -/
theorem V_x (c : Dev nD) (i : S4096x2048.Idx) (a : Fin 2) (b : Fin 2048) (h : (i 0).val = a.val * 2048 + b.val) :
    V m c main_v3 i = X m c (ix3 a b (i 1)) := by
  have e : V m c main_v3 = shapeCast S4096x2048 (X m c) shapeCasts_S2x2048x2048_S4096x2048 := by
    entry_read
    rfl
  rw [e]
  exact Rows.tok_apply _ _ i a b h

/-- and the weight, whole. -/
theorem V_w (c : Dev nD) : V m c main_v2 = W m c := by
  entry_read
  rfl

/-- The block of rows that a point reads, at its rows' batch and position. -/
theorem blk_m (c : Dev nD) (t : Fin cfg0.N) (r : Fin 512) (k : Fin 2048) (ha : t.val / 4 < 2)
    (hb : t.val % 4 * 512 + r.val < 2048) :
    iblk m c 0 t (ix2 r k) = M m c (ix3 ⟨t.val / 4, ha⟩ ⟨t.val % 4 * 512 + r.val, hb⟩ k) := by
  blk_simp [iblk, idx t]
  rw [V_m m c _ ⟨t.val / 4, ha⟩ ⟨t.val % 4 * 512 + r.val, hb⟩
    (by blk_simp [idx t]; show _ = t.val / 4 * 2048 + (t.val % 4 * 512 + r.val); omega)]
  blk_ext [idx t]

/-- The block of rows that a point reads, at its rows' batch and position. -/
theorem blk_x (c : Dev nD) (t : Fin cfg0.N) (r : Fin 512) (k : Fin 2048) (ha : t.val / 4 < 2)
    (hb : t.val % 4 * 512 + r.val < 2048) :
    iblk m c 2 t (ix2 r k) = X m c (ix3 ⟨t.val / 4, ha⟩ ⟨t.val % 4 * 512 + r.val, hb⟩ k) := by
  blk_simp [iblk, idx t]
  rw [V_x m c _ ⟨t.val / 4, ha⟩ ⟨t.val % 4 * 512 + r.val, hb⟩
    (by blk_simp [idx t]; show _ = t.val / 4 * 2048 + (t.val % 4 * 512 + r.val); omega)]
  blk_ext [idx t]

/-- The weight and the gain are read whole at every point. -/
theorem blk_w (c : Dev nD) (t : Fin cfg0.N) (i) : iblk m c 1 t i = W m c i := by
  blk_simp [iblk, idx t]
  rw [V_w]
  blk_ext [idx t]

@[inherit_doc blk_w] theorem blk_g (c : Dev nD) (t : Fin cfg0.N) (i) : iblk m c 3 t i = G m c i := by
  blk_ext [iblk, V, idx t]

/-- An entry of the sum of a residual row and the product of a row with the weight. -/
def sumRow (h : Fin 2048 → EReal) (w : Fin 2048 → Fin 2048 → EReal) (x : Fin 2048 → EReal) (q : Fin 2048) : EReal :=
  x q + ∑ k, h k * w k q

/-- What a point stores, row by row: the sum, -/
theorem pay_sum (h : FVec Ideal S512x2048 .bf16) (w : FVec Ideal S2048x2048 .bf16) (x : FVec Ideal S512x2048 .f32)
    (r : Fin 512) (q : Fin 2048) :
    k0_pay1 (F := Ideal) h w x (ix2 r q)
      = sumRow (fun k => h (ix2 r k)) (fun k q => w (ix2 k q)) (fun k => x (ix2 r k)) q := by
  pointwise [k0_pay1]
  rfl

/-- and the sum over its root mean square, times the gain. -/
theorem pay_norm (h : FVec Ideal S512x2048 .bf16) (w : FVec Ideal S2048x2048 .bf16) (x : FVec Ideal S512x2048 .f32)
    (g : FVec Ideal S1x2048 .f32) (r : Fin 512) (q : Fin 2048) :
    k0_pay2 (F := Ideal) h w x g (ix2 r q)
      = sumRow (fun k => h (ix2 r k)) (fun k q => w (ix2 k q)) (fun k => x (ix2 r k)) q
        * Rows.inv (sumRow (fun k => h (ix2 r k)) (fun k q => w (ix2 k q)) (fun k => x (ix2 r k))) * g (ix2 0 q) := by
  have e : sumRow (fun k => h (ix2 r k)) (fun k q => w (ix2 k q)) (fun k => x (ix2 r k))
      = fun q => k0_pay1 (F := Ideal) h w x (ix2 r q) := funext fun q => (pay_sum h w x r q).symm
  rw [e]
  pointwise [k0_pay2]
  rfl

/-- The reference's sum, row by row, -/
theorem ref_sum (h : FVec Ideal S2x2048x2048 .f32) (w : FVec Ideal S2048x2048 .f32) (x : FVec Ideal S2x2048x2048 .f32)
    (a : Fin 2) (b q : Fin 2048) :
    val_main_v1 (F := Ideal) h w x (ix3 a b q)
      = sumRow (fun k => h (ix3 a b k)) (fun k q => w (ix2 k q)) (fun k => x (ix3 a b k)) q := by
  pointwise [val_main_v1, val_main_v0]
  rfl

/-- as rows of tokens, -/
theorem ref_tok (h : FVec Ideal S2x2048x2048 .f32) (w : FVec Ideal S2048x2048 .f32) (x : FVec Ideal S2x2048x2048 .f32)
    (i : S4096x2048.Idx) (a : Fin 2) (b : Fin 2048) (hi : (i 0).val = a.val * 2048 + b.val) (q : Fin 2048) (hq : i 1 = q) :
    val_main_v2 (F := Ideal) h w x i
      = sumRow (fun k => h (ix3 a b k)) (fun k q => w (ix2 k q)) (fun k => x (ix3 a b k)) q := by
  rw [← ref_sum, ← hq]
  exact Rows.tok_apply _ _ i a b hi

/-- and the sum over its root mean square, times the gain. -/
theorem ref_norm (h : FVec Ideal S2x2048x2048 .f32) (w : FVec Ideal S2048x2048 .f32) (x : FVec Ideal S2x2048x2048 .f32)
    (g : FVec Ideal S1x2048 .f32)
    (i : S4096x2048.Idx) (a : Fin 2) (b : Fin 2048) (hi : (i 0).val = a.val * 2048 + b.val) (q : Fin 2048) (hq : i 1 = q) :
    val_main_v18 (F := Ideal) h w x g i
      = sumRow (fun k => h (ix3 a b k)) (fun k q => w (ix2 k q)) (fun k => x (ix3 a b k)) q
        * Rows.inv (sumRow (fun k => h (ix3 a b k)) (fun k q => w (ix2 k q)) (fun k => x (ix3 a b k))) * g (ix2 0 q) := by
  have e : sumRow (fun k => h (ix3 a b k)) (fun k q => w (ix2 k q)) (fun k => x (ix3 a b k))
      = fun q => val_main_v1 (F := Ideal) h w x (ix3 a b q) := funext fun q => (ref_sum h w x a b q).symm
  have ea : (⟨(i 0).val / 2048, Rows.batch_lt (i 0)⟩ : Fin 2) = a := Fin.ext (Rows.batch_eq hi b.isLt)
  have eb : (⟨(i 0).val % 2048, Nat.mod_lt _ (by decide)⟩ : Fin 2048) = b := Fin.ext (Rows.pos_eq hi b.isLt)
  rw [e]
  subst hq
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  simp only [ea, eb]
  rfl

/-- The result array after the run is the reference's array. -/
theorem final4 (c : Dev nD) : (dats m 0 c).arrAt 4 (cfgs 0).N = val_main_v2 (F := Ideal) (M m c) (W m c) (X m c) := by
  refine (dats m 0 c).arrAt_eq_of_covers 4 _ (by decide +kernel) fun t _ y => ?_
  blk_simp
  rw [after0_4]
  frame_out
  obtain ⟨r, q, rfl⟩ : ∃ r q, y = ix2 r q := ⟨y 0, y 1, by idx_vars y⟩
  have hT := (idx t).2.2.2.2.2.2
  have ha : t.val / 4 < 2 := by omega
  have hb : t.val % 4 * 512 + r.val < 2048 := by have := r.isLt; omega
  rw [pay_sum, ref_tok _ _ _ _ ⟨_, ha⟩ ⟨_, hb⟩
    (by blk_simp [idx t]; show _ = t.val / 4 * 2048 + (t.val % 4 * 512 + r.val); omega) q (by apply Fin.ext; blk_simp [idx t])]
  simp only [blk_m m c t _ _ ha hb, blk_x m c t _ _ ha hb, blk_w]

/-- The result array after the run is the reference's array. -/
theorem final5 (c : Dev nD) : (dats m 0 c).arrAt 5 (cfgs 0).N = val_main_v18 (F := Ideal) (M m c) (W m c) (X m c) (G m c) := by
  refine (dats m 0 c).arrAt_eq_of_covers 5 _ (by decide +kernel) fun t _ y => ?_
  blk_simp
  rw [after0_5]
  frame_out
  obtain ⟨r, q, rfl⟩ : ∃ r q, y = ix2 r q := ⟨y 0, y 1, by idx_vars y⟩
  have hT := (idx t).2.2.2.2.2.2
  have ha : t.val / 4 < 2 := by omega
  have hb : t.val % 4 * 512 + r.val < 2048 := by have := r.isLt; omega
  rw [pay_norm, ref_norm _ _ _ _ _ ⟨_, ha⟩ ⟨_, hb⟩
    (by blk_simp [idx t]; show _ = t.val / 4 * 2048 + (t.val % 4 * 512 + r.val); omega) q (by apply Fin.ext; blk_simp [idx t])]
  simp only [blk_m m c t _ _ ha hb, blk_x m c t _ _ ha hb, blk_w, blk_g]

end Cert.AddNormIdeal.RefValue

end
-- ==== Proof.AddNormClaim.lean ====
/- The claims about the product with the residual and the norm of the sum: the reference runs and leaves its arguments as
   they are, and the kernel's results are the reference's. -/
module

public import proofs.«01_k».proof.Proof.AddNormValue

@[expose] public section

set_option maxRecDepth 16384

noncomputable section

open Idealize.ShloMosaic Idealize.ShloMosaic.TcCoe Idealize.SL.Sem

namespace Cert.AddNormIdeal.RefValue

open Cert.AddNormRefIdeal.Read

instance factsK : Cert.AddNormIdeal.Facts := Cert.AddNormIdeal.Gen.facts
instance factsR : Cert.AddNormRefIdeal.Facts := Cert.AddNormRefIdeal.Gen.facts

/-- The reference runs, leaves its arguments as they are and declares no semaphore. -/
theorem frame_ref : Cert.quiescent_AddNormRefIdeal := fun m g _ =>
  (θ_run _ _ _).mono (fun r h => ⟨fun c => (h c).2.2, sem_eq_zero_of_no_sems rfl _⟩)
    (Cert.AddNormRefIdeal.Value.run m g)

set_option maxHeartbeats 1000000 in
/-- The kernel's results are the reference's. -/
theorem algebraic : Cert.algebraic_AddNormIdeal_AddNormRefIdeal := by
  pair_intro
  · run_from Cert.AddNormIdeal.Gen.run_main m g
  refine (θ_run _ _ _).mono (fun r h c => ?_) (Cert.AddNormRefIdeal.Value.run m' g')
  obtain ⟨a0, a1, a2, a3⟩ := hagree c
  refine ⟨((h c).1.trans (val_main_v2_eq _ _ _)).trans ?_,
    ((h c).2.1.trans (val_main_v18_eq _ _ _ _)).trans ?_, (h c).2.2⟩
  · simp only [a0, a1, a2, a3]
    exact (final4 m c).symm
  · simp only [a0, a1, a2, a3]
    exact (final5 m c).symm

end Cert.AddNormIdeal.RefValue

end
-- ==== Proof.MlpDownValue.lean ====
/- The squared rectifier's product, its depth in four parts summed in a scratch, with the
   residual added and the row norm of the sum fused into it: the kernel's two result arrays after the run are the
   reference's. -/
module

public import proofs.«01_k».proof.Defs
public import proofs.«01_k».proof.Proof.Gen.MlpDownIdeal.Value
public import proofs.«01_k».proof.Proof.Gen.MlpDownRefIdeal.Run
public import proofs.«01_k».proof.Proof.Gen.MlpDownRefIdeal.Read
public import proofs.«01_k».proof.Proof.Rows
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpDownIdeal.RefValue

open Cert Cert.MlpDownIdeal Cert.MlpDownIdeal.Gen Cert.MlpDownRefIdeal.Read

variable (m : (ℓ : Loc nD τ sig) → Buf (Elt Ideal) ℓ)

/-- The arguments: the squared rows, the weight, the residual and the gain. -/
abbrev M (c : Dev nD) : FVec Ideal S2x2048x8192 .f32 := m ((c : Thread nD τ).loc main_arg0)
@[inherit_doc M] abbrev W (c : Dev nD) : FVec Ideal S8192x2048 .f32 := m ((c : Thread nD τ).loc main_arg1)
@[inherit_doc M] abbrev X (c : Dev nD) : FVec Ideal S2x2048x2048 .f32 := m ((c : Thread nD τ).loc main_arg2)
@[inherit_doc M] abbrev G (c : Dev nD) : FVec Ideal S1x2048 .f32 := m ((c : Thread nD τ).loc main_arg3)

/-- The point of a block of rows and a part of the depth. -/
abbrev pt (p : Fin 8) (s : Fin 4) : Fin cfg0.N := ⟨4 * p.val + s.val, by have : cfg0.N = 32 := N_0; omega⟩

/-- The windows' block indices at every grid point. -/
theorem idx : ∀ (p : Fin 8) (s : Fin 4), win0_0.index (pt p s) = ![p.val, s.val] ∧ win0_1.index (pt p s) = ![s.val, 0]
    ∧ win0_2.index (pt p s) = ![p.val, 0] ∧ win0_3.index (pt p s) = ![0, 0] ∧ win0_4.index (pt p s) = ![p.val, 0]
    ∧ win0_5.index (pt p s) = ![p.val, 0] := by decide +kernel

/-- A block's batch, its rows' positions, and a part's lanes among the depth. -/
abbrev bat (p : Fin 8) : Fin 2 := ⟨p.val / 4, by omega⟩
@[inherit_doc bat] abbrev pos (p : Fin 8) (r : Fin 512) : Fin 2048 := ⟨p.val % 4 * 512 + r.val, by omega⟩
@[inherit_doc bat] abbrev lane (s : Fin 4) (k : Fin 2048) : Fin 8192 := ⟨s.val * 2048 + k.val, by omega⟩

/-- Where a block's row stands among the tokens. -/
theorem row_at (p : Fin 8) (r : Fin 512) : p.val * 512 + r.val = (bat p).val * 2048 + (pos p r).val := by
  show _ = p.val / 4 * 2048 + (p.val % 4 * 512 + r.val)
  omega

/-- Rows of tokens at an index: the batch and the position that the row stands for. -/
theorem tok_apply (x : FVec Ideal S2x2048x8192 .f32) (i : S4096x8192.Idx) (a : Fin 2) (b : Fin 2048)
    (h : (i 0).val = a.val * 2048 + b.val) :
    shapeCast S4096x8192 x shapeCasts_S2x2048x8192_S4096x8192 i = x (ix3 a b (i 1)) := by
  pointwise
  congr 2 <;> (apply Fin.ext; simp only [h]; omega)

/-- The block of squared rows that a point reads, -/
theorem blk_m (c : Dev nD) (p : Fin 8) (s : Fin 4) (r : Fin 512) (k : Fin 2048) :
    iblk m c 0 (pt p s) (ix2 r k) = M m c (ix3 (bat p) (pos p r) (lane s k)) := by
  have e : V m c main_v1 = shapeCast S4096x8192 (M m c) shapeCasts_S2x2048x8192_S4096x8192 := by
    entry_read
    rfl
  blk_simp [iblk, idx p s]
  rw [e, tok_apply _ _ (bat p) (pos p r) (by blk_simp [idx p s]; exact row_at p r)]
  blk_ext [idx p s]

/-- of the residual's, -/
theorem blk_x (c : Dev nD) (p : Fin 8) (s : Fin 4) (r : Fin 512) (k : Fin 2048) :
    iblk m c 2 (pt p s) (ix2 r k) = X m c (ix3 (bat p) (pos p r) k) := by
  have e : V m c main_v3 = shapeCast S4096x2048 (X m c) shapeCasts_S2x2048x2048_S4096x2048 := by
    entry_read
    rfl
  blk_simp [iblk, idx p s]
  rw [e, Rows.tok_apply _ _ _ (bat p) (pos p r) (by blk_simp [idx p s]; exact row_at p r)]
  blk_ext [idx p s]

/-- and of the weight; -/
theorem blk_w (c : Dev nD) (p : Fin 8) (s : Fin 4) (k q : Fin 2048) :
    iblk m c 1 (pt p s) (ix2 k q) = W m c (ix2 (lane s k) q) := by
  have e : V m c main_v2 = W m c := by
    entry_read
    rfl
  blk_simp [iblk, idx p s]
  rw [e]
  blk_ext [idx p s]

/-- the gain is read whole. -/
theorem blk_g (c : Dev nD) (p : Fin 8) (s : Fin 4) (i) : iblk m c 3 (pt p s) i = G m c i := by
  blk_ext [iblk, V, idx p s]

/-- A row of one block times a column of another. -/
def dot (h : FVec Ideal S512x2048 .bf16) (w : FVec Ideal S2048x2048 .bf16) (r : Fin 512) (q : Fin 2048) : EReal :=
  ∑ k : Fin 2048, h (ix2 r k) * w (ix2 k q)

/-- What the points store, entry by entry: the first of a run its product, -/
theorem pay_first (h : FVec Ideal S512x2048 .bf16) (w : FVec Ideal S2048x2048 .bf16) (r : Fin 512) (q : Fin 2048) :
    k0_pay2 (F := Ideal) h w (ix2 r q) = dot h w r q := by
  pointwise [k0_pay2, k0_pay1]
  rfl

/-- the next the sum so far and its product, -/
theorem pay_next (h : FVec Ideal S512x2048 .bf16) (w : FVec Ideal S2048x2048 .bf16) (a : FVec Ideal S512x2048 .f32)
    (r : Fin 512) (q : Fin 2048) : k0_pay3 (F := Ideal) h w a (ix2 r q) = a (ix2 r q) + dot h w r q := by
  pointwise [k0_pay3, k0_pay1]
  rfl

/-- the last the residual and the whole sum, -/
theorem pay_sum (h : FVec Ideal S512x2048 .bf16) (w : FVec Ideal S2048x2048 .bf16) (a x : FVec Ideal S512x2048 .f32)
    (r : Fin 512) (q : Fin 2048) :
    k0_pay4 (F := Ideal) h w a x (ix2 r q) = x (ix2 r q) + (a (ix2 r q) + dot h w r q) := by
  pointwise [k0_pay4, k0_pay1]
  rfl

/-- and that over its root mean square, times the gain. -/
theorem pay_norm (h : FVec Ideal S512x2048 .bf16) (w : FVec Ideal S2048x2048 .bf16) (a x : FVec Ideal S512x2048 .f32)
    (g : FVec Ideal S1x2048 .f32) (r : Fin 512) (q : Fin 2048) :
    k0_pay5 (F := Ideal) h w a x g (ix2 r q)
      = k0_pay4 (F := Ideal) h w a x (ix2 r q) * Rows.inv (fun q => k0_pay4 (F := Ideal) h w a x (ix2 r q)) * g (ix2 0 q) := by
  pointwise [k0_pay5]
  rfl

/-- The part of the product that a point adds. -/
def part (c : Dev nD) (p : Fin 8) (s : Fin 4) (r : Fin 512) (q : Fin 2048) : EReal :=
  dot (iblk m c 0 (pt p s)) (iblk m c 1 (pt p s)) r q

/-- What the scratch holds after the first point of a run, -/
theorem carry_first (c : Dev nD) (p : Fin 8) (r : Fin 512) (q : Fin 2048) :
    (outsAt0 m c (pt p 0).val (pt p 0).isLt).2.2 (ix2 r q) = part m c p 0 r q := by
  have h : (pt p 0).val % 4 = 0 := by show (4 * p.val + 0) % 4 = 0; omega
  rw [outsAt0_A m c (pt p 0) h (by omega) (by omega)]
  frame_out
  exact pay_first _ _ r q

/-- and after the two in its middle. -/
theorem carry_next (c : Dev nD) (p : Fin 8) (s : Fin 4) (hs : 1 ≤ s.val ∧ s.val ≤ 2) (r : Fin 512) (q : Fin 2048) :
    (outsAt0 m c (pt p s).val (pt p s).isLt).2.2 (ix2 r q)
      = (outsAt0 m c ((pt p s).val - 1) (lt_of_le_of_lt (Nat.sub_le _ _) (pt p s).isLt)).2.2 (ix2 r q) + part m c p s r q := by
  have h : (pt p s).val % 4 = s.val := by show (4 * p.val + s.val) % 4 = s.val; omega
  rw [outsAt0_B m c (pt p s) (by omega) (by omega) (by omega)]
  frame_out
  rw [read_unread_whole]
  exact pay_next _ _ _ r q

/-- The sum of the four parts, as the last point of a run has it. -/
theorem total (c : Dev nD) (p : Fin 8) (r : Fin 512) (q : Fin 2048) :
    (outsAt0 m c ((pt p 3).val - 1) (lt_of_le_of_lt (Nat.sub_le _ _) (pt p 3).isLt)).2.2 (ix2 r q) + part m c p 3 r q
      = ∑ s : Fin 4, part m c p s r q := by
  rw [Fin.sum_univ_four, ← carry_first m c p r q]
  refine congrArg (· + part m c p 3 r q) ?_
  refine (carry_next m c p 2 (by decide) r q).trans (congrArg (· + part m c p 2 r q) ?_)
  exact carry_next m c p 1 (by decide) r q

/-- An entry of the sum of a residual row and the product of a row with the weight. -/
def sumRow (h : Fin 8192 → EReal) (w : Fin 8192 → Fin 2048 → EReal) (x : Fin 2048 → EReal) (q : Fin 2048) : EReal :=
  x q + ∑ l, h l * w l q

/-- The four parts are the row's product with the whole depth. -/
theorem parts (c : Dev nD) (p : Fin 8) (r : Fin 512) (q : Fin 2048) :
    ∑ s : Fin 4, part m c p s r q = ∑ l, M m c (ix3 (bat p) (pos p r) l) * W m c (ix2 l q) := by
  unfold part dot
  refine Fin.sum_mul_add_congr fun s k hl => ?_
  exact congrArg₂ (· * ·) (blk_m m c p s r k) (blk_w m c p s k q)

/-- The row that the last point of a run stores. -/
theorem stored (c : Dev nD) (p : Fin 8) (r : Fin 512) (q : Fin 2048) (a : FVec Ideal S512x2048 .f32)
    (ha : a = (outsAt0 m c ((pt p 3).val - 1) (lt_of_le_of_lt (Nat.sub_le _ _) (pt p 3).isLt)).2.2) :
    k0_pay4 (F := Ideal) (iblk m c 0 (pt p 3)) (iblk m c 1 (pt p 3)) a (iblk m c 2 (pt p 3)) (ix2 r q)
      = sumRow (fun l => M m c (ix3 (bat p) (pos p r) l)) (fun l q => W m c (ix2 l q))
          (fun k => X m c (ix3 (bat p) (pos p r) k)) q := by
  rw [pay_sum, ha]
  exact congrArg₂ (· + ·) (blk_x m c p 3 r q) ((total m c p r q).trans (parts m c p r q))

/-- The reference's sum, row by row, -/
theorem ref_sum (h : FVec Ideal S2x2048x8192 .f32) (w : FVec Ideal S8192x2048 .f32) (x : FVec Ideal S2x2048x2048 .f32)
    (a : Fin 2) (b q : Fin 2048) :
    val_main_v1 (F := Ideal) h w x (ix3 a b q)
      = sumRow (fun l => h (ix3 a b l)) (fun l q => w (ix2 l q)) (fun k => x (ix3 a b k)) q := by
  pointwise [val_main_v1, val_main_v0]
  rfl

/-- as rows of tokens, -/
theorem ref_tok (h : FVec Ideal S2x2048x8192 .f32) (w : FVec Ideal S8192x2048 .f32) (x : FVec Ideal S2x2048x2048 .f32)
    (i : S4096x2048.Idx) (a : Fin 2) (b : Fin 2048) (hi : (i 0).val = a.val * 2048 + b.val) (q : Fin 2048) (hq : i 1 = q) :
    val_main_v2 (F := Ideal) h w x i
      = sumRow (fun l => h (ix3 a b l)) (fun l q => w (ix2 l q)) (fun k => x (ix3 a b k)) q := by
  rw [← ref_sum, ← hq]
  exact Rows.tok_apply _ _ i a b hi

/-- and the sum over its root mean square, times the gain. -/
theorem ref_norm (h : FVec Ideal S2x2048x8192 .f32) (w : FVec Ideal S8192x2048 .f32) (x : FVec Ideal S2x2048x2048 .f32)
    (g : FVec Ideal S1x2048 .f32)
    (i : S4096x2048.Idx) (a : Fin 2) (b : Fin 2048) (hi : (i 0).val = a.val * 2048 + b.val) (q : Fin 2048) (hq : i 1 = q) :
    val_main_v18 (F := Ideal) h w x g i
      = sumRow (fun l => h (ix3 a b l)) (fun l q => w (ix2 l q)) (fun k => x (ix3 a b k)) q
        * Rows.inv (sumRow (fun l => h (ix3 a b l)) (fun l q => w (ix2 l q)) (fun k => x (ix3 a b k))) * g (ix2 0 q) := by
  have e : sumRow (fun l => h (ix3 a b l)) (fun l q => w (ix2 l q)) (fun k => x (ix3 a b k))
      = fun q => val_main_v1 (F := Ideal) h w x (ix3 a b q) := funext fun q => (ref_sum h w x a b q).symm
  have ea : (⟨(i 0).val / 2048, Rows.batch_lt (i 0)⟩ : Fin 2) = a := Fin.ext (Rows.batch_eq hi b.isLt)
  have eb : (⟨(i 0).val % 2048, Nat.mod_lt _ (by decide)⟩ : Fin 2048) = b := Fin.ext (Rows.pos_eq hi b.isLt)
  rw [e]
  subst hq
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  simp only [ea, eb]
  rfl

/-- A point that writes back is the last of its run. -/
theorem last_of (t : Fin cfg0.N) (h : t.val % 4 = 3) : ∃ p : Fin 8, t = pt p 3 := by
  have hN : cfg0.N = 32 := N_0
  have ht := t.isLt
  exact ⟨⟨t.val / 4, by omega⟩, Fin.ext (by show t.val = 4 * (t.val / 4) + 3; omega)⟩

/-- The result array after the run is the reference's array. -/
theorem final4 (c : Dev nD) : (dats m 0 c).arrAt 4 (cfgs 0).N = val_main_v2 (F := Ideal) (M m c) (W m c) (X m c) := by
  refine (dats m 0 c).arrAt_eq_of_covers 4 _ (by decide +kernel) fun t hf y => ?_
  have h3 := (flush0_4 t).mp hf
  obtain ⟨p, rfl⟩ := last_of t h3
  obtain ⟨r, q, rfl⟩ : ∃ r q, y = ix2 r q := ⟨y 0, y 1, by idx_vars y⟩
  have e0 : ((((cfg0.win 4).blk (pt p 3)).view.emb (ix2 r q)) 0).val = (bat p).val * 2048 + (pos p r).val := by
    blk_simp [idx p 3]
    exact row_at p r
  have e1 : (((cfg0.win 4).blk (pt p 3)).view.emb (ix2 r q)) 1 = q := by
    apply Fin.ext
    blk_simp [idx p 3]
  blk_simp
  rw [after0_4, outsAt0_C m c (pt p 3) (by omega) (by omega) h3]
  frame_out
  rw [read_unread_whole]
  rw [ref_tok _ _ _ _ (bat p) (pos p r) e0 q e1]
  exact stored m c p r q _ rfl

/-- The result array after the run is the reference's array. -/
theorem final5 (c : Dev nD) : (dats m 0 c).arrAt 5 (cfgs 0).N = val_main_v18 (F := Ideal) (M m c) (W m c) (X m c) (G m c) := by
  refine (dats m 0 c).arrAt_eq_of_covers 5 _ (by decide +kernel) fun t hf y => ?_
  have h3 := (flush0_5 t).mp hf
  obtain ⟨p, rfl⟩ := last_of t h3
  obtain ⟨r, q, rfl⟩ : ∃ r q, y = ix2 r q := ⟨y 0, y 1, by idx_vars y⟩
  have e0 : ((((cfg0.win 5).blk (pt p 3)).view.emb (ix2 r q)) 0).val = (bat p).val * 2048 + (pos p r).val := by
    blk_simp [idx p 3]
    exact row_at p r
  have e1 : (((cfg0.win 5).blk (pt p 3)).view.emb (ix2 r q)) 1 = q := by
    apply Fin.ext
    blk_simp [idx p 3]
  blk_simp
  rw [after0_5, outsAt0_C m c (pt p 3) (by omega) (by omega) h3]
  frame_out
  rw [read_unread_whole]
  rw [ref_norm _ _ _ _ _ (bat p) (pos p r) e0 q e1, pay_norm]
  simp only [stored m c p r _ _ rfl, blk_g]

end Cert.MlpDownIdeal.RefValue

end
-- ==== Proof.MlpDownClaim.lean ====
/- The claims about the product of the squared rectifier with the residual and the norm of the sum: the reference runs and leaves its arguments as
   they are, and the kernel's results are the reference's. -/
module

public import proofs.«01_k».proof.Proof.MlpDownValue

@[expose] public section

set_option maxRecDepth 16384

noncomputable section

open Idealize.ShloMosaic Idealize.ShloMosaic.TcCoe Idealize.SL.Sem

namespace Cert.MlpDownIdeal.RefValue

open Cert.MlpDownRefIdeal.Read

instance factsK : Cert.MlpDownIdeal.Facts := Cert.MlpDownIdeal.Gen.facts
instance factsR : Cert.MlpDownRefIdeal.Facts := Cert.MlpDownRefIdeal.Gen.facts

/-- The reference runs, leaves its arguments as they are and declares no semaphore. -/
theorem frame_ref : Cert.quiescent_MlpDownRefIdeal := fun m g _ =>
  (θ_run _ _ _).mono (fun r h => ⟨fun c => (h c).2.2, sem_eq_zero_of_no_sems rfl _⟩)
    (Cert.MlpDownRefIdeal.Value.run m g)

set_option maxHeartbeats 1000000 in
/-- The kernel's results are the reference's. -/
theorem algebraic : Cert.algebraic_MlpDownIdeal_MlpDownRefIdeal := by
  pair_intro
  · run_from Cert.MlpDownIdeal.Gen.run_main m g
  refine (θ_run _ _ _).mono (fun r h c => ?_) (Cert.MlpDownRefIdeal.Value.run m' g')
  obtain ⟨a0, a1, a2, a3⟩ := hagree c
  refine ⟨((h c).1.trans (val_main_v2_eq _ _ _)).trans ?_,
    ((h c).2.1.trans (val_main_v18_eq _ _ _ _)).trans ?_, (h c).2.2⟩
  · simp only [a0, a1, a2, a3]
    exact (final4 m c).symm
  · simp only [a0, a1, a2, a3]
    exact (final5 m c).symm

end Cert.MlpDownIdeal.RefValue

end
-- ==== Proof.GateValue.lean ====
/- The product for the gate and the gated residual fused into it: the kernel's two result arrays after the run are
   the reference's. -/
module

public import proofs.«01_k».proof.Defs
public import proofs.«01_k».proof.Proof.Gen.GateIdeal.Value
public import proofs.«01_k».proof.Proof.Gen.GateRefIdeal.Run
public import proofs.«01_k».proof.Proof.Gen.GateRefIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateIdeal.RefValue

open Cert Cert.GateIdeal Cert.GateIdeal.Gen Cert.GateRefIdeal.Read

variable (m : (ℓ : Loc nD τ sig) → Buf (Elt Ideal) ℓ)

/-- The arguments: the normed rows, the weight, the residual and what the gate lets through. -/
abbrev H (c : Dev nD) : FVec Ideal S2x2048x2048 .f32 := m ((c : Thread nD τ).loc main_arg0)
@[inherit_doc H] abbrev W (c : Dev nD) : FVec Ideal S2048x2048 .f32 := m ((c : Thread nD τ).loc main_arg1)
@[inherit_doc H] abbrev X (c : Dev nD) : FVec Ideal S2x2048x2048 .f32 := m ((c : Thread nD τ).loc main_arg2)
@[inherit_doc H] abbrev Q (c : Dev nD) : FVec Ideal S2x2048x2048 .f32 := m ((c : Thread nD τ).loc main_arg3)

/-- The windows' block indices at every grid point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2]
    ∧ win0_4.index t = ![t.val / 2, t.val % 2] ∧ win0_5.index t = ![t.val / 2, t.val % 2] ∧ t.val < 16 :=
  (by decide +kernel : ∀ t : Fin grid0.N, _)

/-- The normed rows of tokens that the call reads, -/
theorem V_h (c : Dev nD) (i : S4096x2048.Idx) (a : Fin 2) (b : Fin 2048) (h : (i 0).val = a.val * 2048 + b.val) :
    V m c main_v1 i = H m c (ix3 a b (i 1)) := by
  have e : V m c main_v1 = shapeCast S4096x2048 (H m c) shapeCasts_S2x2048x2048_S4096x2048 := by
    entry_read
    rfl
  rw [e]
  exact Rows.tok_apply _ _ i a b h

/-- the residual, -/
theorem V_x (c : Dev nD) (i : S4096x2048.Idx) (a : Fin 2) (b : Fin 2048) (h : (i 0).val = a.val * 2048 + b.val) :
    V m c main_v3 i = X m c (ix3 a b (i 1)) := by
  have e : V m c main_v3 = shapeCast S4096x2048 (X m c) shapeCasts_S2x2048x2048_S4096x2048 := by
    entry_read
    rfl
  rw [e]
  exact Rows.tok_apply _ _ i a b h

/-- what the gate lets through, -/
theorem V_q (c : Dev nD) (i : S4096x2048.Idx) (a : Fin 2) (b : Fin 2048) (h : (i 0).val = a.val * 2048 + b.val) :
    V m c main_v4 i = Q m c (ix3 a b (i 1)) := by
  have e : V m c main_v4 = shapeCast S4096x2048 (Q m c) shapeCasts_S2x2048x2048_S4096x2048 := by
    entry_read
    rfl
  rw [e]
  exact Rows.tok_apply _ _ i a b h

/-- and the weight. -/
theorem V_w (c : Dev nD) : V m c main_v2 = W m c := by
  entry_read
  rfl

/-- The block of rows that a point reads, at its rows' batch and position; -/
theorem blk_h (c : Dev nD) (t : Fin cfg0.N) (r : Fin 512) (k : Fin 2048) (ha : t.val / 2 / 4 < 2)
    (hb : t.val / 2 % 4 * 512 + r.val < 2048) :
    iblk m c 0 t (ix2 r k) = H m c (ix3 ⟨t.val / 2 / 4, ha⟩ ⟨t.val / 2 % 4 * 512 + r.val, hb⟩ k) := by
  blk_simp [iblk, idx t]
  rw [V_h m c _ ⟨t.val / 2 / 4, ha⟩ ⟨t.val / 2 % 4 * 512 + r.val, hb⟩
    (by blk_simp [idx t]; show _ = t.val / 2 / 4 * 2048 + (t.val / 2 % 4 * 512 + r.val); omega)]
  blk_ext [idx t]

/-- a block of rows and columns, likewise; -/
theorem blk_x (c : Dev nD) (t : Fin cfg0.N) (r : Fin 512) (q : Fin 1024) (ha : t.val / 2 / 4 < 2)
    (hb : t.val / 2 % 4 * 512 + r.val < 2048) (hq : t.val % 2 * 1024 + q.val < 2048) :
    iblk m c 2 t (ix2 r q)
      = X m c (ix3 ⟨t.val / 2 / 4, ha⟩ ⟨t.val / 2 % 4 * 512 + r.val, hb⟩ ⟨t.val % 2 * 1024 + q.val, hq⟩) := by
  blk_simp [iblk, idx t]
  rw [V_x m c _ ⟨t.val / 2 / 4, ha⟩ ⟨t.val / 2 % 4 * 512 + r.val, hb⟩
    (by blk_simp [idx t]; show _ = t.val / 2 / 4 * 2048 + (t.val / 2 % 4 * 512 + r.val); omega)]
  blk_ext [idx t]

/-- a block of rows and columns, likewise; -/
theorem blk_q (c : Dev nD) (t : Fin cfg0.N) (r : Fin 512) (q : Fin 1024) (ha : t.val / 2 / 4 < 2)
    (hb : t.val / 2 % 4 * 512 + r.val < 2048) (hq : t.val % 2 * 1024 + q.val < 2048) :
    iblk m c 3 t (ix2 r q)
      = Q m c (ix3 ⟨t.val / 2 / 4, ha⟩ ⟨t.val / 2 % 4 * 512 + r.val, hb⟩ ⟨t.val % 2 * 1024 + q.val, hq⟩) := by
  blk_simp [iblk, idx t]
  rw [V_q m c _ ⟨t.val / 2 / 4, ha⟩ ⟨t.val / 2 % 4 * 512 + r.val, hb⟩
    (by blk_simp [idx t]; show _ = t.val / 2 / 4 * 2048 + (t.val / 2 % 4 * 512 + r.val); omega)]
  blk_ext [idx t]

/-- and the weight's block of columns. -/
theorem blk_w (c : Dev nD) (t : Fin cfg0.N) (k : Fin 2048) (q : Fin 1024) (hq : t.val % 2 * 1024 + q.val < 2048) :
    iblk m c 1 t (ix2 k q) = W m c (ix2 k ⟨t.val % 2 * 1024 + q.val, hq⟩) := by
  blk_simp [iblk, idx t]
  rw [V_w]
  blk_ext [idx t]

/-- An entry of the product of a row with a column of the weight, -/
def dot (h w : Fin 2048 → EReal) : EReal := ∑ k, h k * w k

/-- and of the gated residual. -/
def gated (p x q : EReal) : EReal := x + Ideal.logistic p * q

/-- What a point stores, entry by entry: the product, -/
theorem pay_dot (h : FVec Ideal S512x2048 .bf16) (w : FVec Ideal S2048x1024 .bf16) (r : Fin 512) (q : Fin 1024) :
    k0_pay1 (F := Ideal) h w (ix2 r q) = dot (fun k => h (ix2 r k)) (fun k => w (ix2 k q)) := by
  pointwise [k0_pay1]
  rfl

/-- and the gated residual. -/
theorem pay_gated (h : FVec Ideal S512x2048 .bf16) (w : FVec Ideal S2048x1024 .bf16) (x p : FVec Ideal S512x1024 .f32)
    (r : Fin 512) (q : Fin 1024) :
    k0_pay2 (F := Ideal) h w x p (ix2 r q)
      = gated (dot (fun k => h (ix2 r k)) (fun k => w (ix2 k q))) (x (ix2 r q)) (p (ix2 r q)) := by
  rw [← pay_dot]
  pointwise [k0_pay2]
  rfl

/-- The reference's product, entry by entry, -/
theorem ref_dot (h : FVec Ideal S2x2048x2048 .f32) (w : FVec Ideal S2048x2048 .f32) (a : Fin 2) (b q : Fin 2048) :
    val_main_v0 (F := Ideal) h w (ix3 a b q) = dot (fun k => h (ix3 a b k)) (fun k => w (ix2 k q)) := by
  pointwise [val_main_v0]
  rfl

/-- as rows of tokens, -/
theorem ref_tok (h : FVec Ideal S2x2048x2048 .f32) (w : FVec Ideal S2048x2048 .f32)
    (i : S4096x2048.Idx) (a : Fin 2) (b : Fin 2048) (hi : (i 0).val = a.val * 2048 + b.val) (q : Fin 2048) (hq : i 1 = q) :
    val_main_v1 (F := Ideal) h w i = dot (fun k => h (ix3 a b k)) (fun k => w (ix2 k q)) := by
  rw [← ref_dot, ← hq]
  exact Rows.tok_apply _ _ i a b hi

/-- and the gated residual. -/
theorem ref_gated (h : FVec Ideal S2x2048x2048 .f32) (w : FVec Ideal S2048x2048 .f32) (x p : FVec Ideal S2x2048x2048 .f32)
    (i : S4096x2048.Idx) (a : Fin 2) (b : Fin 2048) (hi : (i 0).val = a.val * 2048 + b.val) (q : Fin 2048) (hq : i 1 = q) :
    val_main_v10 (F := Ideal) h w x p i
      = gated (dot (fun k => h (ix3 a b k)) (fun k => w (ix2 k q))) (x (ix3 a b q)) (p (ix3 a b q)) := by
  rw [← ref_dot, ← hq]
  refine (Rows.tok_apply _ _ i a b hi).trans ?_
  pointwise [val_main_v9, val_main_v8, val_main_v7, val_main_v6, val_main_v5, val_main_v4, val_main_v3, val_main_v2, val_main_cst, val_main_cst_0]
  rfl

/-- The result array after the run is the reference's array. -/
theorem final4 (c : Dev nD) : (dats m 0 c).arrAt 4 (cfgs 0).N = val_main_v1 (F := Ideal) (H m c) (W m c) := by
  refine (dats m 0 c).arrAt_eq_of_covers 4 _ (by decide +kernel) fun t _ y => ?_
  blk_simp
  rw [after0_4]
  frame_out
  obtain ⟨r, q, rfl⟩ : ∃ r q, y = ix2 r q := ⟨y 0, y 1, by idx_vars y⟩
  have hT := (idx t).2.2.2.2.2.2
  have ha : t.val / 2 / 4 < 2 := by omega
  have hb : t.val / 2 % 4 * 512 + r.val < 2048 := by have := r.isLt; omega
  have hq : t.val % 2 * 1024 + q.val < 2048 := by have := q.isLt; omega
  rw [pay_dot, ref_tok _ _ _ ⟨_, ha⟩ ⟨_, hb⟩
    (by blk_simp [idx t]; show _ = t.val / 2 / 4 * 2048 + (t.val / 2 % 4 * 512 + r.val); omega) ⟨_, hq⟩ (by apply Fin.ext; blk_simp [idx t])]
  simp only [blk_h m c t _ _ ha hb, blk_w m c t _ _ hq]

/-- The result array after the run is the reference's array. -/
theorem final5 (c : Dev nD) : (dats m 0 c).arrAt 5 (cfgs 0).N = val_main_v10 (F := Ideal) (H m c) (W m c) (X m c) (Q m c) := by
  refine (dats m 0 c).arrAt_eq_of_covers 5 _ (by decide +kernel) fun t _ y => ?_
  blk_simp
  rw [after0_5]
  frame_out
  obtain ⟨r, q, rfl⟩ : ∃ r q, y = ix2 r q := ⟨y 0, y 1, by idx_vars y⟩
  have hT := (idx t).2.2.2.2.2.2
  have ha : t.val / 2 / 4 < 2 := by omega
  have hb : t.val / 2 % 4 * 512 + r.val < 2048 := by have := r.isLt; omega
  have hq : t.val % 2 * 1024 + q.val < 2048 := by have := q.isLt; omega
  rw [pay_gated, ref_gated _ _ _ _ _ ⟨_, ha⟩ ⟨_, hb⟩
    (by blk_simp [idx t]; show _ = t.val / 2 / 4 * 2048 + (t.val / 2 % 4 * 512 + r.val); omega) ⟨_, hq⟩ (by apply Fin.ext; blk_simp [idx t])]
  simp only [blk_h m c t _ _ ha hb, blk_w m c t _ _ hq, blk_x m c t _ _ ha hb hq, blk_q m c t _ _ ha hb hq]

end Cert.GateIdeal.RefValue

end
-- ==== Proof.GateClaim.lean ====
/- The claims about the product with the gated residual and the norm of the sum: the reference runs and leaves its arguments as
   they are, and the kernel's results are the reference's. -/
module

public import proofs.«01_k».proof.Proof.GateValue

@[expose] public section

set_option maxRecDepth 16384

noncomputable section

open Idealize.ShloMosaic Idealize.ShloMosaic.TcCoe Idealize.SL.Sem

namespace Cert.GateIdeal.RefValue

open Cert.GateRefIdeal.Read

instance factsK : Cert.GateIdeal.Facts := Cert.GateIdeal.Gen.facts
instance factsR : Cert.GateRefIdeal.Facts := Cert.GateRefIdeal.Gen.facts

/-- The reference runs, leaves its arguments as they are and declares no semaphore. -/
theorem frame_ref : Cert.quiescent_GateRefIdeal := fun m g _ =>
  (θ_run _ _ _).mono (fun r h => ⟨fun c => (h c).2.2, sem_eq_zero_of_no_sems rfl _⟩)
    (Cert.GateRefIdeal.Value.run m g)

set_option maxHeartbeats 1000000 in
/-- The kernel's results are the reference's. -/
theorem algebraic : Cert.algebraic_GateIdeal_GateRefIdeal := by
  pair_intro
  · run_from Cert.GateIdeal.Gen.run_main m g
  refine (θ_run _ _ _).mono (fun r h c => ?_) (Cert.GateRefIdeal.Value.run m' g')
  obtain ⟨a0, a1, a2, a3⟩ := hagree c
  refine ⟨((h c).1.trans (val_main_v1_eq _ _)).trans ?_,
    ((h c).2.1.trans (val_main_v10_eq _ _ _ _)).trans ?_, (h c).2.2⟩
  · simp only [a0, a1, a2, a3]
    exact (final4 m c).symm
  · simp only [a0, a1, a2, a3]
    exact (final5 m c).symm

end Cert.GateIdeal.RefValue

end
-- ==== Proof.ProjInValue.lean ====
/- The input projection: the kernel's result array after the run is the reference's. -/
module

public import proofs.«01_k».proof.Defs
public import proofs.«01_k».proof.Proof.Gen.ProjInIdeal.Value
public import proofs.«01_k».proof.Proof.Gen.ProjInRefIdeal.Run
public import proofs.«01_k».proof.Proof.Gen.ProjInRefIdeal.Read
public import proofs.«01_k».proof.Proof.Rows
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjInIdeal.RefValue

open Cert Cert.ProjInIdeal Cert.ProjInIdeal.Gen Cert.ProjInRefIdeal.Read

variable (m : (ℓ : Loc nD τ sig) → Buf (Elt Ideal) ℓ)

/-- The arguments: the rows of tokens and the weight. -/
abbrev H (c : Dev nD) : FVec Ideal S2x2048x2048 .f32 := m ((c : Thread nD τ).loc main_arg0)
@[inherit_doc H] abbrev W (c : Dev nD) : FVec Ideal S2048x18480 .f32 := m ((c : Thread nD τ).loc main_arg1)

/-- The windows' block indices at every grid point. -/
theorem idx : ∀ t : Fin cfg0.N, win0_0.index t = ![t.val / 18, 0] ∧ win0_1.index t = ![t.val % 18, 0]
    ∧ win0_2.index t = ![t.val / 18, t.val % 18] ∧ t.val / 18 < 4 :=
  (by decide +kernel : ∀ t : Fin grid0.N, _)

/-- The column of the whole projection that a wide column is. -/
def Wide (n : Nat) (q : Fin 18480) : Prop :=
  (n < 6144 ∧ q.val = n) ∨ (6144 ≤ n ∧ n < 14336 ∧ q.val = n + 16) ∨ (14336 ≤ n ∧ q.val = n + 48)

/-- Every wide column is one. -/
theorem wide (n : Nat) (h : n < 18432) : ∃ q, Wide n q := by
  by_cases h0 : n < 6144
  · exact ⟨⟨n, by omega⟩, Or.inl ⟨h0, rfl⟩⟩
  by_cases h1 : n < 14336
  · exact ⟨⟨n + 16, by omega⟩, Or.inr (Or.inl ⟨by omega, h1, rfl⟩)⟩
  · exact ⟨⟨n + 48, by omega⟩, Or.inr (Or.inr ⟨by omega, rfl⟩)⟩

/-- The rows of tokens that the call reads. -/
theorem V_h (c : Dev nD) (i : S4096x2048.Idx) (a : Fin 2) (b : Fin 2048) (h : (i 0).val = a.val * 2048 + b.val) :
    V m c main_v12 i = H m c (ix3 a b (i 1)) := by
  have e : V m c main_v12 = shapeCast S4096x2048 (H m c) shapeCasts_S2x2048x2048_S4096x2048 := by
    entry_read
    rfl
  rw [e]
  exact Rows.tok_apply _ _ i a b h

/-- The rows of a matrix as the call reads them: four runs of rows, one below the other. -/
theorem rows_apply {α : Type} (y : S18480x2048.Idx → α)
    (h0 : S18480x2048.Slices ![0, 0] S6144x2048) (h1 : S18480x2048.Slices ![6160, 0] S6144x2048)
    (h2 : S18480x2048.Slices ![12304, 0] S2048x2048) (h3 : S18480x2048.Slices ![14384, 0] S4096x2048)
    (hc : Shape.Concatenates [S6144x2048, S6144x2048, S2048x2048, S4096x2048] S18432x2048 0)
    (n : Fin 18432) (k : Fin 2048) (q : Fin 18480) (hq : Wide n.val q) :
    concatenate S18432x2048 0
      [⟨S6144x2048, extractStridedSlice S6144x2048 ![0, 0] y h0⟩, ⟨S6144x2048, extractStridedSlice S6144x2048 ![6160, 0] y h1⟩,
       ⟨S2048x2048, extractStridedSlice S2048x2048 ![12304, 0] y h2⟩, ⟨S4096x2048, extractStridedSlice S4096x2048 ![14384, 0] y h3⟩]
      hc (ix2 n k) = y (ix2 q k) := by
  have e : ∀ j : S18480x2048.Idx, (j 0).val = q.val → (j 1).val = k.val → y j = y (ix2 q k) := fun j e0 e1 => by
    obtain ⟨r, w, rfl⟩ : ∃ r w, j = ix2 r w := ⟨j 0, j 1, by idx_vars j⟩
    obtain rfl : r = q := Fin.ext e0
    obtain rfl : w = k := Fin.ext e1
    rfl
  unfold Wide at hq
  pointwise
  by_cases c0 : n.val < 6144
  · rw [dif_pos c0]
    exact e _ (by show n.val = q.val; omega) rfl
  rw [dif_neg c0]
  by_cases c1 : n.val - 6144 < 6144
  · rw [dif_pos c1]
    exact e _ (by show 6160 + (n.val - 6144) = q.val; omega) rfl
  rw [dif_neg c1]
  by_cases c2 : n.val - 6144 - 6144 < 2048
  · rw [dif_pos c2]
    exact e _ (by show 12304 + (n.val - 6144 - 6144) = q.val; omega) rfl
  rw [dif_neg c2]
  exact e _ (by show 14384 + (n.val - 6144 - 6144 - 2048) = q.val; omega) rfl

/-- The weight's wide columns, one below the other. -/
theorem V_w (c : Dev nD) (n : Fin 18432) (k : Fin 2048) (q : Fin 18480) (hq : Wide n.val q) :
    V m c main_v7 (ix2 n k) = W m c (ix2 k q) := by
  have e : V m c main_v7 = concatenate S18432x2048 0
      [⟨S6144x2048, extractStridedSlice S6144x2048 ![0, 0] (transpose S18480x2048 [1, 0] (W m c) transposes_S2048x18480_S18480x2048_1_0) slices_S18480x2048_S6144x2048_0_0⟩,
       ⟨S6144x2048, extractStridedSlice S6144x2048 ![6160, 0] (transpose S18480x2048 [1, 0] (W m c) transposes_S2048x18480_S18480x2048_1_0) slices_S18480x2048_S6144x2048_6160_0⟩,
       ⟨S2048x2048, extractStridedSlice S2048x2048 ![12304, 0] (transpose S18480x2048 [1, 0] (W m c) transposes_S2048x18480_S18480x2048_1_0) slices_S18480x2048_S2048x2048_12304_0⟩,
       ⟨S4096x2048, extractStridedSlice S4096x2048 ![14384, 0] (transpose S18480x2048 [1, 0] (W m c) transposes_S2048x18480_S18480x2048_1_0) slices_S18480x2048_S4096x2048_14384_0⟩]
      concatenates_S6144x2048_S6144x2048_S2048x2048_S4096x2048_S18432x2048_d0 := by
    unfold V
    after_results
    try rfl
  rw [e, rows_apply _ _ _ _ _ _ n k q hq]
  pointwise

/-- An entry of the product of a row with a column of the weight. -/
def dot (h w : Fin 2048 → EReal) : EReal := ∑ k, h k * w k

/-- The block of rows that a point reads, -/
theorem blk_h (c : Dev nD) (t : Fin cfg0.N) (r : Fin 1024) (k : Fin 2048) (ha : t.val / 18 / 2 < 2)
    (hb : t.val / 18 % 2 * 1024 + r.val < 2048) :
    iblk m c 0 t (ix2 r k) = H m c (ix3 ⟨t.val / 18 / 2, ha⟩ ⟨t.val / 18 % 2 * 1024 + r.val, hb⟩ k) := by
  blk_simp [iblk, idx t]
  rw [V_h m c _ ⟨t.val / 18 / 2, ha⟩ ⟨t.val / 18 % 2 * 1024 + r.val, hb⟩
    (by blk_simp [idx t]; show _ = t.val / 18 / 2 * 2048 + (t.val / 18 % 2 * 1024 + r.val); omega)]
  blk_ext [idx t]

/-- and the block of columns. -/
theorem blk_w (c : Dev nD) (t : Fin cfg0.N) (s : Fin 1024) (k : Fin 2048) (q : Fin 18480) (hq : Wide (t.val % 18 * 1024 + s.val) q) :
    iblk m c 1 t (ix2 s k) = W m c (ix2 k q) := by
  have hs := s.isLt
  have e : ((cfg0.win 1).blk t).view.emb (ix2 s k)
      = ix2 (⟨t.val % 18 * 1024 + s.val, by omega⟩ : Fin 18432) k := by
    blk_ext [idx t]
  show V m c main_v7 (((cfg0.win 1).blk t).view.emb (ix2 s k)) = _
  rw [e]
  exact V_w m c _ _ _ hq

/-- What a point stores, entry by entry. -/
theorem pay_z (h w : FVec Ideal S1024x2048 .bf16) (r s : Fin 1024) :
    k0_pay1 (F := Ideal) h w (ix2 r s) = dot (fun k => h (ix2 r k)) (fun k => w (ix2 s k)) := by
  pointwise [k0_pay1]
  rfl

/-- The reference's whole projection, entry by entry, -/
theorem ref_all (h : FVec Ideal S2x2048x2048 .f32) (w : FVec Ideal S2048x18480 .f32) (a : Fin 2) (b : Fin 2048) (q : Fin 18480) :
    val_main_v0 (F := Ideal) h w (ix3 a b q) = dot (fun k => h (ix3 a b k)) (fun k => w (ix2 k q)) := by
  pointwise [val_main_v0]
  rfl

/-- its wide columns, -/
theorem ref_wide (h : FVec Ideal S2x2048x2048 .f32) (w : FVec Ideal S2048x18480 .f32) (a : Fin 2) (b : Fin 2048) (n : Fin 18432)
    (q : Fin 18480) (hq : Wide n.val q) :
    val_main_v4 (F := Ideal) h w (ix3 a b n) = val_main_v0 (F := Ideal) h w (ix3 a b q) := by
  unfold val_main_v4 val_main_v1 val_main_v2 val_main_v3
  generalize val_main_v0 (F := Ideal) h w = y
  have e : ∀ j : Cert.ProjInRefIdeal.S2x2048x18480.Idx, (j 0).val = a.val → (j 1).val = b.val → (j 2).val = q.val → y j = y (ix3 a b q) :=
    fun j e0 e1 e2 => by
      obtain ⟨r, s, u, rfl⟩ : ∃ r s u, j = ix3 r s u := ⟨j 0, j 1, j 2, by idx_vars j⟩
      obtain rfl : r = a := Fin.ext e0
      obtain rfl : s = b := Fin.ext e1
      obtain rfl : u = q := Fin.ext e2
      rfl
  unfold Wide at hq
  pointwise
  by_cases c0 : n.val < 6144
  · rw [dif_pos c0]
    exact e _ rfl rfl (by show n.val = q.val; omega)
  rw [dif_neg c0]
  by_cases c1 : n.val - 6144 < 8192
  · rw [dif_pos c1]
    exact e _ rfl rfl (by show 6160 + (n.val - 6144) = q.val; omega)
  rw [dif_neg c1]
  exact e _ rfl rfl (by show 14384 + (n.val - 6144 - 8192) = q.val; omega)

/-- and those as rows of tokens. -/
theorem ref_z (h : FVec Ideal S2x2048x2048 .f32) (w : FVec Ideal S2048x18480 .f32)
    (i : S4096x18432.Idx) (a : Fin 2) (b : Fin 2048) (hi : (i 0).val = a.val * 2048 + b.val) (q : Fin 18480) (hq : Wide (i 1).val q) :
    val_main_v5 (F := Ideal) h w i = dot (fun k => h (ix3 a b k)) (fun k => w (ix2 k q)) := by
  rw [← ref_all, ← ref_wide h w a b (i 1) q hq, val_main_v5_apply]
  congr 1
  have h1 : (i 1).val < 18432 := (i 1).isLt
  have hb := b.isLt
  funext x
  apply Fin.ext
  match x with
  | ⟨0, _⟩ => show ((i 0).val * 18432 + (i 1).val) / 37748736 = a.val; omega
  | ⟨1, _⟩ => show ((i 0).val * 18432 + (i 1).val) / 18432 % 2048 = b.val; omega
  | ⟨2, _⟩ => show ((i 0).val * 18432 + (i 1).val) % 18432 = (i 1).val; omega

/-- Where a result block's entry stands. -/
theorem emb (t : Fin cfg0.N) (r s : Fin 1024) (a : Fin 2) (b : Fin 2048) (hab : t.val / 18 * 1024 + r.val = a.val * 2048 + b.val) :
    ((((cfg0.win 2).blk t).view.emb (ix2 r s)) 0).val = a.val * 2048 + b.val
      ∧ ((((cfg0.win 2).blk t).view.emb (ix2 r s)) 1).val = t.val % 18 * 1024 + s.val := by
  refine ⟨?_, ?_⟩ <;> blk_simp [idx t] <;> first | exact hab | rfl

/-- The result array after the run is the reference's array. -/
theorem final2 (c : Dev nD) : (dats m 0 c).arrAt 2 (cfgs 0).N = val_main_v5 (F := Ideal) (H m c) (W m c) := by
  refine (dats m 0 c).arrAt_eq_of_covers 2 _ (by decide +kernel) fun t _ y => ?_
  blk_simp
  rw [after0_2]
  frame_out
  obtain ⟨r, s, rfl⟩ : ∃ r s, y = ix2 r s := ⟨y 0, y 1, by idx_vars y⟩
  have hT := (idx t).2.2.2
  have hr := r.isLt
  have hs := s.isLt
  have ha : t.val / 18 / 2 < 2 := by omega
  have hb : t.val / 18 % 2 * 1024 + r.val < 2048 := by omega
  obtain ⟨q, hq⟩ := wide (t.val % 18 * 1024 + s.val) (by omega)
  have he := emb t r s ⟨_, ha⟩ ⟨_, hb⟩ (by show _ = t.val / 18 / 2 * 2048 + (t.val / 18 % 2 * 1024 + r.val); omega)
  rw [pay_z, ref_z _ _ _ _ _ he.1 q (by rw [he.2]; exact hq)]
  simp only [blk_h m c t _ _ ha hb, blk_w m c t _ _ q hq]

end Cert.ProjInIdeal.RefValue

end
-- ==== Proof.ProjInClaim.lean ====
/- The claims about the input projection: the reference runs and leaves its arguments as
   they are, and the kernel's results are the reference's. -/
module

public import proofs.«01_k».proof.Proof.ProjInValue

@[expose] public section

set_option maxRecDepth 16384

noncomputable section

open Idealize.ShloMosaic Idealize.ShloMosaic.TcCoe Idealize.SL.Sem

namespace Cert.ProjInIdeal.RefValue

open Cert.ProjInRefIdeal.Read

instance factsK : Cert.ProjInIdeal.Facts := Cert.ProjInIdeal.Gen.facts
instance factsR : Cert.ProjInRefIdeal.Facts := Cert.ProjInRefIdeal.Gen.facts

/-- The reference runs, leaves its arguments as they are and declares no semaphore. -/
theorem frame_ref : Cert.quiescent_ProjInRefIdeal := fun m g _ =>
  (θ_run _ _ _).mono (fun r h => ⟨fun c => (h c).2, sem_eq_zero_of_no_sems rfl _⟩)
    (Cert.ProjInRefIdeal.Value.run m g)

set_option maxHeartbeats 1000000 in
/-- The kernel's results are the reference's. -/
theorem algebraic : Cert.algebraic_ProjInIdeal_ProjInRefIdeal := by
  pair_intro
  · run_from Cert.ProjInIdeal.Gen.run_main m g
  refine (θ_run _ _ _).mono (fun r h c => ?_) (Cert.ProjInRefIdeal.Value.run m' g')
  obtain ⟨a0, a1⟩ := hagree c
  refine ⟨((h c).1.trans (val_main_v5_eq _ _)).trans ?_, (h c).2⟩
  · simp only [a0, a1]
    exact (final2 m c).symm

end Cert.ProjInIdeal.RefValue

end
-- ==== Proof.AdamWValue.lean ====
/- The optimiser's step: the kernel's three result arrays after the run are the reference's. -/
module

public import proofs.«01_k».proof.Defs
public import proofs.«01_k».proof.Proof.Gen.AdamWIdeal.Value
public import proofs.«01_k».proof.Proof.Gen.AdamWRefIdeal.Run
public import proofs.«01_k».proof.Proof.Gen.AdamWRefIdeal.Read
public import Idealize.ShloMosaic.Lib.Pipeline.ValueKit

@[expose] public section

set_option maxRecDepth 16384

noncomputable section

open Idealize.ShloMosaic Idealize.ShloMosaic.TcCoe Idealize.SL.Sem

namespace Cert.AdamWIdeal.RefValue

open Cert Cert.AdamWIdeal Cert.AdamWIdeal.Gen Cert.AdamWRefIdeal.Read

variable (m : (ℓ : Loc nD τ sig) → Buf (Elt Ideal) ℓ)

/-- The arguments: the weight, its gradient and the two moments. -/
abbrev W (c : Dev nD) : FVec Ideal S2048x2048 .f32 := m ((c : Thread nD τ).loc main_arg0)
@[inherit_doc W] abbrev G (c : Dev nD) : FVec Ideal S2048x2048 .f32 := m ((c : Thread nD τ).loc main_arg1)
@[inherit_doc W] abbrev M (c : Dev nD) : FVec Ideal S2048x2048 .f32 := m ((c : Thread nD τ).loc main_arg2)
@[inherit_doc W] abbrev N (c : Dev nD) : FVec Ideal S2048x2048 .f32 := m ((c : Thread nD τ).loc main_arg3)

/-- The new first moment, entry by entry, -/
theorem ref_m (g m : FVec Ideal S2048x2048 .f32) (i : S2048x2048.Idx) :
    Value.G5 (F := Ideal) g m i = val_main_v4 (F := Ideal) g m i := by
  pointwise [val_main_v4, val_main_v3, val_main_v2, val_main_v1, val_main_v0, val_main_cst, val_main_cst_0, Value.G5]

/-- the new second moment, -/
theorem ref_n (g n : FVec Ideal S2048x2048 .f32) (i : S2048x2048.Idx) :
    Value.G6 (F := Ideal) g n i = val_main_v10 (F := Ideal) g n i := by
  pointwise [val_main_v10, val_main_v9, val_main_v8, val_main_v7, val_main_v6, val_main_v5, val_main_cst_1, val_main_cst_2, Value.G6]

/-- and the weight's step. -/
theorem ref_d (w g m n : FVec Ideal S2048x2048 .f32) (i : S2048x2048.Idx) :
    Value.G4 (F := Ideal) w g m n i = val_main_v23 (F := Ideal) w g m n i := by
  have hm := ref_m g m i
  have hn := ref_n g n i
  simp only [Value.G4, Value.G5, Value.G6] at hm hn ⊢
  rw [hm, hn]
  generalize hy : val_main_v4 (F := Ideal) g m = y
  generalize hz : val_main_v10 (F := Ideal) g n = z
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  rw [hy, hz]

/-- The result array after the run is the reference's array. -/
theorem final4 (c : Dev nD) : (dats m 0 c).arrAt 4 (cfgs 0).N = val_main_v23 (F := Ideal) (W m c) (G m c) (M m c) (N m c) :=
  (Value.final4 m c).trans (funext fun i => ref_d _ _ _ _ i)

/-- The result array after the run is the reference's array. -/
theorem final5 (c : Dev nD) : (dats m 0 c).arrAt 5 (cfgs 0).N = val_main_v4 (F := Ideal) (G m c) (M m c) :=
  (Value.final5 m c).trans (funext fun i => ref_m _ _ i)

/-- The result array after the run is the reference's array. -/
theorem final6 (c : Dev nD) : (dats m 0 c).arrAt 6 (cfgs 0).N = val_main_v10 (F := Ideal) (G m c) (N m c) :=
  (Value.final6 m c).trans (funext fun i => ref_n _ _ i)

end Cert.AdamWIdeal.RefValue

end
-- ==== Proof.AdamWClaim.lean ====
/- The claims about the optimiser's step: the reference runs and leaves its arguments as
   they are, and the kernel's results are the reference's. -/
module

public import proofs.«01_k».proof.Proof.AdamWValue

@[expose] public section

set_option maxRecDepth 16384

noncomputable section

open Idealize.ShloMosaic Idealize.ShloMosaic.TcCoe Idealize.SL.Sem

namespace Cert.AdamWIdeal.RefValue

open Cert.AdamWRefIdeal.Read

instance factsK : Cert.AdamWIdeal.Facts := Cert.AdamWIdeal.Gen.facts
instance factsR : Cert.AdamWRefIdeal.Facts := Cert.AdamWRefIdeal.Gen.facts

/-- The reference runs, leaves its arguments as they are and declares no semaphore. -/
theorem frame_ref : Cert.quiescent_AdamWRefIdeal := fun m g _ =>
  (θ_run _ _ _).mono (fun r h => ⟨fun c => (h c).2.2.2, sem_eq_zero_of_no_sems rfl _⟩)
    (Cert.AdamWRefIdeal.Value.run m g)

set_option maxHeartbeats 1000000 in
/-- The kernel's results are the reference's. -/
theorem algebraic : Cert.algebraic_AdamWIdeal_AdamWRefIdeal := by
  pair_intro
  · run_from Cert.AdamWIdeal.Gen.run_main m g
  refine (θ_run _ _ _).mono (fun r h c => ?_) (Cert.AdamWRefIdeal.Value.run m' g')
  obtain ⟨a0, a1, a2, a3⟩ := hagree c
  refine ⟨((h c).1.trans (val_main_v23_eq _ _ _ _)).trans ?_,
    ((h c).2.1.trans (val_main_v4_eq _ _)).trans ?_,
    ((h c).2.2.1.trans (val_main_v10_eq _ _)).trans ?_, (h c).2.2.2⟩
  · simp only [a0, a1, a2, a3]
    exact (final4 m c).symm
  · simp only [a0, a1, a2, a3]
    exact (final5 m c).symm
  · simp only [a0, a1, a2, a3]
    exact (final6 m c).symm

end Cert.AdamWIdeal.RefValue

end
-- ==== Proof.PairSumValue.lean ====
/- The sum over a pair of devices: the kernel's two result arrays after the run are the reference's. The word that the
   first window's index map reads is zero, so that its block lies inside the array and in its upper half. -/
module

public import proofs.«01_k».proof.Defs
public import proofs.«01_k».proof.Proof.Gen.PairSumIdeal.Frame
public import proofs.«01_k».proof.Proof.Gen.PairSumRefIdeal.Run
public import proofs.«01_k».proof.Proof.Gen.PairSumRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PairSumIdeal.RefValue

open Cert Cert.PairSumIdeal Cert.PairSumIdeal.Gen Cert.PairSumRefIdeal.Read

section Table

variable {F : FTy → Type} [FloatOps F] (m : (ℓ : Loc nD τ sig) → Buf (Elt F) ℓ)

/-- The word that the first window's index map reads is zero. -/
theorem table : tbl m 0 = fun _ => (0#32 : BitVec 32) := by
  show V m 0 main_v0 = _
  entry_read
  rfl

/-- The first window's block index, that word being zero. -/
def at0 (i : grid0.Coords) : Fin 3 → Nat := ![(i 0).val, (i 1).val, 0]

/-- The printed index map at the word. -/
theorem map0 : cc0_transform_0 inb_S1_S1_0 numel1_S1 (tbl m) = at0 := by
  have h : (tbl m).at 0 (Rect.unit (s := S1) ![0] S1.size inb_S1_S1_0) numel1_S1 = (0#32 : BitVec 32) := by
    show tbl m 0 _ = _
    rw [table]
  funext i
  unfold cc0_transform_0
  simp only [h]
  revert i
  decide +kernel

/-- The block is inside the array at every point. -/
theorem ok : Ok m := by
  unfold Ok ok0
  rw [map0]
  exact fun i => ⟨(by decide +kernel : ∀ (i : grid0.Coords) a, (at0 i a + 1) * S1x256x2048.size a ≤ S4x2048x2048.size a) i, .inl rfl⟩

end Table

variable (m : (ℓ : Loc nD τ sig) → Buf (Elt Ideal) ℓ)

/-- The arguments: this device's gradient and the half that the other sent. -/
abbrev P (c : Dev nD) : FVec Ideal S4x2048x2048 .f32 := m ((c : Thread nD τ).loc main_arg0)
@[inherit_doc P] abbrev Q (c : Dev nD) : FVec Ideal S4x1024x2048 .f32 := m ((c : Thread nD τ).loc main_arg1)

/-- The results' and the second argument's block index at every grid point. -/
theorem idx : ∀ t : Fin grid0.N, cc0_transform_1 (grid0.coords t) = at0 (grid0.coords t)
    ∧ cc0_transform_2 (grid0.coords t) = at0 (grid0.coords t) ∧ cc0_transform_3 (grid0.coords t) = at0 (grid0.coords t) := by
  decide +kernel

/-- Every block of the results is some point's. -/
theorem onto : ∀ (a b : Fin 4) (d : Fin 1), ∃ t : Fin grid0.N, at0 (grid0.coords t) = ![a.val, b.val, d.val] := by
  decide +kernel

theorem index0 (t : Fin (cfgM m (ok m)).N) : ((cfgM m (ok m)).win 0).index t = at0 (grid0.coords t) :=
  congrFun (map0 m) (grid0.coords t)
theorem index1 (t : Fin (cfgM m (ok m)).N) : ((cfgM m (ok m)).win 1).index t = at0 (grid0.coords t) := (idx t).1
theorem index2 (t : Fin (cfgM m (ok m)).N) : ((cfgM m (ok m)).win 2).index t = at0 (grid0.coords t) := (idx t).2.1
theorem index3 (t : Fin (cfgM m (ok m)).N) : ((cfgM m (ok m)).win 3).index t = at0 (grid0.coords t) := (idx t).2.2

/-- The results' blocks cover them. -/
theorem covers2 : ((cfgM m (ok m)).win 2).Covers :=
  ⟨(by decide : ∀ a, 0 < S1x256x2048.size a), fun β => by
    have h0 : (β (0 : Fin 3)).val < (4 + 1 - 1) / 1 := (β (0 : Fin 3)).isLt
    have h1 : (β (1 : Fin 3)).val < (1024 + 256 - 1) / 256 := (β (1 : Fin 3)).isLt
    have h2 : (β (2 : Fin 3)).val < (2048 + 2048 - 1) / 2048 := (β (2 : Fin 3)).isLt
    obtain ⟨t, ht⟩ := onto ⟨_, h0⟩ ⟨_, h1⟩ ⟨_, h2⟩
    refine ⟨t, flush0_2 _ t, fun a => ⟨?_, .inl rfl⟩⟩
    rw [index2, ht]
    fin_cases a <;> rfl⟩

@[inherit_doc covers2] theorem covers3 : ((cfgM m (ok m)).win 3).Covers :=
  ⟨(by decide : ∀ a, 0 < S1x256x2048.size a), fun β => by
    have h0 : (β (0 : Fin 3)).val < (4 + 1 - 1) / 1 := (β (0 : Fin 3)).isLt
    have h1 : (β (1 : Fin 3)).val < (1024 + 256 - 1) / 256 := (β (1 : Fin 3)).isLt
    have h2 : (β (2 : Fin 3)).val < (2048 + 2048 - 1) / 2048 := (β (2 : Fin 3)).isLt
    obtain ⟨t, ht⟩ := onto ⟨_, h0⟩ ⟨_, h1⟩ ⟨_, h2⟩
    refine ⟨t, flush0_3 _ t, fun a => ⟨?_, .inl rfl⟩⟩
    rw [index3, ht]
    fin_cases a <;> rfl⟩

/-- What a point stores, entry by entry, in f32 -/
theorem pay2 (x y : FVec Ideal S1x256x2048 .f32) (i) : k0_pay2 (F := Ideal) x y i = x i + y i := by
  pointwise [k0_pay2, k0_pay1]

/-- and in bf16. -/
theorem pay3 (x y : FVec Ideal S1x256x2048 .f32) (i) : k0_pay3 (F := Ideal) x y i = x i + y i := by
  pointwise [k0_pay3, k0_pay1]

/-- The reference's sum, entry by entry. -/
theorem ref1 (x : FVec Ideal S4x2048x2048 .f32) (y : FVec Ideal S4x1024x2048 .f32) (i) :
    val_main_v1 (F := Ideal) x y i = x (idx_main_v0 i) + y i := by
  pointwise [val_main_v1, val_main_v0]
  refine congrArg (x · + y i) (funext fun a => ?_)
  fin_cases a <;> rfl

/-- Where the windows' blocks lie. -/
theorem emb0 (t : Fin (cfgM m (ok m)).N) (y : S1x256x2048.Idx) (a : Fin 3) :
    ((((cfgM m (ok m)).win 0).rect t).emb y a : Nat) = at0 (grid0.coords t) a * S1x256x2048.size a + (y a).val :=
  (Pipeline.Window.rect_emb_val ((cfgM m (ok m)).win 0) t y a).trans
    (congrArg (fun f : Fin 3 → Nat => f a * S1x256x2048.size a + (y a).val) (index0 m t))
theorem emb1 (t : Fin (cfgM m (ok m)).N) (y : S1x256x2048.Idx) (a : Fin 3) :
    ((((cfgM m (ok m)).win 1).rect t).emb y a : Nat) = at0 (grid0.coords t) a * S1x256x2048.size a + (y a).val :=
  (Pipeline.Window.rect_emb_val ((cfgM m (ok m)).win 1) t y a).trans
    (congrArg (fun f : Fin 3 → Nat => f a * S1x256x2048.size a + (y a).val) (index1 m t))
theorem emb2 (t : Fin (cfgM m (ok m)).N) (y : S1x256x2048.Idx) (a : Fin 3) :
    ((((cfgM m (ok m)).win 2).rect t).emb y a : Nat) = at0 (grid0.coords t) a * S1x256x2048.size a + (y a).val :=
  (Pipeline.Window.rect_emb_val ((cfgM m (ok m)).win 2) t y a).trans
    (congrArg (fun f : Fin 3 → Nat => f a * S1x256x2048.size a + (y a).val) (index2 m t))
theorem emb3 (t : Fin (cfgM m (ok m)).N) (y : S1x256x2048.Idx) (a : Fin 3) :
    ((((cfgM m (ok m)).win 3).rect t).emb y a : Nat) = at0 (grid0.coords t) a * S1x256x2048.size a + (y a).val :=
  (Pipeline.Window.rect_emb_val ((cfgM m (ok m)).win 3) t y a).trans
    (congrArg (fun f : Fin 3 → Nat => f a * S1x256x2048.size a + (y a).val) (index3 m t))

/-- The blocks of the arguments that a point reads, -/
abbrev B0 (c : Dev nD) (t : Fin (cfgM m (ok m)).N) : FVec Ideal S1x256x2048 .f32 := iblk m (ok m) c 0 t
@[inherit_doc B0] abbrev B1 (c : Dev nD) (t : Fin (cfgM m (ok m)).N) : FVec Ideal S1x256x2048 .f32 := iblk m (ok m) c 1 t

/-- entry by entry. -/
theorem blk0 (c : Dev nD) (t : Fin (cfgM m (ok m)).N) (y : S1x256x2048.Idx) (i : S4x1024x2048.Idx)
    (hi : ∀ a : Fin 3, (i a).val = at0 (grid0.coords t) a * S1x256x2048.size a + (y a).val) :
    B0 m c t y = P m c (idx_main_v0 i) := by
  show V m c main_arg0 ((((cfgM m (ok m)).win 0).rect t).emb y) = _
  rw [V_main_arg0]
  refine congrArg (P m c) (funext fun a => Fin.ext ((emb0 m t y a).trans ?_))
  rw [← hi a]
  fin_cases a <;> rfl

@[inherit_doc blk0] theorem blk1 (c : Dev nD) (t : Fin (cfgM m (ok m)).N) (y : S1x256x2048.Idx) (i : S4x1024x2048.Idx)
    (hi : ∀ a : Fin 3, (i a).val = at0 (grid0.coords t) a * S1x256x2048.size a + (y a).val) :
    B1 m c t y = Q m c i := by
  show V m c main_arg1 ((((cfgM m (ok m)).win 1).rect t).emb y) = _
  rw [V_main_arg1]
  exact congrArg (Q m c) (funext fun a => Fin.ext ((emb1 m t y a).trans (hi a).symm))

/-- What a point stores in each result, -/
theorem out2 (c : Dev nD) (t : Fin (cfgM m (ok m)).N) (y : S1x256x2048.Idx) :
    (outsAt0 m (ok m) c t).1 y = B0 m c t y + B1 m c t y := by
  unfold outsAt0
  dsimp only
  frame_out
  refine (pay2 _ _ y).trans (congrArg₂ (· + ·) ?_ ?_)
  · exact congrFun ((hs0_0 m (ok m) t).read_unread _) y
  · exact congrFun ((hs0_1 m (ok m) t).read_unread _) y
@[inherit_doc out2] theorem out3 (c : Dev nD) (t : Fin (cfgM m (ok m)).N) (y : S1x256x2048.Idx) :
    (outsAt0 m (ok m) c t).2 y = B0 m c t y + B1 m c t y := by
  unfold outsAt0
  dsimp only
  frame_out
  refine (pay3 _ _ y).trans (congrArg₂ (· + ·) ?_ ?_)
  · exact congrFun ((hs0_0 m (ok m) t).read_unread _) y
  · exact congrFun ((hs0_1 m (ok m) t).read_unread _) y

/-- which is the reference's entry there. -/
theorem entry (c : Dev nD) (t : Fin (cfgM m (ok m)).N) (y : S1x256x2048.Idx) (i : S4x1024x2048.Idx)
    (hi : ∀ a : Fin 3, (i a).val = at0 (grid0.coords t) a * S1x256x2048.size a + (y a).val) :
    B0 m c t y + B1 m c t y = val_main_v1 (F := Ideal) (P m c) (Q m c) i := by
  rw [ref1, blk0 m c t y i hi, blk1 m c t y i hi]

/-- The result array after the run is the reference's array. -/
theorem final2 (c : Dev nD) : (dats m (ok m) 0 c).arrAt 2 (cfgM m (ok m)).N = val_main_v1 (F := Ideal) (P m c) (Q m c) := by
  refine (dats m (ok m) 0 c).arrAt_eq_of_covers 2 _ (covers2 m) fun t _ y => ?_
  blk_simp
  rw [after0_2]
  exact (out2 m c t y).trans (entry m c t y _ fun a => emb2 m t y a)

/-- The result array after the run is the reference's array. -/
theorem final3 (c : Dev nD) : (dats m (ok m) 0 c).arrAt 3 (cfgM m (ok m)).N = val_main_v2 (F := Ideal) (P m c) (Q m c) := by
  refine (dats m (ok m) 0 c).arrAt_eq_of_covers 3 _ (covers3 m) fun t _ y => ?_
  blk_simp
  rw [after0_3]
  exact (out3 m c t y).trans (entry m c t y _ fun a => emb3 m t y a)

end Cert.PairSumIdeal.RefValue

end
-- ==== Proof.PairSumClaim.lean ====
/- The claims about the sum over a pair of devices: both programs run under the word that is zero and leave their arguments as they are, and the
   kernel's results are the reference's. -/
module

public import proofs.«01_k».proof.Proof.Gen.PairSum.Frame
public import proofs.«01_k».proof.Proof.PairSumValue

@[expose] public section

set_option maxRecDepth 16384

noncomputable section

open Idealize.ShloMosaic Idealize.ShloMosaic.TcCoe Idealize.SL.Sem

namespace Cert.PairSum.Word

open Cert Cert.PairSum Cert.PairSum.Gen

variable {F : FTy → Type} [FloatOps F] (m : (ℓ : Loc nD τ sig) → Buf (Elt F) ℓ)

/-- The word that the first window's index map reads is zero. -/
theorem table : tbl m 0 = fun _ => (0#32 : BitVec 32) := by
  show V m 0 main_v0 = _
  entry_read
  rfl

/-- The first window's block index, that word being zero. -/
def at0 (i : grid0.Coords) : Fin 3 → Nat := ![(i 0).val, (i 1).val, 0]

/-- The printed index map at the word. -/
theorem map0 : cc0_transform_0 inb_S1_S1_0 numel1_S1 (tbl m) = at0 := by
  have h : (tbl m).at 0 (Rect.unit (s := S1) ![0] S1.size inb_S1_S1_0) numel1_S1 = (0#32 : BitVec 32) := by
    show tbl m 0 _ = _
    rw [table]
  funext i
  unfold cc0_transform_0
  simp only [h]
  revert i
  decide +kernel

/-- The block is inside the array at every point. -/
theorem ok : Ok m := by
  unfold Ok ok0
  rw [map0]
  exact fun i => ⟨(by decide +kernel : ∀ (i : grid0.Coords) a, (at0 i a + 1) * S1x256x2048.size a ≤ S4x2048x2048.size a) i, .inl rfl⟩

end Cert.PairSum.Word

namespace Cert.PairSumIdeal.RefValue

open Cert.PairSumRefIdeal.Read

instance factsP : Cert.PairSum.Facts := Cert.PairSum.Gen.facts
instance factsK : Cert.PairSumIdeal.Facts := Cert.PairSumIdeal.Gen.facts
instance factsR : Cert.PairSumRefIdeal.Facts := Cert.PairSumRefIdeal.Gen.facts

/-- The kernel runs and leaves its arguments as they are, -/
theorem frame_kernel : Cert.quiescent_PairSum := fun m g _ => Cert.PairSum.Gen.frame m g (Cert.PairSum.Word.ok m)

/-- and so does the ideal program. -/
theorem frame_ideal : Cert.quiescent_PairSumIdeal := fun m g _ => Cert.PairSumIdeal.Gen.frame m g (ok m)

/-- The reference runs, leaves its arguments as they are and declares no semaphore. -/
theorem frame_ref : Cert.quiescent_PairSumRefIdeal := fun m g _ =>
  (θ_run _ _ _).mono (fun r h => ⟨fun c => (h c).2.2, sem_eq_zero_of_no_sems rfl _⟩)
    (Cert.PairSumRefIdeal.Value.run m g)

set_option maxHeartbeats 1000000 in
/-- The kernel's results are the reference's. -/
theorem algebraic : Cert.algebraic_PairSumIdeal_PairSumRefIdeal := by
  intro m g m' g' _ hagree
  refine ⟨fun c => (Cert.PairSumIdeal.Gen.dats m (ok m) 0 c).arrAt 2 (Cert.PairSumIdeal.Gen.cfgM m (ok m)).N,
    fun c => (Cert.PairSumIdeal.Gen.dats m (ok m) 0 c).arrAt 3 (Cert.PairSumIdeal.Gen.cfgM m (ok m)).N, ?_, ?_⟩
  · refine θ_run_mono (θ_run_and (Cert.PairSumIdeal.Gen.run_main m g (ok m))
      (Cert.PairSumIdeal.Gen.unchanged m g (ok m))) ?_
    intro r hr c
    exact ⟨(hr.1 c).1 2, (hr.1 c).1 3, hr.2 c⟩
  refine (θ_run _ _ _).mono (fun r h c => ?_) (Cert.PairSumRefIdeal.Value.run m' g')
  obtain ⟨a0, a1⟩ := hagree c
  refine ⟨((h c).1.trans (val_main_v1_eq _ _)).trans ?_, ((h c).2.1.trans (val_main_v2_eq _ _)).trans ?_, (h c).2.2⟩
  · rw [a0, a1]
    exact (final2 m c).symm
  · rw [a0, a1]
    exact (final3 m c).symm

end Cert.PairSumIdeal.RefValue

end
-- ==== Proof.FinalSumValue.lean ====
/- The sum of a gradient's four parts: the kernel's result array after the run is the reference's. The word that the
   first window's index map reads is zero, so that its block lies inside the array and is the first part's. -/
module

public import proofs.«01_k».proof.Defs
public import proofs.«01_k».proof.Proof.Gen.FinalSumIdeal.Frame
public import proofs.«01_k».proof.Proof.Gen.FinalSumRefIdeal.Run
public import proofs.«01_k».proof.Proof.Gen.FinalSumRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FinalSumIdeal.RefValue

open Cert Cert.FinalSumIdeal Cert.FinalSumIdeal.Gen Cert.FinalSumRefIdeal.Read

section Table

variable {F : FTy → Type} [FloatOps F] (m : (ℓ : Loc nD τ sig) → Buf (Elt F) ℓ)

/-- The word that the first window's index map reads is zero. -/
theorem table : tbl m 0 = fun _ => (0#32 : BitVec 32) := by
  show V m 0 main_v0 = _
  entry_read
  rfl

/-- The first window's block index, that word being zero. -/
def at0 (i : grid0.Coords) : Fin 3 → Nat := ![0, (i 0).val, 0]

/-- The printed index map at the word. -/
theorem map0 : cc0_transform_0 inb_S1_S1_0 numel1_S1 (tbl m) = at0 := by
  have h : (tbl m).at 0 (Rect.unit (s := S1) ![0] S1.size inb_S1_S1_0) numel1_S1 = (0#32 : BitVec 32) := by
    show tbl m 0 _ = _
    rw [table]
  funext i
  unfold cc0_transform_0
  simp only [h]
  revert i
  decide +kernel

/-- The block is inside the array at every point. -/
theorem ok : Ok m := by
  unfold Ok ok0
  rw [map0]
  exact fun i => ⟨(by decide +kernel : ∀ (i : grid0.Coords) a, (at0 i a + 1) * S1x256x2048.size a ≤ S4x1024x2048.size a) i, .inl rfl⟩

end Table

variable (m : (ℓ : Loc nD τ sig) → Buf (Elt Ideal) ℓ)

/-- The arguments: this device's parts of the gradient and the three that it received. -/
abbrev P (c : Dev nD) : FVec Ideal S4x1024x2048 .f32 := m ((c : Thread nD τ).loc main_arg0)
@[inherit_doc P] abbrev Q (c : Dev nD) : FVec Ideal S3x1024x2048 .bf16 := m ((c : Thread nD τ).loc main_arg1)

/-- The result's block index. -/
def at2 (i : grid0.Coords) : Fin 2 → Nat := ![(i 0).val, 0]

/-- The result's and the second argument's block index at every grid point. -/
theorem idx : ∀ t : Fin grid0.N, cc0_transform_1 (grid0.coords t) = at0 (grid0.coords t)
    ∧ cc0_transform_2 (grid0.coords t) = at2 (grid0.coords t) := by
  decide +kernel

/-- Every block of the result is some point's. -/
theorem onto : ∀ (a : Fin 4) (d : Fin 1), ∃ t : Fin grid0.N, at2 (grid0.coords t) = ![a.val, d.val] := by
  decide +kernel

theorem index0 (t : Fin (cfgM m (ok m)).N) : ((cfgM m (ok m)).win 0).index t = at0 (grid0.coords t) :=
  congrFun (map0 m) (grid0.coords t)
theorem index1 (t : Fin (cfgM m (ok m)).N) : ((cfgM m (ok m)).win 1).index t = at0 (grid0.coords t) := (idx t).1
theorem index2 (t : Fin (cfgM m (ok m)).N) : ((cfgM m (ok m)).win 2).index t = at2 (grid0.coords t) := (idx t).2

/-- The result's blocks cover it. -/
theorem covers2 : ((cfgM m (ok m)).win 2).Covers :=
  ⟨(by decide : ∀ a, 0 < S256x2048.size a), fun β => by
    have h0 : (β (0 : Fin 2)).val < (1024 + 256 - 1) / 256 := (β (0 : Fin 2)).isLt
    have h1 : (β (1 : Fin 2)).val < (2048 + 2048 - 1) / 2048 := (β (1 : Fin 2)).isLt
    obtain ⟨t, ht⟩ := onto ⟨_, h0⟩ ⟨_, h1⟩
    refine ⟨t, flush0_2 _ t, fun a => ⟨?_, .inl rfl⟩⟩
    rw [index2, ht]
    fin_cases a <;> rfl⟩

/-- What a point stores, entry by entry. -/
theorem pay1 (x : FVec Ideal S1x256x2048 .f32) (y0 y1 y2 : FVec Ideal S1x256x2048 .bf16) (r : Fin 256) (q : Fin 2048) :
    k0_pay1 (F := Ideal) x y0 y1 y2 (ix2 r q) = x (ix3 0 r q) + y0 (ix3 0 r q) + y1 (ix3 0 r q) + y2 (ix3 0 r q) := by
  pointwise [k0_pay1]

/-- The reference's sum, entry by entry. -/
theorem ref4 (x : FVec Ideal S4x1024x2048 .f32) (y : FVec Ideal S3x1024x2048 .bf16) (r : Fin 1024) (q : Fin 2048) :
    val_main_v4 (F := Ideal) x y (ix2 r q) = x (ix3 0 r q) + y (ix3 0 r q) + y (ix3 1 r q) + y (ix3 2 r q) := by
  pointwise [val_main_v4, val_main_v3, val_main_v2, val_main_v1, val_main_v0, val_main_cst]
  rw [Fin.sum_univ_three, ← add_assoc, ← add_assoc]

/-- Where the windows' blocks lie. -/
theorem emb0 (t : Fin (cfgM m (ok m)).N) (y : S1x256x2048.Idx) (a : Fin 3) :
    ((((cfgM m (ok m)).win 0).rect t).emb y a : Nat) = at0 (grid0.coords t) a * S1x256x2048.size a + (y a).val :=
  (Pipeline.Window.rect_emb_val ((cfgM m (ok m)).win 0) t y a).trans
    (congrArg (fun f : Fin 3 → Nat => f a * S1x256x2048.size a + (y a).val) (index0 m t))
theorem emb1 (t : Fin (cfgM m (ok m)).N) (y : S3x256x2048.Idx) (a : Fin 3) :
    ((((cfgM m (ok m)).win 1).rect t).emb y a : Nat) = at0 (grid0.coords t) a * S3x256x2048.size a + (y a).val :=
  (Pipeline.Window.rect_emb_val ((cfgM m (ok m)).win 1) t y a).trans
    (congrArg (fun f : Fin 3 → Nat => f a * S3x256x2048.size a + (y a).val) (index1 m t))
theorem emb2 (t : Fin (cfgM m (ok m)).N) (y : S256x2048.Idx) (a : Fin 2) :
    ((((cfgM m (ok m)).win 2).rect t).emb y a : Nat) = at2 (grid0.coords t) a * S256x2048.size a + (y a).val :=
  (Pipeline.Window.rect_emb_val ((cfgM m (ok m)).win 2) t y a).trans
    (congrArg (fun f : Fin 2 → Nat => f a * S256x2048.size a + (y a).val) (index2 m t))

/-- The blocks of the arguments that a point reads, -/
abbrev B0 (c : Dev nD) (t : Fin (cfgM m (ok m)).N) : FVec Ideal S1x256x2048 .f32 := iblk m (ok m) c 0 t
@[inherit_doc B0] abbrev B1 (c : Dev nD) (t : Fin (cfgM m (ok m)).N) : FVec Ideal S3x256x2048 .bf16 := iblk m (ok m) c 1 t

/-- entry by entry. -/
theorem blk0 (c : Dev nD) (t : Fin (cfgM m (ok m)).N) (r : Fin 256) (q : Fin 2048) (k : Fin 1024)
    (hk : k.val = (grid0.coords t 0).val * 256 + r.val) : B0 m c t (ix3 0 r q) = P m c (ix3 0 k q) := by
  show V m c main_arg0 ((((cfgM m (ok m)).win 0).rect t).emb (ix3 0 r q)) = _
  rw [V_main_arg0]
  refine congrArg (P m c) (funext fun a => Fin.ext ((emb0 m t _ a).trans ?_))
  fin_cases a
  · rfl
  · exact hk.symm
  · exact Nat.zero_add _

@[inherit_doc blk0] theorem blk1 (c : Dev nD) (t : Fin (cfgM m (ok m)).N) (s : Fin 3) (r : Fin 256) (q : Fin 2048)
    (k : Fin 1024) (hk : k.val = (grid0.coords t 0).val * 256 + r.val) : B1 m c t (ix3 s r q) = Q m c (ix3 s k q) := by
  show V m c main_arg1 ((((cfgM m (ok m)).win 1).rect t).emb (ix3 s r q)) = _
  rw [V_main_arg1]
  refine congrArg (Q m c) (funext fun a => Fin.ext ((emb1 m t _ a).trans ?_))
  fin_cases a
  · exact Nat.zero_add _
  · exact hk.symm
  · exact Nat.zero_add _

/-- What a point stores in the result, -/
theorem out2 (c : Dev nD) (t : Fin (cfgM m (ok m)).N) (r : Fin 256) (q : Fin 2048) :
    outsAt0 m (ok m) c t (ix2 r q)
      = B0 m c t (ix3 0 r q) + B1 m c t (ix3 0 r q) + B1 m c t (ix3 1 r q) + B1 m c t (ix3 2 r q) := by
  unfold outsAt0
  frame_out
  refine (pay1 _ _ _ _ r q).trans (congrArg₂ (· + ·) (congrArg₂ (· + ·) (congrArg₂ (· + ·) ?_ ?_) ?_) ?_)
  · exact congrFun ((hs0_0 m (ok m) t).read_unread _) _
  all_goals
    refine (congrFun ((hs0_1 m (ok m) t).read_unread _) _).trans (congrArg (B1 m c t) (funext fun a => Fin.ext ?_))
    fin_cases a <;> simp

/-- which is the reference's entry there. -/
theorem entry (c : Dev nD) (t : Fin (cfgM m (ok m)).N) (y : S256x2048.Idx) (i : S1024x2048.Idx)
    (hi : ∀ a : Fin 2, (i a).val = at2 (grid0.coords t) a * S256x2048.size a + (y a).val) :
    outsAt0 m (ok m) c t y = val_main_v4 (F := Ideal) (P m c) (Q m c) i := by
  obtain ⟨r, q, rfl⟩ : ∃ r q, y = ix2 r q := ⟨y 0, y 1, by idx_vars y⟩
  obtain ⟨k, l, rfl⟩ : ∃ k l, i = ix2 k l := ⟨i 0, i 1, by idx_vars i⟩
  have hk : k.val = (grid0.coords t 0).val * 256 + r.val := hi 0
  have hl : l = q := Fin.ext ((hi 1).trans (Nat.zero_add _))
  rw [out2, ref4, hl, blk0 m c t r q k hk, blk1 m c t 0 r q k hk, blk1 m c t 1 r q k hk, blk1 m c t 2 r q k hk]

/-- The result array after the run is the reference's array. -/
theorem final2 (c : Dev nD) : (dats m (ok m) 0 c).arrAt 2 (cfgM m (ok m)).N = val_main_v4 (F := Ideal) (P m c) (Q m c) := by
  refine (dats m (ok m) 0 c).arrAt_eq_of_covers 2 _ (covers2 m) fun t _ y => ?_
  blk_simp
  rw [after0_2]
  exact entry m c t y _ fun a => emb2 m t y a

end Cert.FinalSumIdeal.RefValue

end
-- ==== Proof.FinalSumClaim.lean ====
/- The claims about the sum of a gradient's four parts: both programs run under the word that is zero and leave their arguments as they are, and the
   kernel's results are the reference's. -/
module

public import proofs.«01_k».proof.Proof.Gen.FinalSum.Frame
public import proofs.«01_k».proof.Proof.FinalSumValue

@[expose] public section

set_option maxRecDepth 16384

noncomputable section

open Idealize.ShloMosaic Idealize.ShloMosaic.TcCoe Idealize.SL.Sem

namespace Cert.FinalSum.Word

open Cert Cert.FinalSum Cert.FinalSum.Gen

variable {F : FTy → Type} [FloatOps F] (m : (ℓ : Loc nD τ sig) → Buf (Elt F) ℓ)

/-- The word that the first window's index map reads is zero. -/
theorem table : tbl m 0 = fun _ => (0#32 : BitVec 32) := by
  show V m 0 main_v0 = _
  entry_read
  rfl

/-- The first window's block index, that word being zero. -/
def at0 (i : grid0.Coords) : Fin 3 → Nat := ![0, (i 0).val, 0]

/-- The printed index map at the word. -/
theorem map0 : cc0_transform_0 inb_S1_S1_0 numel1_S1 (tbl m) = at0 := by
  have h : (tbl m).at 0 (Rect.unit (s := S1) ![0] S1.size inb_S1_S1_0) numel1_S1 = (0#32 : BitVec 32) := by
    show tbl m 0 _ = _
    rw [table]
  funext i
  unfold cc0_transform_0
  simp only [h]
  revert i
  decide +kernel

/-- The block is inside the array at every point. -/
theorem ok : Ok m := by
  unfold Ok ok0
  rw [map0]
  exact fun i => ⟨(by decide +kernel : ∀ (i : grid0.Coords) a, (at0 i a + 1) * S1x256x2048.size a ≤ S4x1024x2048.size a) i, .inl rfl⟩

end Cert.FinalSum.Word

namespace Cert.FinalSumIdeal.RefValue

open Cert.FinalSumRefIdeal.Read

instance factsP : Cert.FinalSum.Facts := Cert.FinalSum.Gen.facts
instance factsK : Cert.FinalSumIdeal.Facts := Cert.FinalSumIdeal.Gen.facts
instance factsR : Cert.FinalSumRefIdeal.Facts := Cert.FinalSumRefIdeal.Gen.facts

/-- The kernel runs and leaves its arguments as they are, -/
theorem frame_kernel : Cert.quiescent_FinalSum := fun m g _ => Cert.FinalSum.Gen.frame m g (Cert.FinalSum.Word.ok m)

/-- and so does the ideal program. -/
theorem frame_ideal : Cert.quiescent_FinalSumIdeal := fun m g _ => Cert.FinalSumIdeal.Gen.frame m g (ok m)

/-- The reference runs, leaves its arguments as they are and declares no semaphore. -/
theorem frame_ref : Cert.quiescent_FinalSumRefIdeal := fun m g _ =>
  (θ_run _ _ _).mono (fun r h => ⟨fun c => (h c).2, sem_eq_zero_of_no_sems rfl _⟩)
    (Cert.FinalSumRefIdeal.Value.run m g)

set_option maxHeartbeats 1000000 in
/-- The kernel's results are the reference's. -/
theorem algebraic : Cert.algebraic_FinalSumIdeal_FinalSumRefIdeal := by
  intro m g m' g' _ hagree
  refine ⟨fun c => (Cert.FinalSumIdeal.Gen.dats m (ok m) 0 c).arrAt 2 (Cert.FinalSumIdeal.Gen.cfgM m (ok m)).N, ?_, ?_⟩
  · refine θ_run_mono (θ_run_and (Cert.FinalSumIdeal.Gen.run_main m g (ok m))
      (Cert.FinalSumIdeal.Gen.unchanged m g (ok m))) ?_
    intro r hr c
    exact ⟨(hr.1 c).1 2, hr.2 c⟩
  refine (θ_run _ _ _).mono (fun r h c => ?_) (Cert.FinalSumRefIdeal.Value.run m' g')
  obtain ⟨a0, a1⟩ := hagree c
  refine ⟨((h c).1.trans (val_main_v4_eq _ _)).trans ?_, (h c).2⟩
  rw [a0, a1]
  exact (final2 m c).symm

end Cert.FinalSumIdeal.RefValue

end
-- ==== Proof.TokDot.lean ====
/- Products summed over tokens: a host product that contracts the two token axes of its operands, read at an entry, and
   rows of tokens of any width. -/
module

public import Idealize.ShloMosaic.Lib.Pipeline.ValueKit
public import Idealize.ShloMosaic.Lib.MatmulPlain

@[expose] public section

set_option maxRecDepth 16384

noncomputable section

open Idealize.ShloMosaic
open Idealize.ShloMosaic.ValueIdx (contrEquiv2 contrEquiv2_symm_val0 contrEquiv2_symm_val1)

namespace Cert.TokDot

/-- The sum over batch and position of the products of two columns. -/
def colDot (x y : Fin 2 → Fin 2048 → EReal) : EReal := ∑ a, ∑ b, x a b * y a b

/-- The dimensions of a product over the two leading axes. -/
def dims (a b m n : Nat) : DotDims ⟨3, ![a, b, m]⟩ ⟨3, ![a, b, n]⟩ ⟨2, ![m, n]⟩ where
  lhsContracting := [0, 1]
  rhsContracting := [0, 1]
  lhsNonContracting := [2]
  rhsNonContracting := [2]
  lhsBatch := []
  rhsBatch := []
  wf := ⟨rfl, by simp, rfl, by simp, by simp, by simp,
    (by decide : (([] ++ [2] ++ [0, 1] : List (Fin 3))).Perm (List.finRange 3)),
    (by decide : (([] ++ [2] ++ [0, 1] : List (Fin 3))).Perm (List.finRange 3)),
    rfl, by show 0 < 2; decide, fun a => by fin_cases a <;> rfl⟩

/-- It contracts two axes. -/
theorem dims_rank (a b m n : Nat) : (dims a b m n).contr.rank = 2 := rfl

/-- Such a product at an entry: the sum over the two leading axes of the products of the two columns. -/
theorem dot_apply {a b m n : Nat} {φ₁ φ₂ : FTy} (prec : Option ContractPrecision) (sched : HostSchedule)
    (L : FVec Ideal ⟨3, ![a, b, m]⟩ φ₁) (R : FVec Ideal ⟨3, ![a, b, n]⟩ φ₂) (r : Fin m) (q : Fin n) :
    FloatOps.dotGeneral (dims a b m n) prec sched L R (ix2 r q) = ∑ s : Fin a, ∑ k : Fin b, L (ix3 s k r) * R (ix3 s k q) := by
  let D := dims a b m n
  have hr := dims_rank a b m n
  have c0 : D.contr.size ⟨0, by rw [hr]; omega⟩ = a := rfl
  have c1 : D.contr.size ⟨1, by rw [hr]; omega⟩ = b := rfl
  rw [Ideal.dotGeneral_apply, ← Equiv.sum_comp (contrEquiv2 D a b hr c0 c1).symm, Fintype.sum_prod_type]
  refine Finset.sum_congr rfl fun s _ => Finset.sum_congr rfl fun k _ => ?_
  have h0 := contrEquiv2_symm_val0 D a b hr c0 c1 (s, k)
  have h1 := contrEquiv2_symm_val1 D a b hr c0 c1 (s, k)
  have el : D.lhsIdx (ix2 r q) ((contrEquiv2 D a b hr c0 c1).symm (s, k)) = ix3 s k r := by
    funext x; apply Fin.ext
    match x with
    | ⟨0, _⟩ => exact h0
    | ⟨1, _⟩ => exact h1
    | ⟨2, _⟩ => rfl
  have er : D.rhsIdx (ix2 r q) ((contrEquiv2 D a b hr c0 c1).symm (s, k)) = ix3 s k q := by
    funext x; apply Fin.ext
    match x with
    | ⟨0, _⟩ => exact h0
    | ⟨1, _⟩ => exact h1
    | ⟨2, _⟩ => rfl
  rw [el, er]

/-- Rows of tokens at an index: the batch and the position that the row stands for. -/
theorem tok_apply {α : Type} {n : Nat} (x : (⟨3, ![2, 2048, n]⟩ : Shape).Idx → α)
    (hs : (⟨3, ![2, 2048, n]⟩ : Shape).ShapeCasts ⟨2, ![4096, n]⟩)
    (i : (⟨2, ![4096, n]⟩ : Shape).Idx) (a : Fin 2) (b : Fin 2048) (h : (i 0).val = a.val * 2048 + b.val) :
    shapeCast (⟨2, ![4096, n]⟩ : Shape) x hs i = x (ix3 a b (i 1)) := by
  refine shapeCast_apply x hs i _ ?_
  rw [Shape.rowMajor_val_three, Shape.rowMajor_val_two]
  show (a.val * 2048 + b.val) * n + (i 1).val = (i 0).val * n + (i 1).val
  rw [h]

end Cert.TokDot

end
-- ==== Proof.MlpDownDwValue.lean ====
/- The gradient of the weight of the squared rectifier's product: the kernel's result array after the run is the reference's. -/
module

public import proofs.«01_k».proof.Defs
public import proofs.«01_k».proof.Proof.Gen.MlpDownDwIdeal.Value
public import proofs.«01_k».proof.Proof.Gen.MlpDownDwRefIdeal.Run
public import proofs.«01_k».proof.Proof.Gen.MlpDownDwRefIdeal.Read
public import proofs.«01_k».proof.Proof.TokDot
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpDownDwIdeal.RefValue

open Cert Cert.MlpDownDwIdeal Cert.MlpDownDwIdeal.Gen Cert.MlpDownDwRefIdeal.Read

variable (m : (ℓ : Loc nD τ sig) → Buf (Elt Ideal) ℓ)

/-- The arguments: the rows that the weight multiplies, and the gradient of the product. -/
abbrev A (c : Dev nD) : FVec Ideal S2x2048x8192 .f32 := m ((c : Thread nD τ).loc main_arg0)
@[inherit_doc A] abbrev Y (c : Dev nD) : FVec Ideal S2x2048x2048 .f32 := m ((c : Thread nD τ).loc main_arg1)

/-- The point of a block of the result and a sequence. -/
abbrev pt (p : Fin 16) (s : Fin 2) : Fin cfg0.N := ⟨2 * p.val + s.val, by have : cfg0.N = 32 := N_0; omega⟩

/-- The windows' block indices at every grid point. -/
theorem idx : ∀ (p : Fin 16) (s : Fin 2), win0_0.index (pt p s) = ![s.val, p.val / 2] ∧ win0_1.index (pt p s) = ![s.val, p.val % 2]
    ∧ win0_2.index (pt p s) = ![p.val / 2, p.val % 2] := by decide +kernel

/-- The row and the column of the result that an entry of a block is. -/
abbrev row (p : Fin 16) (r : Fin 1024) : Fin 8192 := ⟨p.val / 2 * 1024 + r.val, by omega⟩
@[inherit_doc row] abbrev col (p : Fin 16) (q : Fin 1024) : Fin 2048 := ⟨p.val % 2 * 1024 + q.val, by omega⟩

/-- The block of the first argument that a point reads, -/
theorem blk_a (c : Dev nD) (p : Fin 16) (s : Fin 2) (k : Fin 2048) (r : Fin 1024) :
    iblk m c 0 (pt p s) (ix2 k r) = A m c (ix3 s k (row p r)) := by
  have e : V m c main_v1 = shapeCast S4096x8192 (A m c) shapeCasts_S2x2048x8192_S4096x8192 := by
    entry_read
    rfl
  blk_simp [iblk, idx p s]
  rw [e, TokDot.tok_apply _ _ _ s k (by blk_simp [idx p s])]
  blk_ext [idx p s]

/-- and of the second. -/
theorem blk_y (c : Dev nD) (p : Fin 16) (s : Fin 2) (k : Fin 2048) (q : Fin 1024) :
    iblk m c 1 (pt p s) (ix2 k q) = Y m c (ix3 s k (col p q)) := by
  have e : V m c main_v3 = shapeCast S4096x2048 (Y m c) shapeCasts_S2x2048x2048_S4096x2048 := by
    entry_read
    rfl
  blk_simp [iblk, idx p s]
  rw [e, TokDot.tok_apply _ _ _ s k (by blk_simp [idx p s])]
  blk_ext [idx p s]

/-- A column of one block times a column of another. -/
def dot (a : FVec Ideal S2048x1024 .bf16) (y : FVec Ideal S2048x1024 .bf16) (r : Fin 1024) (q : Fin 1024) : EReal := ∑ k : Fin 2048, a (ix2 k r) * y (ix2 k q)

/-- What the points store, entry by entry: the first of a run its product, -/
theorem pay_first (a : FVec Ideal S2048x1024 .bf16) (y : FVec Ideal S2048x1024 .bf16) (r : Fin 1024) (q : Fin 1024) :
    k0_pay2 (F := Ideal) a y (ix2 r q) = dot a y r q := by
  pointwise [k0_pay2, k0_pay1]
  rfl

/-- the last the sum of the first's and its own. -/
theorem pay_last (a : FVec Ideal S2048x1024 .bf16) (y : FVec Ideal S2048x1024 .bf16) (x : FVec Ideal S1024x1024 .f32) (r : Fin 1024) (q : Fin 1024) :
    k0_pay4 (F := Ideal) a y x (ix2 r q) = x (ix2 r q) + dot a y r q := by
  pointwise [k0_pay4, k0_pay1]
  rfl

/-- The part of the product that a point adds. -/
def part (c : Dev nD) (p : Fin 16) (s : Fin 2) (r : Fin 1024) (q : Fin 1024) : EReal :=
  dot (iblk m c 0 (pt p s)) (iblk m c 1 (pt p s)) r q

/-- What the scratch holds after the first point of a run. -/
theorem carry_first (c : Dev nD) (p : Fin 16) (r : Fin 1024) (q : Fin 1024) :
    (outsAt0 m c (pt p 0).val (pt p 0).isLt).2 (ix2 r q) = part m c p 0 r q := by
  have h : (pt p 0).val % 2 = 0 := by show (2 * p.val + 0) % 2 = 0; omega
  rw [outsAt0_A m c (pt p 0) h (by omega)]
  frame_out
  exact pay_first _ _ r q

/-- The two parts are the sum over batch and position of the products of two columns. -/
theorem parts (c : Dev nD) (p : Fin 16) (r : Fin 1024) (q : Fin 1024) :
    part m c p 0 r q + part m c p 1 r q
      = ∑ s : Fin 2, ∑ k : Fin 2048, A m c (ix3 s k (row p r)) * Y m c (ix3 s k (col p q)) := by
  rw [← Fin.sum_univ_two (fun s => part m c p s r q)]
  unfold part dot
  refine Finset.sum_congr rfl fun s _ => Finset.sum_congr rfl fun k _ => ?_
  exact congrArg₂ (· * ·) (blk_a m c p s k r) (blk_y m c p s k q)

/-- The reference's product, entry by entry, -/
theorem ref_dot (a : FVec Ideal S2x2048x8192 .f32) (y : FVec Ideal S2x2048x2048 .f32) (r : Fin 8192) (q : Fin 2048) :
    val_main_v2 (F := Ideal) a y (ix2 q r) = ∑ s : Fin 2, ∑ k : Fin 2048, y (ix3 s k q) * a (ix3 s k r) := by
  unfold val_main_v2
  simp only [Host.dotGeneral]
  exact TokDot.dot_apply none _ y a q r

/-- and with its axes exchanged. -/
theorem ref_at (a : FVec Ideal S2x2048x8192 .f32) (y : FVec Ideal S2x2048x2048 .f32) (r : Fin 8192) (q : Fin 2048) :
    val_main_v3 (F := Ideal) a y (ix2 r q) = ∑ s : Fin 2, ∑ k : Fin 2048, a (ix3 s k r) * y (ix3 s k q) := by
  have e : val_main_v3 (F := Ideal) a y (ix2 r q) = val_main_v2 (F := Ideal) a y (ix2 q r) := by
    pointwise [val_main_v3]
  rw [e, ref_dot]
  exact Finset.sum_congr rfl fun s _ => Finset.sum_congr rfl fun k _ => mul_comm _ _

/-- A point that writes back is the last of its run. -/
theorem last_of (t : Fin cfg0.N) (h : t.val % 2 = 1) : ∃ p : Fin 16, t = pt p 1 := by
  have hN : cfg0.N = 32 := N_0
  have ht := t.isLt
  exact ⟨⟨t.val / 2, by omega⟩, Fin.ext (by show t.val = 2 * (t.val / 2) + 1; omega)⟩

/-- The result array after the run is the reference's array. -/
theorem final2 (c : Dev nD) : (dats m 0 c).arrAt 2 (cfgs 0).N = val_main_v3 (F := Ideal) (A m c) (Y m c) := by
  refine (dats m 0 c).arrAt_eq_of_covers 2 _ (by decide +kernel) fun t hf y => ?_
  have h1 := (flush0_2 t).mp hf
  obtain ⟨p, rfl⟩ := last_of t h1
  obtain ⟨r, q, rfl⟩ : ∃ r q, y = ix2 r q := ⟨y 0, y 1, by idx_vars y⟩
  have e : ((cfg0.win 2).blk (pt p 1)).view.emb (ix2 r q) = ix2 (row p r) (col p q) := by
    blk_ext [idx p 1]
  blk_simp
  rw [e, after0_2, outsAt0_B m c (pt p 1) (by omega) h1]
  frame_out
  rw [read_unread_whole, pay_last, ref_at, ← parts, ← carry_first m c p r q]
  rfl

end Cert.MlpDownDwIdeal.RefValue

end
-- ==== Proof.MlpDownDwClaim.lean ====
/- The claims about the gradient of the weight of the squared rectifier's product: the reference runs and leaves its arguments as
   they are, and the kernel's result is the reference's. -/
module

public import proofs.«01_k».proof.Proof.MlpDownDwValue

@[expose] public section

set_option maxRecDepth 16384

noncomputable section

open Idealize.ShloMosaic Idealize.ShloMosaic.TcCoe Idealize.SL.Sem

namespace Cert.MlpDownDwIdeal.RefValue

open Cert.MlpDownDwRefIdeal.Read

instance factsK : Cert.MlpDownDwIdeal.Facts := Cert.MlpDownDwIdeal.Gen.facts
instance factsR : Cert.MlpDownDwRefIdeal.Facts := Cert.MlpDownDwRefIdeal.Gen.facts

/-- The reference runs, leaves its arguments as they are and declares no semaphore. -/
theorem frame_ref : Cert.quiescent_MlpDownDwRefIdeal := fun m g _ =>
  (θ_run _ _ _).mono (fun r h => ⟨fun c => (h c).2, sem_eq_zero_of_no_sems rfl _⟩)
    (Cert.MlpDownDwRefIdeal.Value.run m g)

set_option maxHeartbeats 1000000 in
/-- The kernel's result is the reference's. -/
theorem algebraic : Cert.algebraic_MlpDownDwIdeal_MlpDownDwRefIdeal := by
  pair_intro
  · run_from Cert.MlpDownDwIdeal.Gen.run_main m g
  refine (θ_run _ _ _).mono (fun r h c => ?_) (Cert.MlpDownDwRefIdeal.Value.run m' g')
  obtain ⟨a0, a1⟩ := hagree c
  refine ⟨((h c).1.trans (val_main_v3_eq _ _)).trans ?_, (h c).2⟩
  · simp only [a0, a1]
    exact (final2 m c).symm

end Cert.MlpDownDwIdeal.RefValue

end
-- ==== Proof.ProjOutDwValue.lean ====
/- The gradient of the output projection's weight: the kernel's result array after the run is the reference's. -/
module

public import proofs.«01_k».proof.Defs
public import proofs.«01_k».proof.Proof.Gen.ProjOutDwIdeal.Value
public import proofs.«01_k».proof.Proof.Gen.ProjOutDwRefIdeal.Run
public import proofs.«01_k».proof.Proof.Gen.ProjOutDwRefIdeal.Read
public import proofs.«01_k».proof.Proof.TokDot
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjOutDwIdeal.RefValue

open Cert Cert.ProjOutDwIdeal Cert.ProjOutDwIdeal.Gen Cert.ProjOutDwRefIdeal.Read

variable (m : (ℓ : Loc nD τ sig) → Buf (Elt Ideal) ℓ)

/-- The arguments: the rows that the weight multiplies, and the gradient of the product. -/
abbrev A (c : Dev nD) : FVec Ideal S2x2048x2048 .f32 := m ((c : Thread nD τ).loc main_arg0)
@[inherit_doc A] abbrev Y (c : Dev nD) : FVec Ideal S2x2048x2048 .f32 := m ((c : Thread nD τ).loc main_arg1)

/-- The point of a block of the result and a sequence. -/
abbrev pt (p : Fin 4) (s : Fin 2) : Fin cfg0.N := ⟨2 * p.val + s.val, by have : cfg0.N = 8 := N_0; omega⟩

/-- The windows' block indices at every grid point. -/
theorem idx : ∀ (p : Fin 4) (s : Fin 2), win0_0.index (pt p s) = ![s.val, p.val / 2] ∧ win0_1.index (pt p s) = ![s.val, p.val % 2]
    ∧ win0_2.index (pt p s) = ![p.val / 2, p.val % 2] := by decide +kernel

/-- The row and the column of the result that an entry of a block is. -/
abbrev row (p : Fin 4) (r : Fin 1024) : Fin 2048 := ⟨p.val / 2 * 1024 + r.val, by omega⟩
@[inherit_doc row] abbrev col (p : Fin 4) (q : Fin 1024) : Fin 2048 := ⟨p.val % 2 * 1024 + q.val, by omega⟩

/-- The block of the first argument that a point reads, -/
theorem blk_a (c : Dev nD) (p : Fin 4) (s : Fin 2) (k : Fin 2048) (r : Fin 1024) :
    iblk m c 0 (pt p s) (ix2 k r) = A m c (ix3 s k (row p r)) := by
  have e : V m c main_v1 = shapeCast S4096x2048 (A m c) shapeCasts_S2x2048x2048_S4096x2048 := by
    entry_read
    rfl
  blk_simp [iblk, idx p s]
  rw [e, TokDot.tok_apply _ _ _ s k (by blk_simp [idx p s])]
  blk_ext [idx p s]

/-- and of the second. -/
theorem blk_y (c : Dev nD) (p : Fin 4) (s : Fin 2) (k : Fin 2048) (q : Fin 1024) :
    iblk m c 1 (pt p s) (ix2 k q) = Y m c (ix3 s k (col p q)) := by
  have e : V m c main_v3 = shapeCast S4096x2048 (Y m c) shapeCasts_S2x2048x2048_S4096x2048 := by
    entry_read
    rfl
  blk_simp [iblk, idx p s]
  rw [e, TokDot.tok_apply _ _ _ s k (by blk_simp [idx p s])]
  blk_ext [idx p s]

/-- A column of one block times a column of another. -/
def dot (a : FVec Ideal S2048x1024 .bf16) (y : FVec Ideal S2048x1024 .bf16) (r : Fin 1024) (q : Fin 1024) : EReal := ∑ k : Fin 2048, a (ix2 k r) * y (ix2 k q)

/-- What the points store, entry by entry: the first of a run its product, -/
theorem pay_first (a : FVec Ideal S2048x1024 .bf16) (y : FVec Ideal S2048x1024 .bf16) (r : Fin 1024) (q : Fin 1024) :
    k0_pay2 (F := Ideal) a y (ix2 r q) = dot a y r q := by
  pointwise [k0_pay2, k0_pay1]
  rfl

/-- the last the sum of the first's and its own. -/
theorem pay_last (a : FVec Ideal S2048x1024 .bf16) (y : FVec Ideal S2048x1024 .bf16) (x : FVec Ideal S1024x1024 .f32) (r : Fin 1024) (q : Fin 1024) :
    k0_pay4 (F := Ideal) a y x (ix2 r q) = x (ix2 r q) + dot a y r q := by
  pointwise [k0_pay4, k0_pay1]
  rfl

/-- The part of the product that a point adds. -/
def part (c : Dev nD) (p : Fin 4) (s : Fin 2) (r : Fin 1024) (q : Fin 1024) : EReal :=
  dot (iblk m c 0 (pt p s)) (iblk m c 1 (pt p s)) r q

/-- What the scratch holds after the first point of a run. -/
theorem carry_first (c : Dev nD) (p : Fin 4) (r : Fin 1024) (q : Fin 1024) :
    (outsAt0 m c (pt p 0).val (pt p 0).isLt).2 (ix2 r q) = part m c p 0 r q := by
  have h : (pt p 0).val % 2 = 0 := by show (2 * p.val + 0) % 2 = 0; omega
  rw [outsAt0_A m c (pt p 0) h (by omega)]
  frame_out
  exact pay_first _ _ r q

/-- The two parts are the sum over batch and position of the products of two columns. -/
theorem parts (c : Dev nD) (p : Fin 4) (r : Fin 1024) (q : Fin 1024) :
    part m c p 0 r q + part m c p 1 r q
      = ∑ s : Fin 2, ∑ k : Fin 2048, A m c (ix3 s k (row p r)) * Y m c (ix3 s k (col p q)) := by
  rw [← Fin.sum_univ_two (fun s => part m c p s r q)]
  unfold part dot
  refine Finset.sum_congr rfl fun s _ => Finset.sum_congr rfl fun k _ => ?_
  exact congrArg₂ (· * ·) (blk_a m c p s k r) (blk_y m c p s k q)

/-- The reference's product, entry by entry, -/
theorem ref_dot (a : FVec Ideal S2x2048x2048 .f32) (y : FVec Ideal S2x2048x2048 .f32) (r : Fin 2048) (q : Fin 2048) :
    val_main_v2 (F := Ideal) a y (ix2 q r) = ∑ s : Fin 2, ∑ k : Fin 2048, y (ix3 s k q) * a (ix3 s k r) := by
  unfold val_main_v2
  simp only [Host.dotGeneral]
  exact TokDot.dot_apply none _ y a q r

/-- and with its axes exchanged. -/
theorem ref_at (a : FVec Ideal S2x2048x2048 .f32) (y : FVec Ideal S2x2048x2048 .f32) (r : Fin 2048) (q : Fin 2048) :
    val_main_v3 (F := Ideal) a y (ix2 r q) = ∑ s : Fin 2, ∑ k : Fin 2048, a (ix3 s k r) * y (ix3 s k q) := by
  have e : val_main_v3 (F := Ideal) a y (ix2 r q) = val_main_v2 (F := Ideal) a y (ix2 q r) := by
    pointwise [val_main_v3]
  rw [e, ref_dot]
  exact Finset.sum_congr rfl fun s _ => Finset.sum_congr rfl fun k _ => mul_comm _ _

/-- A point that writes back is the last of its run. -/
theorem last_of (t : Fin cfg0.N) (h : t.val % 2 = 1) : ∃ p : Fin 4, t = pt p 1 := by
  have hN : cfg0.N = 8 := N_0
  have ht := t.isLt
  exact ⟨⟨t.val / 2, by omega⟩, Fin.ext (by show t.val = 2 * (t.val / 2) + 1; omega)⟩

/-- The result array after the run is the reference's array. -/
theorem final2 (c : Dev nD) : (dats m 0 c).arrAt 2 (cfgs 0).N = val_main_v3 (F := Ideal) (A m c) (Y m c) := by
  refine (dats m 0 c).arrAt_eq_of_covers 2 _ (by decide +kernel) fun t hf y => ?_
  have h1 := (flush0_2 t).mp hf
  obtain ⟨p, rfl⟩ := last_of t h1
  obtain ⟨r, q, rfl⟩ : ∃ r q, y = ix2 r q := ⟨y 0, y 1, by idx_vars y⟩
  have e : ((cfg0.win 2).blk (pt p 1)).view.emb (ix2 r q) = ix2 (row p r) (col p q) := by
    blk_ext [idx p 1]
  blk_simp
  rw [e, after0_2, outsAt0_B m c (pt p 1) (by omega) h1]
  frame_out
  rw [read_unread_whole, pay_last, ref_at, ← parts, ← carry_first m c p r q]
  rfl

end Cert.ProjOutDwIdeal.RefValue

end
-- ==== Proof.ProjOutDwClaim.lean ====
/- The claims about the gradient of the output projection's weight: the reference runs and leaves its arguments as
   they are, and the kernel's result is the reference's. -/
module

public import proofs.«01_k».proof.Proof.ProjOutDwValue

@[expose] public section

set_option maxRecDepth 16384

noncomputable section

open Idealize.ShloMosaic Idealize.ShloMosaic.TcCoe Idealize.SL.Sem

namespace Cert.ProjOutDwIdeal.RefValue

open Cert.ProjOutDwRefIdeal.Read

instance factsK : Cert.ProjOutDwIdeal.Facts := Cert.ProjOutDwIdeal.Gen.facts
instance factsR : Cert.ProjOutDwRefIdeal.Facts := Cert.ProjOutDwRefIdeal.Gen.facts

/-- The reference runs, leaves its arguments as they are and declares no semaphore. -/
theorem frame_ref : Cert.quiescent_ProjOutDwRefIdeal := fun m g _ =>
  (θ_run _ _ _).mono (fun r h => ⟨fun c => (h c).2, sem_eq_zero_of_no_sems rfl _⟩)
    (Cert.ProjOutDwRefIdeal.Value.run m g)

set_option maxHeartbeats 1000000 in
/-- The kernel's result is the reference's. -/
theorem algebraic : Cert.algebraic_ProjOutDwIdeal_ProjOutDwRefIdeal := by
  pair_intro
  · run_from Cert.ProjOutDwIdeal.Gen.run_main m g
  refine (θ_run _ _ _).mono (fun r h c => ?_) (Cert.ProjOutDwRefIdeal.Value.run m' g')
  obtain ⟨a0, a1⟩ := hagree c
  refine ⟨((h c).1.trans (val_main_v3_eq _ _)).trans ?_, (h c).2⟩
  · simp only [a0, a1]
    exact (final2 m c).symm

end Cert.ProjOutDwIdeal.RefValue

end
-- ==== Proof.MlpUpDwValue.lean ====
/- The gradient of the weight before the squared rectifier, in four slots of columns: the kernel's result array after the run is the reference's. -/
module

public import proofs.«01_k».proof.Defs
public import proofs.«01_k».proof.Proof.Gen.MlpUpDwIdeal.Value
public import proofs.«01_k».proof.Proof.Gen.MlpUpDwRefIdeal.Run
public import proofs.«01_k».proof.Proof.Gen.MlpUpDwRefIdeal.Read
public import proofs.«01_k».proof.Proof.TokDot
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MlpUpDwIdeal.RefValue

open Cert Cert.MlpUpDwIdeal Cert.MlpUpDwIdeal.Gen Cert.MlpUpDwRefIdeal.Read

variable (m : (ℓ : Loc nD τ sig) → Buf (Elt Ideal) ℓ)

/-- The arguments: the rows that the weight multiplies, and the gradient of the product. -/
abbrev A (c : Dev nD) : FVec Ideal S2x2048x2048 .f32 := m ((c : Thread nD τ).loc main_arg0)
@[inherit_doc A] abbrev Y (c : Dev nD) : FVec Ideal S2x2048x8192 .f32 := m ((c : Thread nD τ).loc main_arg1)

/-- The point of a block of the result and a sequence. -/
abbrev pt (p : Fin 16) (s : Fin 2) : Fin cfg0.N := ⟨2 * p.val + s.val, by have : cfg0.N = 32 := N_0; omega⟩

/-- The windows' block indices at every grid point. -/
theorem idx : ∀ (p : Fin 16) (s : Fin 2), win0_0.index (pt p s) = ![s.val, p.val / 8] ∧ win0_1.index (pt p s) = ![s.val, p.val % 8]
    ∧ win0_2.index (pt p s) = ![p.val % 8 / 2, p.val / 8, p.val % 8 % 2] := by decide +kernel

/-- The row and the column of the result that an entry of a block is. -/
abbrev row (p : Fin 16) (r : Fin 1024) : Fin 2048 := ⟨p.val / 8 * 1024 + r.val, by omega⟩
@[inherit_doc row] abbrev col (p : Fin 16) (q : Fin 1024) : Fin 8192 := ⟨p.val % 8 * 1024 + q.val, by omega⟩

/-- The block of the first argument that a point reads, -/
theorem blk_a (c : Dev nD) (p : Fin 16) (s : Fin 2) (k : Fin 2048) (r : Fin 1024) :
    iblk m c 0 (pt p s) (ix2 k r) = A m c (ix3 s k (row p r)) := by
  have e : V m c main_v1 = shapeCast S4096x2048 (A m c) shapeCasts_S2x2048x2048_S4096x2048 := by
    entry_read
    rfl
  blk_simp [iblk, idx p s]
  rw [e, TokDot.tok_apply _ _ _ s k (by blk_simp [idx p s])]
  blk_ext [idx p s]

/-- and of the second. -/
theorem blk_y (c : Dev nD) (p : Fin 16) (s : Fin 2) (k : Fin 2048) (q : Fin 1024) :
    iblk m c 1 (pt p s) (ix2 k q) = Y m c (ix3 s k (col p q)) := by
  have e : V m c main_v3 = shapeCast S4096x8192 (Y m c) shapeCasts_S2x2048x8192_S4096x8192 := by
    entry_read
    rfl
  blk_simp [iblk, idx p s]
  rw [e, TokDot.tok_apply _ _ _ s k (by blk_simp [idx p s])]
  blk_ext [idx p s]

/-- A column of one block times a column of another. -/
def dot (a : FVec Ideal S2048x1024 .bf16) (y : FVec Ideal S2048x1024 .bf16) (r : Fin 1024) (q : Fin 1024) : EReal := ∑ k : Fin 2048, a (ix2 k r) * y (ix2 k q)

/-- What the points store, entry by entry: the first of a run its product, -/
theorem pay_first (a : FVec Ideal S2048x1024 .bf16) (y : FVec Ideal S2048x1024 .bf16) (r : Fin 1024) (q : Fin 1024) :
    k0_pay2 (F := Ideal) a y (ix2 r q) = dot a y r q := by
  pointwise [k0_pay2, k0_pay1]
  rfl

/-- the last the sum of the first's and its own. -/
theorem pay_last (a : FVec Ideal S2048x1024 .bf16) (y : FVec Ideal S2048x1024 .bf16) (x : FVec Ideal S1024x1024 .f32) (r : Fin 1024) (q : Fin 1024) :
    k0_pay4 (F := Ideal) a y x (ix3 0 r q) = x (ix2 r q) + dot a y r q := by
  pointwise [k0_pay4, k0_pay1]
  rfl

/-- The part of the product that a point adds. -/
def part (c : Dev nD) (p : Fin 16) (s : Fin 2) (r : Fin 1024) (q : Fin 1024) : EReal :=
  dot (iblk m c 0 (pt p s)) (iblk m c 1 (pt p s)) r q

/-- What the scratch holds after the first point of a run. -/
theorem carry_first (c : Dev nD) (p : Fin 16) (r : Fin 1024) (q : Fin 1024) :
    (outsAt0 m c (pt p 0).val (pt p 0).isLt).2 (ix2 r q) = part m c p 0 r q := by
  have h : (pt p 0).val % 2 = 0 := by show (2 * p.val + 0) % 2 = 0; omega
  rw [outsAt0_A m c (pt p 0) h (by omega)]
  frame_out
  exact pay_first _ _ r q

/-- The two parts are the sum over batch and position of the products of two columns. -/
theorem parts (c : Dev nD) (p : Fin 16) (r : Fin 1024) (q : Fin 1024) :
    part m c p 0 r q + part m c p 1 r q
      = ∑ s : Fin 2, ∑ k : Fin 2048, A m c (ix3 s k (row p r)) * Y m c (ix3 s k (col p q)) := by
  rw [← Fin.sum_univ_two (fun s => part m c p s r q)]
  unfold part dot
  refine Finset.sum_congr rfl fun s _ => Finset.sum_congr rfl fun k _ => ?_
  exact congrArg₂ (· * ·) (blk_a m c p s k r) (blk_y m c p s k q)

/-- The reference's product, entry by entry, -/
theorem ref_dot (a : FVec Ideal S2x2048x2048 .f32) (y : FVec Ideal S2x2048x8192 .f32) (r : Fin 2048) (q : Fin 8192) :
    val_main_v2 (F := Ideal) a y (ix2 q r) = ∑ s : Fin 2, ∑ k : Fin 2048, y (ix3 s k q) * a (ix3 s k r) := by
  unfold val_main_v2
  simp only [Host.dotGeneral]
  exact TokDot.dot_apply none _ y a q r

/-- with its axes exchanged, -/
theorem ref_t (a : FVec Ideal S2x2048x2048 .f32) (y : FVec Ideal S2x2048x8192 .f32) (r : Fin 2048) (q : Fin 8192) :
    val_main_v3 (F := Ideal) a y (ix2 r q) = ∑ s : Fin 2, ∑ k : Fin 2048, a (ix3 s k r) * y (ix3 s k q) := by
  have e : val_main_v3 (F := Ideal) a y (ix2 r q) = val_main_v2 (F := Ideal) a y (ix2 q r) := by
    pointwise [val_main_v3]
  rw [e, ref_dot]
  exact Finset.sum_congr rfl fun s _ => Finset.sum_congr rfl fun k _ => mul_comm _ _

/-- and with its columns in four slots. -/
theorem ref_at (a : FVec Ideal S2x2048x2048 .f32) (y : FVec Ideal S2x2048x8192 .f32) (u : Fin 4) (r q : Fin 2048) (w : Fin 8192)
    (hw : w.val = u.val * 2048 + q.val) :
    val_main_v5 (F := Ideal) a y (ix3 u r q) = ∑ s : Fin 2, ∑ k : Fin 2048, a (ix3 s k r) * y (ix3 s k w) := by
  rw [← ref_t]
  rw [val_main_v5_apply, val_main_v4_apply]
  congr 1
  funext x
  apply Fin.ext
  have hr := r.isLt
  have hu := u.isLt
  have hq := q.isLt
  match x with
  | ⟨0, _⟩ => show ((r.val * 4 + u.val) * 2048 + q.val) / 8192 = r.val; omega
  | ⟨1, _⟩ => show ((r.val * 4 + u.val) * 2048 + q.val) % 8192 = w.val; omega

/-- A point that writes back is the last of its run. -/
theorem last_of (t : Fin cfg0.N) (h : t.val % 2 = 1) : ∃ p : Fin 16, t = pt p 1 := by
  have hN : cfg0.N = 32 := N_0
  have ht := t.isLt
  exact ⟨⟨t.val / 2, by omega⟩, Fin.ext (by show t.val = 2 * (t.val / 2) + 1; omega)⟩

/-- The result array after the run is the reference's array. -/
theorem final2 (c : Dev nD) : (dats m 0 c).arrAt 2 (cfgs 0).N = val_main_v5 (F := Ideal) (A m c) (Y m c) := by
  refine (dats m 0 c).arrAt_eq_of_covers 2 _ (by decide +kernel) fun t hf y => ?_
  have h1 := (flush0_2 t).mp hf
  obtain ⟨p, rfl⟩ := last_of t h1
  obtain ⟨u, r, q, rfl⟩ : ∃ u r q, y = ix3 u r q := ⟨y 0, y 1, y 2, by idx_vars y⟩
  obtain rfl : u = 0 := Subsingleton.elim _ _
  have e : ((cfg0.win 2).blk (pt p 1)).view.emb (ix3 0 r q)
      = ix3 (⟨p.val % 8 / 2, by omega⟩ : Fin 4) (row p r) (⟨p.val % 8 % 2 * 1024 + q.val, by omega⟩ : Fin 2048) := by
    blk_ext [idx p 1]
  blk_simp
  rw [e, after0_2, outsAt0_B m c (pt p 1) (by omega) h1]
  frame_out
  rw [read_unread_whole, pay_last, ref_at _ _ _ _ _ (col p q) (by show _ = p.val % 8 / 2 * 2048 + (p.val % 8 % 2 * 1024 + q.val); show p.val % 8 * 1024 + q.val = _; omega), ← parts, ← carry_first m c p r q]
  rfl

end Cert.MlpUpDwIdeal.RefValue

end
-- ==== Proof.MlpUpDwClaim.lean ====
/- The claims about the gradient of the weight before the squared rectifier, in four slots of columns: the reference runs and leaves its arguments as
   they are, and the kernel's result is the reference's. -/
module

public import proofs.«01_k».proof.Proof.MlpUpDwValue

@[expose] public section

set_option maxRecDepth 16384

noncomputable section

open Idealize.ShloMosaic Idealize.ShloMosaic.TcCoe Idealize.SL.Sem

namespace Cert.MlpUpDwIdeal.RefValue

open Cert.MlpUpDwRefIdeal.Read

instance factsK : Cert.MlpUpDwIdeal.Facts := Cert.MlpUpDwIdeal.Gen.facts
instance factsR : Cert.MlpUpDwRefIdeal.Facts := Cert.MlpUpDwRefIdeal.Gen.facts

/-- The reference runs, leaves its arguments as they are and declares no semaphore. -/
theorem frame_ref : Cert.quiescent_MlpUpDwRefIdeal := fun m g _ =>
  (θ_run _ _ _).mono (fun r h => ⟨fun c => (h c).2, sem_eq_zero_of_no_sems rfl _⟩)
    (Cert.MlpUpDwRefIdeal.Value.run m g)

set_option maxHeartbeats 1000000 in
/-- The kernel's result is the reference's. -/
theorem algebraic : Cert.algebraic_MlpUpDwIdeal_MlpUpDwRefIdeal := by
  pair_intro
  · run_from Cert.MlpUpDwIdeal.Gen.run_main m g
  refine (θ_run _ _ _).mono (fun r h c => ?_) (Cert.MlpUpDwRefIdeal.Value.run m' g')
  obtain ⟨a0, a1⟩ := hagree c
  refine ⟨((h c).1.trans (val_main_v5_eq _ _)).trans ?_, (h c).2⟩
  · simp only [a0, a1]
    exact (final2 m c).symm

end Cert.MlpUpDwIdeal.RefValue

end
-- ==== Proof.PleProjDwValue.lean ====
/- The gradient of the per-layer embedding's projection, in four slots of columns: the kernel's result array after the run is the reference's. -/
module

public import proofs.«01_k».proof.Defs
public import proofs.«01_k».proof.Proof.Gen.PleProjDwIdeal.Value
public import proofs.«01_k».proof.Proof.Gen.PleProjDwRefIdeal.Run
public import proofs.«01_k».proof.Proof.Gen.PleProjDwRefIdeal.Read
public import proofs.«01_k».proof.Proof.TokDot
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.PleProjDwIdeal.RefValue

open Cert Cert.PleProjDwIdeal Cert.PleProjDwIdeal.Gen Cert.PleProjDwRefIdeal.Read

variable (m : (ℓ : Loc nD τ sig) → Buf (Elt Ideal) ℓ)

/-- The arguments: the rows that the weight multiplies, and the gradient of the product. -/
abbrev A (c : Dev nD) : FVec Ideal S2x2048x256 .f32 := m ((c : Thread nD τ).loc main_arg0)
@[inherit_doc A] abbrev Y (c : Dev nD) : FVec Ideal S2x2048x2048 .f32 := m ((c : Thread nD τ).loc main_arg1)

/-- The point of a block of the result and a sequence. -/
abbrev pt (p : Fin 4) (s : Fin 2) : Fin cfg0.N := ⟨2 * p.val + s.val, by have : cfg0.N = 8 := N_0; omega⟩

/-- The windows' block indices at every grid point. -/
theorem idx : ∀ (p : Fin 4) (s : Fin 2), win0_0.index (pt p s) = ![s.val, p.val / 4] ∧ win0_1.index (pt p s) = ![s.val, p.val % 4]
    ∧ win0_2.index (pt p s) = ![p.val, 0, 0] := by decide +kernel

/-- The row and the column of the result that an entry of a block is. -/
abbrev row (p : Fin 4) (r : Fin 256) : Fin 256 := ⟨p.val / 4 * 256 + r.val, by omega⟩
@[inherit_doc row] abbrev col (p : Fin 4) (q : Fin 512) : Fin 2048 := ⟨p.val % 4 * 512 + q.val, by omega⟩

/-- The block of the first argument that a point reads, -/
theorem blk_a (c : Dev nD) (p : Fin 4) (s : Fin 2) (k : Fin 2048) (r : Fin 256) :
    iblk m c 0 (pt p s) (ix2 k r) = A m c (ix3 s k (row p r)) := by
  have e : V m c main_v0 = shapeCast S4096x256 (A m c) shapeCasts_S2x2048x256_S4096x256 := by
    entry_read
    rfl
  blk_simp [iblk, idx p s]
  rw [e, TokDot.tok_apply _ _ _ s k (by blk_simp [idx p s])]
  blk_ext [idx p s]

/-- and of the second. -/
theorem blk_y (c : Dev nD) (p : Fin 4) (s : Fin 2) (k : Fin 2048) (q : Fin 512) :
    iblk m c 1 (pt p s) (ix2 k q) = Y m c (ix3 s k (col p q)) := by
  have e : V m c main_v2 = shapeCast S4096x2048 (Y m c) shapeCasts_S2x2048x2048_S4096x2048 := by
    entry_read
    rfl
  blk_simp [iblk, idx p s]
  rw [e, TokDot.tok_apply _ _ _ s k (by blk_simp [idx p s])]
  blk_ext [idx p s]

/-- A column of one block times a column of another. -/
def dot (a : FVec Ideal S2048x256 .f32) (y : FVec Ideal S2048x512 .bf16) (r : Fin 256) (q : Fin 512) : EReal := ∑ k : Fin 2048, a (ix2 k r) * y (ix2 k q)

/-- What the points store, entry by entry: the first of a run its product, -/
theorem pay_first (a : FVec Ideal S2048x256 .f32) (y : FVec Ideal S2048x512 .bf16) (r : Fin 256) (q : Fin 512) :
    k0_pay2 (F := Ideal) a y (ix2 r q) = dot a y r q := by
  pointwise [k0_pay2, k0_pay1]
  rfl

/-- the last the sum of the first's and its own. -/
theorem pay_last (a : FVec Ideal S2048x256 .f32) (y : FVec Ideal S2048x512 .bf16) (x : FVec Ideal S256x512 .f32) (r : Fin 256) (q : Fin 512) :
    k0_pay4 (F := Ideal) a y x (ix3 0 r q) = x (ix2 r q) + dot a y r q := by
  pointwise [k0_pay4, k0_pay1]
  rfl

/-- The part of the product that a point adds. -/
def part (c : Dev nD) (p : Fin 4) (s : Fin 2) (r : Fin 256) (q : Fin 512) : EReal :=
  dot (iblk m c 0 (pt p s)) (iblk m c 1 (pt p s)) r q

/-- What the scratch holds after the first point of a run. -/
theorem carry_first (c : Dev nD) (p : Fin 4) (r : Fin 256) (q : Fin 512) :
    (outsAt0 m c (pt p 0).val (pt p 0).isLt).2 (ix2 r q) = part m c p 0 r q := by
  have h : (pt p 0).val % 2 = 0 := by show (2 * p.val + 0) % 2 = 0; omega
  rw [outsAt0_A m c (pt p 0) h (by omega)]
  frame_out
  exact pay_first _ _ r q

/-- The two parts are the sum over batch and position of the products of two columns. -/
theorem parts (c : Dev nD) (p : Fin 4) (r : Fin 256) (q : Fin 512) :
    part m c p 0 r q + part m c p 1 r q
      = ∑ s : Fin 2, ∑ k : Fin 2048, A m c (ix3 s k (row p r)) * Y m c (ix3 s k (col p q)) := by
  rw [← Fin.sum_univ_two (fun s => part m c p s r q)]
  unfold part dot
  refine Finset.sum_congr rfl fun s _ => Finset.sum_congr rfl fun k _ => ?_
  exact congrArg₂ (· * ·) (blk_a m c p s k r) (blk_y m c p s k q)

/-- The reference's product, entry by entry, -/
theorem ref_dot (a : FVec Ideal S2x2048x256 .f32) (y : FVec Ideal S2x2048x2048 .f32) (r : Fin 256) (q : Fin 2048) :
    val_main_v2 (F := Ideal) a y (ix2 q r) = ∑ s : Fin 2, ∑ k : Fin 2048, y (ix3 s k q) * a (ix3 s k r) := by
  unfold val_main_v2
  simp only [Host.dotGeneral]
  exact TokDot.dot_apply none _ y a q r

/-- with its axes exchanged, -/
theorem ref_t (a : FVec Ideal S2x2048x256 .f32) (y : FVec Ideal S2x2048x2048 .f32) (r : Fin 256) (q : Fin 2048) :
    val_main_v3 (F := Ideal) a y (ix2 r q) = ∑ s : Fin 2, ∑ k : Fin 2048, a (ix3 s k r) * y (ix3 s k q) := by
  have e : val_main_v3 (F := Ideal) a y (ix2 r q) = val_main_v2 (F := Ideal) a y (ix2 q r) := by
    pointwise [val_main_v3]
  rw [e, ref_dot]
  exact Finset.sum_congr rfl fun s _ => Finset.sum_congr rfl fun k _ => mul_comm _ _

/-- and with its columns in four slots. -/
theorem ref_at (a : FVec Ideal S2x2048x256 .f32) (y : FVec Ideal S2x2048x2048 .f32) (u : Fin 4) (r : Fin 256) (q : Fin 512) (w : Fin 2048)
    (hw : w.val = u.val * 512 + q.val) :
    val_main_v5 (F := Ideal) a y (ix3 u r q) = ∑ s : Fin 2, ∑ k : Fin 2048, a (ix3 s k r) * y (ix3 s k w) := by
  rw [← ref_t]
  rw [val_main_v5_apply, val_main_v4_apply]
  congr 1
  funext x
  apply Fin.ext
  have hr := r.isLt
  have hu := u.isLt
  have hq := q.isLt
  match x with
  | ⟨0, _⟩ => show ((r.val * 4 + u.val) * 512 + q.val) / 2048 = r.val; omega
  | ⟨1, _⟩ => show ((r.val * 4 + u.val) * 512 + q.val) % 2048 = w.val; omega

/-- A point that writes back is the last of its run. -/
theorem last_of (t : Fin cfg0.N) (h : t.val % 2 = 1) : ∃ p : Fin 4, t = pt p 1 := by
  have hN : cfg0.N = 8 := N_0
  have ht := t.isLt
  exact ⟨⟨t.val / 2, by omega⟩, Fin.ext (by show t.val = 2 * (t.val / 2) + 1; omega)⟩

/-- The result array after the run is the reference's array. -/
theorem final2 (c : Dev nD) : (dats m 0 c).arrAt 2 (cfgs 0).N = val_main_v5 (F := Ideal) (A m c) (Y m c) := by
  refine (dats m 0 c).arrAt_eq_of_covers 2 _ (by decide +kernel) fun t hf y => ?_
  have h1 := (flush0_2 t).mp hf
  obtain ⟨p, rfl⟩ := last_of t h1
  obtain ⟨u, r, q, rfl⟩ : ∃ u r q, y = ix3 u r q := ⟨y 0, y 1, y 2, by idx_vars y⟩
  obtain rfl : u = 0 := Subsingleton.elim _ _
  have e : ((cfg0.win 2).blk (pt p 1)).view.emb (ix3 0 r q) = ix3 p (row p r) q := by
    blk_ext [idx p 1]
  blk_simp
  rw [e, after0_2, outsAt0_B m c (pt p 1) (by omega) h1]
  frame_out
  rw [read_unread_whole, pay_last, ref_at _ _ _ _ _ (col p q) (by show p.val % 4 * 512 + q.val = _; omega), ← parts, ← carry_first m c p r q]
  rfl

end Cert.PleProjDwIdeal.RefValue

end
-- ==== Proof.PleProjDwClaim.lean ====
/- The claims about the gradient of the per-layer embedding's projection, in four slots of columns: the reference runs and leaves its arguments as
   they are, and the kernel's result is the reference's. -/
module

public import proofs.«01_k».proof.Proof.PleProjDwValue

@[expose] public section

set_option maxRecDepth 16384

noncomputable section

open Idealize.ShloMosaic Idealize.ShloMosaic.TcCoe Idealize.SL.Sem

namespace Cert.PleProjDwIdeal.RefValue

open Cert.PleProjDwRefIdeal.Read

instance factsK : Cert.PleProjDwIdeal.Facts := Cert.PleProjDwIdeal.Gen.facts
instance factsR : Cert.PleProjDwRefIdeal.Facts := Cert.PleProjDwRefIdeal.Gen.facts

/-- The reference runs, leaves its arguments as they are and declares no semaphore. -/
theorem frame_ref : Cert.quiescent_PleProjDwRefIdeal := fun m g _ =>
  (θ_run _ _ _).mono (fun r h => ⟨fun c => (h c).2, sem_eq_zero_of_no_sems rfl _⟩)
    (Cert.PleProjDwRefIdeal.Value.run m g)

set_option maxHeartbeats 1000000 in
/-- The kernel's result is the reference's. -/
theorem algebraic : Cert.algebraic_PleProjDwIdeal_PleProjDwRefIdeal := by
  pair_intro
  · run_from Cert.PleProjDwIdeal.Gen.run_main m g
  refine (θ_run _ _ _).mono (fun r h c => ?_) (Cert.PleProjDwRefIdeal.Value.run m' g')
  obtain ⟨a0, a1⟩ := hagree c
  refine ⟨((h c).1.trans (val_main_v5_eq _ _)).trans ?_, (h c).2⟩
  · simp only [a0, a1]
    exact (final2 m c).symm

end Cert.PleProjDwIdeal.RefValue

end
-- ==== Proof.ProjInDwAValue.lean ====
/- The gradient of the input projection's weight, the first 12288 of the wide columns: the kernel's result array after the run is the reference's. -/
module

public import proofs.«01_k».proof.Defs
public import proofs.«01_k».proof.Proof.Gen.ProjInDwAIdeal.Value
public import proofs.«01_k».proof.Proof.Gen.ProjInDwARefIdeal.Run
public import proofs.«01_k».proof.Proof.Gen.ProjInDwARefIdeal.Read
public import proofs.«01_k».proof.Proof.TokDot
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjInDwAIdeal.RefValue

open Cert Cert.ProjInDwAIdeal Cert.ProjInDwAIdeal.Gen Cert.ProjInDwARefIdeal.Read

variable (m : (ℓ : Loc nD τ sig) → Buf (Elt Ideal) ℓ)

/-- The arguments: the rows that the weight multiplies, and the gradient of the product. -/
abbrev A (c : Dev nD) : FVec Ideal S2x2048x18432 .f32 := m ((c : Thread nD τ).loc main_arg0)
@[inherit_doc A] abbrev Y (c : Dev nD) : FVec Ideal S2x2048x2048 .f32 := m ((c : Thread nD τ).loc main_arg1)

/-- The point of a block of the result and a sequence. -/
abbrev pt (p : Fin 24) (s : Fin 2) : Fin cfg0.N := ⟨2 * p.val + s.val, by have : cfg0.N = 48 := N_0; omega⟩

/-- The windows' block indices at every grid point. -/
theorem idx : ∀ (p : Fin 24) (s : Fin 2), win0_0.index (pt p s) = ![s.val, p.val / 2] ∧ win0_1.index (pt p s) = ![s.val, p.val % 2]
    ∧ win0_2.index (pt p s) = ![p.val / 2, p.val % 2] := by decide +kernel

/-- The row and the column of the result that an entry of a block is. -/
abbrev row (p : Fin 24) (r : Fin 1024) : Fin 18432 := ⟨(p.val / 2) * 1024 + r.val, by omega⟩
@[inherit_doc row] abbrev col (p : Fin 24) (q : Fin 1024) : Fin 2048 := ⟨p.val % 2 * 1024 + q.val, by omega⟩

/-- The block of the first argument that a point reads, -/
theorem blk_a (c : Dev nD) (p : Fin 24) (s : Fin 2) (k : Fin 2048) (r : Fin 1024) :
    iblk m c 0 (pt p s) (ix2 k r) = A m c (ix3 s k (row p r)) := by
  have e : V m c main_v1 = shapeCast S4096x18432 (A m c) shapeCasts_S2x2048x18432_S4096x18432 := by
    entry_read
    rfl
  blk_simp [iblk, idx p s]
  rw [e, TokDot.tok_apply _ _ _ s k (by blk_simp [idx p s])]
  blk_ext [idx p s]

/-- and of the second. -/
theorem blk_y (c : Dev nD) (p : Fin 24) (s : Fin 2) (k : Fin 2048) (q : Fin 1024) :
    iblk m c 1 (pt p s) (ix2 k q) = Y m c (ix3 s k (col p q)) := by
  have e : V m c main_v3 = shapeCast S4096x2048 (Y m c) shapeCasts_S2x2048x2048_S4096x2048 := by
    entry_read
    rfl
  blk_simp [iblk, idx p s]
  rw [e, TokDot.tok_apply _ _ _ s k (by blk_simp [idx p s])]
  blk_ext [idx p s]

/-- A column of one block times a column of another. -/
def dot (a : FVec Ideal S2048x1024 .bf16) (y : FVec Ideal S2048x1024 .bf16) (r : Fin 1024) (q : Fin 1024) : EReal := ∑ k : Fin 2048, a (ix2 k r) * y (ix2 k q)

/-- What the points store, entry by entry: the first of a run its product, -/
theorem pay_first (a : FVec Ideal S2048x1024 .bf16) (y : FVec Ideal S2048x1024 .bf16) (r : Fin 1024) (q : Fin 1024) :
    k0_pay2 (F := Ideal) a y (ix2 r q) = dot a y r q := by
  pointwise [k0_pay2, k0_pay1]
  rfl

/-- the last the sum of the first's and its own. -/
theorem pay_last (a : FVec Ideal S2048x1024 .bf16) (y : FVec Ideal S2048x1024 .bf16) (x : FVec Ideal S1024x1024 .f32) (r : Fin 1024) (q : Fin 1024) :
    k0_pay4 (F := Ideal) a y x (ix2 r q) = x (ix2 r q) + dot a y r q := by
  pointwise [k0_pay4, k0_pay1]
  rfl

/-- The part of the product that a point adds. -/
def part (c : Dev nD) (p : Fin 24) (s : Fin 2) (r : Fin 1024) (q : Fin 1024) : EReal :=
  dot (iblk m c 0 (pt p s)) (iblk m c 1 (pt p s)) r q

/-- What the scratch holds after the first point of a run. -/
theorem carry_first (c : Dev nD) (p : Fin 24) (r : Fin 1024) (q : Fin 1024) :
    (outsAt0 m c (pt p 0).val (pt p 0).isLt).2 (ix2 r q) = part m c p 0 r q := by
  have h : (pt p 0).val % 2 = 0 := by show (2 * p.val + 0) % 2 = 0; omega
  rw [outsAt0_A m c (pt p 0) h (by omega)]
  frame_out
  exact pay_first _ _ r q

/-- The two parts are the sum over batch and position of the products of two columns. -/
theorem parts (c : Dev nD) (p : Fin 24) (r : Fin 1024) (q : Fin 1024) :
    part m c p 0 r q + part m c p 1 r q
      = ∑ s : Fin 2, ∑ k : Fin 2048, A m c (ix3 s k (row p r)) * Y m c (ix3 s k (col p q)) := by
  rw [← Fin.sum_univ_two (fun s => part m c p s r q)]
  unfold part dot
  refine Finset.sum_congr rfl fun s _ => Finset.sum_congr rfl fun k _ => ?_
  exact congrArg₂ (· * ·) (blk_a m c p s k r) (blk_y m c p s k q)

/-- The reference's product, entry by entry, -/
theorem ref_dot (a : FVec Ideal S2x2048x18432 .f32) (y : FVec Ideal S2x2048x2048 .f32) (r : Fin 18432) (q : Fin 2048) :
    val_main_v2 (F := Ideal) a y (ix2 r q) = ∑ s : Fin 2, ∑ k : Fin 2048, a (ix3 s k r) * y (ix3 s k q) := by
  unfold val_main_v2
  simp only [Host.dotGeneral]
  exact TokDot.dot_apply none _ a y r q

/-- its axes exchanged twice, and the call's columns of it. -/
theorem ref_at (a : FVec Ideal S2x2048x18432 .f32) (y : FVec Ideal S2x2048x2048 .f32) (n : Fin 12288) (r : Fin 18432) (q : Fin 2048)
    (hn : r.val = 0 + n.val) :
    val_main_v5 (F := Ideal) a y (ix2 n q) = ∑ s : Fin 2, ∑ k : Fin 2048, a (ix3 s k r) * y (ix3 s k q) := by
  have e : val_main_v5 (F := Ideal) a y (ix2 n q) = val_main_v2 (F := Ideal) a y (ix2 r q) := by
    pointwise [val_main_v5, val_main_v4, val_main_v3]
    congr 1
    funext x
    apply Fin.ext
    match x with
    | ⟨0, _⟩ => show _ = r.val; rw [hn]; first | rfl | (simp; done) | omega
    | ⟨1, _⟩ => rfl
  rw [e, ref_dot]

/-- A point that writes back is the last of its run. -/
theorem last_of (t : Fin cfg0.N) (h : t.val % 2 = 1) : ∃ p : Fin 24, t = pt p 1 := by
  have hN : cfg0.N = 48 := N_0
  have ht := t.isLt
  exact ⟨⟨t.val / 2, by omega⟩, Fin.ext (by show t.val = 2 * (t.val / 2) + 1; omega)⟩

/-- The result array after the run is the reference's array. -/
theorem final2 (c : Dev nD) : (dats m 0 c).arrAt 2 (cfgs 0).N = val_main_v5 (F := Ideal) (A m c) (Y m c) := by
  refine (dats m 0 c).arrAt_eq_of_covers 2 _ (by decide +kernel) fun t hf y => ?_
  have h1 := (flush0_2 t).mp hf
  obtain ⟨p, rfl⟩ := last_of t h1
  obtain ⟨r, q, rfl⟩ : ∃ r q, y = ix2 r q := ⟨y 0, y 1, by idx_vars y⟩
  have e : ((cfg0.win 2).blk (pt p 1)).view.emb (ix2 r q) = ix2 (⟨p.val / 2 * 1024 + r.val, by omega⟩ : Fin 12288) (col p q) := by
    blk_ext [idx p 1]
  blk_simp
  rw [e, after0_2, outsAt0_B m c (pt p 1) (by omega) h1]
  frame_out
  rw [read_unread_whole, pay_last, ref_at _ _ _ (row p r) _ (by show _ = 0 + (p.val / 2 * 1024 + r.val); show p.val / 2 * 1024 + r.val = _; omega), ← parts, ← carry_first m c p r q]
  rfl

end Cert.ProjInDwAIdeal.RefValue

end
-- ==== Proof.ProjInDwAClaim.lean ====
/- The claims about the gradient of the input projection's weight, the first 12288 of the wide columns: the reference runs and leaves its arguments as
   they are, and the kernel's result is the reference's. -/
module

public import proofs.«01_k».proof.Proof.ProjInDwAValue

@[expose] public section

set_option maxRecDepth 16384

noncomputable section

open Idealize.ShloMosaic Idealize.ShloMosaic.TcCoe Idealize.SL.Sem

namespace Cert.ProjInDwAIdeal.RefValue

open Cert.ProjInDwARefIdeal.Read

instance factsK : Cert.ProjInDwAIdeal.Facts := Cert.ProjInDwAIdeal.Gen.facts
instance factsR : Cert.ProjInDwARefIdeal.Facts := Cert.ProjInDwARefIdeal.Gen.facts

/-- The reference runs, leaves its arguments as they are and declares no semaphore. -/
theorem frame_ref : Cert.quiescent_ProjInDwARefIdeal := fun m g _ =>
  (θ_run _ _ _).mono (fun r h => ⟨fun c => (h c).2, sem_eq_zero_of_no_sems rfl _⟩)
    (Cert.ProjInDwARefIdeal.Value.run m g)

set_option maxHeartbeats 1000000 in
/-- The kernel's result is the reference's. -/
theorem algebraic : Cert.algebraic_ProjInDwAIdeal_ProjInDwARefIdeal := by
  pair_intro
  · run_from Cert.ProjInDwAIdeal.Gen.run_main m g
  refine (θ_run _ _ _).mono (fun r h c => ?_) (Cert.ProjInDwARefIdeal.Value.run m' g')
  obtain ⟨a0, a1⟩ := hagree c
  refine ⟨((h c).1.trans (val_main_v5_eq _ _)).trans ?_, (h c).2⟩
  · simp only [a0, a1]
    exact (final2 m c).symm

end Cert.ProjInDwAIdeal.RefValue

end
-- ==== Proof.ProjInDwBValue.lean ====
/- The gradient of the input projection's weight, the last 6144 of the wide columns: the kernel's result array after the run is the reference's. -/
module

public import proofs.«01_k».proof.Defs
public import proofs.«01_k».proof.Proof.Gen.ProjInDwBIdeal.Value
public import proofs.«01_k».proof.Proof.Gen.ProjInDwBRefIdeal.Run
public import proofs.«01_k».proof.Proof.Gen.ProjInDwBRefIdeal.Read
public import proofs.«01_k».proof.Proof.TokDot
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjInDwBIdeal.RefValue

open Cert Cert.ProjInDwBIdeal Cert.ProjInDwBIdeal.Gen Cert.ProjInDwBRefIdeal.Read

variable (m : (ℓ : Loc nD τ sig) → Buf (Elt Ideal) ℓ)

/-- The arguments: the rows that the weight multiplies, and the gradient of the product. -/
abbrev A (c : Dev nD) : FVec Ideal S2x2048x18432 .f32 := m ((c : Thread nD τ).loc main_arg0)
@[inherit_doc A] abbrev Y (c : Dev nD) : FVec Ideal S2x2048x2048 .f32 := m ((c : Thread nD τ).loc main_arg1)

/-- The point of a block of the result and a sequence. -/
abbrev pt (p : Fin 12) (s : Fin 2) : Fin cfg0.N := ⟨2 * p.val + s.val, by have : cfg0.N = 24 := N_0; omega⟩

/-- The windows' block indices at every grid point. -/
theorem idx : ∀ (p : Fin 12) (s : Fin 2), win0_0.index (pt p s) = ![s.val, 12 + p.val / 2] ∧ win0_1.index (pt p s) = ![s.val, p.val % 2]
    ∧ win0_2.index (pt p s) = ![p.val / 2, p.val % 2] := by decide +kernel

/-- The row and the column of the result that an entry of a block is. -/
abbrev row (p : Fin 12) (r : Fin 1024) : Fin 18432 := ⟨(12 + p.val / 2) * 1024 + r.val, by omega⟩
@[inherit_doc row] abbrev col (p : Fin 12) (q : Fin 1024) : Fin 2048 := ⟨p.val % 2 * 1024 + q.val, by omega⟩

/-- The block of the first argument that a point reads, -/
theorem blk_a (c : Dev nD) (p : Fin 12) (s : Fin 2) (k : Fin 2048) (r : Fin 1024) :
    iblk m c 0 (pt p s) (ix2 k r) = A m c (ix3 s k (row p r)) := by
  have e : V m c main_v1 = shapeCast S4096x18432 (A m c) shapeCasts_S2x2048x18432_S4096x18432 := by
    entry_read
    rfl
  blk_simp [iblk, idx p s]
  rw [e, TokDot.tok_apply _ _ _ s k (by blk_simp [idx p s])]
  blk_ext [idx p s]

/-- and of the second. -/
theorem blk_y (c : Dev nD) (p : Fin 12) (s : Fin 2) (k : Fin 2048) (q : Fin 1024) :
    iblk m c 1 (pt p s) (ix2 k q) = Y m c (ix3 s k (col p q)) := by
  have e : V m c main_v3 = shapeCast S4096x2048 (Y m c) shapeCasts_S2x2048x2048_S4096x2048 := by
    entry_read
    rfl
  blk_simp [iblk, idx p s]
  rw [e, TokDot.tok_apply _ _ _ s k (by blk_simp [idx p s])]
  blk_ext [idx p s]

/-- A column of one block times a column of another. -/
def dot (a : FVec Ideal S2048x1024 .bf16) (y : FVec Ideal S2048x1024 .bf16) (r : Fin 1024) (q : Fin 1024) : EReal := ∑ k : Fin 2048, a (ix2 k r) * y (ix2 k q)

/-- What the points store, entry by entry: the first of a run its product, -/
theorem pay_first (a : FVec Ideal S2048x1024 .bf16) (y : FVec Ideal S2048x1024 .bf16) (r : Fin 1024) (q : Fin 1024) :
    k0_pay2 (F := Ideal) a y (ix2 r q) = dot a y r q := by
  pointwise [k0_pay2, k0_pay1]
  rfl

/-- the last the sum of the first's and its own. -/
theorem pay_last (a : FVec Ideal S2048x1024 .bf16) (y : FVec Ideal S2048x1024 .bf16) (x : FVec Ideal S1024x1024 .f32) (r : Fin 1024) (q : Fin 1024) :
    k0_pay4 (F := Ideal) a y x (ix2 r q) = x (ix2 r q) + dot a y r q := by
  pointwise [k0_pay4, k0_pay1]
  rfl

/-- The part of the product that a point adds. -/
def part (c : Dev nD) (p : Fin 12) (s : Fin 2) (r : Fin 1024) (q : Fin 1024) : EReal :=
  dot (iblk m c 0 (pt p s)) (iblk m c 1 (pt p s)) r q

/-- What the scratch holds after the first point of a run. -/
theorem carry_first (c : Dev nD) (p : Fin 12) (r : Fin 1024) (q : Fin 1024) :
    (outsAt0 m c (pt p 0).val (pt p 0).isLt).2 (ix2 r q) = part m c p 0 r q := by
  have h : (pt p 0).val % 2 = 0 := by show (2 * p.val + 0) % 2 = 0; omega
  rw [outsAt0_A m c (pt p 0) h (by omega)]
  frame_out
  exact pay_first _ _ r q

/-- The two parts are the sum over batch and position of the products of two columns. -/
theorem parts (c : Dev nD) (p : Fin 12) (r : Fin 1024) (q : Fin 1024) :
    part m c p 0 r q + part m c p 1 r q
      = ∑ s : Fin 2, ∑ k : Fin 2048, A m c (ix3 s k (row p r)) * Y m c (ix3 s k (col p q)) := by
  rw [← Fin.sum_univ_two (fun s => part m c p s r q)]
  unfold part dot
  refine Finset.sum_congr rfl fun s _ => Finset.sum_congr rfl fun k _ => ?_
  exact congrArg₂ (· * ·) (blk_a m c p s k r) (blk_y m c p s k q)

/-- The reference's product, entry by entry, -/
theorem ref_dot (a : FVec Ideal S2x2048x18432 .f32) (y : FVec Ideal S2x2048x2048 .f32) (r : Fin 18432) (q : Fin 2048) :
    val_main_v2 (F := Ideal) a y (ix2 r q) = ∑ s : Fin 2, ∑ k : Fin 2048, a (ix3 s k r) * y (ix3 s k q) := by
  unfold val_main_v2
  simp only [Host.dotGeneral]
  exact TokDot.dot_apply none _ a y r q

/-- its axes exchanged twice, and the call's columns of it. -/
theorem ref_at (a : FVec Ideal S2x2048x18432 .f32) (y : FVec Ideal S2x2048x2048 .f32) (n : Fin 6144) (r : Fin 18432) (q : Fin 2048)
    (hn : r.val = 12288 + n.val) :
    val_main_v5 (F := Ideal) a y (ix2 n q) = ∑ s : Fin 2, ∑ k : Fin 2048, a (ix3 s k r) * y (ix3 s k q) := by
  have e : val_main_v5 (F := Ideal) a y (ix2 n q) = val_main_v2 (F := Ideal) a y (ix2 r q) := by
    pointwise [val_main_v5, val_main_v4, val_main_v3]
    congr 1
    funext x
    apply Fin.ext
    match x with
    | ⟨0, _⟩ => show _ = r.val; rw [hn]; first | rfl | (simp; done) | omega
    | ⟨1, _⟩ => rfl
  rw [e, ref_dot]

/-- A point that writes back is the last of its run. -/
theorem last_of (t : Fin cfg0.N) (h : t.val % 2 = 1) : ∃ p : Fin 12, t = pt p 1 := by
  have hN : cfg0.N = 24 := N_0
  have ht := t.isLt
  exact ⟨⟨t.val / 2, by omega⟩, Fin.ext (by show t.val = 2 * (t.val / 2) + 1; omega)⟩

/-- The result array after the run is the reference's array. -/
theorem final2 (c : Dev nD) : (dats m 0 c).arrAt 2 (cfgs 0).N = val_main_v5 (F := Ideal) (A m c) (Y m c) := by
  refine (dats m 0 c).arrAt_eq_of_covers 2 _ (by decide +kernel) fun t hf y => ?_
  have h1 := (flush0_2 t).mp hf
  obtain ⟨p, rfl⟩ := last_of t h1
  obtain ⟨r, q, rfl⟩ : ∃ r q, y = ix2 r q := ⟨y 0, y 1, by idx_vars y⟩
  have e : ((cfg0.win 2).blk (pt p 1)).view.emb (ix2 r q) = ix2 (⟨p.val / 2 * 1024 + r.val, by omega⟩ : Fin 6144) (col p q) := by
    blk_ext [idx p 1]
  blk_simp
  rw [e, after0_2, outsAt0_B m c (pt p 1) (by omega) h1]
  frame_out
  rw [read_unread_whole, pay_last, ref_at _ _ _ (row p r) _ (by show _ = 12288 + (p.val / 2 * 1024 + r.val); show (12 + p.val / 2) * 1024 + r.val = _; omega), ← parts, ← carry_first m c p r q]
  rfl

end Cert.ProjInDwBIdeal.RefValue

end
-- ==== Proof.ProjInDwBClaim.lean ====
/- The claims about the gradient of the input projection's weight, the last 6144 of the wide columns: the reference runs and leaves its arguments as
   they are, and the kernel's result is the reference's. -/
module

public import proofs.«01_k».proof.Proof.ProjInDwBValue

@[expose] public section

set_option maxRecDepth 16384

noncomputable section

open Idealize.ShloMosaic Idealize.ShloMosaic.TcCoe Idealize.SL.Sem

namespace Cert.ProjInDwBIdeal.RefValue

open Cert.ProjInDwBRefIdeal.Read

instance factsK : Cert.ProjInDwBIdeal.Facts := Cert.ProjInDwBIdeal.Gen.facts
instance factsR : Cert.ProjInDwBRefIdeal.Facts := Cert.ProjInDwBRefIdeal.Gen.facts

/-- The reference runs, leaves its arguments as they are and declares no semaphore. -/
theorem frame_ref : Cert.quiescent_ProjInDwBRefIdeal := fun m g _ =>
  (θ_run _ _ _).mono (fun r h => ⟨fun c => (h c).2, sem_eq_zero_of_no_sems rfl _⟩)
    (Cert.ProjInDwBRefIdeal.Value.run m g)

set_option maxHeartbeats 1000000 in
/-- The kernel's result is the reference's. -/
theorem algebraic : Cert.algebraic_ProjInDwBIdeal_ProjInDwBRefIdeal := by
  pair_intro
  · run_from Cert.ProjInDwBIdeal.Gen.run_main m g
  refine (θ_run _ _ _).mono (fun r h c => ?_) (Cert.ProjInDwBRefIdeal.Value.run m' g')
  obtain ⟨a0, a1⟩ := hagree c
  refine ⟨((h c).1.trans (val_main_v5_eq _ _)).trans ?_, (h c).2⟩
  · simp only [a0, a1]
    exact (final2 m c).symm

end Cert.ProjInDwBIdeal.RefValue

end
-- ==== Proof.ProjInNarrowDwValue.lean ====
/- The gradient of the input projection's weight, the narrow columns: the kernel's result array after the run is the reference's. -/
module

public import proofs.«01_k».proof.Defs
public import proofs.«01_k».proof.Proof.Gen.ProjInNarrowDwIdeal.Value
public import proofs.«01_k».proof.Proof.Gen.ProjInNarrowDwRefIdeal.Run
public import proofs.«01_k».proof.Proof.Gen.ProjInNarrowDwRefIdeal.Read
public import proofs.«01_k».proof.Proof.TokDot
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjInNarrowDwIdeal.RefValue

open Cert Cert.ProjInNarrowDwIdeal Cert.ProjInNarrowDwIdeal.Gen Cert.ProjInNarrowDwRefIdeal.Read

variable (m : (ℓ : Loc nD τ sig) → Buf (Elt Ideal) ℓ)

/-- The arguments: the rows that the weight multiplies, and the gradient of the product. -/
abbrev A (c : Dev nD) : FVec Ideal S2x2048x128 .f32 := m ((c : Thread nD τ).loc main_arg0)
@[inherit_doc A] abbrev Y (c : Dev nD) : FVec Ideal S2x2048x2048 .f32 := m ((c : Thread nD τ).loc main_arg1)

/-- The point of a block of the result and a sequence. -/
abbrev pt (p : Fin 2) (s : Fin 2) : Fin cfg0.N := ⟨2 * p.val + s.val, by have : cfg0.N = 4 := N_0; omega⟩

/-- The windows' block indices at every grid point. -/
theorem idx : ∀ (p : Fin 2) (s : Fin 2), win0_0.index (pt p s) = ![s.val, p.val / 2] ∧ win0_1.index (pt p s) = ![s.val, p.val % 2]
    ∧ win0_2.index (pt p s) = ![p.val / 2, p.val % 2] := by decide +kernel

/-- The row and the column of the result that an entry of a block is. -/
abbrev row (p : Fin 2) (r : Fin 128) : Fin 128 := ⟨(p.val / 2) * 128 + r.val, by omega⟩
@[inherit_doc row] abbrev col (p : Fin 2) (q : Fin 1024) : Fin 2048 := ⟨p.val % 2 * 1024 + q.val, by omega⟩

/-- The block of the first argument that a point reads, -/
theorem blk_a (c : Dev nD) (p : Fin 2) (s : Fin 2) (k : Fin 2048) (r : Fin 128) :
    iblk m c 0 (pt p s) (ix2 k r) = A m c (ix3 s k (row p r)) := by
  have e : V m c main_v0 = shapeCast S4096x128 (A m c) shapeCasts_S2x2048x128_S4096x128 := by
    entry_read
    rfl
  blk_simp [iblk, idx p s]
  rw [e, TokDot.tok_apply _ _ _ s k (by blk_simp [idx p s])]
  blk_ext [idx p s]

/-- and of the second. -/
theorem blk_y (c : Dev nD) (p : Fin 2) (s : Fin 2) (k : Fin 2048) (q : Fin 1024) :
    iblk m c 1 (pt p s) (ix2 k q) = Y m c (ix3 s k (col p q)) := by
  have e : V m c main_v2 = shapeCast S4096x2048 (Y m c) shapeCasts_S2x2048x2048_S4096x2048 := by
    entry_read
    rfl
  blk_simp [iblk, idx p s]
  rw [e, TokDot.tok_apply _ _ _ s k (by blk_simp [idx p s])]
  blk_ext [idx p s]

/-- A column of one block times a column of another. -/
def dot (a : FVec Ideal S2048x128 .f32) (y : FVec Ideal S2048x1024 .bf16) (r : Fin 128) (q : Fin 1024) : EReal := ∑ k : Fin 2048, a (ix2 k r) * y (ix2 k q)

/-- What the points store, entry by entry: the first of a run its product, -/
theorem pay_first (a : FVec Ideal S2048x128 .f32) (y : FVec Ideal S2048x1024 .bf16) (r : Fin 128) (q : Fin 1024) :
    k0_pay2 (F := Ideal) a y (ix2 r q) = dot a y r q := by
  pointwise [k0_pay2, k0_pay1]
  rfl

/-- the last the sum of the first's and its own. -/
theorem pay_last (a : FVec Ideal S2048x128 .f32) (y : FVec Ideal S2048x1024 .bf16) (x : FVec Ideal S128x1024 .f32) (r : Fin 128) (q : Fin 1024) :
    k0_pay4 (F := Ideal) a y x (ix2 r q) = x (ix2 r q) + dot a y r q := by
  pointwise [k0_pay4, k0_pay1]
  rfl

/-- The part of the product that a point adds. -/
def part (c : Dev nD) (p : Fin 2) (s : Fin 2) (r : Fin 128) (q : Fin 1024) : EReal :=
  dot (iblk m c 0 (pt p s)) (iblk m c 1 (pt p s)) r q

/-- What the scratch holds after the first point of a run. -/
theorem carry_first (c : Dev nD) (p : Fin 2) (r : Fin 128) (q : Fin 1024) :
    (outsAt0 m c (pt p 0).val (pt p 0).isLt).2 (ix2 r q) = part m c p 0 r q := by
  have h : (pt p 0).val % 2 = 0 := by show (2 * p.val + 0) % 2 = 0; omega
  rw [outsAt0_A m c (pt p 0) h (by omega)]
  frame_out
  exact pay_first _ _ r q

/-- The two parts are the sum over batch and position of the products of two columns. -/
theorem parts (c : Dev nD) (p : Fin 2) (r : Fin 128) (q : Fin 1024) :
    part m c p 0 r q + part m c p 1 r q
      = ∑ s : Fin 2, ∑ k : Fin 2048, A m c (ix3 s k (row p r)) * Y m c (ix3 s k (col p q)) := by
  rw [← Fin.sum_univ_two (fun s => part m c p s r q)]
  unfold part dot
  refine Finset.sum_congr rfl fun s _ => Finset.sum_congr rfl fun k _ => ?_
  exact congrArg₂ (· * ·) (blk_a m c p s k r) (blk_y m c p s k q)

/-- The reference's product, entry by entry, -/
theorem ref_dot (a : FVec Ideal S2x2048x128 .f32) (y : FVec Ideal S2x2048x2048 .f32) (r : Fin 128) (q : Fin 2048) :
    val_main_v2 (F := Ideal) a y (ix2 r q) = ∑ s : Fin 2, ∑ k : Fin 2048, a (ix3 s k r) * y (ix3 s k q) := by
  unfold val_main_v2
  simp only [Host.dotGeneral]
  exact TokDot.dot_apply none _ a y r q

/-- its axes exchanged twice, and the call's columns of it. -/
theorem ref_at (a : FVec Ideal S2x2048x128 .f32) (y : FVec Ideal S2x2048x2048 .f32) (n : Fin 128) (r : Fin 128) (q : Fin 2048)
    (hn : r.val = 0 + n.val) :
    val_main_v4 (F := Ideal) a y (ix2 n q) = ∑ s : Fin 2, ∑ k : Fin 2048, a (ix3 s k r) * y (ix3 s k q) := by
  have e : val_main_v4 (F := Ideal) a y (ix2 n q) = val_main_v2 (F := Ideal) a y (ix2 r q) := by
    pointwise [val_main_v4, val_main_v3]
    congr 1
    funext x
    apply Fin.ext
    match x with
    | ⟨0, _⟩ => show _ = r.val; rw [hn]; first | rfl | (simp; done) | omega
    | ⟨1, _⟩ => rfl
  rw [e, ref_dot]

/-- A point that writes back is the last of its run. -/
theorem last_of (t : Fin cfg0.N) (h : t.val % 2 = 1) : ∃ p : Fin 2, t = pt p 1 := by
  have hN : cfg0.N = 4 := N_0
  have ht := t.isLt
  exact ⟨⟨t.val / 2, by omega⟩, Fin.ext (by show t.val = 2 * (t.val / 2) + 1; omega)⟩

/-- The result array after the run is the reference's array. -/
theorem final2 (c : Dev nD) : (dats m 0 c).arrAt 2 (cfgs 0).N = val_main_v4 (F := Ideal) (A m c) (Y m c) := by
  refine (dats m 0 c).arrAt_eq_of_covers 2 _ (by decide +kernel) fun t hf y => ?_
  have h1 := (flush0_2 t).mp hf
  obtain ⟨p, rfl⟩ := last_of t h1
  obtain ⟨r, q, rfl⟩ : ∃ r q, y = ix2 r q := ⟨y 0, y 1, by idx_vars y⟩
  have e : ((cfg0.win 2).blk (pt p 1)).view.emb (ix2 r q) = ix2 (⟨p.val / 2 * 128 + r.val, by omega⟩ : Fin 128) (col p q) := by
    blk_ext [idx p 1]
  blk_simp
  rw [e, after0_2, outsAt0_B m c (pt p 1) (by omega) h1]
  frame_out
  rw [read_unread_whole, pay_last, ref_at _ _ _ (row p r) _ (by show _ = 0 + (p.val / 2 * 128 + r.val); show p.val / 2 * 128 + r.val = _; omega), ← parts, ← carry_first m c p r q]
  rfl

end Cert.ProjInNarrowDwIdeal.RefValue

end
-- ==== Proof.ProjInNarrowDwClaim.lean ====
/- The claims about the gradient of the input projection's weight, the narrow columns: the reference runs and leaves its arguments as
   they are, and the kernel's result is the reference's. -/
module

public import proofs.«01_k».proof.Proof.ProjInNarrowDwValue

@[expose] public section

set_option maxRecDepth 16384

noncomputable section

open Idealize.ShloMosaic Idealize.ShloMosaic.TcCoe Idealize.SL.Sem

namespace Cert.ProjInNarrowDwIdeal.RefValue

open Cert.ProjInNarrowDwRefIdeal.Read

instance factsK : Cert.ProjInNarrowDwIdeal.Facts := Cert.ProjInNarrowDwIdeal.Gen.facts
instance factsR : Cert.ProjInNarrowDwRefIdeal.Facts := Cert.ProjInNarrowDwRefIdeal.Gen.facts

/-- The reference runs, leaves its arguments as they are and declares no semaphore. -/
theorem frame_ref : Cert.quiescent_ProjInNarrowDwRefIdeal := fun m g _ =>
  (θ_run _ _ _).mono (fun r h => ⟨fun c => (h c).2, sem_eq_zero_of_no_sems rfl _⟩)
    (Cert.ProjInNarrowDwRefIdeal.Value.run m g)

set_option maxHeartbeats 1000000 in
/-- The kernel's result is the reference's. -/
theorem algebraic : Cert.algebraic_ProjInNarrowDwIdeal_ProjInNarrowDwRefIdeal := by
  pair_intro
  · run_from Cert.ProjInNarrowDwIdeal.Gen.run_main m g
  refine (θ_run _ _ _).mono (fun r h c => ?_) (Cert.ProjInNarrowDwRefIdeal.Value.run m' g')
  obtain ⟨a0, a1⟩ := hagree c
  refine ⟨((h c).1.trans (val_main_v4_eq _ _)).trans ?_, (h c).2⟩
  · simp only [a0, a1]
    exact (final2 m c).symm

end Cert.ProjInNarrowDwIdeal.RefValue

end
-- ==== Proof.AdamWOutValue.lean ====
/- The optimiser's step: the kernel's three result arrays after the run are the reference's. -/
module

public import proofs.«01_k».proof.Defs
public import proofs.«01_k».proof.Proof.Gen.AdamWOutIdeal.Value
public import proofs.«01_k».proof.Proof.Gen.AdamWOutRefIdeal.Run
public import proofs.«01_k».proof.Proof.Gen.AdamWOutRefIdeal.Read
public import Idealize.ShloMosaic.Lib.Pipeline.ValueKit

@[expose] public section

set_option maxRecDepth 16384

noncomputable section

open Idealize.ShloMosaic Idealize.ShloMosaic.TcCoe Idealize.SL.Sem

namespace Cert.AdamWOutIdeal.RefValue

open Cert Cert.AdamWOutIdeal Cert.AdamWOutIdeal.Gen Cert.AdamWOutRefIdeal.Read

variable (m : (ℓ : Loc nD τ sig) → Buf (Elt Ideal) ℓ)

/-- The arguments: the weight, its gradient and the two moments. -/
abbrev W (c : Dev nD) : FVec Ideal S512x2048 .f32 := m ((c : Thread nD τ).loc main_arg0)
@[inherit_doc W] abbrev G (c : Dev nD) : FVec Ideal S512x2048 .f32 := m ((c : Thread nD τ).loc main_arg1)
@[inherit_doc W] abbrev M (c : Dev nD) : FVec Ideal S512x2048 .f32 := m ((c : Thread nD τ).loc main_arg2)
@[inherit_doc W] abbrev N (c : Dev nD) : FVec Ideal S512x2048 .f32 := m ((c : Thread nD τ).loc main_arg3)

/-- The new first moment, entry by entry, -/
theorem ref_m (g m : FVec Ideal S512x2048 .f32) (i : S512x2048.Idx) :
    Value.G5 (F := Ideal) g m i = val_main_v4 (F := Ideal) g m i := by
  pointwise [val_main_v4, val_main_v3, val_main_v2, val_main_v1, val_main_v0, val_main_cst, val_main_cst_0, Value.G5]

/-- the new second moment, -/
theorem ref_n (g n : FVec Ideal S512x2048 .f32) (i : S512x2048.Idx) :
    Value.G6 (F := Ideal) g n i = val_main_v10 (F := Ideal) g n i := by
  pointwise [val_main_v10, val_main_v9, val_main_v8, val_main_v7, val_main_v6, val_main_v5, val_main_cst_1, val_main_cst_2, Value.G6]

/-- and the weight's step. -/
theorem ref_d (w g m n : FVec Ideal S512x2048 .f32) (i : S512x2048.Idx) :
    Value.G4 (F := Ideal) w g m n i = val_main_v23 (F := Ideal) w g m n i := by
  have hm := ref_m g m i
  have hn := ref_n g n i
  simp only [Value.G4, Value.G5, Value.G6] at hm hn ⊢
  rw [hm, hn]
  generalize hy : val_main_v4 (F := Ideal) g m = y
  generalize hz : val_main_v10 (F := Ideal) g n = z
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  rw [hy, hz]

/-- The result array after the run is the reference's array. -/
theorem final4 (c : Dev nD) : (dats m 0 c).arrAt 4 (cfgs 0).N = val_main_v23 (F := Ideal) (W m c) (G m c) (M m c) (N m c) :=
  (Value.final4 m c).trans (funext fun i => ref_d _ _ _ _ i)

/-- The result array after the run is the reference's array. -/
theorem final5 (c : Dev nD) : (dats m 0 c).arrAt 5 (cfgs 0).N = val_main_v4 (F := Ideal) (G m c) (M m c) :=
  (Value.final5 m c).trans (funext fun i => ref_m _ _ i)

/-- The result array after the run is the reference's array. -/
theorem final6 (c : Dev nD) : (dats m 0 c).arrAt 6 (cfgs 0).N = val_main_v10 (F := Ideal) (G m c) (N m c) :=
  (Value.final6 m c).trans (funext fun i => ref_n _ _ i)

end Cert.AdamWOutIdeal.RefValue

end
-- ==== Proof.AdamWOutClaim.lean ====
/- The claims about the optimiser's step: the reference runs and leaves its arguments as
   they are, and the kernel's results are the reference's. -/
module

public import proofs.«01_k».proof.Proof.AdamWOutValue

@[expose] public section

set_option maxRecDepth 16384

noncomputable section

open Idealize.ShloMosaic Idealize.ShloMosaic.TcCoe Idealize.SL.Sem

namespace Cert.AdamWOutIdeal.RefValue

open Cert.AdamWOutRefIdeal.Read

instance factsK : Cert.AdamWOutIdeal.Facts := Cert.AdamWOutIdeal.Gen.facts
instance factsR : Cert.AdamWOutRefIdeal.Facts := Cert.AdamWOutRefIdeal.Gen.facts

/-- The reference runs, leaves its arguments as they are and declares no semaphore. -/
theorem frame_ref : Cert.quiescent_AdamWOutRefIdeal := fun m g _ =>
  (θ_run _ _ _).mono (fun r h => ⟨fun c => (h c).2.2.2, sem_eq_zero_of_no_sems rfl _⟩)
    (Cert.AdamWOutRefIdeal.Value.run m g)

set_option maxHeartbeats 1000000 in
/-- The kernel's results are the reference's. -/
theorem algebraic : Cert.algebraic_AdamWOutIdeal_AdamWOutRefIdeal := by
  pair_intro
  · run_from Cert.AdamWOutIdeal.Gen.run_main m g
  refine (θ_run _ _ _).mono (fun r h c => ?_) (Cert.AdamWOutRefIdeal.Value.run m' g')
  obtain ⟨a0, a1, a2, a3⟩ := hagree c
  refine ⟨((h c).1.trans (val_main_v23_eq _ _ _ _)).trans ?_,
    ((h c).2.1.trans (val_main_v4_eq _ _)).trans ?_,
    ((h c).2.2.1.trans (val_main_v10_eq _ _)).trans ?_, (h c).2.2.2⟩
  · simp only [a0, a1, a2, a3]
    exact (final4 m c).symm
  · simp only [a0, a1, a2, a3]
    exact (final5 m c).symm
  · simp only [a0, a1, a2, a3]
    exact (final6 m c).symm

end Cert.AdamWOutIdeal.RefValue

end
-- ==== Proof.AdamWProjValue.lean ====
/- The optimiser's step: the kernel's three result arrays after the run are the reference's. -/
module

public import proofs.«01_k».proof.Defs
public import proofs.«01_k».proof.Proof.Gen.AdamWProjIdeal.Value
public import proofs.«01_k».proof.Proof.Gen.AdamWProjRefIdeal.Run
public import proofs.«01_k».proof.Proof.Gen.AdamWProjRefIdeal.Read
public import Idealize.ShloMosaic.Lib.Pipeline.ValueKit

@[expose] public section

set_option maxRecDepth 16384

noncomputable section

open Idealize.ShloMosaic Idealize.ShloMosaic.TcCoe Idealize.SL.Sem

namespace Cert.AdamWProjIdeal.RefValue

open Cert Cert.AdamWProjIdeal Cert.AdamWProjIdeal.Gen Cert.AdamWProjRefIdeal.Read

variable (m : (ℓ : Loc nD τ sig) → Buf (Elt Ideal) ℓ)

/-- The arguments: the weight, its gradient and the two moments. -/
abbrev W (c : Dev nD) : FVec Ideal S256x512 .f32 := m ((c : Thread nD τ).loc main_arg0)
@[inherit_doc W] abbrev G (c : Dev nD) : FVec Ideal S256x512 .f32 := m ((c : Thread nD τ).loc main_arg1)
@[inherit_doc W] abbrev M (c : Dev nD) : FVec Ideal S256x512 .f32 := m ((c : Thread nD τ).loc main_arg2)
@[inherit_doc W] abbrev N (c : Dev nD) : FVec Ideal S256x512 .f32 := m ((c : Thread nD τ).loc main_arg3)

/-- The new first moment, entry by entry, -/
theorem ref_m (g m : FVec Ideal S256x512 .f32) (i : S256x512.Idx) :
    Value.G5 (F := Ideal) g m i = val_main_v4 (F := Ideal) g m i := by
  pointwise [val_main_v4, val_main_v3, val_main_v2, val_main_v1, val_main_v0, val_main_cst, val_main_cst_0, Value.G5]

/-- the new second moment, -/
theorem ref_n (g n : FVec Ideal S256x512 .f32) (i : S256x512.Idx) :
    Value.G6 (F := Ideal) g n i = val_main_v10 (F := Ideal) g n i := by
  pointwise [val_main_v10, val_main_v9, val_main_v8, val_main_v7, val_main_v6, val_main_v5, val_main_cst_1, val_main_cst_2, Value.G6]

/-- and the weight's step. -/
theorem ref_d (w g m n : FVec Ideal S256x512 .f32) (i : S256x512.Idx) :
    Value.G4 (F := Ideal) w g m n i = val_main_v23 (F := Ideal) w g m n i := by
  have hm := ref_m g m i
  have hn := ref_n g n i
  simp only [Value.G4, Value.G5, Value.G6] at hm hn ⊢
  rw [hm, hn]
  generalize hy : val_main_v4 (F := Ideal) g m = y
  generalize hz : val_main_v10 (F := Ideal) g n = z
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  rw [hy, hz]

/-- The result array after the run is the reference's array. -/
theorem final4 (c : Dev nD) : (dats m 0 c).arrAt 4 (cfgs 0).N = val_main_v23 (F := Ideal) (W m c) (G m c) (M m c) (N m c) :=
  (Value.final4 m c).trans (funext fun i => ref_d _ _ _ _ i)

/-- The result array after the run is the reference's array. -/
theorem final5 (c : Dev nD) : (dats m 0 c).arrAt 5 (cfgs 0).N = val_main_v4 (F := Ideal) (G m c) (M m c) :=
  (Value.final5 m c).trans (funext fun i => ref_m _ _ i)

/-- The result array after the run is the reference's array. -/
theorem final6 (c : Dev nD) : (dats m 0 c).arrAt 6 (cfgs 0).N = val_main_v10 (F := Ideal) (G m c) (N m c) :=
  (Value.final6 m c).trans (funext fun i => ref_n _ _ i)

end Cert.AdamWProjIdeal.RefValue

end
-- ==== Proof.AdamWProjClaim.lean ====
/- The claims about the optimiser's step: the reference runs and leaves its arguments as
   they are, and the kernel's results are the reference's. -/
module

public import proofs.«01_k».proof.Proof.AdamWProjValue

@[expose] public section

set_option maxRecDepth 16384

noncomputable section

open Idealize.ShloMosaic Idealize.ShloMosaic.TcCoe Idealize.SL.Sem

namespace Cert.AdamWProjIdeal.RefValue

open Cert.AdamWProjRefIdeal.Read

instance factsK : Cert.AdamWProjIdeal.Facts := Cert.AdamWProjIdeal.Gen.facts
instance factsR : Cert.AdamWProjRefIdeal.Facts := Cert.AdamWProjRefIdeal.Gen.facts

/-- The reference runs, leaves its arguments as they are and declares no semaphore. -/
theorem frame_ref : Cert.quiescent_AdamWProjRefIdeal := fun m g _ =>
  (θ_run _ _ _).mono (fun r h => ⟨fun c => (h c).2.2.2, sem_eq_zero_of_no_sems rfl _⟩)
    (Cert.AdamWProjRefIdeal.Value.run m g)

set_option maxHeartbeats 1000000 in
/-- The kernel's results are the reference's. -/
theorem algebraic : Cert.algebraic_AdamWProjIdeal_AdamWProjRefIdeal := by
  pair_intro
  · run_from Cert.AdamWProjIdeal.Gen.run_main m g
  refine (θ_run _ _ _).mono (fun r h c => ?_) (Cert.AdamWProjRefIdeal.Value.run m' g')
  obtain ⟨a0, a1, a2, a3⟩ := hagree c
  refine ⟨((h c).1.trans (val_main_v23_eq _ _ _ _)).trans ?_,
    ((h c).2.1.trans (val_main_v4_eq _ _)).trans ?_,
    ((h c).2.2.1.trans (val_main_v10_eq _ _)).trans ?_, (h c).2.2.2⟩
  · simp only [a0, a1, a2, a3]
    exact (final4 m c).symm
  · simp only [a0, a1, a2, a3]
    exact (final5 m c).symm
  · simp only [a0, a1, a2, a3]
    exact (final6 m c).symm

end Cert.AdamWProjIdeal.RefValue

end
-- ==== Proof.AdamWInValue.lean ====
/- The optimiser's step: the kernel's result arrays after the run are the reference's. -/
module

public import proofs.«01_k».proof.Defs
public import proofs.«01_k».proof.Proof.Gen.AdamWInIdeal.Value
public import proofs.«01_k».proof.Proof.Gen.AdamWInRefIdeal.Run
public import proofs.«01_k».proof.Proof.Gen.AdamWInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamWInIdeal.RefValue

open Cert Cert.AdamWInIdeal Cert.AdamWInIdeal.Gen Cert.AdamWInRefIdeal.Read

variable (m : (ℓ : Loc nD τ sig) → Buf (Elt Ideal) ℓ)

/-- The arguments: the weight, its gradient and the two moments. -/
abbrev W (c : Dev nD) : FVec Ideal S4620x1x2048 .f32 := m ((c : Thread nD τ).loc main_arg0)
@[inherit_doc W] abbrev G (c : Dev nD) : FVec Ideal S4620x1x2048 .f32 := m ((c : Thread nD τ).loc main_arg1)
@[inherit_doc W] abbrev M (c : Dev nD) : FVec Ideal S4620x1x2048 .f32 := m ((c : Thread nD τ).loc main_arg2)
@[inherit_doc W] abbrev N (c : Dev nD) : FVec Ideal S4620x1x2048 .f32 := m ((c : Thread nD τ).loc main_arg3)

/-- The windows' block indices at every grid point. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] := by decide +kernel

/-- The row of the arrays that a block's row is. -/
abbrev row (t : Fin cfg0.N) (a : Fin 110) : Fin 4620 := ⟨t.val * 110 + a.val, by have h : cfg0.N = 42 := N_0; have := t.isLt; omega⟩

/-- The block of the weight that a point reads. -/
theorem blk_w (c : Dev nD) (t : Fin cfg0.N) (a : Fin 110) (b : Fin 1) (q : Fin 2048) :
    iblk m c 0 t (ix3 a b q) = W m c (ix3 (row t a) b q) := by
  blk_simp [iblk, idx t]
  rw [V_main_arg0]
  blk_ext [idx t]

/-- The block of the gradient that a point reads. -/
theorem blk_g (c : Dev nD) (t : Fin cfg0.N) (a : Fin 110) (b : Fin 1) (q : Fin 2048) :
    iblk m c 1 t (ix3 a b q) = G m c (ix3 (row t a) b q) := by
  blk_simp [iblk, idx t]
  rw [V_main_arg1]
  blk_ext [idx t]

/-- The block of the first moment that a point reads. -/
theorem blk_m (c : Dev nD) (t : Fin cfg0.N) (a : Fin 110) (b : Fin 1) (q : Fin 2048) :
    iblk m c 2 t (ix3 a b q) = M m c (ix3 (row t a) b q) := by
  blk_simp [iblk, idx t]
  rw [V_main_arg2]
  blk_ext [idx t]

/-- The block of the second moment that a point reads. -/
theorem blk_n (c : Dev nD) (t : Fin cfg0.N) (a : Fin 110) (b : Fin 1) (q : Fin 2048) :
    iblk m c 3 t (ix3 a b q) = N m c (ix3 (row t a) b q) := by
  blk_simp [iblk, idx t]
  rw [V_main_arg3]
  blk_ext [idx t]

/-- The new first moment, entry by entry, -/
theorem ref_m (g m : FVec Ideal S110x1x2048 .f32) (g' m' : FVec Ideal S4620x1x2048 .f32) (y : S110x1x2048.Idx) (i : S4620x1x2048.Idx)
    (hg : g y = g' i) (hm : m y = m' i) : k0_pay1 (F := Ideal) g m y = val_main_v4 (F := Ideal) g' m' i := by
  pointwise [k0_pay1, val_main_v4, val_main_v3, val_main_v2, val_main_v1, val_main_v0, val_main_cst, val_main_cst_0]
  rw [hg, hm]

/-- the new second moment, -/
theorem ref_n (g n : FVec Ideal S110x1x2048 .f32) (g' n' : FVec Ideal S4620x1x2048 .f32) (y : S110x1x2048.Idx) (i : S4620x1x2048.Idx)
    (hg : g y = g' i) (hn : n y = n' i) : k0_pay2 (F := Ideal) g n y = val_main_v10 (F := Ideal) g' n' i := by
  pointwise [k0_pay2, val_main_v10, val_main_v9, val_main_v8, val_main_v7, val_main_v6, val_main_v5, val_main_cst_1, val_main_cst_2]
  rw [hg, hn]

/-- and the weight's step. -/
theorem ref_d (w g m n : FVec Ideal S110x1x2048 .f32) (w' g' m' n' : FVec Ideal S4620x1x2048 .f32) (y : S110x1x2048.Idx)
    (i : S4620x1x2048.Idx) (hw : w y = w' i) (hg : g y = g' i) (hm : m y = m' i) (hn : n y = n' i) :
    k0_pay3 (F := Ideal) w g m n y = val_main_v23 (F := Ideal) w' g' m' n' i := by
  have h1 := ref_m g m g' m' y i hg hm
  have h2 := ref_n g n g' n' y i hg hn
  unfold k0_pay3
  generalize k0_pay1 (F := Ideal) g m = a at h1 ⊢
  generalize k0_pay2 (F := Ideal) g n = b at h2 ⊢
  generalize hz : val_main_v4 (F := Ideal) g' m' = z at h1
  generalize hx : val_main_v10 (F := Ideal) g' n' = x at h2
  pointwise [val_main_v23, val_main_v22, val_main_v21, val_main_v20, val_main_v19, val_main_v18, val_main_v17, val_main_v16,
    val_main_v15, val_main_v14, val_main_v13, val_main_v12, val_main_v11, val_main_cst_3, val_main_cst_4, val_main_cst_5,
    val_main_cst_6, val_main_cst_7]
  rw [hz, hx, hw, h1, h2]

/-- The result array after the run is the reference's array. -/
theorem final4 (c : Dev nD) : (dats m 0 c).arrAt 4 (cfgs 0).N = val_main_v23 (F := Ideal) (W m c) (G m c) (M m c) (N m c) := by
  refine (dats m 0 c).arrAt_eq_of_covers 4 _ (by decide +kernel) fun t _ y => ?_
  obtain ⟨a, b, q, rfl⟩ : ∃ a b q, y = ix3 a b q := ⟨y 0, y 1, y 2, by idx_vars y⟩
  have e : ((cfg0.win 4).blk t).view.emb (ix3 a b q) = ix3 (row t a) b q := by
    blk_ext [idx t]
  blk_simp
  rw [e, after0_4]
  frame_out
  exact ref_d _ _ _ _ _ _ _ _ _ _ (blk_w m c t a b q) (blk_g m c t a b q) (blk_m m c t a b q) (blk_n m c t a b q)

/-- The result array after the run is the reference's array. -/
theorem final5 (c : Dev nD) : (dats m 0 c).arrAt 5 (cfgs 0).N = val_main_v4 (F := Ideal) (G m c) (M m c) := by
  refine (dats m 0 c).arrAt_eq_of_covers 5 _ (by decide +kernel) fun t _ y => ?_
  obtain ⟨a, b, q, rfl⟩ : ∃ a b q, y = ix3 a b q := ⟨y 0, y 1, y 2, by idx_vars y⟩
  have e : ((cfg0.win 5).blk t).view.emb (ix3 a b q) = ix3 (row t a) b q := by
    blk_ext [idx t]
  blk_simp
  rw [e, after0_5]
  frame_out
  exact ref_m _ _ _ _ _ _ (blk_g m c t a b q) (blk_m m c t a b q)

/-- The result array after the run is the reference's array. -/
theorem final6 (c : Dev nD) : (dats m 0 c).arrAt 6 (cfgs 0).N = val_main_v10 (F := Ideal) (G m c) (N m c) := by
  refine (dats m 0 c).arrAt_eq_of_covers 6 _ (by decide +kernel) fun t _ y => ?_
  obtain ⟨a, b, q, rfl⟩ : ∃ a b q, y = ix3 a b q := ⟨y 0, y 1, y 2, by idx_vars y⟩
  have e : ((cfg0.win 6).blk t).view.emb (ix3 a b q) = ix3 (row t a) b q := by
    blk_ext [idx t]
  blk_simp
  rw [e, after0_6]
  frame_out
  exact ref_n _ _ _ _ _ _ (blk_g m c t a b q) (blk_n m c t a b q)

/-- The fourth is the gradient. -/
theorem final7 (c : Dev nD) : (dats m 0 c).arrAt 7 (cfgs 0).N = G m c := by
  refine (dats m 0 c).arrAt_eq_of_covers 7 _ (by decide +kernel) fun t _ y => ?_
  obtain ⟨a, b, q, rfl⟩ : ∃ a b q, y = ix3 a b q := ⟨y 0, y 1, y 2, by idx_vars y⟩
  have e : ((cfg0.win 7).blk t).view.emb (ix3 a b q) = ix3 (row t a) b q := by
    blk_ext [idx t]
  blk_simp
  rw [e, after0_7]
  frame_out
  exact blk_g m c t a b q

end Cert.AdamWInIdeal.RefValue

end
-- ==== Proof.AdamWInClaim.lean ====
/- The claims about the optimiser's step: the reference runs and leaves its arguments as
   they are, and the kernel's results are the reference's. -/
module

public import proofs.«01_k».proof.Proof.AdamWInValue

@[expose] public section

set_option maxRecDepth 16384

noncomputable section

open Idealize.ShloMosaic Idealize.ShloMosaic.TcCoe Idealize.SL.Sem

namespace Cert.AdamWInIdeal.RefValue

open Cert.AdamWInRefIdeal.Read

instance factsK : Cert.AdamWInIdeal.Facts := Cert.AdamWInIdeal.Gen.facts
instance factsR : Cert.AdamWInRefIdeal.Facts := Cert.AdamWInRefIdeal.Gen.facts

/-- The reference runs, leaves its arguments as they are and declares no semaphore. -/
theorem frame_ref : Cert.quiescent_AdamWInRefIdeal := fun m g _ =>
  (θ_run _ _ _).mono (fun r h => ⟨fun c => (h c).2.2.2.2, sem_eq_zero_of_no_sems rfl _⟩)
    (Cert.AdamWInRefIdeal.Value.run m g)

set_option maxHeartbeats 1000000 in
/-- The kernel's results are the reference's. -/
theorem algebraic : Cert.algebraic_AdamWInIdeal_AdamWInRefIdeal := by
  pair_intro
  · run_from Cert.AdamWInIdeal.Gen.run_main m g
  refine (θ_run _ _ _).mono (fun r h c => ?_) (Cert.AdamWInRefIdeal.Value.run m' g')
  obtain ⟨a0, a1, a2, a3⟩ := hagree c
  refine ⟨((h c).1.trans (val_main_v23_eq _ _ _ _)).trans ?_,
    ((h c).2.1.trans (val_main_v4_eq _ _)).trans ?_,
    ((h c).2.2.1.trans (val_main_v10_eq _ _)).trans ?_, ?_⟩
  · simp only [a0, a1, a2, a3]
    exact (final4 m c).symm
  · simp only [a0, a1, a2, a3]
    exact (final5 m c).symm
  · simp only [a0, a1, a2, a3]
    exact (final6 m c).symm
  · exact ⟨((h c).2.2.2.1.trans a1).trans (final7 m c).symm, (h c).2.2.2.2⟩

end Cert.AdamWInIdeal.RefValue

end
-- ==== Proof.lean ====
/- The claims of all the calls, each from its own module: that the two programs run and leave their
   arguments, and that the kernel's results are the reference's. -/
module

public import proofs.«01_k».proof.Defs
public import proofs.«01_k».proof.Proof.Gen.Mlp.Frame
public import proofs.«01_k».proof.Proof.MlpClaim
public import proofs.«01_k».proof.Proof.Gen.Rms.Frame
public import proofs.«01_k».proof.Proof.RmsClaim
public import proofs.«01_k».proof.Proof.Gen.Loss.Frame
public import proofs.«01_k».proof.Proof.LossClaim
public import proofs.«01_k».proof.Proof.Gen.Merge.Frame
public import proofs.«01_k».proof.Proof.MergeClaim
public import proofs.«01_k».proof.Proof.Gen.ConvQ.Frame
public import proofs.«01_k».proof.Proof.ConvQClaim
public import proofs.«01_k».proof.Proof.Gen.ConvK.Frame
public import proofs.«01_k».proof.Proof.ConvKClaim
public import proofs.«01_k».proof.Proof.Gen.ConvV.Frame
public import proofs.«01_k».proof.Proof.ConvVClaim
public import proofs.«01_k».proof.Proof.Gen.RmsFwd.Frame
public import proofs.«01_k».proof.Proof.RmsFwdClaim
public import proofs.«01_k».proof.Proof.Gen.MergeFwd.Frame
public import proofs.«01_k».proof.Proof.MergeFwdClaim
public import proofs.«01_k».proof.Proof.Gen.ConvFwdQ.Frame
public import proofs.«01_k».proof.Proof.ConvFwdQClaim
public import proofs.«01_k».proof.Proof.Gen.ConvFwdK.Frame
public import proofs.«01_k».proof.Proof.ConvFwdKClaim
public import proofs.«01_k».proof.Proof.Gen.ConvFwdV.Frame
public import proofs.«01_k».proof.Proof.ConvFwdVClaim
public import proofs.«01_k».proof.Proof.Gen.MlpUp.Frame
public import proofs.«01_k».proof.Proof.MlpUpClaim
public import proofs.«01_k».proof.Proof.Gen.AddNorm.Frame
public import proofs.«01_k».proof.Proof.AddNormClaim
public import proofs.«01_k».proof.Proof.Gen.MlpDown.Frame
public import proofs.«01_k».proof.Proof.MlpDownClaim
public import proofs.«01_k».proof.Proof.Gen.Gate.Frame
public import proofs.«01_k».proof.Proof.GateClaim
public import proofs.«01_k».proof.Proof.Gen.ProjIn.Frame
public import proofs.«01_k».proof.Proof.ProjInClaim
public import proofs.«01_k».proof.Proof.Gen.AdamW.Frame
public import proofs.«01_k».proof.Proof.AdamWClaim
public import proofs.«01_k».proof.Proof.Gen.PairSum.Frame
public import proofs.«01_k».proof.Proof.PairSumClaim
public import proofs.«01_k».proof.Proof.Gen.FinalSum.Frame
public import proofs.«01_k».proof.Proof.FinalSumClaim
public import proofs.«01_k».proof.Proof.Gen.MlpDownDw.Frame
public import proofs.«01_k».proof.Proof.MlpDownDwClaim
public import proofs.«01_k».proof.Proof.Gen.ProjOutDw.Frame
public import proofs.«01_k».proof.Proof.ProjOutDwClaim
public import proofs.«01_k».proof.Proof.Gen.MlpUpDw.Frame
public import proofs.«01_k».proof.Proof.MlpUpDwClaim
public import proofs.«01_k».proof.Proof.Gen.PleProjDw.Frame
public import proofs.«01_k».proof.Proof.PleProjDwClaim
public import proofs.«01_k».proof.Proof.Gen.ProjInDwA.Frame
public import proofs.«01_k».proof.Proof.ProjInDwAClaim
public import proofs.«01_k».proof.Proof.Gen.ProjInDwB.Frame
public import proofs.«01_k».proof.Proof.ProjInDwBClaim
public import proofs.«01_k».proof.Proof.Gen.ProjInNarrowDw.Frame
public import proofs.«01_k».proof.Proof.ProjInNarrowDwClaim
public import proofs.«01_k».proof.Proof.Gen.AdamWOut.Frame
public import proofs.«01_k».proof.Proof.AdamWOutClaim
public import proofs.«01_k».proof.Proof.Gen.AdamWProj.Frame
public import proofs.«01_k».proof.Proof.AdamWProjClaim
public import proofs.«01_k».proof.Proof.Gen.AdamWIn.Frame
public import proofs.«01_k».proof.Proof.AdamWInClaim
public import Idealize.ShloMosaic.Adequacy
public import Idealize.ShloMosaic.Init

@[expose] public section

noncomputable section

namespace Cert.Proof

open Idealize.ShloMosaic Idealize.SL.Sem

/-- Every claim stated for the calls of the training step. -/
theorem claim : Cert.Claim := ⟨Cert.Mlp.Gen.facts, Cert.MlpIdeal.Gen.facts, Cert.MlpRefIdeal.Gen.facts, Cert.Rms.Gen.facts, Cert.RmsIdeal.Gen.facts, Cert.RmsRefIdeal.Gen.facts, Cert.Loss.Gen.facts, Cert.LossIdeal.Gen.facts, Cert.LossRefIdeal.Gen.facts, Cert.Merge.Gen.facts, Cert.MergeIdeal.Gen.facts, Cert.MergeRefIdeal.Gen.facts, Cert.ConvQ.Gen.facts, Cert.ConvQIdeal.Gen.facts, Cert.ConvQRefIdeal.Gen.facts, Cert.ConvK.Gen.facts, Cert.ConvKIdeal.Gen.facts, Cert.ConvKRefIdeal.Gen.facts, Cert.ConvV.Gen.facts, Cert.ConvVIdeal.Gen.facts, Cert.ConvVRefIdeal.Gen.facts, Cert.RmsFwd.Gen.facts, Cert.RmsFwdIdeal.Gen.facts, Cert.RmsFwdRefIdeal.Gen.facts, Cert.MergeFwd.Gen.facts, Cert.MergeFwdIdeal.Gen.facts, Cert.MergeFwdRefIdeal.Gen.facts, Cert.ConvFwdQ.Gen.facts, Cert.ConvFwdQIdeal.Gen.facts, Cert.ConvFwdQRefIdeal.Gen.facts, Cert.ConvFwdK.Gen.facts, Cert.ConvFwdKIdeal.Gen.facts, Cert.ConvFwdKRefIdeal.Gen.facts, Cert.ConvFwdV.Gen.facts, Cert.ConvFwdVIdeal.Gen.facts, Cert.ConvFwdVRefIdeal.Gen.facts, Cert.MlpUp.Gen.facts, Cert.MlpUpIdeal.Gen.facts, Cert.MlpUpRefIdeal.Gen.facts, Cert.AddNorm.Gen.facts, Cert.AddNormIdeal.Gen.facts, Cert.AddNormRefIdeal.Gen.facts, Cert.MlpDown.Gen.facts, Cert.MlpDownIdeal.Gen.facts, Cert.MlpDownRefIdeal.Gen.facts, Cert.Gate.Gen.facts, Cert.GateIdeal.Gen.facts, Cert.GateRefIdeal.Gen.facts, Cert.ProjIn.Gen.facts, Cert.ProjInIdeal.Gen.facts, Cert.ProjInRefIdeal.Gen.facts, Cert.AdamW.Gen.facts, Cert.AdamWIdeal.Gen.facts, Cert.AdamWRefIdeal.Gen.facts, Cert.PairSum.Gen.facts, Cert.PairSumIdeal.Gen.facts, Cert.PairSumRefIdeal.Gen.facts, Cert.FinalSum.Gen.facts, Cert.FinalSumIdeal.Gen.facts, Cert.FinalSumRefIdeal.Gen.facts, Cert.MlpDownDw.Gen.facts, Cert.MlpDownDwIdeal.Gen.facts, Cert.MlpDownDwRefIdeal.Gen.facts, Cert.ProjOutDw.Gen.facts, Cert.ProjOutDwIdeal.Gen.facts, Cert.ProjOutDwRefIdeal.Gen.facts, Cert.MlpUpDw.Gen.facts, Cert.MlpUpDwIdeal.Gen.facts, Cert.MlpUpDwRefIdeal.Gen.facts, Cert.PleProjDw.Gen.facts, Cert.PleProjDwIdeal.Gen.facts, Cert.PleProjDwRefIdeal.Gen.facts, Cert.ProjInDwA.Gen.facts, Cert.ProjInDwAIdeal.Gen.facts, Cert.ProjInDwARefIdeal.Gen.facts, Cert.ProjInDwB.Gen.facts, Cert.ProjInDwBIdeal.Gen.facts, Cert.ProjInDwBRefIdeal.Gen.facts, Cert.ProjInNarrowDw.Gen.facts, Cert.ProjInNarrowDwIdeal.Gen.facts, Cert.ProjInNarrowDwRefIdeal.Gen.facts, Cert.AdamWOut.Gen.facts, Cert.AdamWOutIdeal.Gen.facts, Cert.AdamWOutRefIdeal.Gen.facts, Cert.AdamWProj.Gen.facts, Cert.AdamWProjIdeal.Gen.facts, Cert.AdamWProjRefIdeal.Gen.facts, Cert.AdamWIn.Gen.facts, Cert.AdamWInIdeal.Gen.facts, Cert.AdamWInRefIdeal.Gen.facts,
  fun m ρ _ => Cert.Mlp.Gen.frame m ρ, fun m ρ _ => Cert.MlpIdeal.Gen.frame m ρ, Cert.MlpIdeal.RefValue.frame_ref,
  fun m ρ _ => Cert.Rms.Gen.frame m ρ, fun m ρ _ => Cert.RmsIdeal.Gen.frame m ρ, Cert.RmsIdeal.RefValue.frame_ref,
  fun m ρ _ => Cert.Loss.Gen.frame m ρ, fun m ρ _ => Cert.LossIdeal.Gen.frame m ρ, Cert.LossIdeal.RefValue.frame_ref,
  fun m ρ _ => Cert.Merge.Gen.frame m ρ, fun m ρ _ => Cert.MergeIdeal.Gen.frame m ρ, Cert.MergeIdeal.RefValue.frame_ref,
  fun m ρ _ => Cert.ConvQ.Gen.frame m ρ, fun m ρ _ => Cert.ConvQIdeal.Gen.frame m ρ, Cert.ConvQIdeal.RefValue.frame_ref,
  fun m ρ _ => Cert.ConvK.Gen.frame m ρ, fun m ρ _ => Cert.ConvKIdeal.Gen.frame m ρ, Cert.ConvKIdeal.RefValue.frame_ref,
  fun m ρ _ => Cert.ConvV.Gen.frame m ρ, fun m ρ _ => Cert.ConvVIdeal.Gen.frame m ρ, Cert.ConvVIdeal.RefValue.frame_ref,
  fun m ρ _ => Cert.RmsFwd.Gen.frame m ρ, fun m ρ _ => Cert.RmsFwdIdeal.Gen.frame m ρ, Cert.RmsFwdIdeal.RefValue.frame_ref,
  fun m ρ _ => Cert.MergeFwd.Gen.frame m ρ, fun m ρ _ => Cert.MergeFwdIdeal.Gen.frame m ρ, Cert.MergeFwdIdeal.RefValue.frame_ref,
  fun m ρ _ => Cert.ConvFwdQ.Gen.frame m ρ, fun m ρ _ => Cert.ConvFwdQIdeal.Gen.frame m ρ, Cert.ConvFwdQIdeal.RefValue.frame_ref,
  fun m ρ _ => Cert.ConvFwdK.Gen.frame m ρ, fun m ρ _ => Cert.ConvFwdKIdeal.Gen.frame m ρ, Cert.ConvFwdKIdeal.RefValue.frame_ref,
  fun m ρ _ => Cert.ConvFwdV.Gen.frame m ρ, fun m ρ _ => Cert.ConvFwdVIdeal.Gen.frame m ρ, Cert.ConvFwdVIdeal.RefValue.frame_ref,
  fun m ρ _ => Cert.MlpUp.Gen.frame m ρ, fun m ρ _ => Cert.MlpUpIdeal.Gen.frame m ρ, Cert.MlpUpIdeal.RefValue.frame_ref,
  fun m ρ _ => Cert.AddNorm.Gen.frame m ρ, fun m ρ _ => Cert.AddNormIdeal.Gen.frame m ρ, Cert.AddNormIdeal.RefValue.frame_ref,
  fun m ρ _ => Cert.MlpDown.Gen.frame m ρ, fun m ρ _ => Cert.MlpDownIdeal.Gen.frame m ρ, Cert.MlpDownIdeal.RefValue.frame_ref,
  fun m ρ _ => Cert.Gate.Gen.frame m ρ, fun m ρ _ => Cert.GateIdeal.Gen.frame m ρ, Cert.GateIdeal.RefValue.frame_ref,
  fun m ρ _ => Cert.ProjIn.Gen.frame m ρ, fun m ρ _ => Cert.ProjInIdeal.Gen.frame m ρ, Cert.ProjInIdeal.RefValue.frame_ref,
  fun m ρ _ => Cert.AdamW.Gen.frame m ρ, fun m ρ _ => Cert.AdamWIdeal.Gen.frame m ρ, Cert.AdamWIdeal.RefValue.frame_ref,
  Cert.PairSumIdeal.RefValue.frame_kernel, Cert.PairSumIdeal.RefValue.frame_ideal, Cert.PairSumIdeal.RefValue.frame_ref,
  Cert.FinalSumIdeal.RefValue.frame_kernel, Cert.FinalSumIdeal.RefValue.frame_ideal, Cert.FinalSumIdeal.RefValue.frame_ref,
  fun m ρ _ => Cert.MlpDownDw.Gen.frame m ρ, fun m ρ _ => Cert.MlpDownDwIdeal.Gen.frame m ρ, Cert.MlpDownDwIdeal.RefValue.frame_ref,
  fun m ρ _ => Cert.ProjOutDw.Gen.frame m ρ, fun m ρ _ => Cert.ProjOutDwIdeal.Gen.frame m ρ, Cert.ProjOutDwIdeal.RefValue.frame_ref,
  fun m ρ _ => Cert.MlpUpDw.Gen.frame m ρ, fun m ρ _ => Cert.MlpUpDwIdeal.Gen.frame m ρ, Cert.MlpUpDwIdeal.RefValue.frame_ref,
  fun m ρ _ => Cert.PleProjDw.Gen.frame m ρ, fun m ρ _ => Cert.PleProjDwIdeal.Gen.frame m ρ, Cert.PleProjDwIdeal.RefValue.frame_ref,
  fun m ρ _ => Cert.ProjInDwA.Gen.frame m ρ, fun m ρ _ => Cert.ProjInDwAIdeal.Gen.frame m ρ, Cert.ProjInDwAIdeal.RefValue.frame_ref,
  fun m ρ _ => Cert.ProjInDwB.Gen.frame m ρ, fun m ρ _ => Cert.ProjInDwBIdeal.Gen.frame m ρ, Cert.ProjInDwBIdeal.RefValue.frame_ref,
  fun m ρ _ => Cert.ProjInNarrowDw.Gen.frame m ρ, fun m ρ _ => Cert.ProjInNarrowDwIdeal.Gen.frame m ρ, Cert.ProjInNarrowDwIdeal.RefValue.frame_ref,
  fun m ρ _ => Cert.AdamWOut.Gen.frame m ρ, fun m ρ _ => Cert.AdamWOutIdeal.Gen.frame m ρ, Cert.AdamWOutIdeal.RefValue.frame_ref,
  fun m ρ _ => Cert.AdamWProj.Gen.frame m ρ, fun m ρ _ => Cert.AdamWProjIdeal.Gen.frame m ρ, Cert.AdamWProjIdeal.RefValue.frame_ref,
  fun m ρ _ => Cert.AdamWIn.Gen.frame m ρ, fun m ρ _ => Cert.AdamWInIdeal.Gen.frame m ρ, Cert.AdamWInIdeal.RefValue.frame_ref,
  trivial, Cert.MlpIdeal.RefValue.algebraic,
  trivial, Cert.RmsIdeal.RefValue.algebraic,
  trivial, Cert.LossIdeal.RefValue.algebraic,
  trivial, Cert.MergeIdeal.RefValue.algebraic,
  trivial, Cert.ConvQIdeal.RefValue.algebraic,
  trivial, Cert.ConvKIdeal.RefValue.algebraic,
  trivial, Cert.ConvVIdeal.RefValue.algebraic,
  trivial, Cert.RmsFwdIdeal.RefValue.algebraic,
  trivial, Cert.MergeFwdIdeal.RefValue.algebraic,
  trivial, Cert.ConvFwdQIdeal.RefValue.algebraic,
  trivial, Cert.ConvFwdKIdeal.RefValue.algebraic,
  trivial, Cert.ConvFwdVIdeal.RefValue.algebraic,
  trivial, Cert.MlpUpIdeal.RefValue.algebraic,
  trivial, Cert.AddNormIdeal.RefValue.algebraic,
  trivial, Cert.MlpDownIdeal.RefValue.algebraic,
  trivial, Cert.GateIdeal.RefValue.algebraic,
  trivial, Cert.ProjInIdeal.RefValue.algebraic,
  trivial, Cert.AdamWIdeal.RefValue.algebraic,
  trivial, Cert.PairSumIdeal.RefValue.algebraic,
  trivial, Cert.FinalSumIdeal.RefValue.algebraic,
  trivial, Cert.MlpDownDwIdeal.RefValue.algebraic,
  trivial, Cert.ProjOutDwIdeal.RefValue.algebraic,
  trivial, Cert.MlpUpDwIdeal.RefValue.algebraic,
  trivial, Cert.PleProjDwIdeal.RefValue.algebraic,
  trivial, Cert.ProjInDwAIdeal.RefValue.algebraic,
  trivial, Cert.ProjInDwBIdeal.RefValue.algebraic,
  trivial, Cert.ProjInNarrowDwIdeal.RefValue.algebraic,
  trivial, Cert.AdamWOutIdeal.RefValue.algebraic,
  trivial, Cert.AdamWProjIdeal.RefValue.algebraic,
  trivial, Cert.AdamWInIdeal.RefValue.algebraic⟩

end Cert.Proof

end
